-- ==== Defs.lean ====
def Pre_Kernel [hPre_groups_fit : Cert.Pre_groups_fit.Facts] (m : (ℓ : Loc Cert.Kernel.nD Cert.Kernel.τ Cert.Kernel.sig) → Buf (Elt Bits) ℓ) : Prop :=
  ∀ c : Dev Cert.Kernel.nD,
    (Cert.Pre_groups_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_groups_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 = (fun _ => 1#1)
    ∧ (Cert.Pre_groups_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 = (fun _ => 1#1)

def Pre_KernelIdeal [hPre_groups_fit : Cert.Pre_groups_fit.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_groups_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_groups_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_KernelIdeal_groups_fit_and_x_is_bf16 [hPre_groups_fit_and_x_is_bf16 : Cert.Pre_groups_fit_and_x_is_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fit_and_x_is_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_groups_fit_and_x_is_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_groups_fit_and_x_is_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_groups_fit_and_x_is_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_fit_and_x_is_bf16 [hPre_groups_fit_and_x_is_bf16 : Cert.Pre_groups_fit_and_x_is_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fit_and_x_is_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_groups_fit_and_x_is_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_groups_fit_and_x_is_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_groups_fit_and_x_is_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] [hPre_groups_fit : Cert.Pre_groups_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_fit : Cert.Pre_groups_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_groups_fit_and_x_is_bf16 [hKernelIdeal : Cert.KernelIdeal.Facts] [hPre_groups_fit_and_x_is_bf16 : Cert.Pre_groups_fit_and_x_is_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_fit_and_x_is_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_groups_fit_and_x_is_bf16 [hReferenceIdeal : Cert.ReferenceIdeal.Facts] [hPre_groups_fit_and_x_is_bf16 : Cert.Pre_groups_fit_and_x_is_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_fit_and_x_is_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_groups_fit_and_x_is_bf16 [hKernelIdeal : Cert.KernelIdeal.Facts] [hReferenceIdeal : Cert.ReferenceIdeal.Facts] [hPre_groups_fit_and_x_is_bf16 : Cert.Pre_groups_fit_and_x_is_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_fit_and_x_is_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_fit : Cert.Pre_groups_fit.Facts) (hPre_groups_fit_and_x_is_bf16 : Cert.Pre_groups_fit_and_x_is_bf16.Facts),
    quiescent_Kernel (hKernel := hKernel) (hPre_groups_fit := hPre_groups_fit)
    ∧ quiescent_KernelIdeal (hKernelIdeal := hKernelIdeal) (hPre_groups_fit := hPre_groups_fit)
    ∧ quiescent_KernelIdeal_pre_groups_fit_and_x_is_bf16 (hKernelIdeal := hKernelIdeal) (hPre_groups_fit_and_x_is_bf16 := hPre_groups_fit_and_x_is_bf16)
    ∧ quiescent_ReferenceIdeal (hReferenceIdeal := hReferenceIdeal)
    ∧ quiescent_ReferenceIdeal_pre_groups_fit_and_x_is_bf16 (hReferenceIdeal := hReferenceIdeal) (hPre_groups_fit_and_x_is_bf16 := hPre_groups_fit_and_x_is_bf16)
    ∧ preserves_Kernel_KernelIdeal
    ∧ algebraic_KernelIdeal_ReferenceIdeal_pre_groups_fit_and_x_is_bf16 (hKernelIdeal := hKernelIdeal) (hReferenceIdeal := hReferenceIdeal) (hPre_groups_fit_and_x_is_bf16 := hPre_groups_fit_and_x_is_bf16)
-- ==== Pre_groups_fit.lean ====
abbrev S192x3072 : Shape := ⟨2, ![192, 3072]⟩
abbrev S16 : Shape := ⟨1, ![16]⟩
abbrev S16x3072x1408 : Shape := ⟨3, ![16, 3072, 1408]⟩
abbrev S16x1x1408 : Shape := ⟨3, ![16, 1, 1408]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S192x3072 .bf16) (main_arg1 : IVec S16 32) (main_arg2 : FVec F S16x3072x1408 .fp8e4m3) (main_arg3 : FVec F S16x1x1408 .f32) : IVec S16 1 × IVec S16 1 × IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 192#32
  let main_v2 : IVec S16 32 := broadcastInDim S16 ![] bcast_S_S16 main_c_0
  let main_v3 : IVec S16 1 := cmpi .sle main_arg1 main_v2
  let main_c_1 : IVec S_ 32 := constantI S_ 32 0#32
  let main_v4 : IVec S_ 32 := (fun x v => Host.reduce IntOp.addi x v reducesTo_S16_S_d0 h_S_) main_arg1 main_c_1
  let main_c_2 : IVec S_ 32 := constantI S_ 32 192#32
  let main_v5 : IVec S_ 1 := cmpi .sle main_v4 main_c_2
  (main_v1, main_v3, main_v5)
-- ==== Pre_groups_fit_and_x_is_bf16.lean ====
abbrev S192x3072 : Shape := ⟨2, ![192, 3072]⟩
abbrev S16 : Shape := ⟨1, ![16]⟩
abbrev S16x3072x1408 : Shape := ⟨3, ![16, 3072, 1408]⟩
abbrev S16x1x1408 : Shape := ⟨3, ![16, 1, 1408]⟩
abbrev S_ : Shape := ⟨0, ![]⟩

class Facts : Prop where
  bitsLt_bf16_f32 : FTy.bits .bf16 < FTy.bits .f32
  bcast_S_S16 : S_.BroadcastsInDim S16 (![] : Fin 0 → Fin S16.rank)
  reducesTo_S16_S_d0 : S16.ReducesTo [0] S_
  h_S_ : 0 < S_.numel
  bcast_S_S192x3072 : S_.BroadcastsInDim S192x3072 (![] : Fin 0 → Fin S192x3072.rank)

variable [Facts]

def fn {F : FTy → Type} [FloatOps F] (main_arg0 : FVec F S192x3072 .bf16) (main_arg1 : IVec S16 32) (main_arg2 : FVec F S16x3072x1408 .fp8e4m3) (main_arg3 : FVec F S16x1x1408 .f32) : IVec S16 1 × IVec S16 1 × IVec S_ 1 × IVec S192x3072 1 :=
  let main_v0 : FVec F S192x3072 .f32 := (extf .f32 · bitsLt_bf16_f32) main_arg0
  let main_v1 : FVec F S192x3072 .f32 := Host.absf main_v0
  let main_c : IVec S_ 32 := constantI S_ 32 0#32
  let main_v2 : IVec S16 32 := broadcastInDim S16 ![] bcast_S_S16 main_c
  let main_v3 : IVec S16 1 := cmpi .sge main_arg1 main_v2
  let main_c_0 : IVec S_ 32 := constantI S_ 32 192#32
  let main_v4 : IVec S16 32 := broadcastInDim S16 ![] bcast_S_S16 main_c_0
  let main_v5 : IVec S16 1 := cmpi .sle main_arg1 main_v4
  let main_c_1 : IVec S_ 32 := constantI S_ 32 0#32
  let main_v6 : IVec S_ 32 := (fun x v => Host.reduce IntOp.addi x v reducesTo_S16_S_d0 h_S_) main_arg1 main_c_1
  let main_c_2 : IVec S_ 32 := constantI S_ 32 192#32
  let main_v7 : IVec S_ 1 := cmpi .sle main_v6 main_c_2
  let main_cst : FVec F S_ .f32 := constant S_ .f32 0x7F7F0000#32
  let main_v8 : FVec F S192x3072 .f32 := broadcastInDim S192x3072 ![] bcast_S_S192x3072 main_cst
  let main_v9 : IVec S192x3072 1 := cmpf .ole main_v1 main_v8
  let main_cst_3 : FVec F S_ .f32 := constant S_ .f32 0x7F800000#32
  let main_v10 : FVec F S192x3072 .f32 := broadcastInDim S192x3072 ![] bcast_S_S192x3072 main_cst_3
  let main_v11 : IVec S192x3072 1 := cmpf .oeq main_v1 main_v10
  let main_v12 : IVec S192x3072 1 := ori main_v9 main_v11
  (main_v3, main_v5, main_v7, main_v12)
-- ==== Kernel.lean ====
abbrev S192x3072 : Shape := ⟨2, ![192, 3072]⟩
abbrev S16 : Shape := ⟨1, ![16]⟩
abbrev S16x3072x1408 : Shape := ⟨3, ![16, 3072, 1408]⟩
abbrev S16x1x1408 : Shape := ⟨3, ![16, 1, 1408]⟩
abbrev S192x1408 : Shape := ⟨2, ![192, 1408]⟩
abbrev S224x3072 : Shape := ⟨2, ![224, 3072]⟩
abbrev S224x1 : Shape := ⟨2, ![224, 1]⟩
abbrev S8x3072x1408 : Shape := ⟨3, ![8, 3072, 1408]⟩
abbrev S224x1408 : Shape := ⟨2, ![224, 1408]⟩
abbrev S3 : Shape := ⟨1, ![3]⟩
abbrev S8 : Shape := ⟨1, ![8]⟩
abbrev S_ : Shape := ⟨0, ![]⟩
abbrev S1 : Shape := ⟨1, ![1]⟩
abbrev S1x1536x1408 : Shape := ⟨3, ![1, 1536, 1408]⟩
abbrev S1536x1408 : Shape := ⟨2, ![1536, 1408]⟩
abbrev S1x768x1408 : Shape := ⟨3, ![1, 768, 1408]⟩
abbrev S768x1408 : Shape := ⟨2, ![768, 1408]⟩
abbrev S1x512x1408 : Shape := ⟨3, ![1, 512, 1408]⟩
abbrev S512x1408 : Shape := ⟨2, ![512, 1408]⟩
abbrev S1x256x1408 : Shape := ⟨3, ![1, 256, 1408]⟩
abbrev S256x1408 : Shape := ⟨2, ![256, 1408]⟩
abbrev S32x3072 : Shape := ⟨2, ![32, 3072]⟩
abbrev S32x1 : Shape := ⟨2, ![32, 1]⟩
abbrev S32 : Shape := ⟨1, ![32]⟩
abbrev S64x3072 : Shape := ⟨2, ![64, 3072]⟩
abbrev S1x3072x1408 : Shape := ⟨3, ![1, 3072, 1408]⟩
abbrev S3072x1408 : Shape := ⟨2, ![3072, 1408]⟩
abbrev S64x1408 : Shape := ⟨2, ![64, 1408]⟩
abbrev S64x1 : Shape := ⟨2, ![64, 1]⟩
abbrev S1x1x1408 : Shape := ⟨3, ![1, 1, 1408]⟩
abbrev S1x1408 : Shape := ⟨2, ![1, 1408]⟩
abbrev S32x1408 : Shape := ⟨2, ![32, 1408]⟩
abbrev S64x1536 : Shape := ⟨2, ![64, 1536]⟩
abbrev S64x768 : Shape := ⟨2, ![64, 768]⟩
abbrev S64x512 : Shape := ⟨2, ![64, 512]⟩
abbrev S64x256 : Shape := ⟨2, ![64, 256]⟩

abbrev nBuf : Space → Nat
  | .hbm => 5
  | .vmem => 7
  | .smem => 3
  | _ => 0

abbrev bufTy : (tb : Table) → Fin (tcTables nBuf tb) → BufTy
  | .hbm, ⟨0, _⟩ => ⟨S192x3072, .bf16⟩
  | .hbm, ⟨1, _⟩ => ⟨S16, .i32⟩
  | .hbm, ⟨2, _⟩ => ⟨S16x3072x1408, .fp8e4m3⟩
  | .hbm, ⟨3, _⟩ => ⟨S16x1x1408, .f32⟩
  | .hbm, ⟨4, _⟩ => ⟨S192x1408, .bf16⟩
  | .local _ .vmem, ⟨0, _⟩ => ⟨S192x3072, .bf16⟩
  | .local _ .vmem, ⟨1, _⟩ => ⟨S224x3072, .fp8e4m3⟩
  | .local _ .vmem, ⟨2, _⟩ => ⟨S224x1, .f32⟩
  | .local _ .vmem, ⟨3, _⟩ => ⟨S16x1x1408, .f32⟩
  | .local _ .vmem, ⟨4, _⟩ => ⟨S8x3072x1408, .fp8e4m3⟩
  | .local _ .vmem, ⟨5, _⟩ => ⟨S224x1408, .f32⟩
  | .local _ .vmem, ⟨6, _⟩ => ⟨S224x1408, .bf16⟩
  | .local _ .smem, ⟨0, _⟩ => ⟨S16, .i32⟩
  | .local _ .smem, ⟨1, _⟩ => ⟨S16, .i32⟩
  | .local _ .smem, ⟨2, _⟩ => ⟨S16, .i32⟩
  | _, _ => ⟨S192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scratch3 : Ref sig .tc := ⟨.vmem, 0, rfl⟩
abbrev cc0_scratch4 : Ref sig .tc := ⟨.vmem, 1, rfl⟩
abbrev cc0_scratch5 : Ref sig .tc := ⟨.vmem, 2, rfl⟩
abbrev cc0_scratch6 : Ref sig .tc := ⟨.vmem, 3, rfl⟩
abbrev cc0_scratch7 : Ref sig .tc := ⟨.vmem, 4, rfl⟩
abbrev cc0_scratch8 : Ref sig .tc := ⟨.vmem, 5, rfl⟩
abbrev cc0_scratch9 : Ref sig .tc := ⟨.vmem, 6, rfl⟩
abbrev cc0_scratch0 : Ref sig .tc := ⟨.smem, 0, rfl⟩
abbrev cc0_scratch1 : Ref sig .tc := ⟨.smem, 1, rfl⟩
abbrev cc0_scratch2 : Ref sig .tc := ⟨.smem, 2, rfl⟩

abbrev nD : Nat := 1
abbrev τ : Topo := Topo.v7x

variable {F : FTy → Type} [FloatOps F]

abbrev grid0 : Pipeline.Grid := .none

@[reducible] def k0_t1_loop : Scf.Loop 32 :=
  let c1_i32_13 : BitVec 32 := 1#32
  let c15_i32 : BitVec 32 := 15#32
  let v17 : BitVec 32 := Scalar.addi c1_i32_13 c15_i32
  let c1_i32_14 : BitVec 32 := 1#32
  ⟨c1_i32_13, v17, c1_i32_14⟩
def k0_off1 (k0_t1 : Fin k0_t1_loop.trips) : Fin 1 → Nat :=
  let c1_i32_13 : BitVec 32 := 1#32
  let c1_i32_14 : BitVec 32 := 1#32
  let arg20 : BitVec 32 := Scf.iv c1_i32_13 c1_i32_14 k0_t1
  let v754 : Index := Scalar.indexCast arg20
  ![v754.toNat]
def k0_off2 (arg21 : BitVec 32) : Fin 1 → Nat :=
  let v763 : Index := Scalar.indexCast arg21
  ![v763.toNat]
def k0_cond1 (v755 : BitVec 32) : BitVec 1 :=
  let c0_i32_308 : BitVec 32 := 0#32
  let v756 : BitVec 1 := Scalar.cmpi .sgt v755 c0_i32_308
  let v757 : BitVec 32 := Scalar.extui v756
  let c0_i32_309 : BitVec 32 := 0#32
  let v758 : BitVec 1 := Scalar.cmpi .ne v757 c0_i32_309
  v758

def k0_chk1 (arg21 : BitVec 32) (v755 : BitVec 32) : Prop :=
  (∀ (k0_h1 : k0_cond1 v755 = 1#1), ∀ a, (k0_off2 arg21) a + S1.size a ≤ S16.size a)
theorem k0_off2_inb : ∀ (arg21 : BitVec 32) (v755 : BitVec 32) (k0_hw1 : k0_chk1 arg21 v755), ∀ (k0_h1 : k0_cond1 v755 = 1#1), ∀ a, (k0_off2 arg21) a + S1.size a ≤ S16.size a := fun arg21 v755 k0_hw1 k0_h1 => k0_hw1 k0_h1

def k0_off3 (v754 : BitVec 32) : Fin 3 → Nat :=
  let c1536_i32_317 : BitVec 32 := 1536#32
  let c0_i32_318 : BitVec 32 := 0#32
  ![v754.toNat, 1536, 0]
def k0_cond2 (v18_0 : BitVec 32) (v20 : BitVec 32) : BitVec 1 :=
  let c0_i32_18 : BitVec 32 := 0#32
  let v21 : BitVec 1 := Scalar.cmpi .sgt v20 c0_i32_18
  let c1_i32_19 : BitVec 32 := 1#32
  let v22 : BitVec 1 := Scalar.cmpi .eq v18_0 c1_i32_19
  let v23 : BitVec 1 := Scalar.ori v21 v22
  let v24 : BitVec 32 := Scalar.extui v23
  let c0_i32_20 : BitVec 32 := 0#32
  let v25 : BitVec 1 := Scalar.cmpi .ne v24 c0_i32_20
  v25

def k0_cond3 (v18_0 : BitVec 32) : BitVec 1 :=
  let c1_i32_16 : BitVec 32 := 1#32
  let v19 : BitVec 32 := Scalar.subi v18_0 c1_i32_16
  let c0_i32_309 : BitVec 32 := 0#32
  let v755 : BitVec 1 := Scalar.cmpi .sgt v19 c0_i32_309
  let v756 : BitVec 32 := Scalar.extui v755
  let c0_i32_310 : BitVec 32 := 0#32
  let v757 : BitVec 1 := Scalar.cmpi .ne v756 c0_i32_310
  v757

def k0_off4 (v754 : BitVec 32) : Fin 3 → Nat :=
  let c1536_i32_317 : BitVec 32 := 1536#32
  let c0_i32_318 : BitVec 32 := 0#32
  ![v754.toNat, 1536, 0]
def k0_cond4 (v18_0 : BitVec 32) : BitVec 1 :=
  let c1_i32_16 : BitVec 32 := 1#32
  let v19 : BitVec 32 := Scalar.subi v18_0 c1_i32_16
  let c0_i32_311 : BitVec 32 := 0#32
  let v758 : BitVec 1 := Scalar.cmpi .eq v19 c0_i32_311
  let v759 : BitVec 32 := Scalar.extui v758
  let c0_i32_312 : BitVec 32 := 0#32
  let v760 : BitVec 1 := Scalar.cmpi .ne v759 c0_i32_312
  v760

def k0_off5 (v754 : BitVec 32) : Fin 3 → Nat :=
  let c2304_i32_323 : BitVec 32 := 2304#32
  let c0_i32_324 : BitVec 32 := 0#32
  ![v754.toNat, 2304, 0]
def k0_off6 (v754 : BitVec 32) : Fin 3 → Nat :=
  let c2816_i32_329 : BitVec 32 := 2816#32
  let c0_i32_330 : BitVec 32 := 0#32
  ![v754.toNat, 2816, 0]

def k0_chk2 (v18_0 : BitVec 32) (v20 : BitVec 32) (v754 : BitVec 32) : Prop :=
  (∀ (k0_h2 : k0_cond2 v18_0 v20 = 1#1), ∀ (k0_h3 : k0_cond3 v18_0 = 1#1), ∀ a, (k0_off3 v754) a + S1x1536x1408.size a ≤ S16x3072x1408.size a) ∧
  (∀ (k0_h2 : k0_cond2 v18_0 v20 = 1#1), ∀ (k0_h3 : k0_cond3 v18_0 = 1#1), ∀ (hinb : ∀ a, (k0_off3 v754) a + S1x1536x1408.size a ≤ S16x3072x1408.size a), (Rect.unit (s := S16x3072x1408) (k0_off3 v754) S1x1536x1408.size hinb).WholeWords (EltTy.packing .fp8e4m3)) ∧
  (∀ (k0_h2 : k0_cond2 v18_0 v20 = 1#1), ∀ (k0_h4 : k0_cond4 v18_0 = 1#1), ∀ a, (k0_off4 v754) a + S1x768x1408.size a ≤ S16x3072x1408.size a) ∧
  (∀ (k0_h2 : k0_cond2 v18_0 v20 = 1#1), ∀ (k0_h4 : k0_cond4 v18_0 = 1#1), ∀ (hinb : ∀ a, (k0_off4 v754) a + S1x768x1408.size a ≤ S16x3072x1408.size a), (Rect.unit (s := S16x3072x1408) (k0_off4 v754) S1x768x1408.size hinb).WholeWords (EltTy.packing .fp8e4m3)) ∧
  (∀ (k0_h2 : k0_cond2 v18_0 v20 = 1#1), ∀ (k0_h4 : k0_cond4 v18_0 = 1#1), ∀ a, (k0_off5 v754) a + S1x512x1408.size a ≤ S16x3072x1408.size a) ∧
  (∀ (k0_h2 : k0_cond2 v18_0 v20 = 1#1), ∀ (k0_h4 : k0_cond4 v18_0 = 1#1), ∀ (hinb : ∀ a, (k0_off5 v754) a + S1x512x1408.size a ≤ S16x3072x1408.size a), (Rect.unit (s := S16x3072x1408) (k0_off5 v754) S1x512x1408.size hinb).WholeWords (EltTy.packing .fp8e4m3)) ∧
  (∀ (k0_h2 : k0_cond2 v18_0 v20 = 1#1), ∀ (k0_h4 : k0_cond4 v18_0 = 1#1), ∀ a, (k0_off6 v754) a + S1x256x1408.size a ≤ S16x3072x1408.size a) ∧
  (∀ (k0_h2 : k0_cond2 v18_0 v20 = 1#1), ∀ (k0_h4 : k0_cond4 v18_0 = 1#1), ∀ (hinb : ∀ a, (k0_off6 v754) a + S1x256x1408.size a ≤ S16x3072x1408.size a), (Rect.unit (s := S16x3072x1408) (k0_off6 v754) S1x256x1408.size hinb).WholeWords (EltTy.packing .fp8e4m3))
theorem k0_off3_inb : ∀ (v18_0 : BitVec 32) (v20 : BitVec 32) (v754 : BitVec 32) (k0_hw2 : k0_chk2 v18_0 v20 v754), ∀ (k0_h2 : k0_cond2 v18_0 v20 = 1#1), ∀ (k0_h3 : k0_cond3 v18_0 = 1#1), ∀ a, (k0_off3 v754) a + S1x1536x1408.size a ≤ S16x3072x1408.size a := fun v18_0 v20 v754 k0_hw2 k0_h2 k0_h3 => k0_hw2.1 k0_h2 k0_h3
theorem k0_off3_wordsfp8e4m3 : ∀ (v18_0 : BitVec 32) (v20 : BitVec 32) (v754 : BitVec 32) (k0_hw2 : k0_chk2 v18_0 v20 v754), ∀ (k0_h2 : k0_cond2 v18_0 v20 = 1#1), ∀ (k0_h3 : k0_cond3 v18_0 = 1#1), (Rect.unit (s := S16x3072x1408) (k0_off3 v754) S1x1536x1408.size (k0_off3_inb v18_0 v20 v754 k0_hw2 k0_h2 k0_h3)).WholeWords (EltTy.packing .fp8e4m3) := fun v18_0 v20 v754 k0_hw2 k0_h2 k0_h3 => k0_hw2.2.1 k0_h2 k0_h3 (k0_off3_inb v18_0 v20 v754 k0_hw2 k0_h2 k0_h3)
theorem k0_off4_inb : ∀ (v18_0 : BitVec 32) (v20 : BitVec 32) (v754 : BitVec 32) (k0_hw2 : k0_chk2 v18_0 v20 v754), ∀ (k0_h2 : k0_cond2 v18_0 v20 = 1#1), ∀ (k0_h4 : k0_cond4 v18_0 = 1#1), ∀ a, (k0_off4 v754) a + S1x768x1408.size a ≤ S16x3072x1408.size a := fun v18_0 v20 v754 k0_hw2 k0_h2 k0_h4 => k0_hw2.2.2.1 k0_h2 k0_h4
theorem k0_off4_wordsfp8e4m3 : ∀ (v18_0 : BitVec 32) (v20 : BitVec 32) (v754 : BitVec 32) (k0_hw2 : k0_chk2 v18_0 v20 v754), ∀ (k0_h2 : k0_cond2 v18_0 v20 = 1#1), ∀ (k0_h4 : k0_cond4 v18_0 = 1#1), (Rect.unit (s := S16x3072x1408) (k0_off4 v754) S1x768x1408.size (k0_off4_inb v18_0 v20 v754 k0_hw2 k0_h2 k0_h4)).WholeWords (EltTy.packing .fp8e4m3) := fun v18_0 v20 v754 k0_hw2 k0_h2 k0_h4 => k0_hw2.2.2.2.1 k0_h2 k0_h4 (k0_off4_inb v18_0 v20 v754 k0_hw2 k0_h2 k0_h4)
theorem k0_off5_inb : ∀ (v18_0 : BitVec 32) (v20 : BitVec 32) (v754 : BitVec 32) (k0_hw2 : k0_chk2 v18_0 v20 v754), ∀ (k0_h2 : k0_cond2 v18_0 v20 = 1#1), ∀ (k0_h4 : k0_cond4 v18_0 = 1#1), ∀ a, (k0_off5 v754) a + S1x512x1408.size a ≤ S16x3072x1408.size a := fun v18_0 v20 v754 k0_hw2 k0_h2 k0_h4 => k0_hw2.2.2.2.2.1 k0_h2 k0_h4
theorem k0_off5_wordsfp8e4m3 : ∀ (v18_0 : BitVec 32) (v20 : BitVec 32) (v754 : BitVec 32) (k0_hw2 : k0_chk2 v18_0 v20 v754), ∀ (k0_h2 : k0_cond2 v18_0 v20 = 1#1), ∀ (k0_h4 : k0_cond4 v18_0 = 1#1), (Rect.unit (s := S16x3072x1408) (k0_off5 v754) S1x512x1408.size (k0_off5_inb v18_0 v20 v754 k0_hw2 k0_h2 k0_h4)).WholeWords (EltTy.packing .fp8e4m3) := fun v18_0 v20 v754 k0_hw2 k0_h2 k0_h4 => k0_hw2.2.2.2.2.2.1 k0_h2 k0_h4 (k0_off5_inb v18_0 v20 v754 k0_hw2 k0_h2 k0_h4)
theorem k0_off6_inb : ∀ (v18_0 : BitVec 32) (v20 : BitVec 32) (v754 : BitVec 32) (k0_hw2 : k0_chk2 v18_0 v20 v754), ∀ (k0_h2 : k0_cond2 v18_0 v20 = 1#1), ∀ (k0_h4 : k0_cond4 v18_0 = 1#1), ∀ a, (k0_off6 v754) a + S1x256x1408.size a ≤ S16x3072x1408.size a := fun v18_0 v20 v754 k0_hw2 k0_h2 k0_h4 => k0_hw2.2.2.2.2.2.2.1 k0_h2 k0_h4
theorem k0_off6_wordsfp8e4m3 : ∀ (v18_0 : BitVec 32) (v20 : BitVec 32) (v754 : BitVec 32) (k0_hw2 : k0_chk2 v18_0 v20 v754), ∀ (k0_h2 : k0_cond2 v18_0 v20 = 1#1), ∀ (k0_h4 : k0_cond4 v18_0 = 1#1), (Rect.unit (s := S16x3072x1408) (k0_off6 v754) S1x256x1408.size (k0_off6_inb v18_0 v20 v754 k0_hw2 k0_h2 k0_h4)).WholeWords (EltTy.packing .fp8e4m3) := fun v18_0 v20 v754 k0_hw2 k0_h2 k0_h4 => k0_hw2.2.2.2.2.2.2.2 k0_h2 k0_h4 (k0_off6_inb v18_0 v20 v754 k0_hw2 k0_h2 k0_h4)

@[reducible] def k0_t2_loop (v18_0 : BitVec 32) : Scf.Loop 32 :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let c1_i32_24 : BitVec 32 := 1#32
  ⟨c1_i32_22, v31, c1_i32_24⟩

def k0_off7 (v18_0 : BitVec 32) (k0_t2 : Fin (k0_t2_loop v18_0).trips) : Fin 1 → Nat :=
  let c1_i32_22 : BitVec 32 := 1#32
  let c1_i32_24 : BitVec 32 := 1#32
  let arg20 : BitVec 32 := Scf.iv c1_i32_22 c1_i32_24 k0_t2
  let v754 : Index := Scalar.indexCast arg20
  ![v754.toNat]
def k0_off8 (v18_0 : BitVec 32) (k0_t2 : Fin (k0_t2_loop v18_0).trips) : Fin 1 → Nat :=
  let c1_i32_22 : BitVec 32 := 1#32
  let c1_i32_24 : BitVec 32 := 1#32
  let arg20 : BitVec 32 := Scf.iv c1_i32_22 c1_i32_24 k0_t2
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  ![v765.toNat]
def k0_off9 (v18_0 : BitVec 32) (k0_t2 : Fin (k0_t2_loop v18_0).trips) : Fin 3 → Nat :=
  let c1_i32_22 : BitVec 32 := 1#32
  let c1_i32_24 : BitVec 32 := 1#32
  let arg20 : BitVec 32 := Scf.iv c1_i32_22 c1_i32_24 k0_t2
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  let c0_i32_314 : BitVec 32 := 0#32
  let c0_i32_315 : BitVec 32 := 0#32
  ![v765.toNat, 0, 0]
def k0_off10 (v755 : BitVec 32) : Fin 3 → Nat :=
  let c0_i32_316 : BitVec 32 := 0#32
  let c0_i32_317 : BitVec 32 := 0#32
  ![v755.toNat, 0, 0]

def k0_chk4 (v755 : BitVec 32) : Prop :=
  (∀ a, (k0_off10 v755) a + S1x1536x1408.size a ≤ S16x3072x1408.size a) ∧
  (∀ (hinb : ∀ a, (k0_off10 v755) a + S1x1536x1408.size a ≤ S16x3072x1408.size a), (Rect.unit (s := S16x3072x1408) (k0_off10 v755) S1x1536x1408.size hinb).WholeWords (EltTy.packing .fp8e4m3))
theorem k0_off10_inb : ∀ (v755 : BitVec 32) (k0_hw4 : k0_chk4 v755), ∀ a, (k0_off10 v755) a + S1x1536x1408.size a ≤ S16x3072x1408.size a := fun v755 k0_hw4 => k0_hw4.1
theorem k0_off10_wordsfp8e4m3 : ∀ (v755 : BitVec 32) (k0_hw4 : k0_chk4 v755), (Rect.unit (s := S16x3072x1408) (k0_off10 v755) S1x1536x1408.size (k0_off10_inb v755 k0_hw4)).WholeWords (EltTy.packing .fp8e4m3) := fun v755 k0_hw4 => k0_hw4.2 (k0_off10_inb v755 k0_hw4)

def k0_off11 (v18_0 : BitVec 32) (k0_t2 : Fin (k0_t2_loop v18_0).trips) : Fin 1 → Nat :=
  let c1_i32_22 : BitVec 32 := 1#32
  let c1_i32_24 : BitVec 32 := 1#32
  let arg20 : BitVec 32 := Scf.iv c1_i32_22 c1_i32_24 k0_t2
  let v772 : Index := Scalar.indexCast arg20
  ![v772.toNat]
def k0_off12 (v18_0 : BitVec 32) (k0_t2 : Fin (k0_t2_loop v18_0).trips) : Fin 1 → Nat :=
  let c1_i32_22 : BitVec 32 := 1#32
  let c1_i32_24 : BitVec 32 := 1#32
  let arg20 : BitVec 32 := Scf.iv c1_i32_22 c1_i32_24 k0_t2
  let c8_i32_318 : BitVec 32 := 8#32
  let c0_i32_319 : BitVec 32 := 0#32
  let v774 : BitVec 1 := Scalar.cmpi .eq c8_i32_318 c0_i32_319
  let c1_i32_320 : BitVec 32 := 1#32
  let v775 : BitVec 32 := Scalar.select v774 c1_i32_320 c8_i32_318
  let v776 : BitVec 32 := Scalar.remsi arg20 v775
  let c0_i32_322 : BitVec 32 := 0#32
  let v778 : BitVec 1 := Scalar.cmpi .slt v776 c0_i32_322
  let c0_i32_323 : BitVec 32 := 0#32
  let v779 : BitVec 1 := Scalar.cmpi .slt v775 c0_i32_323
  let v780 : BitVec 1 := Scalar.xori v778 v779
  let c0_i32_321 : BitVec 32 := 0#32
  let v777 : BitVec 1 := Scalar.cmpi .ne v776 c0_i32_321
  let v781 : BitVec 1 := Scalar.andi v780 v777
  let v782 : BitVec 32 := Scalar.addi v776 v775
  let v783 : BitVec 32 := Scalar.select v781 v782 v776
  ![v783.toNat]
def k0_cond5 (v18_0 : BitVec 32) (k0_t2 : Fin (k0_t2_loop v18_0).trips) : BitVec 1 :=
  let c1_i32_22 : BitVec 32 := 1#32
  let c1_i32_24 : BitVec 32 := 1#32
  let arg20 : BitVec 32 := Scf.iv c1_i32_22 c1_i32_24 k0_t2
  let c1_i32_16 : BitVec 32 := 1#32
  let v19 : BitVec 32 := Scalar.subi v18_0 c1_i32_16
  let v784 : BitVec 1 := Scalar.cmpi .slt arg20 v19
  let v785 : BitVec 32 := Scalar.extui v784
  let c0_i32_324 : BitVec 32 := 0#32
  let v786 : BitVec 1 := Scalar.cmpi .ne v785 c0_i32_324
  v786

def k0_off13 (v18_0 : BitVec 32) (k0_t2 : Fin (k0_t2_loop v18_0).trips) : Fin 3 → Nat :=
  let c1_i32_22 : BitVec 32 := 1#32
  let c1_i32_24 : BitVec 32 := 1#32
  let arg20 : BitVec 32 := Scf.iv c1_i32_22 c1_i32_24 k0_t2
  let c8_i32_318 : BitVec 32 := 8#32
  let c0_i32_319 : BitVec 32 := 0#32
  let v774 : BitVec 1 := Scalar.cmpi .eq c8_i32_318 c0_i32_319
  let c1_i32_320 : BitVec 32 := 1#32
  let v775 : BitVec 32 := Scalar.select v774 c1_i32_320 c8_i32_318
  let v776 : BitVec 32 := Scalar.remsi arg20 v775
  let c0_i32_322 : BitVec 32 := 0#32
  let v778 : BitVec 1 := Scalar.cmpi .slt v776 c0_i32_322
  let c0_i32_323 : BitVec 32 := 0#32
  let v779 : BitVec 1 := Scalar.cmpi .slt v775 c0_i32_323
  let v780 : BitVec 1 := Scalar.xori v778 v779
  let c0_i32_321 : BitVec 32 := 0#32
  let v777 : BitVec 1 := Scalar.cmpi .ne v776 c0_i32_321
  let v781 : BitVec 1 := Scalar.andi v780 v777
  let v782 : BitVec 32 := Scalar.addi v776 v775
  let v783 : BitVec 32 := Scalar.select v781 v782 v776
  let c1536_i32_326 : BitVec 32 := 1536#32
  let c0_i32_327 : BitVec 32 := 0#32
  ![v783.toNat, 1536, 0]
def k0_off14 (v773 : BitVec 32) : Fin 3 → Nat :=
  let c1536_i32_328 : BitVec 32 := 1536#32
  let c0_i32_329 : BitVec 32 := 0#32
  ![v773.toNat, 1536, 0]

def k0_off15 (v18_0 : BitVec 32) (k0_t2 : Fin (k0_t2_loop v18_0).trips) : Fin 3 → Nat :=
  let c1_i32_22 : BitVec 32 := 1#32
  let c1_i32_24 : BitVec 32 := 1#32
  let arg20 : BitVec 32 := Scf.iv c1_i32_22 c1_i32_24 k0_t2
  let c8_i32_318 : BitVec 32 := 8#32
  let c0_i32_319 : BitVec 32 := 0#32
  let v774 : BitVec 1 := Scalar.cmpi .eq c8_i32_318 c0_i32_319
  let c1_i32_320 : BitVec 32 := 1#32
  let v775 : BitVec 32 := Scalar.select v774 c1_i32_320 c8_i32_318
  let v776 : BitVec 32 := Scalar.remsi arg20 v775
  let c0_i32_322 : BitVec 32 := 0#32
  let v778 : BitVec 1 := Scalar.cmpi .slt v776 c0_i32_322
  let c0_i32_323 : BitVec 32 := 0#32
  let v779 : BitVec 1 := Scalar.cmpi .slt v775 c0_i32_323
  let v780 : BitVec 1 := Scalar.xori v778 v779
  let c0_i32_321 : BitVec 32 := 0#32
  let v777 : BitVec 1 := Scalar.cmpi .ne v776 c0_i32_321
  let v781 : BitVec 1 := Scalar.andi v780 v777
  let v782 : BitVec 32 := Scalar.addi v776 v775
  let v783 : BitVec 32 := Scalar.select v781 v782 v776
  let c1536_i32_327 : BitVec 32 := 1536#32
  let c0_i32_328 : BitVec 32 := 0#32
  ![v783.toNat, 1536, 0]
def k0_cond6 (v18_0 : BitVec 32) (k0_t2 : Fin (k0_t2_loop v18_0).trips) : BitVec 1 :=
  let c1_i32_22 : BitVec 32 := 1#32
  let c1_i32_24 : BitVec 32 := 1#32
  let arg20 : BitVec 32 := Scf.iv c1_i32_22 c1_i32_24 k0_t2
  let c1_i32_16 : BitVec 32 := 1#32
  let v19 : BitVec 32 := Scalar.subi v18_0 c1_i32_16
  let v787 : BitVec 1 := Scalar.cmpi .eq arg20 v19
  let v788 : BitVec 32 := Scalar.extui v787
  let c0_i32_325 : BitVec 32 := 0#32
  let v789 : BitVec 1 := Scalar.cmpi .ne v788 c0_i32_325
  v789

def k0_off16 (v773 : BitVec 32) : Fin 3 → Nat :=
  let c1536_i32_329 : BitVec 32 := 1536#32
  let c0_i32_330 : BitVec 32 := 0#32
  ![v773.toNat, 1536, 0]
def k0_off17 (v18_0 : BitVec 32) (k0_t2 : Fin (k0_t2_loop v18_0).trips) : Fin 3 → Nat :=
  let c1_i32_22 : BitVec 32 := 1#32
  let c1_i32_24 : BitVec 32 := 1#32
  let arg20 : BitVec 32 := Scf.iv c1_i32_22 c1_i32_24 k0_t2
  let c8_i32_318 : BitVec 32 := 8#32
  let c0_i32_319 : BitVec 32 := 0#32
  let v774 : BitVec 1 := Scalar.cmpi .eq c8_i32_318 c0_i32_319
  let c1_i32_320 : BitVec 32 := 1#32
  let v775 : BitVec 32 := Scalar.select v774 c1_i32_320 c8_i32_318
  let v776 : BitVec 32 := Scalar.remsi arg20 v775
  let c0_i32_322 : BitVec 32 := 0#32
  let v778 : BitVec 1 := Scalar.cmpi .slt v776 c0_i32_322
  let c0_i32_323 : BitVec 32 := 0#32
  let v779 : BitVec 1 := Scalar.cmpi .slt v775 c0_i32_323
  let v780 : BitVec 1 := Scalar.xori v778 v779
  let c0_i32_321 : BitVec 32 := 0#32
  let v777 : BitVec 1 := Scalar.cmpi .ne v776 c0_i32_321
  let v781 : BitVec 1 := Scalar.andi v780 v777
  let v782 : BitVec 32 := Scalar.addi v776 v775
  let v783 : BitVec 32 := Scalar.select v781 v782 v776
  let c2304_i32_332 : BitVec 32 := 2304#32
  let c0_i32_333 : BitVec 32 := 0#32
  ![v783.toNat, 2304, 0]
def k0_off18 (v773 : BitVec 32) : Fin 3 → Nat :=
  let c2304_i32_334 : BitVec 32 := 2304#32
  let c0_i32_335 : BitVec 32 := 0#32
  ![v773.toNat, 2304, 0]
def k0_off19 (v18_0 : BitVec 32) (k0_t2 : Fin (k0_t2_loop v18_0).trips) : Fin 3 → Nat :=
  let c1_i32_22 : BitVec 32 := 1#32
  let c1_i32_24 : BitVec 32 := 1#32
  let arg20 : BitVec 32 := Scf.iv c1_i32_22 c1_i32_24 k0_t2
  let c8_i32_318 : BitVec 32 := 8#32
  let c0_i32_319 : BitVec 32 := 0#32
  let v774 : BitVec 1 := Scalar.cmpi .eq c8_i32_318 c0_i32_319
  let c1_i32_320 : BitVec 32 := 1#32
  let v775 : BitVec 32 := Scalar.select v774 c1_i32_320 c8_i32_318
  let v776 : BitVec 32 := Scalar.remsi arg20 v775
  let c0_i32_322 : BitVec 32 := 0#32
  let v778 : BitVec 1 := Scalar.cmpi .slt v776 c0_i32_322
  let c0_i32_323 : BitVec 32 := 0#32
  let v779 : BitVec 1 := Scalar.cmpi .slt v775 c0_i32_323
  let v780 : BitVec 1 := Scalar.xori v778 v779
  let c0_i32_321 : BitVec 32 := 0#32
  let v777 : BitVec 1 := Scalar.cmpi .ne v776 c0_i32_321
  let v781 : BitVec 1 := Scalar.andi v780 v777
  let v782 : BitVec 32 := Scalar.addi v776 v775
  let v783 : BitVec 32 := Scalar.select v781 v782 v776
  let c2816_i32_337 : BitVec 32 := 2816#32
  let c0_i32_338 : BitVec 32 := 0#32
  ![v783.toNat, 2816, 0]
def k0_off20 (v773 : BitVec 32) : Fin 3 → Nat :=
  let c2816_i32_339 : BitVec 32 := 2816#32
  let c0_i32_340 : BitVec 32 := 0#32
  ![v773.toNat, 2816, 0]

def k0_chk5 (v18_0 : BitVec 32) (k0_t2 : Fin (k0_t2_loop v18_0).trips) (v773 : BitVec 32) : Prop :=
  (∀ (k0_h5 : k0_cond5 v18_0 k0_t2 = 1#1), ∀ a, (k0_off14 v773) a + S1x1536x1408.size a ≤ S16x3072x1408.size a) ∧
  (∀ (k0_h5 : k0_cond5 v18_0 k0_t2 = 1#1), ∀ (hinb : ∀ a, (k0_off14 v773) a + S1x1536x1408.size a ≤ S16x3072x1408.size a), (Rect.unit (s := S16x3072x1408) (k0_off14 v773) S1x1536x1408.size hinb).WholeWords (EltTy.packing .fp8e4m3)) ∧
  (∀ (k0_h6 : k0_cond6 v18_0 k0_t2 = 1#1), ∀ a, (k0_off16 v773) a + S1x768x1408.size a ≤ S16x3072x1408.size a) ∧
  (∀ (k0_h6 : k0_cond6 v18_0 k0_t2 = 1#1), ∀ (hinb : ∀ a, (k0_off16 v773) a + S1x768x1408.size a ≤ S16x3072x1408.size a), (Rect.unit (s := S16x3072x1408) (k0_off16 v773) S1x768x1408.size hinb).WholeWords (EltTy.packing .fp8e4m3)) ∧
  (∀ (k0_h6 : k0_cond6 v18_0 k0_t2 = 1#1), ∀ a, (k0_off18 v773) a + S1x512x1408.size a ≤ S16x3072x1408.size a) ∧
  (∀ (k0_h6 : k0_cond6 v18_0 k0_t2 = 1#1), ∀ (hinb : ∀ a, (k0_off18 v773) a + S1x512x1408.size a ≤ S16x3072x1408.size a), (Rect.unit (s := S16x3072x1408) (k0_off18 v773) S1x512x1408.size hinb).WholeWords (EltTy.packing .fp8e4m3)) ∧
  (∀ (k0_h6 : k0_cond6 v18_0 k0_t2 = 1#1), ∀ a, (k0_off20 v773) a + S1x256x1408.size a ≤ S16x3072x1408.size a) ∧
  (∀ (k0_h6 : k0_cond6 v18_0 k0_t2 = 1#1), ∀ (hinb : ∀ a, (k0_off20 v773) a + S1x256x1408.size a ≤ S16x3072x1408.size a), (Rect.unit (s := S16x3072x1408) (k0_off20 v773) S1x256x1408.size hinb).WholeWords (EltTy.packing .fp8e4m3))
theorem k0_off14_inb : ∀ (v18_0 : BitVec 32) (k0_t2 : Fin (k0_t2_loop v18_0).trips) (v773 : BitVec 32) (k0_hw5 : k0_chk5 v18_0 k0_t2 v773), ∀ (k0_h5 : k0_cond5 v18_0 k0_t2 = 1#1), ∀ a, (k0_off14 v773) a + S1x1536x1408.size a ≤ S16x3072x1408.size a := fun v18_0 k0_t2 v773 k0_hw5 k0_h5 => k0_hw5.1 k0_h5
theorem k0_off14_wordsfp8e4m3 : ∀ (v18_0 : BitVec 32) (k0_t2 : Fin (k0_t2_loop v18_0).trips) (v773 : BitVec 32) (k0_hw5 : k0_chk5 v18_0 k0_t2 v773), ∀ (k0_h5 : k0_cond5 v18_0 k0_t2 = 1#1), (Rect.unit (s := S16x3072x1408) (k0_off14 v773) S1x1536x1408.size (k0_off14_inb v18_0 k0_t2 v773 k0_hw5 k0_h5)).WholeWords (EltTy.packing .fp8e4m3) := fun v18_0 k0_t2 v773 k0_hw5 k0_h5 => k0_hw5.2.1 k0_h5 (k0_off14_inb v18_0 k0_t2 v773 k0_hw5 k0_h5)
theorem k0_off16_inb : ∀ (v18_0 : BitVec 32) (k0_t2 : Fin (k0_t2_loop v18_0).trips) (v773 : BitVec 32) (k0_hw5 : k0_chk5 v18_0 k0_t2 v773), ∀ (k0_h6 : k0_cond6 v18_0 k0_t2 = 1#1), ∀ a, (k0_off16 v773) a + S1x768x1408.size a ≤ S16x3072x1408.size a := fun v18_0 k0_t2 v773 k0_hw5 k0_h6 => k0_hw5.2.2.1 k0_h6
theorem k0_off16_wordsfp8e4m3 : ∀ (v18_0 : BitVec 32) (k0_t2 : Fin (k0_t2_loop v18_0).trips) (v773 : BitVec 32) (k0_hw5 : k0_chk5 v18_0 k0_t2 v773), ∀ (k0_h6 : k0_cond6 v18_0 k0_t2 = 1#1), (Rect.unit (s := S16x3072x1408) (k0_off16 v773) S1x768x1408.size (k0_off16_inb v18_0 k0_t2 v773 k0_hw5 k0_h6)).WholeWords (EltTy.packing .fp8e4m3) := fun v18_0 k0_t2 v773 k0_hw5 k0_h6 => k0_hw5.2.2.2.1 k0_h6 (k0_off16_inb v18_0 k0_t2 v773 k0_hw5 k0_h6)
theorem k0_off18_inb : ∀ (v18_0 : BitVec 32) (k0_t2 : Fin (k0_t2_loop v18_0).trips) (v773 : BitVec 32) (k0_hw5 : k0_chk5 v18_0 k0_t2 v773), ∀ (k0_h6 : k0_cond6 v18_0 k0_t2 = 1#1), ∀ a, (k0_off18 v773) a + S1x512x1408.size a ≤ S16x3072x1408.size a := fun v18_0 k0_t2 v773 k0_hw5 k0_h6 => k0_hw5.2.2.2.2.1 k0_h6
theorem k0_off18_wordsfp8e4m3 : ∀ (v18_0 : BitVec 32) (k0_t2 : Fin (k0_t2_loop v18_0).trips) (v773 : BitVec 32) (k0_hw5 : k0_chk5 v18_0 k0_t2 v773), ∀ (k0_h6 : k0_cond6 v18_0 k0_t2 = 1#1), (Rect.unit (s := S16x3072x1408) (k0_off18 v773) S1x512x1408.size (k0_off18_inb v18_0 k0_t2 v773 k0_hw5 k0_h6)).WholeWords (EltTy.packing .fp8e4m3) := fun v18_0 k0_t2 v773 k0_hw5 k0_h6 => k0_hw5.2.2.2.2.2.1 k0_h6 (k0_off18_inb v18_0 k0_t2 v773 k0_hw5 k0_h6)
theorem k0_off20_inb : ∀ (v18_0 : BitVec 32) (k0_t2 : Fin (k0_t2_loop v18_0).trips) (v773 : BitVec 32) (k0_hw5 : k0_chk5 v18_0 k0_t2 v773), ∀ (k0_h6 : k0_cond6 v18_0 k0_t2 = 1#1), ∀ a, (k0_off20 v773) a + S1x256x1408.size a ≤ S16x3072x1408.size a := fun v18_0 k0_t2 v773 k0_hw5 k0_h6 => k0_hw5.2.2.2.2.2.2.1 k0_h6
theorem k0_off20_wordsfp8e4m3 : ∀ (v18_0 : BitVec 32) (k0_t2 : Fin (k0_t2_loop v18_0).trips) (v773 : BitVec 32) (k0_hw5 : k0_chk5 v18_0 k0_t2 v773), ∀ (k0_h6 : k0_cond6 v18_0 k0_t2 = 1#1), (Rect.unit (s := S16x3072x1408) (k0_off20 v773) S1x256x1408.size (k0_off20_inb v18_0 k0_t2 v773 k0_hw5 k0_h6)).WholeWords (EltTy.packing .fp8e4m3) := fun v18_0 k0_t2 v773 k0_hw5 k0_h6 => k0_hw5.2.2.2.2.2.2.2 k0_h6 (k0_off20_inb v18_0 k0_t2 v773 k0_hw5 k0_h6)

@[reducible] def k0_t3_loop (v18_0 : BitVec 32) : Scf.Loop 32 :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let v28 : BitVec 32 := Scalar.addi c1_i32_22 v27
  let c1_i32_25 : BitVec 32 := 1#32
  ⟨v31, v28, c1_i32_25⟩
def k0_off21 (v18_0 : BitVec 32) (k0_t3 : Fin (k0_t3_loop v18_0).trips) : Fin 1 → Nat :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let c1_i32_25 : BitVec 32 := 1#32
  let arg20 : BitVec 32 := Scf.iv v31 c1_i32_25 k0_t3
  let v754 : Index := Scalar.indexCast arg20
  ![v754.toNat]
def k0_off22 (v18_0 : BitVec 32) (k0_t3 : Fin (k0_t3_loop v18_0).trips) : Fin 1 → Nat :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let c1_i32_25 : BitVec 32 := 1#32
  let arg20 : BitVec 32 := Scf.iv v31 c1_i32_25 k0_t3
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  ![v765.toNat]
def k0_off23 (v18_0 : BitVec 32) (k0_t3 : Fin (k0_t3_loop v18_0).trips) : Fin 3 → Nat :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let c1_i32_25 : BitVec 32 := 1#32
  let arg20 : BitVec 32 := Scf.iv v31 c1_i32_25 k0_t3
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  let c0_i32_314 : BitVec 32 := 0#32
  let c0_i32_315 : BitVec 32 := 0#32
  ![v765.toNat, 0, 0]
def k0_off24 (v755 : BitVec 32) : Fin 3 → Nat :=
  let c0_i32_316 : BitVec 32 := 0#32
  let c0_i32_317 : BitVec 32 := 0#32
  ![v755.toNat, 0, 0]

def k0_chk6 (v755 : BitVec 32) : Prop :=
  (∀ a, (k0_off24 v755) a + S1x1536x1408.size a ≤ S16x3072x1408.size a) ∧
  (∀ (hinb : ∀ a, (k0_off24 v755) a + S1x1536x1408.size a ≤ S16x3072x1408.size a), (Rect.unit (s := S16x3072x1408) (k0_off24 v755) S1x1536x1408.size hinb).WholeWords (EltTy.packing .fp8e4m3))
theorem k0_off24_inb : ∀ (v755 : BitVec 32) (k0_hw6 : k0_chk6 v755), ∀ a, (k0_off24 v755) a + S1x1536x1408.size a ≤ S16x3072x1408.size a := fun v755 k0_hw6 => k0_hw6.1
theorem k0_off24_wordsfp8e4m3 : ∀ (v755 : BitVec 32) (k0_hw6 : k0_chk6 v755), (Rect.unit (s := S16x3072x1408) (k0_off24 v755) S1x1536x1408.size (k0_off24_inb v755 k0_hw6)).WholeWords (EltTy.packing .fp8e4m3) := fun v755 k0_hw6 => k0_hw6.2 (k0_off24_inb v755 k0_hw6)

def k0_off25 (v18_0 : BitVec 32) (k0_t3 : Fin (k0_t3_loop v18_0).trips) : Fin 1 → Nat :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let c1_i32_25 : BitVec 32 := 1#32
  let arg20 : BitVec 32 := Scf.iv v31 c1_i32_25 k0_t3
  let v772 : Index := Scalar.indexCast arg20
  ![v772.toNat]
def k0_off26 (v18_0 : BitVec 32) (k0_t3 : Fin (k0_t3_loop v18_0).trips) : Fin 1 → Nat :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let c1_i32_25 : BitVec 32 := 1#32
  let arg20 : BitVec 32 := Scf.iv v31 c1_i32_25 k0_t3
  let c8_i32_318 : BitVec 32 := 8#32
  let c0_i32_319 : BitVec 32 := 0#32
  let v774 : BitVec 1 := Scalar.cmpi .eq c8_i32_318 c0_i32_319
  let c1_i32_320 : BitVec 32 := 1#32
  let v775 : BitVec 32 := Scalar.select v774 c1_i32_320 c8_i32_318
  let v776 : BitVec 32 := Scalar.remsi arg20 v775
  let c0_i32_322 : BitVec 32 := 0#32
  let v778 : BitVec 1 := Scalar.cmpi .slt v776 c0_i32_322
  let c0_i32_323 : BitVec 32 := 0#32
  let v779 : BitVec 1 := Scalar.cmpi .slt v775 c0_i32_323
  let v780 : BitVec 1 := Scalar.xori v778 v779
  let c0_i32_321 : BitVec 32 := 0#32
  let v777 : BitVec 1 := Scalar.cmpi .ne v776 c0_i32_321
  let v781 : BitVec 1 := Scalar.andi v780 v777
  let v782 : BitVec 32 := Scalar.addi v776 v775
  let v783 : BitVec 32 := Scalar.select v781 v782 v776
  ![v783.toNat]
def k0_cond7 (v18_0 : BitVec 32) (k0_t3 : Fin (k0_t3_loop v18_0).trips) : BitVec 1 :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let c1_i32_25 : BitVec 32 := 1#32
  let arg20 : BitVec 32 := Scf.iv v31 c1_i32_25 k0_t3
  let c1_i32_16 : BitVec 32 := 1#32
  let v19 : BitVec 32 := Scalar.subi v18_0 c1_i32_16
  let v784 : BitVec 1 := Scalar.cmpi .slt arg20 v19
  let v785 : BitVec 32 := Scalar.extui v784
  let c0_i32_324 : BitVec 32 := 0#32
  let v786 : BitVec 1 := Scalar.cmpi .ne v785 c0_i32_324
  v786

def k0_off27 (v18_0 : BitVec 32) (k0_t3 : Fin (k0_t3_loop v18_0).trips) : Fin 3 → Nat :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let c1_i32_25 : BitVec 32 := 1#32
  let arg20 : BitVec 32 := Scf.iv v31 c1_i32_25 k0_t3
  let c8_i32_318 : BitVec 32 := 8#32
  let c0_i32_319 : BitVec 32 := 0#32
  let v774 : BitVec 1 := Scalar.cmpi .eq c8_i32_318 c0_i32_319
  let c1_i32_320 : BitVec 32 := 1#32
  let v775 : BitVec 32 := Scalar.select v774 c1_i32_320 c8_i32_318
  let v776 : BitVec 32 := Scalar.remsi arg20 v775
  let c0_i32_322 : BitVec 32 := 0#32
  let v778 : BitVec 1 := Scalar.cmpi .slt v776 c0_i32_322
  let c0_i32_323 : BitVec 32 := 0#32
  let v779 : BitVec 1 := Scalar.cmpi .slt v775 c0_i32_323
  let v780 : BitVec 1 := Scalar.xori v778 v779
  let c0_i32_321 : BitVec 32 := 0#32
  let v777 : BitVec 1 := Scalar.cmpi .ne v776 c0_i32_321
  let v781 : BitVec 1 := Scalar.andi v780 v777
  let v782 : BitVec 32 := Scalar.addi v776 v775
  let v783 : BitVec 32 := Scalar.select v781 v782 v776
  let c1536_i32_326 : BitVec 32 := 1536#32
  let c0_i32_327 : BitVec 32 := 0#32
  ![v783.toNat, 1536, 0]
def k0_off28 (v773 : BitVec 32) : Fin 3 → Nat :=
  let c1536_i32_328 : BitVec 32 := 1536#32
  let c0_i32_329 : BitVec 32 := 0#32
  ![v773.toNat, 1536, 0]

def k0_off29 (v18_0 : BitVec 32) (k0_t3 : Fin (k0_t3_loop v18_0).trips) : Fin 3 → Nat :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let c1_i32_25 : BitVec 32 := 1#32
  let arg20 : BitVec 32 := Scf.iv v31 c1_i32_25 k0_t3
  let c8_i32_318 : BitVec 32 := 8#32
  let c0_i32_319 : BitVec 32 := 0#32
  let v774 : BitVec 1 := Scalar.cmpi .eq c8_i32_318 c0_i32_319
  let c1_i32_320 : BitVec 32 := 1#32
  let v775 : BitVec 32 := Scalar.select v774 c1_i32_320 c8_i32_318
  let v776 : BitVec 32 := Scalar.remsi arg20 v775
  let c0_i32_322 : BitVec 32 := 0#32
  let v778 : BitVec 1 := Scalar.cmpi .slt v776 c0_i32_322
  let c0_i32_323 : BitVec 32 := 0#32
  let v779 : BitVec 1 := Scalar.cmpi .slt v775 c0_i32_323
  let v780 : BitVec 1 := Scalar.xori v778 v779
  let c0_i32_321 : BitVec 32 := 0#32
  let v777 : BitVec 1 := Scalar.cmpi .ne v776 c0_i32_321
  let v781 : BitVec 1 := Scalar.andi v780 v777
  let v782 : BitVec 32 := Scalar.addi v776 v775
  let v783 : BitVec 32 := Scalar.select v781 v782 v776
  let c1536_i32_327 : BitVec 32 := 1536#32
  let c0_i32_328 : BitVec 32 := 0#32
  ![v783.toNat, 1536, 0]
def k0_cond8 (v18_0 : BitVec 32) (k0_t3 : Fin (k0_t3_loop v18_0).trips) : BitVec 1 :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let c1_i32_25 : BitVec 32 := 1#32
  let arg20 : BitVec 32 := Scf.iv v31 c1_i32_25 k0_t3
  let c1_i32_16 : BitVec 32 := 1#32
  let v19 : BitVec 32 := Scalar.subi v18_0 c1_i32_16
  let v787 : BitVec 1 := Scalar.cmpi .eq arg20 v19
  let v788 : BitVec 32 := Scalar.extui v787
  let c0_i32_325 : BitVec 32 := 0#32
  let v789 : BitVec 1 := Scalar.cmpi .ne v788 c0_i32_325
  v789

def k0_off30 (v773 : BitVec 32) : Fin 3 → Nat :=
  let c1536_i32_329 : BitVec 32 := 1536#32
  let c0_i32_330 : BitVec 32 := 0#32
  ![v773.toNat, 1536, 0]
def k0_off31 (v18_0 : BitVec 32) (k0_t3 : Fin (k0_t3_loop v18_0).trips) : Fin 3 → Nat :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let c1_i32_25 : BitVec 32 := 1#32
  let arg20 : BitVec 32 := Scf.iv v31 c1_i32_25 k0_t3
  let c8_i32_318 : BitVec 32 := 8#32
  let c0_i32_319 : BitVec 32 := 0#32
  let v774 : BitVec 1 := Scalar.cmpi .eq c8_i32_318 c0_i32_319
  let c1_i32_320 : BitVec 32 := 1#32
  let v775 : BitVec 32 := Scalar.select v774 c1_i32_320 c8_i32_318
  let v776 : BitVec 32 := Scalar.remsi arg20 v775
  let c0_i32_322 : BitVec 32 := 0#32
  let v778 : BitVec 1 := Scalar.cmpi .slt v776 c0_i32_322
  let c0_i32_323 : BitVec 32 := 0#32
  let v779 : BitVec 1 := Scalar.cmpi .slt v775 c0_i32_323
  let v780 : BitVec 1 := Scalar.xori v778 v779
  let c0_i32_321 : BitVec 32 := 0#32
  let v777 : BitVec 1 := Scalar.cmpi .ne v776 c0_i32_321
  let v781 : BitVec 1 := Scalar.andi v780 v777
  let v782 : BitVec 32 := Scalar.addi v776 v775
  let v783 : BitVec 32 := Scalar.select v781 v782 v776
  let c2304_i32_332 : BitVec 32 := 2304#32
  let c0_i32_333 : BitVec 32 := 0#32
  ![v783.toNat, 2304, 0]
def k0_off32 (v773 : BitVec 32) : Fin 3 → Nat :=
  let c2304_i32_334 : BitVec 32 := 2304#32
  let c0_i32_335 : BitVec 32 := 0#32
  ![v773.toNat, 2304, 0]
def k0_off33 (v18_0 : BitVec 32) (k0_t3 : Fin (k0_t3_loop v18_0).trips) : Fin 3 → Nat :=
  let c1_i32_22 : BitVec 32 := 1#32
  let c8_i32 : BitVec 32 := 8#32
  let v26 : BitVec 32 := Scalar.minsi v18_0 c8_i32
  let v27 : BitVec 32 := Scalar.subi v26 c1_i32_22
  let c1_i32_23 : BitVec 32 := 1#32
  let v29 : BitVec 32 := Scalar.divsi v27 c1_i32_23
  let v30 : BitVec 32 := Scalar.muli v29 c1_i32_23
  let v31 : BitVec 32 := Scalar.addi c1_i32_22 v30
  let c1_i32_25 : BitVec 32 := 1#32
  let arg20 : BitVec 32 := Scf.iv v31 c1_i32_25 k0_t3
  let c8_i32_318 : BitVec 32 := 8#32
  let c0_i32_319 : BitVec 32 := 0#32
  let v774 : BitVec 1 := Scalar.cmpi .eq c8_i32_318 c0_i32_319
  let c1_i32_320 : BitVec 32 := 1#32
  let v775 : BitVec 32 := Scalar.select v774 c1_i32_320 c8_i32_318
  let v776 : BitVec 32 := Scalar.remsi arg20 v775
  let c0_i32_322 : BitVec 32 := 0#32
  let v778 : BitVec 1 := Scalar.cmpi .slt v776 c0_i32_322
  let c0_i32_323 : BitVec 32 := 0#32
  let v779 : BitVec 1 := Scalar.cmpi .slt v775 c0_i32_323
  let v780 : BitVec 1 := Scalar.xori v778 v779
  let c0_i32_321 : BitVec 32 := 0#32
  let v777 : BitVec 1 := Scalar.cmpi .ne v776 c0_i32_321
  let v781 : BitVec 1 := Scalar.andi v780 v777
  let v782 : BitVec 32 := Scalar.addi v776 v775
  let v783 : BitVec 32 := Scalar.select v781 v782 v776
  let c2816_i32_337 : BitVec 32 := 2816#32
  let c0_i32_338 : BitVec 32 := 0#32
  ![v783.toNat, 2816, 0]
def k0_off34 (v773 : BitVec 32) : Fin 3 → Nat :=
  let c2816_i32_339 : BitVec 32 := 2816#32
  let c0_i32_340 : BitVec 32 := 0#32
  ![v773.toNat, 2816, 0]

def k0_chk7 (v18_0 : BitVec 32) (k0_t3 : Fin (k0_t3_loop v18_0).trips) (v773 : BitVec 32) : Prop :=
  (∀ (k0_h7 : k0_cond7 v18_0 k0_t3 = 1#1), ∀ a, (k0_off28 v773) a + S1x1536x1408.size a ≤ S16x3072x1408.size a) ∧
  (∀ (k0_h7 : k0_cond7 v18_0 k0_t3 = 1#1), ∀ (hinb : ∀ a, (k0_off28 v773) a + S1x1536x1408.size a ≤ S16x3072x1408.size a), (Rect.unit (s := S16x3072x1408) (k0_off28 v773) S1x1536x1408.size hinb).WholeWords (EltTy.packing .fp8e4m3)) ∧
  (∀ (k0_h8 : k0_cond8 v18_0 k0_t3 = 1#1), ∀ a, (k0_off30 v773) a + S1x768x1408.size a ≤ S16x3072x1408.size a) ∧
  (∀ (k0_h8 : k0_cond8 v18_0 k0_t3 = 1#1), ∀ (hinb : ∀ a, (k0_off30 v773) a + S1x768x1408.size a ≤ S16x3072x1408.size a), (Rect.unit (s := S16x3072x1408) (k0_off30 v773) S1x768x1408.size hinb).WholeWords (EltTy.packing .fp8e4m3)) ∧
  (∀ (k0_h8 : k0_cond8 v18_0 k0_t3 = 1#1), ∀ a, (k0_off32 v773) a + S1x512x1408.size a ≤ S16x3072x1408.size a) ∧
  (∀ (k0_h8 : k0_cond8 v18_0 k0_t3 = 1#1), ∀ (hinb : ∀ a, (k0_off32 v773) a + S1x512x1408.size a ≤ S16x3072x1408.size a), (Rect.unit (s := S16x3072x1408) (k0_off32 v773) S1x512x1408.size hinb).WholeWords (EltTy.packing .fp8e4m3)) ∧
  (∀ (k0_h8 : k0_cond8 v18_0 k0_t3 = 1#1), ∀ a, (k0_off34 v773) a + S1x256x1408.size a ≤ S16x3072x1408.size a) ∧
  (∀ (k0_h8 : k0_cond8 v18_0 k0_t3 = 1#1), ∀ (hinb : ∀ a, (k0_off34 v773) a + S1x256x1408.size a ≤ S16x3072x1408.size a), (Rect.unit (s := S16x3072x1408) (k0_off34 v773) S1x256x1408.size hinb).WholeWords (EltTy.packing .fp8e4m3))
theorem k0_off28_inb : ∀ (v18_0 : BitVec 32) (k0_t3 : Fin (k0_t3_loop v18_0).trips) (v773 : BitVec 32) (k0_hw7 : k0_chk7 v18_0 k0_t3 v773), ∀ (k0_h7 : k0_cond7 v18_0 k0_t3 = 1#1), ∀ a, (k0_off28 v773) a + S1x1536x1408.size a ≤ S16x3072x1408.size a := fun v18_0 k0_t3 v773 k0_hw7 k0_h7 => k0_hw7.1 k0_h7
theorem k0_off28_wordsfp8e4m3 : ∀ (v18_0 : BitVec 32) (k0_t3 : Fin (k0_t3_loop v18_0).trips) (v773 : BitVec 32) (k0_hw7 : k0_chk7 v18_0 k0_t3 v773), ∀ (k0_h7 : k0_cond7 v18_0 k0_t3 = 1#1), (Rect.unit (s := S16x3072x1408) (k0_off28 v773) S1x1536x1408.size (k0_off28_inb v18_0 k0_t3 v773 k0_hw7 k0_h7)).WholeWords (EltTy.packing .fp8e4m3) := fun v18_0 k0_t3 v773 k0_hw7 k0_h7 => k0_hw7.2.1 k0_h7 (k0_off28_inb v18_0 k0_t3 v773 k0_hw7 k0_h7)
theorem k0_off30_inb : ∀ (v18_0 : BitVec 32) (k0_t3 : Fin (k0_t3_loop v18_0).trips) (v773 : BitVec 32) (k0_hw7 : k0_chk7 v18_0 k0_t3 v773), ∀ (k0_h8 : k0_cond8 v18_0 k0_t3 = 1#1), ∀ a, (k0_off30 v773) a + S1x768x1408.size a ≤ S16x3072x1408.size a := fun v18_0 k0_t3 v773 k0_hw7 k0_h8 => k0_hw7.2.2.1 k0_h8
theorem k0_off30_wordsfp8e4m3 : ∀ (v18_0 : BitVec 32) (k0_t3 : Fin (k0_t3_loop v18_0).trips) (v773 : BitVec 32) (k0_hw7 : k0_chk7 v18_0 k0_t3 v773), ∀ (k0_h8 : k0_cond8 v18_0 k0_t3 = 1#1), (Rect.unit (s := S16x3072x1408) (k0_off30 v773) S1x768x1408.size (k0_off30_inb v18_0 k0_t3 v773 k0_hw7 k0_h8)).WholeWords (EltTy.packing .fp8e4m3) := fun v18_0 k0_t3 v773 k0_hw7 k0_h8 => k0_hw7.2.2.2.1 k0_h8 (k0_off30_inb v18_0 k0_t3 v773 k0_hw7 k0_h8)
theorem k0_off32_inb : ∀ (v18_0 : BitVec 32) (k0_t3 : Fin (k0_t3_loop v18_0).trips) (v773 : BitVec 32) (k0_hw7 : k0_chk7 v18_0 k0_t3 v773), ∀ (k0_h8 : k0_cond8 v18_0 k0_t3 = 1#1), ∀ a, (k0_off32 v773) a + S1x512x1408.size a ≤ S16x3072x1408.size a := fun v18_0 k0_t3 v773 k0_hw7 k0_h8 => k0_hw7.2.2.2.2.1 k0_h8
theorem k0_off32_wordsfp8e4m3 : ∀ (v18_0 : BitVec 32) (k0_t3 : Fin (k0_t3_loop v18_0).trips) (v773 : BitVec 32) (k0_hw7 : k0_chk7 v18_0 k0_t3 v773), ∀ (k0_h8 : k0_cond8 v18_0 k0_t3 = 1#1), (Rect.unit (s := S16x3072x1408) (k0_off32 v773) S1x512x1408.size (k0_off32_inb v18_0 k0_t3 v773 k0_hw7 k0_h8)).WholeWords (EltTy.packing .fp8e4m3) := fun v18_0 k0_t3 v773 k0_hw7 k0_h8 => k0_hw7.2.2.2.2.2.1 k0_h8 (k0_off32_inb v18_0 k0_t3 v773 k0_hw7 k0_h8)
theorem k0_off34_inb : ∀ (v18_0 : BitVec 32) (k0_t3 : Fin (k0_t3_loop v18_0).trips) (v773 : BitVec 32) (k0_hw7 : k0_chk7 v18_0 k0_t3 v773), ∀ (k0_h8 : k0_cond8 v18_0 k0_t3 = 1#1), ∀ a, (k0_off34 v773) a + S1x256x1408.size a ≤ S16x3072x1408.size a := fun v18_0 k0_t3 v773 k0_hw7 k0_h8 => k0_hw7.2.2.2.2.2.2.1 k0_h8
theorem k0_off34_wordsfp8e4m3 : ∀ (v18_0 : BitVec 32) (k0_t3 : Fin (k0_t3_loop v18_0).trips) (v773 : BitVec 32) (k0_hw7 : k0_chk7 v18_0 k0_t3 v773), ∀ (k0_h8 : k0_cond8 v18_0 k0_t3 = 1#1), (Rect.unit (s := S16x3072x1408) (k0_off34 v773) S1x256x1408.size (k0_off34_inb v18_0 k0_t3 v773 k0_hw7 k0_h8)).WholeWords (EltTy.packing .fp8e4m3) := fun v18_0 k0_t3 v773 k0_hw7 k0_h8 => k0_hw7.2.2.2.2.2.2.2 k0_h8 (k0_off34_inb v18_0 k0_t3 v773 k0_hw7 k0_h8)

@[reducible] def k0_t4_loop (v18_0 : BitVec 32) : Scf.Loop 32 :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_234 : BitVec 32 := 1#32
  ⟨c0_i32_231, v628, c1_i32_234⟩
def k0_off35 (v18_0 : BitVec 32) (k0_t4 : Fin (k0_t4_loop v18_0).trips) : Fin 1 → Nat :=
  let c0_i32_231 : BitVec 32 := 0#32
  let c1_i32_234 : BitVec 32 := 1#32
  let arg20 : BitVec 32 := Scf.iv c0_i32_231 c1_i32_234 k0_t4
  let v754 : Index := Scalar.indexCast arg20
  ![v754.toNat]
def k0_off36 (v18_0 : BitVec 32) (k0_t4 : Fin (k0_t4_loop v18_0).trips) : Fin 1 → Nat :=
  let c0_i32_231 : BitVec 32 := 0#32
  let c1_i32_234 : BitVec 32 := 1#32
  let arg20 : BitVec 32 := Scf.iv c0_i32_231 c1_i32_234 k0_t4
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  ![v765.toNat]
def k0_off37 (v18_0 : BitVec 32) (k0_t4 : Fin (k0_t4_loop v18_0).trips) : Fin 3 → Nat :=
  let c0_i32_231 : BitVec 32 := 0#32
  let c1_i32_234 : BitVec 32 := 1#32
  let arg20 : BitVec 32 := Scf.iv c0_i32_231 c1_i32_234 k0_t4
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  let c0_i32_314 : BitVec 32 := 0#32
  let c0_i32_315 : BitVec 32 := 0#32
  ![v765.toNat, 0, 0]
def k0_off38 (v755 : BitVec 32) : Fin 3 → Nat :=
  let c0_i32_316 : BitVec 32 := 0#32
  let c0_i32_317 : BitVec 32 := 0#32
  ![v755.toNat, 0, 0]

def k0_off39 (v755 : BitVec 32) : Fin 1 → Nat :=
  let v772 : Index := Scalar.indexCast v755
  ![v772.toNat]
def k0_off40 (v18_0 : BitVec 32) (k0_t4 : Fin (k0_t4_loop v18_0).trips) : Fin 1 → Nat :=
  let c0_i32_231 : BitVec 32 := 0#32
  let c1_i32_234 : BitVec 32 := 1#32
  let arg20 : BitVec 32 := Scf.iv c0_i32_231 c1_i32_234 k0_t4
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  ![v765.toNat]
def k0_cond9 (v773 : BitVec 32) : BitVec 1 :=
  let c0_i32_318 : BitVec 32 := 0#32
  let v774 : BitVec 1 := Scalar.cmpi .sgt v773 c0_i32_318
  let v775 : BitVec 32 := Scalar.extui v774
  let c0_i32_319 : BitVec 32 := 0#32
  let v776 : BitVec 1 := Scalar.cmpi .ne v775 c0_i32_319
  v776

def k0_off41 (v18_0 : BitVec 32) (k0_t4 : Fin (k0_t4_loop v18_0).trips) : Fin 3 → Nat :=
  let c0_i32_231 : BitVec 32 := 0#32
  let c1_i32_234 : BitVec 32 := 1#32
  let arg20 : BitVec 32 := Scf.iv c0_i32_231 c1_i32_234 k0_t4
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  let c1536_i32_341 : BitVec 32 := 1536#32
  let c0_i32_342 : BitVec 32 := 0#32
  ![v765.toNat, 1536, 0]
def k0_off42 (v755 : BitVec 32) : Fin 3 → Nat :=
  let c1536_i32_343 : BitVec 32 := 1536#32
  let c0_i32_344 : BitVec 32 := 0#32
  ![v755.toNat, 1536, 0]

def k0_chk9 (v18_0 : BitVec 32) (k0_t4 : Fin (k0_t4_loop v18_0).trips) (v755 : BitVec 32) (v773 : BitVec 32) : Prop :=
  (∀ (k0_h9 : k0_cond9 v773 = 1#1), ∀ a, (k0_off40 v18_0 k0_t4) a + S1.size a ≤ S8.size a) ∧
  (∀ (k0_h9 : k0_cond9 v773 = 1#1), ∀ a, (k0_off41 v18_0 k0_t4) a + S1x1536x1408.size a ≤ S8x3072x1408.size a) ∧
  (∀ (k0_h9 : k0_cond9 v773 = 1#1), ∀ a, (k0_off42 v755) a + S1x1536x1408.size a ≤ S16x3072x1408.size a) ∧
  (∀ (k0_h9 : k0_cond9 v773 = 1#1), ∀ (hinb : ∀ a, (k0_off42 v755) a + S1x1536x1408.size a ≤ S16x3072x1408.size a), (Rect.unit (s := S16x3072x1408) (k0_off42 v755) S1x1536x1408.size hinb).WholeWords (EltTy.packing .fp8e4m3)) ∧
  (∀ (k0_h9 : k0_cond9 v773 = 1#1), ∀ (hinb : ∀ a, (k0_off41 v18_0 k0_t4) a + S1x1536x1408.size a ≤ S8x3072x1408.size a), (Rect.unit (s := S8x3072x1408) (k0_off41 v18_0 k0_t4) S1x1536x1408.size hinb).WholeWords (EltTy.packing .fp8e4m3))
theorem k0_off40_inb : ∀ (v18_0 : BitVec 32) (k0_t4 : Fin (k0_t4_loop v18_0).trips) (v755 : BitVec 32) (v773 : BitVec 32) (k0_hw9 : k0_chk9 v18_0 k0_t4 v755 v773), ∀ (k0_h9 : k0_cond9 v773 = 1#1), ∀ a, (k0_off40 v18_0 k0_t4) a + S1.size a ≤ S8.size a := fun v18_0 k0_t4 v755 v773 k0_hw9 k0_h9 => k0_hw9.1 k0_h9
theorem k0_off41_inb : ∀ (v18_0 : BitVec 32) (k0_t4 : Fin (k0_t4_loop v18_0).trips) (v755 : BitVec 32) (v773 : BitVec 32) (k0_hw9 : k0_chk9 v18_0 k0_t4 v755 v773), ∀ (k0_h9 : k0_cond9 v773 = 1#1), ∀ a, (k0_off41 v18_0 k0_t4) a + S1x1536x1408.size a ≤ S8x3072x1408.size a := fun v18_0 k0_t4 v755 v773 k0_hw9 k0_h9 => k0_hw9.2.1 k0_h9
theorem k0_off42_inb : ∀ (v18_0 : BitVec 32) (k0_t4 : Fin (k0_t4_loop v18_0).trips) (v755 : BitVec 32) (v773 : BitVec 32) (k0_hw9 : k0_chk9 v18_0 k0_t4 v755 v773), ∀ (k0_h9 : k0_cond9 v773 = 1#1), ∀ a, (k0_off42 v755) a + S1x1536x1408.size a ≤ S16x3072x1408.size a := fun v18_0 k0_t4 v755 v773 k0_hw9 k0_h9 => k0_hw9.2.2.1 k0_h9
theorem k0_off42_wordsfp8e4m3 : ∀ (v18_0 : BitVec 32) (k0_t4 : Fin (k0_t4_loop v18_0).trips) (v755 : BitVec 32) (v773 : BitVec 32) (k0_hw9 : k0_chk9 v18_0 k0_t4 v755 v773), ∀ (k0_h9 : k0_cond9 v773 = 1#1), (Rect.unit (s := S16x3072x1408) (k0_off42 v755) S1x1536x1408.size (k0_off42_inb v18_0 k0_t4 v755 v773 k0_hw9 k0_h9)).WholeWords (EltTy.packing .fp8e4m3) := fun v18_0 k0_t4 v755 v773 k0_hw9 k0_h9 => k0_hw9.2.2.2.1 k0_h9 (k0_off42_inb v18_0 k0_t4 v755 v773 k0_hw9 k0_h9)
theorem k0_off41_wordsfp8e4m3 : ∀ (v18_0 : BitVec 32) (k0_t4 : Fin (k0_t4_loop v18_0).trips) (v755 : BitVec 32) (v773 : BitVec 32) (k0_hw9 : k0_chk9 v18_0 k0_t4 v755 v773), ∀ (k0_h9 : k0_cond9 v773 = 1#1), (Rect.unit (s := S8x3072x1408) (k0_off41 v18_0 k0_t4) S1x1536x1408.size (k0_off41_inb v18_0 k0_t4 v755 v773 k0_hw9 k0_h9)).WholeWords (EltTy.packing .fp8e4m3) := fun v18_0 k0_t4 v755 v773 k0_hw9 k0_h9 => k0_hw9.2.2.2.2 k0_h9 (k0_off41_inb v18_0 k0_t4 v755 v773 k0_hw9 k0_h9)

def k0_off43 (v18_0 : BitVec 32) (k0_t4 : Fin (k0_t4_loop v18_0).trips) : Fin 1 → Nat :=
  let c0_i32_231 : BitVec 32 := 0#32
  let c1_i32_234 : BitVec 32 := 1#32
  let arg20 : BitVec 32 := Scf.iv c0_i32_231 c1_i32_234 k0_t4
  let v777 : Index := Scalar.indexCast arg20
  ![v777.toNat]
def k0_off44 (v780 : BitVec 32) : Fin 1 → Nat :=
  let v781 : Index := Scalar.indexCast v780
  ![v781.toNat]

def k0_chk10 (v780 : BitVec 32) : Prop :=
  (∀ a, (k0_off44 v780) a + S1.size a ≤ S16.size a)
theorem k0_off44_inb : ∀ (v780 : BitVec 32) (k0_hw10 : k0_chk10 v780), ∀ a, (k0_off44 v780) a + S1.size a ≤ S16.size a := fun v780 k0_hw10 => k0_hw10

@[reducible] def k0_t5_loop (v778 : BitVec 32) (v782 : BitVec 32) : Scf.Loop 32 :=
  let c0_i32_324 : BitVec 32 := 0#32
  let v783 : BitVec 32 := Scalar.addi v778 v782
  let c_m32_i32_320 : BitVec 32 := 4294967264#32
  let v784 : BitVec 32 := Scalar.andi v778 c_m32_i32_320
  let v785 : BitVec 32 := Scalar.subi v783 v784
  let c63_i32_321 : BitVec 32 := 63#32
  let v786 : BitVec 32 := Scalar.addi v785 c63_i32_321
  let c64_i32_322 : BitVec 32 := 64#32
  let v787 : BitVec 32 := Scalar.divsi v786 c64_i32_322
  let v788 : BitVec 32 := Scalar.subi v787 c0_i32_324
  let c1_i32_325 : BitVec 32 := 1#32
  let v790 : BitVec 32 := Scalar.divsi v788 c1_i32_325
  let v791 : BitVec 32 := Scalar.muli v790 c1_i32_325
  let v792 : BitVec 32 := Scalar.addi c0_i32_324 v791
  let c1_i32_326 : BitVec 32 := 1#32
  ⟨c0_i32_324, v792, c1_i32_326⟩

def k0_mult1 (v778 : BitVec 32) (v782 : BitVec 32) (k0_t5 : Fin (k0_t5_loop v778 v782).trips) : BitVec 32 :=
  let c_m32_i32_320 : BitVec 32 := 4294967264#32
  let v784 : BitVec 32 := Scalar.andi v778 c_m32_i32_320
  let c0_i32_324 : BitVec 32 := 0#32
  let c1_i32_326 : BitVec 32 := 1#32
  let arg22 : BitVec 32 := Scf.iv c0_i32_324 c1_i32_326 k0_t5
  let c64_i32_341 : BitVec 32 := 64#32
  let v824 : BitVec 32 := Scalar.muli arg22 c64_i32_341
  let v825 : BitVec 32 := Scalar.addi v784 v824
  v825
def k0_off45 (v778 : BitVec 32) (v782 : BitVec 32) (k0_t5 : Fin (k0_t5_loop v778 v782).trips) : Fin 2 → Nat :=
  let c_m32_i32_320 : BitVec 32 := 4294967264#32
  let v784 : BitVec 32 := Scalar.andi v778 c_m32_i32_320
  let c0_i32_324 : BitVec 32 := 0#32
  let c1_i32_326 : BitVec 32 := 1#32
  let arg22 : BitVec 32 := Scf.iv c0_i32_324 c1_i32_326 k0_t5
  let c64_i32_341 : BitVec 32 := 64#32
  let v824 : BitVec 32 := Scalar.muli arg22 c64_i32_341
  let v825 : BitVec 32 := Scalar.addi v784 v824
  let v826 : BitVec 32 := v825
  let v827 : Index := Scalar.indexCast v826
  let c0_342 : Index := 0#32
  ![v827.toNat, 0]
def k0_off46 (v18_0 : BitVec 32) (k0_t4 : Fin (k0_t4_loop v18_0).trips) : Fin 3 → Nat :=
  let c0_i32_231 : BitVec 32 := 0#32
  let c1_i32_234 : BitVec 32 := 1#32
  let arg20 : BitVec 32 := Scf.iv c0_i32_231 c1_i32_234 k0_t4
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  let v829 : Index := Scalar.indexCast v765
  let c0_343 : Index := 0#32
  let c0_344 : Index := 0#32
  ![v829.toNat, 0, 0]
def k0_off47 (v18_0 : BitVec 32) (k0_t4 : Fin (k0_t4_loop v18_0).trips) : Fin 1 → Nat :=
  let c0_i32_231 : BitVec 32 := 0#32
  let c1_i32_234 : BitVec 32 := 1#32
  let arg20 : BitVec 32 := Scf.iv c0_i32_231 c1_i32_234 k0_t4
  let v833 : Index := Scalar.indexCast arg20
  ![v833.toNat]
def k0_off48 (v778 : BitVec 32) (v782 : BitVec 32) (k0_t5 : Fin (k0_t5_loop v778 v782).trips) : Fin 2 → Nat :=
  let c_m32_i32_320 : BitVec 32 := 4294967264#32
  let v784 : BitVec 32 := Scalar.andi v778 c_m32_i32_320
  let c0_i32_324 : BitVec 32 := 0#32
  let c1_i32_326 : BitVec 32 := 1#32
  let arg22 : BitVec 32 := Scf.iv c0_i32_324 c1_i32_326 k0_t5
  let c64_i32_341 : BitVec 32 := 64#32
  let v824 : BitVec 32 := Scalar.muli arg22 c64_i32_341
  let v825 : BitVec 32 := Scalar.addi v784 v824
  let v826 : BitVec 32 := v825
  let v837 : Index := Scalar.indexCast v826
  let c0_346 : Index := 0#32
  ![v837.toNat, 0]
def k0_off49 (v834 : BitVec 32) : Fin 3 → Nat :=
  let v841 : Index := Scalar.indexCast v834
  let c0_347 : Index := 0#32
  let c0_348 : Index := 0#32
  ![v841.toNat, 0, 0]

def k0_off50 (v834 : BitVec 32) : Fin 1 → Nat :=
  let v851 : Index := Scalar.indexCast v834
  ![v851.toNat]

def k0_chk12 (v834 : BitVec 32) : Prop :=
  (∀ a, (k0_off49 v834) a + S1x1x1408.size a ≤ S16x1x1408.size a) ∧
  (∀ a, (k0_off50 v834) a + S1.size a ≤ S16.size a)
theorem k0_off49_inb : ∀ (v834 : BitVec 32) (k0_hw12 : k0_chk12 v834), ∀ a, (k0_off49 v834) a + S1x1x1408.size a ≤ S16x1x1408.size a := fun v834 k0_hw12 => k0_hw12.1
theorem k0_off50_inb : ∀ (v834 : BitVec 32) (k0_hw12 : k0_chk12 v834), ∀ a, (k0_off50 v834) a + S1.size a ≤ S16.size a := fun v834 k0_hw12 => k0_hw12.2

def k0_off51 (v778 : BitVec 32) (v782 : BitVec 32) (k0_t5 : Fin (k0_t5_loop v778 v782).trips) : Fin 2 → Nat :=
  let c_m32_i32_320 : BitVec 32 := 4294967264#32
  let v784 : BitVec 32 := Scalar.andi v778 c_m32_i32_320
  let c0_i32_324 : BitVec 32 := 0#32
  let c1_i32_326 : BitVec 32 := 1#32
  let arg22 : BitVec 32 := Scf.iv c0_i32_324 c1_i32_326 k0_t5
  let c64_i32_341 : BitVec 32 := 64#32
  let v824 : BitVec 32 := Scalar.muli arg22 c64_i32_341
  let v825 : BitVec 32 := Scalar.addi v784 v824
  let v826 : BitVec 32 := v825
  let v857 : Index := Scalar.indexCast v826
  let c0_349 : Index := 0#32
  ![v857.toNat, 0]
@[reducible] def k0_t6_loop (v778 : BitVec 32) (v782 : BitVec 32) : Scf.Loop 32 :=
  let c0_i32_324 : BitVec 32 := 0#32
  let v783 : BitVec 32 := Scalar.addi v778 v782
  let c_m32_i32_320 : BitVec 32 := 4294967264#32
  let v784 : BitVec 32 := Scalar.andi v778 c_m32_i32_320
  let v785 : BitVec 32 := Scalar.subi v783 v784
  let c63_i32_321 : BitVec 32 := 63#32
  let v786 : BitVec 32 := Scalar.addi v785 c63_i32_321
  let c64_i32_322 : BitVec 32 := 64#32
  let v787 : BitVec 32 := Scalar.divsi v786 c64_i32_322
  let v788 : BitVec 32 := Scalar.subi v787 c0_i32_324
  let c1_i32_325 : BitVec 32 := 1#32
  let v790 : BitVec 32 := Scalar.divsi v788 c1_i32_325
  let v791 : BitVec 32 := Scalar.muli v790 c1_i32_325
  let v792 : BitVec 32 := Scalar.addi c0_i32_324 v791
  let v789 : BitVec 32 := Scalar.addi c0_i32_324 v788
  let c1_i32_327 : BitVec 32 := 1#32
  ⟨v792, v789, c1_i32_327⟩
def k0_mult2 (v778 : BitVec 32) (v782 : BitVec 32) (k0_t6 : Fin (k0_t6_loop v778 v782).trips) : BitVec 32 :=
  let c_m32_i32_320 : BitVec 32 := 4294967264#32
  let v784 : BitVec 32 := Scalar.andi v778 c_m32_i32_320
  let c0_i32_324 : BitVec 32 := 0#32
  let v783 : BitVec 32 := Scalar.addi v778 v782
  let v785 : BitVec 32 := Scalar.subi v783 v784
  let c63_i32_321 : BitVec 32 := 63#32
  let v786 : BitVec 32 := Scalar.addi v785 c63_i32_321
  let c64_i32_322 : BitVec 32 := 64#32
  let v787 : BitVec 32 := Scalar.divsi v786 c64_i32_322
  let v788 : BitVec 32 := Scalar.subi v787 c0_i32_324
  let c1_i32_325 : BitVec 32 := 1#32
  let v790 : BitVec 32 := Scalar.divsi v788 c1_i32_325
  let v791 : BitVec 32 := Scalar.muli v790 c1_i32_325
  let v792 : BitVec 32 := Scalar.addi c0_i32_324 v791
  let c1_i32_327 : BitVec 32 := 1#32
  let arg22 : BitVec 32 := Scf.iv v792 c1_i32_327 k0_t6
  let c64_i32_341 : BitVec 32 := 64#32
  let v824 : BitVec 32 := Scalar.muli arg22 c64_i32_341
  let v825 : BitVec 32 := Scalar.addi v784 v824
  v825
def k0_off52 (v778 : BitVec 32) (v782 : BitVec 32) (k0_t6 : Fin (k0_t6_loop v778 v782).trips) : Fin 2 → Nat :=
  let c_m32_i32_320 : BitVec 32 := 4294967264#32
  let v784 : BitVec 32 := Scalar.andi v778 c_m32_i32_320
  let c0_i32_324 : BitVec 32 := 0#32
  let v783 : BitVec 32 := Scalar.addi v778 v782
  let v785 : BitVec 32 := Scalar.subi v783 v784
  let c63_i32_321 : BitVec 32 := 63#32
  let v786 : BitVec 32 := Scalar.addi v785 c63_i32_321
  let c64_i32_322 : BitVec 32 := 64#32
  let v787 : BitVec 32 := Scalar.divsi v786 c64_i32_322
  let v788 : BitVec 32 := Scalar.subi v787 c0_i32_324
  let c1_i32_325 : BitVec 32 := 1#32
  let v790 : BitVec 32 := Scalar.divsi v788 c1_i32_325
  let v791 : BitVec 32 := Scalar.muli v790 c1_i32_325
  let v792 : BitVec 32 := Scalar.addi c0_i32_324 v791
  let c1_i32_327 : BitVec 32 := 1#32
  let arg22 : BitVec 32 := Scf.iv v792 c1_i32_327 k0_t6
  let c64_i32_341 : BitVec 32 := 64#32
  let v824 : BitVec 32 := Scalar.muli arg22 c64_i32_341
  let v825 : BitVec 32 := Scalar.addi v784 v824
  let v826 : BitVec 32 := v825
  let v827 : Index := Scalar.indexCast v826
  let c0_342 : Index := 0#32
  ![v827.toNat, 0]
def k0_off53 (v18_0 : BitVec 32) (k0_t4 : Fin (k0_t4_loop v18_0).trips) : Fin 3 → Nat :=
  let c0_i32_231 : BitVec 32 := 0#32
  let c1_i32_234 : BitVec 32 := 1#32
  let arg20 : BitVec 32 := Scf.iv c0_i32_231 c1_i32_234 k0_t4
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  let v829 : Index := Scalar.indexCast v765
  let c0_343 : Index := 0#32
  let c0_344 : Index := 0#32
  ![v829.toNat, 0, 0]
def k0_off54 (v18_0 : BitVec 32) (k0_t4 : Fin (k0_t4_loop v18_0).trips) : Fin 1 → Nat :=
  let c0_i32_231 : BitVec 32 := 0#32
  let c1_i32_234 : BitVec 32 := 1#32
  let arg20 : BitVec 32 := Scf.iv c0_i32_231 c1_i32_234 k0_t4
  let v833 : Index := Scalar.indexCast arg20
  ![v833.toNat]
def k0_off55 (v778 : BitVec 32) (v782 : BitVec 32) (k0_t6 : Fin (k0_t6_loop v778 v782).trips) : Fin 2 → Nat :=
  let c_m32_i32_320 : BitVec 32 := 4294967264#32
  let v784 : BitVec 32 := Scalar.andi v778 c_m32_i32_320
  let c0_i32_324 : BitVec 32 := 0#32
  let v783 : BitVec 32 := Scalar.addi v778 v782
  let v785 : BitVec 32 := Scalar.subi v783 v784
  let c63_i32_321 : BitVec 32 := 63#32
  let v786 : BitVec 32 := Scalar.addi v785 c63_i32_321
  let c64_i32_322 : BitVec 32 := 64#32
  let v787 : BitVec 32 := Scalar.divsi v786 c64_i32_322
  let v788 : BitVec 32 := Scalar.subi v787 c0_i32_324
  let c1_i32_325 : BitVec 32 := 1#32
  let v790 : BitVec 32 := Scalar.divsi v788 c1_i32_325
  let v791 : BitVec 32 := Scalar.muli v790 c1_i32_325
  let v792 : BitVec 32 := Scalar.addi c0_i32_324 v791
  let c1_i32_327 : BitVec 32 := 1#32
  let arg22 : BitVec 32 := Scf.iv v792 c1_i32_327 k0_t6
  let c64_i32_341 : BitVec 32 := 64#32
  let v824 : BitVec 32 := Scalar.muli arg22 c64_i32_341
  let v825 : BitVec 32 := Scalar.addi v784 v824
  let v826 : BitVec 32 := v825
  let v837 : Index := Scalar.indexCast v826
  let c0_346 : Index := 0#32
  ![v837.toNat, 0]
def k0_off56 (v834 : BitVec 32) : Fin 3 → Nat :=
  let v841 : Index := Scalar.indexCast v834
  let c0_347 : Index := 0#32
  let c0_348 : Index := 0#32
  ![v841.toNat, 0, 0]

def k0_off57 (v834 : BitVec 32) : Fin 1 → Nat :=
  let v851 : Index := Scalar.indexCast v834
  ![v851.toNat]

def k0_chk13 (v834 : BitVec 32) : Prop :=
  (∀ a, (k0_off56 v834) a + S1x1x1408.size a ≤ S16x1x1408.size a) ∧
  (∀ a, (k0_off57 v834) a + S1.size a ≤ S16.size a)
theorem k0_off56_inb : ∀ (v834 : BitVec 32) (k0_hw13 : k0_chk13 v834), ∀ a, (k0_off56 v834) a + S1x1x1408.size a ≤ S16x1x1408.size a := fun v834 k0_hw13 => k0_hw13.1
theorem k0_off57_inb : ∀ (v834 : BitVec 32) (k0_hw13 : k0_chk13 v834), ∀ a, (k0_off57 v834) a + S1.size a ≤ S16.size a := fun v834 k0_hw13 => k0_hw13.2

def k0_off58 (v778 : BitVec 32) (v782 : BitVec 32) (k0_t6 : Fin (k0_t6_loop v778 v782).trips) : Fin 2 → Nat :=
  let c_m32_i32_320 : BitVec 32 := 4294967264#32
  let v784 : BitVec 32 := Scalar.andi v778 c_m32_i32_320
  let c0_i32_324 : BitVec 32 := 0#32
  let v783 : BitVec 32 := Scalar.addi v778 v782
  let v785 : BitVec 32 := Scalar.subi v783 v784
  let c63_i32_321 : BitVec 32 := 63#32
  let v786 : BitVec 32 := Scalar.addi v785 c63_i32_321
  let c64_i32_322 : BitVec 32 := 64#32
  let v787 : BitVec 32 := Scalar.divsi v786 c64_i32_322
  let v788 : BitVec 32 := Scalar.subi v787 c0_i32_324
  let c1_i32_325 : BitVec 32 := 1#32
  let v790 : BitVec 32 := Scalar.divsi v788 c1_i32_325
  let v791 : BitVec 32 := Scalar.muli v790 c1_i32_325
  let v792 : BitVec 32 := Scalar.addi c0_i32_324 v791
  let c1_i32_327 : BitVec 32 := 1#32
  let arg22 : BitVec 32 := Scf.iv v792 c1_i32_327 k0_t6
  let c64_i32_341 : BitVec 32 := 64#32
  let v824 : BitVec 32 := Scalar.muli arg22 c64_i32_341
  let v825 : BitVec 32 := Scalar.addi v784 v824
  let v826 : BitVec 32 := v825
  let v857 : Index := Scalar.indexCast v826
  let c0_349 : Index := 0#32
  ![v857.toNat, 0]

def k0_chk11 (v18_0 : BitVec 32) (k0_t4 : Fin (k0_t4_loop v18_0).trips) (v778 : BitVec 32) (v782 : BitVec 32) : Prop :=
  ((k0_t5_loop v778 v782).OK) ∧
  (∀ k0_t5 : Fin (k0_t5_loop v778 v782).trips, 32 ∣ (k0_mult1 v778 v782 k0_t5).toNat) ∧
  (∀ k0_t5 : Fin (k0_t5_loop v778 v782).trips, ∀ a, (k0_off45 v778 v782 k0_t5) a + S64x3072.size a ≤ S224x3072.size a) ∧
  (∀ k0_t5 : Fin (k0_t5_loop v778 v782).trips, ∀ a, (k0_off46 v18_0 k0_t4) a + S1x3072x1408.size a ≤ S8x3072x1408.size a) ∧
  (∀ k0_t5 : Fin (k0_t5_loop v778 v782).trips, ∀ a, (k0_off47 v18_0 k0_t4) a + S1.size a ≤ S16.size a) ∧
  (∀ k0_t5 : Fin (k0_t5_loop v778 v782).trips, ∀ a, (k0_off48 v778 v782 k0_t5) a + S64x1.size a ≤ S224x1.size a) ∧
  (∀ k0_t5 : Fin (k0_t5_loop v778 v782).trips, ∀ a, (k0_off51 v778 v782 k0_t5) a + S64x1408.size a ≤ S224x1408.size a) ∧
  (∀ k0_t5 : Fin (k0_t5_loop v778 v782).trips, ∀ (hinb : ∀ a, (k0_off51 v778 v782 k0_t5) a + S64x1408.size a ≤ S224x1408.size a), (Rect.unit (s := S224x1408) (k0_off51 v778 v782 k0_t5) S64x1408.size hinb).PackedRows (EltTy.packing .bf16)) ∧
  ((k0_t6_loop v778 v782).OK) ∧
  (∀ k0_t6 : Fin (k0_t6_loop v778 v782).trips, 32 ∣ (k0_mult2 v778 v782 k0_t6).toNat) ∧
  (∀ k0_t6 : Fin (k0_t6_loop v778 v782).trips, ∀ a, (k0_off52 v778 v782 k0_t6) a + S64x3072.size a ≤ S224x3072.size a) ∧
  (∀ k0_t6 : Fin (k0_t6_loop v778 v782).trips, ∀ a, (k0_off53 v18_0 k0_t4) a + S1x3072x1408.size a ≤ S8x3072x1408.size a) ∧
  (∀ k0_t6 : Fin (k0_t6_loop v778 v782).trips, ∀ a, (k0_off54 v18_0 k0_t4) a + S1.size a ≤ S16.size a) ∧
  (∀ k0_t6 : Fin (k0_t6_loop v778 v782).trips, ∀ a, (k0_off55 v778 v782 k0_t6) a + S64x1.size a ≤ S224x1.size a) ∧
  (∀ k0_t6 : Fin (k0_t6_loop v778 v782).trips, ∀ a, (k0_off58 v778 v782 k0_t6) a + S64x1408.size a ≤ S224x1408.size a) ∧
  (∀ k0_t6 : Fin (k0_t6_loop v778 v782).trips, ∀ (hinb : ∀ a, (k0_off58 v778 v782 k0_t6) a + S64x1408.size a ≤ S224x1408.size a), (Rect.unit (s := S224x1408) (k0_off58 v778 v782 k0_t6) S64x1408.size hinb).PackedRows (EltTy.packing .bf16))
theorem k0_t5_ok : ∀ (v18_0 : BitVec 32) (k0_t4 : Fin (k0_t4_loop v18_0).trips) (v778 : BitVec 32) (v782 : BitVec 32) (k0_hw11 : k0_chk11 v18_0 k0_t4 v778 v782), (k0_t5_loop v778 v782).OK := fun v18_0 k0_t4 v778 v782 k0_hw11 => k0_hw11.1
theorem k0_mult1_dvd : ∀ (v18_0 : BitVec 32) (k0_t4 : Fin (k0_t4_loop v18_0).trips) (v778 : BitVec 32) (v782 : BitVec 32) (k0_hw11 : k0_chk11 v18_0 k0_t4 v778 v782) (k0_t5 : Fin (k0_t5_loop v778 v782).trips), 32 ∣ (k0_mult1 v778 v782 k0_t5).toNat := fun v18_0 k0_t4 v778 v782 k0_hw11 k0_t5 => k0_hw11.2.1 k0_t5
theorem k0_off45_inb : ∀ (v18_0 : BitVec 32) (k0_t4 : Fin (k0_t4_loop v18_0).trips) (v778 : BitVec 32) (v782 : BitVec 32) (k0_hw11 : k0_chk11 v18_0 k0_t4 v778 v782) (k0_t5 : Fin (k0_t5_loop v778 v782).trips), ∀ a, (k0_off45 v778 v782 k0_t5) a + S64x3072.size a ≤ S224x3072.size a := fun v18_0 k0_t4 v778 v782 k0_hw11 k0_t5 => k0_hw11.2.2.1 k0_t5
theorem k0_off46_inb : ∀ (v18_0 : BitVec 32) (k0_t4 : Fin (k0_t4_loop v18_0).trips) (v778 : BitVec 32) (v782 : BitVec 32) (k0_hw11 : k0_chk11 v18_0 k0_t4 v778 v782) (k0_t5 : Fin (k0_t5_loop v778 v782).trips), ∀ a, (k0_off46 v18_0 k0_t4) a + S1x3072x1408.size a ≤ S8x3072x1408.size a := fun v18_0 k0_t4 v778 v782 k0_hw11 k0_t5 => k0_hw11.2.2.2.1 k0_t5
theorem k0_off47_inb : ∀ (v18_0 : BitVec 32) (k0_t4 : Fin (k0_t4_loop v18_0).trips) (v778 : BitVec 32) (v782 : BitVec 32) (k0_hw11 : k0_chk11 v18_0 k0_t4 v778 v782) (k0_t5 : Fin (k0_t5_loop v778 v782).trips), ∀ a, (k0_off47 v18_0 k0_t4) a + S1.size a ≤ S16.size a := fun v18_0 k0_t4 v778 v782 k0_hw11 k0_t5 => k0_hw11.2.2.2.2.1 k0_t5
theorem k0_off48_inb : ∀ (v18_0 : BitVec 32) (k0_t4 : Fin (k0_t4_loop v18_0).trips) (v778 : BitVec 32) (v782 : BitVec 32) (k0_hw11 : k0_chk11 v18_0 k0_t4 v778 v782) (k0_t5 : Fin (k0_t5_loop v778 v782).trips), ∀ a, (k0_off48 v778 v782 k0_t5) a + S64x1.size a ≤ S224x1.size a := fun v18_0 k0_t4 v778 v782 k0_hw11 k0_t5 => k0_hw11.2.2.2.2.2.1 k0_t5
theorem k0_off51_inb : ∀ (v18_0 : BitVec 32) (k0_t4 : Fin (k0_t4_loop v18_0).trips) (v778 : BitVec 32) (v782 : BitVec 32) (k0_hw11 : k0_chk11 v18_0 k0_t4 v778 v782) (k0_t5 : Fin (k0_t5_loop v778 v782).trips), ∀ a, (k0_off51 v778 v782 k0_t5) a + S64x1408.size a ≤ S224x1408.size a := fun v18_0 k0_t4 v778 v782 k0_hw11 k0_t5 => k0_hw11.2.2.2.2.2.2.1 k0_t5
theorem k0_off51_packedbf16 : ∀ (v18_0 : BitVec 32) (k0_t4 : Fin (k0_t4_loop v18_0).trips) (v778 : BitVec 32) (v782 : BitVec 32) (k0_hw11 : k0_chk11 v18_0 k0_t4 v778 v782) (k0_t5 : Fin (k0_t5_loop v778 v782).trips), (Rect.unit (s := S224x1408) (k0_off51 v778 v782 k0_t5) S64x1408.size (k0_off51_inb v18_0 k0_t4 v778 v782 k0_hw11 k0_t5)).PackedRows (EltTy.packing .bf16) := fun v18_0 k0_t4 v778 v782 k0_hw11 k0_t5 => k0_hw11.2.2.2.2.2.2.2.1 k0_t5 (k0_off51_inb v18_0 k0_t4 v778 v782 k0_hw11 k0_t5)
theorem k0_t6_ok : ∀ (v18_0 : BitVec 32) (k0_t4 : Fin (k0_t4_loop v18_0).trips) (v778 : BitVec 32) (v782 : BitVec 32) (k0_hw11 : k0_chk11 v18_0 k0_t4 v778 v782), (k0_t6_loop v778 v782).OK := fun v18_0 k0_t4 v778 v782 k0_hw11 => k0_hw11.2.2.2.2.2.2.2.2.1
theorem k0_mult2_dvd : ∀ (v18_0 : BitVec 32) (k0_t4 : Fin (k0_t4_loop v18_0).trips) (v778 : BitVec 32) (v782 : BitVec 32) (k0_hw11 : k0_chk11 v18_0 k0_t4 v778 v782) (k0_t6 : Fin (k0_t6_loop v778 v782).trips), 32 ∣ (k0_mult2 v778 v782 k0_t6).toNat := fun v18_0 k0_t4 v778 v782 k0_hw11 k0_t6 => k0_hw11.2.2.2.2.2.2.2.2.2.1 k0_t6
theorem k0_off52_inb : ∀ (v18_0 : BitVec 32) (k0_t4 : Fin (k0_t4_loop v18_0).trips) (v778 : BitVec 32) (v782 : BitVec 32) (k0_hw11 : k0_chk11 v18_0 k0_t4 v778 v782) (k0_t6 : Fin (k0_t6_loop v778 v782).trips), ∀ a, (k0_off52 v778 v782 k0_t6) a + S64x3072.size a ≤ S224x3072.size a := fun v18_0 k0_t4 v778 v782 k0_hw11 k0_t6 => k0_hw11.2.2.2.2.2.2.2.2.2.2.1 k0_t6
theorem k0_off53_inb : ∀ (v18_0 : BitVec 32) (k0_t4 : Fin (k0_t4_loop v18_0).trips) (v778 : BitVec 32) (v782 : BitVec 32) (k0_hw11 : k0_chk11 v18_0 k0_t4 v778 v782) (k0_t6 : Fin (k0_t6_loop v778 v782).trips), ∀ a, (k0_off53 v18_0 k0_t4) a + S1x3072x1408.size a ≤ S8x3072x1408.size a := fun v18_0 k0_t4 v778 v782 k0_hw11 k0_t6 => k0_hw11.2.2.2.2.2.2.2.2.2.2.2.1 k0_t6
theorem k0_off54_inb : ∀ (v18_0 : BitVec 32) (k0_t4 : Fin (k0_t4_loop v18_0).trips) (v778 : BitVec 32) (v782 : BitVec 32) (k0_hw11 : k0_chk11 v18_0 k0_t4 v778 v782) (k0_t6 : Fin (k0_t6_loop v778 v782).trips), ∀ a, (k0_off54 v18_0 k0_t4) a + S1.size a ≤ S16.size a := fun v18_0 k0_t4 v778 v782 k0_hw11 k0_t6 => k0_hw11.2.2.2.2.2.2.2.2.2.2.2.2.1 k0_t6
theorem k0_off55_inb : ∀ (v18_0 : BitVec 32) (k0_t4 : Fin (k0_t4_loop v18_0).trips) (v778 : BitVec 32) (v782 : BitVec 32) (k0_hw11 : k0_chk11 v18_0 k0_t4 v778 v782) (k0_t6 : Fin (k0_t6_loop v778 v782).trips), ∀ a, (k0_off55 v778 v782 k0_t6) a + S64x1.size a ≤ S224x1.size a := fun v18_0 k0_t4 v778 v782 k0_hw11 k0_t6 => k0_hw11.2.2.2.2.2.2.2.2.2.2.2.2.2.1 k0_t6
theorem k0_off58_inb : ∀ (v18_0 : BitVec 32) (k0_t4 : Fin (k0_t4_loop v18_0).trips) (v778 : BitVec 32) (v782 : BitVec 32) (k0_hw11 : k0_chk11 v18_0 k0_t4 v778 v782) (k0_t6 : Fin (k0_t6_loop v778 v782).trips), ∀ a, (k0_off58 v778 v782 k0_t6) a + S64x1408.size a ≤ S224x1408.size a := fun v18_0 k0_t4 v778 v782 k0_hw11 k0_t6 => k0_hw11.2.2.2.2.2.2.2.2.2.2.2.2.2.2.1 k0_t6
theorem k0_off58_packedbf16 : ∀ (v18_0 : BitVec 32) (k0_t4 : Fin (k0_t4_loop v18_0).trips) (v778 : BitVec 32) (v782 : BitVec 32) (k0_hw11 : k0_chk11 v18_0 k0_t4 v778 v782) (k0_t6 : Fin (k0_t6_loop v778 v782).trips), (Rect.unit (s := S224x1408) (k0_off58 v778 v782 k0_t6) S64x1408.size (k0_off58_inb v18_0 k0_t4 v778 v782 k0_hw11 k0_t6)).PackedRows (EltTy.packing .bf16) := fun v18_0 k0_t4 v778 v782 k0_hw11 k0_t6 => k0_hw11.2.2.2.2.2.2.2.2.2.2.2.2.2.2.2 k0_t6 (k0_off58_inb v18_0 k0_t4 v778 v782 k0_hw11 k0_t6)

def k0_off59 (v18_0 : BitVec 32) (k0_t4 : Fin (k0_t4_loop v18_0).trips) : Fin 1 → Nat :=
  let c0_i32_231 : BitVec 32 := 0#32
  let c1_i32_234 : BitVec 32 := 1#32
  let arg20 : BitVec 32 := Scf.iv c0_i32_231 c1_i32_234 k0_t4
  let c8_i32_341 : BitVec 32 := 8#32
  let v824 : BitVec 32 := Scalar.addi arg20 c8_i32_341
  let v825 : Index := Scalar.indexCast v824
  ![v825.toNat]
def k0_cond10 (v18_0 : BitVec 32) (k0_t4 : Fin (k0_t4_loop v18_0).trips) : BitVec 1 :=
  let c0_i32_231 : BitVec 32 := 0#32
  let c1_i32_234 : BitVec 32 := 1#32
  let arg20 : BitVec 32 := Scf.iv c0_i32_231 c1_i32_234 k0_t4
  let c8_i32_328 : BitVec 32 := 8#32
  let v793 : BitVec 32 := Scalar.addi arg20 c8_i32_328
  let v794 : BitVec 1 := Scalar.cmpi .slt v793 v18_0
  let v795 : BitVec 32 := Scalar.extui v794
  let c0_i32_329 : BitVec 32 := 0#32
  let v796 : BitVec 1 := Scalar.cmpi .ne v795 c0_i32_329
  v796

def k0_off60 (v18_0 : BitVec 32) (k0_t4 : Fin (k0_t4_loop v18_0).trips) : Fin 1 → Nat :=
  let c0_i32_231 : BitVec 32 := 0#32
  let c1_i32_234 : BitVec 32 := 1#32
  let arg20 : BitVec 32 := Scf.iv c0_i32_231 c1_i32_234 k0_t4
  let c8_i32_341 : BitVec 32 := 8#32
  let v824 : BitVec 32 := Scalar.addi arg20 c8_i32_341
  let c8_i32_342 : BitVec 32 := 8#32
  let c0_i32_343 : BitVec 32 := 0#32
  let v827 : BitVec 1 := Scalar.cmpi .eq c8_i32_342 c0_i32_343
  let c1_i32_344 : BitVec 32 := 1#32
  let v828 : BitVec 32 := Scalar.select v827 c1_i32_344 c8_i32_342
  let v829 : BitVec 32 := Scalar.remsi v824 v828
  let c0_i32_346 : BitVec 32 := 0#32
  let v831 : BitVec 1 := Scalar.cmpi .slt v829 c0_i32_346
  let c0_i32_347 : BitVec 32 := 0#32
  let v832 : BitVec 1 := Scalar.cmpi .slt v828 c0_i32_347
  let v833 : BitVec 1 := Scalar.xori v831 v832
  let c0_i32_345 : BitVec 32 := 0#32
  let v830 : BitVec 1 := Scalar.cmpi .ne v829 c0_i32_345
  let v834 : BitVec 1 := Scalar.andi v833 v830
  let v835 : BitVec 32 := Scalar.addi v829 v828
  let v836 : BitVec 32 := Scalar.select v834 v835 v829
  ![v836.toNat]
def k0_off61 (v18_0 : BitVec 32) (k0_t4 : Fin (k0_t4_loop v18_0).trips) : Fin 3 → Nat :=
  let c0_i32_231 : BitVec 32 := 0#32
  let c1_i32_234 : BitVec 32 := 1#32
  let arg20 : BitVec 32 := Scf.iv c0_i32_231 c1_i32_234 k0_t4
  let c8_i32_341 : BitVec 32 := 8#32
  let v824 : BitVec 32 := Scalar.addi arg20 c8_i32_341
  let c8_i32_342 : BitVec 32 := 8#32
  let c0_i32_343 : BitVec 32 := 0#32
  let v827 : BitVec 1 := Scalar.cmpi .eq c8_i32_342 c0_i32_343
  let c1_i32_344 : BitVec 32 := 1#32
  let v828 : BitVec 32 := Scalar.select v827 c1_i32_344 c8_i32_342
  let v829 : BitVec 32 := Scalar.remsi v824 v828
  let c0_i32_346 : BitVec 32 := 0#32
  let v831 : BitVec 1 := Scalar.cmpi .slt v829 c0_i32_346
  let c0_i32_347 : BitVec 32 := 0#32
  let v832 : BitVec 1 := Scalar.cmpi .slt v828 c0_i32_347
  let v833 : BitVec 1 := Scalar.xori v831 v832
  let c0_i32_345 : BitVec 32 := 0#32
  let v830 : BitVec 1 := Scalar.cmpi .ne v829 c0_i32_345
  let v834 : BitVec 1 := Scalar.andi v833 v830
  let v835 : BitVec 32 := Scalar.addi v829 v828
  let v836 : BitVec 32 := Scalar.select v834 v835 v829
  let c0_i32_348 : BitVec 32 := 0#32
  let c0_i32_349 : BitVec 32 := 0#32
  ![v836.toNat, 0, 0]
def k0_off62 (v826 : BitVec 32) : Fin 3 → Nat :=
  let c0_i32_350 : BitVec 32 := 0#32
  let c0_i32_351 : BitVec 32 := 0#32
  ![v826.toNat, 0, 0]

def k0_chk14 (v18_0 : BitVec 32) (k0_t4 : Fin (k0_t4_loop v18_0).trips) (v826 : BitVec 32) : Prop :=
  (∀ (k0_h10 : k0_cond10 v18_0 k0_t4 = 1#1), ∀ a, (k0_off62 v826) a + S1x1536x1408.size a ≤ S16x3072x1408.size a) ∧
  (∀ (k0_h10 : k0_cond10 v18_0 k0_t4 = 1#1), ∀ (hinb : ∀ a, (k0_off62 v826) a + S1x1536x1408.size a ≤ S16x3072x1408.size a), (Rect.unit (s := S16x3072x1408) (k0_off62 v826) S1x1536x1408.size hinb).WholeWords (EltTy.packing .fp8e4m3))
theorem k0_off62_inb : ∀ (v18_0 : BitVec 32) (k0_t4 : Fin (k0_t4_loop v18_0).trips) (v826 : BitVec 32) (k0_hw14 : k0_chk14 v18_0 k0_t4 v826), ∀ (k0_h10 : k0_cond10 v18_0 k0_t4 = 1#1), ∀ a, (k0_off62 v826) a + S1x1536x1408.size a ≤ S16x3072x1408.size a := fun v18_0 k0_t4 v826 k0_hw14 k0_h10 => k0_hw14.1 k0_h10
theorem k0_off62_wordsfp8e4m3 : ∀ (v18_0 : BitVec 32) (k0_t4 : Fin (k0_t4_loop v18_0).trips) (v826 : BitVec 32) (k0_hw14 : k0_chk14 v18_0 k0_t4 v826), ∀ (k0_h10 : k0_cond10 v18_0 k0_t4 = 1#1), (Rect.unit (s := S16x3072x1408) (k0_off62 v826) S1x1536x1408.size (k0_off62_inb v18_0 k0_t4 v826 k0_hw14 k0_h10)).WholeWords (EltTy.packing .fp8e4m3) := fun v18_0 k0_t4 v826 k0_hw14 k0_h10 => k0_hw14.2 k0_h10 (k0_off62_inb v18_0 k0_t4 v826 k0_hw14 k0_h10)

def k0_off63 (v18_0 : BitVec 32) (k0_t4 : Fin (k0_t4_loop v18_0).trips) : Fin 1 → Nat :=
  let c0_i32_231 : BitVec 32 := 0#32
  let c1_i32_234 : BitVec 32 := 1#32
  let arg20 : BitVec 32 := Scf.iv c0_i32_231 c1_i32_234 k0_t4
  let c8_i32_341 : BitVec 32 := 8#32
  let v824 : BitVec 32 := Scalar.addi arg20 c8_i32_341
  let v843 : Index := Scalar.indexCast v824
  ![v843.toNat]
def k0_off64 (v18_0 : BitVec 32) (k0_t4 : Fin (k0_t4_loop v18_0).trips) : Fin 1 → Nat :=
  let c0_i32_231 : BitVec 32 := 0#32
  let c1_i32_234 : BitVec 32 := 1#32
  let arg20 : BitVec 32 := Scf.iv c0_i32_231 c1_i32_234 k0_t4
  let c8_i32_341 : BitVec 32 := 8#32
  let v824 : BitVec 32 := Scalar.addi arg20 c8_i32_341
  let c8_i32_352 : BitVec 32 := 8#32
  let c0_i32_353 : BitVec 32 := 0#32
  let v845 : BitVec 1 := Scalar.cmpi .eq c8_i32_352 c0_i32_353
  let c1_i32_354 : BitVec 32 := 1#32
  let v846 : BitVec 32 := Scalar.select v845 c1_i32_354 c8_i32_352
  let v847 : BitVec 32 := Scalar.remsi v824 v846
  let c0_i32_356 : BitVec 32 := 0#32
  let v849 : BitVec 1 := Scalar.cmpi .slt v847 c0_i32_356
  let c0_i32_357 : BitVec 32 := 0#32
  let v850 : BitVec 1 := Scalar.cmpi .slt v846 c0_i32_357
  let v851 : BitVec 1 := Scalar.xori v849 v850
  let c0_i32_355 : BitVec 32 := 0#32
  let v848 : BitVec 1 := Scalar.cmpi .ne v847 c0_i32_355
  let v852 : BitVec 1 := Scalar.andi v851 v848
  let v853 : BitVec 32 := Scalar.addi v847 v846
  let v854 : BitVec 32 := Scalar.select v852 v853 v847
  ![v854.toNat]
def k0_cond11 (v18_0 : BitVec 32) (k0_t4 : Fin (k0_t4_loop v18_0).trips) : BitVec 1 :=
  let c0_i32_231 : BitVec 32 := 0#32
  let c1_i32_234 : BitVec 32 := 1#32
  let arg20 : BitVec 32 := Scf.iv c0_i32_231 c1_i32_234 k0_t4
  let c8_i32_341 : BitVec 32 := 8#32
  let v824 : BitVec 32 := Scalar.addi arg20 c8_i32_341
  let c1_i32_16 : BitVec 32 := 1#32
  let v19 : BitVec 32 := Scalar.subi v18_0 c1_i32_16
  let v855 : BitVec 1 := Scalar.cmpi .slt v824 v19
  let v856 : BitVec 32 := Scalar.extui v855
  let c0_i32_358 : BitVec 32 := 0#32
  let v857 : BitVec 1 := Scalar.cmpi .ne v856 c0_i32_358
  v857

def k0_off65 (v18_0 : BitVec 32) (k0_t4 : Fin (k0_t4_loop v18_0).trips) : Fin 3 → Nat :=
  let c0_i32_231 : BitVec 32 := 0#32
  let c1_i32_234 : BitVec 32 := 1#32
  let arg20 : BitVec 32 := Scf.iv c0_i32_231 c1_i32_234 k0_t4
  let c8_i32_341 : BitVec 32 := 8#32
  let v824 : BitVec 32 := Scalar.addi arg20 c8_i32_341
  let c8_i32_352 : BitVec 32 := 8#32
  let c0_i32_353 : BitVec 32 := 0#32
  let v845 : BitVec 1 := Scalar.cmpi .eq c8_i32_352 c0_i32_353
  let c1_i32_354 : BitVec 32 := 1#32
  let v846 : BitVec 32 := Scalar.select v845 c1_i32_354 c8_i32_352
  let v847 : BitVec 32 := Scalar.remsi v824 v846
  let c0_i32_356 : BitVec 32 := 0#32
  let v849 : BitVec 1 := Scalar.cmpi .slt v847 c0_i32_356
  let c0_i32_357 : BitVec 32 := 0#32
  let v850 : BitVec 1 := Scalar.cmpi .slt v846 c0_i32_357
  let v851 : BitVec 1 := Scalar.xori v849 v850
  let c0_i32_355 : BitVec 32 := 0#32
  let v848 : BitVec 1 := Scalar.cmpi .ne v847 c0_i32_355
  let v852 : BitVec 1 := Scalar.andi v851 v848
  let v853 : BitVec 32 := Scalar.addi v847 v846
  let v854 : BitVec 32 := Scalar.select v852 v853 v847
  let c1536_i32_360 : BitVec 32 := 1536#32
  let c0_i32_361 : BitVec 32 := 0#32
  ![v854.toNat, 1536, 0]
def k0_off66 (v844 : BitVec 32) : Fin 3 → Nat :=
  let c1536_i32_362 : BitVec 32 := 1536#32
  let c0_i32_363 : BitVec 32 := 0#32
  ![v844.toNat, 1536, 0]

def k0_off67 (v18_0 : BitVec 32) (k0_t4 : Fin (k0_t4_loop v18_0).trips) : Fin 3 → Nat :=
  let c0_i32_231 : BitVec 32 := 0#32
  let c1_i32_234 : BitVec 32 := 1#32
  let arg20 : BitVec 32 := Scf.iv c0_i32_231 c1_i32_234 k0_t4
  let c8_i32_341 : BitVec 32 := 8#32
  let v824 : BitVec 32 := Scalar.addi arg20 c8_i32_341
  let c8_i32_352 : BitVec 32 := 8#32
  let c0_i32_353 : BitVec 32 := 0#32
  let v845 : BitVec 1 := Scalar.cmpi .eq c8_i32_352 c0_i32_353
  let c1_i32_354 : BitVec 32 := 1#32
  let v846 : BitVec 32 := Scalar.select v845 c1_i32_354 c8_i32_352
  let v847 : BitVec 32 := Scalar.remsi v824 v846
  let c0_i32_356 : BitVec 32 := 0#32
  let v849 : BitVec 1 := Scalar.cmpi .slt v847 c0_i32_356
  let c0_i32_357 : BitVec 32 := 0#32
  let v850 : BitVec 1 := Scalar.cmpi .slt v846 c0_i32_357
  let v851 : BitVec 1 := Scalar.xori v849 v850
  let c0_i32_355 : BitVec 32 := 0#32
  let v848 : BitVec 1 := Scalar.cmpi .ne v847 c0_i32_355
  let v852 : BitVec 1 := Scalar.andi v851 v848
  let v853 : BitVec 32 := Scalar.addi v847 v846
  let v854 : BitVec 32 := Scalar.select v852 v853 v847
  let c1536_i32_361 : BitVec 32 := 1536#32
  let c0_i32_362 : BitVec 32 := 0#32
  ![v854.toNat, 1536, 0]
def k0_cond12 (v18_0 : BitVec 32) (k0_t4 : Fin (k0_t4_loop v18_0).trips) : BitVec 1 :=
  let c0_i32_231 : BitVec 32 := 0#32
  let c1_i32_234 : BitVec 32 := 1#32
  let arg20 : BitVec 32 := Scf.iv c0_i32_231 c1_i32_234 k0_t4
  let c8_i32_341 : BitVec 32 := 8#32
  let v824 : BitVec 32 := Scalar.addi arg20 c8_i32_341
  let c1_i32_16 : BitVec 32 := 1#32
  let v19 : BitVec 32 := Scalar.subi v18_0 c1_i32_16
  let v858 : BitVec 1 := Scalar.cmpi .eq v824 v19
  let v859 : BitVec 32 := Scalar.extui v858
  let c0_i32_359 : BitVec 32 := 0#32
  let v860 : BitVec 1 := Scalar.cmpi .ne v859 c0_i32_359
  v860

def k0_off68 (v844 : BitVec 32) : Fin 3 → Nat :=
  let c1536_i32_363 : BitVec 32 := 1536#32
  let c0_i32_364 : BitVec 32 := 0#32
  ![v844.toNat, 1536, 0]
def k0_off69 (v18_0 : BitVec 32) (k0_t4 : Fin (k0_t4_loop v18_0).trips) : Fin 3 → Nat :=
  let c0_i32_231 : BitVec 32 := 0#32
  let c1_i32_234 : BitVec 32 := 1#32
  let arg20 : BitVec 32 := Scf.iv c0_i32_231 c1_i32_234 k0_t4
  let c8_i32_341 : BitVec 32 := 8#32
  let v824 : BitVec 32 := Scalar.addi arg20 c8_i32_341
  let c8_i32_352 : BitVec 32 := 8#32
  let c0_i32_353 : BitVec 32 := 0#32
  let v845 : BitVec 1 := Scalar.cmpi .eq c8_i32_352 c0_i32_353
  let c1_i32_354 : BitVec 32 := 1#32
  let v846 : BitVec 32 := Scalar.select v845 c1_i32_354 c8_i32_352
  let v847 : BitVec 32 := Scalar.remsi v824 v846
  let c0_i32_356 : BitVec 32 := 0#32
  let v849 : BitVec 1 := Scalar.cmpi .slt v847 c0_i32_356
  let c0_i32_357 : BitVec 32 := 0#32
  let v850 : BitVec 1 := Scalar.cmpi .slt v846 c0_i32_357
  let v851 : BitVec 1 := Scalar.xori v849 v850
  let c0_i32_355 : BitVec 32 := 0#32
  let v848 : BitVec 1 := Scalar.cmpi .ne v847 c0_i32_355
  let v852 : BitVec 1 := Scalar.andi v851 v848
  let v853 : BitVec 32 := Scalar.addi v847 v846
  let v854 : BitVec 32 := Scalar.select v852 v853 v847
  let c2304_i32_366 : BitVec 32 := 2304#32
  let c0_i32_367 : BitVec 32 := 0#32
  ![v854.toNat, 2304, 0]
def k0_off70 (v844 : BitVec 32) : Fin 3 → Nat :=
  let c2304_i32_368 : BitVec 32 := 2304#32
  let c0_i32_369 : BitVec 32 := 0#32
  ![v844.toNat, 2304, 0]
def k0_off71 (v18_0 : BitVec 32) (k0_t4 : Fin (k0_t4_loop v18_0).trips) : Fin 3 → Nat :=
  let c0_i32_231 : BitVec 32 := 0#32
  let c1_i32_234 : BitVec 32 := 1#32
  let arg20 : BitVec 32 := Scf.iv c0_i32_231 c1_i32_234 k0_t4
  let c8_i32_341 : BitVec 32 := 8#32
  let v824 : BitVec 32 := Scalar.addi arg20 c8_i32_341
  let c8_i32_352 : BitVec 32 := 8#32
  let c0_i32_353 : BitVec 32 := 0#32
  let v845 : BitVec 1 := Scalar.cmpi .eq c8_i32_352 c0_i32_353
  let c1_i32_354 : BitVec 32 := 1#32
  let v846 : BitVec 32 := Scalar.select v845 c1_i32_354 c8_i32_352
  let v847 : BitVec 32 := Scalar.remsi v824 v846
  let c0_i32_356 : BitVec 32 := 0#32
  let v849 : BitVec 1 := Scalar.cmpi .slt v847 c0_i32_356
  let c0_i32_357 : BitVec 32 := 0#32
  let v850 : BitVec 1 := Scalar.cmpi .slt v846 c0_i32_357
  let v851 : BitVec 1 := Scalar.xori v849 v850
  let c0_i32_355 : BitVec 32 := 0#32
  let v848 : BitVec 1 := Scalar.cmpi .ne v847 c0_i32_355
  let v852 : BitVec 1 := Scalar.andi v851 v848
  let v853 : BitVec 32 := Scalar.addi v847 v846
  let v854 : BitVec 32 := Scalar.select v852 v853 v847
  let c2816_i32_371 : BitVec 32 := 2816#32
  let c0_i32_372 : BitVec 32 := 0#32
  ![v854.toNat, 2816, 0]
def k0_off72 (v844 : BitVec 32) : Fin 3 → Nat :=
  let c2816_i32_373 : BitVec 32 := 2816#32
  let c0_i32_374 : BitVec 32 := 0#32
  ![v844.toNat, 2816, 0]

def k0_chk15 (v18_0 : BitVec 32) (k0_t4 : Fin (k0_t4_loop v18_0).trips) (v844 : BitVec 32) : Prop :=
  (∀ (k0_h10 : k0_cond10 v18_0 k0_t4 = 1#1), ∀ (k0_h11 : k0_cond11 v18_0 k0_t4 = 1#1), ∀ a, (k0_off66 v844) a + S1x1536x1408.size a ≤ S16x3072x1408.size a) ∧
  (∀ (k0_h10 : k0_cond10 v18_0 k0_t4 = 1#1), ∀ (k0_h11 : k0_cond11 v18_0 k0_t4 = 1#1), ∀ (hinb : ∀ a, (k0_off66 v844) a + S1x1536x1408.size a ≤ S16x3072x1408.size a), (Rect.unit (s := S16x3072x1408) (k0_off66 v844) S1x1536x1408.size hinb).WholeWords (EltTy.packing .fp8e4m3)) ∧
  (∀ (k0_h10 : k0_cond10 v18_0 k0_t4 = 1#1), ∀ (k0_h12 : k0_cond12 v18_0 k0_t4 = 1#1), ∀ a, (k0_off68 v844) a + S1x768x1408.size a ≤ S16x3072x1408.size a) ∧
  (∀ (k0_h10 : k0_cond10 v18_0 k0_t4 = 1#1), ∀ (k0_h12 : k0_cond12 v18_0 k0_t4 = 1#1), ∀ (hinb : ∀ a, (k0_off68 v844) a + S1x768x1408.size a ≤ S16x3072x1408.size a), (Rect.unit (s := S16x3072x1408) (k0_off68 v844) S1x768x1408.size hinb).WholeWords (EltTy.packing .fp8e4m3)) ∧
  (∀ (k0_h10 : k0_cond10 v18_0 k0_t4 = 1#1), ∀ (k0_h12 : k0_cond12 v18_0 k0_t4 = 1#1), ∀ a, (k0_off70 v844) a + S1x512x1408.size a ≤ S16x3072x1408.size a) ∧
  (∀ (k0_h10 : k0_cond10 v18_0 k0_t4 = 1#1), ∀ (k0_h12 : k0_cond12 v18_0 k0_t4 = 1#1), ∀ (hinb : ∀ a, (k0_off70 v844) a + S1x512x1408.size a ≤ S16x3072x1408.size a), (Rect.unit (s := S16x3072x1408) (k0_off70 v844) S1x512x1408.size hinb).WholeWords (EltTy.packing .fp8e4m3)) ∧
  (∀ (k0_h10 : k0_cond10 v18_0 k0_t4 = 1#1), ∀ (k0_h12 : k0_cond12 v18_0 k0_t4 = 1#1), ∀ a, (k0_off72 v844) a + S1x256x1408.size a ≤ S16x3072x1408.size a) ∧
  (∀ (k0_h10 : k0_cond10 v18_0 k0_t4 = 1#1), ∀ (k0_h12 : k0_cond12 v18_0 k0_t4 = 1#1), ∀ (hinb : ∀ a, (k0_off72 v844) a + S1x256x1408.size a ≤ S16x3072x1408.size a), (Rect.unit (s := S16x3072x1408) (k0_off72 v844) S1x256x1408.size hinb).WholeWords (EltTy.packing .fp8e4m3))
theorem k0_off66_inb : ∀ (v18_0 : BitVec 32) (k0_t4 : Fin (k0_t4_loop v18_0).trips) (v844 : BitVec 32) (k0_hw15 : k0_chk15 v18_0 k0_t4 v844), ∀ (k0_h10 : k0_cond10 v18_0 k0_t4 = 1#1), ∀ (k0_h11 : k0_cond11 v18_0 k0_t4 = 1#1), ∀ a, (k0_off66 v844) a + S1x1536x1408.size a ≤ S16x3072x1408.size a := fun v18_0 k0_t4 v844 k0_hw15 k0_h10 k0_h11 => k0_hw15.1 k0_h10 k0_h11
theorem k0_off66_wordsfp8e4m3 : ∀ (v18_0 : BitVec 32) (k0_t4 : Fin (k0_t4_loop v18_0).trips) (v844 : BitVec 32) (k0_hw15 : k0_chk15 v18_0 k0_t4 v844), ∀ (k0_h10 : k0_cond10 v18_0 k0_t4 = 1#1), ∀ (k0_h11 : k0_cond11 v18_0 k0_t4 = 1#1), (Rect.unit (s := S16x3072x1408) (k0_off66 v844) S1x1536x1408.size (k0_off66_inb v18_0 k0_t4 v844 k0_hw15 k0_h10 k0_h11)).WholeWords (EltTy.packing .fp8e4m3) := fun v18_0 k0_t4 v844 k0_hw15 k0_h10 k0_h11 => k0_hw15.2.1 k0_h10 k0_h11 (k0_off66_inb v18_0 k0_t4 v844 k0_hw15 k0_h10 k0_h11)
theorem k0_off68_inb : ∀ (v18_0 : BitVec 32) (k0_t4 : Fin (k0_t4_loop v18_0).trips) (v844 : BitVec 32) (k0_hw15 : k0_chk15 v18_0 k0_t4 v844), ∀ (k0_h10 : k0_cond10 v18_0 k0_t4 = 1#1), ∀ (k0_h12 : k0_cond12 v18_0 k0_t4 = 1#1), ∀ a, (k0_off68 v844) a + S1x768x1408.size a ≤ S16x3072x1408.size a := fun v18_0 k0_t4 v844 k0_hw15 k0_h10 k0_h12 => k0_hw15.2.2.1 k0_h10 k0_h12
theorem k0_off68_wordsfp8e4m3 : ∀ (v18_0 : BitVec 32) (k0_t4 : Fin (k0_t4_loop v18_0).trips) (v844 : BitVec 32) (k0_hw15 : k0_chk15 v18_0 k0_t4 v844), ∀ (k0_h10 : k0_cond10 v18_0 k0_t4 = 1#1), ∀ (k0_h12 : k0_cond12 v18_0 k0_t4 = 1#1), (Rect.unit (s := S16x3072x1408) (k0_off68 v844) S1x768x1408.size (k0_off68_inb v18_0 k0_t4 v844 k0_hw15 k0_h10 k0_h12)).WholeWords (EltTy.packing .fp8e4m3) := fun v18_0 k0_t4 v844 k0_hw15 k0_h10 k0_h12 => k0_hw15.2.2.2.1 k0_h10 k0_h12 (k0_off68_inb v18_0 k0_t4 v844 k0_hw15 k0_h10 k0_h12)
theorem k0_off70_inb : ∀ (v18_0 : BitVec 32) (k0_t4 : Fin (k0_t4_loop v18_0).trips) (v844 : BitVec 32) (k0_hw15 : k0_chk15 v18_0 k0_t4 v844), ∀ (k0_h10 : k0_cond10 v18_0 k0_t4 = 1#1), ∀ (k0_h12 : k0_cond12 v18_0 k0_t4 = 1#1), ∀ a, (k0_off70 v844) a + S1x512x1408.size a ≤ S16x3072x1408.size a := fun v18_0 k0_t4 v844 k0_hw15 k0_h10 k0_h12 => k0_hw15.2.2.2.2.1 k0_h10 k0_h12
theorem k0_off70_wordsfp8e4m3 : ∀ (v18_0 : BitVec 32) (k0_t4 : Fin (k0_t4_loop v18_0).trips) (v844 : BitVec 32) (k0_hw15 : k0_chk15 v18_0 k0_t4 v844), ∀ (k0_h10 : k0_cond10 v18_0 k0_t4 = 1#1), ∀ (k0_h12 : k0_cond12 v18_0 k0_t4 = 1#1), (Rect.unit (s := S16x3072x1408) (k0_off70 v844) S1x512x1408.size (k0_off70_inb v18_0 k0_t4 v844 k0_hw15 k0_h10 k0_h12)).WholeWords (EltTy.packing .fp8e4m3) := fun v18_0 k0_t4 v844 k0_hw15 k0_h10 k0_h12 => k0_hw15.2.2.2.2.2.1 k0_h10 k0_h12 (k0_off70_inb v18_0 k0_t4 v844 k0_hw15 k0_h10 k0_h12)
theorem k0_off72_inb : ∀ (v18_0 : BitVec 32) (k0_t4 : Fin (k0_t4_loop v18_0).trips) (v844 : BitVec 32) (k0_hw15 : k0_chk15 v18_0 k0_t4 v844), ∀ (k0_h10 : k0_cond10 v18_0 k0_t4 = 1#1), ∀ (k0_h12 : k0_cond12 v18_0 k0_t4 = 1#1), ∀ a, (k0_off72 v844) a + S1x256x1408.size a ≤ S16x3072x1408.size a := fun v18_0 k0_t4 v844 k0_hw15 k0_h10 k0_h12 => k0_hw15.2.2.2.2.2.2.1 k0_h10 k0_h12
theorem k0_off72_wordsfp8e4m3 : ∀ (v18_0 : BitVec 32) (k0_t4 : Fin (k0_t4_loop v18_0).trips) (v844 : BitVec 32) (k0_hw15 : k0_chk15 v18_0 k0_t4 v844), ∀ (k0_h10 : k0_cond10 v18_0 k0_t4 = 1#1), ∀ (k0_h12 : k0_cond12 v18_0 k0_t4 = 1#1), (Rect.unit (s := S16x3072x1408) (k0_off72 v844) S1x256x1408.size (k0_off72_inb v18_0 k0_t4 v844 k0_hw15 k0_h10 k0_h12)).WholeWords (EltTy.packing .fp8e4m3) := fun v18_0 k0_t4 v844 k0_hw15 k0_h10 k0_h12 => k0_hw15.2.2.2.2.2.2.2 k0_h10 k0_h12 (k0_off72_inb v18_0 k0_t4 v844 k0_hw15 k0_h10 k0_h12)

def k0_off73 (v18_0 : BitVec 32) (k0_t4 : Fin (k0_t4_loop v18_0).trips) : Fin 1 → Nat :=
  let c0_i32_231 : BitVec 32 := 0#32
  let c1_i32_234 : BitVec 32 := 1#32
  let arg20 : BitVec 32 := Scf.iv c0_i32_231 c1_i32_234 k0_t4
  let v797 : Index := Scalar.indexCast arg20
  ![v797.toNat]
def k0_off74 (v755 : BitVec 32) : Fin 1 → Nat :=
  let v799 : Index := Scalar.indexCast v755
  ![v799.toNat]

def k0_chk8 (v755 : BitVec 32) : Prop :=
  (∀ a, (k0_off38 v755) a + S1x1536x1408.size a ≤ S16x3072x1408.size a) ∧
  (∀ (hinb : ∀ a, (k0_off38 v755) a + S1x1536x1408.size a ≤ S16x3072x1408.size a), (Rect.unit (s := S16x3072x1408) (k0_off38 v755) S1x1536x1408.size hinb).WholeWords (EltTy.packing .fp8e4m3)) ∧
  (∀ a, (k0_off39 v755) a + S1.size a ≤ S16.size a) ∧
  (∀ a, (k0_off74 v755) a + S1.size a ≤ S16.size a)
theorem k0_off38_inb : ∀ (v755 : BitVec 32) (k0_hw8 : k0_chk8 v755), ∀ a, (k0_off38 v755) a + S1x1536x1408.size a ≤ S16x3072x1408.size a := fun v755 k0_hw8 => k0_hw8.1
theorem k0_off38_wordsfp8e4m3 : ∀ (v755 : BitVec 32) (k0_hw8 : k0_chk8 v755), (Rect.unit (s := S16x3072x1408) (k0_off38 v755) S1x1536x1408.size (k0_off38_inb v755 k0_hw8)).WholeWords (EltTy.packing .fp8e4m3) := fun v755 k0_hw8 => k0_hw8.2.1 (k0_off38_inb v755 k0_hw8)
theorem k0_off39_inb : ∀ (v755 : BitVec 32) (k0_hw8 : k0_chk8 v755), ∀ a, (k0_off39 v755) a + S1.size a ≤ S16.size a := fun v755 k0_hw8 => k0_hw8.2.2.1
theorem k0_off74_inb : ∀ (v755 : BitVec 32) (k0_hw8 : k0_chk8 v755), ∀ a, (k0_off74 v755) a + S1.size a ≤ S16.size a := fun v755 k0_hw8 => k0_hw8.2.2.2

@[reducible] def k0_t7_loop (arg21 : BitVec 32) (v798 : BitVec 32) (v800 : BitVec 32) : Scf.Loop 32 :=
  let v801 : BitVec 32 := Scalar.addi v798 v800
  let c0_i32_331 : BitVec 32 := 0#32
  let v803 : BitVec 1 := Scalar.cmpi .sgt v801 c0_i32_331
  let v804 : BitVec 32 := Scalar.extui v803
  let c0_i32_332 : BitVec 32 := 0#32
  let v805 : BitVec 1 := Scalar.cmpi .slt v801 c0_i32_332
  let v806 : BitVec 32 := Scalar.extui v805
  let v807 : BitVec 32 := Scalar.subi v804 v806
  let c32_i32_330 : BitVec 32 := 32#32
  let c0_i32_333 : BitVec 32 := 0#32
  let v808 : BitVec 1 := Scalar.cmpi .sgt c32_i32_330 c0_i32_333
  let v809 : BitVec 32 := Scalar.extui v808
  let c0_i32_334 : BitVec 32 := 0#32
  let v810 : BitVec 1 := Scalar.cmpi .slt c32_i32_330 c0_i32_334
  let v811 : BitVec 32 := Scalar.extui v810
  let v812 : BitVec 32 := Scalar.subi v809 v811
  let v813 : BitVec 1 := Scalar.cmpi .ne v807 v812
  let v814 : BitVec 32 := Scalar.remsi v801 c32_i32_330
  let c0_i32_335 : BitVec 32 := 0#32
  let v815 : BitVec 1 := Scalar.cmpi .ne v814 c0_i32_335
  let v816 : BitVec 1 := Scalar.andi v813 v815
  let v802 : BitVec 32 := Scalar.divsi v801 c32_i32_330
  let c1_i32_336 : BitVec 32 := 1#32
  let v817 : BitVec 32 := Scalar.subi v802 c1_i32_336
  let v818 : BitVec 32 := Scalar.select v816 v817 v802
  let v819 : BitVec 32 := Scalar.subi v818 arg21
  let c1_i32_338 : BitVec 32 := 1#32
  let v821 : BitVec 32 := Scalar.divsi v819 c1_i32_338
  let v822 : BitVec 32 := Scalar.muli v821 c1_i32_338
  let v823 : BitVec 32 := Scalar.addi arg21 v822
  let c1_i32_339 : BitVec 32 := 1#32
  ⟨arg21, v823, c1_i32_339⟩

def k0_mult3 (arg21 : BitVec 32) (v798 : BitVec 32) (v800 : BitVec 32) (k0_t7 : Fin (k0_t7_loop arg21 v798 v800).trips) : BitVec 32 :=
  let c1_i32_339 : BitVec 32 := 1#32
  let arg22 : BitVec 32 := Scf.iv arg21 c1_i32_339 k0_t7
  let c32_i32_341 : BitVec 32 := 32#32
  let v824 : BitVec 32 := Scalar.muli arg22 c32_i32_341
  v824
def k0_off75 (arg21 : BitVec 32) (v798 : BitVec 32) (v800 : BitVec 32) (k0_t7 : Fin (k0_t7_loop arg21 v798 v800).trips) : Fin 2 → Nat :=
  let c1_i32_339 : BitVec 32 := 1#32
  let arg22 : BitVec 32 := Scf.iv arg21 c1_i32_339 k0_t7
  let c32_i32_341 : BitVec 32 := 32#32
  let v824 : BitVec 32 := Scalar.muli arg22 c32_i32_341
  let v825 : BitVec 32 := v824
  let c0_i32_342 : BitVec 32 := 0#32
  ![v825.toNat, 0]
def k0_off76 (arg21 : BitVec 32) (v798 : BitVec 32) (v800 : BitVec 32) (k0_t7 : Fin (k0_t7_loop arg21 v798 v800).trips) : Fin 2 → Nat :=
  let c1_i32_339 : BitVec 32 := 1#32
  let arg22 : BitVec 32 := Scf.iv arg21 c1_i32_339 k0_t7
  let c32_i32_341 : BitVec 32 := 32#32
  let v824 : BitVec 32 := Scalar.muli arg22 c32_i32_341
  let v825 : BitVec 32 := v824
  let c0_i32_343 : BitVec 32 := 0#32
  ![v825.toNat, 0]
@[reducible] def k0_t8_loop (arg21 : BitVec 32) (v798 : BitVec 32) (v800 : BitVec 32) : Scf.Loop 32 :=
  let v801 : BitVec 32 := Scalar.addi v798 v800
  let c0_i32_331 : BitVec 32 := 0#32
  let v803 : BitVec 1 := Scalar.cmpi .sgt v801 c0_i32_331
  let v804 : BitVec 32 := Scalar.extui v803
  let c0_i32_332 : BitVec 32 := 0#32
  let v805 : BitVec 1 := Scalar.cmpi .slt v801 c0_i32_332
  let v806 : BitVec 32 := Scalar.extui v805
  let v807 : BitVec 32 := Scalar.subi v804 v806
  let c32_i32_330 : BitVec 32 := 32#32
  let c0_i32_333 : BitVec 32 := 0#32
  let v808 : BitVec 1 := Scalar.cmpi .sgt c32_i32_330 c0_i32_333
  let v809 : BitVec 32 := Scalar.extui v808
  let c0_i32_334 : BitVec 32 := 0#32
  let v810 : BitVec 1 := Scalar.cmpi .slt c32_i32_330 c0_i32_334
  let v811 : BitVec 32 := Scalar.extui v810
  let v812 : BitVec 32 := Scalar.subi v809 v811
  let v813 : BitVec 1 := Scalar.cmpi .ne v807 v812
  let v814 : BitVec 32 := Scalar.remsi v801 c32_i32_330
  let c0_i32_335 : BitVec 32 := 0#32
  let v815 : BitVec 1 := Scalar.cmpi .ne v814 c0_i32_335
  let v816 : BitVec 1 := Scalar.andi v813 v815
  let v802 : BitVec 32 := Scalar.divsi v801 c32_i32_330
  let c1_i32_336 : BitVec 32 := 1#32
  let v817 : BitVec 32 := Scalar.subi v802 c1_i32_336
  let v818 : BitVec 32 := Scalar.select v816 v817 v802
  let v819 : BitVec 32 := Scalar.subi v818 arg21
  let c1_i32_338 : BitVec 32 := 1#32
  let v821 : BitVec 32 := Scalar.divsi v819 c1_i32_338
  let v822 : BitVec 32 := Scalar.muli v821 c1_i32_338
  let v823 : BitVec 32 := Scalar.addi arg21 v822
  let v820 : BitVec 32 := Scalar.addi arg21 v819
  let c1_i32_340 : BitVec 32 := 1#32
  ⟨v823, v820, c1_i32_340⟩
def k0_mult4 (arg21 : BitVec 32) (v798 : BitVec 32) (v800 : BitVec 32) (k0_t8 : Fin (k0_t8_loop arg21 v798 v800).trips) : BitVec 32 :=
  let v801 : BitVec 32 := Scalar.addi v798 v800
  let c0_i32_331 : BitVec 32 := 0#32
  let v803 : BitVec 1 := Scalar.cmpi .sgt v801 c0_i32_331
  let v804 : BitVec 32 := Scalar.extui v803
  let c0_i32_332 : BitVec 32 := 0#32
  let v805 : BitVec 1 := Scalar.cmpi .slt v801 c0_i32_332
  let v806 : BitVec 32 := Scalar.extui v805
  let v807 : BitVec 32 := Scalar.subi v804 v806
  let c32_i32_330 : BitVec 32 := 32#32
  let c0_i32_333 : BitVec 32 := 0#32
  let v808 : BitVec 1 := Scalar.cmpi .sgt c32_i32_330 c0_i32_333
  let v809 : BitVec 32 := Scalar.extui v808
  let c0_i32_334 : BitVec 32 := 0#32
  let v810 : BitVec 1 := Scalar.cmpi .slt c32_i32_330 c0_i32_334
  let v811 : BitVec 32 := Scalar.extui v810
  let v812 : BitVec 32 := Scalar.subi v809 v811
  let v813 : BitVec 1 := Scalar.cmpi .ne v807 v812
  let v814 : BitVec 32 := Scalar.remsi v801 c32_i32_330
  let c0_i32_335 : BitVec 32 := 0#32
  let v815 : BitVec 1 := Scalar.cmpi .ne v814 c0_i32_335
  let v816 : BitVec 1 := Scalar.andi v813 v815
  let v802 : BitVec 32 := Scalar.divsi v801 c32_i32_330
  let c1_i32_336 : BitVec 32 := 1#32
  let v817 : BitVec 32 := Scalar.subi v802 c1_i32_336
  let v818 : BitVec 32 := Scalar.select v816 v817 v802
  let v819 : BitVec 32 := Scalar.subi v818 arg21
  let c1_i32_338 : BitVec 32 := 1#32
  let v821 : BitVec 32 := Scalar.divsi v819 c1_i32_338
  let v822 : BitVec 32 := Scalar.muli v821 c1_i32_338
  let v823 : BitVec 32 := Scalar.addi arg21 v822
  let c1_i32_340 : BitVec 32 := 1#32
  let arg22 : BitVec 32 := Scf.iv v823 c1_i32_340 k0_t8
  let c32_i32_341 : BitVec 32 := 32#32
  let v824 : BitVec 32 := Scalar.muli arg22 c32_i32_341
  v824
def k0_off77 (arg21 : BitVec 32) (v798 : BitVec 32) (v800 : BitVec 32) (k0_t8 : Fin (k0_t8_loop arg21 v798 v800).trips) : Fin 2 → Nat :=
  let v801 : BitVec 32 := Scalar.addi v798 v800
  let c0_i32_331 : BitVec 32 := 0#32
  let v803 : BitVec 1 := Scalar.cmpi .sgt v801 c0_i32_331
  let v804 : BitVec 32 := Scalar.extui v803
  let c0_i32_332 : BitVec 32 := 0#32
  let v805 : BitVec 1 := Scalar.cmpi .slt v801 c0_i32_332
  let v806 : BitVec 32 := Scalar.extui v805
  let v807 : BitVec 32 := Scalar.subi v804 v806
  let c32_i32_330 : BitVec 32 := 32#32
  let c0_i32_333 : BitVec 32 := 0#32
  let v808 : BitVec 1 := Scalar.cmpi .sgt c32_i32_330 c0_i32_333
  let v809 : BitVec 32 := Scalar.extui v808
  let c0_i32_334 : BitVec 32 := 0#32
  let v810 : BitVec 1 := Scalar.cmpi .slt c32_i32_330 c0_i32_334
  let v811 : BitVec 32 := Scalar.extui v810
  let v812 : BitVec 32 := Scalar.subi v809 v811
  let v813 : BitVec 1 := Scalar.cmpi .ne v807 v812
  let v814 : BitVec 32 := Scalar.remsi v801 c32_i32_330
  let c0_i32_335 : BitVec 32 := 0#32
  let v815 : BitVec 1 := Scalar.cmpi .ne v814 c0_i32_335
  let v816 : BitVec 1 := Scalar.andi v813 v815
  let v802 : BitVec 32 := Scalar.divsi v801 c32_i32_330
  let c1_i32_336 : BitVec 32 := 1#32
  let v817 : BitVec 32 := Scalar.subi v802 c1_i32_336
  let v818 : BitVec 32 := Scalar.select v816 v817 v802
  let v819 : BitVec 32 := Scalar.subi v818 arg21
  let c1_i32_338 : BitVec 32 := 1#32
  let v821 : BitVec 32 := Scalar.divsi v819 c1_i32_338
  let v822 : BitVec 32 := Scalar.muli v821 c1_i32_338
  let v823 : BitVec 32 := Scalar.addi arg21 v822
  let c1_i32_340 : BitVec 32 := 1#32
  let arg22 : BitVec 32 := Scf.iv v823 c1_i32_340 k0_t8
  let c32_i32_341 : BitVec 32 := 32#32
  let v824 : BitVec 32 := Scalar.muli arg22 c32_i32_341
  let v825 : BitVec 32 := v824
  let c0_i32_342 : BitVec 32 := 0#32
  ![v825.toNat, 0]
def k0_off78 (arg21 : BitVec 32) (v798 : BitVec 32) (v800 : BitVec 32) (k0_t8 : Fin (k0_t8_loop arg21 v798 v800).trips) : Fin 2 → Nat :=
  let v801 : BitVec 32 := Scalar.addi v798 v800
  let c0_i32_331 : BitVec 32 := 0#32
  let v803 : BitVec 1 := Scalar.cmpi .sgt v801 c0_i32_331
  let v804 : BitVec 32 := Scalar.extui v803
  let c0_i32_332 : BitVec 32 := 0#32
  let v805 : BitVec 1 := Scalar.cmpi .slt v801 c0_i32_332
  let v806 : BitVec 32 := Scalar.extui v805
  let v807 : BitVec 32 := Scalar.subi v804 v806
  let c32_i32_330 : BitVec 32 := 32#32
  let c0_i32_333 : BitVec 32 := 0#32
  let v808 : BitVec 1 := Scalar.cmpi .sgt c32_i32_330 c0_i32_333
  let v809 : BitVec 32 := Scalar.extui v808
  let c0_i32_334 : BitVec 32 := 0#32
  let v810 : BitVec 1 := Scalar.cmpi .slt c32_i32_330 c0_i32_334
  let v811 : BitVec 32 := Scalar.extui v810
  let v812 : BitVec 32 := Scalar.subi v809 v811
  let v813 : BitVec 1 := Scalar.cmpi .ne v807 v812
  let v814 : BitVec 32 := Scalar.remsi v801 c32_i32_330
  let c0_i32_335 : BitVec 32 := 0#32
  let v815 : BitVec 1 := Scalar.cmpi .ne v814 c0_i32_335
  let v816 : BitVec 1 := Scalar.andi v813 v815
  let v802 : BitVec 32 := Scalar.divsi v801 c32_i32_330
  let c1_i32_336 : BitVec 32 := 1#32
  let v817 : BitVec 32 := Scalar.subi v802 c1_i32_336
  let v818 : BitVec 32 := Scalar.select v816 v817 v802
  let v819 : BitVec 32 := Scalar.subi v818 arg21
  let c1_i32_338 : BitVec 32 := 1#32
  let v821 : BitVec 32 := Scalar.divsi v819 c1_i32_338
  let v822 : BitVec 32 := Scalar.muli v821 c1_i32_338
  let v823 : BitVec 32 := Scalar.addi arg21 v822
  let c1_i32_340 : BitVec 32 := 1#32
  let arg22 : BitVec 32 := Scf.iv v823 c1_i32_340 k0_t8
  let c32_i32_341 : BitVec 32 := 32#32
  let v824 : BitVec 32 := Scalar.muli arg22 c32_i32_341
  let v825 : BitVec 32 := v824
  let c0_i32_343 : BitVec 32 := 0#32
  ![v825.toNat, 0]

def k0_chk16 (arg21 : BitVec 32) (v798 : BitVec 32) (v800 : BitVec 32) : Prop :=
  ((k0_t7_loop arg21 v798 v800).OK) ∧
  (∀ k0_t7 : Fin (k0_t7_loop arg21 v798 v800).trips, 32 ∣ (k0_mult3 arg21 v798 v800 k0_t7).toNat) ∧
  (∀ k0_t7 : Fin (k0_t7_loop arg21 v798 v800).trips, ∀ a, (k0_off75 arg21 v798 v800 k0_t7) a + S32x1408.size a ≤ S192x1408.size a) ∧
  (∀ k0_t7 : Fin (k0_t7_loop arg21 v798 v800).trips, ∀ a, (k0_off76 arg21 v798 v800 k0_t7) a + S32x1408.size a ≤ S224x1408.size a) ∧
  (∀ k0_t7 : Fin (k0_t7_loop arg21 v798 v800).trips, ∀ (hinb : ∀ a, (k0_off76 arg21 v798 v800 k0_t7) a + S32x1408.size a ≤ S224x1408.size a), (Rect.unit (s := S224x1408) (k0_off76 arg21 v798 v800 k0_t7) S32x1408.size hinb).WholeWords (EltTy.packing .bf16)) ∧
  (∀ k0_t7 : Fin (k0_t7_loop arg21 v798 v800).trips, ∀ (hinb : ∀ a, (k0_off75 arg21 v798 v800 k0_t7) a + S32x1408.size a ≤ S192x1408.size a), (Rect.unit (s := S192x1408) (k0_off75 arg21 v798 v800 k0_t7) S32x1408.size hinb).WholeWords (EltTy.packing .bf16)) ∧
  ((k0_t8_loop arg21 v798 v800).OK) ∧
  (∀ k0_t8 : Fin (k0_t8_loop arg21 v798 v800).trips, 32 ∣ (k0_mult4 arg21 v798 v800 k0_t8).toNat) ∧
  (∀ k0_t8 : Fin (k0_t8_loop arg21 v798 v800).trips, ∀ a, (k0_off77 arg21 v798 v800 k0_t8) a + S32x1408.size a ≤ S192x1408.size a) ∧
  (∀ k0_t8 : Fin (k0_t8_loop arg21 v798 v800).trips, ∀ a, (k0_off78 arg21 v798 v800 k0_t8) a + S32x1408.size a ≤ S224x1408.size a) ∧
  (∀ k0_t8 : Fin (k0_t8_loop arg21 v798 v800).trips, ∀ (hinb : ∀ a, (k0_off78 arg21 v798 v800 k0_t8) a + S32x1408.size a ≤ S224x1408.size a), (Rect.unit (s := S224x1408) (k0_off78 arg21 v798 v800 k0_t8) S32x1408.size hinb).WholeWords (EltTy.packing .bf16)) ∧
  (∀ k0_t8 : Fin (k0_t8_loop arg21 v798 v800).trips, ∀ (hinb : ∀ a, (k0_off77 arg21 v798 v800 k0_t8) a + S32x1408.size a ≤ S192x1408.size a), (Rect.unit (s := S192x1408) (k0_off77 arg21 v798 v800 k0_t8) S32x1408.size hinb).WholeWords (EltTy.packing .bf16))
theorem k0_t7_ok : ∀ (arg21 : BitVec 32) (v798 : BitVec 32) (v800 : BitVec 32) (k0_hw16 : k0_chk16 arg21 v798 v800), (k0_t7_loop arg21 v798 v800).OK := fun arg21 v798 v800 k0_hw16 => k0_hw16.1
theorem k0_mult3_dvd : ∀ (arg21 : BitVec 32) (v798 : BitVec 32) (v800 : BitVec 32) (k0_hw16 : k0_chk16 arg21 v798 v800) (k0_t7 : Fin (k0_t7_loop arg21 v798 v800).trips), 32 ∣ (k0_mult3 arg21 v798 v800 k0_t7).toNat := fun arg21 v798 v800 k0_hw16 k0_t7 => k0_hw16.2.1 k0_t7
theorem k0_off75_inb : ∀ (arg21 : BitVec 32) (v798 : BitVec 32) (v800 : BitVec 32) (k0_hw16 : k0_chk16 arg21 v798 v800) (k0_t7 : Fin (k0_t7_loop arg21 v798 v800).trips), ∀ a, (k0_off75 arg21 v798 v800 k0_t7) a + S32x1408.size a ≤ S192x1408.size a := fun arg21 v798 v800 k0_hw16 k0_t7 => k0_hw16.2.2.1 k0_t7
theorem k0_off76_inb : ∀ (arg21 : BitVec 32) (v798 : BitVec 32) (v800 : BitVec 32) (k0_hw16 : k0_chk16 arg21 v798 v800) (k0_t7 : Fin (k0_t7_loop arg21 v798 v800).trips), ∀ a, (k0_off76 arg21 v798 v800 k0_t7) a + S32x1408.size a ≤ S224x1408.size a := fun arg21 v798 v800 k0_hw16 k0_t7 => k0_hw16.2.2.2.1 k0_t7
theorem k0_off76_wordsbf16 : ∀ (arg21 : BitVec 32) (v798 : BitVec 32) (v800 : BitVec 32) (k0_hw16 : k0_chk16 arg21 v798 v800) (k0_t7 : Fin (k0_t7_loop arg21 v798 v800).trips), (Rect.unit (s := S224x1408) (k0_off76 arg21 v798 v800 k0_t7) S32x1408.size (k0_off76_inb arg21 v798 v800 k0_hw16 k0_t7)).WholeWords (EltTy.packing .bf16) := fun arg21 v798 v800 k0_hw16 k0_t7 => k0_hw16.2.2.2.2.1 k0_t7 (k0_off76_inb arg21 v798 v800 k0_hw16 k0_t7)
theorem k0_off75_wordsbf16 : ∀ (arg21 : BitVec 32) (v798 : BitVec 32) (v800 : BitVec 32) (k0_hw16 : k0_chk16 arg21 v798 v800) (k0_t7 : Fin (k0_t7_loop arg21 v798 v800).trips), (Rect.unit (s := S192x1408) (k0_off75 arg21 v798 v800 k0_t7) S32x1408.size (k0_off75_inb arg21 v798 v800 k0_hw16 k0_t7)).WholeWords (EltTy.packing .bf16) := fun arg21 v798 v800 k0_hw16 k0_t7 => k0_hw16.2.2.2.2.2.1 k0_t7 (k0_off75_inb arg21 v798 v800 k0_hw16 k0_t7)
theorem k0_t8_ok : ∀ (arg21 : BitVec 32) (v798 : BitVec 32) (v800 : BitVec 32) (k0_hw16 : k0_chk16 arg21 v798 v800), (k0_t8_loop arg21 v798 v800).OK := fun arg21 v798 v800 k0_hw16 => k0_hw16.2.2.2.2.2.2.1
theorem k0_mult4_dvd : ∀ (arg21 : BitVec 32) (v798 : BitVec 32) (v800 : BitVec 32) (k0_hw16 : k0_chk16 arg21 v798 v800) (k0_t8 : Fin (k0_t8_loop arg21 v798 v800).trips), 32 ∣ (k0_mult4 arg21 v798 v800 k0_t8).toNat := fun arg21 v798 v800 k0_hw16 k0_t8 => k0_hw16.2.2.2.2.2.2.2.1 k0_t8
theorem k0_off77_inb : ∀ (arg21 : BitVec 32) (v798 : BitVec 32) (v800 : BitVec 32) (k0_hw16 : k0_chk16 arg21 v798 v800) (k0_t8 : Fin (k0_t8_loop arg21 v798 v800).trips), ∀ a, (k0_off77 arg21 v798 v800 k0_t8) a + S32x1408.size a ≤ S192x1408.size a := fun arg21 v798 v800 k0_hw16 k0_t8 => k0_hw16.2.2.2.2.2.2.2.2.1 k0_t8
theorem k0_off78_inb : ∀ (arg21 : BitVec 32) (v798 : BitVec 32) (v800 : BitVec 32) (k0_hw16 : k0_chk16 arg21 v798 v800) (k0_t8 : Fin (k0_t8_loop arg21 v798 v800).trips), ∀ a, (k0_off78 arg21 v798 v800 k0_t8) a + S32x1408.size a ≤ S224x1408.size a := fun arg21 v798 v800 k0_hw16 k0_t8 => k0_hw16.2.2.2.2.2.2.2.2.2.1 k0_t8
theorem k0_off78_wordsbf16 : ∀ (arg21 : BitVec 32) (v798 : BitVec 32) (v800 : BitVec 32) (k0_hw16 : k0_chk16 arg21 v798 v800) (k0_t8 : Fin (k0_t8_loop arg21 v798 v800).trips), (Rect.unit (s := S224x1408) (k0_off78 arg21 v798 v800 k0_t8) S32x1408.size (k0_off78_inb arg21 v798 v800 k0_hw16 k0_t8)).WholeWords (EltTy.packing .bf16) := fun arg21 v798 v800 k0_hw16 k0_t8 => k0_hw16.2.2.2.2.2.2.2.2.2.2.1 k0_t8 (k0_off78_inb arg21 v798 v800 k0_hw16 k0_t8)
theorem k0_off77_wordsbf16 : ∀ (arg21 : BitVec 32) (v798 : BitVec 32) (v800 : BitVec 32) (k0_hw16 : k0_chk16 arg21 v798 v800) (k0_t8 : Fin (k0_t8_loop arg21 v798 v800).trips), (Rect.unit (s := S192x1408) (k0_off77 arg21 v798 v800 k0_t8) S32x1408.size (k0_off77_inb arg21 v798 v800 k0_hw16 k0_t8)).WholeWords (EltTy.packing .bf16) := fun arg21 v798 v800 k0_hw16 k0_t8 => k0_hw16.2.2.2.2.2.2.2.2.2.2.2 k0_t8 (k0_off77_inb arg21 v798 v800 k0_hw16 k0_t8)

@[reducible] def k0_t9_loop (v18_0 : BitVec 32) : Scf.Loop 32 :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let v625 : BitVec 32 := Scalar.addi c0_i32_231 v624
  let c1_i32_235 : BitVec 32 := 1#32
  ⟨v628, v625, c1_i32_235⟩
def k0_off79 (v18_0 : BitVec 32) (k0_t9 : Fin (k0_t9_loop v18_0).trips) : Fin 1 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let v754 : Index := Scalar.indexCast arg20
  ![v754.toNat]
def k0_off80 (v18_0 : BitVec 32) (k0_t9 : Fin (k0_t9_loop v18_0).trips) : Fin 1 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  ![v765.toNat]
def k0_off81 (v18_0 : BitVec 32) (k0_t9 : Fin (k0_t9_loop v18_0).trips) : Fin 3 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  let c0_i32_314 : BitVec 32 := 0#32
  let c0_i32_315 : BitVec 32 := 0#32
  ![v765.toNat, 0, 0]
def k0_off82 (v755 : BitVec 32) : Fin 3 → Nat :=
  let c0_i32_316 : BitVec 32 := 0#32
  let c0_i32_317 : BitVec 32 := 0#32
  ![v755.toNat, 0, 0]

def k0_off83 (v755 : BitVec 32) : Fin 1 → Nat :=
  let v772 : Index := Scalar.indexCast v755
  ![v772.toNat]
def k0_off84 (v18_0 : BitVec 32) (k0_t9 : Fin (k0_t9_loop v18_0).trips) : Fin 1 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  ![v765.toNat]
def k0_cond13 (v773 : BitVec 32) : BitVec 1 :=
  let c0_i32_318 : BitVec 32 := 0#32
  let v774 : BitVec 1 := Scalar.cmpi .sgt v773 c0_i32_318
  let v775 : BitVec 32 := Scalar.extui v774
  let c0_i32_319 : BitVec 32 := 0#32
  let v776 : BitVec 1 := Scalar.cmpi .ne v775 c0_i32_319
  v776

def k0_off85 (v18_0 : BitVec 32) (k0_t9 : Fin (k0_t9_loop v18_0).trips) : Fin 3 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  let c1536_i32_341 : BitVec 32 := 1536#32
  let c0_i32_342 : BitVec 32 := 0#32
  ![v765.toNat, 1536, 0]
def k0_off86 (v755 : BitVec 32) : Fin 3 → Nat :=
  let c1536_i32_343 : BitVec 32 := 1536#32
  let c0_i32_344 : BitVec 32 := 0#32
  ![v755.toNat, 1536, 0]

def k0_chk18 (v18_0 : BitVec 32) (k0_t9 : Fin (k0_t9_loop v18_0).trips) (v755 : BitVec 32) (v773 : BitVec 32) : Prop :=
  (∀ (k0_h13 : k0_cond13 v773 = 1#1), ∀ a, (k0_off84 v18_0 k0_t9) a + S1.size a ≤ S8.size a) ∧
  (∀ (k0_h13 : k0_cond13 v773 = 1#1), ∀ a, (k0_off85 v18_0 k0_t9) a + S1x1536x1408.size a ≤ S8x3072x1408.size a) ∧
  (∀ (k0_h13 : k0_cond13 v773 = 1#1), ∀ a, (k0_off86 v755) a + S1x1536x1408.size a ≤ S16x3072x1408.size a) ∧
  (∀ (k0_h13 : k0_cond13 v773 = 1#1), ∀ (hinb : ∀ a, (k0_off86 v755) a + S1x1536x1408.size a ≤ S16x3072x1408.size a), (Rect.unit (s := S16x3072x1408) (k0_off86 v755) S1x1536x1408.size hinb).WholeWords (EltTy.packing .fp8e4m3)) ∧
  (∀ (k0_h13 : k0_cond13 v773 = 1#1), ∀ (hinb : ∀ a, (k0_off85 v18_0 k0_t9) a + S1x1536x1408.size a ≤ S8x3072x1408.size a), (Rect.unit (s := S8x3072x1408) (k0_off85 v18_0 k0_t9) S1x1536x1408.size hinb).WholeWords (EltTy.packing .fp8e4m3))
theorem k0_off84_inb : ∀ (v18_0 : BitVec 32) (k0_t9 : Fin (k0_t9_loop v18_0).trips) (v755 : BitVec 32) (v773 : BitVec 32) (k0_hw18 : k0_chk18 v18_0 k0_t9 v755 v773), ∀ (k0_h13 : k0_cond13 v773 = 1#1), ∀ a, (k0_off84 v18_0 k0_t9) a + S1.size a ≤ S8.size a := fun v18_0 k0_t9 v755 v773 k0_hw18 k0_h13 => k0_hw18.1 k0_h13
theorem k0_off85_inb : ∀ (v18_0 : BitVec 32) (k0_t9 : Fin (k0_t9_loop v18_0).trips) (v755 : BitVec 32) (v773 : BitVec 32) (k0_hw18 : k0_chk18 v18_0 k0_t9 v755 v773), ∀ (k0_h13 : k0_cond13 v773 = 1#1), ∀ a, (k0_off85 v18_0 k0_t9) a + S1x1536x1408.size a ≤ S8x3072x1408.size a := fun v18_0 k0_t9 v755 v773 k0_hw18 k0_h13 => k0_hw18.2.1 k0_h13
theorem k0_off86_inb : ∀ (v18_0 : BitVec 32) (k0_t9 : Fin (k0_t9_loop v18_0).trips) (v755 : BitVec 32) (v773 : BitVec 32) (k0_hw18 : k0_chk18 v18_0 k0_t9 v755 v773), ∀ (k0_h13 : k0_cond13 v773 = 1#1), ∀ a, (k0_off86 v755) a + S1x1536x1408.size a ≤ S16x3072x1408.size a := fun v18_0 k0_t9 v755 v773 k0_hw18 k0_h13 => k0_hw18.2.2.1 k0_h13
theorem k0_off86_wordsfp8e4m3 : ∀ (v18_0 : BitVec 32) (k0_t9 : Fin (k0_t9_loop v18_0).trips) (v755 : BitVec 32) (v773 : BitVec 32) (k0_hw18 : k0_chk18 v18_0 k0_t9 v755 v773), ∀ (k0_h13 : k0_cond13 v773 = 1#1), (Rect.unit (s := S16x3072x1408) (k0_off86 v755) S1x1536x1408.size (k0_off86_inb v18_0 k0_t9 v755 v773 k0_hw18 k0_h13)).WholeWords (EltTy.packing .fp8e4m3) := fun v18_0 k0_t9 v755 v773 k0_hw18 k0_h13 => k0_hw18.2.2.2.1 k0_h13 (k0_off86_inb v18_0 k0_t9 v755 v773 k0_hw18 k0_h13)
theorem k0_off85_wordsfp8e4m3 : ∀ (v18_0 : BitVec 32) (k0_t9 : Fin (k0_t9_loop v18_0).trips) (v755 : BitVec 32) (v773 : BitVec 32) (k0_hw18 : k0_chk18 v18_0 k0_t9 v755 v773), ∀ (k0_h13 : k0_cond13 v773 = 1#1), (Rect.unit (s := S8x3072x1408) (k0_off85 v18_0 k0_t9) S1x1536x1408.size (k0_off85_inb v18_0 k0_t9 v755 v773 k0_hw18 k0_h13)).WholeWords (EltTy.packing .fp8e4m3) := fun v18_0 k0_t9 v755 v773 k0_hw18 k0_h13 => k0_hw18.2.2.2.2 k0_h13 (k0_off85_inb v18_0 k0_t9 v755 v773 k0_hw18 k0_h13)

def k0_off87 (v18_0 : BitVec 32) (k0_t9 : Fin (k0_t9_loop v18_0).trips) : Fin 1 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let v777 : Index := Scalar.indexCast arg20
  ![v777.toNat]
def k0_off88 (v780 : BitVec 32) : Fin 1 → Nat :=
  let v781 : Index := Scalar.indexCast v780
  ![v781.toNat]

def k0_chk19 (v780 : BitVec 32) : Prop :=
  (∀ a, (k0_off88 v780) a + S1.size a ≤ S16.size a)
theorem k0_off88_inb : ∀ (v780 : BitVec 32) (k0_hw19 : k0_chk19 v780), ∀ a, (k0_off88 v780) a + S1.size a ≤ S16.size a := fun v780 k0_hw19 => k0_hw19

@[reducible] def k0_t10_loop (v778 : BitVec 32) (v782 : BitVec 32) : Scf.Loop 32 :=
  let c0_i32_324 : BitVec 32 := 0#32
  let v783 : BitVec 32 := Scalar.addi v778 v782
  let c_m32_i32_320 : BitVec 32 := 4294967264#32
  let v784 : BitVec 32 := Scalar.andi v778 c_m32_i32_320
  let v785 : BitVec 32 := Scalar.subi v783 v784
  let c63_i32_321 : BitVec 32 := 63#32
  let v786 : BitVec 32 := Scalar.addi v785 c63_i32_321
  let c64_i32_322 : BitVec 32 := 64#32
  let v787 : BitVec 32 := Scalar.divsi v786 c64_i32_322
  let v788 : BitVec 32 := Scalar.subi v787 c0_i32_324
  let c1_i32_325 : BitVec 32 := 1#32
  let v790 : BitVec 32 := Scalar.divsi v788 c1_i32_325
  let v791 : BitVec 32 := Scalar.muli v790 c1_i32_325
  let v792 : BitVec 32 := Scalar.addi c0_i32_324 v791
  let c1_i32_326 : BitVec 32 := 1#32
  ⟨c0_i32_324, v792, c1_i32_326⟩

def k0_mult5 (v778 : BitVec 32) (v782 : BitVec 32) (k0_t10 : Fin (k0_t10_loop v778 v782).trips) : BitVec 32 :=
  let c_m32_i32_320 : BitVec 32 := 4294967264#32
  let v784 : BitVec 32 := Scalar.andi v778 c_m32_i32_320
  let c0_i32_324 : BitVec 32 := 0#32
  let c1_i32_326 : BitVec 32 := 1#32
  let arg22 : BitVec 32 := Scf.iv c0_i32_324 c1_i32_326 k0_t10
  let c64_i32_341 : BitVec 32 := 64#32
  let v824 : BitVec 32 := Scalar.muli arg22 c64_i32_341
  let v825 : BitVec 32 := Scalar.addi v784 v824
  v825
def k0_off89 (v778 : BitVec 32) (v782 : BitVec 32) (k0_t10 : Fin (k0_t10_loop v778 v782).trips) : Fin 2 → Nat :=
  let c_m32_i32_320 : BitVec 32 := 4294967264#32
  let v784 : BitVec 32 := Scalar.andi v778 c_m32_i32_320
  let c0_i32_324 : BitVec 32 := 0#32
  let c1_i32_326 : BitVec 32 := 1#32
  let arg22 : BitVec 32 := Scf.iv c0_i32_324 c1_i32_326 k0_t10
  let c64_i32_341 : BitVec 32 := 64#32
  let v824 : BitVec 32 := Scalar.muli arg22 c64_i32_341
  let v825 : BitVec 32 := Scalar.addi v784 v824
  let v826 : BitVec 32 := v825
  let v827 : Index := Scalar.indexCast v826
  let c0_342 : Index := 0#32
  ![v827.toNat, 0]
def k0_off90 (v18_0 : BitVec 32) (k0_t9 : Fin (k0_t9_loop v18_0).trips) : Fin 3 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  let v829 : Index := Scalar.indexCast v765
  let c0_343 : Index := 0#32
  let c0_344 : Index := 0#32
  ![v829.toNat, 0, 0]
def k0_off91 (v18_0 : BitVec 32) (k0_t9 : Fin (k0_t9_loop v18_0).trips) : Fin 1 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let v833 : Index := Scalar.indexCast arg20
  ![v833.toNat]
def k0_off92 (v778 : BitVec 32) (v782 : BitVec 32) (k0_t10 : Fin (k0_t10_loop v778 v782).trips) : Fin 2 → Nat :=
  let c_m32_i32_320 : BitVec 32 := 4294967264#32
  let v784 : BitVec 32 := Scalar.andi v778 c_m32_i32_320
  let c0_i32_324 : BitVec 32 := 0#32
  let c1_i32_326 : BitVec 32 := 1#32
  let arg22 : BitVec 32 := Scf.iv c0_i32_324 c1_i32_326 k0_t10
  let c64_i32_341 : BitVec 32 := 64#32
  let v824 : BitVec 32 := Scalar.muli arg22 c64_i32_341
  let v825 : BitVec 32 := Scalar.addi v784 v824
  let v826 : BitVec 32 := v825
  let v837 : Index := Scalar.indexCast v826
  let c0_346 : Index := 0#32
  ![v837.toNat, 0]
def k0_off93 (v834 : BitVec 32) : Fin 3 → Nat :=
  let v841 : Index := Scalar.indexCast v834
  let c0_347 : Index := 0#32
  let c0_348 : Index := 0#32
  ![v841.toNat, 0, 0]

def k0_off94 (v834 : BitVec 32) : Fin 1 → Nat :=
  let v851 : Index := Scalar.indexCast v834
  ![v851.toNat]

def k0_chk21 (v834 : BitVec 32) : Prop :=
  (∀ a, (k0_off93 v834) a + S1x1x1408.size a ≤ S16x1x1408.size a) ∧
  (∀ a, (k0_off94 v834) a + S1.size a ≤ S16.size a)
theorem k0_off93_inb : ∀ (v834 : BitVec 32) (k0_hw21 : k0_chk21 v834), ∀ a, (k0_off93 v834) a + S1x1x1408.size a ≤ S16x1x1408.size a := fun v834 k0_hw21 => k0_hw21.1
theorem k0_off94_inb : ∀ (v834 : BitVec 32) (k0_hw21 : k0_chk21 v834), ∀ a, (k0_off94 v834) a + S1.size a ≤ S16.size a := fun v834 k0_hw21 => k0_hw21.2

def k0_off95 (v778 : BitVec 32) (v782 : BitVec 32) (k0_t10 : Fin (k0_t10_loop v778 v782).trips) : Fin 2 → Nat :=
  let c_m32_i32_320 : BitVec 32 := 4294967264#32
  let v784 : BitVec 32 := Scalar.andi v778 c_m32_i32_320
  let c0_i32_324 : BitVec 32 := 0#32
  let c1_i32_326 : BitVec 32 := 1#32
  let arg22 : BitVec 32 := Scf.iv c0_i32_324 c1_i32_326 k0_t10
  let c64_i32_341 : BitVec 32 := 64#32
  let v824 : BitVec 32 := Scalar.muli arg22 c64_i32_341
  let v825 : BitVec 32 := Scalar.addi v784 v824
  let v826 : BitVec 32 := v825
  let v857 : Index := Scalar.indexCast v826
  let c0_349 : Index := 0#32
  ![v857.toNat, 0]
@[reducible] def k0_t11_loop (v778 : BitVec 32) (v782 : BitVec 32) : Scf.Loop 32 :=
  let c0_i32_324 : BitVec 32 := 0#32
  let v783 : BitVec 32 := Scalar.addi v778 v782
  let c_m32_i32_320 : BitVec 32 := 4294967264#32
  let v784 : BitVec 32 := Scalar.andi v778 c_m32_i32_320
  let v785 : BitVec 32 := Scalar.subi v783 v784
  let c63_i32_321 : BitVec 32 := 63#32
  let v786 : BitVec 32 := Scalar.addi v785 c63_i32_321
  let c64_i32_322 : BitVec 32 := 64#32
  let v787 : BitVec 32 := Scalar.divsi v786 c64_i32_322
  let v788 : BitVec 32 := Scalar.subi v787 c0_i32_324
  let c1_i32_325 : BitVec 32 := 1#32
  let v790 : BitVec 32 := Scalar.divsi v788 c1_i32_325
  let v791 : BitVec 32 := Scalar.muli v790 c1_i32_325
  let v792 : BitVec 32 := Scalar.addi c0_i32_324 v791
  let v789 : BitVec 32 := Scalar.addi c0_i32_324 v788
  let c1_i32_327 : BitVec 32 := 1#32
  ⟨v792, v789, c1_i32_327⟩
def k0_mult6 (v778 : BitVec 32) (v782 : BitVec 32) (k0_t11 : Fin (k0_t11_loop v778 v782).trips) : BitVec 32 :=
  let c_m32_i32_320 : BitVec 32 := 4294967264#32
  let v784 : BitVec 32 := Scalar.andi v778 c_m32_i32_320
  let c0_i32_324 : BitVec 32 := 0#32
  let v783 : BitVec 32 := Scalar.addi v778 v782
  let v785 : BitVec 32 := Scalar.subi v783 v784
  let c63_i32_321 : BitVec 32 := 63#32
  let v786 : BitVec 32 := Scalar.addi v785 c63_i32_321
  let c64_i32_322 : BitVec 32 := 64#32
  let v787 : BitVec 32 := Scalar.divsi v786 c64_i32_322
  let v788 : BitVec 32 := Scalar.subi v787 c0_i32_324
  let c1_i32_325 : BitVec 32 := 1#32
  let v790 : BitVec 32 := Scalar.divsi v788 c1_i32_325
  let v791 : BitVec 32 := Scalar.muli v790 c1_i32_325
  let v792 : BitVec 32 := Scalar.addi c0_i32_324 v791
  let c1_i32_327 : BitVec 32 := 1#32
  let arg22 : BitVec 32 := Scf.iv v792 c1_i32_327 k0_t11
  let c64_i32_341 : BitVec 32 := 64#32
  let v824 : BitVec 32 := Scalar.muli arg22 c64_i32_341
  let v825 : BitVec 32 := Scalar.addi v784 v824
  v825
def k0_off96 (v778 : BitVec 32) (v782 : BitVec 32) (k0_t11 : Fin (k0_t11_loop v778 v782).trips) : Fin 2 → Nat :=
  let c_m32_i32_320 : BitVec 32 := 4294967264#32
  let v784 : BitVec 32 := Scalar.andi v778 c_m32_i32_320
  let c0_i32_324 : BitVec 32 := 0#32
  let v783 : BitVec 32 := Scalar.addi v778 v782
  let v785 : BitVec 32 := Scalar.subi v783 v784
  let c63_i32_321 : BitVec 32 := 63#32
  let v786 : BitVec 32 := Scalar.addi v785 c63_i32_321
  let c64_i32_322 : BitVec 32 := 64#32
  let v787 : BitVec 32 := Scalar.divsi v786 c64_i32_322
  let v788 : BitVec 32 := Scalar.subi v787 c0_i32_324
  let c1_i32_325 : BitVec 32 := 1#32
  let v790 : BitVec 32 := Scalar.divsi v788 c1_i32_325
  let v791 : BitVec 32 := Scalar.muli v790 c1_i32_325
  let v792 : BitVec 32 := Scalar.addi c0_i32_324 v791
  let c1_i32_327 : BitVec 32 := 1#32
  let arg22 : BitVec 32 := Scf.iv v792 c1_i32_327 k0_t11
  let c64_i32_341 : BitVec 32 := 64#32
  let v824 : BitVec 32 := Scalar.muli arg22 c64_i32_341
  let v825 : BitVec 32 := Scalar.addi v784 v824
  let v826 : BitVec 32 := v825
  let v827 : Index := Scalar.indexCast v826
  let c0_342 : Index := 0#32
  ![v827.toNat, 0]
def k0_off97 (v18_0 : BitVec 32) (k0_t9 : Fin (k0_t9_loop v18_0).trips) : Fin 3 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_308 : BitVec 32 := 8#32
  let c0_i32_309 : BitVec 32 := 0#32
  let v756 : BitVec 1 := Scalar.cmpi .eq c8_i32_308 c0_i32_309
  let c1_i32_310 : BitVec 32 := 1#32
  let v757 : BitVec 32 := Scalar.select v756 c1_i32_310 c8_i32_308
  let v758 : BitVec 32 := Scalar.remsi arg20 v757
  let c0_i32_312 : BitVec 32 := 0#32
  let v760 : BitVec 1 := Scalar.cmpi .slt v758 c0_i32_312
  let c0_i32_313 : BitVec 32 := 0#32
  let v761 : BitVec 1 := Scalar.cmpi .slt v757 c0_i32_313
  let v762 : BitVec 1 := Scalar.xori v760 v761
  let c0_i32_311 : BitVec 32 := 0#32
  let v759 : BitVec 1 := Scalar.cmpi .ne v758 c0_i32_311
  let v763 : BitVec 1 := Scalar.andi v762 v759
  let v764 : BitVec 32 := Scalar.addi v758 v757
  let v765 : BitVec 32 := Scalar.select v763 v764 v758
  let v829 : Index := Scalar.indexCast v765
  let c0_343 : Index := 0#32
  let c0_344 : Index := 0#32
  ![v829.toNat, 0, 0]
def k0_off98 (v18_0 : BitVec 32) (k0_t9 : Fin (k0_t9_loop v18_0).trips) : Fin 1 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let v833 : Index := Scalar.indexCast arg20
  ![v833.toNat]
def k0_off99 (v778 : BitVec 32) (v782 : BitVec 32) (k0_t11 : Fin (k0_t11_loop v778 v782).trips) : Fin 2 → Nat :=
  let c_m32_i32_320 : BitVec 32 := 4294967264#32
  let v784 : BitVec 32 := Scalar.andi v778 c_m32_i32_320
  let c0_i32_324 : BitVec 32 := 0#32
  let v783 : BitVec 32 := Scalar.addi v778 v782
  let v785 : BitVec 32 := Scalar.subi v783 v784
  let c63_i32_321 : BitVec 32 := 63#32
  let v786 : BitVec 32 := Scalar.addi v785 c63_i32_321
  let c64_i32_322 : BitVec 32 := 64#32
  let v787 : BitVec 32 := Scalar.divsi v786 c64_i32_322
  let v788 : BitVec 32 := Scalar.subi v787 c0_i32_324
  let c1_i32_325 : BitVec 32 := 1#32
  let v790 : BitVec 32 := Scalar.divsi v788 c1_i32_325
  let v791 : BitVec 32 := Scalar.muli v790 c1_i32_325
  let v792 : BitVec 32 := Scalar.addi c0_i32_324 v791
  let c1_i32_327 : BitVec 32 := 1#32
  let arg22 : BitVec 32 := Scf.iv v792 c1_i32_327 k0_t11
  let c64_i32_341 : BitVec 32 := 64#32
  let v824 : BitVec 32 := Scalar.muli arg22 c64_i32_341
  let v825 : BitVec 32 := Scalar.addi v784 v824
  let v826 : BitVec 32 := v825
  let v837 : Index := Scalar.indexCast v826
  let c0_346 : Index := 0#32
  ![v837.toNat, 0]
def k0_off100 (v834 : BitVec 32) : Fin 3 → Nat :=
  let v841 : Index := Scalar.indexCast v834
  let c0_347 : Index := 0#32
  let c0_348 : Index := 0#32
  ![v841.toNat, 0, 0]

def k0_off101 (v834 : BitVec 32) : Fin 1 → Nat :=
  let v851 : Index := Scalar.indexCast v834
  ![v851.toNat]

def k0_chk22 (v834 : BitVec 32) : Prop :=
  (∀ a, (k0_off100 v834) a + S1x1x1408.size a ≤ S16x1x1408.size a) ∧
  (∀ a, (k0_off101 v834) a + S1.size a ≤ S16.size a)
theorem k0_off100_inb : ∀ (v834 : BitVec 32) (k0_hw22 : k0_chk22 v834), ∀ a, (k0_off100 v834) a + S1x1x1408.size a ≤ S16x1x1408.size a := fun v834 k0_hw22 => k0_hw22.1
theorem k0_off101_inb : ∀ (v834 : BitVec 32) (k0_hw22 : k0_chk22 v834), ∀ a, (k0_off101 v834) a + S1.size a ≤ S16.size a := fun v834 k0_hw22 => k0_hw22.2

def k0_off102 (v778 : BitVec 32) (v782 : BitVec 32) (k0_t11 : Fin (k0_t11_loop v778 v782).trips) : Fin 2 → Nat :=
  let c_m32_i32_320 : BitVec 32 := 4294967264#32
  let v784 : BitVec 32 := Scalar.andi v778 c_m32_i32_320
  let c0_i32_324 : BitVec 32 := 0#32
  let v783 : BitVec 32 := Scalar.addi v778 v782
  let v785 : BitVec 32 := Scalar.subi v783 v784
  let c63_i32_321 : BitVec 32 := 63#32
  let v786 : BitVec 32 := Scalar.addi v785 c63_i32_321
  let c64_i32_322 : BitVec 32 := 64#32
  let v787 : BitVec 32 := Scalar.divsi v786 c64_i32_322
  let v788 : BitVec 32 := Scalar.subi v787 c0_i32_324
  let c1_i32_325 : BitVec 32 := 1#32
  let v790 : BitVec 32 := Scalar.divsi v788 c1_i32_325
  let v791 : BitVec 32 := Scalar.muli v790 c1_i32_325
  let v792 : BitVec 32 := Scalar.addi c0_i32_324 v791
  let c1_i32_327 : BitVec 32 := 1#32
  let arg22 : BitVec 32 := Scf.iv v792 c1_i32_327 k0_t11
  let c64_i32_341 : BitVec 32 := 64#32
  let v824 : BitVec 32 := Scalar.muli arg22 c64_i32_341
  let v825 : BitVec 32 := Scalar.addi v784 v824
  let v826 : BitVec 32 := v825
  let v857 : Index := Scalar.indexCast v826
  let c0_349 : Index := 0#32
  ![v857.toNat, 0]

def k0_chk20 (v18_0 : BitVec 32) (k0_t9 : Fin (k0_t9_loop v18_0).trips) (v778 : BitVec 32) (v782 : BitVec 32) : Prop :=
  ((k0_t10_loop v778 v782).OK) ∧
  (∀ k0_t10 : Fin (k0_t10_loop v778 v782).trips, 32 ∣ (k0_mult5 v778 v782 k0_t10).toNat) ∧
  (∀ k0_t10 : Fin (k0_t10_loop v778 v782).trips, ∀ a, (k0_off89 v778 v782 k0_t10) a + S64x3072.size a ≤ S224x3072.size a) ∧
  (∀ k0_t10 : Fin (k0_t10_loop v778 v782).trips, ∀ a, (k0_off90 v18_0 k0_t9) a + S1x3072x1408.size a ≤ S8x3072x1408.size a) ∧
  (∀ k0_t10 : Fin (k0_t10_loop v778 v782).trips, ∀ a, (k0_off91 v18_0 k0_t9) a + S1.size a ≤ S16.size a) ∧
  (∀ k0_t10 : Fin (k0_t10_loop v778 v782).trips, ∀ a, (k0_off92 v778 v782 k0_t10) a + S64x1.size a ≤ S224x1.size a) ∧
  (∀ k0_t10 : Fin (k0_t10_loop v778 v782).trips, ∀ a, (k0_off95 v778 v782 k0_t10) a + S64x1408.size a ≤ S224x1408.size a) ∧
  (∀ k0_t10 : Fin (k0_t10_loop v778 v782).trips, ∀ (hinb : ∀ a, (k0_off95 v778 v782 k0_t10) a + S64x1408.size a ≤ S224x1408.size a), (Rect.unit (s := S224x1408) (k0_off95 v778 v782 k0_t10) S64x1408.size hinb).PackedRows (EltTy.packing .bf16)) ∧
  ((k0_t11_loop v778 v782).OK) ∧
  (∀ k0_t11 : Fin (k0_t11_loop v778 v782).trips, 32 ∣ (k0_mult6 v778 v782 k0_t11).toNat) ∧
  (∀ k0_t11 : Fin (k0_t11_loop v778 v782).trips, ∀ a, (k0_off96 v778 v782 k0_t11) a + S64x3072.size a ≤ S224x3072.size a) ∧
  (∀ k0_t11 : Fin (k0_t11_loop v778 v782).trips, ∀ a, (k0_off97 v18_0 k0_t9) a + S1x3072x1408.size a ≤ S8x3072x1408.size a) ∧
  (∀ k0_t11 : Fin (k0_t11_loop v778 v782).trips, ∀ a, (k0_off98 v18_0 k0_t9) a + S1.size a ≤ S16.size a) ∧
  (∀ k0_t11 : Fin (k0_t11_loop v778 v782).trips, ∀ a, (k0_off99 v778 v782 k0_t11) a + S64x1.size a ≤ S224x1.size a) ∧
  (∀ k0_t11 : Fin (k0_t11_loop v778 v782).trips, ∀ a, (k0_off102 v778 v782 k0_t11) a + S64x1408.size a ≤ S224x1408.size a) ∧
  (∀ k0_t11 : Fin (k0_t11_loop v778 v782).trips, ∀ (hinb : ∀ a, (k0_off102 v778 v782 k0_t11) a + S64x1408.size a ≤ S224x1408.size a), (Rect.unit (s := S224x1408) (k0_off102 v778 v782 k0_t11) S64x1408.size hinb).PackedRows (EltTy.packing .bf16))
theorem k0_t10_ok : ∀ (v18_0 : BitVec 32) (k0_t9 : Fin (k0_t9_loop v18_0).trips) (v778 : BitVec 32) (v782 : BitVec 32) (k0_hw20 : k0_chk20 v18_0 k0_t9 v778 v782), (k0_t10_loop v778 v782).OK := fun v18_0 k0_t9 v778 v782 k0_hw20 => k0_hw20.1
theorem k0_mult5_dvd : ∀ (v18_0 : BitVec 32) (k0_t9 : Fin (k0_t9_loop v18_0).trips) (v778 : BitVec 32) (v782 : BitVec 32) (k0_hw20 : k0_chk20 v18_0 k0_t9 v778 v782) (k0_t10 : Fin (k0_t10_loop v778 v782).trips), 32 ∣ (k0_mult5 v778 v782 k0_t10).toNat := fun v18_0 k0_t9 v778 v782 k0_hw20 k0_t10 => k0_hw20.2.1 k0_t10
theorem k0_off89_inb : ∀ (v18_0 : BitVec 32) (k0_t9 : Fin (k0_t9_loop v18_0).trips) (v778 : BitVec 32) (v782 : BitVec 32) (k0_hw20 : k0_chk20 v18_0 k0_t9 v778 v782) (k0_t10 : Fin (k0_t10_loop v778 v782).trips), ∀ a, (k0_off89 v778 v782 k0_t10) a + S64x3072.size a ≤ S224x3072.size a := fun v18_0 k0_t9 v778 v782 k0_hw20 k0_t10 => k0_hw20.2.2.1 k0_t10
theorem k0_off90_inb : ∀ (v18_0 : BitVec 32) (k0_t9 : Fin (k0_t9_loop v18_0).trips) (v778 : BitVec 32) (v782 : BitVec 32) (k0_hw20 : k0_chk20 v18_0 k0_t9 v778 v782) (k0_t10 : Fin (k0_t10_loop v778 v782).trips), ∀ a, (k0_off90 v18_0 k0_t9) a + S1x3072x1408.size a ≤ S8x3072x1408.size a := fun v18_0 k0_t9 v778 v782 k0_hw20 k0_t10 => k0_hw20.2.2.2.1 k0_t10
theorem k0_off91_inb : ∀ (v18_0 : BitVec 32) (k0_t9 : Fin (k0_t9_loop v18_0).trips) (v778 : BitVec 32) (v782 : BitVec 32) (k0_hw20 : k0_chk20 v18_0 k0_t9 v778 v782) (k0_t10 : Fin (k0_t10_loop v778 v782).trips), ∀ a, (k0_off91 v18_0 k0_t9) a + S1.size a ≤ S16.size a := fun v18_0 k0_t9 v778 v782 k0_hw20 k0_t10 => k0_hw20.2.2.2.2.1 k0_t10
theorem k0_off92_inb : ∀ (v18_0 : BitVec 32) (k0_t9 : Fin (k0_t9_loop v18_0).trips) (v778 : BitVec 32) (v782 : BitVec 32) (k0_hw20 : k0_chk20 v18_0 k0_t9 v778 v782) (k0_t10 : Fin (k0_t10_loop v778 v782).trips), ∀ a, (k0_off92 v778 v782 k0_t10) a + S64x1.size a ≤ S224x1.size a := fun v18_0 k0_t9 v778 v782 k0_hw20 k0_t10 => k0_hw20.2.2.2.2.2.1 k0_t10
theorem k0_off95_inb : ∀ (v18_0 : BitVec 32) (k0_t9 : Fin (k0_t9_loop v18_0).trips) (v778 : BitVec 32) (v782 : BitVec 32) (k0_hw20 : k0_chk20 v18_0 k0_t9 v778 v782) (k0_t10 : Fin (k0_t10_loop v778 v782).trips), ∀ a, (k0_off95 v778 v782 k0_t10) a + S64x1408.size a ≤ S224x1408.size a := fun v18_0 k0_t9 v778 v782 k0_hw20 k0_t10 => k0_hw20.2.2.2.2.2.2.1 k0_t10
theorem k0_off95_packedbf16 : ∀ (v18_0 : BitVec 32) (k0_t9 : Fin (k0_t9_loop v18_0).trips) (v778 : BitVec 32) (v782 : BitVec 32) (k0_hw20 : k0_chk20 v18_0 k0_t9 v778 v782) (k0_t10 : Fin (k0_t10_loop v778 v782).trips), (Rect.unit (s := S224x1408) (k0_off95 v778 v782 k0_t10) S64x1408.size (k0_off95_inb v18_0 k0_t9 v778 v782 k0_hw20 k0_t10)).PackedRows (EltTy.packing .bf16) := fun v18_0 k0_t9 v778 v782 k0_hw20 k0_t10 => k0_hw20.2.2.2.2.2.2.2.1 k0_t10 (k0_off95_inb v18_0 k0_t9 v778 v782 k0_hw20 k0_t10)
theorem k0_t11_ok : ∀ (v18_0 : BitVec 32) (k0_t9 : Fin (k0_t9_loop v18_0).trips) (v778 : BitVec 32) (v782 : BitVec 32) (k0_hw20 : k0_chk20 v18_0 k0_t9 v778 v782), (k0_t11_loop v778 v782).OK := fun v18_0 k0_t9 v778 v782 k0_hw20 => k0_hw20.2.2.2.2.2.2.2.2.1
theorem k0_mult6_dvd : ∀ (v18_0 : BitVec 32) (k0_t9 : Fin (k0_t9_loop v18_0).trips) (v778 : BitVec 32) (v782 : BitVec 32) (k0_hw20 : k0_chk20 v18_0 k0_t9 v778 v782) (k0_t11 : Fin (k0_t11_loop v778 v782).trips), 32 ∣ (k0_mult6 v778 v782 k0_t11).toNat := fun v18_0 k0_t9 v778 v782 k0_hw20 k0_t11 => k0_hw20.2.2.2.2.2.2.2.2.2.1 k0_t11
theorem k0_off96_inb : ∀ (v18_0 : BitVec 32) (k0_t9 : Fin (k0_t9_loop v18_0).trips) (v778 : BitVec 32) (v782 : BitVec 32) (k0_hw20 : k0_chk20 v18_0 k0_t9 v778 v782) (k0_t11 : Fin (k0_t11_loop v778 v782).trips), ∀ a, (k0_off96 v778 v782 k0_t11) a + S64x3072.size a ≤ S224x3072.size a := fun v18_0 k0_t9 v778 v782 k0_hw20 k0_t11 => k0_hw20.2.2.2.2.2.2.2.2.2.2.1 k0_t11
theorem k0_off97_inb : ∀ (v18_0 : BitVec 32) (k0_t9 : Fin (k0_t9_loop v18_0).trips) (v778 : BitVec 32) (v782 : BitVec 32) (k0_hw20 : k0_chk20 v18_0 k0_t9 v778 v782) (k0_t11 : Fin (k0_t11_loop v778 v782).trips), ∀ a, (k0_off97 v18_0 k0_t9) a + S1x3072x1408.size a ≤ S8x3072x1408.size a := fun v18_0 k0_t9 v778 v782 k0_hw20 k0_t11 => k0_hw20.2.2.2.2.2.2.2.2.2.2.2.1 k0_t11
theorem k0_off98_inb : ∀ (v18_0 : BitVec 32) (k0_t9 : Fin (k0_t9_loop v18_0).trips) (v778 : BitVec 32) (v782 : BitVec 32) (k0_hw20 : k0_chk20 v18_0 k0_t9 v778 v782) (k0_t11 : Fin (k0_t11_loop v778 v782).trips), ∀ a, (k0_off98 v18_0 k0_t9) a + S1.size a ≤ S16.size a := fun v18_0 k0_t9 v778 v782 k0_hw20 k0_t11 => k0_hw20.2.2.2.2.2.2.2.2.2.2.2.2.1 k0_t11
theorem k0_off99_inb : ∀ (v18_0 : BitVec 32) (k0_t9 : Fin (k0_t9_loop v18_0).trips) (v778 : BitVec 32) (v782 : BitVec 32) (k0_hw20 : k0_chk20 v18_0 k0_t9 v778 v782) (k0_t11 : Fin (k0_t11_loop v778 v782).trips), ∀ a, (k0_off99 v778 v782 k0_t11) a + S64x1.size a ≤ S224x1.size a := fun v18_0 k0_t9 v778 v782 k0_hw20 k0_t11 => k0_hw20.2.2.2.2.2.2.2.2.2.2.2.2.2.1 k0_t11
theorem k0_off102_inb : ∀ (v18_0 : BitVec 32) (k0_t9 : Fin (k0_t9_loop v18_0).trips) (v778 : BitVec 32) (v782 : BitVec 32) (k0_hw20 : k0_chk20 v18_0 k0_t9 v778 v782) (k0_t11 : Fin (k0_t11_loop v778 v782).trips), ∀ a, (k0_off102 v778 v782 k0_t11) a + S64x1408.size a ≤ S224x1408.size a := fun v18_0 k0_t9 v778 v782 k0_hw20 k0_t11 => k0_hw20.2.2.2.2.2.2.2.2.2.2.2.2.2.2.1 k0_t11
theorem k0_off102_packedbf16 : ∀ (v18_0 : BitVec 32) (k0_t9 : Fin (k0_t9_loop v18_0).trips) (v778 : BitVec 32) (v782 : BitVec 32) (k0_hw20 : k0_chk20 v18_0 k0_t9 v778 v782) (k0_t11 : Fin (k0_t11_loop v778 v782).trips), (Rect.unit (s := S224x1408) (k0_off102 v778 v782 k0_t11) S64x1408.size (k0_off102_inb v18_0 k0_t9 v778 v782 k0_hw20 k0_t11)).PackedRows (EltTy.packing .bf16) := fun v18_0 k0_t9 v778 v782 k0_hw20 k0_t11 => k0_hw20.2.2.2.2.2.2.2.2.2.2.2.2.2.2.2 k0_t11 (k0_off102_inb v18_0 k0_t9 v778 v782 k0_hw20 k0_t11)

def k0_off103 (v18_0 : BitVec 32) (k0_t9 : Fin (k0_t9_loop v18_0).trips) : Fin 1 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_341 : BitVec 32 := 8#32
  let v824 : BitVec 32 := Scalar.addi arg20 c8_i32_341
  let v825 : Index := Scalar.indexCast v824
  ![v825.toNat]
def k0_cond14 (v18_0 : BitVec 32) (k0_t9 : Fin (k0_t9_loop v18_0).trips) : BitVec 1 :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_328 : BitVec 32 := 8#32
  let v793 : BitVec 32 := Scalar.addi arg20 c8_i32_328
  let v794 : BitVec 1 := Scalar.cmpi .slt v793 v18_0
  let v795 : BitVec 32 := Scalar.extui v794
  let c0_i32_329 : BitVec 32 := 0#32
  let v796 : BitVec 1 := Scalar.cmpi .ne v795 c0_i32_329
  v796

def k0_off104 (v18_0 : BitVec 32) (k0_t9 : Fin (k0_t9_loop v18_0).trips) : Fin 1 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_341 : BitVec 32 := 8#32
  let v824 : BitVec 32 := Scalar.addi arg20 c8_i32_341
  let c8_i32_342 : BitVec 32 := 8#32
  let c0_i32_343 : BitVec 32 := 0#32
  let v827 : BitVec 1 := Scalar.cmpi .eq c8_i32_342 c0_i32_343
  let c1_i32_344 : BitVec 32 := 1#32
  let v828 : BitVec 32 := Scalar.select v827 c1_i32_344 c8_i32_342
  let v829 : BitVec 32 := Scalar.remsi v824 v828
  let c0_i32_346 : BitVec 32 := 0#32
  let v831 : BitVec 1 := Scalar.cmpi .slt v829 c0_i32_346
  let c0_i32_347 : BitVec 32 := 0#32
  let v832 : BitVec 1 := Scalar.cmpi .slt v828 c0_i32_347
  let v833 : BitVec 1 := Scalar.xori v831 v832
  let c0_i32_345 : BitVec 32 := 0#32
  let v830 : BitVec 1 := Scalar.cmpi .ne v829 c0_i32_345
  let v834 : BitVec 1 := Scalar.andi v833 v830
  let v835 : BitVec 32 := Scalar.addi v829 v828
  let v836 : BitVec 32 := Scalar.select v834 v835 v829
  ![v836.toNat]
def k0_off105 (v18_0 : BitVec 32) (k0_t9 : Fin (k0_t9_loop v18_0).trips) : Fin 3 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_341 : BitVec 32 := 8#32
  let v824 : BitVec 32 := Scalar.addi arg20 c8_i32_341
  let c8_i32_342 : BitVec 32 := 8#32
  let c0_i32_343 : BitVec 32 := 0#32
  let v827 : BitVec 1 := Scalar.cmpi .eq c8_i32_342 c0_i32_343
  let c1_i32_344 : BitVec 32 := 1#32
  let v828 : BitVec 32 := Scalar.select v827 c1_i32_344 c8_i32_342
  let v829 : BitVec 32 := Scalar.remsi v824 v828
  let c0_i32_346 : BitVec 32 := 0#32
  let v831 : BitVec 1 := Scalar.cmpi .slt v829 c0_i32_346
  let c0_i32_347 : BitVec 32 := 0#32
  let v832 : BitVec 1 := Scalar.cmpi .slt v828 c0_i32_347
  let v833 : BitVec 1 := Scalar.xori v831 v832
  let c0_i32_345 : BitVec 32 := 0#32
  let v830 : BitVec 1 := Scalar.cmpi .ne v829 c0_i32_345
  let v834 : BitVec 1 := Scalar.andi v833 v830
  let v835 : BitVec 32 := Scalar.addi v829 v828
  let v836 : BitVec 32 := Scalar.select v834 v835 v829
  let c0_i32_348 : BitVec 32 := 0#32
  let c0_i32_349 : BitVec 32 := 0#32
  ![v836.toNat, 0, 0]
def k0_off106 (v826 : BitVec 32) : Fin 3 → Nat :=
  let c0_i32_350 : BitVec 32 := 0#32
  let c0_i32_351 : BitVec 32 := 0#32
  ![v826.toNat, 0, 0]

def k0_chk23 (v18_0 : BitVec 32) (k0_t9 : Fin (k0_t9_loop v18_0).trips) (v826 : BitVec 32) : Prop :=
  (∀ (k0_h14 : k0_cond14 v18_0 k0_t9 = 1#1), ∀ a, (k0_off106 v826) a + S1x1536x1408.size a ≤ S16x3072x1408.size a) ∧
  (∀ (k0_h14 : k0_cond14 v18_0 k0_t9 = 1#1), ∀ (hinb : ∀ a, (k0_off106 v826) a + S1x1536x1408.size a ≤ S16x3072x1408.size a), (Rect.unit (s := S16x3072x1408) (k0_off106 v826) S1x1536x1408.size hinb).WholeWords (EltTy.packing .fp8e4m3))
theorem k0_off106_inb : ∀ (v18_0 : BitVec 32) (k0_t9 : Fin (k0_t9_loop v18_0).trips) (v826 : BitVec 32) (k0_hw23 : k0_chk23 v18_0 k0_t9 v826), ∀ (k0_h14 : k0_cond14 v18_0 k0_t9 = 1#1), ∀ a, (k0_off106 v826) a + S1x1536x1408.size a ≤ S16x3072x1408.size a := fun v18_0 k0_t9 v826 k0_hw23 k0_h14 => k0_hw23.1 k0_h14
theorem k0_off106_wordsfp8e4m3 : ∀ (v18_0 : BitVec 32) (k0_t9 : Fin (k0_t9_loop v18_0).trips) (v826 : BitVec 32) (k0_hw23 : k0_chk23 v18_0 k0_t9 v826), ∀ (k0_h14 : k0_cond14 v18_0 k0_t9 = 1#1), (Rect.unit (s := S16x3072x1408) (k0_off106 v826) S1x1536x1408.size (k0_off106_inb v18_0 k0_t9 v826 k0_hw23 k0_h14)).WholeWords (EltTy.packing .fp8e4m3) := fun v18_0 k0_t9 v826 k0_hw23 k0_h14 => k0_hw23.2 k0_h14 (k0_off106_inb v18_0 k0_t9 v826 k0_hw23 k0_h14)

def k0_off107 (v18_0 : BitVec 32) (k0_t9 : Fin (k0_t9_loop v18_0).trips) : Fin 1 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_341 : BitVec 32 := 8#32
  let v824 : BitVec 32 := Scalar.addi arg20 c8_i32_341
  let v843 : Index := Scalar.indexCast v824
  ![v843.toNat]
def k0_off108 (v18_0 : BitVec 32) (k0_t9 : Fin (k0_t9_loop v18_0).trips) : Fin 1 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_341 : BitVec 32 := 8#32
  let v824 : BitVec 32 := Scalar.addi arg20 c8_i32_341
  let c8_i32_352 : BitVec 32 := 8#32
  let c0_i32_353 : BitVec 32 := 0#32
  let v845 : BitVec 1 := Scalar.cmpi .eq c8_i32_352 c0_i32_353
  let c1_i32_354 : BitVec 32 := 1#32
  let v846 : BitVec 32 := Scalar.select v845 c1_i32_354 c8_i32_352
  let v847 : BitVec 32 := Scalar.remsi v824 v846
  let c0_i32_356 : BitVec 32 := 0#32
  let v849 : BitVec 1 := Scalar.cmpi .slt v847 c0_i32_356
  let c0_i32_357 : BitVec 32 := 0#32
  let v850 : BitVec 1 := Scalar.cmpi .slt v846 c0_i32_357
  let v851 : BitVec 1 := Scalar.xori v849 v850
  let c0_i32_355 : BitVec 32 := 0#32
  let v848 : BitVec 1 := Scalar.cmpi .ne v847 c0_i32_355
  let v852 : BitVec 1 := Scalar.andi v851 v848
  let v853 : BitVec 32 := Scalar.addi v847 v846
  let v854 : BitVec 32 := Scalar.select v852 v853 v847
  ![v854.toNat]
def k0_cond15 (v18_0 : BitVec 32) (k0_t9 : Fin (k0_t9_loop v18_0).trips) : BitVec 1 :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_341 : BitVec 32 := 8#32
  let v824 : BitVec 32 := Scalar.addi arg20 c8_i32_341
  let v855 : BitVec 1 := Scalar.cmpi .slt v824 v19
  let v856 : BitVec 32 := Scalar.extui v855
  let c0_i32_358 : BitVec 32 := 0#32
  let v857 : BitVec 1 := Scalar.cmpi .ne v856 c0_i32_358
  v857

def k0_off109 (v18_0 : BitVec 32) (k0_t9 : Fin (k0_t9_loop v18_0).trips) : Fin 3 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_341 : BitVec 32 := 8#32
  let v824 : BitVec 32 := Scalar.addi arg20 c8_i32_341
  let c8_i32_352 : BitVec 32 := 8#32
  let c0_i32_353 : BitVec 32 := 0#32
  let v845 : BitVec 1 := Scalar.cmpi .eq c8_i32_352 c0_i32_353
  let c1_i32_354 : BitVec 32 := 1#32
  let v846 : BitVec 32 := Scalar.select v845 c1_i32_354 c8_i32_352
  let v847 : BitVec 32 := Scalar.remsi v824 v846
  let c0_i32_356 : BitVec 32 := 0#32
  let v849 : BitVec 1 := Scalar.cmpi .slt v847 c0_i32_356
  let c0_i32_357 : BitVec 32 := 0#32
  let v850 : BitVec 1 := Scalar.cmpi .slt v846 c0_i32_357
  let v851 : BitVec 1 := Scalar.xori v849 v850
  let c0_i32_355 : BitVec 32 := 0#32
  let v848 : BitVec 1 := Scalar.cmpi .ne v847 c0_i32_355
  let v852 : BitVec 1 := Scalar.andi v851 v848
  let v853 : BitVec 32 := Scalar.addi v847 v846
  let v854 : BitVec 32 := Scalar.select v852 v853 v847
  let c1536_i32_360 : BitVec 32 := 1536#32
  let c0_i32_361 : BitVec 32 := 0#32
  ![v854.toNat, 1536, 0]
def k0_off110 (v844 : BitVec 32) : Fin 3 → Nat :=
  let c1536_i32_362 : BitVec 32 := 1536#32
  let c0_i32_363 : BitVec 32 := 0#32
  ![v844.toNat, 1536, 0]

def k0_off111 (v18_0 : BitVec 32) (k0_t9 : Fin (k0_t9_loop v18_0).trips) : Fin 3 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_341 : BitVec 32 := 8#32
  let v824 : BitVec 32 := Scalar.addi arg20 c8_i32_341
  let c8_i32_352 : BitVec 32 := 8#32
  let c0_i32_353 : BitVec 32 := 0#32
  let v845 : BitVec 1 := Scalar.cmpi .eq c8_i32_352 c0_i32_353
  let c1_i32_354 : BitVec 32 := 1#32
  let v846 : BitVec 32 := Scalar.select v845 c1_i32_354 c8_i32_352
  let v847 : BitVec 32 := Scalar.remsi v824 v846
  let c0_i32_356 : BitVec 32 := 0#32
  let v849 : BitVec 1 := Scalar.cmpi .slt v847 c0_i32_356
  let c0_i32_357 : BitVec 32 := 0#32
  let v850 : BitVec 1 := Scalar.cmpi .slt v846 c0_i32_357
  let v851 : BitVec 1 := Scalar.xori v849 v850
  let c0_i32_355 : BitVec 32 := 0#32
  let v848 : BitVec 1 := Scalar.cmpi .ne v847 c0_i32_355
  let v852 : BitVec 1 := Scalar.andi v851 v848
  let v853 : BitVec 32 := Scalar.addi v847 v846
  let v854 : BitVec 32 := Scalar.select v852 v853 v847
  let c1536_i32_361 : BitVec 32 := 1536#32
  let c0_i32_362 : BitVec 32 := 0#32
  ![v854.toNat, 1536, 0]
def k0_cond16 (v18_0 : BitVec 32) (k0_t9 : Fin (k0_t9_loop v18_0).trips) : BitVec 1 :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_341 : BitVec 32 := 8#32
  let v824 : BitVec 32 := Scalar.addi arg20 c8_i32_341
  let v858 : BitVec 1 := Scalar.cmpi .eq v824 v19
  let v859 : BitVec 32 := Scalar.extui v858
  let c0_i32_359 : BitVec 32 := 0#32
  let v860 : BitVec 1 := Scalar.cmpi .ne v859 c0_i32_359
  v860

def k0_off112 (v844 : BitVec 32) : Fin 3 → Nat :=
  let c1536_i32_363 : BitVec 32 := 1536#32
  let c0_i32_364 : BitVec 32 := 0#32
  ![v844.toNat, 1536, 0]
def k0_off113 (v18_0 : BitVec 32) (k0_t9 : Fin (k0_t9_loop v18_0).trips) : Fin 3 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_341 : BitVec 32 := 8#32
  let v824 : BitVec 32 := Scalar.addi arg20 c8_i32_341
  let c8_i32_352 : BitVec 32 := 8#32
  let c0_i32_353 : BitVec 32 := 0#32
  let v845 : BitVec 1 := Scalar.cmpi .eq c8_i32_352 c0_i32_353
  let c1_i32_354 : BitVec 32 := 1#32
  let v846 : BitVec 32 := Scalar.select v845 c1_i32_354 c8_i32_352
  let v847 : BitVec 32 := Scalar.remsi v824 v846
  let c0_i32_356 : BitVec 32 := 0#32
  let v849 : BitVec 1 := Scalar.cmpi .slt v847 c0_i32_356
  let c0_i32_357 : BitVec 32 := 0#32
  let v850 : BitVec 1 := Scalar.cmpi .slt v846 c0_i32_357
  let v851 : BitVec 1 := Scalar.xori v849 v850
  let c0_i32_355 : BitVec 32 := 0#32
  let v848 : BitVec 1 := Scalar.cmpi .ne v847 c0_i32_355
  let v852 : BitVec 1 := Scalar.andi v851 v848
  let v853 : BitVec 32 := Scalar.addi v847 v846
  let v854 : BitVec 32 := Scalar.select v852 v853 v847
  let c2304_i32_366 : BitVec 32 := 2304#32
  let c0_i32_367 : BitVec 32 := 0#32
  ![v854.toNat, 2304, 0]
def k0_off114 (v844 : BitVec 32) : Fin 3 → Nat :=
  let c2304_i32_368 : BitVec 32 := 2304#32
  let c0_i32_369 : BitVec 32 := 0#32
  ![v844.toNat, 2304, 0]
def k0_off115 (v18_0 : BitVec 32) (k0_t9 : Fin (k0_t9_loop v18_0).trips) : Fin 3 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let c8_i32_341 : BitVec 32 := 8#32
  let v824 : BitVec 32 := Scalar.addi arg20 c8_i32_341
  let c8_i32_352 : BitVec 32 := 8#32
  let c0_i32_353 : BitVec 32 := 0#32
  let v845 : BitVec 1 := Scalar.cmpi .eq c8_i32_352 c0_i32_353
  let c1_i32_354 : BitVec 32 := 1#32
  let v846 : BitVec 32 := Scalar.select v845 c1_i32_354 c8_i32_352
  let v847 : BitVec 32 := Scalar.remsi v824 v846
  let c0_i32_356 : BitVec 32 := 0#32
  let v849 : BitVec 1 := Scalar.cmpi .slt v847 c0_i32_356
  let c0_i32_357 : BitVec 32 := 0#32
  let v850 : BitVec 1 := Scalar.cmpi .slt v846 c0_i32_357
  let v851 : BitVec 1 := Scalar.xori v849 v850
  let c0_i32_355 : BitVec 32 := 0#32
  let v848 : BitVec 1 := Scalar.cmpi .ne v847 c0_i32_355
  let v852 : BitVec 1 := Scalar.andi v851 v848
  let v853 : BitVec 32 := Scalar.addi v847 v846
  let v854 : BitVec 32 := Scalar.select v852 v853 v847
  let c2816_i32_371 : BitVec 32 := 2816#32
  let c0_i32_372 : BitVec 32 := 0#32
  ![v854.toNat, 2816, 0]
def k0_off116 (v844 : BitVec 32) : Fin 3 → Nat :=
  let c2816_i32_373 : BitVec 32 := 2816#32
  let c0_i32_374 : BitVec 32 := 0#32
  ![v844.toNat, 2816, 0]

def k0_chk24 (v18_0 : BitVec 32) (k0_t9 : Fin (k0_t9_loop v18_0).trips) (v844 : BitVec 32) : Prop :=
  (∀ (k0_h14 : k0_cond14 v18_0 k0_t9 = 1#1), ∀ (k0_h15 : k0_cond15 v18_0 k0_t9 = 1#1), ∀ a, (k0_off110 v844) a + S1x1536x1408.size a ≤ S16x3072x1408.size a) ∧
  (∀ (k0_h14 : k0_cond14 v18_0 k0_t9 = 1#1), ∀ (k0_h15 : k0_cond15 v18_0 k0_t9 = 1#1), ∀ (hinb : ∀ a, (k0_off110 v844) a + S1x1536x1408.size a ≤ S16x3072x1408.size a), (Rect.unit (s := S16x3072x1408) (k0_off110 v844) S1x1536x1408.size hinb).WholeWords (EltTy.packing .fp8e4m3)) ∧
  (∀ (k0_h14 : k0_cond14 v18_0 k0_t9 = 1#1), ∀ (k0_h16 : k0_cond16 v18_0 k0_t9 = 1#1), ∀ a, (k0_off112 v844) a + S1x768x1408.size a ≤ S16x3072x1408.size a) ∧
  (∀ (k0_h14 : k0_cond14 v18_0 k0_t9 = 1#1), ∀ (k0_h16 : k0_cond16 v18_0 k0_t9 = 1#1), ∀ (hinb : ∀ a, (k0_off112 v844) a + S1x768x1408.size a ≤ S16x3072x1408.size a), (Rect.unit (s := S16x3072x1408) (k0_off112 v844) S1x768x1408.size hinb).WholeWords (EltTy.packing .fp8e4m3)) ∧
  (∀ (k0_h14 : k0_cond14 v18_0 k0_t9 = 1#1), ∀ (k0_h16 : k0_cond16 v18_0 k0_t9 = 1#1), ∀ a, (k0_off114 v844) a + S1x512x1408.size a ≤ S16x3072x1408.size a) ∧
  (∀ (k0_h14 : k0_cond14 v18_0 k0_t9 = 1#1), ∀ (k0_h16 : k0_cond16 v18_0 k0_t9 = 1#1), ∀ (hinb : ∀ a, (k0_off114 v844) a + S1x512x1408.size a ≤ S16x3072x1408.size a), (Rect.unit (s := S16x3072x1408) (k0_off114 v844) S1x512x1408.size hinb).WholeWords (EltTy.packing .fp8e4m3)) ∧
  (∀ (k0_h14 : k0_cond14 v18_0 k0_t9 = 1#1), ∀ (k0_h16 : k0_cond16 v18_0 k0_t9 = 1#1), ∀ a, (k0_off116 v844) a + S1x256x1408.size a ≤ S16x3072x1408.size a) ∧
  (∀ (k0_h14 : k0_cond14 v18_0 k0_t9 = 1#1), ∀ (k0_h16 : k0_cond16 v18_0 k0_t9 = 1#1), ∀ (hinb : ∀ a, (k0_off116 v844) a + S1x256x1408.size a ≤ S16x3072x1408.size a), (Rect.unit (s := S16x3072x1408) (k0_off116 v844) S1x256x1408.size hinb).WholeWords (EltTy.packing .fp8e4m3))
theorem k0_off110_inb : ∀ (v18_0 : BitVec 32) (k0_t9 : Fin (k0_t9_loop v18_0).trips) (v844 : BitVec 32) (k0_hw24 : k0_chk24 v18_0 k0_t9 v844), ∀ (k0_h14 : k0_cond14 v18_0 k0_t9 = 1#1), ∀ (k0_h15 : k0_cond15 v18_0 k0_t9 = 1#1), ∀ a, (k0_off110 v844) a + S1x1536x1408.size a ≤ S16x3072x1408.size a := fun v18_0 k0_t9 v844 k0_hw24 k0_h14 k0_h15 => k0_hw24.1 k0_h14 k0_h15
theorem k0_off110_wordsfp8e4m3 : ∀ (v18_0 : BitVec 32) (k0_t9 : Fin (k0_t9_loop v18_0).trips) (v844 : BitVec 32) (k0_hw24 : k0_chk24 v18_0 k0_t9 v844), ∀ (k0_h14 : k0_cond14 v18_0 k0_t9 = 1#1), ∀ (k0_h15 : k0_cond15 v18_0 k0_t9 = 1#1), (Rect.unit (s := S16x3072x1408) (k0_off110 v844) S1x1536x1408.size (k0_off110_inb v18_0 k0_t9 v844 k0_hw24 k0_h14 k0_h15)).WholeWords (EltTy.packing .fp8e4m3) := fun v18_0 k0_t9 v844 k0_hw24 k0_h14 k0_h15 => k0_hw24.2.1 k0_h14 k0_h15 (k0_off110_inb v18_0 k0_t9 v844 k0_hw24 k0_h14 k0_h15)
theorem k0_off112_inb : ∀ (v18_0 : BitVec 32) (k0_t9 : Fin (k0_t9_loop v18_0).trips) (v844 : BitVec 32) (k0_hw24 : k0_chk24 v18_0 k0_t9 v844), ∀ (k0_h14 : k0_cond14 v18_0 k0_t9 = 1#1), ∀ (k0_h16 : k0_cond16 v18_0 k0_t9 = 1#1), ∀ a, (k0_off112 v844) a + S1x768x1408.size a ≤ S16x3072x1408.size a := fun v18_0 k0_t9 v844 k0_hw24 k0_h14 k0_h16 => k0_hw24.2.2.1 k0_h14 k0_h16
theorem k0_off112_wordsfp8e4m3 : ∀ (v18_0 : BitVec 32) (k0_t9 : Fin (k0_t9_loop v18_0).trips) (v844 : BitVec 32) (k0_hw24 : k0_chk24 v18_0 k0_t9 v844), ∀ (k0_h14 : k0_cond14 v18_0 k0_t9 = 1#1), ∀ (k0_h16 : k0_cond16 v18_0 k0_t9 = 1#1), (Rect.unit (s := S16x3072x1408) (k0_off112 v844) S1x768x1408.size (k0_off112_inb v18_0 k0_t9 v844 k0_hw24 k0_h14 k0_h16)).WholeWords (EltTy.packing .fp8e4m3) := fun v18_0 k0_t9 v844 k0_hw24 k0_h14 k0_h16 => k0_hw24.2.2.2.1 k0_h14 k0_h16 (k0_off112_inb v18_0 k0_t9 v844 k0_hw24 k0_h14 k0_h16)
theorem k0_off114_inb : ∀ (v18_0 : BitVec 32) (k0_t9 : Fin (k0_t9_loop v18_0).trips) (v844 : BitVec 32) (k0_hw24 : k0_chk24 v18_0 k0_t9 v844), ∀ (k0_h14 : k0_cond14 v18_0 k0_t9 = 1#1), ∀ (k0_h16 : k0_cond16 v18_0 k0_t9 = 1#1), ∀ a, (k0_off114 v844) a + S1x512x1408.size a ≤ S16x3072x1408.size a := fun v18_0 k0_t9 v844 k0_hw24 k0_h14 k0_h16 => k0_hw24.2.2.2.2.1 k0_h14 k0_h16
theorem k0_off114_wordsfp8e4m3 : ∀ (v18_0 : BitVec 32) (k0_t9 : Fin (k0_t9_loop v18_0).trips) (v844 : BitVec 32) (k0_hw24 : k0_chk24 v18_0 k0_t9 v844), ∀ (k0_h14 : k0_cond14 v18_0 k0_t9 = 1#1), ∀ (k0_h16 : k0_cond16 v18_0 k0_t9 = 1#1), (Rect.unit (s := S16x3072x1408) (k0_off114 v844) S1x512x1408.size (k0_off114_inb v18_0 k0_t9 v844 k0_hw24 k0_h14 k0_h16)).WholeWords (EltTy.packing .fp8e4m3) := fun v18_0 k0_t9 v844 k0_hw24 k0_h14 k0_h16 => k0_hw24.2.2.2.2.2.1 k0_h14 k0_h16 (k0_off114_inb v18_0 k0_t9 v844 k0_hw24 k0_h14 k0_h16)
theorem k0_off116_inb : ∀ (v18_0 : BitVec 32) (k0_t9 : Fin (k0_t9_loop v18_0).trips) (v844 : BitVec 32) (k0_hw24 : k0_chk24 v18_0 k0_t9 v844), ∀ (k0_h14 : k0_cond14 v18_0 k0_t9 = 1#1), ∀ (k0_h16 : k0_cond16 v18_0 k0_t9 = 1#1), ∀ a, (k0_off116 v844) a + S1x256x1408.size a ≤ S16x3072x1408.size a := fun v18_0 k0_t9 v844 k0_hw24 k0_h14 k0_h16 => k0_hw24.2.2.2.2.2.2.1 k0_h14 k0_h16
theorem k0_off116_wordsfp8e4m3 : ∀ (v18_0 : BitVec 32) (k0_t9 : Fin (k0_t9_loop v18_0).trips) (v844 : BitVec 32) (k0_hw24 : k0_chk24 v18_0 k0_t9 v844), ∀ (k0_h14 : k0_cond14 v18_0 k0_t9 = 1#1), ∀ (k0_h16 : k0_cond16 v18_0 k0_t9 = 1#1), (Rect.unit (s := S16x3072x1408) (k0_off116 v844) S1x256x1408.size (k0_off116_inb v18_0 k0_t9 v844 k0_hw24 k0_h14 k0_h16)).WholeWords (EltTy.packing .fp8e4m3) := fun v18_0 k0_t9 v844 k0_hw24 k0_h14 k0_h16 => k0_hw24.2.2.2.2.2.2.2 k0_h14 k0_h16 (k0_off116_inb v18_0 k0_t9 v844 k0_hw24 k0_h14 k0_h16)

def k0_off117 (v18_0 : BitVec 32) (k0_t9 : Fin (k0_t9_loop v18_0).trips) : Fin 1 → Nat :=
  let c0_i32_231 : BitVec 32 := 0#32
  let c1_i32_16 : BitVec 32 := 1#32
  let v19 : BitVec 32 := Scalar.subi v18_0 c1_i32_16
  let v624 : BitVec 32 := Scalar.subi v19 c0_i32_231
  let c1_i32_233 : BitVec 32 := 1#32
  let v626 : BitVec 32 := Scalar.divsi v624 c1_i32_233
  let v627 : BitVec 32 := Scalar.muli v626 c1_i32_233
  let v628 : BitVec 32 := Scalar.addi c0_i32_231 v627
  let c1_i32_235 : BitVec 32 := 1#32
  let arg20 : BitVec 32 := Scf.iv v628 c1_i32_235 k0_t9
  let v797 : Index := Scalar.indexCast arg20
  ![v797.toNat]
def k0_off118 (v755 : BitVec 32) : Fin 1 → Nat :=
  let v799 : Index := Scalar.indexCast v755
  ![v799.toNat]

def k0_chk17 (v755 : BitVec 32) : Prop :=
  (∀ a, (k0_off82 v755) a + S1x1536x1408.size a ≤ S16x3072x1408.size a) ∧
  (∀ (hinb : ∀ a, (k0_off82 v755) a + S1x1536x1408.size a ≤ S16x3072x1408.size a), (Rect.unit (s := S16x3072x1408) (k0_off82 v755) S1x1536x1408.size hinb).WholeWords (EltTy.packing .fp8e4m3)) ∧
  (∀ a, (k0_off83 v755) a + S1.size a ≤ S16.size a) ∧
  (∀ a, (k0_off118 v755) a + S1.size a ≤ S16.size a)
theorem k0_off82_inb : ∀ (v755 : BitVec 32) (k0_hw17 : k0_chk17 v755), ∀ a, (k0_off82 v755) a + S1x1536x1408.size a ≤ S16x3072x1408.size a := fun v755 k0_hw17 => k0_hw17.1
theorem k0_off82_wordsfp8e4m3 : ∀ (v755 : BitVec 32) (k0_hw17 : k0_chk17 v755), (Rect.unit (s := S16x3072x1408) (k0_off82 v755) S1x1536x1408.size (k0_off82_inb v755 k0_hw17)).WholeWords (EltTy.packing .fp8e4m3) := fun v755 k0_hw17 => k0_hw17.2.1 (k0_off82_inb v755 k0_hw17)
theorem k0_off83_inb : ∀ (v755 : BitVec 32) (k0_hw17 : k0_chk17 v755), ∀ a, (k0_off83 v755) a + S1.size a ≤ S16.size a := fun v755 k0_hw17 => k0_hw17.2.2.1
theorem k0_off118_inb : ∀ (v755 : BitVec 32) (k0_hw17 : k0_chk17 v755), ∀ a, (k0_off118 v755) a + S1.size a ≤ S16.size a := fun v755 k0_hw17 => k0_hw17.2.2.2

@[reducible] def k0_t12_loop (arg21 : BitVec 32) (v798 : BitVec 32) (v800 : BitVec 32) : Scf.Loop 32 :=
  let v801 : BitVec 32 := Scalar.addi v798 v800
  let c0_i32_331 : BitVec 32 := 0#32
  let v803 : BitVec 1 := Scalar.cmpi .sgt v801 c0_i32_331
  let v804 : BitVec 32 := Scalar.extui v803
  let c0_i32_332 : BitVec 32 := 0#32
  let v805 : BitVec 1 := Scalar.cmpi .slt v801 c0_i32_332
  let v806 : BitVec 32 := Scalar.extui v805
  let v807 : BitVec 32 := Scalar.subi v804 v806
  let c32_i32_330 : BitVec 32 := 32#32
  let c0_i32_333 : BitVec 32 := 0#32
  let v808 : BitVec 1 := Scalar.cmpi .sgt c32_i32_330 c0_i32_333
  let v809 : BitVec 32 := Scalar.extui v808
  let c0_i32_334 : BitVec 32 := 0#32
  let v810 : BitVec 1 := Scalar.cmpi .slt c32_i32_330 c0_i32_334
  let v811 : BitVec 32 := Scalar.extui v810
  let v812 : BitVec 32 := Scalar.subi v809 v811
  let v813 : BitVec 1 := Scalar.cmpi .ne v807 v812
  let v814 : BitVec 32 := Scalar.remsi v801 c32_i32_330
  let c0_i32_335 : BitVec 32 := 0#32
  let v815 : BitVec 1 := Scalar.cmpi .ne v814 c0_i32_335
  let v816 : BitVec 1 := Scalar.andi v813 v815
  let v802 : BitVec 32 := Scalar.divsi v801 c32_i32_330
  let c1_i32_336 : BitVec 32 := 1#32
  let v817 : BitVec 32 := Scalar.subi v802 c1_i32_336
  let v818 : BitVec 32 := Scalar.select v816 v817 v802
  let v819 : BitVec 32 := Scalar.subi v818 arg21
  let c1_i32_338 : BitVec 32 := 1#32
  let v821 : BitVec 32 := Scalar.divsi v819 c1_i32_338
  let v822 : BitVec 32 := Scalar.muli v821 c1_i32_338
  let v823 : BitVec 32 := Scalar.addi arg21 v822
  let c1_i32_339 : BitVec 32 := 1#32
  ⟨arg21, v823, c1_i32_339⟩

def k0_mult7 (arg21 : BitVec 32) (v798 : BitVec 32) (v800 : BitVec 32) (k0_t12 : Fin (k0_t12_loop arg21 v798 v800).trips) : BitVec 32 :=
  let c1_i32_339 : BitVec 32 := 1#32
  let arg22 : BitVec 32 := Scf.iv arg21 c1_i32_339 k0_t12
  let c32_i32_341 : BitVec 32 := 32#32
  let v824 : BitVec 32 := Scalar.muli arg22 c32_i32_341
  v824
def k0_off119 (arg21 : BitVec 32) (v798 : BitVec 32) (v800 : BitVec 32) (k0_t12 : Fin (k0_t12_loop arg21 v798 v800).trips) : Fin 2 → Nat :=
  let c1_i32_339 : BitVec 32 := 1#32
  let arg22 : BitVec 32 := Scf.iv arg21 c1_i32_339 k0_t12
  let c32_i32_341 : BitVec 32 := 32#32
  let v824 : BitVec 32 := Scalar.muli arg22 c32_i32_341
  let v825 : BitVec 32 := v824
  let c0_i32_342 : BitVec 32 := 0#32
  ![v825.toNat, 0]
def k0_off120 (arg21 : BitVec 32) (v798 : BitVec 32) (v800 : BitVec 32) (k0_t12 : Fin (k0_t12_loop arg21 v798 v800).trips) : Fin 2 → Nat :=
  let c1_i32_339 : BitVec 32 := 1#32
  let arg22 : BitVec 32 := Scf.iv arg21 c1_i32_339 k0_t12
  let c32_i32_341 : BitVec 32 := 32#32
  let v824 : BitVec 32 := Scalar.muli arg22 c32_i32_341
  let v825 : BitVec 32 := v824
  let c0_i32_343 : BitVec 32 := 0#32
  ![v825.toNat, 0]
@[reducible] def k0_t13_loop (arg21 : BitVec 32) (v798 : BitVec 32) (v800 : BitVec 32) : Scf.Loop 32 :=
  let v801 : BitVec 32 := Scalar.addi v798 v800
  let c0_i32_331 : BitVec 32 := 0#32
  let v803 : BitVec 1 := Scalar.cmpi .sgt v801 c0_i32_331
  let v804 : BitVec 32 := Scalar.extui v803
  let c0_i32_332 : BitVec 32 := 0#32
  let v805 : BitVec 1 := Scalar.cmpi .slt v801 c0_i32_332
  let v806 : BitVec 32 := Scalar.extui v805
  let v807 : BitVec 32 := Scalar.subi v804 v806
  let c32_i32_330 : BitVec 32 := 32#32
  let c0_i32_333 : BitVec 32 := 0#32
  let v808 : BitVec 1 := Scalar.cmpi .sgt c32_i32_330 c0_i32_333
  let v809 : BitVec 32 := Scalar.extui v808
  let c0_i32_334 : BitVec 32 := 0#32
  let v810 : BitVec 1 := Scalar.cmpi .slt c32_i32_330 c0_i32_334
  let v811 : BitVec 32 := Scalar.extui v810
  let v812 : BitVec 32 := Scalar.subi v809 v811
  let v813 : BitVec 1 := Scalar.cmpi .ne v807 v812
  let v814 : BitVec 32 := Scalar.remsi v801 c32_i32_330
  let c0_i32_335 : BitVec 32 := 0#32
  let v815 : BitVec 1 := Scalar.cmpi .ne v814 c0_i32_335
  let v816 : BitVec 1 := Scalar.andi v813 v815
  let v802 : BitVec 32 := Scalar.divsi v801 c32_i32_330
  let c1_i32_336 : BitVec 32 := 1#32
  let v817 : BitVec 32 := Scalar.subi v802 c1_i32_336
  let v818 : BitVec 32 := Scalar.select v816 v817 v802
  let v819 : BitVec 32 := Scalar.subi v818 arg21
  let c1_i32_338 : BitVec 32 := 1#32
  let v821 : BitVec 32 := Scalar.divsi v819 c1_i32_338
  let v822 : BitVec 32 := Scalar.muli v821 c1_i32_338
  let v823 : BitVec 32 := Scalar.addi arg21 v822
  let v820 : BitVec 32 := Scalar.addi arg21 v819
  let c1_i32_340 : BitVec 32 := 1#32
  ⟨v823, v820, c1_i32_340⟩
def k0_mult8 (arg21 : BitVec 32) (v798 : BitVec 32) (v800 : BitVec 32) (k0_t13 : Fin (k0_t13_loop arg21 v798 v800).trips) : BitVec 32 :=
  let v801 : BitVec 32 := Scalar.addi v798 v800
  let c0_i32_331 : BitVec 32 := 0#32
  let v803 : BitVec 1 := Scalar.cmpi .sgt v801 c0_i32_331
  let v804 : BitVec 32 := Scalar.extui v803
  let c0_i32_332 : BitVec 32 := 0#32
  let v805 : BitVec 1 := Scalar.cmpi .slt v801 c0_i32_332
  let v806 : BitVec 32 := Scalar.extui v805
  let v807 : BitVec 32 := Scalar.subi v804 v806
  let c32_i32_330 : BitVec 32 := 32#32
  let c0_i32_333 : BitVec 32 := 0#32
  let v808 : BitVec 1 := Scalar.cmpi .sgt c32_i32_330 c0_i32_333
  let v809 : BitVec 32 := Scalar.extui v808
  let c0_i32_334 : BitVec 32 := 0#32
  let v810 : BitVec 1 := Scalar.cmpi .slt c32_i32_330 c0_i32_334
  let v811 : BitVec 32 := Scalar.extui v810
  let v812 : BitVec 32 := Scalar.subi v809 v811
  let v813 : BitVec 1 := Scalar.cmpi .ne v807 v812
  let v814 : BitVec 32 := Scalar.remsi v801 c32_i32_330
  let c0_i32_335 : BitVec 32 := 0#32
  let v815 : BitVec 1 := Scalar.cmpi .ne v814 c0_i32_335
  let v816 : BitVec 1 := Scalar.andi v813 v815
  let v802 : BitVec 32 := Scalar.divsi v801 c32_i32_330
  let c1_i32_336 : BitVec 32 := 1#32
  let v817 : BitVec 32 := Scalar.subi v802 c1_i32_336
  let v818 : BitVec 32 := Scalar.select v816 v817 v802
  let v819 : BitVec 32 := Scalar.subi v818 arg21
  let c1_i32_338 : BitVec 32 := 1#32
  let v821 : BitVec 32 := Scalar.divsi v819 c1_i32_338
  let v822 : BitVec 32 := Scalar.muli v821 c1_i32_338
  let v823 : BitVec 32 := Scalar.addi arg21 v822
  let c1_i32_340 : BitVec 32 := 1#32
  let arg22 : BitVec 32 := Scf.iv v823 c1_i32_340 k0_t13
  let c32_i32_341 : BitVec 32 := 32#32
  let v824 : BitVec 32 := Scalar.muli arg22 c32_i32_341
  v824
def k0_off121 (arg21 : BitVec 32) (v798 : BitVec 32) (v800 : BitVec 32) (k0_t13 : Fin (k0_t13_loop arg21 v798 v800).trips) : Fin 2 → Nat :=
  let v801 : BitVec 32 := Scalar.addi v798 v800
  let c0_i32_331 : BitVec 32 := 0#32
  let v803 : BitVec 1 := Scalar.cmpi .sgt v801 c0_i32_331
  let v804 : BitVec 32 := Scalar.extui v803
  let c0_i32_332 : BitVec 32 := 0#32
  let v805 : BitVec 1 := Scalar.cmpi .slt v801 c0_i32_332
  let v806 : BitVec 32 := Scalar.extui v805
  let v807 : BitVec 32 := Scalar.subi v804 v806
  let c32_i32_330 : BitVec 32 := 32#32
  let c0_i32_333 : BitVec 32 := 0#32
  let v808 : BitVec 1 := Scalar.cmpi .sgt c32_i32_330 c0_i32_333
  let v809 : BitVec 32 := Scalar.extui v808
  let c0_i32_334 : BitVec 32 := 0#32
  let v810 : BitVec 1 := Scalar.cmpi .slt c32_i32_330 c0_i32_334
  let v811 : BitVec 32 := Scalar.extui v810
  let v812 : BitVec 32 := Scalar.subi v809 v811
  let v813 : BitVec 1 := Scalar.cmpi .ne v807 v812
  let v814 : BitVec 32 := Scalar.remsi v801 c32_i32_330
  let c0_i32_335 : BitVec 32 := 0#32
  let v815 : BitVec 1 := Scalar.cmpi .ne v814 c0_i32_335
  let v816 : BitVec 1 := Scalar.andi v813 v815
  let v802 : BitVec 32 := Scalar.divsi v801 c32_i32_330
  let c1_i32_336 : BitVec 32 := 1#32
  let v817 : BitVec 32 := Scalar.subi v802 c1_i32_336
  let v818 : BitVec 32 := Scalar.select v816 v817 v802
  let v819 : BitVec 32 := Scalar.subi v818 arg21
  let c1_i32_338 : BitVec 32 := 1#32
  let v821 : BitVec 32 := Scalar.divsi v819 c1_i32_338
  let v822 : BitVec 32 := Scalar.muli v821 c1_i32_338
  let v823 : BitVec 32 := Scalar.addi arg21 v822
  let c1_i32_340 : BitVec 32 := 1#32
  let arg22 : BitVec 32 := Scf.iv v823 c1_i32_340 k0_t13
  let c32_i32_341 : BitVec 32 := 32#32
  let v824 : BitVec 32 := Scalar.muli arg22 c32_i32_341
  let v825 : BitVec 32 := v824
  let c0_i32_342 : BitVec 32 := 0#32
  ![v825.toNat, 0]
def k0_off122 (arg21 : BitVec 32) (v798 : BitVec 32) (v800 : BitVec 32) (k0_t13 : Fin (k0_t13_loop arg21 v798 v800).trips) : Fin 2 → Nat :=
  let v801 : BitVec 32 := Scalar.addi v798 v800
  let c0_i32_331 : BitVec 32 := 0#32
  let v803 : BitVec 1 := Scalar.cmpi .sgt v801 c0_i32_331
  let v804 : BitVec 32 := Scalar.extui v803
  let c0_i32_332 : BitVec 32 := 0#32
  let v805 : BitVec 1 := Scalar.cmpi .slt v801 c0_i32_332
  let v806 : BitVec 32 := Scalar.extui v805
  let v807 : BitVec 32 := Scalar.subi v804 v806
  let c32_i32_330 : BitVec 32 := 32#32
  let c0_i32_333 : BitVec 32 := 0#32
  let v808 : BitVec 1 := Scalar.cmpi .sgt c32_i32_330 c0_i32_333
  let v809 : BitVec 32 := Scalar.extui v808
  let c0_i32_334 : BitVec 32 := 0#32
  let v810 : BitVec 1 := Scalar.cmpi .slt c32_i32_330 c0_i32_334
  let v811 : BitVec 32 := Scalar.extui v810
  let v812 : BitVec 32 := Scalar.subi v809 v811
  let v813 : BitVec 1 := Scalar.cmpi .ne v807 v812
  let v814 : BitVec 32 := Scalar.remsi v801 c32_i32_330
  let c0_i32_335 : BitVec 32 := 0#32
  let v815 : BitVec 1 := Scalar.cmpi .ne v814 c0_i32_335
  let v816 : BitVec 1 := Scalar.andi v813 v815
  let v802 : BitVec 32 := Scalar.divsi v801 c32_i32_330
  let c1_i32_336 : BitVec 32 := 1#32
  let v817 : BitVec 32 := Scalar.subi v802 c1_i32_336
  let v818 : BitVec 32 := Scalar.select v816 v817 v802
  let v819 : BitVec 32 := Scalar.subi v818 arg21
  let c1_i32_338 : BitVec 32 := 1#32
  let v821 : BitVec 32 := Scalar.divsi v819 c1_i32_338
  let v822 : BitVec 32 := Scalar.muli v821 c1_i32_338
  let v823 : BitVec 32 := Scalar.addi arg21 v822
  let c1_i32_340 : BitVec 32 := 1#32
  let arg22 : BitVec 32 := Scf.iv v823 c1_i32_340 k0_t13
  let c32_i32_341 : BitVec 32 := 32#32
  let v824 : BitVec 32 := Scalar.muli arg22 c32_i32_341
  let v825 : BitVec 32 := v824
  let c0_i32_343 : BitVec 32 := 0#32
  ![v825.toNat, 0]

def k0_chk25 (arg21 : BitVec 32) (v798 : BitVec 32) (v800 : BitVec 32) : Prop :=
  ((k0_t12_loop arg21 v798 v800).OK) ∧
  (∀ k0_t12 : Fin (k0_t12_loop arg21 v798 v800).trips, 32 ∣ (k0_mult7 arg21 v798 v800 k0_t12).toNat) ∧
  (∀ k0_t12 : Fin (k0_t12_loop arg21 v798 v800).trips, ∀ a, (k0_off119 arg21 v798 v800 k0_t12) a + S32x1408.size a ≤ S192x1408.size a) ∧
  (∀ k0_t12 : Fin (k0_t12_loop arg21 v798 v800).trips, ∀ a, (k0_off120 arg21 v798 v800 k0_t12) a + S32x1408.size a ≤ S224x1408.size a) ∧
  (∀ k0_t12 : Fin (k0_t12_loop arg21 v798 v800).trips, ∀ (hinb : ∀ a, (k0_off120 arg21 v798 v800 k0_t12) a + S32x1408.size a ≤ S224x1408.size a), (Rect.unit (s := S224x1408) (k0_off120 arg21 v798 v800 k0_t12) S32x1408.size hinb).WholeWords (EltTy.packing .bf16)) ∧
  (∀ k0_t12 : Fin (k0_t12_loop arg21 v798 v800).trips, ∀ (hinb : ∀ a, (k0_off119 arg21 v798 v800 k0_t12) a + S32x1408.size a ≤ S192x1408.size a), (Rect.unit (s := S192x1408) (k0_off119 arg21 v798 v800 k0_t12) S32x1408.size hinb).WholeWords (EltTy.packing .bf16)) ∧
  ((k0_t13_loop arg21 v798 v800).OK) ∧
  (∀ k0_t13 : Fin (k0_t13_loop arg21 v798 v800).trips, 32 ∣ (k0_mult8 arg21 v798 v800 k0_t13).toNat) ∧
  (∀ k0_t13 : Fin (k0_t13_loop arg21 v798 v800).trips, ∀ a, (k0_off121 arg21 v798 v800 k0_t13) a + S32x1408.size a ≤ S192x1408.size a) ∧
  (∀ k0_t13 : Fin (k0_t13_loop arg21 v798 v800).trips, ∀ a, (k0_off122 arg21 v798 v800 k0_t13) a + S32x1408.size a ≤ S224x1408.size a) ∧
  (∀ k0_t13 : Fin (k0_t13_loop arg21 v798 v800).trips, ∀ (hinb : ∀ a, (k0_off122 arg21 v798 v800 k0_t13) a + S32x1408.size a ≤ S224x1408.size a), (Rect.unit (s := S224x1408) (k0_off122 arg21 v798 v800 k0_t13) S32x1408.size hinb).WholeWords (EltTy.packing .bf16)) ∧
  (∀ k0_t13 : Fin (k0_t13_loop arg21 v798 v800).trips, ∀ (hinb : ∀ a, (k0_off121 arg21 v798 v800 k0_t13) a + S32x1408.size a ≤ S192x1408.size a), (Rect.unit (s := S192x1408) (k0_off121 arg21 v798 v800 k0_t13) S32x1408.size hinb).WholeWords (EltTy.packing .bf16))
theorem k0_t12_ok : ∀ (arg21 : BitVec 32) (v798 : BitVec 32) (v800 : BitVec 32) (k0_hw25 : k0_chk25 arg21 v798 v800), (k0_t12_loop arg21 v798 v800).OK := fun arg21 v798 v800 k0_hw25 => k0_hw25.1
theorem k0_mult7_dvd : ∀ (arg21 : BitVec 32) (v798 : BitVec 32) (v800 : BitVec 32) (k0_hw25 : k0_chk25 arg21 v798 v800) (k0_t12 : Fin (k0_t12_loop arg21 v798 v800).trips), 32 ∣ (k0_mult7 arg21 v798 v800 k0_t12).toNat := fun arg21 v798 v800 k0_hw25 k0_t12 => k0_hw25.2.1 k0_t12
theorem k0_off119_inb : ∀ (arg21 : BitVec 32) (v798 : BitVec 32) (v800 : BitVec 32) (k0_hw25 : k0_chk25 arg21 v798 v800) (k0_t12 : Fin (k0_t12_loop arg21 v798 v800).trips), ∀ a, (k0_off119 arg21 v798 v800 k0_t12) a + S32x1408.size a ≤ S192x1408.size a := fun arg21 v798 v800 k0_hw25 k0_t12 => k0_hw25.2.2.1 k0_t12
theorem k0_off120_inb : ∀ (arg21 : BitVec 32) (v798 : BitVec 32) (v800 : BitVec 32) (k0_hw25 : k0_chk25 arg21 v798 v800) (k0_t12 : Fin (k0_t12_loop arg21 v798 v800).trips), ∀ a, (k0_off120 arg21 v798 v800 k0_t12) a + S32x1408.size a ≤ S224x1408.size a := fun arg21 v798 v800 k0_hw25 k0_t12 => k0_hw25.2.2.2.1 k0_t12
theorem k0_off120_wordsbf16 : ∀ (arg21 : BitVec 32) (v798 : BitVec 32) (v800 : BitVec 32) (k0_hw25 : k0_chk25 arg21 v798 v800) (k0_t12 : Fin (k0_t12_loop arg21 v798 v800).trips), (Rect.unit (s := S224x1408) (k0_off120 arg21 v798 v800 k0_t12) S32x1408.size (k0_off120_inb arg21 v798 v800 k0_hw25 k0_t12)).WholeWords (EltTy.packing .bf16) := fun arg21 v798 v800 k0_hw25 k0_t12 => k0_hw25.2.2.2.2.1 k0_t12 (k0_off120_inb arg21 v798 v800 k0_hw25 k0_t12)
theorem k0_off119_wordsbf16 : ∀ (arg21 : BitVec 32) (v798 : BitVec 32) (v800 : BitVec 32) (k0_hw25 : k0_chk25 arg21 v798 v800) (k0_t12 : Fin (k0_t12_loop arg21 v798 v800).trips), (Rect.unit (s := S192x1408) (k0_off119 arg21 v798 v800 k0_t12) S32x1408.size (k0_off119_inb arg21 v798 v800 k0_hw25 k0_t12)).WholeWords (EltTy.packing .bf16) := fun arg21 v798 v800 k0_hw25 k0_t12 => k0_hw25.2.2.2.2.2.1 k0_t12 (k0_off119_inb arg21 v798 v800 k0_hw25 k0_t12)
theorem k0_t13_ok : ∀ (arg21 : BitVec 32) (v798 : BitVec 32) (v800 : BitVec 32) (k0_hw25 : k0_chk25 arg21 v798 v800), (k0_t13_loop arg21 v798 v800).OK := fun arg21 v798 v800 k0_hw25 => k0_hw25.2.2.2.2.2.2.1
theorem k0_mult8_dvd : ∀ (arg21 : BitVec 32) (v798 : BitVec 32) (v800 : BitVec 32) (k0_hw25 : k0_chk25 arg21 v798 v800) (k0_t13 : Fin (k0_t13_loop arg21 v798 v800).trips), 32 ∣ (k0_mult8 arg21 v798 v800 k0_t13).toNat := fun arg21 v798 v800 k0_hw25 k0_t13 => k0_hw25.2.2.2.2.2.2.2.1 k0_t13
theorem k0_off121_inb : ∀ (arg21 : BitVec 32) (v798 : BitVec 32) (v800 : BitVec 32) (k0_hw25 : k0_chk25 arg21 v798 v800) (k0_t13 : Fin (k0_t13_loop arg21 v798 v800).trips), ∀ a, (k0_off121 arg21 v798 v800 k0_t13) a + S32x1408.size a ≤ S192x1408.size a := fun arg21 v798 v800 k0_hw25 k0_t13 => k0_hw25.2.2.2.2.2.2.2.2.1 k0_t13
theorem k0_off122_inb : ∀ (arg21 : BitVec 32) (v798 : BitVec 32) (v800 : BitVec 32) (k0_hw25 : k0_chk25 arg21 v798 v800) (k0_t13 : Fin (k0_t13_loop arg21 v798 v800).trips), ∀ a, (k0_off122 arg21 v798 v800 k0_t13) a + S32x1408.size a ≤ S224x1408.size a := fun arg21 v798 v800 k0_hw25 k0_t13 => k0_hw25.2.2.2.2.2.2.2.2.2.1 k0_t13
theorem k0_off122_wordsbf16 : ∀ (arg21 : BitVec 32) (v798 : BitVec 32) (v800 : BitVec 32) (k0_hw25 : k0_chk25 arg21 v798 v800) (k0_t13 : Fin (k0_t13_loop arg21 v798 v800).trips), (Rect.unit (s := S224x1408) (k0_off122 arg21 v798 v800 k0_t13) S32x1408.size (k0_off122_inb arg21 v798 v800 k0_hw25 k0_t13)).WholeWords (EltTy.packing .bf16) := fun arg21 v798 v800 k0_hw25 k0_t13 => k0_hw25.2.2.2.2.2.2.2.2.2.2.1 k0_t13 (k0_off122_inb arg21 v798 v800 k0_hw25 k0_t13)
theorem k0_off121_wordsbf16 : ∀ (arg21 : BitVec 32) (v798 : BitVec 32) (v800 : BitVec 32) (k0_hw25 : k0_chk25 arg21 v798 v800) (k0_t13 : Fin (k0_t13_loop arg21 v798 v800).trips), (Rect.unit (s := S192x1408) (k0_off121 arg21 v798 v800 k0_t13) S32x1408.size (k0_off121_inb arg21 v798 v800 k0_hw25 k0_t13)).WholeWords (EltTy.packing .bf16) := fun arg21 v798 v800 k0_hw25 k0_t13 => k0_hw25.2.2.2.2.2.2.2.2.2.2.2 k0_t13 (k0_off121_inb arg21 v798 v800 k0_hw25 k0_t13)

def k0_off123 (v18_0 : BitVec 32) : Fin 1 → Nat :=
  let c1_i32_16 : BitVec 32 := 1#32
  let v19 : BitVec 32 := Scalar.subi v18_0 c1_i32_16
  let v631 : Index := Scalar.indexCast v19
  ![v631.toNat]
def k0_off124 (v18_0 : BitVec 32) : Fin 1 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  ![v642.toNat]
def k0_off125 (v18_0 : BitVec 32) : Fin 3 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  let c0_i32_242 : BitVec 32 := 0#32
  let c0_i32_243 : BitVec 32 := 0#32
  ![v642.toNat, 0, 0]
def k0_off126 (v632 : BitVec 32) : Fin 3 → Nat :=
  let c0_i32_244 : BitVec 32 := 0#32
  let c0_i32_245 : BitVec 32 := 0#32
  ![v632.toNat, 0, 0]

def k0_off127 (v18_0 : BitVec 32) : Fin 1 → Nat :=
  let c1_i32_16 : BitVec 32 := 1#32
  let v19 : BitVec 32 := Scalar.subi v18_0 c1_i32_16
  let v649 : Index := Scalar.indexCast v19
  ![v649.toNat]
def k0_off128 (v652 : BitVec 32) : Fin 1 → Nat :=
  let v653 : Index := Scalar.indexCast v652
  ![v653.toNat]

def k0_chk27 (v652 : BitVec 32) : Prop :=
  (∀ a, (k0_off128 v652) a + S1.size a ≤ S16.size a)
theorem k0_off128_inb : ∀ (v652 : BitVec 32) (k0_hw27 : k0_chk27 v652), ∀ a, (k0_off128 v652) a + S1.size a ≤ S16.size a := fun v652 k0_hw27 => k0_hw27

@[reducible] def k0_t14_loop (v650 : BitVec 32) (v654 : BitVec 32) : Scf.Loop 32 :=
  let c0_i32_248 : BitVec 32 := 0#32
  let v655 : BitVec 32 := Scalar.addi v650 v654
  let c_m32_i32 : BitVec 32 := 4294967264#32
  let v656 : BitVec 32 := Scalar.andi v650 c_m32_i32
  let v657 : BitVec 32 := Scalar.subi v655 v656
  let c63_i32 : BitVec 32 := 63#32
  let v658 : BitVec 32 := Scalar.addi v657 c63_i32
  let c64_i32_246 : BitVec 32 := 64#32
  let v659 : BitVec 32 := Scalar.divsi v658 c64_i32_246
  let v660 : BitVec 32 := Scalar.subi v659 c0_i32_248
  let c1_i32_249 : BitVec 32 := 1#32
  let v662 : BitVec 32 := Scalar.divsi v660 c1_i32_249
  let v663 : BitVec 32 := Scalar.muli v662 c1_i32_249
  let v664 : BitVec 32 := Scalar.addi c0_i32_248 v663
  let c1_i32_250 : BitVec 32 := 1#32
  ⟨c0_i32_248, v664, c1_i32_250⟩

def k0_mult9 (v650 : BitVec 32) (v654 : BitVec 32) (k0_t14 : Fin (k0_t14_loop v650 v654).trips) : BitVec 32 :=
  let c_m32_i32 : BitVec 32 := 4294967264#32
  let v656 : BitVec 32 := Scalar.andi v650 c_m32_i32
  let c0_i32_248 : BitVec 32 := 0#32
  let c1_i32_250 : BitVec 32 := 1#32
  let arg20 : BitVec 32 := Scf.iv c0_i32_248 c1_i32_250 k0_t14
  let c64_i32_308 : BitVec 32 := 64#32
  let v754 : BitVec 32 := Scalar.muli arg20 c64_i32_308
  let v755 : BitVec 32 := Scalar.addi v656 v754
  v755
def k0_off129 (v650 : BitVec 32) (v654 : BitVec 32) (k0_t14 : Fin (k0_t14_loop v650 v654).trips) : Fin 2 → Nat :=
  let c_m32_i32 : BitVec 32 := 4294967264#32
  let v656 : BitVec 32 := Scalar.andi v650 c_m32_i32
  let c0_i32_248 : BitVec 32 := 0#32
  let c1_i32_250 : BitVec 32 := 1#32
  let arg20 : BitVec 32 := Scf.iv c0_i32_248 c1_i32_250 k0_t14
  let c64_i32_308 : BitVec 32 := 64#32
  let v754 : BitVec 32 := Scalar.muli arg20 c64_i32_308
  let v755 : BitVec 32 := Scalar.addi v656 v754
  let v756 : BitVec 32 := v755
  let v757 : Index := Scalar.indexCast v756
  let c0_309 : Index := 0#32
  ![v757.toNat, 0]
def k0_off130 (v18_0 : BitVec 32) : Fin 3 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  let v759 : Index := Scalar.indexCast v642
  let c0_310 : Index := 0#32
  let c0_311 : Index := 0#32
  ![v759.toNat, 0, 0]
def k0_off131 (v650 : BitVec 32) (v654 : BitVec 32) (k0_t14 : Fin (k0_t14_loop v650 v654).trips) : Fin 2 → Nat :=
  let c_m32_i32 : BitVec 32 := 4294967264#32
  let v656 : BitVec 32 := Scalar.andi v650 c_m32_i32
  let c0_i32_248 : BitVec 32 := 0#32
  let c1_i32_250 : BitVec 32 := 1#32
  let arg20 : BitVec 32 := Scf.iv c0_i32_248 c1_i32_250 k0_t14
  let c64_i32_308 : BitVec 32 := 64#32
  let v754 : BitVec 32 := Scalar.muli arg20 c64_i32_308
  let v755 : BitVec 32 := Scalar.addi v656 v754
  let v756 : BitVec 32 := v755
  let v763 : Index := Scalar.indexCast v756
  let c0_313 : Index := 0#32
  ![v763.toNat, 0]
@[reducible] def k0_t15_loop (v650 : BitVec 32) (v654 : BitVec 32) : Scf.Loop 32 :=
  let c0_i32_248 : BitVec 32 := 0#32
  let v655 : BitVec 32 := Scalar.addi v650 v654
  let c_m32_i32 : BitVec 32 := 4294967264#32
  let v656 : BitVec 32 := Scalar.andi v650 c_m32_i32
  let v657 : BitVec 32 := Scalar.subi v655 v656
  let c63_i32 : BitVec 32 := 63#32
  let v658 : BitVec 32 := Scalar.addi v657 c63_i32
  let c64_i32_246 : BitVec 32 := 64#32
  let v659 : BitVec 32 := Scalar.divsi v658 c64_i32_246
  let v660 : BitVec 32 := Scalar.subi v659 c0_i32_248
  let c1_i32_249 : BitVec 32 := 1#32
  let v662 : BitVec 32 := Scalar.divsi v660 c1_i32_249
  let v663 : BitVec 32 := Scalar.muli v662 c1_i32_249
  let v664 : BitVec 32 := Scalar.addi c0_i32_248 v663
  let v661 : BitVec 32 := Scalar.addi c0_i32_248 v660
  let c1_i32_251 : BitVec 32 := 1#32
  ⟨v664, v661, c1_i32_251⟩
def k0_mult10 (v650 : BitVec 32) (v654 : BitVec 32) (k0_t15 : Fin (k0_t15_loop v650 v654).trips) : BitVec 32 :=
  let c_m32_i32 : BitVec 32 := 4294967264#32
  let v656 : BitVec 32 := Scalar.andi v650 c_m32_i32
  let c0_i32_248 : BitVec 32 := 0#32
  let v655 : BitVec 32 := Scalar.addi v650 v654
  let v657 : BitVec 32 := Scalar.subi v655 v656
  let c63_i32 : BitVec 32 := 63#32
  let v658 : BitVec 32 := Scalar.addi v657 c63_i32
  let c64_i32_246 : BitVec 32 := 64#32
  let v659 : BitVec 32 := Scalar.divsi v658 c64_i32_246
  let v660 : BitVec 32 := Scalar.subi v659 c0_i32_248
  let c1_i32_249 : BitVec 32 := 1#32
  let v662 : BitVec 32 := Scalar.divsi v660 c1_i32_249
  let v663 : BitVec 32 := Scalar.muli v662 c1_i32_249
  let v664 : BitVec 32 := Scalar.addi c0_i32_248 v663
  let c1_i32_251 : BitVec 32 := 1#32
  let arg20 : BitVec 32 := Scf.iv v664 c1_i32_251 k0_t15
  let c64_i32_308 : BitVec 32 := 64#32
  let v754 : BitVec 32 := Scalar.muli arg20 c64_i32_308
  let v755 : BitVec 32 := Scalar.addi v656 v754
  v755
def k0_off132 (v650 : BitVec 32) (v654 : BitVec 32) (k0_t15 : Fin (k0_t15_loop v650 v654).trips) : Fin 2 → Nat :=
  let c_m32_i32 : BitVec 32 := 4294967264#32
  let v656 : BitVec 32 := Scalar.andi v650 c_m32_i32
  let c0_i32_248 : BitVec 32 := 0#32
  let v655 : BitVec 32 := Scalar.addi v650 v654
  let v657 : BitVec 32 := Scalar.subi v655 v656
  let c63_i32 : BitVec 32 := 63#32
  let v658 : BitVec 32 := Scalar.addi v657 c63_i32
  let c64_i32_246 : BitVec 32 := 64#32
  let v659 : BitVec 32 := Scalar.divsi v658 c64_i32_246
  let v660 : BitVec 32 := Scalar.subi v659 c0_i32_248
  let c1_i32_249 : BitVec 32 := 1#32
  let v662 : BitVec 32 := Scalar.divsi v660 c1_i32_249
  let v663 : BitVec 32 := Scalar.muli v662 c1_i32_249
  let v664 : BitVec 32 := Scalar.addi c0_i32_248 v663
  let c1_i32_251 : BitVec 32 := 1#32
  let arg20 : BitVec 32 := Scf.iv v664 c1_i32_251 k0_t15
  let c64_i32_308 : BitVec 32 := 64#32
  let v754 : BitVec 32 := Scalar.muli arg20 c64_i32_308
  let v755 : BitVec 32 := Scalar.addi v656 v754
  let v756 : BitVec 32 := v755
  let v757 : Index := Scalar.indexCast v756
  let c0_309 : Index := 0#32
  ![v757.toNat, 0]
def k0_off133 (v18_0 : BitVec 32) : Fin 3 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  let v759 : Index := Scalar.indexCast v642
  let c0_310 : Index := 0#32
  let c0_311 : Index := 0#32
  ![v759.toNat, 0, 0]
def k0_off134 (v650 : BitVec 32) (v654 : BitVec 32) (k0_t15 : Fin (k0_t15_loop v650 v654).trips) : Fin 2 → Nat :=
  let c_m32_i32 : BitVec 32 := 4294967264#32
  let v656 : BitVec 32 := Scalar.andi v650 c_m32_i32
  let c0_i32_248 : BitVec 32 := 0#32
  let v655 : BitVec 32 := Scalar.addi v650 v654
  let v657 : BitVec 32 := Scalar.subi v655 v656
  let c63_i32 : BitVec 32 := 63#32
  let v658 : BitVec 32 := Scalar.addi v657 c63_i32
  let c64_i32_246 : BitVec 32 := 64#32
  let v659 : BitVec 32 := Scalar.divsi v658 c64_i32_246
  let v660 : BitVec 32 := Scalar.subi v659 c0_i32_248
  let c1_i32_249 : BitVec 32 := 1#32
  let v662 : BitVec 32 := Scalar.divsi v660 c1_i32_249
  let v663 : BitVec 32 := Scalar.muli v662 c1_i32_249
  let v664 : BitVec 32 := Scalar.addi c0_i32_248 v663
  let c1_i32_251 : BitVec 32 := 1#32
  let arg20 : BitVec 32 := Scf.iv v664 c1_i32_251 k0_t15
  let c64_i32_308 : BitVec 32 := 64#32
  let v754 : BitVec 32 := Scalar.muli arg20 c64_i32_308
  let v755 : BitVec 32 := Scalar.addi v656 v754
  let v756 : BitVec 32 := v755
  let v763 : Index := Scalar.indexCast v756
  let c0_313 : Index := 0#32
  ![v763.toNat, 0]

def k0_chk28 (v18_0 : BitVec 32) (v650 : BitVec 32) (v654 : BitVec 32) : Prop :=
  ((k0_t14_loop v650 v654).OK) ∧
  (∀ k0_t14 : Fin (k0_t14_loop v650 v654).trips, 32 ∣ (k0_mult9 v650 v654 k0_t14).toNat) ∧
  (∀ k0_t14 : Fin (k0_t14_loop v650 v654).trips, ∀ a, (k0_off129 v650 v654 k0_t14) a + S64x1536.size a ≤ S224x3072.size a) ∧
  (∀ k0_t14 : Fin (k0_t14_loop v650 v654).trips, ∀ a, (k0_off130 v18_0) a + S1x1536x1408.size a ≤ S8x3072x1408.size a) ∧
  (∀ k0_t14 : Fin (k0_t14_loop v650 v654).trips, ∀ a, (k0_off131 v650 v654 k0_t14) a + S64x1408.size a ≤ S224x1408.size a) ∧
  ((k0_t15_loop v650 v654).OK) ∧
  (∀ k0_t15 : Fin (k0_t15_loop v650 v654).trips, 32 ∣ (k0_mult10 v650 v654 k0_t15).toNat) ∧
  (∀ k0_t15 : Fin (k0_t15_loop v650 v654).trips, ∀ a, (k0_off132 v650 v654 k0_t15) a + S64x1536.size a ≤ S224x3072.size a) ∧
  (∀ k0_t15 : Fin (k0_t15_loop v650 v654).trips, ∀ a, (k0_off133 v18_0) a + S1x1536x1408.size a ≤ S8x3072x1408.size a) ∧
  (∀ k0_t15 : Fin (k0_t15_loop v650 v654).trips, ∀ a, (k0_off134 v650 v654 k0_t15) a + S64x1408.size a ≤ S224x1408.size a)
theorem k0_t14_ok : ∀ (v18_0 : BitVec 32) (v650 : BitVec 32) (v654 : BitVec 32) (k0_hw28 : k0_chk28 v18_0 v650 v654), (k0_t14_loop v650 v654).OK := fun v18_0 v650 v654 k0_hw28 => k0_hw28.1
theorem k0_mult9_dvd : ∀ (v18_0 : BitVec 32) (v650 : BitVec 32) (v654 : BitVec 32) (k0_hw28 : k0_chk28 v18_0 v650 v654) (k0_t14 : Fin (k0_t14_loop v650 v654).trips), 32 ∣ (k0_mult9 v650 v654 k0_t14).toNat := fun v18_0 v650 v654 k0_hw28 k0_t14 => k0_hw28.2.1 k0_t14
theorem k0_off129_inb : ∀ (v18_0 : BitVec 32) (v650 : BitVec 32) (v654 : BitVec 32) (k0_hw28 : k0_chk28 v18_0 v650 v654) (k0_t14 : Fin (k0_t14_loop v650 v654).trips), ∀ a, (k0_off129 v650 v654 k0_t14) a + S64x1536.size a ≤ S224x3072.size a := fun v18_0 v650 v654 k0_hw28 k0_t14 => k0_hw28.2.2.1 k0_t14
theorem k0_off130_inb : ∀ (v18_0 : BitVec 32) (v650 : BitVec 32) (v654 : BitVec 32) (k0_hw28 : k0_chk28 v18_0 v650 v654) (k0_t14 : Fin (k0_t14_loop v650 v654).trips), ∀ a, (k0_off130 v18_0) a + S1x1536x1408.size a ≤ S8x3072x1408.size a := fun v18_0 v650 v654 k0_hw28 k0_t14 => k0_hw28.2.2.2.1 k0_t14
theorem k0_off131_inb : ∀ (v18_0 : BitVec 32) (v650 : BitVec 32) (v654 : BitVec 32) (k0_hw28 : k0_chk28 v18_0 v650 v654) (k0_t14 : Fin (k0_t14_loop v650 v654).trips), ∀ a, (k0_off131 v650 v654 k0_t14) a + S64x1408.size a ≤ S224x1408.size a := fun v18_0 v650 v654 k0_hw28 k0_t14 => k0_hw28.2.2.2.2.1 k0_t14
theorem k0_t15_ok : ∀ (v18_0 : BitVec 32) (v650 : BitVec 32) (v654 : BitVec 32) (k0_hw28 : k0_chk28 v18_0 v650 v654), (k0_t15_loop v650 v654).OK := fun v18_0 v650 v654 k0_hw28 => k0_hw28.2.2.2.2.2.1
theorem k0_mult10_dvd : ∀ (v18_0 : BitVec 32) (v650 : BitVec 32) (v654 : BitVec 32) (k0_hw28 : k0_chk28 v18_0 v650 v654) (k0_t15 : Fin (k0_t15_loop v650 v654).trips), 32 ∣ (k0_mult10 v650 v654 k0_t15).toNat := fun v18_0 v650 v654 k0_hw28 k0_t15 => k0_hw28.2.2.2.2.2.2.1 k0_t15
theorem k0_off132_inb : ∀ (v18_0 : BitVec 32) (v650 : BitVec 32) (v654 : BitVec 32) (k0_hw28 : k0_chk28 v18_0 v650 v654) (k0_t15 : Fin (k0_t15_loop v650 v654).trips), ∀ a, (k0_off132 v650 v654 k0_t15) a + S64x1536.size a ≤ S224x3072.size a := fun v18_0 v650 v654 k0_hw28 k0_t15 => k0_hw28.2.2.2.2.2.2.2.1 k0_t15
theorem k0_off133_inb : ∀ (v18_0 : BitVec 32) (v650 : BitVec 32) (v654 : BitVec 32) (k0_hw28 : k0_chk28 v18_0 v650 v654) (k0_t15 : Fin (k0_t15_loop v650 v654).trips), ∀ a, (k0_off133 v18_0) a + S1x1536x1408.size a ≤ S8x3072x1408.size a := fun v18_0 v650 v654 k0_hw28 k0_t15 => k0_hw28.2.2.2.2.2.2.2.2.1 k0_t15
theorem k0_off134_inb : ∀ (v18_0 : BitVec 32) (v650 : BitVec 32) (v654 : BitVec 32) (k0_hw28 : k0_chk28 v18_0 v650 v654) (k0_t15 : Fin (k0_t15_loop v650 v654).trips), ∀ a, (k0_off134 v650 v654 k0_t15) a + S64x1408.size a ≤ S224x1408.size a := fun v18_0 v650 v654 k0_hw28 k0_t15 => k0_hw28.2.2.2.2.2.2.2.2.2 k0_t15

def k0_off135 (v18_0 : BitVec 32) : Fin 3 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  let c1536_i32 : BitVec 32 := 1536#32
  let c0_i32_253 : BitVec 32 := 0#32
  ![v642.toNat, 1536, 0]
def k0_off136 (v632 : BitVec 32) : Fin 3 → Nat :=
  let c1536_i32_254 : BitVec 32 := 1536#32
  let c0_i32_255 : BitVec 32 := 0#32
  ![v632.toNat, 1536, 0]
def k0_off137 (v18_0 : BitVec 32) : Fin 1 → Nat :=
  let c1_i32_16 : BitVec 32 := 1#32
  let v19 : BitVec 32 := Scalar.subi v18_0 c1_i32_16
  let v671 : Index := Scalar.indexCast v19
  ![v671.toNat]
def k0_off138 (v674 : BitVec 32) : Fin 1 → Nat :=
  let v675 : Index := Scalar.indexCast v674
  ![v675.toNat]

def k0_chk29 (v674 : BitVec 32) : Prop :=
  (∀ a, (k0_off138 v674) a + S1.size a ≤ S16.size a)
theorem k0_off138_inb : ∀ (v674 : BitVec 32) (k0_hw29 : k0_chk29 v674), ∀ a, (k0_off138 v674) a + S1.size a ≤ S16.size a := fun v674 k0_hw29 => k0_hw29

@[reducible] def k0_t16_loop (v672 : BitVec 32) (v676 : BitVec 32) : Scf.Loop 32 :=
  let c0_i32_260 : BitVec 32 := 0#32
  let v677 : BitVec 32 := Scalar.addi v672 v676
  let c_m32_i32_256 : BitVec 32 := 4294967264#32
  let v678 : BitVec 32 := Scalar.andi v672 c_m32_i32_256
  let v679 : BitVec 32 := Scalar.subi v677 v678
  let c63_i32_257 : BitVec 32 := 63#32
  let v680 : BitVec 32 := Scalar.addi v679 c63_i32_257
  let c64_i32_258 : BitVec 32 := 64#32
  let v681 : BitVec 32 := Scalar.divsi v680 c64_i32_258
  let v682 : BitVec 32 := Scalar.subi v681 c0_i32_260
  let c1_i32_261 : BitVec 32 := 1#32
  let v684 : BitVec 32 := Scalar.divsi v682 c1_i32_261
  let v685 : BitVec 32 := Scalar.muli v684 c1_i32_261
  let v686 : BitVec 32 := Scalar.addi c0_i32_260 v685
  let c1_i32_262 : BitVec 32 := 1#32
  ⟨c0_i32_260, v686, c1_i32_262⟩

def k0_mult11 (v672 : BitVec 32) (v676 : BitVec 32) (k0_t16 : Fin (k0_t16_loop v672 v676).trips) : BitVec 32 :=
  let c_m32_i32_256 : BitVec 32 := 4294967264#32
  let v678 : BitVec 32 := Scalar.andi v672 c_m32_i32_256
  let c0_i32_260 : BitVec 32 := 0#32
  let c1_i32_262 : BitVec 32 := 1#32
  let arg20 : BitVec 32 := Scf.iv c0_i32_260 c1_i32_262 k0_t16
  let c64_i32_308 : BitVec 32 := 64#32
  let v754 : BitVec 32 := Scalar.muli arg20 c64_i32_308
  let v755 : BitVec 32 := Scalar.addi v678 v754
  v755
def k0_off139 (v672 : BitVec 32) (v676 : BitVec 32) (k0_t16 : Fin (k0_t16_loop v672 v676).trips) : Fin 2 → Nat :=
  let c_m32_i32_256 : BitVec 32 := 4294967264#32
  let v678 : BitVec 32 := Scalar.andi v672 c_m32_i32_256
  let c0_i32_260 : BitVec 32 := 0#32
  let c1_i32_262 : BitVec 32 := 1#32
  let arg20 : BitVec 32 := Scf.iv c0_i32_260 c1_i32_262 k0_t16
  let c64_i32_308 : BitVec 32 := 64#32
  let v754 : BitVec 32 := Scalar.muli arg20 c64_i32_308
  let v755 : BitVec 32 := Scalar.addi v678 v754
  let v756 : BitVec 32 := v755
  let v757 : Index := Scalar.indexCast v756
  let c0_309 : Index := 0#32
  ![v757.toNat, 0]
def k0_off140 (v672 : BitVec 32) (v676 : BitVec 32) (k0_t16 : Fin (k0_t16_loop v672 v676).trips) : Fin 2 → Nat :=
  let c_m32_i32_256 : BitVec 32 := 4294967264#32
  let v678 : BitVec 32 := Scalar.andi v672 c_m32_i32_256
  let c0_i32_260 : BitVec 32 := 0#32
  let c1_i32_262 : BitVec 32 := 1#32
  let arg20 : BitVec 32 := Scf.iv c0_i32_260 c1_i32_262 k0_t16
  let c64_i32_308 : BitVec 32 := 64#32
  let v754 : BitVec 32 := Scalar.muli arg20 c64_i32_308
  let v755 : BitVec 32 := Scalar.addi v678 v754
  let v756 : BitVec 32 := v755
  let v759 : Index := Scalar.indexCast v756
  let c1536 : Index := 1536#32
  ![v759.toNat, 1536]
def k0_off141 (v18_0 : BitVec 32) : Fin 3 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  let v761 : Index := Scalar.indexCast v642
  let c1536_310 : Index := 1536#32
  let c0_311 : Index := 0#32
  ![v761.toNat, 1536, 0]
@[reducible] def k0_t17_loop (v672 : BitVec 32) (v676 : BitVec 32) : Scf.Loop 32 :=
  let c0_i32_260 : BitVec 32 := 0#32
  let v677 : BitVec 32 := Scalar.addi v672 v676
  let c_m32_i32_256 : BitVec 32 := 4294967264#32
  let v678 : BitVec 32 := Scalar.andi v672 c_m32_i32_256
  let v679 : BitVec 32 := Scalar.subi v677 v678
  let c63_i32_257 : BitVec 32 := 63#32
  let v680 : BitVec 32 := Scalar.addi v679 c63_i32_257
  let c64_i32_258 : BitVec 32 := 64#32
  let v681 : BitVec 32 := Scalar.divsi v680 c64_i32_258
  let v682 : BitVec 32 := Scalar.subi v681 c0_i32_260
  let c1_i32_261 : BitVec 32 := 1#32
  let v684 : BitVec 32 := Scalar.divsi v682 c1_i32_261
  let v685 : BitVec 32 := Scalar.muli v684 c1_i32_261
  let v686 : BitVec 32 := Scalar.addi c0_i32_260 v685
  let v683 : BitVec 32 := Scalar.addi c0_i32_260 v682
  let c1_i32_263 : BitVec 32 := 1#32
  ⟨v686, v683, c1_i32_263⟩
def k0_mult12 (v672 : BitVec 32) (v676 : BitVec 32) (k0_t17 : Fin (k0_t17_loop v672 v676).trips) : BitVec 32 :=
  let c_m32_i32_256 : BitVec 32 := 4294967264#32
  let v678 : BitVec 32 := Scalar.andi v672 c_m32_i32_256
  let c0_i32_260 : BitVec 32 := 0#32
  let v677 : BitVec 32 := Scalar.addi v672 v676
  let v679 : BitVec 32 := Scalar.subi v677 v678
  let c63_i32_257 : BitVec 32 := 63#32
  let v680 : BitVec 32 := Scalar.addi v679 c63_i32_257
  let c64_i32_258 : BitVec 32 := 64#32
  let v681 : BitVec 32 := Scalar.divsi v680 c64_i32_258
  let v682 : BitVec 32 := Scalar.subi v681 c0_i32_260
  let c1_i32_261 : BitVec 32 := 1#32
  let v684 : BitVec 32 := Scalar.divsi v682 c1_i32_261
  let v685 : BitVec 32 := Scalar.muli v684 c1_i32_261
  let v686 : BitVec 32 := Scalar.addi c0_i32_260 v685
  let c1_i32_263 : BitVec 32 := 1#32
  let arg20 : BitVec 32 := Scf.iv v686 c1_i32_263 k0_t17
  let c64_i32_308 : BitVec 32 := 64#32
  let v754 : BitVec 32 := Scalar.muli arg20 c64_i32_308
  let v755 : BitVec 32 := Scalar.addi v678 v754
  v755
def k0_off142 (v672 : BitVec 32) (v676 : BitVec 32) (k0_t17 : Fin (k0_t17_loop v672 v676).trips) : Fin 2 → Nat :=
  let c_m32_i32_256 : BitVec 32 := 4294967264#32
  let v678 : BitVec 32 := Scalar.andi v672 c_m32_i32_256
  let c0_i32_260 : BitVec 32 := 0#32
  let v677 : BitVec 32 := Scalar.addi v672 v676
  let v679 : BitVec 32 := Scalar.subi v677 v678
  let c63_i32_257 : BitVec 32 := 63#32
  let v680 : BitVec 32 := Scalar.addi v679 c63_i32_257
  let c64_i32_258 : BitVec 32 := 64#32
  let v681 : BitVec 32 := Scalar.divsi v680 c64_i32_258
  let v682 : BitVec 32 := Scalar.subi v681 c0_i32_260
  let c1_i32_261 : BitVec 32 := 1#32
  let v684 : BitVec 32 := Scalar.divsi v682 c1_i32_261
  let v685 : BitVec 32 := Scalar.muli v684 c1_i32_261
  let v686 : BitVec 32 := Scalar.addi c0_i32_260 v685
  let c1_i32_263 : BitVec 32 := 1#32
  let arg20 : BitVec 32 := Scf.iv v686 c1_i32_263 k0_t17
  let c64_i32_308 : BitVec 32 := 64#32
  let v754 : BitVec 32 := Scalar.muli arg20 c64_i32_308
  let v755 : BitVec 32 := Scalar.addi v678 v754
  let v756 : BitVec 32 := v755
  let v757 : Index := Scalar.indexCast v756
  let c0_309 : Index := 0#32
  ![v757.toNat, 0]
def k0_off143 (v672 : BitVec 32) (v676 : BitVec 32) (k0_t17 : Fin (k0_t17_loop v672 v676).trips) : Fin 2 → Nat :=
  let c_m32_i32_256 : BitVec 32 := 4294967264#32
  let v678 : BitVec 32 := Scalar.andi v672 c_m32_i32_256
  let c0_i32_260 : BitVec 32 := 0#32
  let v677 : BitVec 32 := Scalar.addi v672 v676
  let v679 : BitVec 32 := Scalar.subi v677 v678
  let c63_i32_257 : BitVec 32 := 63#32
  let v680 : BitVec 32 := Scalar.addi v679 c63_i32_257
  let c64_i32_258 : BitVec 32 := 64#32
  let v681 : BitVec 32 := Scalar.divsi v680 c64_i32_258
  let v682 : BitVec 32 := Scalar.subi v681 c0_i32_260
  let c1_i32_261 : BitVec 32 := 1#32
  let v684 : BitVec 32 := Scalar.divsi v682 c1_i32_261
  let v685 : BitVec 32 := Scalar.muli v684 c1_i32_261
  let v686 : BitVec 32 := Scalar.addi c0_i32_260 v685
  let c1_i32_263 : BitVec 32 := 1#32
  let arg20 : BitVec 32 := Scf.iv v686 c1_i32_263 k0_t17
  let c64_i32_308 : BitVec 32 := 64#32
  let v754 : BitVec 32 := Scalar.muli arg20 c64_i32_308
  let v755 : BitVec 32 := Scalar.addi v678 v754
  let v756 : BitVec 32 := v755
  let v759 : Index := Scalar.indexCast v756
  let c1536 : Index := 1536#32
  ![v759.toNat, 1536]
def k0_off144 (v18_0 : BitVec 32) : Fin 3 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  let v761 : Index := Scalar.indexCast v642
  let c1536_310 : Index := 1536#32
  let c0_311 : Index := 0#32
  ![v761.toNat, 1536, 0]

def k0_chk30 (v18_0 : BitVec 32) (v672 : BitVec 32) (v676 : BitVec 32) : Prop :=
  ((k0_t16_loop v672 v676).OK) ∧
  (∀ k0_t16 : Fin (k0_t16_loop v672 v676).trips, 32 ∣ (k0_mult11 v672 v676 k0_t16).toNat) ∧
  (∀ k0_t16 : Fin (k0_t16_loop v672 v676).trips, ∀ a, (k0_off139 v672 v676 k0_t16) a + S64x1408.size a ≤ S224x1408.size a) ∧
  (∀ k0_t16 : Fin (k0_t16_loop v672 v676).trips, ∀ a, (k0_off140 v672 v676 k0_t16) a + S64x768.size a ≤ S224x3072.size a) ∧
  (∀ k0_t16 : Fin (k0_t16_loop v672 v676).trips, ∀ a, (k0_off141 v18_0) a + S1x768x1408.size a ≤ S8x3072x1408.size a) ∧
  ((k0_t17_loop v672 v676).OK) ∧
  (∀ k0_t17 : Fin (k0_t17_loop v672 v676).trips, 32 ∣ (k0_mult12 v672 v676 k0_t17).toNat) ∧
  (∀ k0_t17 : Fin (k0_t17_loop v672 v676).trips, ∀ a, (k0_off142 v672 v676 k0_t17) a + S64x1408.size a ≤ S224x1408.size a) ∧
  (∀ k0_t17 : Fin (k0_t17_loop v672 v676).trips, ∀ a, (k0_off143 v672 v676 k0_t17) a + S64x768.size a ≤ S224x3072.size a) ∧
  (∀ k0_t17 : Fin (k0_t17_loop v672 v676).trips, ∀ a, (k0_off144 v18_0) a + S1x768x1408.size a ≤ S8x3072x1408.size a)
theorem k0_t16_ok : ∀ (v18_0 : BitVec 32) (v672 : BitVec 32) (v676 : BitVec 32) (k0_hw30 : k0_chk30 v18_0 v672 v676), (k0_t16_loop v672 v676).OK := fun v18_0 v672 v676 k0_hw30 => k0_hw30.1
theorem k0_mult11_dvd : ∀ (v18_0 : BitVec 32) (v672 : BitVec 32) (v676 : BitVec 32) (k0_hw30 : k0_chk30 v18_0 v672 v676) (k0_t16 : Fin (k0_t16_loop v672 v676).trips), 32 ∣ (k0_mult11 v672 v676 k0_t16).toNat := fun v18_0 v672 v676 k0_hw30 k0_t16 => k0_hw30.2.1 k0_t16
theorem k0_off139_inb : ∀ (v18_0 : BitVec 32) (v672 : BitVec 32) (v676 : BitVec 32) (k0_hw30 : k0_chk30 v18_0 v672 v676) (k0_t16 : Fin (k0_t16_loop v672 v676).trips), ∀ a, (k0_off139 v672 v676 k0_t16) a + S64x1408.size a ≤ S224x1408.size a := fun v18_0 v672 v676 k0_hw30 k0_t16 => k0_hw30.2.2.1 k0_t16
theorem k0_off140_inb : ∀ (v18_0 : BitVec 32) (v672 : BitVec 32) (v676 : BitVec 32) (k0_hw30 : k0_chk30 v18_0 v672 v676) (k0_t16 : Fin (k0_t16_loop v672 v676).trips), ∀ a, (k0_off140 v672 v676 k0_t16) a + S64x768.size a ≤ S224x3072.size a := fun v18_0 v672 v676 k0_hw30 k0_t16 => k0_hw30.2.2.2.1 k0_t16
theorem k0_off141_inb : ∀ (v18_0 : BitVec 32) (v672 : BitVec 32) (v676 : BitVec 32) (k0_hw30 : k0_chk30 v18_0 v672 v676) (k0_t16 : Fin (k0_t16_loop v672 v676).trips), ∀ a, (k0_off141 v18_0) a + S1x768x1408.size a ≤ S8x3072x1408.size a := fun v18_0 v672 v676 k0_hw30 k0_t16 => k0_hw30.2.2.2.2.1 k0_t16
theorem k0_t17_ok : ∀ (v18_0 : BitVec 32) (v672 : BitVec 32) (v676 : BitVec 32) (k0_hw30 : k0_chk30 v18_0 v672 v676), (k0_t17_loop v672 v676).OK := fun v18_0 v672 v676 k0_hw30 => k0_hw30.2.2.2.2.2.1
theorem k0_mult12_dvd : ∀ (v18_0 : BitVec 32) (v672 : BitVec 32) (v676 : BitVec 32) (k0_hw30 : k0_chk30 v18_0 v672 v676) (k0_t17 : Fin (k0_t17_loop v672 v676).trips), 32 ∣ (k0_mult12 v672 v676 k0_t17).toNat := fun v18_0 v672 v676 k0_hw30 k0_t17 => k0_hw30.2.2.2.2.2.2.1 k0_t17
theorem k0_off142_inb : ∀ (v18_0 : BitVec 32) (v672 : BitVec 32) (v676 : BitVec 32) (k0_hw30 : k0_chk30 v18_0 v672 v676) (k0_t17 : Fin (k0_t17_loop v672 v676).trips), ∀ a, (k0_off142 v672 v676 k0_t17) a + S64x1408.size a ≤ S224x1408.size a := fun v18_0 v672 v676 k0_hw30 k0_t17 => k0_hw30.2.2.2.2.2.2.2.1 k0_t17
theorem k0_off143_inb : ∀ (v18_0 : BitVec 32) (v672 : BitVec 32) (v676 : BitVec 32) (k0_hw30 : k0_chk30 v18_0 v672 v676) (k0_t17 : Fin (k0_t17_loop v672 v676).trips), ∀ a, (k0_off143 v672 v676 k0_t17) a + S64x768.size a ≤ S224x3072.size a := fun v18_0 v672 v676 k0_hw30 k0_t17 => k0_hw30.2.2.2.2.2.2.2.2.1 k0_t17
theorem k0_off144_inb : ∀ (v18_0 : BitVec 32) (v672 : BitVec 32) (v676 : BitVec 32) (k0_hw30 : k0_chk30 v18_0 v672 v676) (k0_t17 : Fin (k0_t17_loop v672 v676).trips), ∀ a, (k0_off144 v18_0) a + S1x768x1408.size a ≤ S8x3072x1408.size a := fun v18_0 v672 v676 k0_hw30 k0_t17 => k0_hw30.2.2.2.2.2.2.2.2.2 k0_t17

def k0_off145 (v18_0 : BitVec 32) : Fin 3 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  let c2304_i32 : BitVec 32 := 2304#32
  let c0_i32_265 : BitVec 32 := 0#32
  ![v642.toNat, 2304, 0]
def k0_off146 (v632 : BitVec 32) : Fin 3 → Nat :=
  let c2304_i32_266 : BitVec 32 := 2304#32
  let c0_i32_267 : BitVec 32 := 0#32
  ![v632.toNat, 2304, 0]
def k0_off147 (v18_0 : BitVec 32) : Fin 1 → Nat :=
  let c1_i32_16 : BitVec 32 := 1#32
  let v19 : BitVec 32 := Scalar.subi v18_0 c1_i32_16
  let v693 : Index := Scalar.indexCast v19
  ![v693.toNat]
def k0_off148 (v696 : BitVec 32) : Fin 1 → Nat :=
  let v697 : Index := Scalar.indexCast v696
  ![v697.toNat]

def k0_chk31 (v696 : BitVec 32) : Prop :=
  (∀ a, (k0_off148 v696) a + S1.size a ≤ S16.size a)
theorem k0_off148_inb : ∀ (v696 : BitVec 32) (k0_hw31 : k0_chk31 v696), ∀ a, (k0_off148 v696) a + S1.size a ≤ S16.size a := fun v696 k0_hw31 => k0_hw31

@[reducible] def k0_t18_loop (v694 : BitVec 32) (v698 : BitVec 32) : Scf.Loop 32 :=
  let c0_i32_272 : BitVec 32 := 0#32
  let v699 : BitVec 32 := Scalar.addi v694 v698
  let c_m32_i32_268 : BitVec 32 := 4294967264#32
  let v700 : BitVec 32 := Scalar.andi v694 c_m32_i32_268
  let v701 : BitVec 32 := Scalar.subi v699 v700
  let c63_i32_269 : BitVec 32 := 63#32
  let v702 : BitVec 32 := Scalar.addi v701 c63_i32_269
  let c64_i32_270 : BitVec 32 := 64#32
  let v703 : BitVec 32 := Scalar.divsi v702 c64_i32_270
  let v704 : BitVec 32 := Scalar.subi v703 c0_i32_272
  let c1_i32_273 : BitVec 32 := 1#32
  let v706 : BitVec 32 := Scalar.divsi v704 c1_i32_273
  let v707 : BitVec 32 := Scalar.muli v706 c1_i32_273
  let v708 : BitVec 32 := Scalar.addi c0_i32_272 v707
  let c1_i32_274 : BitVec 32 := 1#32
  ⟨c0_i32_272, v708, c1_i32_274⟩

def k0_mult13 (v694 : BitVec 32) (v698 : BitVec 32) (k0_t18 : Fin (k0_t18_loop v694 v698).trips) : BitVec 32 :=
  let c_m32_i32_268 : BitVec 32 := 4294967264#32
  let v700 : BitVec 32 := Scalar.andi v694 c_m32_i32_268
  let c0_i32_272 : BitVec 32 := 0#32
  let c1_i32_274 : BitVec 32 := 1#32
  let arg20 : BitVec 32 := Scf.iv c0_i32_272 c1_i32_274 k0_t18
  let c64_i32_308 : BitVec 32 := 64#32
  let v754 : BitVec 32 := Scalar.muli arg20 c64_i32_308
  let v755 : BitVec 32 := Scalar.addi v700 v754
  v755
def k0_off149 (v694 : BitVec 32) (v698 : BitVec 32) (k0_t18 : Fin (k0_t18_loop v694 v698).trips) : Fin 2 → Nat :=
  let c_m32_i32_268 : BitVec 32 := 4294967264#32
  let v700 : BitVec 32 := Scalar.andi v694 c_m32_i32_268
  let c0_i32_272 : BitVec 32 := 0#32
  let c1_i32_274 : BitVec 32 := 1#32
  let arg20 : BitVec 32 := Scf.iv c0_i32_272 c1_i32_274 k0_t18
  let c64_i32_308 : BitVec 32 := 64#32
  let v754 : BitVec 32 := Scalar.muli arg20 c64_i32_308
  let v755 : BitVec 32 := Scalar.addi v700 v754
  let v756 : BitVec 32 := v755
  let v757 : Index := Scalar.indexCast v756
  let c0_309 : Index := 0#32
  ![v757.toNat, 0]
def k0_off150 (v694 : BitVec 32) (v698 : BitVec 32) (k0_t18 : Fin (k0_t18_loop v694 v698).trips) : Fin 2 → Nat :=
  let c_m32_i32_268 : BitVec 32 := 4294967264#32
  let v700 : BitVec 32 := Scalar.andi v694 c_m32_i32_268
  let c0_i32_272 : BitVec 32 := 0#32
  let c1_i32_274 : BitVec 32 := 1#32
  let arg20 : BitVec 32 := Scf.iv c0_i32_272 c1_i32_274 k0_t18
  let c64_i32_308 : BitVec 32 := 64#32
  let v754 : BitVec 32 := Scalar.muli arg20 c64_i32_308
  let v755 : BitVec 32 := Scalar.addi v700 v754
  let v756 : BitVec 32 := v755
  let v759 : Index := Scalar.indexCast v756
  let c2304 : Index := 2304#32
  ![v759.toNat, 2304]
def k0_off151 (v18_0 : BitVec 32) : Fin 3 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  let v761 : Index := Scalar.indexCast v642
  let c2304_310 : Index := 2304#32
  let c0_311 : Index := 0#32
  ![v761.toNat, 2304, 0]
@[reducible] def k0_t19_loop (v694 : BitVec 32) (v698 : BitVec 32) : Scf.Loop 32 :=
  let c0_i32_272 : BitVec 32 := 0#32
  let v699 : BitVec 32 := Scalar.addi v694 v698
  let c_m32_i32_268 : BitVec 32 := 4294967264#32
  let v700 : BitVec 32 := Scalar.andi v694 c_m32_i32_268
  let v701 : BitVec 32 := Scalar.subi v699 v700
  let c63_i32_269 : BitVec 32 := 63#32
  let v702 : BitVec 32 := Scalar.addi v701 c63_i32_269
  let c64_i32_270 : BitVec 32 := 64#32
  let v703 : BitVec 32 := Scalar.divsi v702 c64_i32_270
  let v704 : BitVec 32 := Scalar.subi v703 c0_i32_272
  let c1_i32_273 : BitVec 32 := 1#32
  let v706 : BitVec 32 := Scalar.divsi v704 c1_i32_273
  let v707 : BitVec 32 := Scalar.muli v706 c1_i32_273
  let v708 : BitVec 32 := Scalar.addi c0_i32_272 v707
  let v705 : BitVec 32 := Scalar.addi c0_i32_272 v704
  let c1_i32_275 : BitVec 32 := 1#32
  ⟨v708, v705, c1_i32_275⟩
def k0_mult14 (v694 : BitVec 32) (v698 : BitVec 32) (k0_t19 : Fin (k0_t19_loop v694 v698).trips) : BitVec 32 :=
  let c_m32_i32_268 : BitVec 32 := 4294967264#32
  let v700 : BitVec 32 := Scalar.andi v694 c_m32_i32_268
  let c0_i32_272 : BitVec 32 := 0#32
  let v699 : BitVec 32 := Scalar.addi v694 v698
  let v701 : BitVec 32 := Scalar.subi v699 v700
  let c63_i32_269 : BitVec 32 := 63#32
  let v702 : BitVec 32 := Scalar.addi v701 c63_i32_269
  let c64_i32_270 : BitVec 32 := 64#32
  let v703 : BitVec 32 := Scalar.divsi v702 c64_i32_270
  let v704 : BitVec 32 := Scalar.subi v703 c0_i32_272
  let c1_i32_273 : BitVec 32 := 1#32
  let v706 : BitVec 32 := Scalar.divsi v704 c1_i32_273
  let v707 : BitVec 32 := Scalar.muli v706 c1_i32_273
  let v708 : BitVec 32 := Scalar.addi c0_i32_272 v707
  let c1_i32_275 : BitVec 32 := 1#32
  let arg20 : BitVec 32 := Scf.iv v708 c1_i32_275 k0_t19
  let c64_i32_308 : BitVec 32 := 64#32
  let v754 : BitVec 32 := Scalar.muli arg20 c64_i32_308
  let v755 : BitVec 32 := Scalar.addi v700 v754
  v755
def k0_off152 (v694 : BitVec 32) (v698 : BitVec 32) (k0_t19 : Fin (k0_t19_loop v694 v698).trips) : Fin 2 → Nat :=
  let c_m32_i32_268 : BitVec 32 := 4294967264#32
  let v700 : BitVec 32 := Scalar.andi v694 c_m32_i32_268
  let c0_i32_272 : BitVec 32 := 0#32
  let v699 : BitVec 32 := Scalar.addi v694 v698
  let v701 : BitVec 32 := Scalar.subi v699 v700
  let c63_i32_269 : BitVec 32 := 63#32
  let v702 : BitVec 32 := Scalar.addi v701 c63_i32_269
  let c64_i32_270 : BitVec 32 := 64#32
  let v703 : BitVec 32 := Scalar.divsi v702 c64_i32_270
  let v704 : BitVec 32 := Scalar.subi v703 c0_i32_272
  let c1_i32_273 : BitVec 32 := 1#32
  let v706 : BitVec 32 := Scalar.divsi v704 c1_i32_273
  let v707 : BitVec 32 := Scalar.muli v706 c1_i32_273
  let v708 : BitVec 32 := Scalar.addi c0_i32_272 v707
  let c1_i32_275 : BitVec 32 := 1#32
  let arg20 : BitVec 32 := Scf.iv v708 c1_i32_275 k0_t19
  let c64_i32_308 : BitVec 32 := 64#32
  let v754 : BitVec 32 := Scalar.muli arg20 c64_i32_308
  let v755 : BitVec 32 := Scalar.addi v700 v754
  let v756 : BitVec 32 := v755
  let v757 : Index := Scalar.indexCast v756
  let c0_309 : Index := 0#32
  ![v757.toNat, 0]
def k0_off153 (v694 : BitVec 32) (v698 : BitVec 32) (k0_t19 : Fin (k0_t19_loop v694 v698).trips) : Fin 2 → Nat :=
  let c_m32_i32_268 : BitVec 32 := 4294967264#32
  let v700 : BitVec 32 := Scalar.andi v694 c_m32_i32_268
  let c0_i32_272 : BitVec 32 := 0#32
  let v699 : BitVec 32 := Scalar.addi v694 v698
  let v701 : BitVec 32 := Scalar.subi v699 v700
  let c63_i32_269 : BitVec 32 := 63#32
  let v702 : BitVec 32 := Scalar.addi v701 c63_i32_269
  let c64_i32_270 : BitVec 32 := 64#32
  let v703 : BitVec 32 := Scalar.divsi v702 c64_i32_270
  let v704 : BitVec 32 := Scalar.subi v703 c0_i32_272
  let c1_i32_273 : BitVec 32 := 1#32
  let v706 : BitVec 32 := Scalar.divsi v704 c1_i32_273
  let v707 : BitVec 32 := Scalar.muli v706 c1_i32_273
  let v708 : BitVec 32 := Scalar.addi c0_i32_272 v707
  let c1_i32_275 : BitVec 32 := 1#32
  let arg20 : BitVec 32 := Scf.iv v708 c1_i32_275 k0_t19
  let c64_i32_308 : BitVec 32 := 64#32
  let v754 : BitVec 32 := Scalar.muli arg20 c64_i32_308
  let v755 : BitVec 32 := Scalar.addi v700 v754
  let v756 : BitVec 32 := v755
  let v759 : Index := Scalar.indexCast v756
  let c2304 : Index := 2304#32
  ![v759.toNat, 2304]
def k0_off154 (v18_0 : BitVec 32) : Fin 3 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  let v761 : Index := Scalar.indexCast v642
  let c2304_310 : Index := 2304#32
  let c0_311 : Index := 0#32
  ![v761.toNat, 2304, 0]

def k0_chk32 (v18_0 : BitVec 32) (v694 : BitVec 32) (v698 : BitVec 32) : Prop :=
  ((k0_t18_loop v694 v698).OK) ∧
  (∀ k0_t18 : Fin (k0_t18_loop v694 v698).trips, 32 ∣ (k0_mult13 v694 v698 k0_t18).toNat) ∧
  (∀ k0_t18 : Fin (k0_t18_loop v694 v698).trips, ∀ a, (k0_off149 v694 v698 k0_t18) a + S64x1408.size a ≤ S224x1408.size a) ∧
  (∀ k0_t18 : Fin (k0_t18_loop v694 v698).trips, ∀ a, (k0_off150 v694 v698 k0_t18) a + S64x512.size a ≤ S224x3072.size a) ∧
  (∀ k0_t18 : Fin (k0_t18_loop v694 v698).trips, ∀ a, (k0_off151 v18_0) a + S1x512x1408.size a ≤ S8x3072x1408.size a) ∧
  ((k0_t19_loop v694 v698).OK) ∧
  (∀ k0_t19 : Fin (k0_t19_loop v694 v698).trips, 32 ∣ (k0_mult14 v694 v698 k0_t19).toNat) ∧
  (∀ k0_t19 : Fin (k0_t19_loop v694 v698).trips, ∀ a, (k0_off152 v694 v698 k0_t19) a + S64x1408.size a ≤ S224x1408.size a) ∧
  (∀ k0_t19 : Fin (k0_t19_loop v694 v698).trips, ∀ a, (k0_off153 v694 v698 k0_t19) a + S64x512.size a ≤ S224x3072.size a) ∧
  (∀ k0_t19 : Fin (k0_t19_loop v694 v698).trips, ∀ a, (k0_off154 v18_0) a + S1x512x1408.size a ≤ S8x3072x1408.size a)
theorem k0_t18_ok : ∀ (v18_0 : BitVec 32) (v694 : BitVec 32) (v698 : BitVec 32) (k0_hw32 : k0_chk32 v18_0 v694 v698), (k0_t18_loop v694 v698).OK := fun v18_0 v694 v698 k0_hw32 => k0_hw32.1
theorem k0_mult13_dvd : ∀ (v18_0 : BitVec 32) (v694 : BitVec 32) (v698 : BitVec 32) (k0_hw32 : k0_chk32 v18_0 v694 v698) (k0_t18 : Fin (k0_t18_loop v694 v698).trips), 32 ∣ (k0_mult13 v694 v698 k0_t18).toNat := fun v18_0 v694 v698 k0_hw32 k0_t18 => k0_hw32.2.1 k0_t18
theorem k0_off149_inb : ∀ (v18_0 : BitVec 32) (v694 : BitVec 32) (v698 : BitVec 32) (k0_hw32 : k0_chk32 v18_0 v694 v698) (k0_t18 : Fin (k0_t18_loop v694 v698).trips), ∀ a, (k0_off149 v694 v698 k0_t18) a + S64x1408.size a ≤ S224x1408.size a := fun v18_0 v694 v698 k0_hw32 k0_t18 => k0_hw32.2.2.1 k0_t18
theorem k0_off150_inb : ∀ (v18_0 : BitVec 32) (v694 : BitVec 32) (v698 : BitVec 32) (k0_hw32 : k0_chk32 v18_0 v694 v698) (k0_t18 : Fin (k0_t18_loop v694 v698).trips), ∀ a, (k0_off150 v694 v698 k0_t18) a + S64x512.size a ≤ S224x3072.size a := fun v18_0 v694 v698 k0_hw32 k0_t18 => k0_hw32.2.2.2.1 k0_t18
theorem k0_off151_inb : ∀ (v18_0 : BitVec 32) (v694 : BitVec 32) (v698 : BitVec 32) (k0_hw32 : k0_chk32 v18_0 v694 v698) (k0_t18 : Fin (k0_t18_loop v694 v698).trips), ∀ a, (k0_off151 v18_0) a + S1x512x1408.size a ≤ S8x3072x1408.size a := fun v18_0 v694 v698 k0_hw32 k0_t18 => k0_hw32.2.2.2.2.1 k0_t18
theorem k0_t19_ok : ∀ (v18_0 : BitVec 32) (v694 : BitVec 32) (v698 : BitVec 32) (k0_hw32 : k0_chk32 v18_0 v694 v698), (k0_t19_loop v694 v698).OK := fun v18_0 v694 v698 k0_hw32 => k0_hw32.2.2.2.2.2.1
theorem k0_mult14_dvd : ∀ (v18_0 : BitVec 32) (v694 : BitVec 32) (v698 : BitVec 32) (k0_hw32 : k0_chk32 v18_0 v694 v698) (k0_t19 : Fin (k0_t19_loop v694 v698).trips), 32 ∣ (k0_mult14 v694 v698 k0_t19).toNat := fun v18_0 v694 v698 k0_hw32 k0_t19 => k0_hw32.2.2.2.2.2.2.1 k0_t19
theorem k0_off152_inb : ∀ (v18_0 : BitVec 32) (v694 : BitVec 32) (v698 : BitVec 32) (k0_hw32 : k0_chk32 v18_0 v694 v698) (k0_t19 : Fin (k0_t19_loop v694 v698).trips), ∀ a, (k0_off152 v694 v698 k0_t19) a + S64x1408.size a ≤ S224x1408.size a := fun v18_0 v694 v698 k0_hw32 k0_t19 => k0_hw32.2.2.2.2.2.2.2.1 k0_t19
theorem k0_off153_inb : ∀ (v18_0 : BitVec 32) (v694 : BitVec 32) (v698 : BitVec 32) (k0_hw32 : k0_chk32 v18_0 v694 v698) (k0_t19 : Fin (k0_t19_loop v694 v698).trips), ∀ a, (k0_off153 v694 v698 k0_t19) a + S64x512.size a ≤ S224x3072.size a := fun v18_0 v694 v698 k0_hw32 k0_t19 => k0_hw32.2.2.2.2.2.2.2.2.1 k0_t19
theorem k0_off154_inb : ∀ (v18_0 : BitVec 32) (v694 : BitVec 32) (v698 : BitVec 32) (k0_hw32 : k0_chk32 v18_0 v694 v698) (k0_t19 : Fin (k0_t19_loop v694 v698).trips), ∀ a, (k0_off154 v18_0) a + S1x512x1408.size a ≤ S8x3072x1408.size a := fun v18_0 v694 v698 k0_hw32 k0_t19 => k0_hw32.2.2.2.2.2.2.2.2.2 k0_t19

def k0_off155 (v18_0 : BitVec 32) : Fin 3 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  let c2816_i32 : BitVec 32 := 2816#32
  let c0_i32_277 : BitVec 32 := 0#32
  ![v642.toNat, 2816, 0]
def k0_off156 (v632 : BitVec 32) : Fin 3 → Nat :=
  let c2816_i32_278 : BitVec 32 := 2816#32
  let c0_i32_279 : BitVec 32 := 0#32
  ![v632.toNat, 2816, 0]

def k0_chk26 (v632 : BitVec 32) : Prop :=
  (∀ a, (k0_off126 v632) a + S1x1536x1408.size a ≤ S16x3072x1408.size a) ∧
  (∀ (hinb : ∀ a, (k0_off126 v632) a + S1x1536x1408.size a ≤ S16x3072x1408.size a), (Rect.unit (s := S16x3072x1408) (k0_off126 v632) S1x1536x1408.size hinb).WholeWords (EltTy.packing .fp8e4m3)) ∧
  (∀ a, (k0_off136 v632) a + S1x768x1408.size a ≤ S16x3072x1408.size a) ∧
  (∀ (hinb : ∀ a, (k0_off136 v632) a + S1x768x1408.size a ≤ S16x3072x1408.size a), (Rect.unit (s := S16x3072x1408) (k0_off136 v632) S1x768x1408.size hinb).WholeWords (EltTy.packing .fp8e4m3)) ∧
  (∀ a, (k0_off146 v632) a + S1x512x1408.size a ≤ S16x3072x1408.size a) ∧
  (∀ (hinb : ∀ a, (k0_off146 v632) a + S1x512x1408.size a ≤ S16x3072x1408.size a), (Rect.unit (s := S16x3072x1408) (k0_off146 v632) S1x512x1408.size hinb).WholeWords (EltTy.packing .fp8e4m3)) ∧
  (∀ a, (k0_off156 v632) a + S1x256x1408.size a ≤ S16x3072x1408.size a) ∧
  (∀ (hinb : ∀ a, (k0_off156 v632) a + S1x256x1408.size a ≤ S16x3072x1408.size a), (Rect.unit (s := S16x3072x1408) (k0_off156 v632) S1x256x1408.size hinb).WholeWords (EltTy.packing .fp8e4m3))
theorem k0_off126_inb : ∀ (v632 : BitVec 32) (k0_hw26 : k0_chk26 v632), ∀ a, (k0_off126 v632) a + S1x1536x1408.size a ≤ S16x3072x1408.size a := fun v632 k0_hw26 => k0_hw26.1
theorem k0_off126_wordsfp8e4m3 : ∀ (v632 : BitVec 32) (k0_hw26 : k0_chk26 v632), (Rect.unit (s := S16x3072x1408) (k0_off126 v632) S1x1536x1408.size (k0_off126_inb v632 k0_hw26)).WholeWords (EltTy.packing .fp8e4m3) := fun v632 k0_hw26 => k0_hw26.2.1 (k0_off126_inb v632 k0_hw26)
theorem k0_off136_inb : ∀ (v632 : BitVec 32) (k0_hw26 : k0_chk26 v632), ∀ a, (k0_off136 v632) a + S1x768x1408.size a ≤ S16x3072x1408.size a := fun v632 k0_hw26 => k0_hw26.2.2.1
theorem k0_off136_wordsfp8e4m3 : ∀ (v632 : BitVec 32) (k0_hw26 : k0_chk26 v632), (Rect.unit (s := S16x3072x1408) (k0_off136 v632) S1x768x1408.size (k0_off136_inb v632 k0_hw26)).WholeWords (EltTy.packing .fp8e4m3) := fun v632 k0_hw26 => k0_hw26.2.2.2.1 (k0_off136_inb v632 k0_hw26)
theorem k0_off146_inb : ∀ (v632 : BitVec 32) (k0_hw26 : k0_chk26 v632), ∀ a, (k0_off146 v632) a + S1x512x1408.size a ≤ S16x3072x1408.size a := fun v632 k0_hw26 => k0_hw26.2.2.2.2.1
theorem k0_off146_wordsfp8e4m3 : ∀ (v632 : BitVec 32) (k0_hw26 : k0_chk26 v632), (Rect.unit (s := S16x3072x1408) (k0_off146 v632) S1x512x1408.size (k0_off146_inb v632 k0_hw26)).WholeWords (EltTy.packing .fp8e4m3) := fun v632 k0_hw26 => k0_hw26.2.2.2.2.2.1 (k0_off146_inb v632 k0_hw26)
theorem k0_off156_inb : ∀ (v632 : BitVec 32) (k0_hw26 : k0_chk26 v632), ∀ a, (k0_off156 v632) a + S1x256x1408.size a ≤ S16x3072x1408.size a := fun v632 k0_hw26 => k0_hw26.2.2.2.2.2.2.1
theorem k0_off156_wordsfp8e4m3 : ∀ (v632 : BitVec 32) (k0_hw26 : k0_chk26 v632), (Rect.unit (s := S16x3072x1408) (k0_off156 v632) S1x256x1408.size (k0_off156_inb v632 k0_hw26)).WholeWords (EltTy.packing .fp8e4m3) := fun v632 k0_hw26 => k0_hw26.2.2.2.2.2.2.2 (k0_off156_inb v632 k0_hw26)

def k0_off157 (v18_0 : BitVec 32) : Fin 1 → Nat :=
  let c1_i32_16 : BitVec 32 := 1#32
  let v19 : BitVec 32 := Scalar.subi v18_0 c1_i32_16
  let v715 : Index := Scalar.indexCast v19
  ![v715.toNat]

def k0_chk3_0 (v18_0 : BitVec 32) : Prop :=
  ((k0_t2_loop v18_0).OK) ∧
  (∀ k0_t2 : Fin (k0_t2_loop v18_0).trips, ∀ a, (k0_off7 v18_0 k0_t2) a + S1.size a ≤ S16.size a) ∧
  (∀ k0_t2 : Fin (k0_t2_loop v18_0).trips, ∀ a, (k0_off8 v18_0 k0_t2) a + S1.size a ≤ S8.size a) ∧
  (∀ k0_t2 : Fin (k0_t2_loop v18_0).trips, ∀ a, (k0_off9 v18_0 k0_t2) a + S1x1536x1408.size a ≤ S8x3072x1408.size a) ∧
  (∀ k0_t2 : Fin (k0_t2_loop v18_0).trips, ∀ (hinb : ∀ a, (k0_off9 v18_0 k0_t2) a + S1x1536x1408.size a ≤ S8x3072x1408.size a), (Rect.unit (s := S8x3072x1408) (k0_off9 v18_0 k0_t2) S1x1536x1408.size hinb).WholeWords (EltTy.packing .fp8e4m3)) ∧
  (∀ k0_t2 : Fin (k0_t2_loop v18_0).trips, ∀ a, (k0_off11 v18_0 k0_t2) a + S1.size a ≤ S16.size a) ∧
  (∀ k0_t2 : Fin (k0_t2_loop v18_0).trips, ∀ (k0_h5 : k0_cond5 v18_0 k0_t2 = 1#1), ∀ a, (k0_off12 v18_0 k0_t2) a + S1.size a ≤ S8.size a) ∧
  (∀ k0_t2 : Fin (k0_t2_loop v18_0).trips, ∀ (k0_h5 : k0_cond5 v18_0 k0_t2 = 1#1), ∀ a, (k0_off13 v18_0 k0_t2) a + S1x1536x1408.size a ≤ S8x3072x1408.size a) ∧
  (∀ k0_t2 : Fin (k0_t2_loop v18_0).trips, ∀ (k0_h5 : k0_cond5 v18_0 k0_t2 = 1#1), ∀ (hinb : ∀ a, (k0_off13 v18_0 k0_t2) a + S1x1536x1408.size a ≤ S8x3072x1408.size a), (Rect.unit (s := S8x3072x1408) (k0_off13 v18_0 k0_t2) S1x1536x1408.size hinb).WholeWords (EltTy.packing .fp8e4m3)) ∧
  (∀ k0_t2 : Fin (k0_t2_loop v18_0).trips, ∀ (k0_h6 : k0_cond6 v18_0 k0_t2 = 1#1), ∀ a, (k0_off15 v18_0 k0_t2) a + S1x768x1408.size a ≤ S8x3072x1408.size a) ∧
  (∀ k0_t2 : Fin (k0_t2_loop v18_0).trips, ∀ (k0_h6 : k0_cond6 v18_0 k0_t2 = 1#1), ∀ (hinb : ∀ a, (k0_off15 v18_0 k0_t2) a + S1x768x1408.size a ≤ S8x3072x1408.size a), (Rect.unit (s := S8x3072x1408) (k0_off15 v18_0 k0_t2) S1x768x1408.size hinb).WholeWords (EltTy.packing .fp8e4m3)) ∧
  (∀ k0_t2 : Fin (k0_t2_loop v18_0).trips, ∀ (k0_h6 : k0_cond6 v18_0 k0_t2 = 1#1), ∀ a, (k0_off17 v18_0 k0_t2) a + S1x512x1408.size a ≤ S8x3072x1408.size a) ∧
  (∀ k0_t2 : Fin (k0_t2_loop v18_0).trips, ∀ (k0_h6 : k0_cond6 v18_0 k0_t2 = 1#1), ∀ (hinb : ∀ a, (k0_off17 v18_0 k0_t2) a + S1x512x1408.size a ≤ S8x3072x1408.size a), (Rect.unit (s := S8x3072x1408) (k0_off17 v18_0 k0_t2) S1x512x1408.size hinb).WholeWords (EltTy.packing .fp8e4m3)) ∧
  (∀ k0_t2 : Fin (k0_t2_loop v18_0).trips, ∀ (k0_h6 : k0_cond6 v18_0 k0_t2 = 1#1), ∀ a, (k0_off19 v18_0 k0_t2) a + S1x256x1408.size a ≤ S8x3072x1408.size a) ∧
  (∀ k0_t2 : Fin (k0_t2_loop v18_0).trips, ∀ (k0_h6 : k0_cond6 v18_0 k0_t2 = 1#1), ∀ (hinb : ∀ a, (k0_off19 v18_0 k0_t2) a + S1x256x1408.size a ≤ S8x3072x1408.size a), (Rect.unit (s := S8x3072x1408) (k0_off19 v18_0 k0_t2) S1x256x1408.size hinb).WholeWords (EltTy.packing .fp8e4m3)) ∧
  ((k0_t3_loop v18_0).OK) ∧
  (∀ k0_t3 : Fin (k0_t3_loop v18_0).trips, ∀ a, (k0_off21 v18_0 k0_t3) a + S1.size a ≤ S16.size a) ∧
  (∀ k0_t3 : Fin (k0_t3_loop v18_0).trips, ∀ a, (k0_off22 v18_0 k0_t3) a + S1.size a ≤ S8.size a) ∧
  (∀ k0_t3 : Fin (k0_t3_loop v18_0).trips, ∀ a, (k0_off23 v18_0 k0_t3) a + S1x1536x1408.size a ≤ S8x3072x1408.size a) ∧
  (∀ k0_t3 : Fin (k0_t3_loop v18_0).trips, ∀ (hinb : ∀ a, (k0_off23 v18_0 k0_t3) a + S1x1536x1408.size a ≤ S8x3072x1408.size a), (Rect.unit (s := S8x3072x1408) (k0_off23 v18_0 k0_t3) S1x1536x1408.size hinb).WholeWords (EltTy.packing .fp8e4m3)) ∧
  (∀ k0_t3 : Fin (k0_t3_loop v18_0).trips, ∀ a, (k0_off25 v18_0 k0_t3) a + S1.size a ≤ S16.size a) ∧
  (∀ k0_t3 : Fin (k0_t3_loop v18_0).trips, ∀ (k0_h7 : k0_cond7 v18_0 k0_t3 = 1#1), ∀ a, (k0_off26 v18_0 k0_t3) a + S1.size a ≤ S8.size a) ∧
  (∀ k0_t3 : Fin (k0_t3_loop v18_0).trips, ∀ (k0_h7 : k0_cond7 v18_0 k0_t3 = 1#1), ∀ a, (k0_off27 v18_0 k0_t3) a + S1x1536x1408.size a ≤ S8x3072x1408.size a) ∧
  (∀ k0_t3 : Fin (k0_t3_loop v18_0).trips, ∀ (k0_h7 : k0_cond7 v18_0 k0_t3 = 1#1), ∀ (hinb : ∀ a, (k0_off27 v18_0 k0_t3) a + S1x1536x1408.size a ≤ S8x3072x1408.size a), (Rect.unit (s := S8x3072x1408) (k0_off27 v18_0 k0_t3) S1x1536x1408.size hinb).WholeWords (EltTy.packing .fp8e4m3)) ∧
  (∀ k0_t3 : Fin (k0_t3_loop v18_0).trips, ∀ (k0_h8 : k0_cond8 v18_0 k0_t3 = 1#1), ∀ a, (k0_off29 v18_0 k0_t3) a + S1x768x1408.size a ≤ S8x3072x1408.size a) ∧
  (∀ k0_t3 : Fin (k0_t3_loop v18_0).trips, ∀ (k0_h8 : k0_cond8 v18_0 k0_t3 = 1#1), ∀ (hinb : ∀ a, (k0_off29 v18_0 k0_t3) a + S1x768x1408.size a ≤ S8x3072x1408.size a), (Rect.unit (s := S8x3072x1408) (k0_off29 v18_0 k0_t3) S1x768x1408.size hinb).WholeWords (EltTy.packing .fp8e4m3)) ∧
  (∀ k0_t3 : Fin (k0_t3_loop v18_0).trips, ∀ (k0_h8 : k0_cond8 v18_0 k0_t3 = 1#1), ∀ a, (k0_off31 v18_0 k0_t3) a + S1x512x1408.size a ≤ S8x3072x1408.size a) ∧
  (∀ k0_t3 : Fin (k0_t3_loop v18_0).trips, ∀ (k0_h8 : k0_cond8 v18_0 k0_t3 = 1#1), ∀ (hinb : ∀ a, (k0_off31 v18_0 k0_t3) a + S1x512x1408.size a ≤ S8x3072x1408.size a), (Rect.unit (s := S8x3072x1408) (k0_off31 v18_0 k0_t3) S1x512x1408.size hinb).WholeWords (EltTy.packing .fp8e4m3)) ∧
  (∀ k0_t3 : Fin (k0_t3_loop v18_0).trips, ∀ (k0_h8 : k0_cond8 v18_0 k0_t3 = 1#1), ∀ a, (k0_off33 v18_0 k0_t3) a + S1x256x1408.size a ≤ S8x3072x1408.size a) ∧
  (∀ k0_t3 : Fin (k0_t3_loop v18_0).trips, ∀ (k0_h8 : k0_cond8 v18_0 k0_t3 = 1#1), ∀ (hinb : ∀ a, (k0_off33 v18_0 k0_t3) a + S1x256x1408.size a ≤ S8x3072x1408.size a), (Rect.unit (s := S8x3072x1408) (k0_off33 v18_0 k0_t3) S1x256x1408.size hinb).WholeWords (EltTy.packing .fp8e4m3)) ∧
  ((k0_t4_loop v18_0).OK) ∧
  (∀ k0_t4 : Fin (k0_t4_loop v18_0).trips, ∀ a, (k0_off35 v18_0 k0_t4) a + S1.size a ≤ S16.size a)
def k0_chk3_1 (v18_0 : BitVec 32) : Prop :=
  (∀ k0_t4 : Fin (k0_t4_loop v18_0).trips, ∀ a, (k0_off36 v18_0 k0_t4) a + S1.size a ≤ S8.size a) ∧
  (∀ k0_t4 : Fin (k0_t4_loop v18_0).trips, ∀ a, (k0_off37 v18_0 k0_t4) a + S1x1536x1408.size a ≤ S8x3072x1408.size a) ∧
  (∀ k0_t4 : Fin (k0_t4_loop v18_0).trips, ∀ (hinb : ∀ a, (k0_off37 v18_0 k0_t4) a + S1x1536x1408.size a ≤ S8x3072x1408.size a), (Rect.unit (s := S8x3072x1408) (k0_off37 v18_0 k0_t4) S1x1536x1408.size hinb).WholeWords (EltTy.packing .fp8e4m3)) ∧
  (∀ k0_t4 : Fin (k0_t4_loop v18_0).trips, ∀ a, (k0_off43 v18_0 k0_t4) a + S1.size a ≤ S16.size a) ∧
  (∀ k0_t4 : Fin (k0_t4_loop v18_0).trips, ∀ (k0_h10 : k0_cond10 v18_0 k0_t4 = 1#1), ∀ a, (k0_off59 v18_0 k0_t4) a + S1.size a ≤ S16.size a) ∧
  (∀ k0_t4 : Fin (k0_t4_loop v18_0).trips, ∀ (k0_h10 : k0_cond10 v18_0 k0_t4 = 1#1), ∀ a, (k0_off60 v18_0 k0_t4) a + S1.size a ≤ S8.size a) ∧
  (∀ k0_t4 : Fin (k0_t4_loop v18_0).trips, ∀ (k0_h10 : k0_cond10 v18_0 k0_t4 = 1#1), ∀ a, (k0_off61 v18_0 k0_t4) a + S1x1536x1408.size a ≤ S8x3072x1408.size a) ∧
  (∀ k0_t4 : Fin (k0_t4_loop v18_0).trips, ∀ (k0_h10 : k0_cond10 v18_0 k0_t4 = 1#1), ∀ (hinb : ∀ a, (k0_off61 v18_0 k0_t4) a + S1x1536x1408.size a ≤ S8x3072x1408.size a), (Rect.unit (s := S8x3072x1408) (k0_off61 v18_0 k0_t4) S1x1536x1408.size hinb).WholeWords (EltTy.packing .fp8e4m3)) ∧
  (∀ k0_t4 : Fin (k0_t4_loop v18_0).trips, ∀ (k0_h10 : k0_cond10 v18_0 k0_t4 = 1#1), ∀ a, (k0_off63 v18_0 k0_t4) a + S1.size a ≤ S16.size a) ∧
  (∀ k0_t4 : Fin (k0_t4_loop v18_0).trips, ∀ (k0_h10 : k0_cond10 v18_0 k0_t4 = 1#1), ∀ (k0_h11 : k0_cond11 v18_0 k0_t4 = 1#1), ∀ a, (k0_off64 v18_0 k0_t4) a + S1.size a ≤ S8.size a) ∧
  (∀ k0_t4 : Fin (k0_t4_loop v18_0).trips, ∀ (k0_h10 : k0_cond10 v18_0 k0_t4 = 1#1), ∀ (k0_h11 : k0_cond11 v18_0 k0_t4 = 1#1), ∀ a, (k0_off65 v18_0 k0_t4) a + S1x1536x1408.size a ≤ S8x3072x1408.size a) ∧
  (∀ k0_t4 : Fin (k0_t4_loop v18_0).trips, ∀ (k0_h10 : k0_cond10 v18_0 k0_t4 = 1#1), ∀ (k0_h11 : k0_cond11 v18_0 k0_t4 = 1#1), ∀ (hinb : ∀ a, (k0_off65 v18_0 k0_t4) a + S1x1536x1408.size a ≤ S8x3072x1408.size a), (Rect.unit (s := S8x3072x1408) (k0_off65 v18_0 k0_t4) S1x1536x1408.size hinb).WholeWords (EltTy.packing .fp8e4m3)) ∧
  (∀ k0_t4 : Fin (k0_t4_loop v18_0).trips, ∀ (k0_h10 : k0_cond10 v18_0 k0_t4 = 1#1), ∀ (k0_h12 : k0_cond12 v18_0 k0_t4 = 1#1), ∀ a, (k0_off67 v18_0 k0_t4) a + S1x768x1408.size a ≤ S8x3072x1408.size a) ∧
  (∀ k0_t4 : Fin (k0_t4_loop v18_0).trips, ∀ (k0_h10 : k0_cond10 v18_0 k0_t4 = 1#1), ∀ (k0_h12 : k0_cond12 v18_0 k0_t4 = 1#1), ∀ (hinb : ∀ a, (k0_off67 v18_0 k0_t4) a + S1x768x1408.size a ≤ S8x3072x1408.size a), (Rect.unit (s := S8x3072x1408) (k0_off67 v18_0 k0_t4) S1x768x1408.size hinb).WholeWords (EltTy.packing .fp8e4m3)) ∧
  (∀ k0_t4 : Fin (k0_t4_loop v18_0).trips, ∀ (k0_h10 : k0_cond10 v18_0 k0_t4 = 1#1), ∀ (k0_h12 : k0_cond12 v18_0 k0_t4 = 1#1), ∀ a, (k0_off69 v18_0 k0_t4) a + S1x512x1408.size a ≤ S8x3072x1408.size a) ∧
  (∀ k0_t4 : Fin (k0_t4_loop v18_0).trips, ∀ (k0_h10 : k0_cond10 v18_0 k0_t4 = 1#1), ∀ (k0_h12 : k0_cond12 v18_0 k0_t4 = 1#1), ∀ (hinb : ∀ a, (k0_off69 v18_0 k0_t4) a + S1x512x1408.size a ≤ S8x3072x1408.size a), (Rect.unit (s := S8x3072x1408) (k0_off69 v18_0 k0_t4) S1x512x1408.size hinb).WholeWords (EltTy.packing .fp8e4m3)) ∧
  (∀ k0_t4 : Fin (k0_t4_loop v18_0).trips, ∀ (k0_h10 : k0_cond10 v18_0 k0_t4 = 1#1), ∀ (k0_h12 : k0_cond12 v18_0 k0_t4 = 1#1), ∀ a, (k0_off71 v18_0 k0_t4) a + S1x256x1408.size a ≤ S8x3072x1408.size a) ∧
  (∀ k0_t4 : Fin (k0_t4_loop v18_0).trips, ∀ (k0_h10 : k0_cond10 v18_0 k0_t4 = 1#1), ∀ (k0_h12 : k0_cond12 v18_0 k0_t4 = 1#1), ∀ (hinb : ∀ a, (k0_off71 v18_0 k0_t4) a + S1x256x1408.size a ≤ S8x3072x1408.size a), (Rect.unit (s := S8x3072x1408) (k0_off71 v18_0 k0_t4) S1x256x1408.size hinb).WholeWords (EltTy.packing .fp8e4m3)) ∧
  (∀ k0_t4 : Fin (k0_t4_loop v18_0).trips, ∀ a, (k0_off73 v18_0 k0_t4) a + S1.size a ≤ S16.size a) ∧
  ((k0_t9_loop v18_0).OK) ∧
  (∀ k0_t9 : Fin (k0_t9_loop v18_0).trips, ∀ a, (k0_off79 v18_0 k0_t9) a + S1.size a ≤ S16.size a) ∧
  (∀ k0_t9 : Fin (k0_t9_loop v18_0).trips, ∀ a, (k0_off80 v18_0 k0_t9) a + S1.size a ≤ S8.size a) ∧
  (∀ k0_t9 : Fin (k0_t9_loop v18_0).trips, ∀ a, (k0_off81 v18_0 k0_t9) a + S1x1536x1408.size a ≤ S8x3072x1408.size a) ∧
  (∀ k0_t9 : Fin (k0_t9_loop v18_0).trips, ∀ (hinb : ∀ a, (k0_off81 v18_0 k0_t9) a + S1x1536x1408.size a ≤ S8x3072x1408.size a), (Rect.unit (s := S8x3072x1408) (k0_off81 v18_0 k0_t9) S1x1536x1408.size hinb).WholeWords (EltTy.packing .fp8e4m3)) ∧
  (∀ k0_t9 : Fin (k0_t9_loop v18_0).trips, ∀ a, (k0_off87 v18_0 k0_t9) a + S1.size a ≤ S16.size a) ∧
  (∀ k0_t9 : Fin (k0_t9_loop v18_0).trips, ∀ (k0_h14 : k0_cond14 v18_0 k0_t9 = 1#1), ∀ a, (k0_off103 v18_0 k0_t9) a + S1.size a ≤ S16.size a) ∧
  (∀ k0_t9 : Fin (k0_t9_loop v18_0).trips, ∀ (k0_h14 : k0_cond14 v18_0 k0_t9 = 1#1), ∀ a, (k0_off104 v18_0 k0_t9) a + S1.size a ≤ S8.size a) ∧
  (∀ k0_t9 : Fin (k0_t9_loop v18_0).trips, ∀ (k0_h14 : k0_cond14 v18_0 k0_t9 = 1#1), ∀ a, (k0_off105 v18_0 k0_t9) a + S1x1536x1408.size a ≤ S8x3072x1408.size a) ∧
  (∀ k0_t9 : Fin (k0_t9_loop v18_0).trips, ∀ (k0_h14 : k0_cond14 v18_0 k0_t9 = 1#1), ∀ (hinb : ∀ a, (k0_off105 v18_0 k0_t9) a + S1x1536x1408.size a ≤ S8x3072x1408.size a), (Rect.unit (s := S8x3072x1408) (k0_off105 v18_0 k0_t9) S1x1536x1408.size hinb).WholeWords (EltTy.packing .fp8e4m3)) ∧
  (∀ k0_t9 : Fin (k0_t9_loop v18_0).trips, ∀ (k0_h14 : k0_cond14 v18_0 k0_t9 = 1#1), ∀ a, (k0_off107 v18_0 k0_t9) a + S1.size a ≤ S16.size a) ∧
  (∀ k0_t9 : Fin (k0_t9_loop v18_0).trips, ∀ (k0_h14 : k0_cond14 v18_0 k0_t9 = 1#1), ∀ (k0_h15 : k0_cond15 v18_0 k0_t9 = 1#1), ∀ a, (k0_off108 v18_0 k0_t9) a + S1.size a ≤ S8.size a) ∧
  (∀ k0_t9 : Fin (k0_t9_loop v18_0).trips, ∀ (k0_h14 : k0_cond14 v18_0 k0_t9 = 1#1), ∀ (k0_h15 : k0_cond15 v18_0 k0_t9 = 1#1), ∀ a, (k0_off109 v18_0 k0_t9) a + S1x1536x1408.size a ≤ S8x3072x1408.size a)
def k0_chk3_2 (v18_0 : BitVec 32) : Prop :=
  (∀ k0_t9 : Fin (k0_t9_loop v18_0).trips, ∀ (k0_h14 : k0_cond14 v18_0 k0_t9 = 1#1), ∀ (k0_h15 : k0_cond15 v18_0 k0_t9 = 1#1), ∀ (hinb : ∀ a, (k0_off109 v18_0 k0_t9) a + S1x1536x1408.size a ≤ S8x3072x1408.size a), (Rect.unit (s := S8x3072x1408) (k0_off109 v18_0 k0_t9) S1x1536x1408.size hinb).WholeWords (EltTy.packing .fp8e4m3)) ∧
  (∀ k0_t9 : Fin (k0_t9_loop v18_0).trips, ∀ (k0_h14 : k0_cond14 v18_0 k0_t9 = 1#1), ∀ (k0_h16 : k0_cond16 v18_0 k0_t9 = 1#1), ∀ a, (k0_off111 v18_0 k0_t9) a + S1x768x1408.size a ≤ S8x3072x1408.size a) ∧
  (∀ k0_t9 : Fin (k0_t9_loop v18_0).trips, ∀ (k0_h14 : k0_cond14 v18_0 k0_t9 = 1#1), ∀ (k0_h16 : k0_cond16 v18_0 k0_t9 = 1#1), ∀ (hinb : ∀ a, (k0_off111 v18_0 k0_t9) a + S1x768x1408.size a ≤ S8x3072x1408.size a), (Rect.unit (s := S8x3072x1408) (k0_off111 v18_0 k0_t9) S1x768x1408.size hinb).WholeWords (EltTy.packing .fp8e4m3)) ∧
  (∀ k0_t9 : Fin (k0_t9_loop v18_0).trips, ∀ (k0_h14 : k0_cond14 v18_0 k0_t9 = 1#1), ∀ (k0_h16 : k0_cond16 v18_0 k0_t9 = 1#1), ∀ a, (k0_off113 v18_0 k0_t9) a + S1x512x1408.size a ≤ S8x3072x1408.size a) ∧
  (∀ k0_t9 : Fin (k0_t9_loop v18_0).trips, ∀ (k0_h14 : k0_cond14 v18_0 k0_t9 = 1#1), ∀ (k0_h16 : k0_cond16 v18_0 k0_t9 = 1#1), ∀ (hinb : ∀ a, (k0_off113 v18_0 k0_t9) a + S1x512x1408.size a ≤ S8x3072x1408.size a), (Rect.unit (s := S8x3072x1408) (k0_off113 v18_0 k0_t9) S1x512x1408.size hinb).WholeWords (EltTy.packing .fp8e4m3)) ∧
  (∀ k0_t9 : Fin (k0_t9_loop v18_0).trips, ∀ (k0_h14 : k0_cond14 v18_0 k0_t9 = 1#1), ∀ (k0_h16 : k0_cond16 v18_0 k0_t9 = 1#1), ∀ a, (k0_off115 v18_0 k0_t9) a + S1x256x1408.size a ≤ S8x3072x1408.size a) ∧
  (∀ k0_t9 : Fin (k0_t9_loop v18_0).trips, ∀ (k0_h14 : k0_cond14 v18_0 k0_t9 = 1#1), ∀ (k0_h16 : k0_cond16 v18_0 k0_t9 = 1#1), ∀ (hinb : ∀ a, (k0_off115 v18_0 k0_t9) a + S1x256x1408.size a ≤ S8x3072x1408.size a), (Rect.unit (s := S8x3072x1408) (k0_off115 v18_0 k0_t9) S1x256x1408.size hinb).WholeWords (EltTy.packing .fp8e4m3)) ∧
  (∀ k0_t9 : Fin (k0_t9_loop v18_0).trips, ∀ a, (k0_off117 v18_0 k0_t9) a + S1.size a ≤ S16.size a) ∧
  (∀ a, (k0_off123 v18_0) a + S1.size a ≤ S16.size a) ∧
  (∀ a, (k0_off124 v18_0) a + S1.size a ≤ S8.size a) ∧
  (∀ a, (k0_off125 v18_0) a + S1x1536x1408.size a ≤ S8x3072x1408.size a) ∧
  (∀ (hinb : ∀ a, (k0_off125 v18_0) a + S1x1536x1408.size a ≤ S8x3072x1408.size a), (Rect.unit (s := S8x3072x1408) (k0_off125 v18_0) S1x1536x1408.size hinb).WholeWords (EltTy.packing .fp8e4m3)) ∧
  (∀ a, (k0_off127 v18_0) a + S1.size a ≤ S16.size a) ∧
  (∀ a, (k0_off135 v18_0) a + S1x768x1408.size a ≤ S8x3072x1408.size a) ∧
  (∀ (hinb : ∀ a, (k0_off135 v18_0) a + S1x768x1408.size a ≤ S8x3072x1408.size a), (Rect.unit (s := S8x3072x1408) (k0_off135 v18_0) S1x768x1408.size hinb).WholeWords (EltTy.packing .fp8e4m3)) ∧
  (∀ a, (k0_off137 v18_0) a + S1.size a ≤ S16.size a) ∧
  (∀ a, (k0_off145 v18_0) a + S1x512x1408.size a ≤ S8x3072x1408.size a) ∧
  (∀ (hinb : ∀ a, (k0_off145 v18_0) a + S1x512x1408.size a ≤ S8x3072x1408.size a), (Rect.unit (s := S8x3072x1408) (k0_off145 v18_0) S1x512x1408.size hinb).WholeWords (EltTy.packing .fp8e4m3)) ∧
  (∀ a, (k0_off147 v18_0) a + S1.size a ≤ S16.size a) ∧
  (∀ a, (k0_off155 v18_0) a + S1x256x1408.size a ≤ S8x3072x1408.size a) ∧
  (∀ (hinb : ∀ a, (k0_off155 v18_0) a + S1x256x1408.size a ≤ S8x3072x1408.size a), (Rect.unit (s := S8x3072x1408) (k0_off155 v18_0) S1x256x1408.size hinb).WholeWords (EltTy.packing .fp8e4m3)) ∧
  (∀ a, (k0_off157 v18_0) a + S1.size a ≤ S16.size a)
def k0_chk3 (v18_0 : BitVec 32) : Prop :=
  k0_chk3_0 v18_0 ∧
  k0_chk3_1 v18_0 ∧
  k0_chk3_2 v18_0
theorem k0_t2_ok : ∀ (v18_0 : BitVec 32) (k0_hw3 : k0_chk3 v18_0), (k0_t2_loop v18_0).OK := fun v18_0 k0_hw3 => k0_hw3.1.1
theorem k0_off7_inb : ∀ (v18_0 : BitVec 32) (k0_hw3 : k0_chk3 v18_0) (k0_t2 : Fin (k0_t2_loop v18_0).trips), ∀ a, (k0_off7 v18_0 k0_t2) a + S1.size a ≤ S16.size a := fun v18_0 k0_hw3 k0_t2 => k0_hw3.1.2.1 k0_t2
theorem k0_off8_inb : ∀ (v18_0 : BitVec 32) (k0_hw3 : k0_chk3 v18_0) (k0_t2 : Fin (k0_t2_loop v18_0).trips), ∀ a, (k0_off8 v18_0 k0_t2) a + S1.size a ≤ S8.size a := fun v18_0 k0_hw3 k0_t2 => k0_hw3.1.2.2.1 k0_t2
theorem k0_off9_inb : ∀ (v18_0 : BitVec 32) (k0_hw3 : k0_chk3 v18_0) (k0_t2 : Fin (k0_t2_loop v18_0).trips), ∀ a, (k0_off9 v18_0 k0_t2) a + S1x1536x1408.size a ≤ S8x3072x1408.size a := fun v18_0 k0_hw3 k0_t2 => k0_hw3.1.2.2.2.1 k0_t2
theorem k0_off9_wordsfp8e4m3 : ∀ (v18_0 : BitVec 32) (k0_hw3 : k0_chk3 v18_0) (k0_t2 : Fin (k0_t2_loop v18_0).trips), (Rect.unit (s := S8x3072x1408) (k0_off9 v18_0 k0_t2) S1x1536x1408.size (k0_off9_inb v18_0 k0_hw3 k0_t2)).WholeWords (EltTy.packing .fp8e4m3) := fun v18_0 k0_hw3 k0_t2 => k0_hw3.1.2.2.2.2.1 k0_t2 (k0_off9_inb v18_0 k0_hw3 k0_t2)
theorem k0_off11_inb : ∀ (v18_0 : BitVec 32) (k0_hw3 : k0_chk3 v18_0) (k0_t2 : Fin (k0_t2_loop v18_0).trips), ∀ a, (k0_off11 v18_0 k0_t2) a + S1.size a ≤ S16.size a := fun v18_0 k0_hw3 k0_t2 => k0_hw3.1.2.2.2.2.2.1 k0_t2
theorem k0_off12_inb : ∀ (v18_0 : BitVec 32) (k0_hw3 : k0_chk3 v18_0) (k0_t2 : Fin (k0_t2_loop v18_0).trips), ∀ (k0_h5 : k0_cond5 v18_0 k0_t2 = 1#1), ∀ a, (k0_off12 v18_0 k0_t2) a + S1.size a ≤ S8.size a := fun v18_0 k0_hw3 k0_t2 k0_h5 => k0_hw3.1.2.2.2.2.2.2.1 k0_t2 k0_h5
theorem k0_off13_inb : ∀ (v18_0 : BitVec 32) (k0_hw3 : k0_chk3 v18_0) (k0_t2 : Fin (k0_t2_loop v18_0).trips), ∀ (k0_h5 : k0_cond5 v18_0 k0_t2 = 1#1), ∀ a, (k0_off13 v18_0 k0_t2) a + S1x1536x1408.size a ≤ S8x3072x1408.size a := fun v18_0 k0_hw3 k0_t2 k0_h5 => k0_hw3.1.2.2.2.2.2.2.2.1 k0_t2 k0_h5
theorem k0_off13_wordsfp8e4m3 : ∀ (v18_0 : BitVec 32) (k0_hw3 : k0_chk3 v18_0) (k0_t2 : Fin (k0_t2_loop v18_0).trips), ∀ (k0_h5 : k0_cond5 v18_0 k0_t2 = 1#1), (Rect.unit (s := S8x3072x1408) (k0_off13 v18_0 k0_t2) S1x1536x1408.size (k0_off13_inb v18_0 k0_hw3 k0_t2 k0_h5)).WholeWords (EltTy.packing .fp8e4m3) := fun v18_0 k0_hw3 k0_t2 k0_h5 => k0_hw3.1.2.2.2.2.2.2.2.2.1 k0_t2 k0_h5 (k0_off13_inb v18_0 k0_hw3 k0_t2 k0_h5)
theorem k0_off15_inb : ∀ (v18_0 : BitVec 32) (k0_hw3 : k0_chk3 v18_0) (k0_t2 : Fin (k0_t2_loop v18_0).trips), ∀ (k0_h6 : k0_cond6 v18_0 k0_t2 = 1#1), ∀ a, (k0_off15 v18_0 k0_t2) a + S1x768x1408.size a ≤ S8x3072x1408.size a := fun v18_0 k0_hw3 k0_t2 k0_h6 => k0_hw3.1.2.2.2.2.2.2.2.2.2.1 k0_t2 k0_h6
theorem k0_off15_wordsfp8e4m3 : ∀ (v18_0 : BitVec 32) (k0_hw3 : k0_chk3 v18_0) (k0_t2 : Fin (k0_t2_loop v18_0).trips), ∀ (k0_h6 : k0_cond6 v18_0 k0_t2 = 1#1), (Rect.unit (s := S8x3072x1408) (k0_off15 v18_0 k0_t2) S1x768x1408.size (k0_off15_inb v18_0 k0_hw3 k0_t2 k0_h6)).WholeWords (EltTy.packing .fp8e4m3) := fun v18_0 k0_hw3 k0_t2 k0_h6 => k0_hw3.1.2.2.2.2.2.2.2.2.2.2.1 k0_t2 k0_h6 (k0_off15_inb v18_0 k0_hw3 k0_t2 k0_h6)
theorem k0_off17_inb : ∀ (v18_0 : BitVec 32) (k0_hw3 : k0_chk3 v18_0) (k0_t2 : Fin (k0_t2_loop v18_0).trips), ∀ (k0_h6 : k0_cond6 v18_0 k0_t2 = 1#1), ∀ a, (k0_off17 v18_0 k0_t2) a + S1x512x1408.size a ≤ S8x3072x1408.size a := fun v18_0 k0_hw3 k0_t2 k0_h6 => k0_hw3.1.2.2.2.2.2.2.2.2.2.2.2.1 k0_t2 k0_h6
theorem k0_off17_wordsfp8e4m3 : ∀ (v18_0 : BitVec 32) (k0_hw3 : k0_chk3 v18_0) (k0_t2 : Fin (k0_t2_loop v18_0).trips), ∀ (k0_h6 : k0_cond6 v18_0 k0_t2 = 1#1), (Rect.unit (s := S8x3072x1408) (k0_off17 v18_0 k0_t2) S1x512x1408.size (k0_off17_inb v18_0 k0_hw3 k0_t2 k0_h6)).WholeWords (EltTy.packing .fp8e4m3) := fun v18_0 k0_hw3 k0_t2 k0_h6 => k0_hw3.1.2.2.2.2.2.2.2.2.2.2.2.2.1 k0_t2 k0_h6 (k0_off17_inb v18_0 k0_hw3 k0_t2 k0_h6)
theorem k0_off19_inb : ∀ (v18_0 : BitVec 32) (k0_hw3 : k0_chk3 v18_0) (k0_t2 : Fin (k0_t2_loop v18_0).trips), ∀ (k0_h6 : k0_cond6 v18_0 k0_t2 = 1#1), ∀ a, (k0_off19 v18_0 k0_t2) a + S1x256x1408.size a ≤ S8x3072x1408.size a := fun v18_0 k0_hw3 k0_t2 k0_h6 => k0_hw3.1.2.2.2.2.2.2.2.2.2.2.2.2.2.1 k0_t2 k0_h6
theorem k0_off19_wordsfp8e4m3 : ∀ (v18_0 : BitVec 32) (k0_hw3 : k0_chk3 v18_0) (k0_t2 : Fin (k0_t2_loop v18_0).trips), ∀ (k0_h6 : k0_cond6 v18_0 k0_t2 = 1#1), (Rect.unit (s := S8x3072x1408) (k0_off19 v18_0 k0_t2) S1x256x1408.size (k0_off19_inb v18_0 k0_hw3 k0_t2 k0_h6)).WholeWords (EltTy.packing .fp8e4m3) := fun v18_0 k0_hw3 k0_t2 k0_h6 => k0_hw3.1.2.2.2.2.2.2.2.2.2.2.2.2.2.2.1 k0_t2 k0_h6 (k0_off19_inb v18_0 k0_hw3 k0_t2 k0_h6)
theorem k0_t3_ok : ∀ (v18_0 : BitVec 32) (k0_hw3 : k0_chk3 v18_0), (k0_t3_loop v18_0).OK := fun v18_0 k0_hw3 => k0_hw3.1.2.2.2.2.2.2.2.2.2.2.2.2.2.2.2.1
theorem k0_off21_inb : ∀ (v18_0 : BitVec 32) (k0_hw3 : k0_chk3 v18_0) (k0_t3 : Fin (k0_t3_loop v18_0).trips), ∀ a, (k0_off21 v18_0 k0_t3) a + S1.size a ≤ S16.size a := fun v18_0 k0_hw3 k0_t3 => k0_hw3.1.2.2.2.2.2.2.2.2.2.2.2.2.2.2.2.2.1 k0_t3
theorem k0_off22_inb : ∀ (v18_0 : BitVec 32) (k0_hw3 : k0_chk3 v18_0) (k0_t3 : Fin (k0_t3_loop v18_0).trips), ∀ a, (k0_off22 v18_0 k0_t3) a + S1.size a ≤ S8.size a := fun v18_0 k0_hw3 k0_t3 => k0_hw3.1.2.2.2.2.2.2.2.2.2.2.2.2.2.2.2.2.2.1 k0_t3
theorem k0_off23_inb : ∀ (v18_0 : BitVec 32) (k0_hw3 : k0_chk3 v18_0) (k0_t3 : Fin (k0_t3_loop v18_0).trips), ∀ a, (k0_off23 v18_0 k0_t3) a + S1x1536x1408.size a ≤ S8x3072x1408.size a := fun v18_0 k0_hw3 k0_t3 => k0_hw3.1.2.2.2.2.2.2.2.2.2.2.2.2.2.2.2.2.2.2.1 k0_t3
theorem k0_off23_wordsfp8e4m3 : ∀ (v18_0 : BitVec 32) (k0_hw3 : k0_chk3 v18_0) (k0_t3 : Fin (k0_t3_loop v18_0).trips), (Rect.unit (s := S8x3072x1408) (k0_off23 v18_0 k0_t3) S1x1536x1408.size (k0_off23_inb v18_0 k0_hw3 k0_t3)).WholeWords (EltTy.packing .fp8e4m3) := fun v18_0 k0_hw3 k0_t3 => k0_hw3.1.2.2.2.2.2.2.2.2.2.2.2.2.2.2.2.2.2.2.2.1 k0_t3 (k0_off23_inb v18_0 k0_hw3 k0_t3)
theorem k0_off25_inb : ∀ (v18_0 : BitVec 32) (k0_hw3 : k0_chk3 v18_0) (k0_t3 : Fin (k0_t3_loop v18_0).trips), ∀ a, (k0_off25 v18_0 k0_t3) a + S1.size a ≤ S16.size a := fun v18_0 k0_hw3 k0_t3 => k0_hw3.1.2.2.2.2.2.2.2.2.2.2.2.2.2.2.2.2.2.2.2.2.1 k0_t3
theorem k0_off26_inb : ∀ (v18_0 : BitVec 32) (k0_hw3 : k0_chk3 v18_0) (k0_t3 : Fin (k0_t3_loop v18_0).trips), ∀ (k0_h7 : k0_cond7 v18_0 k0_t3 = 1#1), ∀ a, (k0_off26 v18_0 k0_t3) a + S1.size a ≤ S8.size a := fun v18_0 k0_hw3 k0_t3 k0_h7 => k0_hw3.1.2.2.2.2.2.2.2.2.2.2.2.2.2.2.2.2.2.2.2.2.2.1 k0_t3 k0_h7
theorem k0_off27_inb : ∀ (v18_0 : BitVec 32) (k0_hw3 : k0_chk3 v18_0) (k0_t3 : Fin (k0_t3_loop v18_0).trips), ∀ (k0_h7 : k0_cond7 v18_0 k0_t3 = 1#1), ∀ a, (k0_off27 v18_0 k0_t3) a + S1x1536x1408.size a ≤ S8x3072x1408.size a := fun v18_0 k0_hw3 k0_t3 k0_h7 => k0_hw3.1.2.2.2.2.2.2.2.2.2.2.2.2.2.2.2.2.2.2.2.2.2.2.1 k0_t3 k0_h7
theorem k0_off27_wordsfp8e4m3 : ∀ (v18_0 : BitVec 32) (k0_hw3 : k0_chk3 v18_0) (k0_t3 : Fin (k0_t3_loop v18_0).trips), ∀ (k0_h7 : k0_cond7 v18_0 k0_t3 = 1#1), (Rect.unit (s := S8x3072x1408) (k0_off27 v18_0 k0_t3) S1x1536x1408.size (k0_off27_inb v18_0 k0_hw3 k0_t3 k0_h7)).WholeWords (EltTy.packing .fp8e4m3) := fun v18_0 k0_hw3 k0_t3 k0_h7 => k0_hw3.1.2.2.2.2.2.2.2.2.2.2.2.2.2.2.2.2.2.2.2.2.2.2.2.1 k0_t3 k0_h7 (k0_off27_inb v18_0 k0_hw3 k0_t3 k0_h7)
theorem k0_off29_inb : ∀ (v18_0 : BitVec 32) (k0_hw3 : k0_chk3 v18_0) (k0_t3 : Fin (k0_t3_loop v18_0).trips), ∀ (k0_h8 : k0_cond8 v18_0 k0_t3 = 1#1), ∀ a, (k0_off29 v18_0 k0_t3) a + S1x768x1408.size a ≤ S8x3072x1408.size a := fun v18_0 k0_hw3 k0_t3 k0_h8 => k0_hw3.1.2.2.2.2.2.2.2.2.2.2.2.2.2.2.2.2.2.2.2.2.2.2.2.2.1 k0_t3 k0_h8
theorem k0_off29_wordsfp8e4m3 : ∀ (v18_0 : BitVec 32) (k0_hw3 : k0_chk3 v18_0) (k0_t3 : Fin (k0_t3_loop v18_0).trips), ∀ (k0_h8 : k0_cond8 v18_0 k0_t3 = 1#1), (Rect.unit (s := S8x3072x1408) (k0_off29 v18_0 k0_t3) S1x768x1408.size (k0_off29_inb v18_0 k0_hw3 k0_t3 k0_h8)).WholeWords (EltTy.packing .fp8e4m3) := fun v18_0 k0_hw3 k0_t3 k0_h8 => k0_hw3.1.2.2.2.2.2.2.2.2.2.2.2.2.2.2.2.2.2.2.2.2.2.2.2.2.2.1 k0_t3 k0_h8 (k0_off29_inb v18_0 k0_hw3 k0_t3 k0_h8)
theorem k0_off31_inb : ∀ (v18_0 : BitVec 32) (k0_hw3 : k0_chk3 v18_0) (k0_t3 : Fin (k0_t3_loop v18_0).trips), ∀ (k0_h8 : k0_cond8 v18_0 k0_t3 = 1#1), ∀ a, (k0_off31 v18_0 k0_t3) a + S1x512x1408.size a ≤ S8x3072x1408.size a := fun v18_0 k0_hw3 k0_t3 k0_h8 => k0_hw3.1.2.2.2.2.2.2.2.2.2.2.2.2.2.2.2.2.2.2.2.2.2.2.2.2.2.2.1 k0_t3 k0_h8
theorem k0_off31_wordsfp8e4m3 : ∀ (v18_0 : BitVec 32) (k0_hw3 : k0_chk3 v18_0) (k0_t3 : Fin (k0_t3_loop v18_0).trips), ∀ (k0_h8 : k0_cond8 v18_0 k0_t3 = 1#1), (Rect.unit (s := S8x3072x1408) (k0_off31 v18_0 k0_t3) S1x512x1408.size (k0_off31_inb v18_0 k0_hw3 k0_t3 k0_h8)).WholeWords (EltTy.packing .fp8e4m3) := fun v18_0 k0_hw3 k0_t3 k0_h8 => k0_hw3.1.2.2.2.2.2.2.2.2.2.2.2.2.2.2.2.2.2.2.2.2.2.2.2.2.2.2.2.1 k0_t3 k0_h8 (k0_off31_inb v18_0 k0_hw3 k0_t3 k0_h8)
theorem k0_off33_inb : ∀ (v18_0 : BitVec 32) (k0_hw3 : k0_chk3 v18_0) (k0_t3 : Fin (k0_t3_loop v18_0).trips), ∀ (k0_h8 : k0_cond8 v18_0 k0_t3 = 1#1), ∀ a, (k0_off33 v18_0 k0_t3) a + S1x256x1408.size a ≤ S8x3072x1408.size a := fun v18_0 k0_hw3 k0_t3 k0_h8 => k0_hw3.1.2.2.2.2.2.2.2.2.2.2.2.2.2.2.2.2.2.2.2.2.2.2.2.2.2.2.2.2.1 k0_t3 k0_h8
theorem k0_off33_wordsfp8e4m3 : ∀ (v18_0 : BitVec 32) (k0_hw3 : k0_chk3 v18_0) (k0_t3 : Fin (k0_t3_loop v18_0).trips), ∀ (k0_h8 : k0_cond8 v18_0 k0_t3 = 1#1), (Rect.unit (s := S8x3072x1408) (k0_off33 v18_0 k0_t3) S1x256x1408.size (k0_off33_inb v18_0 k0_hw3 k0_t3 k0_h8)).WholeWords (EltTy.packing .fp8e4m3) := fun v18_0 k0_hw3 k0_t3 k0_h8 => k0_hw3.1.2.2.2.2.2.2.2.2.2.2.2.2.2.2.2.2.2.2.2.2.2.2.2.2.2.2.2.2.2.1 k0_t3 k0_h8 (k0_off33_inb v18_0 k0_hw3 k0_t3 k0_h8)
theorem k0_t4_ok : ∀ (v18_0 : BitVec 32) (k0_hw3 : k0_chk3 v18_0), (k0_t4_loop v18_0).OK := fun v18_0 k0_hw3 => k0_hw3.1.2.2.2.2.2.2.2.2.2.2.2.2.2.2.2.2.2.2.2.2.2.2.2.2.2.2.2.2.2.2.1
theorem k0_off35_inb : ∀ (v18_0 : BitVec 32) (k0_hw3 : k0_chk3 v18_0) (k0_t4 : Fin (k0_t4_loop v18_0).trips), ∀ a, (k0_off35 v18_0 k0_t4) a + S1.size a ≤ S16.size a := fun v18_0 k0_hw3 k0_t4 => k0_hw3.1.2.2.2.2.2.2.2.2.2.2.2.2.2.2.2.2.2.2.2.2.2.2.2.2.2.2.2.2.2.2.2 k0_t4
theorem k0_off36_inb : ∀ (v18_0 : BitVec 32) (k0_hw3 : k0_chk3 v18_0) (k0_t4 : Fin (k0_t4_loop v18_0).trips), ∀ a, (k0_off36 v18_0 k0_t4) a + S1.size a ≤ S8.size a := fun v18_0 k0_hw3 k0_t4 => k0_hw3.2.1.1 k0_t4
theorem k0_off37_inb : ∀ (v18_0 : BitVec 32) (k0_hw3 : k0_chk3 v18_0) (k0_t4 : Fin (k0_t4_loop v18_0).trips), ∀ a, (k0_off37 v18_0 k0_t4) a + S1x1536x1408.size a ≤ S8x3072x1408.size a := fun v18_0 k0_hw3 k0_t4 => k0_hw3.2.1.2.1 k0_t4
theorem k0_off37_wordsfp8e4m3 : ∀ (v18_0 : BitVec 32) (k0_hw3 : k0_chk3 v18_0) (k0_t4 : Fin (k0_t4_loop v18_0).trips), (Rect.unit (s := S8x3072x1408) (k0_off37 v18_0 k0_t4) S1x1536x1408.size (k0_off37_inb v18_0 k0_hw3 k0_t4)).WholeWords (EltTy.packing .fp8e4m3) := fun v18_0 k0_hw3 k0_t4 => k0_hw3.2.1.2.2.1 k0_t4 (k0_off37_inb v18_0 k0_hw3 k0_t4)
theorem k0_off43_inb : ∀ (v18_0 : BitVec 32) (k0_hw3 : k0_chk3 v18_0) (k0_t4 : Fin (k0_t4_loop v18_0).trips), ∀ a, (k0_off43 v18_0 k0_t4) a + S1.size a ≤ S16.size a := fun v18_0 k0_hw3 k0_t4 => k0_hw3.2.1.2.2.2.1 k0_t4
theorem k0_off59_inb : ∀ (v18_0 : BitVec 32) (k0_hw3 : k0_chk3 v18_0) (k0_t4 : Fin (k0_t4_loop v18_0).trips), ∀ (k0_h10 : k0_cond10 v18_0 k0_t4 = 1#1), ∀ a, (k0_off59 v18_0 k0_t4) a + S1.size a ≤ S16.size a := fun v18_0 k0_hw3 k0_t4 k0_h10 => k0_hw3.2.1.2.2.2.2.1 k0_t4 k0_h10
theorem k0_off60_inb : ∀ (v18_0 : BitVec 32) (k0_hw3 : k0_chk3 v18_0) (k0_t4 : Fin (k0_t4_loop v18_0).trips), ∀ (k0_h10 : k0_cond10 v18_0 k0_t4 = 1#1), ∀ a, (k0_off60 v18_0 k0_t4) a + S1.size a ≤ S8.size a := fun v18_0 k0_hw3 k0_t4 k0_h10 => k0_hw3.2.1.2.2.2.2.2.1 k0_t4 k0_h10
theorem k0_off61_inb : ∀ (v18_0 : BitVec 32) (k0_hw3 : k0_chk3 v18_0) (k0_t4 : Fin (k0_t4_loop v18_0).trips), ∀ (k0_h10 : k0_cond10 v18_0 k0_t4 = 1#1), ∀ a, (k0_off61 v18_0 k0_t4) a + S1x1536x1408.size a ≤ S8x3072x1408.size a := fun v18_0 k0_hw3 k0_t4 k0_h10 => k0_hw3.2.1.2.2.2.2.2.2.1 k0_t4 k0_h10
theorem k0_off61_wordsfp8e4m3 : ∀ (v18_0 : BitVec 32) (k0_hw3 : k0_chk3 v18_0) (k0_t4 : Fin (k0_t4_loop v18_0).trips), ∀ (k0_h10 : k0_cond10 v18_0 k0_t4 = 1#1), (Rect.unit (s := S8x3072x1408) (k0_off61 v18_0 k0_t4) S1x1536x1408.size (k0_off61_inb v18_0 k0_hw3 k0_t4 k0_h10)).WholeWords (EltTy.packing .fp8e4m3) := fun v18_0 k0_hw3 k0_t4 k0_h10 => k0_hw3.2.1.2.2.2.2.2.2.2.1 k0_t4 k0_h10 (k0_off61_inb v18_0 k0_hw3 k0_t4 k0_h10)
theorem k0_off63_inb : ∀ (v18_0 : BitVec 32) (k0_hw3 : k0_chk3 v18_0) (k0_t4 : Fin (k0_t4_loop v18_0).trips), ∀ (k0_h10 : k0_cond10 v18_0 k0_t4 = 1#1), ∀ a, (k0_off63 v18_0 k0_t4) a + S1.size a ≤ S16.size a := fun v18_0 k0_hw3 k0_t4 k0_h10 => k0_hw3.2.1.2.2.2.2.2.2.2.2.1 k0_t4 k0_h10
theorem k0_off64_inb : ∀ (v18_0 : BitVec 32) (k0_hw3 : k0_chk3 v18_0) (k0_t4 : Fin (k0_t4_loop v18_0).trips), ∀ (k0_h10 : k0_cond10 v18_0 k0_t4 = 1#1), ∀ (k0_h11 : k0_cond11 v18_0 k0_t4 = 1#1), ∀ a, (k0_off64 v18_0 k0_t4) a + S1.size a ≤ S8.size a := fun v18_0 k0_hw3 k0_t4 k0_h10 k0_h11 => k0_hw3.2.1.2.2.2.2.2.2.2.2.2.1 k0_t4 k0_h10 k0_h11
theorem k0_off65_inb : ∀ (v18_0 : BitVec 32) (k0_hw3 : k0_chk3 v18_0) (k0_t4 : Fin (k0_t4_loop v18_0).trips), ∀ (k0_h10 : k0_cond10 v18_0 k0_t4 = 1#1), ∀ (k0_h11 : k0_cond11 v18_0 k0_t4 = 1#1), ∀ a, (k0_off65 v18_0 k0_t4) a + S1x1536x1408.size a ≤ S8x3072x1408.size a := fun v18_0 k0_hw3 k0_t4 k0_h10 k0_h11 => k0_hw3.2.1.2.2.2.2.2.2.2.2.2.2.1 k0_t4 k0_h10 k0_h11
theorem k0_off65_wordsfp8e4m3 : ∀ (v18_0 : BitVec 32) (k0_hw3 : k0_chk3 v18_0) (k0_t4 : Fin (k0_t4_loop v18_0).trips), ∀ (k0_h10 : k0_cond10 v18_0 k0_t4 = 1#1), ∀ (k0_h11 : k0_cond11 v18_0 k0_t4 = 1#1), (Rect.unit (s := S8x3072x1408) (k0_off65 v18_0 k0_t4) S1x1536x1408.size (k0_off65_inb v18_0 k0_hw3 k0_t4 k0_h10 k0_h11)).WholeWords (EltTy.packing .fp8e4m3) := fun v18_0 k0_hw3 k0_t4 k0_h10 k0_h11 => k0_hw3.2.1.2.2.2.2.2.2.2.2.2.2.2.1 k0_t4 k0_h10 k0_h11 (k0_off65_inb v18_0 k0_hw3 k0_t4 k0_h10 k0_h11)
theorem k0_off67_inb : ∀ (v18_0 : BitVec 32) (k0_hw3 : k0_chk3 v18_0) (k0_t4 : Fin (k0_t4_loop v18_0).trips), ∀ (k0_h10 : k0_cond10 v18_0 k0_t4 = 1#1), ∀ (k0_h12 : k0_cond12 v18_0 k0_t4 = 1#1), ∀ a, (k0_off67 v18_0 k0_t4) a + S1x768x1408.size a ≤ S8x3072x1408.size a := fun v18_0 k0_hw3 k0_t4 k0_h10 k0_h12 => k0_hw3.2.1.2.2.2.2.2.2.2.2.2.2.2.2.1 k0_t4 k0_h10 k0_h12
theorem k0_off67_wordsfp8e4m3 : ∀ (v18_0 : BitVec 32) (k0_hw3 : k0_chk3 v18_0) (k0_t4 : Fin (k0_t4_loop v18_0).trips), ∀ (k0_h10 : k0_cond10 v18_0 k0_t4 = 1#1), ∀ (k0_h12 : k0_cond12 v18_0 k0_t4 = 1#1), (Rect.unit (s := S8x3072x1408) (k0_off67 v18_0 k0_t4) S1x768x1408.size (k0_off67_inb v18_0 k0_hw3 k0_t4 k0_h10 k0_h12)).WholeWords (EltTy.packing .fp8e4m3) := fun v18_0 k0_hw3 k0_t4 k0_h10 k0_h12 => k0_hw3.2.1.2.2.2.2.2.2.2.2.2.2.2.2.2.1 k0_t4 k0_h10 k0_h12 (k0_off67_inb v18_0 k0_hw3 k0_t4 k0_h10 k0_h12)
theorem k0_off69_inb : ∀ (v18_0 : BitVec 32) (k0_hw3 : k0_chk3 v18_0) (k0_t4 : Fin (k0_t4_loop v18_0).trips), ∀ (k0_h10 : k0_cond10 v18_0 k0_t4 = 1#1), ∀ (k0_h12 : k0_cond12 v18_0 k0_t4 = 1#1), ∀ a, (k0_off69 v18_0 k0_t4) a + S1x512x1408.size a ≤ S8x3072x1408.size a := fun v18_0 k0_hw3 k0_t4 k0_h10 k0_h12 => k0_hw3.2.1.2.2.2.2.2.2.2.2.2.2.2.2.2.2.1 k0_t4 k0_h10 k0_h12
theorem k0_off69_wordsfp8e4m3 : ∀ (v18_0 : BitVec 32) (k0_hw3 : k0_chk3 v18_0) (k0_t4 : Fin (k0_t4_loop v18_0).trips), ∀ (k0_h10 : k0_cond10 v18_0 k0_t4 = 1#1), ∀ (k0_h12 : k0_cond12 v18_0 k0_t4 = 1#1), (Rect.unit (s := S8x3072x1408) (k0_off69 v18_0 k0_t4) S1x512x1408.size (k0_off69_inb v18_0 k0_hw3 k0_t4 k0_h10 k0_h12)).WholeWords (EltTy.packing .fp8e4m3) := fun v18_0 k0_hw3 k0_t4 k0_h10 k0_h12 => k0_hw3.2.1.2.2.2.2.2.2.2.2.2.2.2.2.2.2.2.1 k0_t4 k0_h10 k0_h12 (k0_off69_inb v18_0 k0_hw3 k0_t4 k0_h10 k0_h12)
theorem k0_off71_inb : ∀ (v18_0 : BitVec 32) (k0_hw3 : k0_chk3 v18_0) (k0_t4 : Fin (k0_t4_loop v18_0).trips), ∀ (k0_h10 : k0_cond10 v18_0 k0_t4 = 1#1), ∀ (k0_h12 : k0_cond12 v18_0 k0_t4 = 1#1), ∀ a, (k0_off71 v18_0 k0_t4) a + S1x256x1408.size a ≤ S8x3072x1408.size a := fun v18_0 k0_hw3 k0_t4 k0_h10 k0_h12 => k0_hw3.2.1.2.2.2.2.2.2.2.2.2.2.2.2.2.2.2.2.1 k0_t4 k0_h10 k0_h12
theorem k0_off71_wordsfp8e4m3 : ∀ (v18_0 : BitVec 32) (k0_hw3 : k0_chk3 v18_0) (k0_t4 : Fin (k0_t4_loop v18_0).trips), ∀ (k0_h10 : k0_cond10 v18_0 k0_t4 = 1#1), ∀ (k0_h12 : k0_cond12 v18_0 k0_t4 = 1#1), (Rect.unit (s := S8x3072x1408) (k0_off71 v18_0 k0_t4) S1x256x1408.size (k0_off71_inb v18_0 k0_hw3 k0_t4 k0_h10 k0_h12)).WholeWords (EltTy.packing .fp8e4m3) := fun v18_0 k0_hw3 k0_t4 k0_h10 k0_h12 => k0_hw3.2.1.2.2.2.2.2.2.2.2.2.2.2.2.2.2.2.2.2.1 k0_t4 k0_h10 k0_h12 (k0_off71_inb v18_0 k0_hw3 k0_t4 k0_h10 k0_h12)
theorem k0_off73_inb : ∀ (v18_0 : BitVec 32) (k0_hw3 : k0_chk3 v18_0) (k0_t4 : Fin (k0_t4_loop v18_0).trips), ∀ a, (k0_off73 v18_0 k0_t4) a + S1.size a ≤ S16.size a := fun v18_0 k0_hw3 k0_t4 => k0_hw3.2.1.2.2.2.2.2.2.2.2.2.2.2.2.2.2.2.2.2.2.1 k0_t4
theorem k0_t9_ok : ∀ (v18_0 : BitVec 32) (k0_hw3 : k0_chk3 v18_0), (k0_t9_loop v18_0).OK := fun v18_0 k0_hw3 => k0_hw3.2.1.2.2.2.2.2.2.2.2.2.2.2.2.2.2.2.2.2.2.2.1
theorem k0_off79_inb : ∀ (v18_0 : BitVec 32) (k0_hw3 : k0_chk3 v18_0) (k0_t9 : Fin (k0_t9_loop v18_0).trips), ∀ a, (k0_off79 v18_0 k0_t9) a + S1.size a ≤ S16.size a := fun v18_0 k0_hw3 k0_t9 => k0_hw3.2.1.2.2.2.2.2.2.2.2.2.2.2.2.2.2.2.2.2.2.2.2.1 k0_t9
theorem k0_off80_inb : ∀ (v18_0 : BitVec 32) (k0_hw3 : k0_chk3 v18_0) (k0_t9 : Fin (k0_t9_loop v18_0).trips), ∀ a, (k0_off80 v18_0 k0_t9) a + S1.size a ≤ S8.size a := fun v18_0 k0_hw3 k0_t9 => k0_hw3.2.1.2.2.2.2.2.2.2.2.2.2.2.2.2.2.2.2.2.2.2.2.2.1 k0_t9
theorem k0_off81_inb : ∀ (v18_0 : BitVec 32) (k0_hw3 : k0_chk3 v18_0) (k0_t9 : Fin (k0_t9_loop v18_0).trips), ∀ a, (k0_off81 v18_0 k0_t9) a + S1x1536x1408.size a ≤ S8x3072x1408.size a := fun v18_0 k0_hw3 k0_t9 => k0_hw3.2.1.2.2.2.2.2.2.2.2.2.2.2.2.2.2.2.2.2.2.2.2.2.2.1 k0_t9
theorem k0_off81_wordsfp8e4m3 : ∀ (v18_0 : BitVec 32) (k0_hw3 : k0_chk3 v18_0) (k0_t9 : Fin (k0_t9_loop v18_0).trips), (Rect.unit (s := S8x3072x1408) (k0_off81 v18_0 k0_t9) S1x1536x1408.size (k0_off81_inb v18_0 k0_hw3 k0_t9)).WholeWords (EltTy.packing .fp8e4m3) := fun v18_0 k0_hw3 k0_t9 => k0_hw3.2.1.2.2.2.2.2.2.2.2.2.2.2.2.2.2.2.2.2.2.2.2.2.2.2.1 k0_t9 (k0_off81_inb v18_0 k0_hw3 k0_t9)
theorem k0_off87_inb : ∀ (v18_0 : BitVec 32) (k0_hw3 : k0_chk3 v18_0) (k0_t9 : Fin (k0_t9_loop v18_0).trips), ∀ a, (k0_off87 v18_0 k0_t9) a + S1.size a ≤ S16.size a := fun v18_0 k0_hw3 k0_t9 => k0_hw3.2.1.2.2.2.2.2.2.2.2.2.2.2.2.2.2.2.2.2.2.2.2.2.2.2.2.1 k0_t9
theorem k0_off103_inb : ∀ (v18_0 : BitVec 32) (k0_hw3 : k0_chk3 v18_0) (k0_t9 : Fin (k0_t9_loop v18_0).trips), ∀ (k0_h14 : k0_cond14 v18_0 k0_t9 = 1#1), ∀ a, (k0_off103 v18_0 k0_t9) a + S1.size a ≤ S16.size a := fun v18_0 k0_hw3 k0_t9 k0_h14 => k0_hw3.2.1.2.2.2.2.2.2.2.2.2.2.2.2.2.2.2.2.2.2.2.2.2.2.2.2.2.1 k0_t9 k0_h14
theorem k0_off104_inb : ∀ (v18_0 : BitVec 32) (k0_hw3 : k0_chk3 v18_0) (k0_t9 : Fin (k0_t9_loop v18_0).trips), ∀ (k0_h14 : k0_cond14 v18_0 k0_t9 = 1#1), ∀ a, (k0_off104 v18_0 k0_t9) a + S1.size a ≤ S8.size a := fun v18_0 k0_hw3 k0_t9 k0_h14 => k0_hw3.2.1.2.2.2.2.2.2.2.2.2.2.2.2.2.2.2.2.2.2.2.2.2.2.2.2.2.2.1 k0_t9 k0_h14
theorem k0_off105_inb : ∀ (v18_0 : BitVec 32) (k0_hw3 : k0_chk3 v18_0) (k0_t9 : Fin (k0_t9_loop v18_0).trips), ∀ (k0_h14 : k0_cond14 v18_0 k0_t9 = 1#1), ∀ a, (k0_off105 v18_0 k0_t9) a + S1x1536x1408.size a ≤ S8x3072x1408.size a := fun v18_0 k0_hw3 k0_t9 k0_h14 => k0_hw3.2.1.2.2.2.2.2.2.2.2.2.2.2.2.2.2.2.2.2.2.2.2.2.2.2.2.2.2.2.1 k0_t9 k0_h14
theorem k0_off105_wordsfp8e4m3 : ∀ (v18_0 : BitVec 32) (k0_hw3 : k0_chk3 v18_0) (k0_t9 : Fin (k0_t9_loop v18_0).trips), ∀ (k0_h14 : k0_cond14 v18_0 k0_t9 = 1#1), (Rect.unit (s := S8x3072x1408) (k0_off105 v18_0 k0_t9) S1x1536x1408.size (k0_off105_inb v18_0 k0_hw3 k0_t9 k0_h14)).WholeWords (EltTy.packing .fp8e4m3) := fun v18_0 k0_hw3 k0_t9 k0_h14 => k0_hw3.2.1.2.2.2.2.2.2.2.2.2.2.2.2.2.2.2.2.2.2.2.2.2.2.2.2.2.2.2.2.1 k0_t9 k0_h14 (k0_off105_inb v18_0 k0_hw3 k0_t9 k0_h14)
theorem k0_off107_inb : ∀ (v18_0 : BitVec 32) (k0_hw3 : k0_chk3 v18_0) (k0_t9 : Fin (k0_t9_loop v18_0).trips), ∀ (k0_h14 : k0_cond14 v18_0 k0_t9 = 1#1), ∀ a, (k0_off107 v18_0 k0_t9) a + S1.size a ≤ S16.size a := fun v18_0 k0_hw3 k0_t9 k0_h14 => k0_hw3.2.1.2.2.2.2.2.2.2.2.2.2.2.2.2.2.2.2.2.2.2.2.2.2.2.2.2.2.2.2.2.1 k0_t9 k0_h14
theorem k0_off108_inb : ∀ (v18_0 : BitVec 32) (k0_hw3 : k0_chk3 v18_0) (k0_t9 : Fin (k0_t9_loop v18_0).trips), ∀ (k0_h14 : k0_cond14 v18_0 k0_t9 = 1#1), ∀ (k0_h15 : k0_cond15 v18_0 k0_t9 = 1#1), ∀ a, (k0_off108 v18_0 k0_t9) a + S1.size a ≤ S8.size a := fun v18_0 k0_hw3 k0_t9 k0_h14 k0_h15 => k0_hw3.2.1.2.2.2.2.2.2.2.2.2.2.2.2.2.2.2.2.2.2.2.2.2.2.2.2.2.2.2.2.2.2.1 k0_t9 k0_h14 k0_h15
theorem k0_off109_inb : ∀ (v18_0 : BitVec 32) (k0_hw3 : k0_chk3 v18_0) (k0_t9 : Fin (k0_t9_loop v18_0).trips), ∀ (k0_h14 : k0_cond14 v18_0 k0_t9 = 1#1), ∀ (k0_h15 : k0_cond15 v18_0 k0_t9 = 1#1), ∀ a, (k0_off109 v18_0 k0_t9) a + S1x1536x1408.size a ≤ S8x3072x1408.size a := fun v18_0 k0_hw3 k0_t9 k0_h14 k0_h15 => k0_hw3.2.1.2.2.2.2.2.2.2.2.2.2.2.2.2.2.2.2.2.2.2.2.2.2.2.2.2.2.2.2.2.2.2 k0_t9 k0_h14 k0_h15
theorem k0_off109_wordsfp8e4m3 : ∀ (v18_0 : BitVec 32) (k0_hw3 : k0_chk3 v18_0) (k0_t9 : Fin (k0_t9_loop v18_0).trips), ∀ (k0_h14 : k0_cond14 v18_0 k0_t9 = 1#1), ∀ (k0_h15 : k0_cond15 v18_0 k0_t9 = 1#1), (Rect.unit (s := S8x3072x1408) (k0_off109 v18_0 k0_t9) S1x1536x1408.size (k0_off109_inb v18_0 k0_hw3 k0_t9 k0_h14 k0_h15)).WholeWords (EltTy.packing .fp8e4m3) := fun v18_0 k0_hw3 k0_t9 k0_h14 k0_h15 => k0_hw3.2.2.1 k0_t9 k0_h14 k0_h15 (k0_off109_inb v18_0 k0_hw3 k0_t9 k0_h14 k0_h15)
theorem k0_off111_inb : ∀ (v18_0 : BitVec 32) (k0_hw3 : k0_chk3 v18_0) (k0_t9 : Fin (k0_t9_loop v18_0).trips), ∀ (k0_h14 : k0_cond14 v18_0 k0_t9 = 1#1), ∀ (k0_h16 : k0_cond16 v18_0 k0_t9 = 1#1), ∀ a, (k0_off111 v18_0 k0_t9) a + S1x768x1408.size a ≤ S8x3072x1408.size a := fun v18_0 k0_hw3 k0_t9 k0_h14 k0_h16 => k0_hw3.2.2.2.1 k0_t9 k0_h14 k0_h16
theorem k0_off111_wordsfp8e4m3 : ∀ (v18_0 : BitVec 32) (k0_hw3 : k0_chk3 v18_0) (k0_t9 : Fin (k0_t9_loop v18_0).trips), ∀ (k0_h14 : k0_cond14 v18_0 k0_t9 = 1#1), ∀ (k0_h16 : k0_cond16 v18_0 k0_t9 = 1#1), (Rect.unit (s := S8x3072x1408) (k0_off111 v18_0 k0_t9) S1x768x1408.size (k0_off111_inb v18_0 k0_hw3 k0_t9 k0_h14 k0_h16)).WholeWords (EltTy.packing .fp8e4m3) := fun v18_0 k0_hw3 k0_t9 k0_h14 k0_h16 => k0_hw3.2.2.2.2.1 k0_t9 k0_h14 k0_h16 (k0_off111_inb v18_0 k0_hw3 k0_t9 k0_h14 k0_h16)
theorem k0_off113_inb : ∀ (v18_0 : BitVec 32) (k0_hw3 : k0_chk3 v18_0) (k0_t9 : Fin (k0_t9_loop v18_0).trips), ∀ (k0_h14 : k0_cond14 v18_0 k0_t9 = 1#1), ∀ (k0_h16 : k0_cond16 v18_0 k0_t9 = 1#1), ∀ a, (k0_off113 v18_0 k0_t9) a + S1x512x1408.size a ≤ S8x3072x1408.size a := fun v18_0 k0_hw3 k0_t9 k0_h14 k0_h16 => k0_hw3.2.2.2.2.2.1 k0_t9 k0_h14 k0_h16
theorem k0_off113_wordsfp8e4m3 : ∀ (v18_0 : BitVec 32) (k0_hw3 : k0_chk3 v18_0) (k0_t9 : Fin (k0_t9_loop v18_0).trips), ∀ (k0_h14 : k0_cond14 v18_0 k0_t9 = 1#1), ∀ (k0_h16 : k0_cond16 v18_0 k0_t9 = 1#1), (Rect.unit (s := S8x3072x1408) (k0_off113 v18_0 k0_t9) S1x512x1408.size (k0_off113_inb v18_0 k0_hw3 k0_t9 k0_h14 k0_h16)).WholeWords (EltTy.packing .fp8e4m3) := fun v18_0 k0_hw3 k0_t9 k0_h14 k0_h16 => k0_hw3.2.2.2.2.2.2.1 k0_t9 k0_h14 k0_h16 (k0_off113_inb v18_0 k0_hw3 k0_t9 k0_h14 k0_h16)
theorem k0_off115_inb : ∀ (v18_0 : BitVec 32) (k0_hw3 : k0_chk3 v18_0) (k0_t9 : Fin (k0_t9_loop v18_0).trips), ∀ (k0_h14 : k0_cond14 v18_0 k0_t9 = 1#1), ∀ (k0_h16 : k0_cond16 v18_0 k0_t9 = 1#1), ∀ a, (k0_off115 v18_0 k0_t9) a + S1x256x1408.size a ≤ S8x3072x1408.size a := fun v18_0 k0_hw3 k0_t9 k0_h14 k0_h16 => k0_hw3.2.2.2.2.2.2.2.1 k0_t9 k0_h14 k0_h16
theorem k0_off115_wordsfp8e4m3 : ∀ (v18_0 : BitVec 32) (k0_hw3 : k0_chk3 v18_0) (k0_t9 : Fin (k0_t9_loop v18_0).trips), ∀ (k0_h14 : k0_cond14 v18_0 k0_t9 = 1#1), ∀ (k0_h16 : k0_cond16 v18_0 k0_t9 = 1#1), (Rect.unit (s := S8x3072x1408) (k0_off115 v18_0 k0_t9) S1x256x1408.size (k0_off115_inb v18_0 k0_hw3 k0_t9 k0_h14 k0_h16)).WholeWords (EltTy.packing .fp8e4m3) := fun v18_0 k0_hw3 k0_t9 k0_h14 k0_h16 => k0_hw3.2.2.2.2.2.2.2.2.1 k0_t9 k0_h14 k0_h16 (k0_off115_inb v18_0 k0_hw3 k0_t9 k0_h14 k0_h16)
theorem k0_off117_inb : ∀ (v18_0 : BitVec 32) (k0_hw3 : k0_chk3 v18_0) (k0_t9 : Fin (k0_t9_loop v18_0).trips), ∀ a, (k0_off117 v18_0 k0_t9) a + S1.size a ≤ S16.size a := fun v18_0 k0_hw3 k0_t9 => k0_hw3.2.2.2.2.2.2.2.2.2.1 k0_t9
theorem k0_off123_inb : ∀ (v18_0 : BitVec 32) (k0_hw3 : k0_chk3 v18_0), ∀ a, (k0_off123 v18_0) a + S1.size a ≤ S16.size a := fun v18_0 k0_hw3 => k0_hw3.2.2.2.2.2.2.2.2.2.2.1
theorem k0_off124_inb : ∀ (v18_0 : BitVec 32) (k0_hw3 : k0_chk3 v18_0), ∀ a, (k0_off124 v18_0) a + S1.size a ≤ S8.size a := fun v18_0 k0_hw3 => k0_hw3.2.2.2.2.2.2.2.2.2.2.2.1
theorem k0_off125_inb : ∀ (v18_0 : BitVec 32) (k0_hw3 : k0_chk3 v18_0), ∀ a, (k0_off125 v18_0) a + S1x1536x1408.size a ≤ S8x3072x1408.size a := fun v18_0 k0_hw3 => k0_hw3.2.2.2.2.2.2.2.2.2.2.2.2.1
theorem k0_off125_wordsfp8e4m3 : ∀ (v18_0 : BitVec 32) (k0_hw3 : k0_chk3 v18_0), (Rect.unit (s := S8x3072x1408) (k0_off125 v18_0) S1x1536x1408.size (k0_off125_inb v18_0 k0_hw3)).WholeWords (EltTy.packing .fp8e4m3) := fun v18_0 k0_hw3 => k0_hw3.2.2.2.2.2.2.2.2.2.2.2.2.2.1 (k0_off125_inb v18_0 k0_hw3)
theorem k0_off127_inb : ∀ (v18_0 : BitVec 32) (k0_hw3 : k0_chk3 v18_0), ∀ a, (k0_off127 v18_0) a + S1.size a ≤ S16.size a := fun v18_0 k0_hw3 => k0_hw3.2.2.2.2.2.2.2.2.2.2.2.2.2.2.1
theorem k0_off135_inb : ∀ (v18_0 : BitVec 32) (k0_hw3 : k0_chk3 v18_0), ∀ a, (k0_off135 v18_0) a + S1x768x1408.size a ≤ S8x3072x1408.size a := fun v18_0 k0_hw3 => k0_hw3.2.2.2.2.2.2.2.2.2.2.2.2.2.2.2.1
theorem k0_off135_wordsfp8e4m3 : ∀ (v18_0 : BitVec 32) (k0_hw3 : k0_chk3 v18_0), (Rect.unit (s := S8x3072x1408) (k0_off135 v18_0) S1x768x1408.size (k0_off135_inb v18_0 k0_hw3)).WholeWords (EltTy.packing .fp8e4m3) := fun v18_0 k0_hw3 => k0_hw3.2.2.2.2.2.2.2.2.2.2.2.2.2.2.2.2.1 (k0_off135_inb v18_0 k0_hw3)
theorem k0_off137_inb : ∀ (v18_0 : BitVec 32) (k0_hw3 : k0_chk3 v18_0), ∀ a, (k0_off137 v18_0) a + S1.size a ≤ S16.size a := fun v18_0 k0_hw3 => k0_hw3.2.2.2.2.2.2.2.2.2.2.2.2.2.2.2.2.2.1
theorem k0_off145_inb : ∀ (v18_0 : BitVec 32) (k0_hw3 : k0_chk3 v18_0), ∀ a, (k0_off145 v18_0) a + S1x512x1408.size a ≤ S8x3072x1408.size a := fun v18_0 k0_hw3 => k0_hw3.2.2.2.2.2.2.2.2.2.2.2.2.2.2.2.2.2.2.1
theorem k0_off145_wordsfp8e4m3 : ∀ (v18_0 : BitVec 32) (k0_hw3 : k0_chk3 v18_0), (Rect.unit (s := S8x3072x1408) (k0_off145 v18_0) S1x512x1408.size (k0_off145_inb v18_0 k0_hw3)).WholeWords (EltTy.packing .fp8e4m3) := fun v18_0 k0_hw3 => k0_hw3.2.2.2.2.2.2.2.2.2.2.2.2.2.2.2.2.2.2.2.1 (k0_off145_inb v18_0 k0_hw3)
theorem k0_off147_inb : ∀ (v18_0 : BitVec 32) (k0_hw3 : k0_chk3 v18_0), ∀ a, (k0_off147 v18_0) a + S1.size a ≤ S16.size a := fun v18_0 k0_hw3 => k0_hw3.2.2.2.2.2.2.2.2.2.2.2.2.2.2.2.2.2.2.2.2.1
theorem k0_off155_inb : ∀ (v18_0 : BitVec 32) (k0_hw3 : k0_chk3 v18_0), ∀ a, (k0_off155 v18_0) a + S1x256x1408.size a ≤ S8x3072x1408.size a := fun v18_0 k0_hw3 => k0_hw3.2.2.2.2.2.2.2.2.2.2.2.2.2.2.2.2.2.2.2.2.2.1
theorem k0_off155_wordsfp8e4m3 : ∀ (v18_0 : BitVec 32) (k0_hw3 : k0_chk3 v18_0), (Rect.unit (s := S8x3072x1408) (k0_off155 v18_0) S1x256x1408.size (k0_off155_inb v18_0 k0_hw3)).WholeWords (EltTy.packing .fp8e4m3) := fun v18_0 k0_hw3 => k0_hw3.2.2.2.2.2.2.2.2.2.2.2.2.2.2.2.2.2.2.2.2.2.2.1 (k0_off155_inb v18_0 k0_hw3)
theorem k0_off157_inb : ∀ (v18_0 : BitVec 32) (k0_hw3 : k0_chk3 v18_0), ∀ a, (k0_off157 v18_0) a + S1.size a ≤ S16.size a := fun v18_0 k0_hw3 => k0_hw3.2.2.2.2.2.2.2.2.2.2.2.2.2.2.2.2.2.2.2.2.2.2.2

def k0_off158 (v718 : BitVec 32) : Fin 1 → Nat :=
  let v719 : Index := Scalar.indexCast v718
  ![v719.toNat]

def k0_chk33 (v718 : BitVec 32) : Prop :=
  (∀ a, (k0_off158 v718) a + S1.size a ≤ S16.size a)
theorem k0_off158_inb : ∀ (v718 : BitVec 32) (k0_hw33 : k0_chk33 v718), ∀ a, (k0_off158 v718) a + S1.size a ≤ S16.size a := fun v718 k0_hw33 => k0_hw33

@[reducible] def k0_t20_loop (v716 : BitVec 32) (v720 : BitVec 32) : Scf.Loop 32 :=
  let c0_i32_284 : BitVec 32 := 0#32
  let v721 : BitVec 32 := Scalar.addi v716 v720
  let c_m32_i32_280 : BitVec 32 := 4294967264#32
  let v722 : BitVec 32 := Scalar.andi v716 c_m32_i32_280
  let v723 : BitVec 32 := Scalar.subi v721 v722
  let c63_i32_281 : BitVec 32 := 63#32
  let v724 : BitVec 32 := Scalar.addi v723 c63_i32_281
  let c64_i32_282 : BitVec 32 := 64#32
  let v725 : BitVec 32 := Scalar.divsi v724 c64_i32_282
  let v726 : BitVec 32 := Scalar.subi v725 c0_i32_284
  let c1_i32_285 : BitVec 32 := 1#32
  let v728 : BitVec 32 := Scalar.divsi v726 c1_i32_285
  let v729 : BitVec 32 := Scalar.muli v728 c1_i32_285
  let v730 : BitVec 32 := Scalar.addi c0_i32_284 v729
  let c1_i32_286 : BitVec 32 := 1#32
  ⟨c0_i32_284, v730, c1_i32_286⟩

def k0_mult15 (v716 : BitVec 32) (v720 : BitVec 32) (k0_t20 : Fin (k0_t20_loop v716 v720).trips) : BitVec 32 :=
  let c_m32_i32_280 : BitVec 32 := 4294967264#32
  let v722 : BitVec 32 := Scalar.andi v716 c_m32_i32_280
  let c0_i32_284 : BitVec 32 := 0#32
  let c1_i32_286 : BitVec 32 := 1#32
  let arg20 : BitVec 32 := Scf.iv c0_i32_284 c1_i32_286 k0_t20
  let c64_i32_308 : BitVec 32 := 64#32
  let v754 : BitVec 32 := Scalar.muli arg20 c64_i32_308
  let v755 : BitVec 32 := Scalar.addi v722 v754
  v755
def k0_off159 (v716 : BitVec 32) (v720 : BitVec 32) (k0_t20 : Fin (k0_t20_loop v716 v720).trips) : Fin 2 → Nat :=
  let c_m32_i32_280 : BitVec 32 := 4294967264#32
  let v722 : BitVec 32 := Scalar.andi v716 c_m32_i32_280
  let c0_i32_284 : BitVec 32 := 0#32
  let c1_i32_286 : BitVec 32 := 1#32
  let arg20 : BitVec 32 := Scf.iv c0_i32_284 c1_i32_286 k0_t20
  let c64_i32_308 : BitVec 32 := 64#32
  let v754 : BitVec 32 := Scalar.muli arg20 c64_i32_308
  let v755 : BitVec 32 := Scalar.addi v722 v754
  let v756 : BitVec 32 := v755
  let v757 : Index := Scalar.indexCast v756
  let c0_309 : Index := 0#32
  ![v757.toNat, 0]
def k0_off160 (v716 : BitVec 32) (v720 : BitVec 32) (k0_t20 : Fin (k0_t20_loop v716 v720).trips) : Fin 2 → Nat :=
  let c_m32_i32_280 : BitVec 32 := 4294967264#32
  let v722 : BitVec 32 := Scalar.andi v716 c_m32_i32_280
  let c0_i32_284 : BitVec 32 := 0#32
  let c1_i32_286 : BitVec 32 := 1#32
  let arg20 : BitVec 32 := Scf.iv c0_i32_284 c1_i32_286 k0_t20
  let c64_i32_308 : BitVec 32 := 64#32
  let v754 : BitVec 32 := Scalar.muli arg20 c64_i32_308
  let v755 : BitVec 32 := Scalar.addi v722 v754
  let v756 : BitVec 32 := v755
  let v759 : Index := Scalar.indexCast v756
  let c2816 : Index := 2816#32
  ![v759.toNat, 2816]
def k0_off161 (v18_0 : BitVec 32) : Fin 3 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  let v761 : Index := Scalar.indexCast v642
  let c2816_310 : Index := 2816#32
  let c0_311 : Index := 0#32
  ![v761.toNat, 2816, 0]
def k0_off162 (v18_0 : BitVec 32) : Fin 1 → Nat :=
  let c1_i32_16 : BitVec 32 := 1#32
  let v19 : BitVec 32 := Scalar.subi v18_0 c1_i32_16
  let v766 : Index := Scalar.indexCast v19
  ![v766.toNat]
def k0_off163 (v716 : BitVec 32) (v720 : BitVec 32) (k0_t20 : Fin (k0_t20_loop v716 v720).trips) : Fin 2 → Nat :=
  let c_m32_i32_280 : BitVec 32 := 4294967264#32
  let v722 : BitVec 32 := Scalar.andi v716 c_m32_i32_280
  let c0_i32_284 : BitVec 32 := 0#32
  let c1_i32_286 : BitVec 32 := 1#32
  let arg20 : BitVec 32 := Scf.iv c0_i32_284 c1_i32_286 k0_t20
  let c64_i32_308 : BitVec 32 := 64#32
  let v754 : BitVec 32 := Scalar.muli arg20 c64_i32_308
  let v755 : BitVec 32 := Scalar.addi v722 v754
  let v756 : BitVec 32 := v755
  let v770 : Index := Scalar.indexCast v756
  let c0_313 : Index := 0#32
  ![v770.toNat, 0]
def k0_off164 (v767 : BitVec 32) : Fin 3 → Nat :=
  let v774 : Index := Scalar.indexCast v767
  let c0_314 : Index := 0#32
  let c0_315 : Index := 0#32
  ![v774.toNat, 0, 0]

def k0_off165 (v767 : BitVec 32) : Fin 1 → Nat :=
  let v784 : Index := Scalar.indexCast v767
  ![v784.toNat]

def k0_chk35 (v767 : BitVec 32) : Prop :=
  (∀ a, (k0_off164 v767) a + S1x1x1408.size a ≤ S16x1x1408.size a) ∧
  (∀ a, (k0_off165 v767) a + S1.size a ≤ S16.size a)
theorem k0_off164_inb : ∀ (v767 : BitVec 32) (k0_hw35 : k0_chk35 v767), ∀ a, (k0_off164 v767) a + S1x1x1408.size a ≤ S16x1x1408.size a := fun v767 k0_hw35 => k0_hw35.1
theorem k0_off165_inb : ∀ (v767 : BitVec 32) (k0_hw35 : k0_chk35 v767), ∀ a, (k0_off165 v767) a + S1.size a ≤ S16.size a := fun v767 k0_hw35 => k0_hw35.2

def k0_off166 (v716 : BitVec 32) (v720 : BitVec 32) (k0_t20 : Fin (k0_t20_loop v716 v720).trips) : Fin 2 → Nat :=
  let c_m32_i32_280 : BitVec 32 := 4294967264#32
  let v722 : BitVec 32 := Scalar.andi v716 c_m32_i32_280
  let c0_i32_284 : BitVec 32 := 0#32
  let c1_i32_286 : BitVec 32 := 1#32
  let arg20 : BitVec 32 := Scf.iv c0_i32_284 c1_i32_286 k0_t20
  let c64_i32_308 : BitVec 32 := 64#32
  let v754 : BitVec 32 := Scalar.muli arg20 c64_i32_308
  let v755 : BitVec 32 := Scalar.addi v722 v754
  let v756 : BitVec 32 := v755
  let v790 : Index := Scalar.indexCast v756
  let c0_316 : Index := 0#32
  ![v790.toNat, 0]
@[reducible] def k0_t21_loop (v716 : BitVec 32) (v720 : BitVec 32) : Scf.Loop 32 :=
  let c0_i32_284 : BitVec 32 := 0#32
  let v721 : BitVec 32 := Scalar.addi v716 v720
  let c_m32_i32_280 : BitVec 32 := 4294967264#32
  let v722 : BitVec 32 := Scalar.andi v716 c_m32_i32_280
  let v723 : BitVec 32 := Scalar.subi v721 v722
  let c63_i32_281 : BitVec 32 := 63#32
  let v724 : BitVec 32 := Scalar.addi v723 c63_i32_281
  let c64_i32_282 : BitVec 32 := 64#32
  let v725 : BitVec 32 := Scalar.divsi v724 c64_i32_282
  let v726 : BitVec 32 := Scalar.subi v725 c0_i32_284
  let c1_i32_285 : BitVec 32 := 1#32
  let v728 : BitVec 32 := Scalar.divsi v726 c1_i32_285
  let v729 : BitVec 32 := Scalar.muli v728 c1_i32_285
  let v730 : BitVec 32 := Scalar.addi c0_i32_284 v729
  let v727 : BitVec 32 := Scalar.addi c0_i32_284 v726
  let c1_i32_287 : BitVec 32 := 1#32
  ⟨v730, v727, c1_i32_287⟩
def k0_mult16 (v716 : BitVec 32) (v720 : BitVec 32) (k0_t21 : Fin (k0_t21_loop v716 v720).trips) : BitVec 32 :=
  let c_m32_i32_280 : BitVec 32 := 4294967264#32
  let v722 : BitVec 32 := Scalar.andi v716 c_m32_i32_280
  let c0_i32_284 : BitVec 32 := 0#32
  let v721 : BitVec 32 := Scalar.addi v716 v720
  let v723 : BitVec 32 := Scalar.subi v721 v722
  let c63_i32_281 : BitVec 32 := 63#32
  let v724 : BitVec 32 := Scalar.addi v723 c63_i32_281
  let c64_i32_282 : BitVec 32 := 64#32
  let v725 : BitVec 32 := Scalar.divsi v724 c64_i32_282
  let v726 : BitVec 32 := Scalar.subi v725 c0_i32_284
  let c1_i32_285 : BitVec 32 := 1#32
  let v728 : BitVec 32 := Scalar.divsi v726 c1_i32_285
  let v729 : BitVec 32 := Scalar.muli v728 c1_i32_285
  let v730 : BitVec 32 := Scalar.addi c0_i32_284 v729
  let c1_i32_287 : BitVec 32 := 1#32
  let arg20 : BitVec 32 := Scf.iv v730 c1_i32_287 k0_t21
  let c64_i32_308 : BitVec 32 := 64#32
  let v754 : BitVec 32 := Scalar.muli arg20 c64_i32_308
  let v755 : BitVec 32 := Scalar.addi v722 v754
  v755
def k0_off167 (v716 : BitVec 32) (v720 : BitVec 32) (k0_t21 : Fin (k0_t21_loop v716 v720).trips) : Fin 2 → Nat :=
  let c_m32_i32_280 : BitVec 32 := 4294967264#32
  let v722 : BitVec 32 := Scalar.andi v716 c_m32_i32_280
  let c0_i32_284 : BitVec 32 := 0#32
  let v721 : BitVec 32 := Scalar.addi v716 v720
  let v723 : BitVec 32 := Scalar.subi v721 v722
  let c63_i32_281 : BitVec 32 := 63#32
  let v724 : BitVec 32 := Scalar.addi v723 c63_i32_281
  let c64_i32_282 : BitVec 32 := 64#32
  let v725 : BitVec 32 := Scalar.divsi v724 c64_i32_282
  let v726 : BitVec 32 := Scalar.subi v725 c0_i32_284
  let c1_i32_285 : BitVec 32 := 1#32
  let v728 : BitVec 32 := Scalar.divsi v726 c1_i32_285
  let v729 : BitVec 32 := Scalar.muli v728 c1_i32_285
  let v730 : BitVec 32 := Scalar.addi c0_i32_284 v729
  let c1_i32_287 : BitVec 32 := 1#32
  let arg20 : BitVec 32 := Scf.iv v730 c1_i32_287 k0_t21
  let c64_i32_308 : BitVec 32 := 64#32
  let v754 : BitVec 32 := Scalar.muli arg20 c64_i32_308
  let v755 : BitVec 32 := Scalar.addi v722 v754
  let v756 : BitVec 32 := v755
  let v757 : Index := Scalar.indexCast v756
  let c0_309 : Index := 0#32
  ![v757.toNat, 0]
def k0_off168 (v716 : BitVec 32) (v720 : BitVec 32) (k0_t21 : Fin (k0_t21_loop v716 v720).trips) : Fin 2 → Nat :=
  let c_m32_i32_280 : BitVec 32 := 4294967264#32
  let v722 : BitVec 32 := Scalar.andi v716 c_m32_i32_280
  let c0_i32_284 : BitVec 32 := 0#32
  let v721 : BitVec 32 := Scalar.addi v716 v720
  let v723 : BitVec 32 := Scalar.subi v721 v722
  let c63_i32_281 : BitVec 32 := 63#32
  let v724 : BitVec 32 := Scalar.addi v723 c63_i32_281
  let c64_i32_282 : BitVec 32 := 64#32
  let v725 : BitVec 32 := Scalar.divsi v724 c64_i32_282
  let v726 : BitVec 32 := Scalar.subi v725 c0_i32_284
  let c1_i32_285 : BitVec 32 := 1#32
  let v728 : BitVec 32 := Scalar.divsi v726 c1_i32_285
  let v729 : BitVec 32 := Scalar.muli v728 c1_i32_285
  let v730 : BitVec 32 := Scalar.addi c0_i32_284 v729
  let c1_i32_287 : BitVec 32 := 1#32
  let arg20 : BitVec 32 := Scf.iv v730 c1_i32_287 k0_t21
  let c64_i32_308 : BitVec 32 := 64#32
  let v754 : BitVec 32 := Scalar.muli arg20 c64_i32_308
  let v755 : BitVec 32 := Scalar.addi v722 v754
  let v756 : BitVec 32 := v755
  let v759 : Index := Scalar.indexCast v756
  let c2816 : Index := 2816#32
  ![v759.toNat, 2816]
def k0_off169 (v18_0 : BitVec 32) : Fin 3 → Nat :=
  let c1_i32_16 : BitVec 32 := 1#32
  let v19 : BitVec 32 := Scalar.subi v18_0 c1_i32_16
  let c8_i32_236 : BitVec 32 := 8#32
  let c0_i32_237 : BitVec 32 := 0#32
  let v633 : BitVec 1 := Scalar.cmpi .eq c8_i32_236 c0_i32_237
  let c1_i32_238 : BitVec 32 := 1#32
  let v634 : BitVec 32 := Scalar.select v633 c1_i32_238 c8_i32_236
  let v635 : BitVec 32 := Scalar.remsi v19 v634
  let c0_i32_240 : BitVec 32 := 0#32
  let v637 : BitVec 1 := Scalar.cmpi .slt v635 c0_i32_240
  let c0_i32_241 : BitVec 32 := 0#32
  let v638 : BitVec 1 := Scalar.cmpi .slt v634 c0_i32_241
  let v639 : BitVec 1 := Scalar.xori v637 v638
  let c0_i32_239 : BitVec 32 := 0#32
  let v636 : BitVec 1 := Scalar.cmpi .ne v635 c0_i32_239
  let v640 : BitVec 1 := Scalar.andi v639 v636
  let v641 : BitVec 32 := Scalar.addi v635 v634
  let v642 : BitVec 32 := Scalar.select v640 v641 v635
  let v761 : Index := Scalar.indexCast v642
  let c2816_310 : Index := 2816#32
  let c0_311 : Index := 0#32
  ![v761.toNat, 2816, 0]
def k0_off170 (v18_0 : BitVec 32) : Fin 1 → Nat :=
  let c1_i32_16 : BitVec 32 := 1#32
  let v19 : BitVec 32 := Scalar.subi v18_0 c1_i32_16
  let v766 : Index := Scalar.indexCast v19
  ![v766.toNat]
def k0_off171 (v716 : BitVec 32) (v720 : BitVec 32) (k0_t21 : Fin (k0_t21_loop v716 v720).trips) : Fin 2 → Nat :=
  let c_m32_i32_280 : BitVec 32 := 4294967264#32
  let v722 : BitVec 32 := Scalar.andi v716 c_m32_i32_280
  let c0_i32_284 : BitVec 32 := 0#32
  let v721 : BitVec 32 := Scalar.addi v716 v720
  let v723 : BitVec 32 := Scalar.subi v721 v722
  let c63_i32_281 : BitVec 32 := 63#32
  let v724 : BitVec 32 := Scalar.addi v723 c63_i32_281
  let c64_i32_282 : BitVec 32 := 64#32
  let v725 : BitVec 32 := Scalar.divsi v724 c64_i32_282
  let v726 : BitVec 32 := Scalar.subi v725 c0_i32_284
  let c1_i32_285 : BitVec 32 := 1#32
  let v728 : BitVec 32 := Scalar.divsi v726 c1_i32_285
  let v729 : BitVec 32 := Scalar.muli v728 c1_i32_285
  let v730 : BitVec 32 := Scalar.addi c0_i32_284 v729
  let c1_i32_287 : BitVec 32 := 1#32
  let arg20 : BitVec 32 := Scf.iv v730 c1_i32_287 k0_t21
  let c64_i32_308 : BitVec 32 := 64#32
  let v754 : BitVec 32 := Scalar.muli arg20 c64_i32_308
  let v755 : BitVec 32 := Scalar.addi v722 v754
  let v756 : BitVec 32 := v755
  let v770 : Index := Scalar.indexCast v756
  let c0_313 : Index := 0#32
  ![v770.toNat, 0]
def k0_off172 (v767 : BitVec 32) : Fin 3 → Nat :=
  let v774 : Index := Scalar.indexCast v767
  let c0_314 : Index := 0#32
  let c0_315 : Index := 0#32
  ![v774.toNat, 0, 0]

def k0_off173 (v767 : BitVec 32) : Fin 1 → Nat :=
  let v784 : Index := Scalar.indexCast v767
  ![v784.toNat]

def k0_chk36 (v767 : BitVec 32) : Prop :=
  (∀ a, (k0_off172 v767) a + S1x1x1408.size a ≤ S16x1x1408.size a) ∧
  (∀ a, (k0_off173 v767) a + S1.size a ≤ S16.size a)
theorem k0_off172_inb : ∀ (v767 : BitVec 32) (k0_hw36 : k0_chk36 v767), ∀ a, (k0_off172 v767) a + S1x1x1408.size a ≤ S16x1x1408.size a := fun v767 k0_hw36 => k0_hw36.1
theorem k0_off173_inb : ∀ (v767 : BitVec 32) (k0_hw36 : k0_chk36 v767), ∀ a, (k0_off173 v767) a + S1.size a ≤ S16.size a := fun v767 k0_hw36 => k0_hw36.2

def k0_off174 (v716 : BitVec 32) (v720 : BitVec 32) (k0_t21 : Fin (k0_t21_loop v716 v720).trips) : Fin 2 → Nat :=
  let c_m32_i32_280 : BitVec 32 := 4294967264#32
  let v722 : BitVec 32 := Scalar.andi v716 c_m32_i32_280
  let c0_i32_284 : BitVec 32 := 0#32
  let v721 : BitVec 32 := Scalar.addi v716 v720
  let v723 : BitVec 32 := Scalar.subi v721 v722
  let c63_i32_281 : BitVec 32 := 63#32
  let v724 : BitVec 32 := Scalar.addi v723 c63_i32_281
  let c64_i32_282 : BitVec 32 := 64#32
  let v725 : BitVec 32 := Scalar.divsi v724 c64_i32_282
  let v726 : BitVec 32 := Scalar.subi v725 c0_i32_284
  let c1_i32_285 : BitVec 32 := 1#32
  let v728 : BitVec 32 := Scalar.divsi v726 c1_i32_285
  let v729 : BitVec 32 := Scalar.muli v728 c1_i32_285
  let v730 : BitVec 32 := Scalar.addi c0_i32_284 v729
  let c1_i32_287 : BitVec 32 := 1#32
  let arg20 : BitVec 32 := Scf.iv v730 c1_i32_287 k0_t21
  let c64_i32_308 : BitVec 32 := 64#32
  let v754 : BitVec 32 := Scalar.muli arg20 c64_i32_308
  let v755 : BitVec 32 := Scalar.addi v722 v754
  let v756 : BitVec 32 := v755
  let v790 : Index := Scalar.indexCast v756
  let c0_316 : Index := 0#32
  ![v790.toNat, 0]

def k0_chk34 (v18_0 : BitVec 32) (v716 : BitVec 32) (v720 : BitVec 32) : Prop :=
  ((k0_t20_loop v716 v720).OK) ∧
  (∀ k0_t20 : Fin (k0_t20_loop v716 v720).trips, 32 ∣ (k0_mult15 v716 v720 k0_t20).toNat) ∧
  (∀ k0_t20 : Fin (k0_t20_loop v716 v720).trips, ∀ a, (k0_off159 v716 v720 k0_t20) a + S64x1408.size a ≤ S224x1408.size a) ∧
  (∀ k0_t20 : Fin (k0_t20_loop v716 v720).trips, ∀ a, (k0_off160 v716 v720 k0_t20) a + S64x256.size a ≤ S224x3072.size a) ∧
  (∀ k0_t20 : Fin (k0_t20_loop v716 v720).trips, ∀ a, (k0_off161 v18_0) a + S1x256x1408.size a ≤ S8x3072x1408.size a) ∧
  (∀ k0_t20 : Fin (k0_t20_loop v716 v720).trips, ∀ a, (k0_off162 v18_0) a + S1.size a ≤ S16.size a) ∧
  (∀ k0_t20 : Fin (k0_t20_loop v716 v720).trips, ∀ a, (k0_off163 v716 v720 k0_t20) a + S64x1.size a ≤ S224x1.size a) ∧
  (∀ k0_t20 : Fin (k0_t20_loop v716 v720).trips, ∀ a, (k0_off166 v716 v720 k0_t20) a + S64x1408.size a ≤ S224x1408.size a) ∧
  (∀ k0_t20 : Fin (k0_t20_loop v716 v720).trips, ∀ (hinb : ∀ a, (k0_off166 v716 v720 k0_t20) a + S64x1408.size a ≤ S224x1408.size a), (Rect.unit (s := S224x1408) (k0_off166 v716 v720 k0_t20) S64x1408.size hinb).PackedRows (EltTy.packing .bf16)) ∧
  ((k0_t21_loop v716 v720).OK) ∧
  (∀ k0_t21 : Fin (k0_t21_loop v716 v720).trips, 32 ∣ (k0_mult16 v716 v720 k0_t21).toNat) ∧
  (∀ k0_t21 : Fin (k0_t21_loop v716 v720).trips, ∀ a, (k0_off167 v716 v720 k0_t21) a + S64x1408.size a ≤ S224x1408.size a) ∧
  (∀ k0_t21 : Fin (k0_t21_loop v716 v720).trips, ∀ a, (k0_off168 v716 v720 k0_t21) a + S64x256.size a ≤ S224x3072.size a) ∧
  (∀ k0_t21 : Fin (k0_t21_loop v716 v720).trips, ∀ a, (k0_off169 v18_0) a + S1x256x1408.size a ≤ S8x3072x1408.size a) ∧
  (∀ k0_t21 : Fin (k0_t21_loop v716 v720).trips, ∀ a, (k0_off170 v18_0) a + S1.size a ≤ S16.size a) ∧
  (∀ k0_t21 : Fin (k0_t21_loop v716 v720).trips, ∀ a, (k0_off171 v716 v720 k0_t21) a + S64x1.size a ≤ S224x1.size a) ∧
  (∀ k0_t21 : Fin (k0_t21_loop v716 v720).trips, ∀ a, (k0_off174 v716 v720 k0_t21) a + S64x1408.size a ≤ S224x1408.size a) ∧
  (∀ k0_t21 : Fin (k0_t21_loop v716 v720).trips, ∀ (hinb : ∀ a, (k0_off174 v716 v720 k0_t21) a + S64x1408.size a ≤ S224x1408.size a), (Rect.unit (s := S224x1408) (k0_off174 v716 v720 k0_t21) S64x1408.size hinb).PackedRows (EltTy.packing .bf16))
theorem k0_t20_ok : ∀ (v18_0 : BitVec 32) (v716 : BitVec 32) (v720 : BitVec 32) (k0_hw34 : k0_chk34 v18_0 v716 v720), (k0_t20_loop v716 v720).OK := fun v18_0 v716 v720 k0_hw34 => k0_hw34.1
theorem k0_mult15_dvd : ∀ (v18_0 : BitVec 32) (v716 : BitVec 32) (v720 : BitVec 32) (k0_hw34 : k0_chk34 v18_0 v716 v720) (k0_t20 : Fin (k0_t20_loop v716 v720).trips), 32 ∣ (k0_mult15 v716 v720 k0_t20).toNat := fun v18_0 v716 v720 k0_hw34 k0_t20 => k0_hw34.2.1 k0_t20
theorem k0_off159_inb : ∀ (v18_0 : BitVec 32) (v716 : BitVec 32) (v720 : BitVec 32) (k0_hw34 : k0_chk34 v18_0 v716 v720) (k0_t20 : Fin (k0_t20_loop v716 v720).trips), ∀ a, (k0_off159 v716 v720 k0_t20) a + S64x1408.size a ≤ S224x1408.size a := fun v18_0 v716 v720 k0_hw34 k0_t20 => k0_hw34.2.2.1 k0_t20
theorem k0_off160_inb : ∀ (v18_0 : BitVec 32) (v716 : BitVec 32) (v720 : BitVec 32) (k0_hw34 : k0_chk34 v18_0 v716 v720) (k0_t20 : Fin (k0_t20_loop v716 v720).trips), ∀ a, (k0_off160 v716 v720 k0_t20) a + S64x256.size a ≤ S224x3072.size a := fun v18_0 v716 v720 k0_hw34 k0_t20 => k0_hw34.2.2.2.1 k0_t20
theorem k0_off161_inb : ∀ (v18_0 : BitVec 32) (v716 : BitVec 32) (v720 : BitVec 32) (k0_hw34 : k0_chk34 v18_0 v716 v720) (k0_t20 : Fin (k0_t20_loop v716 v720).trips), ∀ a, (k0_off161 v18_0) a + S1x256x1408.size a ≤ S8x3072x1408.size a := fun v18_0 v716 v720 k0_hw34 k0_t20 => k0_hw34.2.2.2.2.1 k0_t20
theorem k0_off162_inb : ∀ (v18_0 : BitVec 32) (v716 : BitVec 32) (v720 : BitVec 32) (k0_hw34 : k0_chk34 v18_0 v716 v720) (k0_t20 : Fin (k0_t20_loop v716 v720).trips), ∀ a, (k0_off162 v18_0) a + S1.size a ≤ S16.size a := fun v18_0 v716 v720 k0_hw34 k0_t20 => k0_hw34.2.2.2.2.2.1 k0_t20
theorem k0_off163_inb : ∀ (v18_0 : BitVec 32) (v716 : BitVec 32) (v720 : BitVec 32) (k0_hw34 : k0_chk34 v18_0 v716 v720) (k0_t20 : Fin (k0_t20_loop v716 v720).trips), ∀ a, (k0_off163 v716 v720 k0_t20) a + S64x1.size a ≤ S224x1.size a := fun v18_0 v716 v720 k0_hw34 k0_t20 => k0_hw34.2.2.2.2.2.2.1 k0_t20
theorem k0_off166_inb : ∀ (v18_0 : BitVec 32) (v716 : BitVec 32) (v720 : BitVec 32) (k0_hw34 : k0_chk34 v18_0 v716 v720) (k0_t20 : Fin (k0_t20_loop v716 v720).trips), ∀ a, (k0_off166 v716 v720 k0_t20) a + S64x1408.size a ≤ S224x1408.size a := fun v18_0 v716 v720 k0_hw34 k0_t20 => k0_hw34.2.2.2.2.2.2.2.1 k0_t20
theorem k0_off166_packedbf16 : ∀ (v18_0 : BitVec 32) (v716 : BitVec 32) (v720 : BitVec 32) (k0_hw34 : k0_chk34 v18_0 v716 v720) (k0_t20 : Fin (k0_t20_loop v716 v720).trips), (Rect.unit (s := S224x1408) (k0_off166 v716 v720 k0_t20) S64x1408.size (k0_off166_inb v18_0 v716 v720 k0_hw34 k0_t20)).PackedRows (EltTy.packing .bf16) := fun v18_0 v716 v720 k0_hw34 k0_t20 => k0_hw34.2.2.2.2.2.2.2.2.1 k0_t20 (k0_off166_inb v18_0 v716 v720 k0_hw34 k0_t20)
theorem k0_t21_ok : ∀ (v18_0 : BitVec 32) (v716 : BitVec 32) (v720 : BitVec 32) (k0_hw34 : k0_chk34 v18_0 v716 v720), (k0_t21_loop v716 v720).OK := fun v18_0 v716 v720 k0_hw34 => k0_hw34.2.2.2.2.2.2.2.2.2.1
theorem k0_mult16_dvd : ∀ (v18_0 : BitVec 32) (v716 : BitVec 32) (v720 : BitVec 32) (k0_hw34 : k0_chk34 v18_0 v716 v720) (k0_t21 : Fin (k0_t21_loop v716 v720).trips), 32 ∣ (k0_mult16 v716 v720 k0_t21).toNat := fun v18_0 v716 v720 k0_hw34 k0_t21 => k0_hw34.2.2.2.2.2.2.2.2.2.2.1 k0_t21
theorem k0_off167_inb : ∀ (v18_0 : BitVec 32) (v716 : BitVec 32) (v720 : BitVec 32) (k0_hw34 : k0_chk34 v18_0 v716 v720) (k0_t21 : Fin (k0_t21_loop v716 v720).trips), ∀ a, (k0_off167 v716 v720 k0_t21) a + S64x1408.size a ≤ S224x1408.size a := fun v18_0 v716 v720 k0_hw34 k0_t21 => k0_hw34.2.2.2.2.2.2.2.2.2.2.2.1 k0_t21
theorem k0_off168_inb : ∀ (v18_0 : BitVec 32) (v716 : BitVec 32) (v720 : BitVec 32) (k0_hw34 : k0_chk34 v18_0 v716 v720) (k0_t21 : Fin (k0_t21_loop v716 v720).trips), ∀ a, (k0_off168 v716 v720 k0_t21) a + S64x256.size a ≤ S224x3072.size a := fun v18_0 v716 v720 k0_hw34 k0_t21 => k0_hw34.2.2.2.2.2.2.2.2.2.2.2.2.1 k0_t21
theorem k0_off169_inb : ∀ (v18_0 : BitVec 32) (v716 : BitVec 32) (v720 : BitVec 32) (k0_hw34 : k0_chk34 v18_0 v716 v720) (k0_t21 : Fin (k0_t21_loop v716 v720).trips), ∀ a, (k0_off169 v18_0) a + S1x256x1408.size a ≤ S8x3072x1408.size a := fun v18_0 v716 v720 k0_hw34 k0_t21 => k0_hw34.2.2.2.2.2.2.2.2.2.2.2.2.2.1 k0_t21
theorem k0_off170_inb : ∀ (v18_0 : BitVec 32) (v716 : BitVec 32) (v720 : BitVec 32) (k0_hw34 : k0_chk34 v18_0 v716 v720) (k0_t21 : Fin (k0_t21_loop v716 v720).trips), ∀ a, (k0_off170 v18_0) a + S1.size a ≤ S16.size a := fun v18_0 v716 v720 k0_hw34 k0_t21 => k0_hw34.2.2.2.2.2.2.2.2.2.2.2.2.2.2.1 k0_t21
theorem k0_off171_inb : ∀ (v18_0 : BitVec 32) (v716 : BitVec 32) (v720 : BitVec 32) (k0_hw34 : k0_chk34 v18_0 v716 v720) (k0_t21 : Fin (k0_t21_loop v716 v720).trips), ∀ a, (k0_off171 v716 v720 k0_t21) a + S64x1.size a ≤ S224x1.size a := fun v18_0 v716 v720 k0_hw34 k0_t21 => k0_hw34.2.2.2.2.2.2.2.2.2.2.2.2.2.2.2.1 k0_t21
theorem k0_off174_inb : ∀ (v18_0 : BitVec 32) (v716 : BitVec 32) (v720 : BitVec 32) (k0_hw34 : k0_chk34 v18_0 v716 v720) (k0_t21 : Fin (k0_t21_loop v716 v720).trips), ∀ a, (k0_off174 v716 v720 k0_t21) a + S64x1408.size a ≤ S224x1408.size a := fun v18_0 v716 v720 k0_hw34 k0_t21 => k0_hw34.2.2.2.2.2.2.2.2.2.2.2.2.2.2.2.2.1 k0_t21
theorem k0_off174_packedbf16 : ∀ (v18_0 : BitVec 32) (v716 : BitVec 32) (v720 : BitVec 32) (k0_hw34 : k0_chk34 v18_0 v716 v720) (k0_t21 : Fin (k0_t21_loop v716 v720).trips), (Rect.unit (s := S224x1408) (k0_off174 v716 v720 k0_t21) S64x1408.size (k0_off174_inb v18_0 v716 v720 k0_hw34 k0_t21)).PackedRows (EltTy.packing .bf16) := fun v18_0 v716 v720 k0_hw34 k0_t21 => k0_hw34.2.2.2.2.2.2.2.2.2.2.2.2.2.2.2.2.2 k0_t21 (k0_off174_inb v18_0 v716 v720 k0_hw34 k0_t21)

@[reducible] def k0_t22_loop (v630 : BitVec 32) : Scf.Loop 32 :=
  let c6_i32 : BitVec 32 := 6#32
  let v731 : BitVec 32 := Scalar.subi c6_i32 v630
  let c1_i32_289 : BitVec 32 := 1#32
  let v733 : BitVec 32 := Scalar.divsi v731 c1_i32_289
  let v734 : BitVec 32 := Scalar.muli v733 c1_i32_289
  let v735 : BitVec 32 := Scalar.addi v630 v734
  let c1_i32_290 : BitVec 32 := 1#32
  ⟨v630, v735, c1_i32_290⟩

def k0_mult17 (v630 : BitVec 32) (k0_t22 : Fin (k0_t22_loop v630).trips) : BitVec 32 :=
  let c1_i32_290 : BitVec 32 := 1#32
  let arg20 : BitVec 32 := Scf.iv v630 c1_i32_290 k0_t22
  let c32_i32_308 : BitVec 32 := 32#32
  let v754 : BitVec 32 := Scalar.muli arg20 c32_i32_308
  v754
def k0_off175 (v630 : BitVec 32) (k0_t22 : Fin (k0_t22_loop v630).trips) : Fin 2 → Nat :=
  let c1_i32_290 : BitVec 32 := 1#32
  let arg20 : BitVec 32 := Scf.iv v630 c1_i32_290 k0_t22
  let c32_i32_308 : BitVec 32 := 32#32
  let v754 : BitVec 32 := Scalar.muli arg20 c32_i32_308
  let v755 : BitVec 32 := v754
  let c0_i32_309 : BitVec 32 := 0#32
  ![v755.toNat, 0]
def k0_off176 (v630 : BitVec 32) (k0_t22 : Fin (k0_t22_loop v630).trips) : Fin 2 → Nat :=
  let c1_i32_290 : BitVec 32 := 1#32
  let arg20 : BitVec 32 := Scf.iv v630 c1_i32_290 k0_t22
  let c32_i32_308 : BitVec 32 := 32#32
  let v754 : BitVec 32 := Scalar.muli arg20 c32_i32_308
  let v755 : BitVec 32 := v754
  let c0_i32_310 : BitVec 32 := 0#32
  ![v755.toNat, 0]
@[reducible] def k0_t23_loop (v630 : BitVec 32) : Scf.Loop 32 :=
  let c6_i32 : BitVec 32 := 6#32
  let v731 : BitVec 32 := Scalar.subi c6_i32 v630
  let c1_i32_289 : BitVec 32 := 1#32
  let v733 : BitVec 32 := Scalar.divsi v731 c1_i32_289
  let v734 : BitVec 32 := Scalar.muli v733 c1_i32_289
  let v735 : BitVec 32 := Scalar.addi v630 v734
  let v732 : BitVec 32 := Scalar.addi v630 v731
  let c1_i32_291 : BitVec 32 := 1#32
  ⟨v735, v732, c1_i32_291⟩
def k0_mult18 (v630 : BitVec 32) (k0_t23 : Fin (k0_t23_loop v630).trips) : BitVec 32 :=
  let c6_i32 : BitVec 32 := 6#32
  let v731 : BitVec 32 := Scalar.subi c6_i32 v630
  let c1_i32_289 : BitVec 32 := 1#32
  let v733 : BitVec 32 := Scalar.divsi v731 c1_i32_289
  let v734 : BitVec 32 := Scalar.muli v733 c1_i32_289
  let v735 : BitVec 32 := Scalar.addi v630 v734
  let c1_i32_291 : BitVec 32 := 1#32
  let arg20 : BitVec 32 := Scf.iv v735 c1_i32_291 k0_t23
  let c32_i32_308 : BitVec 32 := 32#32
  let v754 : BitVec 32 := Scalar.muli arg20 c32_i32_308
  v754
def k0_off177 (v630 : BitVec 32) (k0_t23 : Fin (k0_t23_loop v630).trips) : Fin 2 → Nat :=
  let c6_i32 : BitVec 32 := 6#32
  let v731 : BitVec 32 := Scalar.subi c6_i32 v630
  let c1_i32_289 : BitVec 32 := 1#32
  let v733 : BitVec 32 := Scalar.divsi v731 c1_i32_289
  let v734 : BitVec 32 := Scalar.muli v733 c1_i32_289
  let v735 : BitVec 32 := Scalar.addi v630 v734
  let c1_i32_291 : BitVec 32 := 1#32
  let arg20 : BitVec 32 := Scf.iv v735 c1_i32_291 k0_t23
  let c32_i32_308 : BitVec 32 := 32#32
  let v754 : BitVec 32 := Scalar.muli arg20 c32_i32_308
  let v755 : BitVec 32 := v754
  let c0_i32_309 : BitVec 32 := 0#32
  ![v755.toNat, 0]
def k0_off178 (v630 : BitVec 32) (k0_t23 : Fin (k0_t23_loop v630).trips) : Fin 2 → Nat :=
  let c6_i32 : BitVec 32 := 6#32
  let v731 : BitVec 32 := Scalar.subi c6_i32 v630
  let c1_i32_289 : BitVec 32 := 1#32
  let v733 : BitVec 32 := Scalar.divsi v731 c1_i32_289
  let v734 : BitVec 32 := Scalar.muli v733 c1_i32_289
  let v735 : BitVec 32 := Scalar.addi v630 v734
  let c1_i32_291 : BitVec 32 := 1#32
  let arg20 : BitVec 32 := Scf.iv v735 c1_i32_291 k0_t23
  let c32_i32_308 : BitVec 32 := 32#32
  let v754 : BitVec 32 := Scalar.muli arg20 c32_i32_308
  let v755 : BitVec 32 := v754
  let c0_i32_310 : BitVec 32 := 0#32
  ![v755.toNat, 0]

def k0_chk37 (v630 : BitVec 32) : Prop :=
  ((k0_t22_loop v630).OK) ∧
  (∀ k0_t22 : Fin (k0_t22_loop v630).trips, 32 ∣ (k0_mult17 v630 k0_t22).toNat) ∧
  (∀ k0_t22 : Fin (k0_t22_loop v630).trips, ∀ a, (k0_off175 v630 k0_t22) a + S32x1408.size a ≤ S192x1408.size a) ∧
  (∀ k0_t22 : Fin (k0_t22_loop v630).trips, ∀ a, (k0_off176 v630 k0_t22) a + S32x1408.size a ≤ S224x1408.size a) ∧
  (∀ k0_t22 : Fin (k0_t22_loop v630).trips, ∀ (hinb : ∀ a, (k0_off176 v630 k0_t22) a + S32x1408.size a ≤ S224x1408.size a), (Rect.unit (s := S224x1408) (k0_off176 v630 k0_t22) S32x1408.size hinb).WholeWords (EltTy.packing .bf16)) ∧
  (∀ k0_t22 : Fin (k0_t22_loop v630).trips, ∀ (hinb : ∀ a, (k0_off175 v630 k0_t22) a + S32x1408.size a ≤ S192x1408.size a), (Rect.unit (s := S192x1408) (k0_off175 v630 k0_t22) S32x1408.size hinb).WholeWords (EltTy.packing .bf16)) ∧
  ((k0_t23_loop v630).OK) ∧
  (∀ k0_t23 : Fin (k0_t23_loop v630).trips, 32 ∣ (k0_mult18 v630 k0_t23).toNat) ∧
  (∀ k0_t23 : Fin (k0_t23_loop v630).trips, ∀ a, (k0_off177 v630 k0_t23) a + S32x1408.size a ≤ S192x1408.size a) ∧
  (∀ k0_t23 : Fin (k0_t23_loop v630).trips, ∀ a, (k0_off178 v630 k0_t23) a + S32x1408.size a ≤ S224x1408.size a) ∧
  (∀ k0_t23 : Fin (k0_t23_loop v630).trips, ∀ (hinb : ∀ a, (k0_off178 v630 k0_t23) a + S32x1408.size a ≤ S224x1408.size a), (Rect.unit (s := S224x1408) (k0_off178 v630 k0_t23) S32x1408.size hinb).WholeWords (EltTy.packing .bf16)) ∧
  (∀ k0_t23 : Fin (k0_t23_loop v630).trips, ∀ (hinb : ∀ a, (k0_off177 v630 k0_t23) a + S32x1408.size a ≤ S192x1408.size a), (Rect.unit (s := S192x1408) (k0_off177 v630 k0_t23) S32x1408.size hinb).WholeWords (EltTy.packing .bf16))
theorem k0_t22_ok : ∀ (v630 : BitVec 32) (k0_hw37 : k0_chk37 v630), (k0_t22_loop v630).OK := fun v630 k0_hw37 => k0_hw37.1
theorem k0_mult17_dvd : ∀ (v630 : BitVec 32) (k0_hw37 : k0_chk37 v630) (k0_t22 : Fin (k0_t22_loop v630).trips), 32 ∣ (k0_mult17 v630 k0_t22).toNat := fun v630 k0_hw37 k0_t22 => k0_hw37.2.1 k0_t22
theorem k0_off175_inb : ∀ (v630 : BitVec 32) (k0_hw37 : k0_chk37 v630) (k0_t22 : Fin (k0_t22_loop v630).trips), ∀ a, (k0_off175 v630 k0_t22) a + S32x1408.size a ≤ S192x1408.size a := fun v630 k0_hw37 k0_t22 => k0_hw37.2.2.1 k0_t22
theorem k0_off176_inb : ∀ (v630 : BitVec 32) (k0_hw37 : k0_chk37 v630) (k0_t22 : Fin (k0_t22_loop v630).trips), ∀ a, (k0_off176 v630 k0_t22) a + S32x1408.size a ≤ S224x1408.size a := fun v630 k0_hw37 k0_t22 => k0_hw37.2.2.2.1 k0_t22
theorem k0_off176_wordsbf16 : ∀ (v630 : BitVec 32) (k0_hw37 : k0_chk37 v630) (k0_t22 : Fin (k0_t22_loop v630).trips), (Rect.unit (s := S224x1408) (k0_off176 v630 k0_t22) S32x1408.size (k0_off176_inb v630 k0_hw37 k0_t22)).WholeWords (EltTy.packing .bf16) := fun v630 k0_hw37 k0_t22 => k0_hw37.2.2.2.2.1 k0_t22 (k0_off176_inb v630 k0_hw37 k0_t22)
theorem k0_off175_wordsbf16 : ∀ (v630 : BitVec 32) (k0_hw37 : k0_chk37 v630) (k0_t22 : Fin (k0_t22_loop v630).trips), (Rect.unit (s := S192x1408) (k0_off175 v630 k0_t22) S32x1408.size (k0_off175_inb v630 k0_hw37 k0_t22)).WholeWords (EltTy.packing .bf16) := fun v630 k0_hw37 k0_t22 => k0_hw37.2.2.2.2.2.1 k0_t22 (k0_off175_inb v630 k0_hw37 k0_t22)
theorem k0_t23_ok : ∀ (v630 : BitVec 32) (k0_hw37 : k0_chk37 v630), (k0_t23_loop v630).OK := fun v630 k0_hw37 => k0_hw37.2.2.2.2.2.2.1
theorem k0_mult18_dvd : ∀ (v630 : BitVec 32) (k0_hw37 : k0_chk37 v630) (k0_t23 : Fin (k0_t23_loop v630).trips), 32 ∣ (k0_mult18 v630 k0_t23).toNat := fun v630 k0_hw37 k0_t23 => k0_hw37.2.2.2.2.2.2.2.1 k0_t23
theorem k0_off177_inb : ∀ (v630 : BitVec 32) (k0_hw37 : k0_chk37 v630) (k0_t23 : Fin (k0_t23_loop v630).trips), ∀ a, (k0_off177 v630 k0_t23) a + S32x1408.size a ≤ S192x1408.size a := fun v630 k0_hw37 k0_t23 => k0_hw37.2.2.2.2.2.2.2.2.1 k0_t23
theorem k0_off178_inb : ∀ (v630 : BitVec 32) (k0_hw37 : k0_chk37 v630) (k0_t23 : Fin (k0_t23_loop v630).trips), ∀ a, (k0_off178 v630 k0_t23) a + S32x1408.size a ≤ S224x1408.size a := fun v630 k0_hw37 k0_t23 => k0_hw37.2.2.2.2.2.2.2.2.2.1 k0_t23
theorem k0_off178_wordsbf16 : ∀ (v630 : BitVec 32) (k0_hw37 : k0_chk37 v630) (k0_t23 : Fin (k0_t23_loop v630).trips), (Rect.unit (s := S224x1408) (k0_off178 v630 k0_t23) S32x1408.size (k0_off178_inb v630 k0_hw37 k0_t23)).WholeWords (EltTy.packing .bf16) := fun v630 k0_hw37 k0_t23 => k0_hw37.2.2.2.2.2.2.2.2.2.2.1 k0_t23 (k0_off178_inb v630 k0_hw37 k0_t23)
theorem k0_off177_wordsbf16 : ∀ (v630 : BitVec 32) (k0_hw37 : k0_chk37 v630) (k0_t23 : Fin (k0_t23_loop v630).trips), (Rect.unit (s := S192x1408) (k0_off177 v630 k0_t23) S32x1408.size (k0_off177_inb v630 k0_hw37 k0_t23)).WholeWords (EltTy.packing .bf16) := fun v630 k0_hw37 k0_t23 => k0_hw37.2.2.2.2.2.2.2.2.2.2.2 k0_t23 (k0_off177_inb v630 k0_hw37 k0_t23)

def k0_mult19 : BitVec 32 :=
  let c0_i32_292 : BitVec 32 := 0#32
  c0_i32_292
def k0_mult20 : BitVec 32 :=
  let c32_i32_295 : BitVec 32 := 32#32
  c32_i32_295
def k0_mult21 : BitVec 32 :=
  let c64_i32_298 : BitVec 32 := 64#32
  c64_i32_298
def k0_mult22 : BitVec 32 :=
  let c96_i32 : BitVec 32 := 96#32
  c96_i32
def k0_mult23 : BitVec 32 :=
  let c128_i32_303 : BitVec 32 := 128#32
  c128_i32_303
def k0_mult24 : BitVec 32 :=
  let c160_i32 : BitVec 32 := 160#32
  c160_i32
-- ==== ReferenceIdeal.lean ====
abbrev S192x3072 : Shape := ⟨2, ![192, 3072]⟩
abbrev S16 : Shape := ⟨1, ![16]⟩
abbrev S16x3072x1408 : Shape := ⟨3, ![16, 3072, 1408]⟩
abbrev S16x1x1408 : Shape := ⟨3, ![16, 1, 1408]⟩
abbrev S1x16 : Shape := ⟨2, ![1, 16]⟩
abbrev S16x1 : Shape := ⟨2, ![16, 1]⟩
abbrev S16x16 : Shape := ⟨2, ![16, 16]⟩
abbrev S_ : Shape := ⟨0, ![]⟩
abbrev S192 : Shape := ⟨1, ![192]⟩
abbrev S192x1 : Shape := ⟨2, ![192, 1]⟩
abbrev S192x16 : Shape := ⟨2, ![192, 16]⟩
abbrev S192x1408 : Shape := ⟨2, ![192, 1408]⟩
abbrev S192x256 : Shape := ⟨2, ![192, 256]⟩
abbrev S1x3072x1408 : Shape := ⟨3, ![1, 3072, 1408]⟩
abbrev S3072x1408 : Shape := ⟨2, ![3072, 1408]⟩
abbrev S1x1x1408 : Shape := ⟨3, ![1, 1, 1408]⟩
abbrev S1x1408 : Shape := ⟨2, ![1, 1408]⟩

abbrev nBuf : Space → Nat
  | .hbm => 32
  | .vmem => 5
  | .smem => 0
  | _ => 0

abbrev bufTy : (tb : Table) → Fin (tcTables nBuf tb) → BufTy
  | .hbm, ⟨0, _⟩ => ⟨S192x3072, .bf16⟩
  | .hbm, ⟨1, _⟩ => ⟨S16, .i32⟩
  | .hbm, ⟨2, _⟩ => ⟨S16x3072x1408, .fp8e4m3⟩
  | .hbm, ⟨3, _⟩ => ⟨S16x1x1408, .f32⟩
  | .hbm, ⟨4, _⟩ => ⟨S16, .i32⟩
  | .hbm, ⟨5, _⟩ => ⟨S1x16, .i32⟩
  | .hbm, ⟨6, _⟩ => ⟨S16x1, .i32⟩
  | .hbm, ⟨7, _⟩ => ⟨S16x16, .i32⟩
  | .hbm, ⟨8, _⟩ => ⟨S16x16, .i32⟩
  | .hbm, ⟨9, _⟩ => ⟨S16x16, .i1⟩
  | .hbm, ⟨10, _⟩ => ⟨S1x16, .i32⟩
  | .hbm, ⟨11, _⟩ => ⟨S_, .i32⟩
  | .hbm, ⟨12, _⟩ => ⟨S_, .i32⟩
  | .hbm, ⟨13, _⟩ => ⟨S16x16, .i32⟩
  | .hbm, ⟨14, _⟩ => ⟨S16x16, .i32⟩
  | .hbm, ⟨15, _⟩ => ⟨S16x16, .i32⟩
  | .hbm, ⟨16, _⟩ => ⟨S_, .i32⟩
  | .hbm, ⟨17, _⟩ => ⟨S16, .i32⟩
  | .hbm, ⟨18, _⟩ => ⟨S192, .i32⟩
  | .hbm, ⟨19, _⟩ => ⟨S192x1, .i32⟩
  | .hbm, ⟨20, _⟩ => ⟨S1x16, .i32⟩
  | .hbm, ⟨21, _⟩ => ⟨S192x16, .i32⟩
  | .hbm, ⟨22, _⟩ => ⟨S192x16, .i32⟩
  | .hbm, ⟨23, _⟩ => ⟨S192x16, .i1⟩
  | .hbm, ⟨24, _⟩ => ⟨S16, .i32⟩
  | .hbm, ⟨25, _⟩ => ⟨S1x16, .i32⟩
  | .hbm, ⟨26, _⟩ => ⟨S192x16, .i32⟩
  | .hbm, ⟨27, _⟩ => ⟨S192x16, .i32⟩
  | .hbm, ⟨28, _⟩ => ⟨S192x16, .i1⟩
  | .hbm, ⟨29, _⟩ => ⟨S192x16, .i1⟩
  | .hbm, ⟨30, _⟩ => ⟨S192x16, .i32⟩
  | .hbm, ⟨31, _⟩ => ⟨S192x1408, .bf16⟩
  | .local _ .vmem, ⟨0, _⟩ => ⟨S192x3072, .bf16⟩
  | .local _ .vmem, ⟨1, _⟩ => ⟨S192x16, .i32⟩
  | .local _ .vmem, ⟨2, _⟩ => ⟨S16x3072x1408, .fp8e4m3⟩
  | .local _ .vmem, ⟨3, _⟩ => ⟨S16x1x1408, .f32⟩
  | .local _ .vmem, ⟨4, _⟩ => ⟨S192x1408, .bf16⟩
  | _, _ => ⟨S192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S192x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x3072x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Base.lean ====
/-
  Common vocabulary of the hand proof: the kernel's operands as whole memrefs, the words of a table held in scalar
  memory, and what one scalar read or write of such a table does.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

/-! ## The operands -/

abbrev a0 : Memref sig .tc .hbm S192x3072 .bf16 := Memref.whole main_arg0
abbrev a1 : Memref sig .tc .hbm S16 .i32 := Memref.whole main_arg1
abbrev a2 : Memref sig .tc .hbm S16x3072x1408 .fp8e4m3 := Memref.whole main_arg2
abbrev a3 : Memref sig .tc .hbm S16x1x1408 .f32 := Memref.whole main_arg3
abbrev a4 : Memref sig .tc .hbm S192x1408 .bf16 := Memref.whole main_v0
abbrev a5 : Memref sig .tc .smem S16 .i32 := Memref.whole cc0_scratch0
abbrev a6 : Memref sig .tc .smem S16 .i32 := Memref.whole cc0_scratch1
abbrev a7 : Memref sig .tc .smem S16 .i32 := Memref.whole cc0_scratch2
abbrev a8 : Memref sig .tc .vmem S192x3072 .bf16 := Memref.whole cc0_scratch3
abbrev a9 : Memref sig .tc .vmem S224x3072 .fp8e4m3 := Memref.whole cc0_scratch4
abbrev a10 : Memref sig .tc .vmem S224x1 .f32 := Memref.whole cc0_scratch5
abbrev a11 : Memref sig .tc .vmem S16x1x1408 .f32 := Memref.whole cc0_scratch6
abbrev a12 : Memref sig .tc .vmem S8x3072x1408 .fp8e4m3 := Memref.whole cc0_scratch7
abbrev a13 : Memref sig .tc .vmem S224x1408 .f32 := Memref.whole cc0_scratch8
abbrev a14 : Memref sig .tc .vmem S224x1408 .bf16 := Memref.whole cc0_scratch9

abbrev hw (b : Ref sig .tc) : (Memref.whole b : Memref sig .tc _ _ _).IsWhole := Memref.isWhole_whole b

/-! ## Tables of sixteen words -/

/-- Position `n` of a table of sixteen words. -/
def ix (n : ℕ) (h : n < 16) : S16.Idx := Fin.cons ⟨n, h⟩ (fun a => a.elim0)

/-- The word of a table of sixteen at position `n`, as a natural number; zero beyond the table. -/
def wd (f : S16.Idx → BitVec 32) (n : ℕ) : ℕ := if h : n < 16 then (f (ix n h)).toNat else 0

theorem wd_lt (f : S16.Idx → BitVec 32) (n : ℕ) : wd f n < 2 ^ 32 := by
  unfold wd; split
  · exact (f _).isLt
  · decide

/-- A word is `BitVec.ofNat` of its reading. -/
theorem word_eq (f : S16.Idx → BitVec 32) (n : ℕ) (h : n < 16) : f (ix n h) = BitVec.ofNat 32 (wd f n) := by
  unfold wd; rw [dif_pos h]; simp

theorem ix_of (i : S16.Idx) (n : ℕ) (h : n < 16) (e : (i 0).val = n) : i = ix n h := by
  funext a; have : a = 0 := Subsingleton.elim _ _
  subst this; exact Fin.ext e

/-- `f` with the word `v` at position `n`. -/
def setw (f : S16.Idx → BitVec 32) (n : ℕ) (v : BitVec 32) : S16.Idx → BitVec 32 := fun i => if (i 0).val = n then v else f i

theorem wd_setw (f : S16.Idx → BitVec 32) (n : ℕ) (v : BitVec 32) (m : ℕ) (hm : m < 16) :
    wd (setw f n v) m = if m = n then v.toNat else wd f m := by
  unfold wd setw; simp only [hm, dif_pos, ix, Fin.cons_zero]; split <;> rfl

theorem wd_setw_self (f : S16.Idx → BitVec 32) (n : ℕ) (v : BitVec 32) (hn : n < 16) : wd (setw f n v) n = v.toNat := by
  rw [wd_setw f n v n hn, if_pos rfl]

theorem wd_setw_ne (f : S16.Idx → BitVec 32) (n : ℕ) (v : BitVec 32) (m : ℕ) (hm : m < 16) (h : m ≠ n) : wd (setw f n v) m = wd f m := by
  rw [wd_setw f n v m hm, if_neg h]

/-- One scalar read of table 5 held whole. -/
theorem read_word5 (f : S16.Idx → BitVec 32) (off : Fin 1 → ℕ) (n : ℕ) (ho : off 0 = n) (hn : n < 16)
    (hb : ∀ a, off a + S1.size a ≤ S16.size a) (x : S1.Idx) :
    (a5.access (Rect.unit (s := S16) off S1.size hb)).read (Elt F) f x = BitVec.ofNat 32 (wd f n) := by
  rw [← word_eq f n hn]
  exact congrArg f (ix_of _ n hn (by
    have := (x 0).isLt; have h1 : S1.size 0 = 1 := rfl
    change off 0 + 1 * (x 0).val = n; omega))

/-- One scalar read of table 6 held whole. -/
theorem read_word6 (f : S16.Idx → BitVec 32) (off : Fin 1 → ℕ) (n : ℕ) (ho : off 0 = n) (hn : n < 16)
    (hb : ∀ a, off a + S1.size a ≤ S16.size a) (x : S1.Idx) :
    (a6.access (Rect.unit (s := S16) off S1.size hb)).read (Elt F) f x = BitVec.ofNat 32 (wd f n) := by
  rw [← word_eq f n hn]
  exact congrArg f (ix_of _ n hn (by
    have := (x 0).isLt; have h1 : S1.size 0 = 1 := rfl
    change off 0 + 1 * (x 0).val = n; omega))

/-- One scalar read of table 7 held whole. -/
theorem read_word7 (f : S16.Idx → BitVec 32) (off : Fin 1 → ℕ) (n : ℕ) (ho : off 0 = n) (hn : n < 16)
    (hb : ∀ a, off a + S1.size a ≤ S16.size a) (x : S1.Idx) :
    (a7.access (Rect.unit (s := S16) off S1.size hb)).read (Elt F) f x = BitVec.ofNat 32 (wd f n) := by
  rw [← word_eq f n hn]
  exact congrArg f (ix_of _ n hn (by
    have := (x 0).isLt; have h1 : S1.size 0 = 1 := rfl
    change off 0 + 1 * (x 0).val = n; omega))

/-- One scalar write of table 6 held whole. -/
theorem write_word6 (f : S16.Idx → BitVec 32) (off : Fin 1 → ℕ) (n : ℕ) (ho : off 0 = n) (v : BitVec 32)
    (hb : ∀ a, off a + S1.size a ≤ S16.size a) :
    (a6.access (Rect.unit (s := S16) off S1.size hb)).write (Elt F) f (fun _ => v) Finset.univ = setw f n v := by
  funext (i : S16.Idx)
  by_cases hi : (i 0).val = n
  · have e : i = (a6.access (Rect.unit (s := S16) off S1.size hb)).emb (Fin.cons ⟨0, Nat.one_pos⟩ (fun a => a.elim0) : S1.Idx) := by
      refine (ix_of i n (by have := (i 0).isLt; have h1 : S16.size 0 = 16 := rfl; omega) hi).trans (ix_of _ n _ ?_).symm
      change off 0 + 1 * 0 = n; omega
    unfold setw; rw [if_pos hi, e, View.write_emb_of_mem (h := Finset.mem_univ _)]; rfl
  · unfold setw; rw [if_neg hi, View.write_of_not_mem]
    rw [View.setOn_univ]
    intro hm
    rw [View.set_slice_whole, Rect.mem_set_unit] at hm
    have := hm 0; have h1 : S1.size 0 = 1 := rfl
    omega

/-- One scalar write of table 7 held whole. -/
theorem write_word7 (f : S16.Idx → BitVec 32) (off : Fin 1 → ℕ) (n : ℕ) (ho : off 0 = n) (v : BitVec 32)
    (hb : ∀ a, off a + S1.size a ≤ S16.size a) :
    (a7.access (Rect.unit (s := S16) off S1.size hb)).write (Elt F) f (fun _ => v) Finset.univ = setw f n v := by
  funext (i : S16.Idx)
  by_cases hi : (i 0).val = n
  · have e : i = (a7.access (Rect.unit (s := S16) off S1.size hb)).emb (Fin.cons ⟨0, Nat.one_pos⟩ (fun a => a.elim0) : S1.Idx) := by
      refine (ix_of i n (by have := (i 0).isLt; have h1 : S16.size 0 = 16 := rfl; omega) hi).trans (ix_of _ n _ ?_).symm
      change off 0 + 1 * 0 = n; omega
    unfold setw; rw [if_pos hi, e, View.write_emb_of_mem (h := Finset.mem_univ _)]; rfl
  · unfold setw; rw [if_neg hi, View.write_of_not_mem]
    rw [View.setOn_univ]
    intro hm
    rw [View.set_slice_whole, Rect.mem_set_unit] at hm
    have := hm 0; have h1 : S1.size 0 = 1 := rfl
    omega

/-! ## Steps at the head of a program -/

section Steps

variable (c : Dev nD) {α : Type}

/-- Table 5 held whole at `f`. -/
abbrev pt5 (f : S16.Idx → BitVec 32) : sProp 𝕄 :=
  iprop(((c : Thread nD τ).loc cc0_scratch0) ↦{fullShare} (f : Buf (Elt F) ((c : Thread nD τ).loc cc0_scratch0)))

theorem rd5 (f : S16.Idx → BitVec 32) {off : Fin 1 → ℕ} (n : ℕ) (ho : off 0 = n) (hn : n < 16)
    {hb : ∀ a, off a + S1.size a ≤ S16.size a}
    {kk : Elt F .i32 → Prog (TpuEff nD τ sig (Elt F) Λ₀ .tc) α} {Q : α → sProp 𝕄} :
    pt5 (F := F) c f ⊢ iprop((pt5 (F := F) c f -∗ wp frame (wpE (defs₀ (F := F)) Variants.none (c : Thread nD τ) none) Set.univ (kk (BitVec.ofNat 32 (wd f n))) Q)
      -∗ wp frame (wpE (defs₀ (F := F)) Variants.none (c : Thread nD τ) none) Set.univ (smemLoad a5 (Rect.unit (s := S16) off S1.size hb) numel1_S1 rfl >>= kk) Q) := by
  have key := wp_smemLoadElt (defs := defs₀ (F := F)) (Γ := .empty) Variants.none (c : Thread nD τ) none Set.univ (m := a5)
    (r := Rect.unit (s := S16) off S1.size hb) (hw := View.loads_smem_one rfl numel1_S1)
    (x := Shape.Idx.first (numel1_S1.symm ▸ Nat.one_pos)) (k := kk) (q := fullShare) (f := f) (Q := Q) (Finset.subset_univ _)
  rw [read_word5 f off n ho hn hb] at key
  exact key

/-- Table 6 held whole at `f`. -/
abbrev pt6 (f : S16.Idx → BitVec 32) : sProp 𝕄 :=
  iprop(((c : Thread nD τ).loc cc0_scratch1) ↦{fullShare} (f : Buf (Elt F) ((c : Thread nD τ).loc cc0_scratch1)))

theorem rd6 (f : S16.Idx → BitVec 32) {off : Fin 1 → ℕ} (n : ℕ) (ho : off 0 = n) (hn : n < 16)
    {hb : ∀ a, off a + S1.size a ≤ S16.size a}
    {kk : Elt F .i32 → Prog (TpuEff nD τ sig (Elt F) Λ₀ .tc) α} {Q : α → sProp 𝕄} :
    pt6 (F := F) c f ⊢ iprop((pt6 (F := F) c f -∗ wp frame (wpE (defs₀ (F := F)) Variants.none (c : Thread nD τ) none) Set.univ (kk (BitVec.ofNat 32 (wd f n))) Q)
      -∗ wp frame (wpE (defs₀ (F := F)) Variants.none (c : Thread nD τ) none) Set.univ (smemLoad a6 (Rect.unit (s := S16) off S1.size hb) numel1_S1 rfl >>= kk) Q) := by
  have key := wp_smemLoadElt (defs := defs₀ (F := F)) (Γ := .empty) Variants.none (c : Thread nD τ) none Set.univ (m := a6)
    (r := Rect.unit (s := S16) off S1.size hb) (hw := View.loads_smem_one rfl numel1_S1)
    (x := Shape.Idx.first (numel1_S1.symm ▸ Nat.one_pos)) (k := kk) (q := fullShare) (f := f) (Q := Q) (Finset.subset_univ _)
  rw [read_word6 f off n ho hn hb] at key
  exact key

/-- Table 7 held whole at `f`. -/
abbrev pt7 (f : S16.Idx → BitVec 32) : sProp 𝕄 :=
  iprop(((c : Thread nD τ).loc cc0_scratch2) ↦{fullShare} (f : Buf (Elt F) ((c : Thread nD τ).loc cc0_scratch2)))

theorem rd7 (f : S16.Idx → BitVec 32) {off : Fin 1 → ℕ} (n : ℕ) (ho : off 0 = n) (hn : n < 16)
    {hb : ∀ a, off a + S1.size a ≤ S16.size a}
    {kk : Elt F .i32 → Prog (TpuEff nD τ sig (Elt F) Λ₀ .tc) α} {Q : α → sProp 𝕄} :
    pt7 (F := F) c f ⊢ iprop((pt7 (F := F) c f -∗ wp frame (wpE (defs₀ (F := F)) Variants.none (c : Thread nD τ) none) Set.univ (kk (BitVec.ofNat 32 (wd f n))) Q)
      -∗ wp frame (wpE (defs₀ (F := F)) Variants.none (c : Thread nD τ) none) Set.univ (smemLoad a7 (Rect.unit (s := S16) off S1.size hb) numel1_S1 rfl >>= kk) Q) := by
  have key := wp_smemLoadElt (defs := defs₀ (F := F)) (Γ := .empty) Variants.none (c : Thread nD τ) none Set.univ (m := a7)
    (r := Rect.unit (s := S16) off S1.size hb) (hw := View.loads_smem_one rfl numel1_S1)
    (x := Shape.Idx.first (numel1_S1.symm ▸ Nat.one_pos)) (k := kk) (q := fullShare) (f := f) (Q := Q) (Finset.subset_univ _)
  rw [read_word7 f off n ho hn hb] at key
  exact key

theorem st6 (f : S16.Idx → BitVec 32) {off : Fin 1 → ℕ} (n : ℕ) (v : BitVec 32) (ho : off 0 = n)
    {hb : ∀ a, off a + S1.size a ≤ S16.size a} {hx : (a6.access (Rect.unit (s := S16) off S1.size hb)).Stores Finset.univ}
    {hm : (Finset.univ : Finset S1.Idx) = Finset.univ ∨ ∀ a, (Rect.unit (s := S16) off S1.size hb).stride a = 1}
    {kk : PUnit → Prog (TpuEff nD τ sig (Elt F) Λ₀ .tc) α} {Q : α → sProp 𝕄} :
    pt6 (F := F) c f ⊢ iprop((pt6 (F := F) c (setw f n v) -∗ wp frame (wpE (defs₀ (F := F)) Variants.none (c : Thread nD τ) none) Set.univ (kk ⟨⟩) Q)
      -∗ wp frame (wpE (defs₀ (F := F)) Variants.none (c : Thread nD τ) none) Set.univ (Prog.lift (.store a6 (Rect.unit (s := S16) off S1.size hb) (fun _ => v) Finset.univ hx hm) >>= kk) Q) := by
  have key := wp_store (defs := defs₀ (F := F)) (Γ := .empty) Variants.none (c : Thread nD τ) none Set.univ (m := a6)
    (r := Rect.unit (s := S16) off S1.size hb) (w := fun _ => v) (Mk := Finset.univ) (hx := hx) (hm := hm)
    (k := kk) (f := f) (Q := Q) (Finset.subset_univ _)
  rw [write_word6 f off n ho v hb] at key
  exact key

theorem st7 (f : S16.Idx → BitVec 32) {off : Fin 1 → ℕ} (n : ℕ) (v : BitVec 32) (ho : off 0 = n)
    {hb : ∀ a, off a + S1.size a ≤ S16.size a} {hx : (a7.access (Rect.unit (s := S16) off S1.size hb)).Stores Finset.univ}
    {hm : (Finset.univ : Finset S1.Idx) = Finset.univ ∨ ∀ a, (Rect.unit (s := S16) off S1.size hb).stride a = 1}
    {kk : PUnit → Prog (TpuEff nD τ sig (Elt F) Λ₀ .tc) α} {Q : α → sProp 𝕄} :
    pt7 (F := F) c f ⊢ iprop((pt7 (F := F) c (setw f n v) -∗ wp frame (wpE (defs₀ (F := F)) Variants.none (c : Thread nD τ) none) Set.univ (kk ⟨⟩) Q)
      -∗ wp frame (wpE (defs₀ (F := F)) Variants.none (c : Thread nD τ) none) Set.univ (Prog.lift (.store a7 (Rect.unit (s := S16) off S1.size hb) (fun _ => v) Finset.univ hx hm) >>= kk) Q) := by
  have key := wp_store (defs := defs₀ (F := F)) (Γ := .empty) Variants.none (c : Thread nD τ) none Set.univ (m := a7)
    (r := Rect.unit (s := S16) off S1.size hb) (w := fun _ => v) (Mk := Finset.univ) (hx := hx) (hm := hm)
    (k := kk) (f := f) (Q := Q) (Finset.subset_univ _)
  rw [write_word7 f off n ho v hb] at key
  exact key

theorem asm {P : Prop} {dec : Decidable P} (h : P)
    {kk : PLift P → Prog (TpuEff nD τ sig (Elt F) Λ₀ .tc) α} {Q : α → sProp 𝕄} :
    wp frame (wpE (defs₀ (F := F)) Variants.none (c : Thread nD τ) none) Set.univ (kk ⟨h⟩) Q ⊢ wp frame (wpE (defs₀ (F := F)) Variants.none (c : Thread nD τ) none) Set.univ (Prog.lift (.assume P dec) >>= kk) Q :=
  wp_assume (defs := defs₀ (F := F)) (Γ := .empty) Variants.none (c : Thread nD τ) none Set.univ h

theorem ret (a : α) {Q : α → sProp 𝕄} : Q a ⊢ wp frame (wpE (defs₀ (F := F)) Variants.none (c : Thread nD τ) none) Set.univ (Prog.ret a) Q := by
  rw [wp_ret]; iintro H; imodintro; iexact H

end Steps

end Cert.KernelIdeal.Hand
-- ==== Proof.Copy.lean ====
module

public import proofs.«01_k».proof.Proof.Base

/-! # Copies of weight rows into the ring

One weight copy brings the rows `o … o+L` of one expert into the same rows of one ring slot. It is
described here once, for every length `L`: what starting it takes and what waiting for it gives back. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

/-- One slot's worth of rows as the rectangle the kernel takes from a three-axis array. -/
abbrev Sw (L : ℕ) : Shape := ⟨3, ![1, L, 1408]⟩

/-- The same rows with the leading axis dropped. -/
abbrev Sf (L : ℕ) : Shape := ⟨2, ![L, 1408]⟩

/-- Rows `a … b` of ring slot `s`. -/
def rowsSet (s a b : ℕ) : Finset S8x3072x1408.Idx :=
  Finset.univ.filter fun i => (i 0).val = s ∧ a ≤ (i 1).val ∧ (i 1).val < b

theorem mem_rowsSet {s a b : ℕ} {i : S8x3072x1408.Idx} :
    i ∈ rowsSet s a b ↔ (i 0).val = s ∧ a ≤ (i 1).val ∧ (i 1).val < b := by
  simp [rowsSet]

/-- The position `(e, k, j)` of the weights. -/
def wix (e : ℕ) (k : Fin 3072) (j : Fin 1408) : S16x3072x1408.Idx :=
  Fin.cons (Fin.ofNat 16 e) (Fin.cons k (Fin.cons j (fun a => a.elim0)))

/-- The ring filled, in every slot, with the rows of expert `e`. -/
def slotc (W : S16x3072x1408.Idx → Elt F .fp8e4m3) (e : ℕ) : S8x3072x1408.Idx → Elt F .fp8e4m3 :=
  fun i => W (wix e (i 1) (i 2))

/-- The rows a copy of length `L` touches. -/
theorem set_dst (L : ℕ) (s o : ℕ) (off : Fin 3 → ℕ) (h0 : off 0 = s) (h1 : off 1 = o) (h2 : off 2 = 0)
    (hb : ∀ a, off a + (Sw L).size a ≤ S8x3072x1408.size a) (hsq : Shape.Squeezes (Sw L) (Sf L)) :
    (((a12.slice (Rect.unit (s := S8x3072x1408) off (Sw L).size hb) (fun _ => rfl)).squeeze (Sf L) hsq).view.set
      : Finset S8x3072x1408.Idx) = rowsSet s o (o + L) := by
  show (((View.whole cc0_scratch7).slice _).reshape _ _).set = _
  rw [View.set_reshape, View.set_slice_whole]
  ext i
  rw [mem_rowsSet]
  refine Rect.mem_set_unit.trans ?_
  have e0 : (Sw L).size 0 = 1 := rfl
  have e1 : (Sw L).size 1 = L := rfl
  have e2 : (Sw L).size 2 = 1408 := rfl
  constructor
  · intro h
    have g0 := h 0; have g1 := h 1
    omega
  · intro h a
    have g2 : (i 2).val < 1408 := (i 2).isLt
    fin_cases a
    · show off 0 ≤ (i 0).val ∧ (i 0).val < off 0 + 1; omega
    · show off 1 ≤ (i 1).val ∧ (i 1).val < off 1 + L; omega
    · show off 2 ≤ (i 2).val ∧ (i 2).val < off 2 + 1408; omega

/-- What a copy leaves in the rows it touches: the expert's rows. -/
theorem val_dst (L : ℕ) (s o e : ℕ) (he : e < 16) (offd offs : Fin 3 → ℕ)
    (h0 : offd 0 = s) (h1 : offd 1 = o) (h2 : offd 2 = 0) (k0 : offs 0 = e) (k1 : offs 1 = o) (k2 : offs 2 = 0)
    (hb : ∀ a, offd a + (Sw L).size a ≤ S8x3072x1408.size a) (hb' : ∀ a, offs a + (Sw L).size a ≤ S16x3072x1408.size a)
    (hsq : Shape.Squeezes (Sw L) (Sf L))
    (W : S16x3072x1408.Idx → Elt F .fp8e4m3) (fd : S8x3072x1408.Idx → Elt F .fp8e4m3) :
    ∀ i ∈ rowsSet s o (o + L),
      (((a12.slice (Rect.unit (s := S8x3072x1408) offd (Sw L).size hb) (fun _ => rfl)).squeeze (Sf L) hsq).view.write (Elt F) fd
        ((ReadAs.same (s := Sf L) (e := .fp8e4m3)).apply (((a2.slice (Rect.unit (s := S16x3072x1408) offs (Sw L).size hb') (fun _ => rfl)).squeeze (Sf L) hsq).view.read (Elt F) W))
        Finset.univ) i = slotc W e i := by
  intro i hi
  rw [← set_dst L s o offd h0 h1 h2 hb hsq] at hi
  obtain ⟨x, -, rfl⟩ := Finset.mem_map.mp hi
  refine (View.write_emb_of_mem _ _ (Finset.mem_univ x)).trans ?_
  show W _ = W _
  congr 1
  set y : (Sw L).Idx := Shape.reshapeEquiv hsq.numel_eq x with hy
  have y0 : (y 0).val < 1 := (y 0).isLt
  refine funext fun (a : Fin 3) => Fin.ext ?_
  fin_cases a
  · show offs 0 + 1 * (y 0).val = e % 16
    omega
  · show offs 1 + 1 * (y 1).val = offd 1 + 1 * (y 1).val
    omega
  · show offs 2 + 1 * (y 2).val = offd 2 + 1 * (y 2).val
    omega

/-- The credit of one copy of `L` rows. -/
def cr (L : ℕ) : ℕ := Ref.dmaCredit (sig := sig) cc0_scratch7 (Sf L) .fp8e4m3

theorem cr_pos (L : ℕ) (hL : 0 < L) : 0 < cr L :=
  sig.dmaCredit_pos _ _ _ _ _ (Shape.numel_pos (s := Sf L) fun (a : Fin 2) => by
    fin_cases a
    · exact hL
    · show 0 < 1408; decide)

section Moves

variable (c : Dev nD) {α : Type}

/-- The counters of the transfers, inside the proof's algebra. -/
abbrev EC : UEmb Counters 𝕄 := countersEmb (U := Pipeline.UD sig nD τ)

/-- Ring rows `I` at the contents `f`. -/
abbrev pt12 (I : Finset S8x3072x1408.Idx) (f : S8x3072x1408.Idx → Elt F .fp8e4m3) : sProp 𝕄 :=
  iprop(((c : Thread nD τ).loc cc0_scratch7) ↦[(I : Finset (Idx ((c : Thread nD τ).loc cc0_scratch7)))]{fullShare} (f : Buf (Elt F) ((c : Thread nD τ).loc cc0_scratch7)))

/-- A share of the weights. -/
abbrev ptW (q : PosShare TreeShare) (I : Finset S16x3072x1408.Idx) (W : S16x3072x1408.Idx → Elt F .fp8e4m3) : sProp 𝕄 :=
  iprop(((c : Thread nD τ).loc main_arg2) ↦[(I : Finset (Idx ((c : Thread nD τ).loc main_arg2)))]{q} (W : Buf (Elt F) ((c : Thread nD τ).loc main_arg2)))

/-- A copy of rows `o … o+L` of expert `e` into slot `s`, under way on the semaphore `ss`, beside the part of the
weights' share it does not read. -/
def Piece (ss : DmaSem sig) (s o L e : ℕ) (q : PosShare TreeShare) (W : S16x3072x1408.Idx → Elt F .fp8e4m3) : sProp 𝕄 :=
  iprop(∃ Sr : Finset S16x3072x1408.Idx, ⌜Sr ⊆ Finset.univ⌝
    ∗ Transfers.Flight (EC (F := F)) (c : Thread nD τ) (.dma ss) () (cr L) iprop(pt12 (F := F) c (rowsSet s o (o + L)) (slotc W e) ∗ ptW (F := F) c q Sr W)
    ∗ ptW (F := F) c q (Finset.univ \ Sr) W)

theorem copy_start (L : ℕ) (hL : 0 < L) (ss : DmaSem sig) (s o e : ℕ) (he : e < 16) (q : PosShare TreeShare)
    (W : S16x3072x1408.Idx → Elt F .fp8e4m3) (fd : S8x3072x1408.Idx → Elt F .fp8e4m3) {offd offs : Fin 3 → ℕ}
    (h0 : offd 0 = s) (h1 : offd 1 = o) (h2 : offd 2 = 0) (k0 : offs 0 = e) (k1 : offs 1 = o) (k2 : offs 2 = 0)
    {sem : DmaSem sig} (hs : sem = ss)
    {hb : ∀ a, offd a + (Sw L).size a ≤ S8x3072x1408.size a} {hb' : ∀ a, offs a + (Sw L).size a ≤ S16x3072x1408.size a}
    {hsq hsq' : Shape.Squeezes (Sw L) (Sf L)} {hs1 hs2 hs3}
    {kk : PUnit → Prog (TpuEff nD τ sig (Elt F) Λ₀ .tc) α} {Q : α → sProp 𝕄} :
    iprop(pt12 (F := F) c (rowsSet s o (o + L)) fd ∗ ptW (F := F) c q Finset.univ W ∗ semVal ((c : Thread nD τ), SemLoc.dma ss) 0)
      ⊢ iprop((Piece c ss s o L e q W -∗ wp frame (wpE (defs₀ (F := F)) Variants.none (c : Thread nD τ) none) Set.univ (kk ⟨⟩) Q)
        -∗ wp frame (wpE (defs₀ (F := F)) Variants.none (c : Thread nD τ) none) Set.univ (Prog.lift (.enqueueDma ((a2.slice (Rect.unit (s := S16x3072x1408) offs (Sw L).size hb') (fun _ => rfl)).squeeze (Sf L) hsq')
            (.here ((a12.slice (Rect.unit (s := S8x3072x1408) offd (Sw L).size hb) (fun _ => rfl)).squeeze (Sf L) hsq)) (.dma sem) hs1 hs2 hs3) >>= kk) Q) := by
  subst hs
  have hset := set_dst L s o offd h0 h1 h2 hb hsq
  have hval := val_dst L s o e he offd offs h0 h1 h2 k0 k1 k2 hb hb' hsq W fd
  have key := Transfers.wp_dmaLocal (EC (F := F)) (defs := defs₀ (F := F)) Variants.none (c : Thread nD τ) none
    (src := (a2.slice (Rect.unit (s := S16x3072x1408) offs (Sw L).size hb') (fun _ => rfl)).squeeze (Sf L) hsq')
    (dst := (a12.slice (Rect.unit (s := S8x3072x1408) offd (Sw L).size hb) (fun _ => rfl)).squeeze (Sf L) hsq)
    (via := .same) (sm := .dma sem) (hsrc := hs1) (hdst := hs2) (hsem := hs3) (k := kk) (q := q) (fs := W) (fd := fd) (Q := Q)
    (Sd := rowsSet s o (o + L)) () (cr L) rfl (cr_pos L hL) hset.le
  iintro ⟨Hd, Hw, Hs⟩ Hk
  ihave Hw' := ((pointsTo_split_subset (Finset.subset_univ (((a2.slice (Rect.unit (s := S16x3072x1408) offs (Sw L).size hb') (fun _ => rfl)).squeeze (Sf L) hsq').view.set))).1) $$ Hw
  icases Hw' with ⟨Hw1, Hw2⟩
  iapply key $$ [Hd Hw1 Hs]
  · iframe
  iintro Hf
  iapply Hk
  unfold Piece
  iexists (((a2.slice (Rect.unit (s := S16x3072x1408) offs (Sw L).size hb') (fun _ => rfl)).squeeze (Sf L) hsq').view.set)
  isplitr
  · ipureintro; exact Finset.subset_univ _
  isplitl [Hf]
  · iapply (Transfers.Flight_mono (EC (F := F)) (c : Thread nD τ) (Entails.of_eq (by rw [pointsTo_congr hval]))) $$ Hf
  · iexact Hw2

theorem copy_wait (L : ℕ) (ss : DmaSem sig) (s o e : ℕ) (q : PosShare TreeShare)
    (W : S16x3072x1408.Idx → Elt F .fp8e4m3) {sem : DmaSem sig} (hs : sem = ss)
    {srcw : Memref sig .tc .hbm (Sf L) .fp8e4m3} {dstw : Memref sig .tc .vmem (Sf L) .fp8e4m3} (hN : dstw.view.dmaCredit = cr L) {hs1 hs2}
    {kk : PUnit → Prog (TpuEff nD τ sig (Elt F) Λ₀ .tc) α} {Q : α → sProp 𝕄} {Wt : Waits sig Unit} :
    iprop(Piece c ss s o L e q W ∗ owes (c : Thread nD τ) 0 Wt)
      ⊢ iprop((iprop(pt12 (F := F) c (rowsSet s o (o + L)) (slotc W e) ∗ ptW (F := F) c q Finset.univ W ∗ semVal ((c : Thread nD τ), SemLoc.dma ss) 0
            ∗ owes (c : Thread nD τ) 0 (insert (SemLoc.dma ss, ()) Wt)) -∗ wp frame (wpE (defs₀ (F := F)) Variants.none (c : Thread nD τ) none) Set.univ (kk ⟨⟩) Q)
        -∗ wp frame (wpE (defs₀ (F := F)) Variants.none (c : Thread nD τ) none) Set.univ (Prog.lift (.waitDma2 sem srcw dstw hs1 hs2) >>= kk) Q) := by
  subst hs
  unfold Piece
  iintro ⟨⟨%Sr, %hSr, Hf, Hw⟩, Ho⟩ Hk
  have key := Transfers.wp_waitLocal (EC (F := F)) (defs := defs₀ (F := F)) Variants.none (c : Thread nD τ) none
    (sem := sem) (srcw := srcw) (dstw := dstw) (hsrc := hs1) (hdst := hs2) (k := kk) (Q := Q) () hN
    (D := iprop(pt12 (F := F) c (rowsSet s o (o + L)) (slotc W e) ∗ ptW (F := F) c q Sr W)) (W := Wt)
  iapply key $$ [Hf Ho]
  · iframe
  iintro ⟨⟨Hd, Hw1⟩, Hs, Ho⟩
  iapply Hk
  iframe
  iapply ((pointsTo_split_subset hSr).2)
  iframe

end Moves

end Cert.KernelIdeal.Hand
-- ==== Proof.Scan.lean ====
/-
  The scan that lists the experts to stream: what the two tables hold after the first experts have been looked at, and
  the loop that fills them.
-/
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

/-! ## The list of experts -/

/-- The row the expert `k` starts at: the sizes before it added up. -/
def off (g : ℕ → ℕ) : ℕ → ℕ
  | 0 => 0
  | k + 1 => off g k + g k

theorem off_le (g : ℕ → ℕ) {i j : ℕ} (h : i ≤ j) : off g i ≤ off g j := by
  induction j with
  | zero => have : i = 0 := by omega
            subst this; exact le_refl _
  | succ j ih =>
    rcases Nat.lt_or_ge j i with h' | h'
    · have : i = j + 1 := by omega
      subst this; exact le_refl _
    · exact (ih h').trans (Nat.le_add_right _ _)

/-- After the first `k` experts: `n` of them are listed, `E` names them, `L` gives the row each starts at, and `row` is the
    row the next expert starts at. Expert 0 is always listed; any other exactly when it has rows. -/
structure Scan (g : ℕ → ℕ) (k n row : ℕ) (E L : ℕ → ℕ) : Prop where
  one : 1 ≤ n
  le : n ≤ k
  lt : ∀ j < n, E j < k
  pos : ∀ j < n, 0 < j → 0 < g (E j)
  start : ∀ j < n, L j = off g (E j)
  rowEq : row = off g k
  next : ∀ j, j + 1 < n → L (j + 1) = L j + g (E j)
  last : row = L (n - 1) + g (E (n - 1))
  first : E 0 = 0

theorem Scan.skip {g : ℕ → ℕ} {k n row : ℕ} {E L E' L' : ℕ → ℕ} (h : Scan g k n row E L) (hk : g k = 0)
    (hE : ∀ j < n, E' j = E j) (hL : ∀ j < n, L' j = L j) : Scan g (k + 1) n row E' L' where
  one := h.one
  le := h.le.trans (Nat.le_succ k)
  lt j hj := by rw [hE j hj]; have := h.lt j hj; omega
  pos j hj := by rw [hE j hj]; exact h.pos j hj
  start j hj := by rw [hE j hj, hL j hj]; exact h.start j hj
  rowEq := by rw [h.rowEq, off, hk, Nat.add_zero]
  next j hj := by rw [hE j (by omega), hL j (by omega), hL (j + 1) hj]; exact h.next j hj
  last := by have := h.one; rw [hE _ (by omega), hL _ (by omega)]; exact h.last
  first := by rw [hE 0 h.one]; exact h.first

theorem Scan.push {g : ℕ → ℕ} {k n row : ℕ} {E L E' L' : ℕ → ℕ} (h : Scan g k n row E L) (hk : 0 < g k)
    (hE : ∀ j < n, E' j = E j) (hL : ∀ j < n, L' j = L j) (hEn : E' n = k) (hLn : L' n = row) :
    Scan g (k + 1) (n + 1) (row + g k) E' L' where
  one := by have := h.one; omega
  le := by have := h.le; omega
  lt j hj := by
    rcases Nat.lt_or_ge j n with h' | h'
    · rw [hE j h']; have := h.lt j h'; omega
    · have : j = n := by omega
      subst this; omega
  pos j hj h0 := by
    rcases Nat.lt_or_ge j n with h' | h'
    · rw [hE j h']; exact h.pos j h' h0
    · have : j = n := by omega
      subst this; rw [hEn]; exact hk
  start j hj := by
    rcases Nat.lt_or_ge j n with h' | h'
    · rw [hE j h', hL j h']; exact h.start j h'
    · have : j = n := by omega
      subst this; rw [hEn, hLn]; exact h.rowEq
  rowEq := by rw [h.rowEq, off]
  next j hj := by
    rcases Nat.lt_or_ge (j + 1) n with h' | h'
    · rw [hE j (by omega), hL j (by omega), hL (j + 1) h']; exact h.next j h'
    · have : j + 1 = n := by omega
      rw [this, hLn, hE j (by omega), hL j (by omega), h.last]
      have : n - 1 = j := by omega
      rw [this]
  last := by rw [Nat.add_sub_cancel, hEn, hLn]
  first := by rw [hE 0 h.one]; exact h.first

/-! ## The loop -/

theorem trips1 : k0_t1_loop.trips = 15 := by decide

theorem off1_eq (k : Fin k0_t1_loop.trips) : k0_off1 k 0 = k.val + 1 := by revert k; decide +kernel

theorem iv1_eq (k : Fin k0_t1_loop.trips) : Scf.iv 1#32 1#32 k = BitVec.ofNat 32 (k.val + 1) := by revert k; decide +kernel

theorem cond1_eq (v : ℕ) (h : v ≤ 192) : (k0_cond1 (BitVec.ofNat 32 v) = 1#1) ↔ 0 < v := by
  have : ∀ v : Fin 193, (k0_cond1 (BitVec.ofNat 32 v.val) = 1#1) ↔ 0 < v.val := by decide +kernel
  exact this ⟨v, by omega⟩

theorem sgt_eq (v : ℕ) (h : v ≤ 192) : Scalar.extui  (Scalar.cmpi .sgt (BitVec.ofNat 32 v) 0#32) = BitVec.ofNat 32 (if 0 < v then 1 else 0) := by
  have : ∀ v : Fin 193, Scalar.extui  (Scalar.cmpi .sgt (BitVec.ofNat 32 v.val) 0#32) = BitVec.ofNat 32 (if 0 < v.val then 1 else 0) := by decide +kernel
  exact this ⟨v, by omega⟩

theorem addi_eq (a b : ℕ) : Scalar.addi (BitVec.ofNat 32 a) (BitVec.ofNat 32 b) = BitVec.ofNat 32 (a + b) := by
  exact (BitVec.ofNat_add ..).symm

theorem off2_eq (n : ℕ) (h : n < 16) : k0_off2 (BitVec.ofNat 32 n) 0 = n := by
  have : ∀ n : Fin 16, k0_off2 (BitVec.ofNat 32 n.val) 0 = n.val := by decide +kernel
  exact this ⟨n, h⟩

/-- What the loop keeps: the tables describe the experts looked at so far. -/
def scanInv (c : Dev nD) (G : S16.Idx → BitVec 32) (k : ℕ) (acc : BitVec 32 × Elt F .i32) : sProp 𝕄 :=
  iprop(∃ (n row : ℕ) (fE fL : S16.Idx → BitVec 32), ⌜acc = (BitVec.ofNat 32 n, BitVec.ofNat 32 row)
      ∧ Scan (wd G) (k + 1) n row (wd fE) (wd fL)⌝
    ∗ pt5 (F := F) c G ∗ pt6 (F := F) c fE ∗ pt7 (F := F) c fL)

theorem scan_trip (c : Dev nD) (G : S16.Idx → BitVec 32) (hG : off (wd G) 16 ≤ 192) (k : Fin k0_t1_loop.trips) (acc : BitVec 32 × Elt F .i32) :
    scanInv (F := F) c G k.val acc ⊢ wp frame (wpE (defs₀ (F := F)) Variants.none (c : Thread nD τ) none) Set.univ
      (k0_t1_body a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 k acc)
      (scanInv c G (k.val + 1)) := by
  have hk : k.val < 15 := by have := k.isLt; have := trips1; omega
  have hg : wd G (k.val + 1) ≤ 192 := by
    have h1 := off_le (wd G) (show k.val + 2 ≤ 16 by omega)
    have h2 : off (wd G) (k.val + 2) = off (wd G) (k.val + 1) + wd G (k.val + 1) := rfl
    omega
  unfold scanInv k0_t1_body
  iintro ⟨%n, %row, %fE, %fL, %h, H5, H6, H7⟩
  obtain ⟨rfl, hs⟩ := h
  have hn : n < 16 := by have := hs.le; omega
  iapply (rd5 c G (k.val + 1) (off1_eq k) (by omega)) $$ H5
  iintro H5
  iapply (asm c (fun hc => by
    intro a
    have h0 := off2_eq n hn
    have ha : a = 0 := Subsingleton.elim _ _
    have h1 : S1.size 0 = 1 := rfl
    have h2 : S16.size 0 = 16 := rfl
    subst ha; omega))
  by_cases hc : 0 < wd G (k.val + 1)
  · sl_rw [dif_pos ((cond1_eq _ hg).mpr hc)]
    iapply (rd6 c fE n (off2_eq n hn) hn) $$ H6
    iintro H6
    iapply (st6 c fE n _ (off2_eq n hn)) $$ H6
    iintro H6
    iapply (rd7 c fL n (off2_eq n hn) hn) $$ H7
    iintro H7
    iapply (st7 c fL n _ (off2_eq n hn)) $$ H7
    iintro H7
    iapply (ret c _)
    iexists (n + 1), (row + wd G (k.val + 1)), (setw fE n (Scf.iv 1#32 1#32 k)), (setw fL n (BitVec.ofNat 32 row))
    isplitr
    · ipureintro
      refine ⟨by rw [sgt_eq _ hg, addi_eq, addi_eq, if_pos hc], hs.push hc (fun j hj => wd_setw_ne _ _ _ _ (by omega) (by omega)) (fun j hj => wd_setw_ne _ _ _ _ (by omega) (by omega)) ?_ ?_⟩
      · rw [wd_setw_self _ _ _ hn, iv1_eq, BitVec.toNat_ofNat]; omega
      · have h1 := off_le (wd G) (show k.val + 1 ≤ 16 by omega)
        rw [wd_setw_self _ _ _ hn, BitVec.toNat_ofNat]; have := hs.rowEq; omega
    iframe
  · sl_rw [dif_neg (fun h => hc ((cond1_eq _ hg).mp h))]
    iapply (ret c _)
    iexists n, (row + wd G (k.val + 1)), fE, fL
    isplitr
    · ipureintro
      refine ⟨by rw [sgt_eq _ hg, addi_eq, addi_eq, if_neg hc]; rfl, ?_⟩
      have h0 : wd G (k.val + 1) = 0 := by omega
      rw [h0, Nat.add_zero]
      exact hs.skip h0 (fun _ _ => rfl) (fun _ _ => rfl)
    iframe

end Cert.KernelIdeal.Hand
-- ==== Proof.Ring.lean ====
/-
  The ring of weight slots: which copies are under way when, and how one more is started or one finished.
-/
module

public import proofs.«01_k».proof.Proof.Copy
public import proofs.«01_k».proof.Proof.Scan

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

/-- The semaphore of the head copy into slot `s`, of the rest copy into slot `s`, and of the `k`-th last copy. -/
def hd (s : ℕ) : DmaSem sig := Fin.ofNat 23 (3 + s)
def rs (s : ℕ) : DmaSem sig := Fin.ofNat 23 (11 + s)
def ls (k : ℕ) : DmaSem sig := Fin.ofNat 23 (19 + k)

theorem sem_hd (off : Fin 1 → ℕ) (s : ℕ) (h : off 0 = s) (hb : ∀ a, off a + S1.size a ≤ S8.size a) :
    ((cc0_scratch11.slice (Rect.unit (s := S8) off S1.size hb)).squeeze S_ squeezes_S1_S_).sem = hd s := by
  obtain rfl : off = ![s] := funext fun (a : Fin 1) => by fin_cases a; exact h
  have hs : s < 8 := by have := hb 0; have h1 : S1.size 0 = 1 := rfl; have h8 : S8.size 0 = 8 := rfl; have h2 : (![s] : Fin 1 → ℕ) 0 = s := rfl; omega
  have : ∀ s : Fin 8, ∀ hb, ((cc0_scratch11.slice (Rect.unit (s := S8) ![s.val] S1.size hb)).squeeze S_ squeezes_S1_S_).sem = hd s.val := by
    decide +kernel
  exact this ⟨s, hs⟩ hb

theorem sem_rs (off : Fin 1 → ℕ) (s : ℕ) (h : off 0 = s) (hb : ∀ a, off a + S1.size a ≤ S8.size a) :
    ((cc0_scratch12.slice (Rect.unit (s := S8) off S1.size hb)).squeeze S_ squeezes_S1_S_).sem = rs s := by
  obtain rfl : off = ![s] := funext fun (a : Fin 1) => by fin_cases a; exact h
  have hs : s < 8 := by have := hb 0; have h1 : S1.size 0 = 1 := rfl; have h8 : S8.size 0 = 8 := rfl; have h2 : (![s] : Fin 1 → ℕ) 0 = s := rfl; omega
  have : ∀ s : Fin 8, ∀ hb, ((cc0_scratch12.slice (Rect.unit (s := S8) ![s.val] S1.size hb)).squeeze S_ squeezes_S1_S_).sem = rs s.val := by
    decide +kernel
  exact this ⟨s, hs⟩ hb

theorem sem_ls0 : ((cc0_scratch13.slice (Rect.unit (s := S3) ![0] S1.size inb_S3_S1_0)).squeeze S_ squeezes_S1_S_).sem = ls 0 := by decide +kernel
theorem sem_ls1 : ((cc0_scratch13.slice (Rect.unit (s := S3) ![1] S1.size inb_S3_S1_1)).squeeze S_ squeezes_S1_S_).sem = ls 1 := by decide +kernel
theorem sem_ls2 : ((cc0_scratch13.slice (Rect.unit (s := S3) ![2] S1.size inb_S3_S1_2)).squeeze S_ squeezes_S1_S_).sem = ls 2 := by decide +kernel

/-- The share of the weights lent to each kind of copy. -/
def tH (s : ℕ) : PosShare TreeShare := Transfers.shareTokN fullShare s
def tR (s : ℕ) : PosShare TreeShare := Transfers.shareTokN fullShare (8 + s)
def tL (k : ℕ) : PosShare TreeShare := Transfers.shareTokN fullShare (16 + k)

section

variable (c : Dev nD) (W : S16x3072x1408.Idx → Elt F .fp8e4m3)

/-- The first half of slot `s`, idle. -/
def Hfree (s : ℕ) : sProp 𝕄 :=
  iprop(∃ f, pt12 (F := F) c (rowsSet s 0 1536) f ∗ ptW (F := F) c (tH s) Finset.univ W ∗ semVal ((c : Thread nD τ), SemLoc.dma (hd s)) 0)

/-- The second half of slot `s`, idle. -/
def Rfree (s : ℕ) : sProp 𝕄 :=
  iprop(∃ f, pt12 (F := F) c (rowsSet s 1536 3072) f ∗ ptW (F := F) c (tR s) Finset.univ W ∗ semVal ((c : Thread nD τ), SemLoc.dma (rs s)) 0)

/-- The three last copies' semaphores, idle. -/
def Lfree : sProp 𝕄 :=
  iprop((ptW (F := F) c (tL 0) Finset.univ W ∗ semVal ((c : Thread nD τ), SemLoc.dma (ls 0)) 0)
    ∗ (ptW (F := F) c (tL 1) Finset.univ W ∗ semVal ((c : Thread nD τ), SemLoc.dma (ls 1)) 0)
    ∗ (ptW (F := F) c (tL 2) Finset.univ W ∗ semVal ((c : Thread nD τ), SemLoc.dma (ls 2)) 0))

/-- The second half of slot `s` coming in as the last expert's three pieces. -/
def Lfly (s e : ℕ) : sProp 𝕄 :=
  iprop(Piece c (ls 0) s 1536 768 e (tL 0) W ∗ Piece c (ls 1) s 2304 512 e (tL 1) W ∗ Piece c (ls 2) s 2816 256 e (tL 2) W
    ∗ ptW (F := F) c (tR s) Finset.univ W ∗ semVal ((c : Thread nD τ), SemLoc.dma (rs s)) 0)

/-- Expert number `j` of the list on its way into its slot. -/
def Job (g E : ℕ → ℕ) (last j : ℕ) : sProp 𝕄 :=
  iprop(Piece c (hd (j % 8)) (j % 8) 0 1536 (E j) (tH (j % 8)) W
    ∗ (if j = last then Lfly c W (j % 8) (E j) else if g (E j) = 0 then Rfree c W (j % 8)
        else Piece c (rs (j % 8)) (j % 8) 1536 1536 (E j) (tR (j % 8)) W))

/-- The slot of number `j`, when the first `b` experts of the list have been started. -/
def Cell (g E : ℕ → ℕ) (last b j : ℕ) : sProp 𝕄 :=
  if j < b then Job c W g E last j else iprop(Hfree c W (j % 8) ∗ Rfree c W (j % 8))

/-- The last copies' semaphores, when the first `b` experts have been started. -/
def Lrem (last b : ℕ) : sProp 𝕄 := if last < b then iprop(emp) else Lfree c W

/-- The slots of the numbers in `S`. -/
def Ring (g E : ℕ → ℕ) (last b : ℕ) (S : Finset ℕ) : sProp 𝕄 := bigSep S (Cell c W g E last b)

theorem Ring_insert {g E : ℕ → ℕ} {last b j : ℕ} {S T : Finset ℕ} (hj : j ∉ S) (hT : T = insert j S) :
    Ring c W g E last b T = iprop(Cell c W g E last b j ∗ Ring c W g E last b S) := by
  subst hT
  exact BI.bigSep_insert hj

theorem Ring_congr {g E : ℕ → ℕ} {last b b' : ℕ} {S : Finset ℕ} (h : ∀ j ∈ S, j < b ↔ j < b') :
    Ring c W g E last b S = Ring c W g E last b' S := by
  unfold Ring
  refine BI.bigSep_congr fun j hj => ?_
  unfold Cell
  by_cases hb : j < b
  · rw [if_pos hb, if_pos ((h j hj).mp hb)]
  · rw [if_neg hb, if_neg fun h' => hb ((h j hj).mpr h')]

theorem Cell_job {g E : ℕ → ℕ} {last b j : ℕ} (h : j < b) : Cell c W g E last b j = Job c W g E last j := if_pos h
theorem Cell_free {g E : ℕ → ℕ} {last b j : ℕ} (h : b ≤ j) :
    Cell c W g E last b j = iprop(Hfree c W (j % 8) ∗ Rfree c W (j % 8)) := if_neg (by omega)
theorem Lrem_free {last b : ℕ} (h : b ≤ last) : Lrem c W last b = Lfree c W := if_neg (by omega)
theorem Lrem_gone {last b : ℕ} (h : last < b) : Lrem c W last b = iprop(emp) := if_pos h

end

end Cert.KernelIdeal.Hand
-- ==== Proof.PreWords.lean ====
/-
  The words of the loop that fills the ring, and of the first expert's start: the offsets, the tests and the bounds
  they stand for.
-/
module

public import proofs.«01_k».proof.Proof.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

theorem trips2 (n : ℕ) (h1 : 1 ≤ n) (h : n ≤ 16) : (k0_t2_loop (BitVec.ofNat 32 n)).trips = min n 8 - 1 := by
  have : ∀ n : Fin 17, 1 ≤ n.val → (k0_t2_loop (BitVec.ofNat 32 n.val)).trips = min n.val 8 - 1 := by decide +kernel
  exact this ⟨n, by omega⟩ h1

theorem trips3 (n : ℕ) (h1 : 1 ≤ n) (h : n ≤ 16) : (k0_t3_loop (BitVec.ofNat 32 n)).trips = 0 := by
  have : ∀ n : Fin 17, 1 ≤ n.val → (k0_t3_loop (BitVec.ofNat 32 n.val)).trips = 0 := by decide +kernel
  exact this ⟨n, by omega⟩ h1

/-- The words of the filling loop's trip `t`: all of them at once, for every length of the list. -/
structure W2 (n t : ℕ) (k : Fin (k0_t2_loop (BitVec.ofNat 32 n)).trips) : Prop where
  o7 : k0_off7 (BitVec.ofNat 32 n) k 0 = t + 1
  o8 : k0_off8 (BitVec.ofNat 32 n) k 0 = t + 1
  o9 : k0_off9 (BitVec.ofNat 32 n) k 0 = t + 1 ∧ k0_off9 (BitVec.ofNat 32 n) k 1 = 0 ∧ k0_off9 (BitVec.ofNat 32 n) k 2 = 0
  o11 : k0_off11 (BitVec.ofNat 32 n) k 0 = t + 1
  o12 : k0_off12 (BitVec.ofNat 32 n) k 0 = t + 1
  o13 : k0_off13 (BitVec.ofNat 32 n) k 0 = t + 1 ∧ k0_off13 (BitVec.ofNat 32 n) k 1 = 1536 ∧ k0_off13 (BitVec.ofNat 32 n) k 2 = 0
  o15 : k0_off15 (BitVec.ofNat 32 n) k 0 = t + 1 ∧ k0_off15 (BitVec.ofNat 32 n) k 1 = 1536 ∧ k0_off15 (BitVec.ofNat 32 n) k 2 = 0
  o17 : k0_off17 (BitVec.ofNat 32 n) k 0 = t + 1 ∧ k0_off17 (BitVec.ofNat 32 n) k 1 = 2304 ∧ k0_off17 (BitVec.ofNat 32 n) k 2 = 0
  o19 : k0_off19 (BitVec.ofNat 32 n) k 0 = t + 1 ∧ k0_off19 (BitVec.ofNat 32 n) k 1 = 2816 ∧ k0_off19 (BitVec.ofNat 32 n) k 2 = 0
  c5 : k0_cond5 (BitVec.ofNat 32 n) k = 1#1 ↔ t + 1 < n - 1
  c6 : k0_cond6 (BitVec.ofNat 32 n) k = 1#1 ↔ t + 1 = n - 1

theorem w2 (n : ℕ) (h1 : 1 ≤ n) (h : n ≤ 16) (k : Fin (k0_t2_loop (BitVec.ofNat 32 n)).trips) : W2 n k.val k := by
  have a : ∀ n : Fin 17, 1 ≤ n.val → ∀ k : Fin (k0_t2_loop (BitVec.ofNat 32 n.val)).trips,
      k0_off7 (BitVec.ofNat 32 n.val) k 0 = k.val + 1 ∧ k0_off8 (BitVec.ofNat 32 n.val) k 0 = k.val + 1
      ∧ (k0_off9 (BitVec.ofNat 32 n.val) k 0 = k.val + 1 ∧ k0_off9 (BitVec.ofNat 32 n.val) k 1 = 0 ∧ k0_off9 (BitVec.ofNat 32 n.val) k 2 = 0)
      ∧ k0_off11 (BitVec.ofNat 32 n.val) k 0 = k.val + 1 ∧ k0_off12 (BitVec.ofNat 32 n.val) k 0 = k.val + 1 := by decide +kernel
  have b : ∀ n : Fin 17, 1 ≤ n.val → ∀ k : Fin (k0_t2_loop (BitVec.ofNat 32 n.val)).trips,
      (k0_off13 (BitVec.ofNat 32 n.val) k 0 = k.val + 1 ∧ k0_off13 (BitVec.ofNat 32 n.val) k 1 = 1536 ∧ k0_off13 (BitVec.ofNat 32 n.val) k 2 = 0)
      ∧ (k0_off15 (BitVec.ofNat 32 n.val) k 0 = k.val + 1 ∧ k0_off15 (BitVec.ofNat 32 n.val) k 1 = 1536 ∧ k0_off15 (BitVec.ofNat 32 n.val) k 2 = 0)
      ∧ (k0_off17 (BitVec.ofNat 32 n.val) k 0 = k.val + 1 ∧ k0_off17 (BitVec.ofNat 32 n.val) k 1 = 2304 ∧ k0_off17 (BitVec.ofNat 32 n.val) k 2 = 0)
      ∧ (k0_off19 (BitVec.ofNat 32 n.val) k 0 = k.val + 1 ∧ k0_off19 (BitVec.ofNat 32 n.val) k 1 = 2816 ∧ k0_off19 (BitVec.ofNat 32 n.val) k 2 = 0) := by
    decide +kernel
  have d : ∀ n : Fin 17, 1 ≤ n.val → ∀ k : Fin (k0_t2_loop (BitVec.ofNat 32 n.val)).trips,
      (k0_cond5 (BitVec.ofNat 32 n.val) k = 1#1 ↔ k.val + 1 < n.val - 1) ∧ (k0_cond6 (BitVec.ofNat 32 n.val) k = 1#1 ↔ k.val + 1 = n.val - 1) := by
    decide +kernel
  obtain ⟨a1, a2, a3, a4, a5⟩ := a ⟨n, by omega⟩ h1 k
  obtain ⟨b1, b2, b3, b4⟩ := b ⟨n, by omega⟩ h1 k
  obtain ⟨d1, d2⟩ := d ⟨n, by omega⟩ h1 k
  exact ⟨a1, a2, a3, a4, a5, b1, b2, b3, b4, d1, d2⟩

/-! ## The windows of the weights are whole words -/

theorem ww1536 (e : ℕ) (he : e < 16) (off : Fin 3 → ℕ) (o : ℕ) (ho : o = 0 ∨ o = 1536) (h : off = ![e, o, 0])
    (hinb : ∀ a, off a + S1x1536x1408.size a ≤ S16x3072x1408.size a) :
    (Rect.unit (s := S16x3072x1408) off S1x1536x1408.size hinb).WholeWords (EltTy.packing .fp8e4m3) := by
  subst h
  have a : ∀ e : Fin 16, ∀ hinb, (Rect.unit (s := S16x3072x1408) ![e.val, 0, 0] S1x1536x1408.size hinb).WholeWords (EltTy.packing .fp8e4m3) := by decide +kernel
  have b : ∀ e : Fin 16, ∀ hinb, (Rect.unit (s := S16x3072x1408) ![e.val, 1536, 0] S1x1536x1408.size hinb).WholeWords (EltTy.packing .fp8e4m3) := by decide +kernel
  rcases ho with rfl | rfl
  · exact a ⟨e, he⟩ hinb
  · exact b ⟨e, he⟩ hinb

theorem ww768 (e : ℕ) (he : e < 16) (hinb : ∀ a, (![e, 1536, 0] : Fin 3 → ℕ) a + S1x768x1408.size a ≤ S16x3072x1408.size a) :
    (Rect.unit (s := S16x3072x1408) ![e, 1536, 0] S1x768x1408.size hinb).WholeWords (EltTy.packing .fp8e4m3) := by
  have a : ∀ e : Fin 16, ∀ hinb, (Rect.unit (s := S16x3072x1408) ![e.val, 1536, 0] S1x768x1408.size hinb).WholeWords (EltTy.packing .fp8e4m3) := by decide +kernel
  exact a ⟨e, he⟩ hinb

theorem ww512 (e : ℕ) (he : e < 16) (hinb : ∀ a, (![e, 2304, 0] : Fin 3 → ℕ) a + S1x512x1408.size a ≤ S16x3072x1408.size a) :
    (Rect.unit (s := S16x3072x1408) ![e, 2304, 0] S1x512x1408.size hinb).WholeWords (EltTy.packing .fp8e4m3) := by
  have a : ∀ e : Fin 16, ∀ hinb, (Rect.unit (s := S16x3072x1408) ![e.val, 2304, 0] S1x512x1408.size hinb).WholeWords (EltTy.packing .fp8e4m3) := by decide +kernel
  exact a ⟨e, he⟩ hinb

theorem ww256 (e : ℕ) (he : e < 16) (hinb : ∀ a, (![e, 2816, 0] : Fin 3 → ℕ) a + S1x256x1408.size a ≤ S16x3072x1408.size a) :
    (Rect.unit (s := S16x3072x1408) ![e, 2816, 0] S1x256x1408.size hinb).WholeWords (EltTy.packing .fp8e4m3) := by
  have a : ∀ e : Fin 16, ∀ hinb, (Rect.unit (s := S16x3072x1408) ![e.val, 2816, 0] S1x256x1408.size hinb).WholeWords (EltTy.packing .fp8e4m3) := by decide +kernel
  exact a ⟨e, he⟩ hinb

theorem inb3 (e o L : ℕ) (he : e < 16) (ho : o + L ≤ 3072) : ∀ a, (![e, o, 0] : Fin 3 → ℕ) a + (Sw L).size a ≤ S16x3072x1408.size a := by
  intro a
  have s0 : S16x3072x1408.size 0 = 16 := rfl
  have s1 : S16x3072x1408.size 1 = 3072 := rfl
  fin_cases a
  · show e + 1 ≤ 16; omega
  · show o + L ≤ 3072; omega
  · show 0 + 1408 ≤ 1408; omega

theorem toNat16 (e : ℕ) (he : e < 16) : (BitVec.ofNat 32 e).toNat = e := by rw [BitVec.toNat_ofNat]; omega

/-- A window of the weights at an expert the list names. -/
theorem wnat (e o : ℕ) (he : e < 16) : (![(BitVec.ofNat 32 e).toNat, o, 0] : Fin 3 → ℕ) = ![e, o, 0] := by rw [toNat16 e he]

theorem chk4_ok (e : ℕ) (he : e < 16) : k0_chk4 (BitVec.ofNat 32 e) := by
  have h : k0_off10 (BitVec.ofNat 32 e) = ![e, 0, 0] := wnat e 0 he
  refine ⟨?_, fun hinb => ww1536 e he _ 0 (.inl rfl) h hinb⟩
  rw [h]; exact inb3 e 0 1536 he (by omega)

theorem chk5_ok (n : ℕ) (k : Fin (k0_t2_loop (BitVec.ofNat 32 n)).trips) (e : ℕ) (he : e < 16) : k0_chk5 (BitVec.ofNat 32 n) k (BitVec.ofNat 32 e) := by
  have h1 : k0_off14 (BitVec.ofNat 32 e) = ![e, 1536, 0] := wnat e 1536 he
  have h2 : k0_off16 (BitVec.ofNat 32 e) = ![e, 1536, 0] := wnat e 1536 he
  have h3 : k0_off18 (BitVec.ofNat 32 e) = ![e, 2304, 0] := wnat e 2304 he
  have h4 : k0_off20 (BitVec.ofNat 32 e) = ![e, 2816, 0] := wnat e 2816 he
  unfold k0_chk5
  rw [h1, h2, h3, h4]
  exact ⟨fun _ => inb3 e 1536 1536 he (by omega), fun _ hinb => ww1536 e he _ 1536 (.inr rfl) rfl hinb,
    fun _ => inb3 e 1536 768 he (by omega), fun _ hinb => ww768 e he hinb,
    fun _ => inb3 e 2304 512 he (by omega), fun _ hinb => ww512 e he hinb,
    fun _ => inb3 e 2816 256 he (by omega), fun _ hinb => ww256 e he hinb⟩

/-! ## The first expert -/

theorem cond2_eq (n g : ℕ) (h1 : 1 ≤ n) (h : n ≤ 16) (hg : g ≤ 192) :
    k0_cond2 (BitVec.ofNat 32 n) (BitVec.ofNat 32 g) = 1#1 ↔ 0 < g ∨ n = 1 := by
  have : ∀ n : Fin 17, ∀ g : Fin 193, 1 ≤ n.val → (k0_cond2 (BitVec.ofNat 32 n.val) (BitVec.ofNat 32 g.val) = 1#1 ↔ 0 < g.val ∨ n.val = 1) := by decide +kernel
  exact this ⟨n, by omega⟩ ⟨g, by omega⟩ h1

theorem cond3_eq (n : ℕ) (h1 : 1 ≤ n) (h : n ≤ 16) : k0_cond3 (BitVec.ofNat 32 n) = 1#1 ↔ 0 < n - 1 := by
  have : ∀ n : Fin 17, 1 ≤ n.val → (k0_cond3 (BitVec.ofNat 32 n.val) = 1#1 ↔ 0 < n.val - 1) := by decide +kernel
  exact this ⟨n, by omega⟩ h1

theorem cond4_eq (n : ℕ) (h1 : 1 ≤ n) (h : n ≤ 16) : k0_cond4 (BitVec.ofNat 32 n) = 1#1 ↔ 0 = n - 1 := by
  have : ∀ n : Fin 17, 1 ≤ n.val → (k0_cond4 (BitVec.ofNat 32 n.val) = 1#1 ↔ 0 = n.val - 1) := by decide +kernel
  exact this ⟨n, by omega⟩ h1

theorem chk2_ok (a b : BitVec 32) (e : ℕ) (he : e < 16) : k0_chk2 a b (BitVec.ofNat 32 e) := by
  have h1 : k0_off3 (BitVec.ofNat 32 e) = ![e, 1536, 0] := wnat e 1536 he
  have h2 : k0_off4 (BitVec.ofNat 32 e) = ![e, 1536, 0] := wnat e 1536 he
  have h3 : k0_off5 (BitVec.ofNat 32 e) = ![e, 2304, 0] := wnat e 2304 he
  have h4 : k0_off6 (BitVec.ofNat 32 e) = ![e, 2816, 0] := wnat e 2816 he
  unfold k0_chk2
  rw [h1, h2, h3, h4]
  exact ⟨fun _ _ => inb3 e 1536 1536 he (by omega), fun _ _ hinb => ww1536 e he _ 1536 (.inr rfl) rfl hinb,
    fun _ _ => inb3 e 1536 768 he (by omega), fun _ _ hinb => ww768 e he hinb,
    fun _ _ => inb3 e 2304 512 he (by omega), fun _ _ hinb => ww512 e he hinb,
    fun _ _ => inb3 e 2816 256 he (by omega), fun _ _ hinb => ww256 e he hinb⟩

end Cert.KernelIdeal.Hand
-- ==== Proof.Prefill.lean ====
/-
  The loop that fills the ring: each trip starts the next expert of the list in the next free slot.
-/
module

public import proofs.«01_k».proof.Proof.PreWords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

section

variable (c : Dev nD) (W : S16x3072x1408.Idx → Elt F .fp8e4m3)

theorem Rfree_split (s : ℕ) (f : S8x3072x1408.Idx → Elt F .fp8e4m3) :
    pt12 (F := F) c (rowsSet s 1536 3072) f
      ⊢ iprop(pt12 (F := F) c (rowsSet s 1536 (1536 + 768)) f ∗ pt12 (F := F) c (rowsSet s 2304 (2304 + 512)) f ∗ pt12 (F := F) c (rowsSet s 2816 (2816 + 256)) f) := by
  have h1 : rowsSet s 1536 3072 = rowsSet s 1536 (1536 + 768) ∪ (rowsSet s 2304 (2304 + 512) ∪ rowsSet s 2816 (2816 + 256)) := by
    ext i; simp only [Finset.mem_union, mem_rowsSet]; omega
  have d1 : Disjoint (rowsSet s 1536 (1536 + 768)) (rowsSet s 2304 (2304 + 512) ∪ rowsSet s 2816 (2816 + 256)) := by
    rw [Finset.disjoint_left]; intro i; simp only [Finset.mem_union, mem_rowsSet]; omega
  have d2 : Disjoint (rowsSet s 2304 (2304 + 512)) (rowsSet s 2816 (2816 + 256)) := by
    rw [Finset.disjoint_left]; intro i; simp only [mem_rowsSet]; omega
  rw [h1]
  iintro H
  ihave H' := (pointsTo_union d1).1 $$ H
  icases H' with ⟨H1, H⟩
  ihave H' := (pointsTo_union d2).1 $$ H
  icases H' with ⟨H2, H3⟩
  iframe

/-- What the filling loop keeps. -/
def preInv (fE : S16.Idx → BitVec 32) (g : ℕ → ℕ) (n : ℕ) (k : ℕ) : sProp 𝕄 :=
  iprop(pt6 (F := F) c fE ∗ Ring c W g (wd fE) (n - 1) (k + 1) (Finset.range 8) ∗ Lrem c W (n - 1) (k + 1))

theorem pre_part (fE : S16.Idx → BitVec 32) (g : ℕ → ℕ) (n : ℕ) (h1 : 1 ≤ n) (hn : n ≤ 16)
    (hE : ∀ j < n, wd fE j < 16) (hpos : ∀ j < n, 0 < j → 0 < g (wd fE j)) (hw3 : k0_chk3 (BitVec.ofNat 32 n)) (v19 : BitVec 32)
    (k : Fin (k0_t2_loop (BitVec.ofNat 32 n)).trips) :
    preInv (F := F) c W fE g n k.val ⊢ wp frame (wpE (defs₀ (F := F)) Variants.none (c : Thread nD τ) none) Set.univ
      (k0_part1 a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 v19 1#32 1#32 k) (fun _ => preInv c W fE g n (k.val + 1)) := by
  have hk : k.val + 1 < min n 8 := by have := k.isLt; have := trips2 n h1 hn; omega
  have w := w2 n h1 hn k
  have he : wd fE (k.val + 1) < 16 := hE _ (by omega)
  have hmod : (k.val + 1) % 8 = k.val + 1 := by omega
  have hins : Finset.range 8 = insert (k.val + 1) ((Finset.range 8).erase (k.val + 1)) := by
    rw [Finset.insert_erase]; simp; omega
  unfold preInv
  rw [Ring_insert c W (Finset.notMem_erase _ _) hins, Cell_free c W (le_refl _), hmod]
  rw [Ring_insert c W (b := k.val + 1 + 1) (Finset.notMem_erase _ _) hins, Cell_job c W (Nat.lt_succ_self _)]
  rw [Ring_congr c W (b := k.val + 1) (b' := k.val + 1 + 1) (S := (Finset.range 8).erase (k.val + 1)) (by intro j hj; have := Finset.ne_of_mem_erase hj; omega)]
  unfold Job Hfree
  rw [hmod, k0_part1_eq_skeleton]
  unfold k0_part1_skel
  by_cases hl : k.val + 1 = n - 1
  · rw [if_pos hl, Lrem_free c W (show k.val + 1 ≤ n - 1 by omega), Lrem_gone c W (show n - 1 < k.val + 1 + 1 by omega)]
    unfold Lfree Lfly Rfree
    iintro ⟨H6, ⟨⟨⟨%f1, Hd1, Hw1, Hs1⟩, HF⟩, HR⟩, HL⟩
    iapply (rd6 c fE (k.val + 1) w.o7 (by omega)) $$ H6
    iintro H6
    iapply (asm c (chk4_ok _ he))
    iapply (copy_start c 1536 (by decide) (hd (k.val + 1)) (k.val + 1) 0 (wd fE (k.val + 1)) he (tH (k.val + 1)) W f1
      w.o9.1 w.o9.2.1 w.o9.2.2 (toNat16 _ he) rfl rfl (sem_hd _ _ w.o8 _)) $$ [Hd1 Hw1 Hs1]
    · iframe
    iintro HP
    iapply (rd6 c fE (k.val + 1) w.o11 (by omega)) $$ H6
    iintro H6
    iapply (asm c (chk5_ok n k _ he))
    sl_rw [dif_neg (fun h => absurd (w.c5.mp h) (by omega))]
    sl_rw [dif_pos (w.c6.mpr hl)]
    icases HF with ⟨%f2, Hd2, Hw2, Hs2⟩
    icases HL with ⟨⟨Ht0, Hm0⟩, ⟨Ht1, Hm1⟩, ⟨Ht2, Hm2⟩⟩
    ihave Hd' := (Rfree_split c _ _) $$ Hd2
    icases Hd' with ⟨Hp0, Hp1, Hp2⟩
    iapply (copy_start c 768 (by decide) (ls 0) (k.val + 1) 1536 (wd fE (k.val + 1)) he (tL 0) W f2
      w.o15.1 w.o15.2.1 w.o15.2.2 (toNat16 _ he) rfl rfl sem_ls0) $$ [Hp0 Ht0 Hm0]
    · iframe
    iintro HQ0
    iapply (copy_start c 512 (by decide) (ls 1) (k.val + 1) 2304 (wd fE (k.val + 1)) he (tL 1) W f2
      w.o17.1 w.o17.2.1 w.o17.2.2 (toNat16 _ he) rfl rfl sem_ls1) $$ [Hp1 Ht1 Hm1]
    · iframe
    iintro HQ1
    iapply (copy_start c 256 (by decide) (ls 2) (k.val + 1) 2816 (wd fE (k.val + 1)) he (tL 2) W f2
      w.o19.1 w.o19.2.1 w.o19.2.2 (toNat16 _ he) rfl rfl sem_ls2) $$ [Hp2 Ht2 Hm2]
    · iframe
    iintro HQ2
    iapply (ret c _)
    iframe
  · have hg := hpos (k.val + 1) (by omega) (by omega)
    rw [if_neg hl, if_neg (by omega), Lrem_free c W (show k.val + 1 ≤ n - 1 by omega), Lrem_free c W (show k.val + 1 + 1 ≤ n - 1 by omega)]
    unfold Rfree
    iintro ⟨H6, ⟨⟨⟨%f1, Hd1, Hw1, Hs1⟩, HF⟩, HR⟩, HL⟩
    iapply (rd6 c fE (k.val + 1) w.o7 (by omega)) $$ H6
    iintro H6
    iapply (asm c (chk4_ok _ he))
    iapply (copy_start c 1536 (by decide) (hd (k.val + 1)) (k.val + 1) 0 (wd fE (k.val + 1)) he (tH (k.val + 1)) W f1
      w.o9.1 w.o9.2.1 w.o9.2.2 (toNat16 _ he) rfl rfl (sem_hd _ _ w.o8 _)) $$ [Hd1 Hw1 Hs1]
    · iframe
    iintro HP
    iapply (rd6 c fE (k.val + 1) w.o11 (by omega)) $$ H6
    iintro H6
    iapply (asm c (chk5_ok n k _ he))
    sl_rw [dif_pos (w.c5.mpr (show k.val + 1 < n - 1 by omega))]
    icases HF with ⟨%f2, Hd2, Hw2, Hs2⟩
    iapply (copy_start c 1536 (by decide) (rs (k.val + 1)) (k.val + 1) 1536 (wd fE (k.val + 1)) he (tR (k.val + 1)) W f2
      w.o13.1 w.o13.2.1 w.o13.2.2 (toNat16 _ he) rfl rfl (sem_rs _ _ w.o12 _)) $$ [Hd2 Hw2 Hs2]
    · iframe
    iintro HQ
    sl_rw [dif_neg (fun h => hl (w.c6.mp h))]
    iapply (ret c _)
    iframe

end

end Cert.KernelIdeal.Hand
-- ==== Proof.Steps.lean ====
/-
  Steps on the vector buffers, and the three whole copies that bring the operands in.
-/
module

public import proofs.«01_k».proof.Proof.Prefill

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

section

variable (c : Dev nD) {α : Type}

/-- Elements `I` of the buffer `b` at the contents `f`. -/
abbrev ptv (b : Ref sig .tc) (I : Finset (Idx ((c : Thread nD τ).loc b))) (f : Buf (Elt F) ((c : Thread nD τ).loc b)) : sProp 𝕄 :=
  iprop(((c : Thread nD τ).loc b) ↦[I]{fullShare} f)

/-- A vector load. -/
theorem ld {cs : CoreSpace} {s : Shape} {e : EltTy} {m : Memref sig .tc cs s e} {r : Rect s} {hl : m.view.LoadsAt r.toLoadRect}
    {S : Finset (Idx ((m.access r).loc (c : Thread nD τ)))} {f : Buf (Elt F) ((m.access r).loc (c : Thread nD τ))} (hS : (m.access r).set ⊆ S)
    {kk : (r.shape.Idx → Elt F e) → Prog (TpuEff nD τ sig (Elt F) Λ₀ .tc) α} {Q : α → sProp 𝕄} :
    ((m.access r).loc (c : Thread nD τ) ↦[S]{fullShare} f)
      ⊢ iprop((((m.access r).loc (c : Thread nD τ) ↦[S]{fullShare} f) -∗ wp frame (wpE (defs₀ (F := F)) Variants.none (c : Thread nD τ) none) Set.univ (kk ((m.access r).read (Elt F) f)) Q)
        -∗ wp frame (wpE (defs₀ (F := F)) Variants.none (c : Thread nD τ) none) Set.univ (Prog.lift (.load m r.toLoadRect hl) >>= kk) Q) :=
  wp_load_rect (defs := defs₀ (F := F)) (Γ := .empty) Variants.none (c : Thread nD τ) none Set.univ hS

/-- A vector store. -/
theorem sto {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {S : Finset (Idx ((m.access r).loc (c : Thread nD τ)))} {f : Buf (Elt F) ((m.access r).loc (c : Thread nD τ))} (hS : (m.access r).setOn Finset.univ ⊆ S)
    {kk : PUnit → Prog (TpuEff nD τ sig (Elt F) Λ₀ .tc) α} {Q : α → sProp 𝕄} :
    ((m.access r).loc (c : Thread nD τ) ↦[S]{fullShare} f)
      ⊢ iprop((((m.access r).loc (c : Thread nD τ) ↦[S]{fullShare} ((m.access r).write (Elt F) f w Finset.univ)) -∗ wp frame (wpE (defs₀ (F := F)) Variants.none (c : Thread nD τ) none) Set.univ (kk ⟨⟩) Q)
        -∗ wp frame (wpE (defs₀ (F := F)) Variants.none (c : Thread nD τ) none) Set.univ (Prog.lift (.store m r w Finset.univ hx hm) >>= kk) Q) :=
  wp_store (defs := defs₀ (F := F)) (Γ := .empty) Variants.none (c : Thread nD τ) none Set.univ hS

theorem ldS {cs : CoreSpace} {s : Shape} {e : EltTy} {m : Memref sig .tc cs s e} {r : Rect s} {hl : m.view.LoadsAt r.toLoadRect}
    {S : Finset (Idx (m.view.loc (c : Thread nD τ)))} (hS : ∀ i, i ∈ S) {f : Buf (Elt F) (m.view.loc (c : Thread nD τ))}
    {kk : (r.shape.Idx → Elt F e) → Prog (TpuEff nD τ sig (Elt F) Λ₀ .tc) α} {Q : α → sProp 𝕄} :
    (m.view.loc (c : Thread nD τ) ↦[S]{fullShare} f)
      ⊢ iprop(((m.view.loc (c : Thread nD τ) ↦[S]{fullShare} f) -∗ wp frame (wpE (defs₀ (F := F)) Variants.none (c : Thread nD τ) none) Set.univ (kk ((m.access r).read (Elt F) f)) Q)
        -∗ wp frame (wpE (defs₀ (F := F)) Variants.none (c : Thread nD τ) none) Set.univ (Prog.lift (.load m r.toLoadRect hl) >>= kk) Q) := ld c (m := m) (r := r) (S := S) (fun x _ => hS x)

theorem stoS {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {S : Finset (Idx (m.view.loc (c : Thread nD τ)))} (hS : ∀ i, i ∈ S) {f : Buf (Elt F) (m.view.loc (c : Thread nD τ))}
    {kk : PUnit → Prog (TpuEff nD τ sig (Elt F) Λ₀ .tc) α} {Q : α → sProp 𝕄} :
    (m.view.loc (c : Thread nD τ) ↦[S]{fullShare} f)
      ⊢ iprop(((m.view.loc (c : Thread nD τ) ↦[S]{fullShare} ((m.access r).write (Elt F) f w Finset.univ)) -∗ wp frame (wpE (defs₀ (F := F)) Variants.none (c : Thread nD τ) none) Set.univ (kk ⟨⟩) Q)
        -∗ wp frame (wpE (defs₀ (F := F)) Variants.none (c : Thread nD τ) none) Set.univ (Prog.lift (.store m r w Finset.univ hx hm) >>= kk) Q) := sto c (m := m) (r := r) (S := S) (fun x _ => hS x)

theorem ldU {cs : CoreSpace} {s : Shape} {e : EltTy} {m : Memref sig .tc cs s e} {r : Rect s} {hl : m.view.LoadsAt r.toLoadRect}
    {f : Buf (Elt F) (m.view.loc (c : Thread nD τ))}
    {kk : (r.shape.Idx → Elt F e) → Prog (TpuEff nD τ sig (Elt F) Λ₀ .tc) α} {Q : α → sProp 𝕄} :
    (m.view.loc (c : Thread nD τ) ↦[Finset.univ]{fullShare} f)
      ⊢ iprop(((m.view.loc (c : Thread nD τ) ↦[Finset.univ]{fullShare} f) -∗ wp frame (wpE (defs₀ (F := F)) Variants.none (c : Thread nD τ) none) Set.univ (kk ((m.access r).read (Elt F) f)) Q)
        -∗ wp frame (wpE (defs₀ (F := F)) Variants.none (c : Thread nD τ) none) Set.univ (Prog.lift (.load m r.toLoadRect hl) >>= kk) Q) := ldS c (fun i => Finset.mem_univ i)

theorem stoU {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {f : Buf (Elt F) (m.view.loc (c : Thread nD τ))}
    {kk : PUnit → Prog (TpuEff nD τ sig (Elt F) Λ₀ .tc) α} {Q : α → sProp 𝕄} :
    (m.view.loc (c : Thread nD τ) ↦[Finset.univ]{fullShare} f)
      ⊢ iprop(((m.view.loc (c : Thread nD τ) ↦[Finset.univ]{fullShare} ((m.access r).write (Elt F) f w Finset.univ)) -∗ wp frame (wpE (defs₀ (F := F)) Variants.none (c : Thread nD τ) none) Set.univ (kk ⟨⟩) Q)
        -∗ wp frame (wpE (defs₀ (F := F)) Variants.none (c : Thread nD τ) none) Set.univ (Prog.lift (.store m r w Finset.univ hx hm) >>= kk) Q) := stoS c (fun i => Finset.mem_univ i)

/-- A copy of the whole of `src` into the whole of `dst`, under way on `ss`. -/
def WF (src dst : Ref sig .tc) (ss : DmaSem sig) (N : ℕ) (q : PosShare TreeShare) (fs : Buf (Elt F) ((c : Thread nD τ).loc src)) (fd : Buf (Elt F) ((c : Thread nD τ).loc dst)) : sProp 𝕄 :=
  Transfers.Flight (EC (F := F)) (c : Thread nD τ) (.dma ss) () N
    iprop((((c : Thread nD τ).loc dst) ↦[Finset.univ]{fullShare} fd) ∗ (((c : Thread nD τ).loc src) ↦[Finset.univ]{q} fs))

theorem wcopy_start {sp sp' : Space} {s : Shape} {e : EltTy} {src : Memref sig .tc sp s e} {dst : Memref sig .tc sp' s e} {sem ss : DmaSem sig} (hs : sem = ss) {hs1 hs2 hs3}
    {q : PosShare TreeShare} {fs : Buf (Elt F) (src.view.loc (c : Thread nD τ))} {fd fd' : Buf (Elt F) (dst.view.loc (c : Thread nD τ))}
    (hN0 : 0 < dst.view.amount (.dma ss)) (h1 : src.view.set = Finset.univ) (hv : dst.view.write (Elt F) fd (src.view.read (Elt F) fs) Finset.univ = fd')
    {kk : PUnit → Prog (TpuEff nD τ sig (Elt F) Λ₀ .tc) α} {Q : α → sProp 𝕄} :
    iprop((src.view.loc (c : Thread nD τ) ↦[Finset.univ]{q} fs) ∗ (dst.view.loc (c : Thread nD τ) ↦[Finset.univ]{fullShare} fd) ∗ semVal ((c : Thread nD τ), SemLoc.dma ss) 0)
      ⊢ iprop((WF c src.view.ref dst.view.ref ss (dst.view.amount (.dma ss)) q fs fd' -∗ wp frame (wpE (defs₀ (F := F)) Variants.none (c : Thread nD τ) none) Set.univ (kk ⟨⟩) Q)
          -∗ wp frame (wpE (defs₀ (F := F)) Variants.none (c : Thread nD τ) none) Set.univ (Prog.lift (.enqueueDma src (.here dst) (.dma sem) hs1 hs2 hs3) >>= kk) Q) := by
  subst hs; subst hv
  have key := Transfers.wp_dmaLocal (EC (F := F)) (defs := defs₀ (F := F)) Variants.none (c : Thread nD τ) none
    (src := src) (dst := dst) (via := .same) (sm := .dma sem) (hsrc := hs1) (hdst := hs2) (hsem := hs3) (k := kk) (q := q) (fs := fs) (fd := fd) (Q := Q)
    (Sd := Finset.univ) () _ rfl hN0 (Finset.subset_univ _)
  rw [h1] at key
  exact key

theorem wcopy_wait {src dst : Ref sig .tc} {ss sem : DmaSem sig} {N : ℕ} {q : PosShare TreeShare} {fs : Buf (Elt F) ((c : Thread nD τ).loc src)} {fd : Buf (Elt F) ((c : Thread nD τ).loc dst)} (hs : sem = ss)
    {sp sp' : Space} {s s' : Shape} {e e' : EltTy} {srcw : Memref sig .tc sp' s' e'} {dstw : Memref sig .tc sp s e} (hN : dstw.view.dmaCredit = N) {hs1 hs2}
    {kk : PUnit → Prog (TpuEff nD τ sig (Elt F) Λ₀ .tc) α} {Q : α → sProp 𝕄} {Wt : Waits sig Unit} :
    iprop(WF c src dst ss N q fs fd ∗ owes (c : Thread nD τ) 0 Wt)
      ⊢ iprop((iprop(((((c : Thread nD τ).loc dst) ↦[Finset.univ]{fullShare} fd) ∗ (((c : Thread nD τ).loc src) ↦[Finset.univ]{q} fs)) ∗ semVal ((c : Thread nD τ), SemLoc.dma ss) 0
            ∗ owes (c : Thread nD τ) 0 (insert (SemLoc.dma ss, ()) Wt)) -∗ wp frame (wpE (defs₀ (F := F)) Variants.none (c : Thread nD τ) none) Set.univ (kk ⟨⟩) Q)
        -∗ wp frame (wpE (defs₀ (F := F)) Variants.none (c : Thread nD τ) none) Set.univ (Prog.lift (.waitDma2 sem srcw dstw hs1 hs2) >>= kk) Q) := by
  subst hs
  unfold WF
  exact Transfers.wp_waitLocal (EC (F := F)) (defs := defs₀ (F := F)) Variants.none (c : Thread nD τ) none
    (sem := sem) (srcw := srcw) (dstw := dstw) (hsrc := hs1) (hdst := hs2) (k := kk) (Q := Q) () hN (W := Wt)

/-- A part proved alone, at the head of a longer program. -/
theorem part {β : Type} {p : Prog (TpuEff nD τ sig (Elt F) Λ₀ .tc) β} {P : sProp 𝕄} {R : β → sProp 𝕄} (h : P ⊢ wp frame (wpE (defs₀ (F := F)) Variants.none (c : Thread nD τ) none) Set.univ p R)
    {kk : β → Prog (TpuEff nD τ sig (Elt F) Λ₀ .tc) α} {Q : α → sProp 𝕄} :
    P ⊢ iprop((∀ b, R b -∗ wp frame (wpE (defs₀ (F := F)) Variants.none (c : Thread nD τ) none) Set.univ (kk b) Q) -∗ wp frame (wpE (defs₀ (F := F)) Variants.none (c : Thread nD τ) none) Set.univ (p >>= kk) Q) := by
  rw [wp_bind]
  iintro HP Hk
  ihave H := h $$ HP
  iapply (wp_wand) $$ H
  iexact Hk

theorem ld8 {r : Rect S192x3072} {hl : a8.view.LoadsAt r.toLoadRect}
    {S : Finset (Idx ((c : Thread nD τ).loc cc0_scratch3))} {f : S192x3072.Idx → Elt F .bf16} (hS : (a8.access r).set ⊆ S)
    {kk : (r.shape.Idx → Elt F .bf16) → Prog (TpuEff nD τ sig (Elt F) Λ₀ .tc) α} {Q : α → sProp 𝕄} :
    ptv c cc0_scratch3 S f ⊢ iprop((ptv c cc0_scratch3 S f -∗ wp frame (wpE (defs₀ (F := F)) Variants.none (c : Thread nD τ) none) Set.univ (kk ((a8.access r).read (Elt F) f)) Q)
        -∗ wp frame (wpE (defs₀ (F := F)) Variants.none (c : Thread nD τ) none) Set.univ (Prog.lift (.load a8 r.toLoadRect hl) >>= kk) Q) := ld c (m := a8) hS

theorem ld9 {r : Rect S224x3072} {hl : a9.view.LoadsAt r.toLoadRect}
    {S : Finset (Idx ((c : Thread nD τ).loc cc0_scratch4))} {f : S224x3072.Idx → Elt F .fp8e4m3} (hS : (a9.access r).set ⊆ S)
    {kk : (r.shape.Idx → Elt F .fp8e4m3) → Prog (TpuEff nD τ sig (Elt F) Λ₀ .tc) α} {Q : α → sProp 𝕄} :
    ptv c cc0_scratch4 S f ⊢ iprop((ptv c cc0_scratch4 S f -∗ wp frame (wpE (defs₀ (F := F)) Variants.none (c : Thread nD τ) none) Set.univ (kk ((a9.access r).read (Elt F) f)) Q)
        -∗ wp frame (wpE (defs₀ (F := F)) Variants.none (c : Thread nD τ) none) Set.univ (Prog.lift (.load a9 r.toLoadRect hl) >>= kk) Q) := ld c (m := a9) hS

theorem sto9 {r : Rect S224x3072} {w : r.shape.Idx → Elt F .fp8e4m3}
    {hx : (a9.access r).Stores Finset.univ} {hm : (Finset.univ : Finset r.shape.Idx) = Finset.univ ∨ ∀ a, r.stride a = 1}
    {S : Finset (Idx ((c : Thread nD τ).loc cc0_scratch4))} {f : S224x3072.Idx → Elt F .fp8e4m3} (hS : (a9.access r).setOn Finset.univ ⊆ S)
    {kk : PUnit → Prog (TpuEff nD τ sig (Elt F) Λ₀ .tc) α} {Q : α → sProp 𝕄} :
    ptv c cc0_scratch4 S f ⊢ iprop((ptv c cc0_scratch4 S ((a9.access r).write (Elt F) f w Finset.univ) -∗ wp frame (wpE (defs₀ (F := F)) Variants.none (c : Thread nD τ) none) Set.univ (kk ⟨⟩) Q)
        -∗ wp frame (wpE (defs₀ (F := F)) Variants.none (c : Thread nD τ) none) Set.univ (Prog.lift (.store a9 r w Finset.univ hx hm) >>= kk) Q) := sto c (m := a9) hS

theorem ld10 {r : Rect S224x1} {hl : a10.view.LoadsAt r.toLoadRect}
    {S : Finset (Idx ((c : Thread nD τ).loc cc0_scratch5))} {f : S224x1.Idx → Elt F .f32} (hS : (a10.access r).set ⊆ S)
    {kk : (r.shape.Idx → Elt F .f32) → Prog (TpuEff nD τ sig (Elt F) Λ₀ .tc) α} {Q : α → sProp 𝕄} :
    ptv c cc0_scratch5 S f ⊢ iprop((ptv c cc0_scratch5 S f -∗ wp frame (wpE (defs₀ (F := F)) Variants.none (c : Thread nD τ) none) Set.univ (kk ((a10.access r).read (Elt F) f)) Q)
        -∗ wp frame (wpE (defs₀ (F := F)) Variants.none (c : Thread nD τ) none) Set.univ (Prog.lift (.load a10 r.toLoadRect hl) >>= kk) Q) := ld c (m := a10) hS

theorem sto10 {r : Rect S224x1} {w : r.shape.Idx → Elt F .f32}
    {hx : (a10.access r).Stores Finset.univ} {hm : (Finset.univ : Finset r.shape.Idx) = Finset.univ ∨ ∀ a, r.stride a = 1}
    {S : Finset (Idx ((c : Thread nD τ).loc cc0_scratch5))} {f : S224x1.Idx → Elt F .f32} (hS : (a10.access r).setOn Finset.univ ⊆ S)
    {kk : PUnit → Prog (TpuEff nD τ sig (Elt F) Λ₀ .tc) α} {Q : α → sProp 𝕄} :
    ptv c cc0_scratch5 S f ⊢ iprop((ptv c cc0_scratch5 S ((a10.access r).write (Elt F) f w Finset.univ) -∗ wp frame (wpE (defs₀ (F := F)) Variants.none (c : Thread nD τ) none) Set.univ (kk ⟨⟩) Q)
        -∗ wp frame (wpE (defs₀ (F := F)) Variants.none (c : Thread nD τ) none) Set.univ (Prog.lift (.store a10 r w Finset.univ hx hm) >>= kk) Q) := sto c (m := a10) hS

theorem ld11 {r : Rect S16x1x1408} {hl : a11.view.LoadsAt r.toLoadRect}
    {S : Finset (Idx ((c : Thread nD τ).loc cc0_scratch6))} {f : S16x1x1408.Idx → Elt F .f32} (hS : (a11.access r).set ⊆ S)
    {kk : (r.shape.Idx → Elt F .f32) → Prog (TpuEff nD τ sig (Elt F) Λ₀ .tc) α} {Q : α → sProp 𝕄} :
    ptv c cc0_scratch6 S f ⊢ iprop((ptv c cc0_scratch6 S f -∗ wp frame (wpE (defs₀ (F := F)) Variants.none (c : Thread nD τ) none) Set.univ (kk ((a11.access r).read (Elt F) f)) Q)
        -∗ wp frame (wpE (defs₀ (F := F)) Variants.none (c : Thread nD τ) none) Set.univ (Prog.lift (.load a11 r.toLoadRect hl) >>= kk) Q) := ld c (m := a11) hS

theorem ld12 {r : Rect S8x3072x1408} {hl : a12.view.LoadsAt r.toLoadRect}
    {S : Finset (Idx ((c : Thread nD τ).loc cc0_scratch7))} {f : S8x3072x1408.Idx → Elt F .fp8e4m3} (hS : (a12.access r).set ⊆ S)
    {kk : (r.shape.Idx → Elt F .fp8e4m3) → Prog (TpuEff nD τ sig (Elt F) Λ₀ .tc) α} {Q : α → sProp 𝕄} :
    ptv c cc0_scratch7 S f ⊢ iprop((ptv c cc0_scratch7 S f -∗ wp frame (wpE (defs₀ (F := F)) Variants.none (c : Thread nD τ) none) Set.univ (kk ((a12.access r).read (Elt F) f)) Q)
        -∗ wp frame (wpE (defs₀ (F := F)) Variants.none (c : Thread nD τ) none) Set.univ (Prog.lift (.load a12 r.toLoadRect hl) >>= kk) Q) := ld c (m := a12) hS

theorem ld13 {r : Rect S224x1408} {hl : a13.view.LoadsAt r.toLoadRect}
    {S : Finset (Idx ((c : Thread nD τ).loc cc0_scratch8))} {f : S224x1408.Idx → Elt F .f32} (hS : (a13.access r).set ⊆ S)
    {kk : (r.shape.Idx → Elt F .f32) → Prog (TpuEff nD τ sig (Elt F) Λ₀ .tc) α} {Q : α → sProp 𝕄} :
    ptv c cc0_scratch8 S f ⊢ iprop((ptv c cc0_scratch8 S f -∗ wp frame (wpE (defs₀ (F := F)) Variants.none (c : Thread nD τ) none) Set.univ (kk ((a13.access r).read (Elt F) f)) Q)
        -∗ wp frame (wpE (defs₀ (F := F)) Variants.none (c : Thread nD τ) none) Set.univ (Prog.lift (.load a13 r.toLoadRect hl) >>= kk) Q) := ld c (m := a13) hS

theorem sto13 {r : Rect S224x1408} {w : r.shape.Idx → Elt F .f32}
    {hx : (a13.access r).Stores Finset.univ} {hm : (Finset.univ : Finset r.shape.Idx) = Finset.univ ∨ ∀ a, r.stride a = 1}
    {S : Finset (Idx ((c : Thread nD τ).loc cc0_scratch8))} {f : S224x1408.Idx → Elt F .f32} (hS : (a13.access r).setOn Finset.univ ⊆ S)
    {kk : PUnit → Prog (TpuEff nD τ sig (Elt F) Λ₀ .tc) α} {Q : α → sProp 𝕄} :
    ptv c cc0_scratch8 S f ⊢ iprop((ptv c cc0_scratch8 S ((a13.access r).write (Elt F) f w Finset.univ) -∗ wp frame (wpE (defs₀ (F := F)) Variants.none (c : Thread nD τ) none) Set.univ (kk ⟨⟩) Q)
        -∗ wp frame (wpE (defs₀ (F := F)) Variants.none (c : Thread nD τ) none) Set.univ (Prog.lift (.store a13 r w Finset.univ hx hm) >>= kk) Q) := sto c (m := a13) hS

theorem ld14 {r : Rect S224x1408} {hl : a14.view.LoadsAt r.toLoadRect}
    {S : Finset (Idx ((c : Thread nD τ).loc cc0_scratch9))} {f : S224x1408.Idx → Elt F .bf16} (hS : (a14.access r).set ⊆ S)
    {kk : (r.shape.Idx → Elt F .bf16) → Prog (TpuEff nD τ sig (Elt F) Λ₀ .tc) α} {Q : α → sProp 𝕄} :
    ptv c cc0_scratch9 S f ⊢ iprop((ptv c cc0_scratch9 S f -∗ wp frame (wpE (defs₀ (F := F)) Variants.none (c : Thread nD τ) none) Set.univ (kk ((a14.access r).read (Elt F) f)) Q)
        -∗ wp frame (wpE (defs₀ (F := F)) Variants.none (c : Thread nD τ) none) Set.univ (Prog.lift (.load a14 r.toLoadRect hl) >>= kk) Q) := ld c (m := a14) hS

theorem sto14 {r : Rect S224x1408} {w : r.shape.Idx → Elt F .bf16}
    {hx : (a14.access r).Stores Finset.univ} {hm : (Finset.univ : Finset r.shape.Idx) = Finset.univ ∨ ∀ a, r.stride a = 1}
    {S : Finset (Idx ((c : Thread nD τ).loc cc0_scratch9))} {f : S224x1408.Idx → Elt F .bf16} (hS : (a14.access r).setOn Finset.univ ⊆ S)
    {kk : PUnit → Prog (TpuEff nD τ sig (Elt F) Λ₀ .tc) α} {Q : α → sProp 𝕄} :
    ptv c cc0_scratch9 S f ⊢ iprop((ptv c cc0_scratch9 S ((a14.access r).write (Elt F) f w Finset.univ) -∗ wp frame (wpE (defs₀ (F := F)) Variants.none (c : Thread nD τ) none) Set.univ (kk ⟨⟩) Q)
        -∗ wp frame (wpE (defs₀ (F := F)) Variants.none (c : Thread nD τ) none) Set.univ (Prog.lift (.store a14 r w Finset.univ hx hm) >>= kk) Q) := sto c (m := a14) hS

theorem lu8 {r : Rect S192x3072} {hl : a8.view.LoadsAt r.toLoadRect}
    (f : S192x3072.Idx → Elt F .bf16)
    {kk : (r.shape.Idx → Elt F .bf16) → Prog (TpuEff nD τ sig (Elt F) Λ₀ .tc) α} {Q : α → sProp 𝕄} :
    ptv c cc0_scratch3 Finset.univ f ⊢ iprop((ptv c cc0_scratch3 Finset.univ f -∗ wp frame (wpE (defs₀ (F := F)) Variants.none (c : Thread nD τ) none) Set.univ (kk ((a8.access r).read (Elt F) f)) Q)
        -∗ wp frame (wpE (defs₀ (F := F)) Variants.none (c : Thread nD τ) none) Set.univ (Prog.lift (.load a8 r.toLoadRect hl) >>= kk) Q) := ldU c (m := a8)

theorem lu9 {r : Rect S224x3072} {hl : a9.view.LoadsAt r.toLoadRect}
    (f : S224x3072.Idx → Elt F .fp8e4m3)
    {kk : (r.shape.Idx → Elt F .fp8e4m3) → Prog (TpuEff nD τ sig (Elt F) Λ₀ .tc) α} {Q : α → sProp 𝕄} :
    ptv c cc0_scratch4 Finset.univ f ⊢ iprop((ptv c cc0_scratch4 Finset.univ f -∗ wp frame (wpE (defs₀ (F := F)) Variants.none (c : Thread nD τ) none) Set.univ (kk ((a9.access r).read (Elt F) f)) Q)
        -∗ wp frame (wpE (defs₀ (F := F)) Variants.none (c : Thread nD τ) none) Set.univ (Prog.lift (.load a9 r.toLoadRect hl) >>= kk) Q) := ldU c (m := a9)

theorem su9 {r : Rect S224x3072} {w : r.shape.Idx → Elt F .fp8e4m3}
    {hx : (a9.access r).Stores Finset.univ} {hm : (Finset.univ : Finset r.shape.Idx) = Finset.univ ∨ ∀ a, r.stride a = 1}
    (f : S224x3072.Idx → Elt F .fp8e4m3)
    {kk : PUnit → Prog (TpuEff nD τ sig (Elt F) Λ₀ .tc) α} {Q : α → sProp 𝕄} :
    ptv c cc0_scratch4 Finset.univ f ⊢ iprop((ptv c cc0_scratch4 Finset.univ ((a9.access r).write (Elt F) f w Finset.univ) -∗ wp frame (wpE (defs₀ (F := F)) Variants.none (c : Thread nD τ) none) Set.univ (kk ⟨⟩) Q)
        -∗ wp frame (wpE (defs₀ (F := F)) Variants.none (c : Thread nD τ) none) Set.univ (Prog.lift (.store a9 r w Finset.univ hx hm) >>= kk) Q) := stoU c (m := a9)

theorem lu10 {r : Rect S224x1} {hl : a10.view.LoadsAt r.toLoadRect}
    (f : S224x1.Idx → Elt F .f32)
    {kk : (r.shape.Idx → Elt F .f32) → Prog (TpuEff nD τ sig (Elt F) Λ₀ .tc) α} {Q : α → sProp 𝕄} :
    ptv c cc0_scratch5 Finset.univ f ⊢ iprop((ptv c cc0_scratch5 Finset.univ f -∗ wp frame (wpE (defs₀ (F := F)) Variants.none (c : Thread nD τ) none) Set.univ (kk ((a10.access r).read (Elt F) f)) Q)
        -∗ wp frame (wpE (defs₀ (F := F)) Variants.none (c : Thread nD τ) none) Set.univ (Prog.lift (.load a10 r.toLoadRect hl) >>= kk) Q) := ldU c (m := a10)

theorem su10 {r : Rect S224x1} {w : r.shape.Idx → Elt F .f32}
    {hx : (a10.access r).Stores Finset.univ} {hm : (Finset.univ : Finset r.shape.Idx) = Finset.univ ∨ ∀ a, r.stride a = 1}
    (f : S224x1.Idx → Elt F .f32)
    {kk : PUnit → Prog (TpuEff nD τ sig (Elt F) Λ₀ .tc) α} {Q : α → sProp 𝕄} :
    ptv c cc0_scratch5 Finset.univ f ⊢ iprop((ptv c cc0_scratch5 Finset.univ ((a10.access r).write (Elt F) f w Finset.univ) -∗ wp frame (wpE (defs₀ (F := F)) Variants.none (c : Thread nD τ) none) Set.univ (kk ⟨⟩) Q)
        -∗ wp frame (wpE (defs₀ (F := F)) Variants.none (c : Thread nD τ) none) Set.univ (Prog.lift (.store a10 r w Finset.univ hx hm) >>= kk) Q) := stoU c (m := a10)

theorem lu11 {r : Rect S16x1x1408} {hl : a11.view.LoadsAt r.toLoadRect}
    (f : S16x1x1408.Idx → Elt F .f32)
    {kk : (r.shape.Idx → Elt F .f32) → Prog (TpuEff nD τ sig (Elt F) Λ₀ .tc) α} {Q : α → sProp 𝕄} :
    ptv c cc0_scratch6 Finset.univ f ⊢ iprop((ptv c cc0_scratch6 Finset.univ f -∗ wp frame (wpE (defs₀ (F := F)) Variants.none (c : Thread nD τ) none) Set.univ (kk ((a11.access r).read (Elt F) f)) Q)
        -∗ wp frame (wpE (defs₀ (F := F)) Variants.none (c : Thread nD τ) none) Set.univ (Prog.lift (.load a11 r.toLoadRect hl) >>= kk) Q) := ldU c (m := a11)

theorem lu13 {r : Rect S224x1408} {hl : a13.view.LoadsAt r.toLoadRect}
    (f : S224x1408.Idx → Elt F .f32)
    {kk : (r.shape.Idx → Elt F .f32) → Prog (TpuEff nD τ sig (Elt F) Λ₀ .tc) α} {Q : α → sProp 𝕄} :
    ptv c cc0_scratch8 Finset.univ f ⊢ iprop((ptv c cc0_scratch8 Finset.univ f -∗ wp frame (wpE (defs₀ (F := F)) Variants.none (c : Thread nD τ) none) Set.univ (kk ((a13.access r).read (Elt F) f)) Q)
        -∗ wp frame (wpE (defs₀ (F := F)) Variants.none (c : Thread nD τ) none) Set.univ (Prog.lift (.load a13 r.toLoadRect hl) >>= kk) Q) := ldU c (m := a13)

theorem su13 {r : Rect S224x1408} {w : r.shape.Idx → Elt F .f32}
    {hx : (a13.access r).Stores Finset.univ} {hm : (Finset.univ : Finset r.shape.Idx) = Finset.univ ∨ ∀ a, r.stride a = 1}
    (f : S224x1408.Idx → Elt F .f32)
    {kk : PUnit → Prog (TpuEff nD τ sig (Elt F) Λ₀ .tc) α} {Q : α → sProp 𝕄} :
    ptv c cc0_scratch8 Finset.univ f ⊢ iprop((ptv c cc0_scratch8 Finset.univ ((a13.access r).write (Elt F) f w Finset.univ) -∗ wp frame (wpE (defs₀ (F := F)) Variants.none (c : Thread nD τ) none) Set.univ (kk ⟨⟩) Q)
        -∗ wp frame (wpE (defs₀ (F := F)) Variants.none (c : Thread nD τ) none) Set.univ (Prog.lift (.store a13 r w Finset.univ hx hm) >>= kk) Q) := stoU c (m := a13)

theorem lu14 {r : Rect S224x1408} {hl : a14.view.LoadsAt r.toLoadRect}
    (f : S224x1408.Idx → Elt F .bf16)
    {kk : (r.shape.Idx → Elt F .bf16) → Prog (TpuEff nD τ sig (Elt F) Λ₀ .tc) α} {Q : α → sProp 𝕄} :
    ptv c cc0_scratch9 Finset.univ f ⊢ iprop((ptv c cc0_scratch9 Finset.univ f -∗ wp frame (wpE (defs₀ (F := F)) Variants.none (c : Thread nD τ) none) Set.univ (kk ((a14.access r).read (Elt F) f)) Q)
        -∗ wp frame (wpE (defs₀ (F := F)) Variants.none (c : Thread nD τ) none) Set.univ (Prog.lift (.load a14 r.toLoadRect hl) >>= kk) Q) := ldU c (m := a14)

theorem su14 {r : Rect S224x1408} {w : r.shape.Idx → Elt F .bf16}
    {hx : (a14.access r).Stores Finset.univ} {hm : (Finset.univ : Finset r.shape.Idx) = Finset.univ ∨ ∀ a, r.stride a = 1}
    (f : S224x1408.Idx → Elt F .bf16)
    {kk : PUnit → Prog (TpuEff nD τ sig (Elt F) Λ₀ .tc) α} {Q : α → sProp 𝕄} :
    ptv c cc0_scratch9 Finset.univ f ⊢ iprop((ptv c cc0_scratch9 Finset.univ ((a14.access r).write (Elt F) f w Finset.univ) -∗ wp frame (wpE (defs₀ (F := F)) Variants.none (c : Thread nD τ) none) Set.univ (kk ⟨⟩) Q)
        -∗ wp frame (wpE (defs₀ (F := F)) Variants.none (c : Thread nD τ) none) Set.univ (Prog.lift (.store a14 r w Finset.univ hx hm) >>= kk) Q) := stoU c (m := a14)

/-- A counted loop at the head of a program. -/
theorem forl {σ : Type} {w : ℕ} {l : Scf.Loop w} {hok : l.OK} {init : σ} {body : Fin l.trips → σ → Prog (TpuEff nD τ sig (Elt F) Λ₀ .tc) σ}
    (I : ℕ → σ → sProp 𝕄) (n : ℕ) (hn : l.trips = n) (hbody : ∀ (k : Fin l.trips) (acc : σ), I k.val acc ⊢ wp frame (wpE (defs₀ (F := F)) Variants.none (c : Thread nD τ) none) Set.univ (body k acc) (I (k.val + 1)))
    {kk : σ → Prog (TpuEff nD τ sig (Elt F) Λ₀ .tc) α} {Q : α → sProp 𝕄} :
    I 0 init ⊢ iprop((∀ acc, I n acc -∗ wp frame (wpE (defs₀ (F := F)) Variants.none (c : Thread nD τ) none) Set.univ (kk acc) Q) -∗ wp frame (wpE (defs₀ (F := F)) Variants.none (c : Thread nD τ) none) Set.univ (Scf.Loop.for l hok init body >>= kk) Q) := by
  subst hn
  exact Scf.wp_for_bind _ _ _ l.lb l.ub l.st hok init body I hbody

def si (k : ℕ) : DmaSem sig := Fin.ofNat 23 k

theorem val5 (f : S16.Idx → BitVec 32) (g : S16.Idx → BitVec 32) : a5.view.write (Elt F) f (a1.view.read (Elt F) g) Finset.univ = g := by
  funext i
  exact (View.write_emb_of_mem (v := a5.view) (x := i) _ _ (Finset.mem_univ _))
theorem val8 (f g : S192x3072.Idx → Elt F .bf16) : a8.view.write (Elt F) f (a0.view.read (Elt F) g) Finset.univ = g := by
  funext i
  exact (View.write_emb_of_mem (v := a8.view) (x := i) _ _ (Finset.mem_univ _))
theorem val11 (f g : S16x1x1408.Idx → Elt F .f32) : a11.view.write (Elt F) f (a3.view.read (Elt F) g) Finset.univ = g := by
  funext i
  exact (View.write_emb_of_mem (v := a11.view) (x := i) _ _ (Finset.mem_univ _))

end

end Cert.KernelIdeal.Hand
-- ==== Proof.Chk3.lean ====
/-
  The bounds that depend on the length of the list alone: true for each of its sixteen possible lengths.
-/
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

theorem chk3_ok (n : ℕ) (h1 : 1 ≤ n) (h : n ≤ 16) : k0_chk3 (BitVec.ofNat 32 n) := by
  have : ∀ n : Fin 17, 1 ≤ n.val → k0_chk3 (BitVec.ofNat 32 n.val) := by decide +kernel
  exact this ⟨n, by omega⟩ h1

end Cert.KernelIdeal.Hand
-- ==== Proof.Start.lean ====
/-
  The start of the kernel: the copies of the operands, the first expert's head, and the scan.
-/
module

public import proofs.«01_k».proof.Proof.Steps
public import proofs.«01_k».proof.Proof.Chk3

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

section

variable (c : Dev nD) (X : S192x3072.Idx → Elt F .bf16) (G : S16.Idx → BitVec 32) (W : S16x3072x1408.Idx → Elt F .fp8e4m3)
  (WS : S16x1x1408.Idx → Elt F .f32)

/-- The activations, and the weights' scales, on their way in. -/
def Xfly : sProp 𝕄 := WF (F := F) c main_arg0 cc0_scratch3 (si 1) (a8.view.amount (.dma (si 1))) fullShare X X
def WSfly : sProp 𝕄 := WF (F := F) c main_arg3 cc0_scratch6 (si 2) (a11.view.amount (.dma (si 2))) fullShare WS WS

/-- The list of experts, as the scan leaves it. -/
def Listed (n : ℕ) (fE fL : S16.Idx → BitVec 32) : Prop := ∃ row, Scan (wd G) 16 n row (wd fE) (wd fL)

/-- What the scalar tables hold once the experts are listed. -/
def Tabs (fE fL : S16.Idx → BitVec 32) : sProp 𝕄 := iprop(pt5 (F := F) c G ∗ pt6 (F := F) c fE ∗ pt7 (F := F) c fL)

/-- What the first part starts from. -/
def In9 (f5 f6 f7 : S16.Idx → BitVec 32) (f8 : S192x3072.Idx → Elt F .bf16) (f11 : S16x1x1408.Idx → Elt F .f32) : sProp 𝕄 :=
  iprop((ptv c main_arg1 Finset.univ G ∗ ptv c main_arg0 Finset.univ X ∗ ptv c main_arg3 Finset.univ WS)
    ∗ (ptv c cc0_scratch0 Finset.univ f5 ∗ pt6 (F := F) c f6 ∗ pt7 (F := F) c f7)
    ∗ (ptv c cc0_scratch3 Finset.univ f8 ∗ ptv c cc0_scratch6 Finset.univ f11)
    ∗ (semVal ((c : Thread nD τ), SemLoc.dma (si 0)) 0 ∗ semVal ((c : Thread nD τ), SemLoc.dma (si 1)) 0 ∗ semVal ((c : Thread nD τ), SemLoc.dma (si 2)) 0)
    ∗ Hfree c W 0)

/-- What the first part leaves. -/
def Out9 (n : ℕ) (fE fL : S16.Idx → BitVec 32) : sProp 𝕄 :=
  iprop(ptv c main_arg1 Finset.univ G ∗ semVal ((c : Thread nD τ), SemLoc.dma (si 0)) 0
    ∗ Xfly c X ∗ WSfly c WS ∗ Tabs (F := F) c G fE fL ∗ Piece c (hd 0) 0 0 1536 0 (tH 0) W)

theorem part9_ok (hG : off (wd G) 16 ≤ 192) (f5 f6 f7 : S16.Idx → BitVec 32) (f8 : S192x3072.Idx → Elt F .bf16) (f11 : S16x1x1408.Idx → Elt F .f32)
    (Wt : Waits sig Unit) :
    iprop(In9 c X G W WS f5 f6 f7 f8 f11 ∗ owes (c : Thread nD τ) 0 Wt) ⊢ wp frame (wpE (defs₀ (F := F)) Variants.none (c : Thread nD τ) none) Set.univ (k0_part9 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14) (fun r => iprop(∃ (n : ℕ) (fE fL : S16.Idx → BitVec 32) (hw3 : k0_chk3 (BitVec.ofNat 32 n)),
      ⌜Listed G n fE fL ∧ r = ⟨BitVec.ofNat 32 n, hw3, Scalar.subi (BitVec.ofNat 32 n) 1#32, BitVec.ofNat 32 (wd G 0)⟩⌝ ∗ Out9 c X G W WS n fE fL
        ∗ ∃ Wt', owes (c : Thread nD τ) 0 Wt')) := by
  rw [k0_part9_eq_skeleton]
  unfold k0_part9_skel In9 Hfree
  have key0 := fun α (kk : PUnit → Prog (TpuEff nD τ sig (Elt F) Λ₀ .tc) α) Q => wcopy_start (F := F) c (α := α) (src := a1) (dst := a5) (sem := ((cc0_scratch10.slice (Rect.unit (s := S3) ![0] S1.size inb_S3_S1_0)).squeeze S_ squeezes_S1_S_).sem)
    (ss := si 0) (by decide +kernel) (q := fullShare) (fs := G) (fd := f5) (fd' := G) (sig.dmaCredit_pos _ _ _ _ _ (Shape.numel_pos (s := S16) (by decide))) (View.set_whole _) (val5 _ _) (kk := kk) (Q := Q)
    (hs1 := (hw main_arg1).wordExact) (hs2 := (hw cc0_scratch0).wordExact) (hs3 := ⟨Or.inl rfl, trivial⟩)
  have key1 := fun α (kk : PUnit → Prog (TpuEff nD τ sig (Elt F) Λ₀ .tc) α) Q => wcopy_start (F := F) c (α := α) (src := a0) (dst := a8) (sem := ((cc0_scratch10.slice (Rect.unit (s := S3) ![1] S1.size inb_S3_S1_1)).squeeze S_ squeezes_S1_S_).sem)
    (ss := si 1) (by decide +kernel) (q := fullShare) (fs := X) (fd := f8) (fd' := X) (sig.dmaCredit_pos _ _ _ _ _ (Shape.numel_pos (s := S192x3072) (by decide))) (View.set_whole _) (val8 _ _) (kk := kk) (Q := Q)
    (hs1 := (hw main_arg0).wordExact) (hs2 := (hw cc0_scratch3).wordExact) (hs3 := ⟨Or.inl rfl, trivial⟩)
  have key2 := fun α (kk : PUnit → Prog (TpuEff nD τ sig (Elt F) Λ₀ .tc) α) Q => wcopy_start (F := F) c (α := α) (src := a3) (dst := a11) (sem := ((cc0_scratch10.slice (Rect.unit (s := S3) ![2] S1.size inb_S3_S1_2)).squeeze S_ squeezes_S1_S_).sem)
    (ss := si 2) (by decide +kernel) (q := fullShare) (fs := WS) (fd := f11) (fd' := WS) (sig.dmaCredit_pos _ _ _ _ _ (Shape.numel_pos (s := S16x1x1408) (by decide))) (View.set_whole _) (val11 _ _) (kk := kk) (Q := Q)
    (hs1 := (hw main_arg3).wordExact) (hs2 := (hw cc0_scratch6).wordExact) (hs3 := ⟨Or.inl rfl, trivial⟩)
  iintro ⟨⟨⟨Hg, Hx, Hws⟩, ⟨H5, H6, H7⟩, ⟨H8, H11⟩, ⟨Hs0, Hs1, Hs2⟩, ⟨%f12, Hd, Hw, Hs⟩⟩, Ho⟩
  iapply (key0 _ _ _) $$ [Hg H5 Hs0]
  · iframe
  iintro Hgf
  iapply (key1 _ _ _) $$ [Hx H8 Hs1]
  · iframe
  iintro Hxf
  iapply (key2 _ _ _) $$ [Hws H11 Hs2]
  · iframe
  iintro Hwf
  iapply (copy_start c 1536 (by decide) (hd 0) 0 0 0 (by decide) (tH 0) W f12 rfl rfl rfl rfl rfl rfl (sem_hd _ 0 rfl _)) $$ [Hd Hw Hs]
  · iframe
  iintro HP
  iapply (wcopy_wait c (src := main_arg1) (dst := cc0_scratch0) (ss := si 0) (q := fullShare) (fs := G) (fd := G) (by decide +kernel) (N := a5.view.amount (.dma (si 0))) rfl) $$ [Hgf Ho]
  · iframe
  iintro ⟨⟨H5, Hg⟩, Hs0, Ho⟩
  iapply (rd6 c f6 0 rfl (by decide)) $$ H6
  iintro H6
  iapply (st6 c f6 0 _ rfl) $$ H6
  iintro H6
  iapply (rd7 c f7 0 rfl (by decide)) $$ H7
  iintro H7
  iapply (st7 c f7 0 _ rfl) $$ H7
  iintro H7
  iapply (rd5 c G 0 rfl (by decide)) $$ H5
  iintro H5
  iapply (forl c (scanInv c G) 15 trips1 (fun k acc => scan_trip c G hG k acc)) $$ [H5 H6 H7]
  · unfold scanInv
    iexists 1, (wd G 0), (setw f6 0 0#32), (setw f7 0 0#32)
    isplitr
    · ipureintro
      refine ⟨rfl, ⟨le_refl _, le_refl _, ?_, ?_, ?_, ?_, ?_, ?_, ?_⟩⟩
      · intro j hj; have : j = 0 := by omega
        subst this; rw [wd_setw_self _ _ _ (by decide)]; decide
      · intro j hj h0; omega
      · intro j hj; have : j = 0 := by omega
        subst this; rw [wd_setw_self _ _ _ (by decide), wd_setw_self _ _ _ (by decide)]; rfl
      · show wd G 0 = 0 + wd G 0; omega
      · intro j hj; omega
      · rw [wd_setw_self _ _ _ (by decide), wd_setw_self _ _ _ (by decide)]; show wd G 0 = 0 + wd G 0; omega
      · rw [wd_setw_self _ _ _ (by decide)]; rfl
    iframe
  iintro %acc HI
  unfold scanInv
  icases HI with ⟨%n, %row, %fE, %fL, %h, H5, H6, H7⟩
  obtain ⟨rfl, hs⟩ := h
  iapply (asm c (chk3_ok n hs.one hs.le))
  iapply (rd5 c G 0 rfl (by decide)) $$ H5
  iintro H5
  iapply (ret c _)
  iexists n, fE, fL, (chk3_ok n hs.one hs.le)
  isplitr
  · ipureintro
    exact ⟨⟨row, hs⟩, rfl⟩
  unfold Out9 Tabs Xfly WSfly
  iframe
  iexists _; iexact Ho

end

end Cert.KernelIdeal.Hand
-- ==== Proof.Fill.lean ====
/-
  The first expert's second half, the filling of the ring, and the zero stores before the quantiser.
-/
module

public import proofs.«01_k».proof.Proof.Start

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

section

variable (c : Dev nD) (X : S192x3072.Idx → Elt F .bf16) (G : S16.Idx → BitVec 32) (W : S16x3072x1408.Idx → Elt F .fp8e4m3)
  (WS : S16x1x1408.Idx → Elt F .f32)

/-- The result rows, the codes and the scales after the zero stores. -/
def y0 (f : S224x1408.Idx → Elt F .bf16) : S224x1408.Idx → Elt F .bf16 :=
  (a14.access (Rect.unit (s := S224x1408) ![0, 0] S224x1408.size inb_S224x1408_S224x1408_0_0)).write (Elt F) f k0_pay3 Finset.univ
def q0 (f : S224x3072.Idx → Elt F .fp8e4m3) : S224x3072.Idx → Elt F .fp8e4m3 :=
  (a9.access (Rect.unit (s := S224x3072) ![192, 0] S32x3072.size inb_S224x3072_S32x3072_192_0)).write (Elt F) f k0_pay4 Finset.univ
def s0 (f : S224x1.Idx → Elt F .f32) : S224x1.Idx → Elt F .f32 :=
  (a10.access (Rect.unit (s := S224x1) ![192, 0] S32x1.size inb_S224x1_S32x1_192_0)).write (Elt F) f k0_pay5 Finset.univ

/-- The rows of activations the quantiser's tiles read. -/
def x0 : Vec F S32x3072 .bf16 := (a8.access (Rect.unit (s := S192x3072) ![0, 0] S32x3072.size inb_S192x3072_S32x3072_0_0)).read (Elt F) X
def x1 : Vec F S32x3072 .bf16 := (a8.access (Rect.unit (s := S192x3072) ![32, 0] S32x3072.size inb_S192x3072_S32x3072_32_0)).read (Elt F) X
def x2 : Vec F S32x3072 .bf16 := (a8.access (Rect.unit (s := S192x3072) ![64, 0] S32x3072.size inb_S192x3072_S32x3072_64_0)).read (Elt F) X
def x3 : Vec F S32x3072 .bf16 := (a8.access (Rect.unit (s := S192x3072) ![96, 0] S32x3072.size inb_S192x3072_S32x3072_96_0)).read (Elt F) X
def x4 : Vec F S32x3072 .bf16 := (a8.access (Rect.unit (s := S192x3072) ![128, 0] S32x3072.size inb_S192x3072_S32x3072_128_0)).read (Elt F) X
def x5 : Vec F S32x3072 .bf16 := (a8.access (Rect.unit (s := S192x3072) ![160, 0] S32x3072.size inb_S192x3072_S32x3072_160_0)).read (Elt F) X

/-- The ring once the first expert's head is under way and the rest of the slots are idle. -/
def Ring0 (f14 : S224x1408.Idx → Elt F .bf16) (f9 : S224x3072.Idx → Elt F .fp8e4m3) (f10 : S224x1.Idx → Elt F .f32) (g E : ℕ → ℕ) (last : ℕ) : sProp 𝕄 :=
  iprop((Piece c (hd 0) 0 0 1536 0 (tH 0) W ∗ Rfree c W 0) ∗ Ring c W g E last 1 ((Finset.range 8).erase 0) ∗ Lfree c W
    ∗ ptv c cc0_scratch9 Finset.univ f14 ∗ ptv c cc0_scratch4 Finset.univ f9 ∗ ptv c cc0_scratch5 Finset.univ f10)

theorem part10_ok (hG : off (wd G) 16 ≤ 192) (n : ℕ) (fE fL : S16.Idx → BitVec 32) (hL : Listed G n fE fL) (hw3 : k0_chk3 (BitVec.ofNat 32 n)) (v19 : BitVec 32)
    (f14 : S224x1408.Idx → Elt F .bf16) (f9 : S224x3072.Idx → Elt F .fp8e4m3) (f10 : S224x1.Idx → Elt F .f32) (Wt : Waits sig Unit) :
    iprop(Ring0 c W f14 f9 f10 (wd G) (wd fE) (n - 1) ∗ Xfly c X ∗ Tabs (F := F) c G fE fL ∗ owes (c : Thread nD τ) 0 Wt)
    ⊢ wp frame (wpE (defs₀ (F := F)) Variants.none (c : Thread nD τ) none) Set.univ (k0_part10 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 v19 (BitVec.ofNat 32 (wd G 0))) (fun r => iprop(
      ⌜r = ⟨k0_pay6 (x0 X), k0_pay7 (x0 X), k0_pay8, k0_pay9, 23#32⟩⌝
      ∗ Tabs (F := F) c G fE fL ∗ Ring c W (wd G) (wd fE) (n - 1) (min n 8) (Finset.range 8) ∗ Lrem c W (n - 1) (min n 8)
      ∗ ptv c cc0_scratch9 Finset.univ (y0 f14) ∗ ptv c cc0_scratch4 Finset.univ (q0 f9) ∗ ptv c cc0_scratch5 Finset.univ (s0 f10)
      ∗ (ptv c cc0_scratch3 Finset.univ X ∗ ptv c main_arg0 Finset.univ X) ∗ semVal ((c : Thread nD τ), SemLoc.dma (si 1)) 0
        ∗ ∃ Wt', owes (c : Thread nD τ) 0 Wt')) := by
  obtain ⟨row, hs⟩ := hL
  have h1 := hs.one
  have hn : n ≤ 16 := hs.le
  have hg0 : wd G 0 ≤ 192 := by have := off_le (wd G) (show 1 ≤ 16 by omega); have h : off (wd G) 1 = 0 + wd G 0 := rfl; omega
  have hE0 : wd fE 0 = 0 := hs.first
  have hins : Finset.range 8 = insert 0 ((Finset.range 8).erase 0) := by decide
  have hpre := fun k => pre_part (F := F) c W fE (wd G) n h1 hn (fun j hj => hs.lt j hj) (fun j hj h0 => hs.pos j hj h0) hw3 v19 k
  rw [k0_part10_eq_skeleton]
  unfold k0_part10_skel Ring0 Tabs
  have hfin : iprop(pt6 (F := F) c fE ∗ ((Piece c (hd 0) 0 0 1536 0 (tH 0) W ∗ (if 0 = n - 1 then Lfly c W 0 0 else if wd G 0 = 0 then Rfree c W 0
        else Piece c (rs 0) 0 1536 1536 0 (tR 0) W)) ∗ Ring c W (wd G) (wd fE) (n - 1) 1 ((Finset.range 8).erase 0)) ∗ Lrem c W (n - 1) 1)
      ⊢ preInv c W fE (wd G) n 0 := by
    unfold preInv
    rw [Ring_insert c W (T := Finset.range 8) (Finset.notMem_erase _ _) hins, Cell_job c W (show 0 < 0 + 1 by omega)]
    unfold Job
    rw [show 0 % 8 = 0 from rfl, hE0]
  have hpm : preInv c W fE (wd G) n (min n 8 - 1) ⊢ iprop(pt6 (F := F) c fE ∗ Ring c W (wd G) (wd fE) (n - 1) (min n 8) (Finset.range 8) ∗ Lrem c W (n - 1) (min n 8)) := by
    unfold preInv; rw [show min n 8 - 1 + 1 = min n 8 by omega]
  by_cases hc : 0 < wd G 0 ∨ n = 1
  · by_cases hl : 0 = n - 1
    · rw [if_pos hl, Lrem_gone c W (show n - 1 < 1 by omega)] at hfin
      unfold Lfree Rfree
      unfold Lfly at hfin
      iintro ⟨⟨⟨HP, ⟨%f2, Hd2, Hw2, Hs2⟩⟩, HR, ⟨⟨Ht0, Hm0⟩, ⟨Ht1, Hm1⟩, ⟨Ht2, Hm2⟩⟩, H14, H9, H10⟩, Hx, ⟨H5, H6, H7⟩, Ho⟩
      sl_rw [dif_pos ((cond2_eq n _ h1 hn hg0).mpr hc)]
      iapply (rd6 c fE 0 rfl (by decide)) $$ H6
      iintro H6
      sl_rw [hE0]
      iapply (asm c (chk2_ok _ _ 0 (by decide)))
      sl_rw [dif_neg (fun h => absurd ((cond3_eq n h1 hn).mp h) (by omega))]
      sl_rw [dif_pos ((cond4_eq n h1 hn).mpr hl)]
      ihave Hd' := (Rfree_split c _ _) $$ Hd2
      icases Hd' with ⟨Hp0, Hp1, Hp2⟩
      iapply (copy_start c 768 (by decide) (ls 0) 0 1536 0 (by decide) (tL 0) W f2
        rfl rfl rfl (toNat16 0 (by decide)) rfl rfl sem_ls0) $$ [Hp0 Ht0 Hm0]
      · iframe
      iintro HQ0
      iapply (copy_start c 512 (by decide) (ls 1) 0 2304 0 (by decide) (tL 1) W f2
        rfl rfl rfl (toNat16 0 (by decide)) rfl rfl sem_ls1) $$ [Hp1 Ht1 Hm1]
      · iframe
      iintro HQ1
      iapply (copy_start c 256 (by decide) (ls 2) 0 2816 0 (by decide) (tL 2) W f2
        rfl rfl rfl (toNat16 0 (by decide)) rfl rfl sem_ls2) $$ [Hp2 Ht2 Hm2]
      · iframe
      iintro HQ2
      ihave HI := hfin $$ [H6 HP HQ0 HQ1 HQ2 Hw2 Hs2 HR]
      · iframe
      iapply (forl c (fun k _ => preInv c W fE (wd G) n k) (min n 8 - 1) (trips2 n h1 hn) (fun k acc => by
              unfold k0_t2_body; rw [wp_bind]; refine (hpre k).trans (wp_mono _ _ _ fun _ => ?_); exact ret c _)) $$ HI
      iintro %u1 HI
      iapply (forl c (fun _ _ => iprop(emp)) 0 (trips3 n h1 hn) (fun k acc => absurd k.isLt (by have := trips3 n h1 hn; omega))) $$ []
      · iempintro
      iintro %u2 _
      iapply (lu14 c _) $$ H14
      iintro H14
      iapply (su14 c _) $$ H14
      iintro H14
      iapply (lu9 c _) $$ H9
      iintro H9
      iapply (su9 c _) $$ H9
      iintro H9
      iapply (lu10 c _) $$ H10
      iintro H10
      iapply (su10 c _) $$ H10
      iintro H10
      unfold Xfly
      iapply (wcopy_wait c (src := main_arg0) (dst := cc0_scratch3) (ss := si 1) (q := fullShare) (fs := X) (fd := X) (by decide +kernel) (N := a8.view.amount (.dma (si 1))) rfl) $$ [Hx Ho]
      · iframe
      iintro ⟨⟨H8, Hx⟩, Hs1, Ho⟩
      iapply (lu8 c _) $$ H8
      iintro H8
      iapply (ret c _)
      isplitr
      · ipureintro; rfl
      ihave HI' := hpm $$ HI
      icases HI' with ⟨H6, HR, HL⟩
      unfold y0 q0 s0
      iframe
      iexists _; iexact Ho
    · rw [if_neg hl, if_neg (by omega), Lrem_free c W (show 1 ≤ n - 1 by omega)] at hfin
      unfold Rfree
      iintro ⟨⟨⟨HP, ⟨%f2, Hd2, Hw2, Hs2⟩⟩, HR, HL, H14, H9, H10⟩, Hx, ⟨H5, H6, H7⟩, Ho⟩
      sl_rw [dif_pos ((cond2_eq n _ h1 hn hg0).mpr hc)]
      iapply (rd6 c fE 0 rfl (by decide)) $$ H6
      iintro H6
      sl_rw [hE0]
      iapply (asm c (chk2_ok _ _ 0 (by decide)))
      sl_rw [dif_pos ((cond3_eq n h1 hn).mpr (by omega))]
      iapply (copy_start c 1536 (by decide) (rs 0) 0 1536 0 (by decide) (tR 0) W f2
        rfl rfl rfl (toNat16 0 (by decide)) rfl rfl (sem_rs _ 0 rfl _)) $$ [Hd2 Hw2 Hs2]
      · iframe
      iintro HQ
      sl_rw [dif_neg (fun h => hl ((cond4_eq n h1 hn).mp h))]
      ihave HI := hfin $$ [H6 HP HQ HR HL]
      · iframe
      iapply (forl c (fun k _ => preInv c W fE (wd G) n k) (min n 8 - 1) (trips2 n h1 hn) (fun k acc => by
              unfold k0_t2_body; rw [wp_bind]; refine (hpre k).trans (wp_mono _ _ _ fun _ => ?_); exact ret c _)) $$ HI
      iintro %u1 HI
      iapply (forl c (fun _ _ => iprop(emp)) 0 (trips3 n h1 hn) (fun k acc => absurd k.isLt (by have := trips3 n h1 hn; omega))) $$ []
      · iempintro
      iintro %u2 _
      iapply (lu14 c _) $$ H14
      iintro H14
      iapply (su14 c _) $$ H14
      iintro H14
      iapply (lu9 c _) $$ H9
      iintro H9
      iapply (su9 c _) $$ H9
      iintro H9
      iapply (lu10 c _) $$ H10
      iintro H10
      iapply (su10 c _) $$ H10
      iintro H10
      unfold Xfly
      iapply (wcopy_wait c (src := main_arg0) (dst := cc0_scratch3) (ss := si 1) (q := fullShare) (fs := X) (fd := X) (by decide +kernel) (N := a8.view.amount (.dma (si 1))) rfl) $$ [Hx Ho]
      · iframe
      iintro ⟨⟨H8, Hx⟩, Hs1, Ho⟩
      iapply (lu8 c _) $$ H8
      iintro H8
      iapply (ret c _)
      isplitr
      · ipureintro; rfl
      ihave HI' := hpm $$ HI
      icases HI' with ⟨H6, HR, HL⟩
      unfold y0 q0 s0
      iframe
      iexists _; iexact Ho
  · rw [if_neg (show ¬ 0 = n - 1 by omega), if_pos (by omega), Lrem_free c W (show 1 ≤ n - 1 by omega)] at hfin
    iintro ⟨⟨⟨HP, Hf⟩, HR, HL, H14, H9, H10⟩, Hx, ⟨H5, H6, H7⟩, Ho⟩
    sl_rw [dif_neg (fun h => hc ((cond2_eq n _ h1 hn hg0).mp h))]
    ihave HI := hfin $$ [H6 HP Hf HR HL]
    · iframe
    iapply (forl c (fun k _ => preInv c W fE (wd G) n k) (min n 8 - 1) (trips2 n h1 hn) (fun k acc => by
            unfold k0_t2_body; rw [wp_bind]; refine (hpre k).trans (wp_mono _ _ _ fun _ => ?_); exact ret c _)) $$ HI
    iintro %u1 HI
    iapply (forl c (fun _ _ => iprop(emp)) 0 (trips3 n h1 hn) (fun k acc => absurd k.isLt (by have := trips3 n h1 hn; omega))) $$ []
    · iempintro
    iintro %u2 _
    iapply (lu14 c _) $$ H14
    iintro H14
    iapply (su14 c _) $$ H14
    iintro H14
    iapply (lu9 c _) $$ H9
    iintro H9
    iapply (su9 c _) $$ H9
    iintro H9
    iapply (lu10 c _) $$ H10
    iintro H10
    iapply (su10 c _) $$ H10
    iintro H10
    unfold Xfly
    iapply (wcopy_wait c (src := main_arg0) (dst := cc0_scratch3) (ss := si 1) (q := fullShare) (fs := X) (fd := X) (by decide +kernel) (N := a8.view.amount (.dma (si 1))) rfl) $$ [Hx Ho]
    · iframe
    iintro ⟨⟨H8, Hx⟩, Hs1, Ho⟩
    iapply (lu8 c _) $$ H8
    iintro H8
    iapply (ret c _)
    isplitr
    · ipureintro; rfl
    ihave HI' := hpm $$ HI
    icases HI' with ⟨H6, HR, HL⟩
    unfold y0 q0 s0
    iframe
    iexists _; iexact Ho

end

end Cert.KernelIdeal.Hand
-- ==== Proof.Quant.lean ====
/-
  The quantiser: six tiles of thirty-two rows, each read, quantised and stored.
-/
module

public import proofs.«01_k».proof.Proof.Fill

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

section

variable (c : Dev nD) (X : S192x3072.Idx → Elt F .bf16)

/-- The activations, the codes and the scales. -/
def Qst (f9 : S224x3072.Idx → Elt F .fp8e4m3) (f10 : S224x1.Idx → Elt F .f32) : sProp 𝕄 :=
  iprop(ptv c cc0_scratch3 Finset.univ X ∗ ptv c cc0_scratch4 Finset.univ f9 ∗ ptv c cc0_scratch5 Finset.univ f10)

def q9_0 (f : S224x3072.Idx → Elt F .fp8e4m3) (w : Vec F S32x3072 .fp8e4m3) : S224x3072.Idx → Elt F .fp8e4m3 :=
  (a9.access (Rect.unit (s := S224x3072) ![0, 0] S32x3072.size inb_S224x3072_S32x3072_0_0)).write (Elt F) f w Finset.univ
def q10_0 (f : S224x1.Idx → Elt F .f32) (w : Vec F S32x1 .f32) : S224x1.Idx → Elt F .f32 :=
  (a10.access (Rect.unit (s := S224x1) ![0, 0] S32x1.size inb_S224x1_S32x1_0_0)).write (Elt F) f w Finset.univ
def q9_1 (f : S224x3072.Idx → Elt F .fp8e4m3) (w : Vec F S32x3072 .fp8e4m3) : S224x3072.Idx → Elt F .fp8e4m3 :=
  (a9.access (Rect.unit (s := S224x3072) ![32, 0] S32x3072.size inb_S224x3072_S32x3072_32_0)).write (Elt F) f w Finset.univ
def q10_1 (f : S224x1.Idx → Elt F .f32) (w : Vec F S32x1 .f32) : S224x1.Idx → Elt F .f32 :=
  (a10.access (Rect.unit (s := S224x1) ![32, 0] S32x1.size inb_S224x1_S32x1_32_0)).write (Elt F) f w Finset.univ
def q9_2 (f : S224x3072.Idx → Elt F .fp8e4m3) (w : Vec F S32x3072 .fp8e4m3) : S224x3072.Idx → Elt F .fp8e4m3 :=
  (a9.access (Rect.unit (s := S224x3072) ![64, 0] S32x3072.size inb_S224x3072_S32x3072_64_0)).write (Elt F) f w Finset.univ
def q10_2 (f : S224x1.Idx → Elt F .f32) (w : Vec F S32x1 .f32) : S224x1.Idx → Elt F .f32 :=
  (a10.access (Rect.unit (s := S224x1) ![64, 0] S32x1.size inb_S224x1_S32x1_64_0)).write (Elt F) f w Finset.univ
def q9_3 (f : S224x3072.Idx → Elt F .fp8e4m3) (w : Vec F S32x3072 .fp8e4m3) : S224x3072.Idx → Elt F .fp8e4m3 :=
  (a9.access (Rect.unit (s := S224x3072) ![96, 0] S32x3072.size inb_S224x3072_S32x3072_96_0)).write (Elt F) f w Finset.univ
def q10_3 (f : S224x1.Idx → Elt F .f32) (w : Vec F S32x1 .f32) : S224x1.Idx → Elt F .f32 :=
  (a10.access (Rect.unit (s := S224x1) ![96, 0] S32x1.size inb_S224x1_S32x1_96_0)).write (Elt F) f w Finset.univ
def q9_4 (f : S224x3072.Idx → Elt F .fp8e4m3) (w : Vec F S32x3072 .fp8e4m3) : S224x3072.Idx → Elt F .fp8e4m3 :=
  (a9.access (Rect.unit (s := S224x3072) ![128, 0] S32x3072.size inb_S224x3072_S32x3072_128_0)).write (Elt F) f w Finset.univ
def q10_4 (f : S224x1.Idx → Elt F .f32) (w : Vec F S32x1 .f32) : S224x1.Idx → Elt F .f32 :=
  (a10.access (Rect.unit (s := S224x1) ![128, 0] S32x1.size inb_S224x1_S32x1_128_0)).write (Elt F) f w Finset.univ
def q9_5 (f : S224x3072.Idx → Elt F .fp8e4m3) (w : Vec F S32x3072 .fp8e4m3) : S224x3072.Idx → Elt F .fp8e4m3 :=
  (a9.access (Rect.unit (s := S224x3072) ![160, 0] S32x3072.size inb_S224x3072_S32x3072_160_0)).write (Elt F) f w Finset.univ
def q10_5 (f : S224x1.Idx → Elt F .f32) (w : Vec F S32x1 .f32) : S224x1.Idx → Elt F .f32 :=
  (a10.access (Rect.unit (s := S224x1) ![160, 0] S32x1.size inb_S224x1_S32x1_160_0)).write (Elt F) f w Finset.univ

theorem part11_ok (f9 : S224x3072.Idx → Elt F .fp8e4m3) (f10 : S224x1.Idx → Elt F .f32) (v52 : FVec F S32x1 .f32) (v53 : IVec S32x1 32) (v55 : IVec S32x1 32) (c23 : BitVec 32) :
    Qst c X f9 f10 ⊢ wp frame (wpE (defs₀ (F := F)) Variants.none (c : Thread nD τ) none) Set.univ (k0_part11 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v52 v53 v55 c23) (fun r => iprop(⌜r = ⟨k0_pay10 v52 v53 v55 c23, 1#32⟩⌝ ∗ Qst c X f9 f10)) := by
  rw [k0_part11_eq_skeleton]
  unfold k0_part11_skel Qst
  iintro ⟨H8, H9, H10⟩
  iapply (ret c _)
  isplitr
  · ipureintro; rfl
  iframe

theorem part12_ok (f9 : S224x3072.Idx → Elt F .fp8e4m3) (f10 : S224x1.Idx → Elt F .f32) (v47 : FVec F S32x3072 .f32) (v52 : FVec F S32x1 .f32) (v102 : IVec S32x1 32) (c1 : BitVec 32) :
    Qst c X f9 f10 ⊢ wp frame (wpE (defs₀ (F := F)) Variants.none (c : Thread nD τ) none) Set.univ (k0_part12 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v47 v52 v102 c1) (fun r => iprop(⌜r = k0_pay14 (x1 X)⌝ ∗ Qst c X (q9_0 f9 (k0_pay12 v47 v52 v102 c1)) (q10_0 f10 (k0_pay13 v52 v102 c1)))) := by
  rw [k0_part12_eq_skeleton]
  unfold k0_part12_skel Qst
  iintro ⟨H8, H9, H10⟩
  iapply (lu9 c _) $$ H9
  iintro H9
  iapply (su9 c _) $$ H9
  iintro H9
  iapply (lu10 c _) $$ H10
  iintro H10
  iapply (su10 c _) $$ H10
  iintro H10
  iapply (lu8 c _) $$ H8
  iintro H8
  iapply (ret c _)
  isplitr
  · ipureintro; rfl
  unfold q10_0 q9_0
  iframe

theorem part13_ok (f9 : S224x3072.Idx → Elt F .fp8e4m3) (f10 : S224x1.Idx → Elt F .f32) (v143 : FVec F S32x3072 .f32) :
    Qst c X f9 f10 ⊢ wp frame (wpE (defs₀ (F := F)) Variants.none (c : Thread nD τ) none) Set.univ (k0_part13 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v143) (fun r => iprop(⌜r = ⟨k0_pay15 v143, k0_pay16 v143, k0_pay17 v143, k0_pay18 v143⟩⌝ ∗ Qst c X f9 f10)) := by
  rw [k0_part13_eq_skeleton]
  unfold k0_part13_skel Qst
  iintro ⟨H8, H9, H10⟩
  iapply (ret c _)
  isplitr
  · ipureintro; rfl
  iframe

theorem part14_ok (f9 : S224x3072.Idx → Elt F .fp8e4m3) (f10 : S224x1.Idx → Elt F .f32) (v143 : FVec F S32x3072 .f32) (v148 : FVec F S32x1 .f32) (v184 : IVec S32x1 32) (v186 : IVec S32x1 32) (v188 : IVec S32x1 32) :
    Qst c X f9 f10 ⊢ wp frame (wpE (defs₀ (F := F)) Variants.none (c : Thread nD τ) none) Set.univ (k0_part14 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v143 v148 v184 v186 v188) (fun r => iprop(⌜r = ⟨k0_pay20 v148 v184 v186 v188, k0_pay21 v143 v148 v184 v186 v188, (a9.access (Rect.unit (s := S224x3072) ![32, 0] S32x3072.size inb_S224x3072_S32x3072_32_0)).read (Elt F) f9⟩⌝ ∗ Qst c X f9 f10)) := by
  rw [k0_part14_eq_skeleton]
  unfold k0_part14_skel Qst
  iintro ⟨H8, H9, H10⟩
  iapply (lu9 c _) $$ H9
  iintro H9
  iapply (ret c _)
  isplitr
  · ipureintro; rfl
  iframe

theorem part15_ok (f9 : S224x3072.Idx → Elt F .fp8e4m3) (f10 : S224x1.Idx → Elt F .f32) (v219 : FVec F S32x1 .f32) (v231 : FVec F S32x3072 .fp8e4m3) (v232 : Vec F S32x3072 .fp8e4m3) :
    Qst c X f9 f10 ⊢ wp frame (wpE (defs₀ (F := F)) Variants.none (c : Thread nD τ) none) Set.univ (k0_part15 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v219 v231 v232) (fun r => iprop(⌜r = ⟨k0_pay24 (x2 X), k0_pay25 (x2 X), k0_pay26 (x2 X), k0_pay27⟩⌝ ∗ Qst c X (q9_1 f9 (k0_pay22 v231)) (q10_1 f10 (k0_pay23 v219)))) := by
  rw [k0_part15_eq_skeleton]
  unfold k0_part15_skel Qst
  iintro ⟨H8, H9, H10⟩
  iapply (su9 c _) $$ H9
  iintro H9
  iapply (lu10 c _) $$ H10
  iintro H10
  iapply (su10 c _) $$ H10
  iintro H10
  iapply (lu8 c _) $$ H8
  iintro H8
  iapply (ret c _)
  isplitr
  · ipureintro; rfl
  unfold q10_1 q9_1
  iframe

theorem part16_ok (f9 : S224x3072.Idx → Elt F .fp8e4m3) (f10 : S224x1.Idx → Elt F .f32) (v244 : FVec F S32x1 .f32) (v273 : IVec S32x1 32) (v274 : IVec S32x1 32) :
    Qst c X f9 f10 ⊢ wp frame (wpE (defs₀ (F := F)) Variants.none (c : Thread nD τ) none) Set.univ (k0_part16 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v244 v273 v274) (fun r => iprop(⌜r = ⟨k0_pay29 v244 v273 v274, k0_pay30 v244 v273 v274⟩⌝ ∗ Qst c X f9 f10)) := by
  rw [k0_part16_eq_skeleton]
  unfold k0_part16_skel Qst
  iintro ⟨H8, H9, H10⟩
  iapply (ret c _)
  isplitr
  · ipureintro; rfl
  iframe

theorem part17_ok (f9 : S224x3072.Idx → Elt F .fp8e4m3) (f10 : S224x1.Idx → Elt F .f32) (v239 : FVec F S32x3072 .f32) (v315 : FVec F S32x1 .f32) (v319 : IVec S32x1 32) :
    Qst c X f9 f10 ⊢ wp frame (wpE (defs₀ (F := F)) Variants.none (c : Thread nD τ) none) Set.univ (k0_part17 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v239 v315 v319) (fun r => iprop(⌜r = ⟨k0_pay33 (x3 X), k0_pay34 (x3 X), k0_pay35 (x3 X), k0_pay36 (x3 X), k0_pay37 (x3 X)⟩⌝ ∗ Qst c X (q9_2 f9 (k0_pay31 v239 v319)) (q10_2 f10 (k0_pay32 v315)))) := by
  rw [k0_part17_eq_skeleton]
  unfold k0_part17_skel Qst
  iintro ⟨H8, H9, H10⟩
  iapply (lu9 c _) $$ H9
  iintro H9
  iapply (su9 c _) $$ H9
  iintro H9
  iapply (lu10 c _) $$ H10
  iintro H10
  iapply (su10 c _) $$ H10
  iintro H10
  iapply (lu8 c _) $$ H8
  iintro H8
  iapply (ret c _)
  isplitr
  · ipureintro; rfl
  unfold q10_2 q9_2
  iframe

theorem part18_ok (f9 : S224x3072.Idx → Elt F .fp8e4m3) (f10 : S224x1.Idx → Elt F .f32) (v340 : FVec F S32x1 .f32) (v355 : IVec S32x1 32) (v357 : IVec S32x1 32) (v360 : FVec F S32x1 .f32) :
    Qst c X f9 f10 ⊢ wp frame (wpE (defs₀ (F := F)) Variants.none (c : Thread nD τ) none) Set.univ (k0_part18 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v340 v355 v357 v360) (fun r => iprop(⌜r = k0_pay38 v340 v355 v357 v360⌝ ∗ Qst c X f9 f10)) := by
  rw [k0_part18_eq_skeleton]
  unfold k0_part18_skel Qst
  iintro ⟨H8, H9, H10⟩
  iapply (ret c _)
  isplitr
  · ipureintro; rfl
  iframe

theorem part19_ok (f9 : S224x3072.Idx → Elt F .fp8e4m3) (f10 : S224x1.Idx → Elt F .f32) (v335 : FVec F S32x3072 .f32) (v406 : IVec S32x1 32) :
    Qst c X f9 f10 ⊢ wp frame (wpE (defs₀ (F := F)) Variants.none (c : Thread nD τ) none) Set.univ (k0_part19 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v335 v406) (fun r => iprop(⌜r = ⟨k0_pay41 (x4 X), k0_pay42 (x4 X), k0_pay43 (x4 X), k0_pay44 (x4 X)⟩⌝ ∗ Qst c X (q9_3 f9 (k0_pay39 v335 v406)) (q10_3 f10 (k0_pay40 v406)))) := by
  rw [k0_part19_eq_skeleton]
  unfold k0_part19_skel Qst
  iintro ⟨H8, H9, H10⟩
  iapply (lu9 c _) $$ H9
  iintro H9
  iapply (su9 c _) $$ H9
  iintro H9
  iapply (lu10 c _) $$ H10
  iintro H10
  iapply (su10 c _) $$ H10
  iintro H10
  iapply (lu8 c _) $$ H8
  iintro H8
  iapply (ret c _)
  isplitr
  · ipureintro; rfl
  unfold q10_3 q9_3
  iframe

theorem part20_ok (f9 : S224x3072.Idx → Elt F .fp8e4m3) (f10 : S224x1.Idx → Elt F .f32) (v436 : FVec F S32x1 .f32) (v444 : IVec S32x1 32) (v446 : IVec S32x1 32) :
    Qst c X f9 f10 ⊢ wp frame (wpE (defs₀ (F := F)) Variants.none (c : Thread nD τ) none) Set.univ (k0_part20 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v436 v444 v446) (fun r => iprop(⌜r = k0_pay45 v436 v444 v446⌝ ∗ Qst c X f9 f10)) := by
  rw [k0_part20_eq_skeleton]
  unfold k0_part20_skel Qst
  iintro ⟨H8, H9, H10⟩
  iapply (ret c _)
  isplitr
  · ipureintro; rfl
  iframe

theorem part21_ok (f9 : S224x3072.Idx → Elt F .fp8e4m3) (f10 : S224x1.Idx → Elt F .f32) (v431 : FVec F S32x3072 .f32) (v493 : IVec S32x1 32) :
    Qst c X f9 f10 ⊢ wp frame (wpE (defs₀ (F := F)) Variants.none (c : Thread nD τ) none) Set.univ (k0_part21 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v431 v493) (fun r => iprop(⌜r = ⟨k0_pay49 (x5 X), k0_pay50 (x5 X), 0#32⟩⌝ ∗ Qst c X (q9_4 f9 (k0_pay47 v431 v493)) (q10_4 f10 (k0_pay48 v493)))) := by
  rw [k0_part21_eq_skeleton]
  unfold k0_part21_skel Qst
  iintro ⟨H8, H9, H10⟩
  iapply (lu9 c _) $$ H9
  iintro H9
  iapply (su9 c _) $$ H9
  iintro H9
  iapply (lu10 c _) $$ H10
  iintro H10
  iapply (su10 c _) $$ H10
  iintro H10
  iapply (lu8 c _) $$ H8
  iintro H8
  iapply (ret c _)
  isplitr
  · ipureintro; rfl
  unfold q10_4 q9_4
  iframe

theorem part22_ok (f9 : S224x3072.Idx → Elt F .fp8e4m3) (f10 : S224x1.Idx → Elt F .f32) (v532 : FVec F S32x1 .f32) (c0 : BitVec 32) :
    Qst c X f9 f10 ⊢ wp frame (wpE (defs₀ (F := F)) Variants.none (c : Thread nD τ) none) Set.univ (k0_part22 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v532 c0) (fun r => iprop(⌜r = ⟨k0_pay51 v532 c0, k0_pay52 v532 c0, k0_pay53⟩⌝ ∗ Qst c X f9 f10)) := by
  rw [k0_part22_eq_skeleton]
  unfold k0_part22_skel Qst
  iintro ⟨H8, H9, H10⟩
  iapply (ret c _)
  isplitr
  · ipureintro; rfl
  iframe

theorem part23_ok (f9 : S224x3072.Idx → Elt F .fp8e4m3) (f10 : S224x1.Idx → Elt F .f32) (v527 : FVec F S32x3072 .f32) (v532 : FVec F S32x1 .f32) (v575 : IVec S32x1 32) (v577 : IVec S32x1 32) (v578 : IVec S32x1 32) :
    Qst c X f9 f10 ⊢ wp frame (wpE (defs₀ (F := F)) Variants.none (c : Thread nD τ) none) Set.univ (k0_part23 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v527 v532 v575 v577 v578) (fun r => iprop(⌜r = k0_pay56 v532 v575 v577 v578⌝ ∗ Qst c X (q9_5 f9 (k0_pay55 v527 v532 v575 v577 v578)) f10)) := by
  rw [k0_part23_eq_skeleton]
  unfold k0_part23_skel Qst
  iintro ⟨H8, H9, H10⟩
  iapply (lu9 c _) $$ H9
  iintro H9
  iapply (su9 c _) $$ H9
  iintro H9
  iapply (lu10 c _) $$ H10
  iintro H10
  iapply (ret c _)
  isplitr
  · ipureintro; rfl
  unfold q9_5
  iframe

end

end Cert.KernelIdeal.Hand
-- ==== Proof.LoopWords.lean ====
/-
  The words of the expert loop: the offsets, the tests and the bounds they stand for.
-/
module

public import proofs.«01_k».proof.Proof.Quant

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

theorem trips4 (n : ℕ) (h1 : 1 ≤ n) (h : n ≤ 16) : (k0_t4_loop (BitVec.ofNat 32 n)).trips = n - 1 := by
  have : ∀ n : Fin 17, 1 ≤ n.val → (k0_t4_loop (BitVec.ofNat 32 n.val)).trips = n.val - 1 := by decide +kernel
  exact this ⟨n, by omega⟩ h1

theorem trips9 (n : ℕ) (h1 : 1 ≤ n) (h : n ≤ 16) : (k0_t9_loop (BitVec.ofNat 32 n)).trips = 0 := by
  have : ∀ n : Fin 17, 1 ≤ n.val → (k0_t9_loop (BitVec.ofNat 32 n.val)).trips = 0 := by decide +kernel
  exact this ⟨n, by omega⟩ h1

/-- The words of the expert loop's trip `k`. -/
structure W4 (n t : ℕ) (k : Fin (k0_t4_loop (BitVec.ofNat 32 n)).trips) : Prop where
  o35 : k0_off35 (BitVec.ofNat 32 n) k 0 = t
  o36 : k0_off36 (BitVec.ofNat 32 n) k 0 = t % 8
  o40 : k0_off40 (BitVec.ofNat 32 n) k 0 = t % 8
  o43 : k0_off43 (BitVec.ofNat 32 n) k 0 = t
  o47 : k0_off47 (BitVec.ofNat 32 n) k 0 = t
  o73 : k0_off73 (BitVec.ofNat 32 n) k 0 = t
  o46 : k0_off46 (BitVec.ofNat 32 n) k 0 = t % 8 ∧ k0_off46 (BitVec.ofNat 32 n) k 1 = 0 ∧ k0_off46 (BitVec.ofNat 32 n) k 2 = 0
  o59 : k0_off59 (BitVec.ofNat 32 n) k 0 = t + 8
  o60 : k0_off60 (BitVec.ofNat 32 n) k 0 = t % 8
  o61 : k0_off61 (BitVec.ofNat 32 n) k 0 = t % 8 ∧ k0_off61 (BitVec.ofNat 32 n) k 1 = 0 ∧ k0_off61 (BitVec.ofNat 32 n) k 2 = 0
  o63 : k0_off63 (BitVec.ofNat 32 n) k 0 = t + 8
  o64 : k0_off64 (BitVec.ofNat 32 n) k 0 = t % 8
  o65 : k0_off65 (BitVec.ofNat 32 n) k 0 = t % 8 ∧ k0_off65 (BitVec.ofNat 32 n) k 1 = 1536 ∧ k0_off65 (BitVec.ofNat 32 n) k 2 = 0
  o67 : k0_off67 (BitVec.ofNat 32 n) k 0 = t % 8 ∧ k0_off67 (BitVec.ofNat 32 n) k 1 = 1536 ∧ k0_off67 (BitVec.ofNat 32 n) k 2 = 0
  o69 : k0_off69 (BitVec.ofNat 32 n) k 0 = t % 8 ∧ k0_off69 (BitVec.ofNat 32 n) k 1 = 2304 ∧ k0_off69 (BitVec.ofNat 32 n) k 2 = 0
  o71 : k0_off71 (BitVec.ofNat 32 n) k 0 = t % 8 ∧ k0_off71 (BitVec.ofNat 32 n) k 1 = 2816 ∧ k0_off71 (BitVec.ofNat 32 n) k 2 = 0
  c10 : k0_cond10 (BitVec.ofNat 32 n) k = 1#1 ↔ t + 8 < n
  c11 : k0_cond11 (BitVec.ofNat 32 n) k = 1#1 ↔ t + 8 < n - 1
  c12 : k0_cond12 (BitVec.ofNat 32 n) k = 1#1 ↔ t + 8 = n - 1

theorem w4 (n : ℕ) (h1 : 1 ≤ n) (h : n ≤ 16) (k : Fin (k0_t4_loop (BitVec.ofNat 32 n)).trips) : W4 n k.val k := by
  have a : ∀ n : Fin 17, 1 ≤ n.val → ∀ k : Fin (k0_t4_loop (BitVec.ofNat 32 n.val)).trips,
      k0_off35 (BitVec.ofNat 32 n.val) k 0 = k.val ∧ k0_off36 (BitVec.ofNat 32 n.val) k 0 = k.val % 8
      ∧ k0_off40 (BitVec.ofNat 32 n.val) k 0 = k.val % 8 ∧ k0_off43 (BitVec.ofNat 32 n.val) k 0 = k.val
      ∧ k0_off47 (BitVec.ofNat 32 n.val) k 0 = k.val ∧ k0_off73 (BitVec.ofNat 32 n.val) k 0 = k.val
      ∧ (k0_off46 (BitVec.ofNat 32 n.val) k 0 = k.val % 8 ∧ k0_off46 (BitVec.ofNat 32 n.val) k 1 = 0 ∧ k0_off46 (BitVec.ofNat 32 n.val) k 2 = 0) := by decide +kernel
  have b : ∀ n : Fin 17, 1 ≤ n.val → ∀ k : Fin (k0_t4_loop (BitVec.ofNat 32 n.val)).trips,
      k0_off59 (BitVec.ofNat 32 n.val) k 0 = k.val + 8 ∧ k0_off60 (BitVec.ofNat 32 n.val) k 0 = k.val % 8
      ∧ (k0_off61 (BitVec.ofNat 32 n.val) k 0 = k.val % 8 ∧ k0_off61 (BitVec.ofNat 32 n.val) k 1 = 0 ∧ k0_off61 (BitVec.ofNat 32 n.val) k 2 = 0)
      ∧ k0_off63 (BitVec.ofNat 32 n.val) k 0 = k.val + 8 ∧ k0_off64 (BitVec.ofNat 32 n.val) k 0 = k.val % 8 := by decide +kernel
  have b' : ∀ n : Fin 17, 1 ≤ n.val → ∀ k : Fin (k0_t4_loop (BitVec.ofNat 32 n.val)).trips,
      (k0_off65 (BitVec.ofNat 32 n.val) k 0 = k.val % 8 ∧ k0_off65 (BitVec.ofNat 32 n.val) k 1 = 1536 ∧ k0_off65 (BitVec.ofNat 32 n.val) k 2 = 0)
      ∧ (k0_off67 (BitVec.ofNat 32 n.val) k 0 = k.val % 8 ∧ k0_off67 (BitVec.ofNat 32 n.val) k 1 = 1536 ∧ k0_off67 (BitVec.ofNat 32 n.val) k 2 = 0)
      ∧ (k0_off69 (BitVec.ofNat 32 n.val) k 0 = k.val % 8 ∧ k0_off69 (BitVec.ofNat 32 n.val) k 1 = 2304 ∧ k0_off69 (BitVec.ofNat 32 n.val) k 2 = 0)
      ∧ (k0_off71 (BitVec.ofNat 32 n.val) k 0 = k.val % 8 ∧ k0_off71 (BitVec.ofNat 32 n.val) k 1 = 2816 ∧ k0_off71 (BitVec.ofNat 32 n.val) k 2 = 0) := by decide +kernel
  have d : ∀ n : Fin 17, 1 ≤ n.val → ∀ k : Fin (k0_t4_loop (BitVec.ofNat 32 n.val)).trips,
      (k0_cond10 (BitVec.ofNat 32 n.val) k = 1#1 ↔ k.val + 8 < n.val) ∧ (k0_cond11 (BitVec.ofNat 32 n.val) k = 1#1 ↔ k.val + 8 < n.val - 1)
      ∧ (k0_cond12 (BitVec.ofNat 32 n.val) k = 1#1 ↔ k.val + 8 = n.val - 1) := by
    decide +kernel
  obtain ⟨a1, a2, a3, a4, a5, a6, a7⟩ := a ⟨n, by omega⟩ h1 k
  obtain ⟨b1, b2, b3, b4, b5⟩ := b ⟨n, by omega⟩ h1 k
  obtain ⟨e1, e2, e3, e4⟩ := b' ⟨n, by omega⟩ h1 k
  obtain ⟨d1, d2, d3⟩ := d ⟨n, by omega⟩ h1 k
  exact ⟨a1, a2, a3, a4, a5, a6, a7, b1, b2, b3, b4, b5, e1, e2, e3, e4, d1, d2, d3⟩

theorem inb16 (e : ℕ) (he : e < 16) (off : Fin 1 → ℕ) (h : off 0 = e) : ∀ a, off a + S1.size a ≤ S16.size a := by
  intro (a : Fin 1)
  fin_cases a
  show off 0 + 1 ≤ 16
  omega

theorem chk8_ok (e : ℕ) (he : e < 16) : k0_chk8 (BitVec.ofNat 32 e) := by
  have h : k0_off38 (BitVec.ofNat 32 e) = ![e, 0, 0] := wnat e 0 he
  refine ⟨?_, fun hinb => ww1536 e he _ 0 (.inl rfl) h hinb, inb16 e he _ (toNat16 e he), inb16 e he _ (toNat16 e he)⟩
  rw [h]; exact inb3 e 0 1536 he (by omega)

theorem chk10_ok (e : ℕ) (he : e < 16) : k0_chk10 (BitVec.ofNat 32 e) := inb16 e he _ (toNat16 e he)

theorem chk14_ok (n : ℕ) (k : Fin (k0_t4_loop (BitVec.ofNat 32 n)).trips) (e : ℕ) (he : e < 16) : k0_chk14 (BitVec.ofNat 32 n) k (BitVec.ofNat 32 e) := by
  have h : k0_off62 (BitVec.ofNat 32 e) = ![e, 0, 0] := wnat e 0 he
  refine ⟨fun _ => ?_, fun _ hinb => ww1536 e he _ 0 (.inl rfl) h hinb⟩
  rw [h]; exact inb3 e 0 1536 he (by omega)

theorem chk15_ok (n : ℕ) (k : Fin (k0_t4_loop (BitVec.ofNat 32 n)).trips) (e : ℕ) (he : e < 16) : k0_chk15 (BitVec.ofNat 32 n) k (BitVec.ofNat 32 e) := by
  have h1 : k0_off66 (BitVec.ofNat 32 e) = ![e, 1536, 0] := wnat e 1536 he
  have h2 : k0_off68 (BitVec.ofNat 32 e) = ![e, 1536, 0] := wnat e 1536 he
  have h3 : k0_off70 (BitVec.ofNat 32 e) = ![e, 2304, 0] := wnat e 2304 he
  have h4 : k0_off72 (BitVec.ofNat 32 e) = ![e, 2816, 0] := wnat e 2816 he
  unfold k0_chk15
  rw [h1, h2, h3, h4]
  exact ⟨fun _ _ => inb3 e 1536 1536 he (by omega), fun _ _ hinb => ww1536 e he _ 1536 (.inr rfl) rfl hinb,
    fun _ _ => inb3 e 1536 768 he (by omega), fun _ _ hinb => ww768 e he hinb,
    fun _ _ => inb3 e 2304 512 he (by omega), fun _ _ hinb => ww512 e he hinb,
    fun _ _ => inb3 e 2816 256 he (by omega), fun _ _ hinb => ww256 e he hinb⟩

theorem cond9_eq (g : ℕ) (hg : g ≤ 192) : k0_cond9 (BitVec.ofNat 32 g) = 1#1 ↔ 0 < g := by
  have : ∀ g : Fin 193, k0_cond9 (BitVec.ofNat 32 g.val) = 1#1 ↔ 0 < g.val := by decide +kernel
  exact this ⟨g, by omega⟩

theorem ww8 (s : ℕ) (off : Fin 3 → ℕ) (h : off = ![s, 1536, 0])
    (hinb : ∀ a, off a + S1x1536x1408.size a ≤ S8x3072x1408.size a) :
    (Rect.unit (s := S8x3072x1408) off S1x1536x1408.size hinb).WholeWords (EltTy.packing .fp8e4m3) := by
  subst h
  have hs : s < 8 := by have := hinb 0; have h1 : S1x1536x1408.size 0 = 1 := rfl; have h8 : S8x3072x1408.size 0 = 8 := rfl; have h2 : (![s, 1536, 0] : Fin 3 → ℕ) 0 = s := rfl; omega
  have a : ∀ e : Fin 8, ∀ hinb, (Rect.unit (s := S8x3072x1408) ![e.val, 1536, 0] S1x1536x1408.size hinb).WholeWords (EltTy.packing .fp8e4m3) := by decide +kernel
  exact a ⟨s, hs⟩ hinb

theorem off41_eq (n : ℕ) (k : Fin (k0_t4_loop (BitVec.ofNat 32 n)).trips) (s : ℕ) (h : k0_off40 (BitVec.ofNat 32 n) k 0 = s) :
    k0_off41 (BitVec.ofNat 32 n) k = ![s, 1536, 0] := by subst h; rfl
theorem off37_eq (n : ℕ) (k : Fin (k0_t4_loop (BitVec.ofNat 32 n)).trips) (s : ℕ) (h : k0_off40 (BitVec.ofNat 32 n) k 0 = s) :
    k0_off37 (BitVec.ofNat 32 n) k = ![s, 0, 0] := by subst h; rfl

theorem chk9_ok (n : ℕ) (h1 : 1 ≤ n) (h : n ≤ 16) (k : Fin (k0_t4_loop (BitVec.ofNat 32 n)).trips) (e : ℕ) (he : e < 16) (v : BitVec 32) :
    k0_chk9 (BitVec.ofNat 32 n) k (BitVec.ofNat 32 e) v := by
  have w := w4 n h1 h k
  have h2 : k0_off42 (BitVec.ofNat 32 e) = ![e, 1536, 0] := wnat e 1536 he
  have h3 := off41_eq n k _ w.o40
  unfold k0_chk9
  rw [h2]
  refine ⟨fun _ (a : Fin 1) => ?_, fun _ => ?_, fun _ => inb3 e 1536 1536 he (by omega), fun _ hinb => ww1536 e he _ 1536 (.inr rfl) rfl hinb, fun _ hinb => ww8 _ _ h3 hinb⟩
  · fin_cases a
    have := w.o40
    show k0_off40 (BitVec.ofNat 32 n) k 0 + 1 ≤ 8
    omega
  · rw [h3]
    intro a
    fin_cases a
    · show k.val % 8 + 1 ≤ 8; omega
    · show 1536 + 1536 ≤ 3072; omega
    · show 0 + 1408 ≤ 1408; omega

theorem chk12_ok (e : ℕ) (he : e < 16) : k0_chk12 (BitVec.ofNat 32 e) := by
  refine ⟨?_, inb16 e he _ (toNat16 e he)⟩
  have h : k0_off49 (BitVec.ofNat 32 e) = ![e, 0, 0] := wnat e 0 he
  rw [h]
  intro a
  fin_cases a
  · show e + 1 ≤ 16; omega
  · show 0 + 1 ≤ 1; omega
  · show 0 + 1408 ≤ 1408; omega

end Cert.KernelIdeal.Hand
-- ==== Proof.WinWords.lean ====
/-
  The words of the windows of one expert: their number and where each starts.
-/
module

public import proofs.«01_k».proof.Proof.LoopWords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

/-- The first row of the windows of an expert whose rows start at `lo`. -/
def base (lo : ℕ) : ℕ := 32 * (lo / 32)
/-- The number of its windows. -/
def nwin (lo g : ℕ) : ℕ := (lo + g - base lo + 63) / 64

theorem and_eq (lo : ℕ) (hl : lo ≤ 192) : Scalar.andi (BitVec.ofNat 32 lo) 4294967264#32 = BitVec.ofNat 32 (base lo) := by
  have a : ∀ lo : Fin 193, Scalar.andi (BitVec.ofNat 32 lo.val) 4294967264#32 = BitVec.ofNat 32 (base lo.val) := by decide +kernel
  exact a ⟨lo, by omega⟩

/-- The rows from the first window's start to the end of the expert. -/
theorem span_eq (lo g : ℕ) (h : lo + g ≤ 192) :
    Scalar.subi (Scalar.addi (BitVec.ofNat 32 lo) (BitVec.ofNat 32 g)) (Scalar.andi (BitVec.ofNat 32 lo) 4294967264#32)
      = BitVec.ofNat 32 (lo + g - base lo) := by
  have hb : base lo ≤ lo := by unfold base; omega
  rw [and_eq lo (by omega)]
  show BitVec.ofNat 32 lo + BitVec.ofNat 32 g - BitVec.ofNat 32 (base lo) = _
  apply BitVec.eq_of_toNat_eq
  simp only [BitVec.toNat_sub, BitVec.toNat_add, BitVec.toNat_ofNat]
  omega

theorem t5_eq {a b a' b' : BitVec 32} (h : Scalar.subi (Scalar.addi a b) (Scalar.andi a 4294967264#32) = Scalar.subi (Scalar.addi a' b') (Scalar.andi a' 4294967264#32)) :
    k0_t5_loop a b = k0_t5_loop a' b' := by
  unfold k0_t5_loop
  simp only
  rw [h]
theorem t6_eq {a b a' b' : BitVec 32} (h : Scalar.subi (Scalar.addi a b) (Scalar.andi a 4294967264#32) = Scalar.subi (Scalar.addi a' b') (Scalar.andi a' 4294967264#32)) :
    k0_t6_loop a b = k0_t6_loop a' b' := by
  unfold k0_t6_loop
  simp only
  rw [h]
theorem span0 (d : ℕ) (hd : d ≤ 224) : Scalar.subi (Scalar.addi 0#32 (BitVec.ofNat 32 d)) (Scalar.andi 0#32 4294967264#32) = BitVec.ofNat 32 d := by
  have a : ∀ d : Fin 225, Scalar.subi (Scalar.addi 0#32 (BitVec.ofNat 32 d.val)) (Scalar.andi 0#32 4294967264#32) = BitVec.ofNat 32 d.val := by decide +kernel
  exact a ⟨d, by omega⟩

theorem trips5 (lo g : ℕ) (h : lo + g ≤ 192) : (k0_t5_loop (BitVec.ofNat 32 lo) (BitVec.ofNat 32 g)).OK
    ∧ (k0_t5_loop (BitVec.ofNat 32 lo) (BitVec.ofNat 32 g)).trips = nwin lo g := by
  have a : ∀ d : Fin 225, (k0_t5_loop 0#32 (BitVec.ofNat 32 d.val)).OK ∧ (k0_t5_loop 0#32 (BitVec.ofNat 32 d.val)).trips = (d.val + 63) / 64 := by decide +kernel
  have hd : lo + g - base lo ≤ 224 := by omega
  rw [t5_eq ((span_eq lo g h).trans (span0 _ hd).symm)]
  exact a ⟨lo + g - base lo, by omega⟩

theorem trips6 (lo g : ℕ) (h : lo + g ≤ 192) : (k0_t6_loop (BitVec.ofNat 32 lo) (BitVec.ofNat 32 g)).OK
    ∧ (k0_t6_loop (BitVec.ofNat 32 lo) (BitVec.ofNat 32 g)).trips = 0 := by
  have a : ∀ d : Fin 225, (k0_t6_loop 0#32 (BitVec.ofNat 32 d.val)).OK ∧ (k0_t6_loop 0#32 (BitVec.ofNat 32 d.val)).trips = 0 := by decide +kernel
  have hd : lo + g - base lo ≤ 224 := by omega
  rw [t6_eq ((span_eq lo g h).trans (span0 _ hd).symm)]
  exact a ⟨lo + g - base lo, by omega⟩

theorem nwin_le (lo g j : ℕ) (h : lo + g ≤ 192) (hj : j < nwin lo g) : base lo + 64 * j + 64 ≤ 224 := by
  unfold nwin at hj; unfold base at *; omega

theorem base_word (lo j : ℕ) (hl : lo ≤ 192) (hj : j < 4) :
    (Scalar.addi (Scalar.andi (BitVec.ofNat 32 lo) 4294967264#32) (Scalar.muli (Scf.iv 0#32 1#32 j) 64#32)).toNat = base lo + 64 * j := by
  have a : ∀ lo : Fin 193, ∀ j : Fin 4, (Scalar.addi (Scalar.andi (BitVec.ofNat 32 lo.val) 4294967264#32) (Scalar.muli (Scf.iv 0#32 1#32 j.val) 64#32)).toNat = base lo.val + 64 * j.val := by decide +kernel
  exact a ⟨lo, by omega⟩ ⟨j, hj⟩

/-- The words of one window. -/
structure W5 (lo g j : ℕ) (k : Fin (k0_t5_loop (BitVec.ofNat 32 lo) (BitVec.ofNat 32 g)).trips) : Prop where
  o45 : k0_off45 (BitVec.ofNat 32 lo) (BitVec.ofNat 32 g) k = ![base lo + 64 * j, 0]
  o48 : k0_off48 (BitVec.ofNat 32 lo) (BitVec.ofNat 32 g) k = ![base lo + 64 * j, 0]
  o51 : k0_off51 (BitVec.ofNat 32 lo) (BitVec.ofNat 32 g) k = ![base lo + 64 * j, 0]
  m1 : (k0_mult1 (BitVec.ofNat 32 lo) (BitVec.ofNat 32 g) k).toNat = base lo + 64 * j

theorem w5 (lo g : ℕ) (h : lo + g ≤ 192) (k : Fin (k0_t5_loop (BitVec.ofNat 32 lo) (BitVec.ofNat 32 g)).trips) : W5 lo g k.val k := by
  have hk : k.val < nwin lo g := lt_of_lt_of_eq k.isLt (trips5 lo g h).2
  have := nwin_le lo g k.val h hk
  have b := base_word lo k.val (by omega) (by omega)
  refine ⟨?_, ?_, ?_, b⟩
  · exact congrArg (fun x => (![x, 0] : Fin 2 → ℕ)) b
  · exact congrArg (fun x => (![x, 0] : Fin 2 → ℕ)) b
  · exact congrArg (fun x => (![x, 0] : Fin 2 → ℕ)) b

theorem inb2 (b m L w n : ℕ) (hb : b + L ≤ m) (hw : w ≤ n) : ∀ a, (![b, 0] : Fin 2 → ℕ) a + (⟨2, ![L, w]⟩ : Shape).size a ≤ (⟨2, ![m, n]⟩ : Shape).size a := by
  intro a
  fin_cases a
  · exact hb
  · show 0 + w ≤ n; omega

theorem pr64 (b : ℕ) (hb : b + 64 ≤ 224) (h32 : 32 ∣ b) (off : Fin 2 → ℕ) (h : off = ![b, 0]) (hinb : ∀ a, off a + S64x1408.size a ≤ S224x1408.size a) :
    (Rect.unit (s := S224x1408) off S64x1408.size hinb).PackedRows (EltTy.packing .bf16) := by
  subst h
  obtain ⟨q, rfl⟩ := h32
  have a : ∀ q : Fin 6, ∀ hinb, (Rect.unit (s := S224x1408) ![32 * q.val, 0] S64x1408.size hinb).PackedRows (EltTy.packing .bf16) := by decide +kernel
  exact a ⟨q, by omega⟩ hinb

theorem base_dvd (lo j : ℕ) : 32 ∣ base lo + 64 * j := by unfold base; omega

theorem chk11_ok (n : ℕ) (h1 : 1 ≤ n) (hn : n ≤ 16) (k : Fin (k0_t4_loop (BitVec.ofNat 32 n)).trips) (lo g : ℕ) (h : lo + g ≤ 192) :
    k0_chk11 (BitVec.ofNat 32 n) k (BitVec.ofNat 32 lo) (BitVec.ofNat 32 g) := by
  have w := w4 n h1 hn k
  have hk : k.val < 16 := by have := k.isLt; have := trips4 n h1 hn; omega
  have hj : ∀ j : Fin (k0_t5_loop (BitVec.ofNat 32 lo) (BitVec.ofNat 32 g)).trips, base lo + 64 * j.val + 64 ≤ 224 :=
    fun j => nwin_le lo g j.val h (lt_of_lt_of_eq j.isLt (trips5 lo g h).2)
  have z : ∀ j : Fin (k0_t6_loop (BitVec.ofNat 32 lo) (BitVec.ofNat 32 g)).trips, False := fun j => by
    have := j.isLt; have := (trips6 lo g h).2; omega
  refine ⟨(trips5 lo g h).1, ?_, ?_, ?_, ?_, ?_, ?_, ?_, (trips6 lo g h).1, fun j => (z j).elim, fun j => (z j).elim, fun j => (z j).elim, fun j => (z j).elim, fun j => (z j).elim, fun j => (z j).elim, fun j => (z j).elim⟩
  · intro j; rw [(w5 lo g h j).m1]; exact base_dvd lo j.val
  · intro j; rw [(w5 lo g h j).o45]; exact inb2 _ 224 64 3072 3072 (hj j) (by omega)
  · intro j a
    obtain ⟨x, y, u⟩ := w.o46
    fin_cases a
    · show k0_off46 (BitVec.ofNat 32 n) k 0 + 1 ≤ 8; omega
    · show k0_off46 (BitVec.ofNat 32 n) k 1 + 3072 ≤ 3072; omega
    · show k0_off46 (BitVec.ofNat 32 n) k 2 + 1408 ≤ 1408; omega
  · intro j; exact inb16 k.val hk _ w.o47
  · intro j; rw [(w5 lo g h j).o48]; exact inb2 _ 224 64 1 1 (hj j) (by omega)
  · intro j; rw [(w5 lo g h j).o51]; exact inb2 _ 224 64 1408 1408 (hj j) (by omega)
  · intro j hinb; exact pr64 _ (hj j) (base_dvd lo j.val) _ (w5 lo g h j).o51 hinb

end Cert.KernelIdeal.Hand
-- ==== Proof.Window.lean ====
/-
  The windows of one expert: each multiplies 64 rows of codes with the expert's weights and keeps the rows that are the
  expert's own.
-/
module

public import proofs.«01_k».proof.Proof.WinWords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

/-- The rows of the result buffer from the `p`-th piece on. -/
def yrows (p : ℕ) : Finset S224x1408.Idx := Finset.univ.filter fun i => 32 * p ≤ (i 0).val

theorem mem_yrows {p : ℕ} {i : S224x1408.Idx} : i ∈ yrows p ↔ 32 * p ≤ (i 0).val := by simp [yrows]

/-- 64 rows from row `b` on of the four row-indexed buffers. -/
abbrev r9 (b : ℕ) (h : b + 64 ≤ 224) : Rect S224x3072 := Rect.unit (s := S224x3072) ![b, 0] S64x3072.size (inb2 b 224 64 3072 3072 h (by omega))
abbrev r10 (b : ℕ) (h : b + 64 ≤ 224) : Rect S224x1 := Rect.unit (s := S224x1) ![b, 0] S64x1.size (inb2 b 224 64 1 1 h (by omega))
abbrev r14 (b : ℕ) (h : b + 64 ≤ 224) : Rect S224x1408 := Rect.unit (s := S224x1408) ![b, 0] S64x1408.size (inb2 b 224 64 1408 1408 h (by omega))

/-- The weights of expert `e`, with the leading axis of length 1 the kernel loads them with. -/
def wmat (W : S16x3072x1408.Idx → Elt F .fp8e4m3) (e : ℕ) : Vec F S1x3072x1408 .fp8e4m3 := fun x => W (wix e (x 1) (x 2))
/-- The scales of expert `e`. -/
def wsrow (WS : S16x1x1408.Idx → Elt F .f32) (e : ℕ) : Vec F S1x1x1408 .f32 := fun x => WS (Fin.cons (Fin.ofNat 16 e) (Fin.cons (x 1) (Fin.cons (x 2) (fun a => a.elim0))))

theorem rd9_off (q : S224x3072.Idx → Elt F .fp8e4m3) {off : Fin 2 → ℕ} {b : ℕ} (h : off = ![b, 0]) (hb) (hb') :
    (a9.access (Rect.unit (s := S224x3072) off S64x3072.size hb)).read (Elt F) q = (a9.access (r9 b hb')).read (Elt F) q := by subst h; rfl
theorem rd10_off (q : S224x1.Idx → Elt F .f32) {off : Fin 2 → ℕ} {b : ℕ} (h : off = ![b, 0]) (hb) (hb') :
    (a10.access (Rect.unit (s := S224x1) off S64x1.size hb)).read (Elt F) q = (a10.access (r10 b hb')).read (Elt F) q := by subst h; rfl
theorem rd14_off (q : S224x1408.Idx → Elt F .bf16) {off : Fin 2 → ℕ} {b : ℕ} (h : off = ![b, 0]) (hb) (hb') :
    (a14.access (Rect.unit (s := S224x1408) off S64x1408.size hb)).read (Elt F) q = (a14.access (r14 b hb')).read (Elt F) q := by subst h; rfl
theorem wr14_off (q : S224x1408.Idx → Elt F .bf16) (w : S64x1408.Idx → Elt F .bf16) {off : Fin 2 → ℕ} {b : ℕ} (h : off = ![b, 0]) (hb) (hb') :
    (a14.access (Rect.unit (s := S224x1408) off S64x1408.size hb)).write (Elt F) q w Finset.univ = (a14.access (r14 b hb')).write (Elt F) q w Finset.univ := by subst h; rfl

theorem rd12_off (W : S16x3072x1408.Idx → Elt F .fp8e4m3) (e : ℕ) {off : Fin 3 → ℕ} (h1 : off 1 = 0) (h2 : off 2 = 0) (hb) :
    (a12.access (Rect.unit (s := S8x3072x1408) off S1x3072x1408.size hb)).read (Elt F) (slotc W e) = wmat W e := by
  funext x
  show W (wix e _ _) = W (wix e _ _)
  congr 2
  · refine Fin.ext ?_; show off 1 + 1 * (x 1).val = (x 1).val; omega
  · refine Fin.ext ?_; show off 2 + 1 * (x 2).val = (x 2).val; omega

theorem rd11_off (WS : S16x1x1408.Idx → Elt F .f32) (e : ℕ) (he : e < 16) {off : Fin 3 → ℕ} (h : off = ![e, 0, 0]) (hb) :
    (a11.access (Rect.unit (s := S16x1x1408) off S1x1x1408.size hb)).read (Elt F) WS = wsrow WS e := by
  subst h
  funext x
  show WS _ = WS _
  congr 1
  have x0 : (x 0).val < 1 := (x 0).isLt
  have x1 : (x 1).val < 1 := (x 1).isLt
  refine funext fun (a : Fin 3) => Fin.ext ?_
  fin_cases a
  · show e + 1 * (x 0).val = e % 16; omega
  · show 0 + 1 * (x 1).val = (x 1).val; omega
  · show 0 + 1 * (x 2).val = (x 2).val; omega

theorem set12 (L : ℕ) (s o : ℕ) (off : Fin 3 → ℕ) (h0 : off 0 = s) (h1 : off 1 = o) (h2 : off 2 = 0)
    (hb : ∀ a, off a + (Sw L).size a ≤ S8x3072x1408.size a) :
    ((a12.access (Rect.unit (s := S8x3072x1408) off (Sw L).size hb)).set : Finset S8x3072x1408.Idx) = rowsSet s o (o + L) := by
  show ((View.whole cc0_scratch7).slice _).set = _
  rw [View.set_slice_whole]
  ext i
  rw [mem_rowsSet]
  refine Rect.mem_set_unit.trans ?_
  have e0 : (Sw L).size 0 = 1 := rfl
  have e1 : (Sw L).size 1 = L := rfl
  have e2 : (Sw L).size 2 = 1408 := rfl
  constructor
  · intro h
    have g0 := h 0; have g1 := h 1
    omega
  · intro h a
    have g2 : (i 2).val < 1408 := (i 2).isLt
    fin_cases a
    · show off 0 ≤ (i 0).val ∧ (i 0).val < off 0 + 1; omega
    · show off 1 ≤ (i 1).val ∧ (i 1).val < off 1 + L; omega
    · show off 2 ≤ (i 2).val ∧ (i 2).val < off 2 + 1408; omega

theorem sub12 (s : ℕ) (off : Fin 3 → ℕ) (h0 : off 0 = s) (h1 : off 1 = 0) (h2 : off 2 = 0)
    (hb : ∀ a, off a + S1x3072x1408.size a ≤ S8x3072x1408.size a) :
    ((a12.access (Rect.unit (s := S8x3072x1408) off S1x3072x1408.size hb)).set : Finset S8x3072x1408.Idx) ⊆ rowsSet s 0 3072 := by
  have := set12 3072 s 0 off h0 h1 h2 hb
  rw [Nat.zero_add] at this
  intro i hi
  rw [← this]
  exact hi

theorem set14 (p : ℕ) (off : Fin 2 → ℕ) (h0 : 32 * p ≤ off 0) (hb : ∀ a, off a + S64x1408.size a ≤ S224x1408.size a) :
    ((a14.access (Rect.unit (s := S224x1408) off S64x1408.size hb)).set : Finset S224x1408.Idx) ⊆ yrows p := by
  intro i hi
  have hi' : i ∈ ((View.whole cc0_scratch9).slice (Rect.unit (s := S224x1408) off S64x1408.size hb)).set := hi
  rw [View.set_slice_whole] at hi'
  have := Rect.mem_set_unit.mp hi' 0
  rw [mem_yrows]; omega

theorem set14' (p : ℕ) (off : Fin 2 → ℕ) (h0 : 32 * p ≤ off 0) (hb : ∀ a, off a + S64x1408.size a ≤ S224x1408.size a) :
    ((a14.access (Rect.unit (s := S224x1408) off S64x1408.size hb)).setOn Finset.univ : Finset S224x1408.Idx) ⊆ yrows p := by
  refine Finset.Subset.trans ?_ (set14 p off h0 hb)
  intro i hi
  obtain ⟨x, -, rfl⟩ := Finset.mem_map.mp hi
  exact Finset.mem_map.mpr ⟨x, Finset.mem_univ _, rfl⟩

theorem wb (lo g : ℕ) (h : lo + g ≤ 192) (j : Fin (k0_t5_loop (BitVec.ofNat 32 lo) (BitVec.ofNat 32 g)).trips) : base lo + 64 * j.val + 64 ≤ 224 :=
  nwin_le lo g j.val h (lt_of_lt_of_eq j.isLt (trips5 lo g h).2)

/-- The result buffer after one window. -/
def winw (q : S224x3072.Idx → Elt F .fp8e4m3) (s : S224x1.Idx → Elt F .f32) (W : S16x3072x1408.Idx → Elt F .fp8e4m3) (WS : S16x1x1408.Idx → Elt F .f32)
    (e lo g : ℕ) (h : lo + g ≤ 192) (j : Fin (k0_t5_loop (BitVec.ofNat 32 lo) (BitVec.ofNat 32 g)).trips) (f : S224x1408.Idx → Elt F .bf16) : S224x1408.Idx → Elt F .bf16 :=
  (a14.access (r14 _ (wb lo g h j))).write (Elt F) f
    (k0_pay57 (BitVec.ofNat 32 lo) (BitVec.ofNat 32 g) (Scalar.andi (BitVec.ofNat 32 lo) 4294967264#32) 0#32 j
      ((a9.access (r9 _ (wb lo g h j))).read (Elt F) q) (wmat W e) (BitVec.ofNat 32 lo) ((a10.access (r10 _ (wb lo g h j))).read (Elt F) s)
      (wsrow WS e) (BitVec.ofNat 32 g) ((a14.access (r14 _ (wb lo g h j))).read (Elt F) f)) Finset.univ

/-- The rows finished after `j` windows. -/
def hh (lo g j : ℕ) : ℕ := min (lo + g) (max lo (base lo + 64 * j))

section

variable (c : Dev nD)

/-- What the windows read. -/
def Rds (fG fE fL : S16.Idx → BitVec 32) (q : S224x3072.Idx → Elt F .fp8e4m3) (s : S224x1.Idx → Elt F .f32) (WS : S16x1x1408.Idx → Elt F .f32) : sProp 𝕄 :=
  iprop(pt5 (F := F) c fG ∗ pt6 (F := F) c fE ∗ pt7 (F := F) c fL ∗ ptv (F := F) c cc0_scratch4 Finset.univ q ∗ ptv (F := F) c cc0_scratch5 Finset.univ s
    ∗ ptv (F := F) c cc0_scratch6 Finset.univ WS)

/-- The result buffer's rows still here, at contents the predicate accepts. -/
def Ybuf (p : ℕ) (P : (S224x1408.Idx → Elt F .bf16) → Prop) : sProp 𝕄 :=
  iprop(∃ f : S224x1408.Idx → Elt F .bf16, ⌜P f⌝ ∗ ptv (F := F) c cc0_scratch9 (yrows p) f)

theorem t5_step (fG fE fL : S16.Idx → BitVec 32) (q : S224x3072.Idx → Elt F .fp8e4m3) (s : S224x1.Idx → Elt F .f32)
    (W : S16x3072x1408.Idx → Elt F .fp8e4m3) (WS : S16x1x1408.Idx → Elt F .f32)
    (Y : ℕ → (S224x1408.Idx → Elt F .bf16) → Prop)
    (n : ℕ) (h1 : 1 ≤ n) (hn : n ≤ 16) (hw3 : k0_chk3 (BitVec.ofNat 32 n)) (v19 : BitVec 32) (v621 : FVec F S32x1 .f32) (k : Fin (k0_t4_loop (BitVec.ofNat 32 n)).trips)
    (he : wd fE k.val < 16) (h : wd fL k.val + wd fG (wd fE k.val) ≤ 192) (hw11)
    (hY : ∀ (j : Fin (k0_t5_loop (BitVec.ofNat 32 (wd fL k.val)) (BitVec.ofNat 32 (wd fG (wd fE k.val)))).trips) f,
      Y (hh (wd fL k.val) (wd fG (wd fE k.val)) j.val) f
        → Y (hh (wd fL k.val) (wd fG (wd fE k.val)) (j.val + 1)) (winw q s W WS (wd fE k.val) (wd fL k.val) (wd fG (wd fE k.val)) h j f))
    (p : ℕ) (hp : 32 * p ≤ base (wd fL k.val))
    (j : Fin (k0_t5_loop (BitVec.ofNat 32 (wd fL k.val)) (BitVec.ofNat 32 (wd fG (wd fE k.val)))).trips) :
    iprop(Rds c fG fE fL q s WS ∗ pt12 (F := F) c (rowsSet (k.val % 8) 0 3072) (slotc W (wd fE k.val)) ∗ Ybuf c p (Y (hh (wd fL k.val) (wd fG (wd fE k.val)) j.val)))
      ⊢ wp frame (wpE (defs₀ (F := F)) Variants.none (c : Thread nD τ) none) Set.univ (k0_t5_body (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 v19 v621 k (BitVec.ofNat 32 (wd fL k.val)) (BitVec.ofNat 32 (wd fG (wd fE k.val))) hw11
          (Scalar.andi (BitVec.ofNat 32 (wd fL k.val)) 4294967264#32) 0#32 j ⟨⟩)
        (fun _ => iprop(Rds c fG fE fL q s WS ∗ pt12 (F := F) c (rowsSet (k.val % 8) 0 3072) (slotc W (wd fE k.val)) ∗ Ybuf c p (Y (hh (wd fL k.val) (wd fG (wd fE k.val)) (j.val + 1))))) := by
  have w := w4 n h1 hn k
  have w' := w5 _ _ h j
  have hk : k.val < 16 := by have := k.isLt; have := trips4 n h1 hn; omega
  have hb := wb _ _ h j
  have ho : 32 * p ≤ k0_off51 (BitVec.ofNat 32 (wd fL k.val)) (BitVec.ofNat 32 (wd fG (wd fE k.val))) j 0 := by
    rw [w'.o51]; show 32 * p ≤ base (wd fL k.val) + 64 * j.val; omega
  unfold k0_t5_body Rds Ybuf
  iintro ⟨⟨H5, H6, H7, H9, H10, H11⟩, H12, ⟨%f, %hf, H14⟩⟩
  iapply (lu9 c _) $$ H9
  iintro H9
  iapply (ld12 c (sub12 (k.val % 8) _ w.o46.1 w.o46.2.1 w.o46.2.2 _)) $$ H12
  iintro H12
  iapply (rd6 c fE k.val w.o47 hk) $$ H6
  iintro H6
  iapply (asm c (chk12_ok _ he))
  iapply (rd7 c fL k.val w.o47 hk) $$ H7
  iintro H7
  iapply (lu10 c _) $$ H10
  iintro H10
  iapply (lu11 c _) $$ H11
  iintro H11
  iapply (rd5 c fG (wd fE k.val) (toNat16 _ he) he) $$ H5
  iintro H5
  iapply (ld14 c (set14 p _ ho _)) $$ H14
  iintro H14
  iapply (ld14 c (set14 p _ ho _)) $$ H14
  iintro H14
  iapply (sto14 c (set14' p _ ho _)) $$ H14
  iintro H14
  iapply (ret c _)
  iframe
  iexists _
  isplitr
  swap
  · iexact H14
  · ipureintro
    have := hY j f hf
    rw [rd9_off q w'.o45 _ hb, rd12_off W _ w.o46.2.1 w.o46.2.2, rd10_off s w'.o48 _ hb, rd11_off WS _ he (off := k0_off49 (BitVec.ofNat 32 (wd fE k.val))) (wnat _ _ he), rd14_off f w'.o51 _ hb, wr14_off f _ w'.o51 _ hb]
    exact this

end

end Cert.KernelIdeal.Hand
-- ==== Proof.Send.lean ====
/-
  The six pieces of the result: each is copied out once the rows it holds are final, all on one semaphore.
-/
module

public import proofs.«01_k».proof.Proof.Window
public import Idealize.ShloMosaic.Lib.Batch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

/-- The rows of the result from the `p`-th piece on, and those of the `p`-th piece, in the two buffers. -/
def orows (p : ℕ) : Finset S192x1408.Idx := Finset.univ.filter fun i => 32 * p ≤ (i 0).val
def otile (p : ℕ) : Finset S192x1408.Idx := Finset.univ.filter fun i => 32 * p ≤ (i 0).val ∧ (i 0).val < 32 * p + 32
def ytile (p : ℕ) : Finset S224x1408.Idx := Finset.univ.filter fun i => 32 * p ≤ (i 0).val ∧ (i 0).val < 32 * p + 32

theorem mem_orows {p : ℕ} {i : S192x1408.Idx} : i ∈ orows p ↔ 32 * p ≤ (i 0).val := by simp [orows]
theorem mem_otile {p : ℕ} {i : S192x1408.Idx} : i ∈ otile p ↔ 32 * p ≤ (i 0).val ∧ (i 0).val < 32 * p + 32 := by simp [otile]
theorem mem_ytile {p : ℕ} {i : S224x1408.Idx} : i ∈ ytile p ↔ 32 * p ≤ (i 0).val ∧ (i 0).val < 32 * p + 32 := by simp [ytile]

/-- A position of the result, in the padded buffer the kernel builds it in. -/
def up (i : S192x1408.Idx) : S224x1408.Idx :=
  Fin.cons ⟨(i 0).val, by have h : (i 0).val < 192 := (i 0).isLt; show (i 0).val < 224; omega⟩ (Fin.cons (i 1) (fun a => a.elim0))

theorem oset (p : ℕ) {off : Fin 2 → ℕ} (h : off = ![32 * p, 0]) (hb : ∀ a, off a + S32x1408.size a ≤ S192x1408.size a) :
    ((a4.slice (Rect.unit (s := S192x1408) off S32x1408.size hb) (fun _ => rfl)).view.set : Finset S192x1408.Idx) = otile p := by
  subst h
  show ((View.whole main_v0).slice _).set = _
  rw [View.set_slice_whole]
  ext i
  rw [mem_otile]
  refine Rect.mem_set_unit.trans ?_
  constructor
  · intro h
    have g0 : 32 * p ≤ (i 0).val ∧ (i 0).val < 32 * p + 32 := h 0
    omega
  · intro h a
    have g2 : (i 1).val < 1408 := (i 1).isLt
    fin_cases a
    · show 32 * p ≤ (i 0).val ∧ (i 0).val < 32 * p + 32; omega
    · show 0 ≤ (i 1).val ∧ (i 1).val < 0 + 1408; omega

theorem yset (p : ℕ) {off : Fin 2 → ℕ} (h : off = ![32 * p, 0]) (hb : ∀ a, off a + S32x1408.size a ≤ S224x1408.size a) :
    ((a14.slice (Rect.unit (s := S224x1408) off S32x1408.size hb) (fun _ => rfl)).view.set : Finset S224x1408.Idx) = ytile p := by
  subst h
  show ((View.whole cc0_scratch9).slice _).set = _
  rw [View.set_slice_whole]
  ext i
  rw [mem_ytile]
  refine Rect.mem_set_unit.trans ?_
  constructor
  · intro h
    have g0 : 32 * p ≤ (i 0).val ∧ (i 0).val < 32 * p + 32 := h 0
    omega
  · intro h a
    have g2 : (i 1).val < 1408 := (i 1).isLt
    fin_cases a
    · show 32 * p ≤ (i 0).val ∧ (i 0).val < 32 * p + 32; omega
    · show 0 ≤ (i 1).val ∧ (i 1).val < 0 + 1408; omega

theorem oval (p : ℕ) {off off' : Fin 2 → ℕ} (h : off = ![32 * p, 0]) (h' : off' = ![32 * p, 0])
    (hb : ∀ a, off a + S32x1408.size a ≤ S192x1408.size a) (hb' : ∀ a, off' a + S32x1408.size a ≤ S224x1408.size a)
    (f4 : S192x1408.Idx → Elt F .bf16) (f : S224x1408.Idx → Elt F .bf16) :
    ∀ i ∈ otile p, ((a4.slice (Rect.unit (s := S192x1408) off S32x1408.size hb) (fun _ => rfl)).view.write (Elt F) f4
      ((ReadAs.same (s := S32x1408) (e := .bf16)).apply ((a14.slice (Rect.unit (s := S224x1408) off' S32x1408.size hb') (fun _ => rfl)).view.read (Elt F) f)) Finset.univ) i = f (up i) := by
  intro i hi
  rw [← oset p h hb] at hi
  obtain ⟨x, -, rfl⟩ := Finset.mem_map.mp hi
  refine (View.write_emb_of_mem _ _ (Finset.mem_univ x)).trans ?_
  subst h; subst h'
  show f _ = f _
  congr 1
  refine funext fun (a : Fin 2) => Fin.ext ?_
  fin_cases a
  · rfl
  · rfl

/-- The credit of one piece's copy. -/
def NS : ℕ := (a4.slice (Rect.unit (s := S192x1408) ![0, 0] S32x1408.size (by decide)) (fun _ => rfl)).view.dmaCredit
theorem NS_eq (off : Fin 2 → ℕ) (hb : ∀ a, off a + S32x1408.size a ≤ S192x1408.size a) :
    (a4.slice (Rect.unit (s := S192x1408) off S32x1408.size hb) (fun _ => rfl)).view.amount (.dma (si 22)) = NS := by unfold NS; rfl
theorem ns5 {N u : ℕ} (h : 0 < N) (hu : u < 5) : u * N + N < N * 6 := by
  have := Nat.mul_lt_mul_of_pos_right (show u + 1 < 6 by omega) h
  rw [Nat.succ_mul] at this
  omega
theorem ns6 {N : ℕ} : 5 * N + N = N * 6 := by omega
theorem NS_pos : 0 < NS := View.dmaCredit_pos _ (by decide +kernel)

section

variable (c : Dev nD) {α : Type}

/-- What the copy of one piece gives back: its rows of the result, each accepted, and the rows they came from. -/
def Deliv (T : S192x1408.Idx → Elt F .bf16 → Prop) (t : ℕ) : sProp 𝕄 :=
  iprop(∃ (f4 : S192x1408.Idx → Elt F .bf16) (f : S224x1408.Idx → Elt F .bf16), ⌜∀ i ∈ otile t, T i (f4 i)⌝
    ∗ ptv (F := F) c main_v0 (otile t) f4 ∗ ptv (F := F) c cc0_scratch9 (ytile t) f)

/-- The six copies: `k` started, `u` units waited for. -/
def SB (T : S192x1408.Idx → Elt F .bf16 → Prop) (k u : ℕ) : sProp 𝕄 :=
  Transfers.Batch (EC (F := F)) (c : Thread nD τ) (.dma (si 22)) () NS (fun t : Fin 6 => Deliv c T t.val) k u

/-- The rows of the result not yet started out. -/
def Obuf (p : ℕ) : sProp 𝕄 := iprop(∃ f4 : S192x1408.Idx → Elt F .bf16, ptv (F := F) c main_v0 (orows p) f4)

theorem send_step (T : S192x1408.Idx → Elt F .bf16 → Prop) (P : (S224x1408.Idx → Elt F .bf16) → Prop) (p : ℕ) (hp : p < 6)
    (hT : ∀ f, P f → ∀ i ∈ otile p, T i (f (up i))) {off off' : Fin 2 → ℕ} (h : off = ![32 * p, 0]) (h' : off' = ![32 * p, 0])
    {hb : ∀ a, off a + S32x1408.size a ≤ S192x1408.size a} {hb' : ∀ a, off' a + S32x1408.size a ≤ S224x1408.size a}
    {sem : DmaSem sig} (hs : sem = si 22) {hs1 hs2 hs3}
    {kk : PUnit → Prog (TpuEff nD τ sig (Elt F) Λ₀ .tc) α} {Q : α → sProp 𝕄} :
    iprop(Ybuf c p P ∗ Obuf (F := F) c p ∗ SB c T p 0)
      ⊢ iprop((iprop(Ybuf c (p + 1) P ∗ Obuf (F := F) c (p + 1) ∗ SB c T (p + 1) 0) -∗ wp frame (wpE (defs₀ (F := F)) Variants.none (c : Thread nD τ) none) Set.univ (kk ⟨⟩) Q)
        -∗ wp frame (wpE (defs₀ (F := F)) Variants.none (c : Thread nD τ) none) Set.univ (Prog.lift (.enqueueDma (a14.slice (Rect.unit (s := S224x1408) off' S32x1408.size hb') (fun _ => rfl))
            (.here (a4.slice (Rect.unit (s := S192x1408) off S32x1408.size hb) (fun _ => rfl))) (.dma sem) hs1 hs2 hs3) >>= kk) Q) := by
  subst hs
  have ho := oset p h hb
  have hy := yset p h' hb'
  have hy1 : yrows p = ytile p ∪ yrows (p + 1) := by
    ext i; simp only [Finset.mem_union, mem_yrows, mem_ytile]; omega
  have hy2 : Disjoint (ytile p) (yrows (p + 1)) := by
    rw [Finset.disjoint_left]; intro i; simp only [mem_yrows, mem_ytile]; omega
  have ho1 : orows p = otile p ∪ orows (p + 1) := by
    ext i; simp only [Finset.mem_union, mem_orows, mem_otile]; omega
  have ho2 : Disjoint (otile p) (orows (p + 1)) := by
    rw [Finset.disjoint_left]; intro i; simp only [mem_orows, mem_otile]; omega
  unfold Ybuf Obuf SB
  rw [hy1, ho1]
  iintro ⟨⟨%f, %hf, Hy⟩, ⟨%f4, Ho⟩, HB⟩ Hk
  ihave Hy' := (pointsTo_union hy2).1 $$ Hy
  icases Hy' with ⟨Hy1, Hy2⟩
  ihave Ho' := (pointsTo_union ho2).1 $$ Ho
  icases Ho' with ⟨Ho1, Ho2⟩
  have hv := oval p h h' hb hb' f4 f
  have key := Transfers.wp_dmaBatch (EC (F := F)) (defs := defs₀ (F := F)) Variants.none (c : Thread nD τ) none
    (src := a14.slice (Rect.unit (s := S224x1408) off' S32x1408.size hb') (fun _ => rfl))
    (dst := a4.slice (Rect.unit (s := S192x1408) off S32x1408.size hb) (fun _ => rfl))
    (via := .same) (sm := .dma (si 22)) (hsrc := hs1) (hdst := hs2) (hsem := hs3) (k := kk) (q := fullShare) (fs := f) (fd := f4) (Q := Q)
    (Sd := otile p) (D := fun t : Fin 6 => Deliv c T t.val) (j := p) (u := 0) () NS (NS_eq off hb) ho.le hp (Nat.zero_le _)
    (by
      rw [hy]
      unfold Deliv
      iintro ⟨H1, H2⟩
      iexists _; iexists f
      isplitr
      swap
      · iframe
      · ipureintro
        intro i hi
        rw [hv i hi]
        exact hT f hf i hi)
  rw [hy] at key
  iapply key $$ [Hy1 Ho1 HB]
  · iframe
  iintro HB
  iapply Hk
  iframe
  isplitl [Hy2]
  · iexists f; iframe; ipureintro; exact hf
  · iexists f4; iexact Ho2

theorem send_wait (T : S192x1408.Idx → Elt F .bf16 → Prop) (u : ℕ) (hu : u < 5) {sem : DmaSem sig} (hs : sem = si 22)
    {sp sp' : Space} {s s' : Shape} {e e' : EltTy} {srcw : Memref sig .tc sp' s' e'} {dstw : Memref sig .tc sp s e} (hN : dstw.view.dmaCredit = NS) {hs1 hs2}
    {kk : PUnit → Prog (TpuEff nD τ sig (Elt F) Λ₀ .tc) α} {Q : α → sProp 𝕄} {Wt : Waits sig Unit} :
    iprop(SB c T 6 (u * NS) ∗ owes (c : Thread nD τ) 0 Wt)
      ⊢ iprop((iprop(SB c T 6 ((u + 1) * NS) ∗ owes (c : Thread nD τ) 0 (insert (SemLoc.dma (si 22), ()) Wt)) -∗ wp frame (wpE (defs₀ (F := F)) Variants.none (c : Thread nD τ) none) Set.univ (kk ⟨⟩) Q)
        -∗ wp frame (wpE (defs₀ (F := F)) Variants.none (c : Thread nD τ) none) Set.univ (Prog.lift (.waitDma2 sem srcw dstw hs1 hs2) >>= kk) Q) := by
  subst hs
  unfold SB
  rw [Nat.succ_mul]
  exact Transfers.wp_waitBatch (EC (F := F)) (defs := defs₀ (F := F)) Variants.none (c : Thread nD τ) none () hN
    (ns5 NS_pos hu)

theorem send_last (T : S192x1408.Idx → Elt F .bf16 → Prop) {sem : DmaSem sig} (hs : sem = si 22)
    {sp sp' : Space} {s s' : Shape} {e e' : EltTy} {srcw : Memref sig .tc sp' s' e'} {dstw : Memref sig .tc sp s e} (hN : dstw.view.dmaCredit = NS) {hs1 hs2}
    {kk : PUnit → Prog (TpuEff nD τ sig (Elt F) Λ₀ .tc) α} {Q : α → sProp 𝕄} {Wt : Waits sig Unit} :
    iprop(SB c T 6 (5 * NS) ∗ owes (c : Thread nD τ) 0 Wt)
      ⊢ iprop((iprop(bigSep Finset.univ (fun t : Fin 6 => Deliv c T t.val) ∗ semVal ((c : Thread nD τ), SemLoc.dma (si 22)) 0 ∗ owes (c : Thread nD τ) 0 (insert (SemLoc.dma (si 22), ()) Wt)) -∗ wp frame (wpE (defs₀ (F := F)) Variants.none (c : Thread nD τ) none) Set.univ (kk ⟨⟩) Q)
        -∗ wp frame (wpE (defs₀ (F := F)) Variants.none (c : Thread nD τ) none) Set.univ (Prog.lift (.waitDma2 sem srcw dstw hs1 hs2) >>= kk) Q) := by
  subst hs
  unfold SB
  exact Transfers.wp_waitBatchLast (EC (F := F)) (defs := defs₀ (F := F)) Variants.none (c : Thread nD τ) none () hN NS_pos
    ns6

instance (T : S192x1408.Idx → Elt F .bf16 → Prop) (t : ℕ) : Storable (upEmb : UEmb _ 𝕄) (Deliv c T t) := by
  unfold Deliv; infer_instance

/-- The semaphore of the copies out, given over to the six copies. -/
theorem SB_alloc (T : S192x1408.Idx → Elt F .bf16 → Prop) :
    (semVal ((c : Thread nD τ), SemLoc.dma (si 22)) 0 : sProp 𝕄) ⊢ |={Set.univ}=> SB c T 0 0 :=
  Transfers.batch_alloc' (EC (F := F)) (c : Thread nD τ) () NS (fun t : Fin 6 => Deliv c T t.val)

end

end Cert.KernelIdeal.Hand
-- ==== Proof.SendWords.lean ====
/-
  The words of the send loops: how many pieces an expert completes, and where each lies.
-/
module

public import proofs.«01_k».proof.Proof.Send

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

/-- The number of whole pieces below a row, as the kernel computes it. -/
def dn (v801 : BitVec 32) : BitVec 32 :=
  let c0_i32_331 : BitVec 32 := 0#32
  let v803 : BitVec 1 := Scalar.cmpi .sgt v801 c0_i32_331
  let v804 : BitVec 32 := Scalar.extui v803
  let c0_i32_332 : BitVec 32 := 0#32
  let v805 : BitVec 1 := Scalar.cmpi .slt v801 c0_i32_332
  let v806 : BitVec 32 := Scalar.extui v805
  let v807 : BitVec 32 := Scalar.subi v804 v806
  let c32_i32_330 : BitVec 32 := 32#32
  let c0_i32_333 : BitVec 32 := 0#32
  let v808 : BitVec 1 := Scalar.cmpi .sgt c32_i32_330 c0_i32_333
  let v809 : BitVec 32 := Scalar.extui v808
  let c0_i32_334 : BitVec 32 := 0#32
  let v810 : BitVec 1 := Scalar.cmpi .slt c32_i32_330 c0_i32_334
  let v811 : BitVec 32 := Scalar.extui v810
  let v812 : BitVec 32 := Scalar.subi v809 v811
  let v813 : BitVec 1 := Scalar.cmpi .ne v807 v812
  let v814 : BitVec 32 := Scalar.remsi v801 c32_i32_330
  let c0_i32_335 : BitVec 32 := 0#32
  let v815 : BitVec 1 := Scalar.cmpi .ne v814 c0_i32_335
  let v816 : BitVec 1 := Scalar.andi v813 v815
  let v802 : BitVec 32 := Scalar.divsi v801 c32_i32_330
  let c1_i32_336 : BitVec 32 := 1#32
  let v817 : BitVec 32 := Scalar.subi v802 c1_i32_336
  Scalar.select v816 v817 v802

theorem dn_eq (lo g : ℕ) (h : lo + g ≤ 192) : dn (Scalar.addi (BitVec.ofNat 32 lo) (BitVec.ofNat 32 g)) = BitVec.ofNat 32 ((lo + g) / 32) := by
  rw [addi_eq]
  have a : ∀ s : Fin 193, dn (BitVec.ofNat 32 s.val) = BitVec.ofNat 32 (s.val / 32) := by decide +kernel
  exact a ⟨lo + g, by omega⟩

theorem t7_eq (a : BitVec 32) {b c b' c' : BitVec 32} (h : Scalar.addi b c = Scalar.addi b' c') : k0_t7_loop a b c = k0_t7_loop a b' c' := by
  unfold k0_t7_loop
  simp only
  rw [h]
theorem t8_eq (a : BitVec 32) {b c b' c' : BitVec 32} (h : Scalar.addi b c = Scalar.addi b' c') : k0_t8_loop a b c = k0_t8_loop a b' c' := by
  unfold k0_t8_loop
  simp only
  rw [h]

theorem trips7 (p lo g : ℕ) (h : lo + g ≤ 192) (hp : p ≤ (lo + g) / 32) :
    (k0_t7_loop (BitVec.ofNat 32 p) (BitVec.ofNat 32 lo) (BitVec.ofNat 32 g)).OK
      ∧ (k0_t7_loop (BitVec.ofNat 32 p) (BitVec.ofNat 32 lo) (BitVec.ofNat 32 g)).trips = (lo + g) / 32 - p := by
  have a : ∀ (s : Fin 193) (p : Fin 7), p.val ≤ s.val / 32 → (k0_t7_loop (BitVec.ofNat 32 p.val) 0#32 (BitVec.ofNat 32 s.val)).OK
      ∧ (k0_t7_loop (BitVec.ofNat 32 p.val) 0#32 (BitVec.ofNat 32 s.val)).trips = s.val / 32 - p.val := by decide +kernel
  have e : Scalar.addi (BitVec.ofNat 32 lo) (BitVec.ofNat 32 g) = Scalar.addi 0#32 (BitVec.ofNat 32 (lo + g)) := by
    rw [addi_eq]; exact (BitVec.zero_add _).symm
  rw [t7_eq _ e]
  exact a ⟨lo + g, by omega⟩ ⟨p, by omega⟩ hp

theorem trips8 (p lo g : ℕ) (h : lo + g ≤ 192) (hp : p ≤ (lo + g) / 32) :
    (k0_t8_loop (BitVec.ofNat 32 p) (BitVec.ofNat 32 lo) (BitVec.ofNat 32 g)).OK
      ∧ (k0_t8_loop (BitVec.ofNat 32 p) (BitVec.ofNat 32 lo) (BitVec.ofNat 32 g)).trips = 0 := by
  have a : ∀ (s : Fin 193) (p : Fin 7), p.val ≤ s.val / 32 → (k0_t8_loop (BitVec.ofNat 32 p.val) 0#32 (BitVec.ofNat 32 s.val)).OK
      ∧ (k0_t8_loop (BitVec.ofNat 32 p.val) 0#32 (BitVec.ofNat 32 s.val)).trips = 0 := by decide +kernel
  have e : Scalar.addi (BitVec.ofNat 32 lo) (BitVec.ofNat 32 g) = Scalar.addi 0#32 (BitVec.ofNat 32 (lo + g)) := by
    rw [addi_eq]; exact (BitVec.zero_add _).symm
  rw [t8_eq _ e]
  exact a ⟨lo + g, by omega⟩ ⟨p, by omega⟩ hp

/-- The row a piece starts at. -/
theorem piece_word (p k : ℕ) (h : p + k < 6) :
    (Scalar.muli (BitVec.ofNat 32 p + BitVec.ofNat 32 k * 1#32) 32#32).toNat = 32 * (p + k) := by
  have a : ∀ p k : Fin 6, p.val + k.val < 6 → (Scalar.muli (BitVec.ofNat 32 p.val + BitVec.ofNat 32 k.val * 1#32) 32#32).toNat = 32 * (p.val + k.val) := by decide +kernel
  exact a ⟨p, by omega⟩ ⟨k, by omega⟩ h

theorem o75 (p lo g : ℕ) (h : lo + g ≤ 192) (hp : p ≤ (lo + g) / 32) (k) :
    k0_off75 (BitVec.ofNat 32 p) (BitVec.ofNat 32 lo) (BitVec.ofNat 32 g) k = ![32 * (p + k.val), 0]
      ∧ k0_off76 (BitVec.ofNat 32 p) (BitVec.ofNat 32 lo) (BitVec.ofNat 32 g) k = ![32 * (p + k.val), 0]
      ∧ (k0_mult3 (BitVec.ofNat 32 p) (BitVec.ofNat 32 lo) (BitVec.ofNat 32 g) k).toNat = 32 * (p + k.val) := by
  have hk := Nat.lt_of_lt_of_eq k.isLt (trips7 p lo g h hp).2
  have e := piece_word p k.val (by omega)
  refine ⟨?_, ?_, e⟩
  · show ![(Scalar.muli (BitVec.ofNat 32 p + BitVec.ofNat 32 k.val * 1#32) 32#32).toNat, 0] = _
    rw [e]
  · show ![(Scalar.muli (BitVec.ofNat 32 p + BitVec.ofNat 32 k.val * 1#32) 32#32).toNat, 0] = _
    rw [e]

theorem inbT (b m : ℕ) (h : b ≤ 5) (hm : 192 ≤ m) : ∀ a, (![32 * b, 0] : Fin 2 → ℕ) a + S32x1408.size a ≤ (![m, 1408] : Fin 2 → ℕ) a := by
  intro a
  fin_cases a
  · show 32 * b + 32 ≤ m; omega
  · show 0 + 1408 ≤ 1408; omega

theorem wwO (b : ℕ) {off : Fin 2 → ℕ} (ho : off = ![32 * b, 0]) (hinb : ∀ a, off a + S32x1408.size a ≤ S192x1408.size a) :
    (Rect.unit (s := S192x1408) off S32x1408.size hinb).WholeWords (EltTy.packing .bf16) := by
  subst ho
  have h0 : 32 * b + 32 ≤ 192 := hinb 0
  have a : ∀ (b : Fin 6) (hinb : ∀ a, (![32 * b.val, 0] : Fin 2 → ℕ) a + S32x1408.size a ≤ S192x1408.size a),
      (Rect.unit (s := S192x1408) ![32 * b.val, 0] S32x1408.size hinb).WholeWords (EltTy.packing .bf16) := by decide +kernel
  exact a ⟨b, by omega⟩ hinb

theorem wwY (b : ℕ) {off : Fin 2 → ℕ} (ho : off = ![32 * b, 0]) (hb : b ≤ 5) (hinb : ∀ a, off a + S32x1408.size a ≤ S224x1408.size a) :
    (Rect.unit (s := S224x1408) off S32x1408.size hinb).WholeWords (EltTy.packing .bf16) := by
  subst ho
  have a : ∀ (b : Fin 6) (hinb : ∀ a, (![32 * b.val, 0] : Fin 2 → ℕ) a + S32x1408.size a ≤ S224x1408.size a),
      (Rect.unit (s := S224x1408) ![32 * b.val, 0] S32x1408.size hinb).WholeWords (EltTy.packing .bf16) := by decide +kernel
  exact a ⟨b, by omega⟩ hinb

theorem chk16_ok (p lo g : ℕ) (h : lo + g ≤ 192) (hp : p ≤ (lo + g) / 32) :
    k0_chk16 (BitVec.ofNat 32 p) (BitVec.ofNat 32 lo) (BitVec.ofNat 32 g) := by
  have h7 := trips7 p lo g h hp
  have h8 := trips8 p lo g h hp
  have lt : ∀ k : Fin (k0_t7_loop (BitVec.ofNat 32 p) (BitVec.ofNat 32 lo) (BitVec.ofNat 32 g)).trips, p + k.val ≤ 5 := by
    intro k; have := Nat.lt_of_lt_of_eq k.isLt h7.2; omega
  have no : ∀ k : Fin (k0_t8_loop (BitVec.ofNat 32 p) (BitVec.ofNat 32 lo) (BitVec.ofNat 32 g)).trips, False := by
    intro k; have := Nat.lt_of_lt_of_eq k.isLt h8.2; omega
  refine ⟨h7.1, ?_, ?_, ?_, ?_, ?_, h8.1, fun k => (no k).elim, fun k => (no k).elim, fun k => (no k).elim, fun k => (no k).elim, fun k => (no k).elim⟩
  · intro k; rw [(o75 p lo g h hp k).2.2]; exact Dvd.intro _ rfl
  · intro k; rw [(o75 p lo g h hp k).1]; exact inbT _ 192 (lt k) (by omega)
  · intro k; rw [(o75 p lo g h hp k).2.1]; exact inbT _ 224 (lt k) (by omega)
  · intro k hinb; exact wwY _ (o75 p lo g h hp k).2.1 (lt k) hinb
  · intro k hinb; exact wwO _ (o75 p lo g h hp k).1 hinb

theorem trips22 (p : ℕ) (hp : p ≤ 6) : (k0_t22_loop (BitVec.ofNat 32 p)).OK ∧ (k0_t22_loop (BitVec.ofNat 32 p)).trips = 6 - p
    ∧ (k0_t23_loop (BitVec.ofNat 32 p)).OK ∧ (k0_t23_loop (BitVec.ofNat 32 p)).trips = 0 := by
  have a : ∀ p : Fin 7, (k0_t22_loop (BitVec.ofNat 32 p.val)).OK ∧ (k0_t22_loop (BitVec.ofNat 32 p.val)).trips = 6 - p.val
    ∧ (k0_t23_loop (BitVec.ofNat 32 p.val)).OK ∧ (k0_t23_loop (BitVec.ofNat 32 p.val)).trips = 0 := by decide +kernel
  exact a ⟨p, by omega⟩

theorem o175 (p : ℕ) (hp : p ≤ 6) (k) :
    k0_off175 (BitVec.ofNat 32 p) k = ![32 * (p + k.val), 0] ∧ k0_off176 (BitVec.ofNat 32 p) k = ![32 * (p + k.val), 0]
      ∧ (k0_mult17 (BitVec.ofNat 32 p) k).toNat = 32 * (p + k.val) := by
  have hk := Nat.lt_of_lt_of_eq k.isLt (trips22 p hp).2.1
  have e := piece_word p k.val (by omega)
  refine ⟨?_, ?_, e⟩
  · show ![(Scalar.muli (BitVec.ofNat 32 p + BitVec.ofNat 32 k.val * 1#32) 32#32).toNat, 0] = _
    rw [e]
  · show ![(Scalar.muli (BitVec.ofNat 32 p + BitVec.ofNat 32 k.val * 1#32) 32#32).toNat, 0] = _
    rw [e]

theorem chk37_ok (p : ℕ) (hp : p ≤ 6) : k0_chk37 (BitVec.ofNat 32 p) := by
  have h7 := trips22 p hp
  have lt : ∀ k : Fin (k0_t22_loop (BitVec.ofNat 32 p)).trips, p + k.val ≤ 5 := by
    intro k; have := Nat.lt_of_lt_of_eq k.isLt h7.2.1; omega
  have no : ∀ k : Fin (k0_t23_loop (BitVec.ofNat 32 p)).trips, False := by
    intro k; have := Nat.lt_of_lt_of_eq k.isLt h7.2.2.2; omega
  refine ⟨h7.1, ?_, ?_, ?_, ?_, ?_, h7.2.2.1, fun k => (no k).elim, fun k => (no k).elim, fun k => (no k).elim, fun k => (no k).elim, fun k => (no k).elim⟩
  · intro k; rw [(o175 p hp k).2.2]; exact Dvd.intro _ rfl
  · intro k; rw [(o175 p hp k).1]; exact inbT _ 192 (lt k) (by omega)
  · intro k; rw [(o175 p hp k).2.1]; exact inbT _ 224 (lt k) (by omega)
  · intro k hinb; exact wwY _ (o175 p hp k).2.1 (lt k) hinb
  · intro k hinb; exact wwO _ (o175 p hp k).1 hinb

section

variable (c : Dev nD)

/-- `p` pieces sent. -/
def Snd (T : S192x1408.Idx → Elt F .bf16 → Prop) (P : (S224x1408.Idx → Elt F .bf16) → Prop) (p : ℕ) : sProp 𝕄 :=
  iprop(Ybuf c p P ∗ Obuf (F := F) c p ∗ SB c T p 0)

theorem t7_trip (T : S192x1408.Idx → Elt F .bf16 → Prop) (P : (S224x1408.Idx → Elt F .bf16) → Prop) (p lo g : ℕ) (h : lo + g ≤ 192) (hp : p ≤ (lo + g) / 32)
    (hT : ∀ t < (lo + g) / 32, ∀ f, P f → ∀ i ∈ otile t, T i (f (up i))) (v18 hw3 v19 v621 hw16)
    (k : Fin (k0_t7_loop (BitVec.ofNat 32 p) (BitVec.ofNat 32 lo) (BitVec.ofNat 32 g)).trips) :
    Snd c T P (p + k.val) ⊢ wp frame (wpE (defs₀ (F := F)) Variants.none (c : Thread nD τ) none) Set.univ (k0_t7_body (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v18 hw3 v19 v621 (BitVec.ofNat 32 p) (BitVec.ofNat 32 lo) (BitVec.ofNat 32 g) hw16 k ⟨⟩)
      (fun _ => Snd c T P (p + (k.val + 1))) := by
  have hk := Nat.lt_of_lt_of_eq k.isLt (trips7 p lo g h hp).2
  have ho := o75 p lo g h hp k
  unfold k0_t7_body Snd
  iintro H
  iapply (send_step c T P (p + k.val) (by omega) (hT _ (by omega)) ho.1 ho.2.1 rfl) $$ H
  iintro H
  iapply (ret c _)
  iexact H

theorem t22_trip (T : S192x1408.Idx → Elt F .bf16 → Prop) (P : (S224x1408.Idx → Elt F .bf16) → Prop) (p : ℕ) (hp : p ≤ 6)
    (hT : ∀ t < 6, ∀ f, P f → ∀ i ∈ otile t, T i (f (up i))) (v18 v19 hw37 v642 v716 v720 hw34 v722 v723)
    (k : Fin (k0_t22_loop (BitVec.ofNat 32 p)).trips) :
    Snd c T P (p + k.val) ⊢ wp frame (wpE (defs₀ (F := F)) Variants.none (c : Thread nD τ) none) Set.univ (k0_t22_body (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 v18 v19 (BitVec.ofNat 32 p) hw37 v642 v716 v720 hw34 v722 v723 k ⟨⟩)
      (fun _ => Snd c T P (p + (k.val + 1))) := by
  have hk := Nat.lt_of_lt_of_eq k.isLt (trips22 p hp).2.1
  have ho := o175 p hp k
  unfold k0_t22_body Snd
  iintro H
  iapply (send_step c T P (p + k.val) (by omega) (hT _ (by omega)) ho.1 ho.2.1 rfl) $$ H
  iintro H
  iapply (ret c _)
  iexact H

end

end Cert.KernelIdeal.Hand
-- ==== Proof.LoopParts.lean ====
/-
  The pieces of one trip of the loop over the experts: waiting for its weights, and starting the copy of a later expert.
-/
module

public import proofs.«01_k».proof.Proof.SendWords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

section

variable (c : Dev nD) (W : S16x3072x1408.Idx → Elt F .fp8e4m3)

/-- Slot `s` with nothing on its way; if the expert has rows, its weights are there. -/
def Got (s e g : ℕ) : sProp 𝕄 :=
  iprop(ptW (F := F) c (tH s) Finset.univ W ∗ semVal ((c : Thread nD τ), SemLoc.dma (hd s)) 0
    ∗ ptW (F := F) c (tR s) Finset.univ W ∗ semVal ((c : Thread nD τ), SemLoc.dma (rs s)) 0
    ∗ ∃ f, ⌜0 < g → f = slotc W e⌝ ∗ pt12 (F := F) c (rowsSet s 0 3072) f)

theorem slot_rows (s m : ℕ) (hm : m ≤ 3072) : rowsSet s 0 3072 = rowsSet s 0 m ∪ rowsSet s m 3072 := by
  ext i; simp only [Finset.mem_union, mem_rowsSet]; omega
theorem slot_disj (s a m b : ℕ) : Disjoint (rowsSet s a m) (rowsSet s m b) := by
  rw [Finset.disjoint_left]; intro i; simp only [mem_rowsSet]; omega

theorem Got_free (s e g : ℕ) : Got c W s e g ⊢ iprop(Hfree c W s ∗ Rfree c W s) := by
  unfold Got Hfree Rfree
  rw [slot_rows s 1536 (by omega)]
  iintro ⟨H1, H2, H3, H4, %f, _, H5⟩
  ihave H5' := (pointsTo_union (slot_disj s 0 1536 3072)).1 $$ H5
  icases H5' with ⟨H5, H6⟩
  isplitl [H1 H2 H5]
  · iexists f; iframe
  · iexists f; iframe

theorem slot_join (s : ℕ) (f g : S8x3072x1408.Idx → Elt F .fp8e4m3) :
    iprop(pt12 (F := F) c (rowsSet s 0 1536) f ∗ pt12 (F := F) c (rowsSet s 1536 3072) g)
      ⊢ iprop(∃ h, pt12 (F := F) c (rowsSet s 0 3072) h) := by
  rw [slot_rows s 1536 (by omega)]
  iintro H
  ihave H' := (pointsTo_join (slot_disj s 0 1536 3072)) $$ H
  iexists _; iexact H'

theorem slot_same (s : ℕ) (f : S8x3072x1408.Idx → Elt F .fp8e4m3) :
    iprop(pt12 (F := F) c (rowsSet s 0 1536) f ∗ pt12 (F := F) c (rowsSet s 1536 3072) f)
      ⊢ pt12 (F := F) c (rowsSet s 0 3072) f := by
  rw [slot_rows s 1536 (by omega)]
  exact (pointsTo_union (slot_disj s 0 1536 3072)).2

theorem part4_ok (fG fE fL : S16.Idx → BitVec 32) (n : ℕ) (h1 : 1 ≤ n) (hn : n ≤ 16) (hw3 : k0_chk3 (BitVec.ofNat 32 n))
    (k : Fin (k0_t4_loop (BitVec.ofNat 32 n)).trips) (he : wd fE k.val < 16) (h : wd fL k.val + wd fG (wd fE k.val) ≤ 192) (Wt : Waits sig Unit) :
    iprop((pt5 (F := F) c fG ∗ pt6 (F := F) c fE ∗ pt7 (F := F) c fL) ∗ Job c W (wd fG) (wd fE) (n - 1) k.val ∗ owes (c : Thread nD τ) 0 Wt)
      ⊢ wp frame (wpE (defs₀ (F := F)) Variants.none (c : Thread nD τ) none) Set.univ (k0_part4 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 0#32 1#32 k)
        (fun r => iprop(∃ x hw8 y hw11 z, ⌜r = ⟨x, BitVec.ofNat 32 (wd fE k.val), hw8, y, BitVec.ofNat 32 (wd fL k.val), BitVec.ofNat 32 (wd fG (wd fE k.val)), hw11,
              Scalar.andi (BitVec.ofNat 32 (wd fL k.val)) 4294967264#32, 0#32, z⟩⌝
          ∗ (pt5 (F := F) c fG ∗ pt6 (F := F) c fE ∗ pt7 (F := F) c fL) ∗ Got c W (k.val % 8) (wd fE k.val) (wd fG (wd fE k.val)) ∗ ∃ Wt', owes (c : Thread nD τ) 0 Wt')) := by
  have hk := Nat.lt_of_lt_of_eq k.isLt (trips4 n h1 hn)
  have w := w4 n h1 hn k
  rw [k0_part4_eq_skeleton]
  unfold k0_part4_skel Job Got
  rw [if_neg (show ¬ k.val = n - 1 by omega)]
  by_cases hg : wd fG (wd fE k.val) = 0
  · rw [if_pos hg]
    unfold Rfree
    iintro ⟨⟨H5, H6, H7⟩, ⟨HP, ⟨%f2, HQ, HT, HS⟩⟩, Ho⟩
    iapply (rd6 c fE k.val w.o35 (by omega)) $$ H6
    iintro H6
    iapply (asm c (chk8_ok _ he))
    iapply (copy_wait c 1536 (hd (k.val % 8)) (k.val % 8) 0 (wd fE k.val) (tH (k.val % 8)) W (sem_hd _ _ w.o36 _) rfl) $$ [HP Ho]
    · iframe
    iintro ⟨HP, HT1, HS1, Ho⟩
    iapply (rd5 c fG (wd fE k.val) (toNat16 _ he) he) $$ H5
    iintro H5
    iapply (asm c (chk9_ok n h1 hn k _ he _))
    sl_rw [dif_neg (fun h' => absurd ((cond9_eq _ (by omega)).mp h') (by omega))]
    iapply (rd7 c fL k.val w.o43 (by omega)) $$ H7
    iintro H7
    iapply (rd6 c fE k.val w.o43 (by omega)) $$ H6
    iintro H6
    iapply (asm c (chk10_ok _ he))
    iapply (rd5 c fG (wd fE k.val) (toNat16 _ he) he) $$ H5
    iintro H5
    iapply (asm c (chk11_ok n h1 hn k _ _ h))
    iapply (ret c _)
    ihave HJ := (slot_join c (k.val % 8) _ _) $$ [HP HQ]
    · isplitl [HP]
      · iexact HP
      · iexact HQ
    icases HJ with ⟨%f, HJ⟩
    iexists _; iexists _; iexists _; iexists _; iexists _
    isplitr
    · ipureintro; rfl
    iframe
    isplitl [HJ]
    · iexists f; iframe; ipureintro; omega
    · iexists _; iexact Ho
  · rw [if_neg hg]
    iintro ⟨⟨H5, H6, H7⟩, ⟨HP, HQ⟩, Ho⟩
    iapply (rd6 c fE k.val w.o35 (by omega)) $$ H6
    iintro H6
    iapply (asm c (chk8_ok _ he))
    iapply (copy_wait c 1536 (hd (k.val % 8)) (k.val % 8) 0 (wd fE k.val) (tH (k.val % 8)) W (sem_hd _ _ w.o36 _) rfl) $$ [HP Ho]
    · iframe
    iintro ⟨HP, HT1, HS1, Ho⟩
    iapply (rd5 c fG (wd fE k.val) (toNat16 _ he) he) $$ H5
    iintro H5
    iapply (asm c (chk9_ok n h1 hn k _ he _))
    sl_rw [dif_pos ((cond9_eq _ (by omega)).mpr (Nat.pos_of_ne_zero hg))]
    iapply (copy_wait c 1536 (rs (k.val % 8)) (k.val % 8) 1536 (wd fE k.val) (tR (k.val % 8)) W (sem_rs _ _ w.o40 _) rfl) $$ [HQ Ho]
    · iframe
    iintro ⟨HQ, HT2, HS2, Ho⟩
    iapply (rd7 c fL k.val w.o43 (by omega)) $$ H7
    iintro H7
    iapply (rd6 c fE k.val w.o43 (by omega)) $$ H6
    iintro H6
    iapply (asm c (chk10_ok _ he))
    iapply (rd5 c fG (wd fE k.val) (toNat16 _ he) he) $$ H5
    iintro H5
    iapply (asm c (chk11_ok n h1 hn k _ _ h))
    iapply (ret c _)
    ihave HJ := (slot_same c (k.val % 8) (slotc W (wd fE k.val))) $$ [HP HQ]
    · isplitl [HP]
      · iexact HP
      · iexact HQ
    iexists _; iexists _; iexists _; iexists _; iexists _
    isplitr
    · ipureintro; rfl
    iframe
    isplitl [HJ]
    · iexists _; iframe; ipureintro; intro _; rfl
    · iexists _; iexact Ho

theorem part3_ok (fE : S16.Idx → BitVec 32) (n : ℕ) (h1 : 1 ≤ n) (hn : n ≤ 16) (hw3 : k0_chk3 (BitVec.ofNat 32 n)) (v19 x : BitVec 32)
    (k : Fin (k0_t4_loop (BitVec.ofNat 32 n)).trips) (hk8 : k.val + 8 < n) (he : wd fE (k.val + 8) < 16) (hc) :
    iprop(pt6 (F := F) c fE ∗ Hfree c W (k.val % 8) ∗ Rfree c W (k.val % 8))
      ⊢ wp frame (wpE (defs₀ (F := F)) Variants.none (c : Thread nD τ) none) Set.univ (k0_part3 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 v19 k x hc)
        (fun r => iprop(∃ hw15, ⌜r = ⟨BitVec.ofNat 32 (wd fE (k.val + 8)), hw15⟩⌝ ∗ pt6 (F := F) c fE
          ∗ Piece c (hd (k.val % 8)) (k.val % 8) 0 1536 (wd fE (k.val + 8)) (tH (k.val % 8)) W
          ∗ (if k.val + 8 = n - 1 then Rfree c W (k.val % 8)
              else Piece c (rs (k.val % 8)) (k.val % 8) 1536 1536 (wd fE (k.val + 8)) (tR (k.val % 8)) W))) := by
  have w := w4 n h1 hn k
  rw [k0_part3_eq_skeleton]
  unfold k0_part3_skel
  by_cases hl : k.val + 8 = n - 1
  · rw [if_pos hl]
    unfold Hfree
    iintro ⟨H6, ⟨%f1, Hd1, Hw1, Hs1⟩, HF⟩
    iapply (rd6 c fE (k.val + 8) w.o59 (by omega)) $$ H6
    iintro H6
    iapply (asm c (chk14_ok n k _ he))
    iapply (copy_start c 1536 (by decide) (hd (k.val % 8)) (k.val % 8) 0 (wd fE (k.val + 8)) he (tH (k.val % 8)) W f1
      w.o61.1 w.o61.2.1 w.o61.2.2 (toNat16 _ he) rfl rfl (sem_hd _ _ w.o60 _)) $$ [Hd1 Hw1 Hs1]
    · iframe
    iintro HP
    iapply (rd6 c fE (k.val + 8) w.o63 (by omega)) $$ H6
    iintro H6
    iapply (asm c (chk15_ok n k _ he))
    sl_rw [dif_neg (fun h => absurd (w.c11.mp h) (by omega))]
    iapply (ret c _)
    iexists _
    isplitr
    · ipureintro; rfl
    iframe
  · rw [if_neg hl]
    unfold Hfree Rfree
    iintro ⟨H6, ⟨%f1, Hd1, Hw1, Hs1⟩, ⟨%f2, Hd2, Hw2, Hs2⟩⟩
    iapply (rd6 c fE (k.val + 8) w.o59 (by omega)) $$ H6
    iintro H6
    iapply (asm c (chk14_ok n k _ he))
    iapply (copy_start c 1536 (by decide) (hd (k.val % 8)) (k.val % 8) 0 (wd fE (k.val + 8)) he (tH (k.val % 8)) W f1
      w.o61.1 w.o61.2.1 w.o61.2.2 (toNat16 _ he) rfl rfl (sem_hd _ _ w.o60 _)) $$ [Hd1 Hw1 Hs1]
    · iframe
    iintro HP
    iapply (rd6 c fE (k.val + 8) w.o63 (by omega)) $$ H6
    iintro H6
    iapply (asm c (chk15_ok n k _ he))
    sl_rw [dif_pos (w.c11.mpr (by omega))]
    iapply (copy_start c 1536 (by decide) (rs (k.val % 8)) (k.val % 8) 1536 (wd fE (k.val + 8)) he (tR (k.val % 8)) W f2
      w.o65.1 w.o65.2.1 w.o65.2.2 (toNat16 _ he) rfl rfl (sem_rs _ _ w.o64 _)) $$ [Hd2 Hw2 Hs2]
    · iframe
    iintro HQ
    iapply (ret c _)
    iexists _
    isplitr
    · ipureintro; rfl
    iframe

end

end Cert.KernelIdeal.Hand
-- ==== Proof.LoopTrip.lean ====
/-
  One trip of the loop over the experts: its windows, the start of a later copy, the pieces it completes.
-/
module

public import proofs.«01_k».proof.Proof.LoopParts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

section

variable (c : Dev nD)

theorem nofin {l : ℕ} (h : l = 0) (j : Fin l) : False := by have := j.isLt; omega
theorem ifn {α : Type} {P : Prop} [Decidable P] (h : ¬ P) {a : P → Prog (TpuEff nD τ sig (Elt F) Λ₀ .tc) α} {b : ¬ P → Prog (TpuEff nD τ sig (Elt F) Λ₀ .tc) α}
    {Q : α → sProp 𝕄} : wp frame (wpE (defs₀ (F := F)) Variants.none (c : Thread nD τ) none) Set.univ (b h) Q ⊢ wp frame (wpE (defs₀ (F := F)) Variants.none (c : Thread nD τ) none) Set.univ (dite P a b) Q := by rw [dif_neg h]

theorem ifp {α : Type} {P : Prop} [Decidable P] (h : P) {a : P → Prog (TpuEff nD τ sig (Elt F) Λ₀ .tc) α} {b : ¬ P → Prog (TpuEff nD τ sig (Elt F) Λ₀ .tc) α}
    {Q : α → sProp 𝕄} : wp frame (wpE (defs₀ (F := F)) Variants.none (c : Thread nD τ) none) Set.univ (a h) Q ⊢ wp frame (wpE (defs₀ (F := F)) Variants.none (c : Thread nD τ) none) Set.univ (dite P a b) Q := by rw [dif_pos h]

theorem Job_last (W : S16x3072x1408.Idx → Elt F .fp8e4m3) {g E : ℕ → ℕ} {last j s : ℕ} (h : j = last) (hs : j % 8 = s) :
    Job c W g E last j = iprop(Piece c (hd s) s 0 1536 (E j) (tH s) W ∗ Lfly c W s (E j)) := by
  unfold Job; rw [if_pos h, hs]
theorem Job_mid (W : S16x3072x1408.Idx → Elt F .fp8e4m3) {g E : ℕ → ℕ} {last j s : ℕ} (h : j ≠ last) (hg : 0 < g (E j)) (hs : j % 8 = s) :
    Job c W g E last j = iprop(Piece c (hd s) s 0 1536 (E j) (tH s) W ∗ Piece c (rs s) s 1536 1536 (E j) (tR s) W) := by
  unfold Job; rw [if_neg h, if_neg (by omega), hs]

theorem hh_zero (lo g : ℕ) : hh lo g 0 = lo := by unfold hh base; omega
theorem hh_nwin (lo g : ℕ) : hh lo g (nwin lo g) = lo + g := by unfold hh nwin base; omega

theorem t5_loop (fG fE fL : S16.Idx → BitVec 32) (q : S224x3072.Idx → Elt F .fp8e4m3) (s : S224x1.Idx → Elt F .f32)
    (W : S16x3072x1408.Idx → Elt F .fp8e4m3) (WS : S16x1x1408.Idx → Elt F .f32)
    (Y : ℕ → (S224x1408.Idx → Elt F .bf16) → Prop)
    (n : ℕ) (h1 : 1 ≤ n) (hn : n ≤ 16) (hw3 : k0_chk3 (BitVec.ofNat 32 n)) (v19 : BitVec 32) (v621 : FVec F S32x1 .f32) (k : Fin (k0_t4_loop (BitVec.ofNat 32 n)).trips)
    (he : wd fE k.val < 16) (h : wd fL k.val + wd fG (wd fE k.val) ≤ 192) (h0 : wd fG (wd fE k.val) = 0 → wd fL k.val = 0) (hw11)
    (hY : ∀ (j : Fin (k0_t5_loop (BitVec.ofNat 32 (wd fL k.val)) (BitVec.ofNat 32 (wd fG (wd fE k.val)))).trips) f,
      Y (hh (wd fL k.val) (wd fG (wd fE k.val)) j.val) f
        → Y (hh (wd fL k.val) (wd fG (wd fE k.val)) (j.val + 1)) (winw q s W WS (wd fE k.val) (wd fL k.val) (wd fG (wd fE k.val)) h j f))
    {α : Type} {hok} {kk : Unit → Prog (TpuEff nD τ sig (Elt F) Λ₀ .tc) α} {Q : α → sProp 𝕄} :
    iprop(Rds c fG fE fL q s WS ∗ Got c W (k.val % 8) (wd fE k.val) (wd fG (wd fE k.val)) ∗ Ybuf c (wd fL k.val / 32) (Y (wd fL k.val)))
      ⊢ iprop((iprop(Rds c fG fE fL q s WS ∗ Got c W (k.val % 8) (wd fE k.val) (wd fG (wd fE k.val)) ∗ Ybuf c (wd fL k.val / 32) (Y (wd fL k.val + wd fG (wd fE k.val)))) -∗ wp frame (wpE (defs₀ (F := F)) Variants.none (c : Thread nD τ) none) Set.univ (kk ⟨⟩) Q)
        -∗ wp frame (wpE (defs₀ (F := F)) Variants.none (c : Thread nD τ) none) Set.univ (Scf.Loop.for (k0_t5_loop (BitVec.ofNat 32 (wd fL k.val)) (BitVec.ofNat 32 (wd fG (wd fE k.val)))) hok ⟨⟩
            (k0_t5_body (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 v19 v621 k (BitVec.ofNat 32 (wd fL k.val)) (BitVec.ofNat 32 (wd fG (wd fE k.val))) hw11
          (Scalar.andi (BitVec.ofNat 32 (wd fL k.val)) 4294967264#32) 0#32) >>= kk) Q) := by
  have ht := (trips5 _ _ h).2
  by_cases hg : wd fG (wd fE k.val) = 0
  · have h0' := h0 hg
    have hz : nwin (wd fL k.val) (wd fG (wd fE k.val)) = 0 := by rw [hg, h0']; rfl
    rw [show wd fL k.val + wd fG (wd fE k.val) = wd fL k.val by omega]
    iintro H Hk
    iapply (forl c (fun _ _ => iprop(emp)) 0 (ht.trans hz) (fun j acc => (nofin (ht.trans hz) j).elim)) $$ []
    · iempintro
    iintro %_ _
    iapply Hk
    iexact H
  · unfold Got
    iintro ⟨HR, ⟨H1, H2, H3, H4, %f, %hf, Hf⟩, HY⟩ Hk
    have hf' := hf (Nat.pos_of_ne_zero hg)
    subst hf'
    iapply (forl c (fun (j : ℕ) _ => iprop(Rds c fG fE fL q s WS ∗ pt12 (F := F) c (rowsSet (k.val % 8) 0 3072) (slotc W (wd fE k.val))
        ∗ Ybuf c (wd fL k.val / 32) (Y (hh (wd fL k.val) (wd fG (wd fE k.val)) j)))) _ ht
      (fun j _ => t5_step c fG fE fL q s W WS Y n h1 hn hw3 v19 v621 k he h hw11 hY _ (by unfold base; omega) j)) $$ [HR Hf HY]
    · rw [hh_zero]; iframe
    iintro %_ H
    rw [hh_nwin]
    icases H with ⟨HR, Hf, HY⟩
    iapply Hk
    iframe
    iexists _; iframe; ipureintro; intro _; rfl

/-- What the loop over the experts keeps before its trip `k`. -/
def Inv4 (fG fE fL : S16.Idx → BitVec 32) (q : S224x3072.Idx → Elt F .fp8e4m3) (s : S224x1.Idx → Elt F .f32)
    (W : S16x3072x1408.Idx → Elt F .fp8e4m3) (WS : S16x1x1408.Idx → Elt F .f32)
    (Y : ℕ → (S224x1408.Idx → Elt F .bf16) → Prop) (T : S192x1408.Idx → Elt F .bf16 → Prop) (n k : ℕ) (acc : BitVec 32) : sProp 𝕄 :=
  iprop(⌜acc = BitVec.ofNat 32 (wd fL k / 32)⌝ ∗ Rds c fG fE fL q s WS ∗ Ring c W (wd fG) (wd fE) (n - 1) (min (k + 8) n) (Finset.Ico k (k + 8))
    ∗ Lrem c W (n - 1) (min (k + 8) n) ∗ Snd c T (Y (wd fL k)) (wd fL k / 32) ∗ ∃ Wt, owes (c : Thread nD τ) 0 Wt)

/-- The list of experts, as the loop over them uses it. -/
structure Lst (fG fE fL : S16.Idx → BitVec 32) (n : ℕ) : Prop where
  one : 1 ≤ n
  le : n ≤ 16
  lt : ∀ j < n, wd fE j < 16
  pos : ∀ j < n, 0 < j → 0 < wd fG (wd fE j)
  fit : ∀ j < n, wd fL j + wd fG (wd fE j) ≤ 192
  zero : wd fL 0 = 0
  next : ∀ j, j + 1 < n → wd fL (j + 1) = wd fL j + wd fG (wd fE j)

theorem t4_trip (fG fE fL : S16.Idx → BitVec 32) (q : S224x3072.Idx → Elt F .fp8e4m3) (s : S224x1.Idx → Elt F .f32)
    (W : S16x3072x1408.Idx → Elt F .fp8e4m3) (WS : S16x1x1408.Idx → Elt F .f32)
    (Y : ℕ → (S224x1408.Idx → Elt F .bf16) → Prop) (T : S192x1408.Idx → Elt F .bf16 → Prop)
    (n : ℕ) (hl : Lst fG fE fL n) (hw3 : k0_chk3 (BitVec.ofNat 32 n)) (v19 : BitVec 32) (v621 : FVec F S32x1 .f32)
    (hY : ∀ i < n - 1, ∀ h (j : Fin (k0_t5_loop (BitVec.ofNat 32 (wd fL i)) (BitVec.ofNat 32 (wd fG (wd fE i)))).trips) f,
      Y (hh (wd fL i) (wd fG (wd fE i)) j.val) f
        → Y (hh (wd fL i) (wd fG (wd fE i)) (j.val + 1)) (winw q s W WS (wd fE i) (wd fL i) (wd fG (wd fE i)) h j f))
    (hT : ∀ h t, 32 * (t + 1) ≤ h → ∀ f, Y h f → ∀ i ∈ otile t, T i (f (up i)))
    (k : Fin (k0_t4_loop (BitVec.ofNat 32 n)).trips) (acc : BitVec 32) :
    Inv4 c fG fE fL q s W WS Y T n k.val acc
      ⊢ wp frame (wpE (defs₀ (F := F)) Variants.none (c : Thread nD τ) none) Set.univ (k0_t4_body (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 v19 v621 k acc) (fun r => Inv4 c fG fE fL q s W WS Y T n (k.val + 1) r) := by
  have h1 := hl.one
  have hn := hl.le
  have hk := Nat.lt_of_lt_of_eq k.isLt (trips4 n h1 hn)
  have w := w4 n h1 hn k
  have he := hl.lt k.val (by omega)
  have hlg := hl.fit k.val (by omega)
  have hnext := hl.next k.val (by omega)
  have h0 : wd fG (wd fE k.val) = 0 → wd fL k.val = 0 := by
    intro h
    by_cases hk0 : k.val = 0
    · rw [hk0]; exact hl.zero
    · have := hl.pos k.val (by omega) (by omega); omega
  have hp : wd fL k.val / 32 ≤ (wd fL k.val + wd fG (wd fE k.val)) / 32 := by omega
  have hsum : wd fL k.val / 32 + ((wd fL k.val + wd fG (wd fE k.val)) / 32 - wd fL k.val / 32) = (wd fL k.val + wd fG (wd fE k.val)) / 32 := by omega
  have hT' : ∀ t < (wd fL k.val + wd fG (wd fE k.val)) / 32, ∀ f, Y (wd fL k.val + wd fG (wd fE k.val)) f → ∀ i ∈ otile t, T i (f (up i)) := by
    intro t ht f hf
    exact hT _ t (by omega) f hf
  have hI1 : Finset.Ico k.val (k.val + 8) = insert k.val (Finset.Ico (k.val + 1) (k.val + 8)) := by
    ext i; simp only [Finset.mem_insert, Finset.mem_Ico]; omega
  have hI2 : Finset.Ico (k.val + 1) (k.val + 1 + 8) = insert (k.val + 8) (Finset.Ico (k.val + 1) (k.val + 8)) := by
    ext i; simp only [Finset.mem_insert, Finset.mem_Ico]; omega
  have hm8 : (k.val + 8) % 8 = k.val % 8 := by omega
  unfold Inv4
  rw [Ring_insert c W (by simp) hI1, Ring_insert c W (by simp) hI2, Cell_job c W (show k.val < min (k.val + 8) n by omega)]
  by_cases hk8 : k.val + 8 < n
  · have he8 := hl.lt (k.val + 8) hk8
    rw [Cell_job c W (show k.val + 8 < min (k.val + 1 + 8) n by omega),
      Ring_congr c W (b := min (k.val + 8) n) (b' := min (k.val + 1 + 8) n) (S := Finset.Ico (k.val + 1) (k.val + 8)) (by intro j hj; have := Finset.mem_Ico.mp hj; omega)]
    by_cases hlast : k.val + 8 = n - 1
    · rw [Job_last c W hlast hm8, Lrem_free c W (show min (k.val + 8) n ≤ n - 1 by omega), Lrem_gone c W (show n - 1 < min (k.val + 1 + 8) n by omega)]
      unfold k0_t4_body Snd
      iintro ⟨%hacc, HR, ⟨HJ, Hring⟩, HL, ⟨HY, HO, HB⟩, %Wt, Ho⟩
      subst hacc
      unfold Rds
      icases HR with ⟨H5, H6, H7, HR⟩
      iapply (part c (part4_ok c W fG fE fL n h1 hn hw3 k he hlg Wt)) $$ [H5 H6 H7 HJ Ho]
      · iframe
      iintro %r ⟨%x, %hw8, %y, %hw11, %z, %hr, ⟨H5, H6, H7⟩, HG, Ho⟩
      subst hr
      iapply (t5_loop c fG fE fL q s W WS Y n h1 hn hw3 v19 v621 k he hlg h0 hw11 (hY k.val hk hlg)) $$ [H5 H6 H7 HR HG HY]
      · unfold Rds; iframe
      unfold Rds
      iintro ⟨⟨H5, H6, H7, HR⟩, HG, HY⟩
      iapply (forl c (fun _ _ => iprop(emp)) 0 (trips6 _ _ hlg).2 (fun j acc => (nofin (trips6 _ _ hlg).2 j).elim)) $$ []
      · iempintro
      iintro %_ _
      ihave HG' := (Got_free c W _ _ _) $$ HG
      icases HG' with ⟨HH, HF⟩
      sl_rw [dif_pos (w.c10.mpr hk8)]
      iapply (part c (part3_ok c W fE n h1 hn hw3 v19 x k hk8 he8 _)) $$ [H6 HH HF]
      · iframe
      rw [if_pos hlast]
      iintro %r ⟨%hw15, %hr, H6, HP, HF⟩
      subst hr
      iapply (ifp c (w.c12.mpr hlast))
      unfold Lfree Rfree
      icases HF with ⟨%f2, Hd2, Hw2, Hs2⟩
      icases HL with ⟨⟨Ht0, Hm0⟩, ⟨Ht1, Hm1⟩, ⟨Ht2, Hm2⟩⟩
      ihave Hd' := (Rfree_split c _ _) $$ Hd2
      icases Hd' with ⟨Hp0, Hp1, Hp2⟩
      iapply (copy_start c 768 (by decide) (ls 0) (k.val % 8) 1536 (wd fE (k.val + 8)) he8 (tL 0) W f2
        w.o67.1 w.o67.2.1 w.o67.2.2 (toNat16 _ he8) rfl rfl sem_ls0) $$ [Hp0 Ht0 Hm0]
      · iframe
      iintro HQ0
      iapply (copy_start c 512 (by decide) (ls 1) (k.val % 8) 2304 (wd fE (k.val + 8)) he8 (tL 1) W f2
        w.o69.1 w.o69.2.1 w.o69.2.2 (toNat16 _ he8) rfl rfl sem_ls1) $$ [Hp1 Ht1 Hm1]
      · iframe
      iintro HQ1
      iapply (copy_start c 256 (by decide) (ls 2) (k.val % 8) 2816 (wd fE (k.val + 8)) he8 (tL 2) W f2
        w.o71.1 w.o71.2.1 w.o71.2.2 (toNat16 _ he8) rfl rfl sem_ls2) $$ [Hp2 Ht2 Hm2]
      · iframe
      iintro HQ2
      iapply (rd7 c fL k.val w.o73 (by omega)) $$ H7
      iintro H7
      iapply (rd5 c fG (wd fE k.val) (toNat16 _ he) he) $$ H5
      iintro H5
      iapply (asm c (chk16_ok _ _ _ hlg hp))
      iapply (forl c (fun (j : ℕ) _ => Snd c T (Y (wd fL k.val + wd fG (wd fE k.val))) (wd fL k.val / 32 + j)) _ (trips7 _ _ _ hlg hp).2
        (fun j _ => t7_trip c T _ _ _ _ hlg hp hT' _ _ _ _ _ j)) $$ [HY HO HB]
      · unfold Snd; rw [Nat.add_zero]; iframe
      iintro %_ HY
      rw [hsum]
      iapply (forl c (fun _ _ => iprop(emp)) 0 (trips8 _ _ _ hlg hp).2 (fun j acc => (nofin (trips8 _ _ _ hlg hp).2 j).elim)) $$ []
      · iempintro
      iintro %_ _
      iapply (ret c _)
      isplitr
      · ipureintro; exact (dn_eq _ _ hlg).trans (by rw [hnext])
      rw [hnext]
      unfold Snd
      icases HY with ⟨HY, HO, HB⟩
      iframe
      unfold Lfly
      iframe
    · have hc12 : ¬ k0_cond12 (BitVec.ofNat 32 n) k = 1#1 := fun h => hlast (w.c12.mp h)
      have hg8 := hl.pos (k.val + 8) hk8 (by omega)
      rw [Job_mid c W hlast hg8 hm8, Lrem_free c W (show min (k.val + 8) n ≤ n - 1 by omega), Lrem_free c W (show min (k.val + 1 + 8) n ≤ n - 1 by omega)]
      unfold k0_t4_body Snd
      iintro ⟨%hacc, HR, ⟨HJ, Hring⟩, HL, ⟨HY, HO, HB⟩, %Wt, Ho⟩
      subst hacc
      unfold Rds
      icases HR with ⟨H5, H6, H7, HR⟩
      iapply (part c (part4_ok c W fG fE fL n h1 hn hw3 k he hlg Wt)) $$ [H5 H6 H7 HJ Ho]
      · iframe
      iintro %r ⟨%x, %hw8, %y, %hw11, %z, %hr, ⟨H5, H6, H7⟩, HG, Ho⟩
      subst hr
      iapply (t5_loop c fG fE fL q s W WS Y n h1 hn hw3 v19 v621 k he hlg h0 hw11 (hY k.val hk hlg)) $$ [H5 H6 H7 HR HG HY]
      · unfold Rds; iframe
      unfold Rds
      iintro ⟨⟨H5, H6, H7, HR⟩, HG, HY⟩
      iapply (forl c (fun _ _ => iprop(emp)) 0 (trips6 _ _ hlg).2 (fun j acc => (nofin (trips6 _ _ hlg).2 j).elim)) $$ []
      · iempintro
      iintro %_ _
      ihave HG' := (Got_free c W _ _ _) $$ HG
      icases HG' with ⟨HH, HF⟩
      sl_rw [dif_pos (w.c10.mpr hk8)]
      iapply (part c (part3_ok c W fE n h1 hn hw3 v19 x k hk8 he8 _)) $$ [H6 HH HF]
      · iframe
      rw [if_neg hlast]
      iintro %r ⟨%hw15, %hr, H6, HP, HF⟩
      subst hr
      iapply (ifn c hc12)
      iapply (rd7 c fL k.val w.o73 (by omega)) $$ H7
      iintro H7
      iapply (rd5 c fG (wd fE k.val) (toNat16 _ he) he) $$ H5
      iintro H5
      iapply (asm c (chk16_ok _ _ _ hlg hp))
      iapply (forl c (fun (j : ℕ) _ => Snd c T (Y (wd fL k.val + wd fG (wd fE k.val))) (wd fL k.val / 32 + j)) _ (trips7 _ _ _ hlg hp).2
        (fun j _ => t7_trip c T _ _ _ _ hlg hp hT' _ _ _ _ _ j)) $$ [HY HO HB]
      · unfold Snd; rw [Nat.add_zero]; iframe
      iintro %_ HY
      rw [hsum]
      iapply (forl c (fun _ _ => iprop(emp)) 0 (trips8 _ _ _ hlg hp).2 (fun j acc => (nofin (trips8 _ _ _ hlg hp).2 j).elim)) $$ []
      · iempintro
      iintro %_ _
      iapply (ret c _)
      isplitr
      · ipureintro; exact (dn_eq _ _ hlg).trans (by rw [hnext])
      rw [hnext]
      unfold Snd
      icases HY with ⟨HY, HO, HB⟩
      iframe
  · rw [Cell_free c W (show min (k.val + 1 + 8) n ≤ k.val + 8 by omega), hm8, show min (k.val + 1 + 8) n = min (k.val + 8) n by omega]
    unfold k0_t4_body Snd
    iintro ⟨%hacc, HR, ⟨HJ, Hring⟩, HL, ⟨HY, HO, HB⟩, %Wt, Ho⟩
    subst hacc
    unfold Rds
    icases HR with ⟨H5, H6, H7, HR⟩
    iapply (part c (part4_ok c W fG fE fL n h1 hn hw3 k he hlg Wt)) $$ [H5 H6 H7 HJ Ho]
    · iframe
    iintro %r ⟨%x, %hw8, %y, %hw11, %z, %hr, ⟨H5, H6, H7⟩, HG, Ho⟩
    subst hr
    iapply (t5_loop c fG fE fL q s W WS Y n h1 hn hw3 v19 v621 k he hlg h0 hw11 (hY k.val hk hlg)) $$ [H5 H6 H7 HR HG HY]
    · unfold Rds; iframe
    unfold Rds
    iintro ⟨⟨H5, H6, H7, HR⟩, HG, HY⟩
    iapply (forl c (fun _ _ => iprop(emp)) 0 (trips6 _ _ hlg).2 (fun j acc => (nofin (trips6 _ _ hlg).2 j).elim)) $$ []
    · iempintro
    iintro %_ _
    ihave HG' := (Got_free c W _ _ _) $$ HG
    icases HG' with ⟨HH, HF⟩
    sl_rw [dif_neg (fun h => hk8 (w.c10.mp h))]
    iapply (rd7 c fL k.val w.o73 (by omega)) $$ H7
    iintro H7
    iapply (rd5 c fG (wd fE k.val) (toNat16 _ he) he) $$ H5
    iintro H5
    iapply (asm c (chk16_ok _ _ _ hlg hp))
    iapply (forl c (fun (j : ℕ) _ => Snd c T (Y (wd fL k.val + wd fG (wd fE k.val))) (wd fL k.val / 32 + j)) _ (trips7 _ _ _ hlg hp).2
      (fun j _ => t7_trip c T _ _ _ _ hlg hp hT' _ _ _ _ _ j)) $$ [HY HO HB]
    · unfold Snd; rw [Nat.add_zero]; iframe
    iintro %_ HY
    rw [hsum]
    iapply (forl c (fun _ _ => iprop(emp)) 0 (trips8 _ _ _ hlg hp).2 (fun j acc => (nofin (trips8 _ _ _ hlg hp).2 j).elim)) $$ []
    · iempintro
    iintro %_ _
    iapply (ret c _)
    isplitr
    · ipureintro; exact (dn_eq _ _ hlg).trans (by rw [hnext])
    rw [hnext]
    unfold Snd
    icases HY with ⟨HY, HO, HB⟩
    iframe

end

end Cert.KernelIdeal.Hand
-- ==== Proof.LastWords.lean ====
/-
  The words of the last expert's part.
-/
module

public import proofs.«01_k».proof.Proof.LoopTrip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

structure WL (n : ℕ) : Prop where
  o123 : k0_off123 (BitVec.ofNat 32 n) 0 = n - 1
  o124 : k0_off124 (BitVec.ofNat 32 n) 0 = (n - 1) % 8
  o127 : k0_off127 (BitVec.ofNat 32 n) 0 = n - 1
  o137 : k0_off137 (BitVec.ofNat 32 n) 0 = n - 1
  o147 : k0_off147 (BitVec.ofNat 32 n) 0 = n - 1
  o157 : k0_off157 (BitVec.ofNat 32 n) 0 = n - 1
  o162 : k0_off162 (BitVec.ofNat 32 n) 0 = n - 1
  o130 : k0_off130 (BitVec.ofNat 32 n) 0 = (n - 1) % 8 ∧ k0_off130 (BitVec.ofNat 32 n) 1 = 0 ∧ k0_off130 (BitVec.ofNat 32 n) 2 = 0
  o141 : k0_off141 (BitVec.ofNat 32 n) 0 = (n - 1) % 8 ∧ k0_off141 (BitVec.ofNat 32 n) 1 = 1536 ∧ k0_off141 (BitVec.ofNat 32 n) 2 = 0
  o151 : k0_off151 (BitVec.ofNat 32 n) 0 = (n - 1) % 8 ∧ k0_off151 (BitVec.ofNat 32 n) 1 = 2304 ∧ k0_off151 (BitVec.ofNat 32 n) 2 = 0
  o161 : k0_off161 (BitVec.ofNat 32 n) 0 = (n - 1) % 8 ∧ k0_off161 (BitVec.ofNat 32 n) 1 = 2816 ∧ k0_off161 (BitVec.ofNat 32 n) 2 = 0

theorem wl (n : ℕ) (h1 : 1 ≤ n) (h : n ≤ 16) : WL n := by
  have a : ∀ n : Fin 17, 1 ≤ n.val → k0_off123 (BitVec.ofNat 32 n.val) 0 = n.val - 1 ∧ k0_off124 (BitVec.ofNat 32 n.val) 0 = (n.val - 1) % 8
    ∧ k0_off127 (BitVec.ofNat 32 n.val) 0 = n.val - 1 ∧ k0_off137 (BitVec.ofNat 32 n.val) 0 = n.val - 1 ∧ k0_off147 (BitVec.ofNat 32 n.val) 0 = n.val - 1
    ∧ k0_off157 (BitVec.ofNat 32 n.val) 0 = n.val - 1 ∧ k0_off162 (BitVec.ofNat 32 n.val) 0 = n.val - 1 := by decide +kernel
  have b : ∀ n : Fin 17, 1 ≤ n.val →
    (k0_off130 (BitVec.ofNat 32 n.val) 0 = (n.val - 1) % 8 ∧ k0_off130 (BitVec.ofNat 32 n.val) 1 = 0 ∧ k0_off130 (BitVec.ofNat 32 n.val) 2 = 0)
    ∧ (k0_off141 (BitVec.ofNat 32 n.val) 0 = (n.val - 1) % 8 ∧ k0_off141 (BitVec.ofNat 32 n.val) 1 = 1536 ∧ k0_off141 (BitVec.ofNat 32 n.val) 2 = 0)
    ∧ (k0_off151 (BitVec.ofNat 32 n.val) 0 = (n.val - 1) % 8 ∧ k0_off151 (BitVec.ofNat 32 n.val) 1 = 2304 ∧ k0_off151 (BitVec.ofNat 32 n.val) 2 = 0)
    ∧ (k0_off161 (BitVec.ofNat 32 n.val) 0 = (n.val - 1) % 8 ∧ k0_off161 (BitVec.ofNat 32 n.val) 1 = 2816 ∧ k0_off161 (BitVec.ofNat 32 n.val) 2 = 0) := by decide +kernel
  obtain ⟨a1, a2, a3, a4, a5, a6, a7⟩ := a ⟨n, by omega⟩ h1
  obtain ⟨b1, b2, b3, b4⟩ := b ⟨n, by omega⟩ h1
  exact ⟨a1, a2, a3, a4, a5, a6, a7, b1, b2, b3, b4⟩

theorem chk26_ok (e : ℕ) (he : e < 16) : k0_chk26 (BitVec.ofNat 32 e) := by
  have h1 : k0_off126 (BitVec.ofNat 32 e) = ![e, 0, 0] := wnat e 0 he
  have h2 : k0_off136 (BitVec.ofNat 32 e) = ![e, 1536, 0] := wnat e 1536 he
  have h3 : k0_off146 (BitVec.ofNat 32 e) = ![e, 2304, 0] := wnat e 2304 he
  have h4 : k0_off156 (BitVec.ofNat 32 e) = ![e, 2816, 0] := wnat e 2816 he
  unfold k0_chk26
  rw [h1, h2, h3, h4]
  exact ⟨inb3 e 0 1536 he (by omega), fun hinb => ww1536 e he _ 0 (Or.inl rfl) rfl hinb, inb3 e 1536 768 he (by omega), ww768 e he,
    inb3 e 2304 512 he (by omega), ww512 e he, inb3 e 2816 256 he (by omega), ww256 e he⟩

theorem inb8 (s o L : ℕ) (hs : s < 8) (ho : o + L ≤ 3072) {off : Fin 3 → ℕ} (h : off 0 = s ∧ off 1 = o ∧ off 2 = 0) : ∀ a, off a + (Sw L).size a ≤ S8x3072x1408.size a := by
  obtain ⟨h0, h1, h2⟩ := h
  intro a
  fin_cases a
  · show off 0 + 1 ≤ 8; omega
  · show off 1 + L ≤ 3072; omega
  · show off 2 + 1408 ≤ 1408; omega

theorem inbq (b o L : ℕ) (hb : b + 64 ≤ 224) (ho : o + L ≤ 3072) : ∀ a, (![b, o] : Fin 2 → ℕ) a + (⟨2, ![64, L]⟩ : Shape).size a ≤ S224x3072.size a := by
  intro a
  fin_cases a
  · show b + 64 ≤ 224; omega
  · show o + L ≤ 3072; omega

section

variable (lo g : ℕ)

theorem t14_eq : k0_t14_loop (BitVec.ofNat 32 lo) (BitVec.ofNat 32 g) = k0_t5_loop (BitVec.ofNat 32 lo) (BitVec.ofNat 32 g) := rfl
theorem t16_eq : k0_t16_loop (BitVec.ofNat 32 lo) (BitVec.ofNat 32 g) = k0_t5_loop (BitVec.ofNat 32 lo) (BitVec.ofNat 32 g) := rfl
theorem t18_eq : k0_t18_loop (BitVec.ofNat 32 lo) (BitVec.ofNat 32 g) = k0_t5_loop (BitVec.ofNat 32 lo) (BitVec.ofNat 32 g) := rfl
theorem t20_eq : k0_t20_loop (BitVec.ofNat 32 lo) (BitVec.ofNat 32 g) = k0_t5_loop (BitVec.ofNat 32 lo) (BitVec.ofNat 32 g) := rfl
theorem t15_eq : k0_t15_loop (BitVec.ofNat 32 lo) (BitVec.ofNat 32 g) = k0_t6_loop (BitVec.ofNat 32 lo) (BitVec.ofNat 32 g) := rfl
theorem t17_eq : k0_t17_loop (BitVec.ofNat 32 lo) (BitVec.ofNat 32 g) = k0_t6_loop (BitVec.ofNat 32 lo) (BitVec.ofNat 32 g) := rfl
theorem t19_eq : k0_t19_loop (BitVec.ofNat 32 lo) (BitVec.ofNat 32 g) = k0_t6_loop (BitVec.ofNat 32 lo) (BitVec.ofNat 32 g) := rfl
theorem t21_eq : k0_t21_loop (BitVec.ofNat 32 lo) (BitVec.ofNat 32 g) = k0_t6_loop (BitVec.ofNat 32 lo) (BitVec.ofNat 32 g) := rfl

/-- Where a window of the last expert starts, in words. -/
theorem wbase (h : lo + g ≤ 192) (k : ℕ) (hk : k < nwin lo g) :
    (Scalar.addi (Scalar.andi (BitVec.ofNat 32 lo) 4294967264#32) (Scalar.muli (0#32 + BitVec.ofNat 32 k * 1#32) 64#32)).toNat = base lo + 64 * k := by
  have := nwin_le lo g k h hk
  exact base_word lo k (by omega) (by omega)

variable (h : lo + g ≤ 192)
include h

theorem o129 (k : Fin (k0_t14_loop (BitVec.ofNat 32 lo) (BitVec.ofNat 32 g)).trips) :
    k0_off129 (BitVec.ofNat 32 lo) (BitVec.ofNat 32 g) k = ![base lo + 64 * k.val, 0] ∧ k0_off131 (BitVec.ofNat 32 lo) (BitVec.ofNat 32 g) k = ![base lo + 64 * k.val, 0]
      ∧ (k0_mult9 (BitVec.ofNat 32 lo) (BitVec.ofNat 32 g) k).toNat = base lo + 64 * k.val ∧ base lo + 64 * k.val + 64 ≤ 224 := by
  have hk : k.val < nwin lo g := lt_of_lt_of_eq k.isLt (trips5 lo g h).2
  have b := wbase lo g h k.val hk
  exact ⟨congrArg (fun x => (![x, 0] : Fin 2 → ℕ)) b, congrArg (fun x => (![x, 0] : Fin 2 → ℕ)) b, b, nwin_le lo g k.val h hk⟩

theorem o139 (k : Fin (k0_t16_loop (BitVec.ofNat 32 lo) (BitVec.ofNat 32 g)).trips) :
    k0_off139 (BitVec.ofNat 32 lo) (BitVec.ofNat 32 g) k = ![base lo + 64 * k.val, 0] ∧ k0_off140 (BitVec.ofNat 32 lo) (BitVec.ofNat 32 g) k = ![base lo + 64 * k.val, 1536]
      ∧ (k0_mult11 (BitVec.ofNat 32 lo) (BitVec.ofNat 32 g) k).toNat = base lo + 64 * k.val ∧ base lo + 64 * k.val + 64 ≤ 224 := by
  have hk : k.val < nwin lo g := lt_of_lt_of_eq k.isLt (trips5 lo g h).2
  have b := wbase lo g h k.val hk
  exact ⟨congrArg (fun x => (![x, 0] : Fin 2 → ℕ)) b, congrArg (fun x => (![x, 1536] : Fin 2 → ℕ)) b, b, nwin_le lo g k.val h hk⟩

theorem o149 (k : Fin (k0_t18_loop (BitVec.ofNat 32 lo) (BitVec.ofNat 32 g)).trips) :
    k0_off149 (BitVec.ofNat 32 lo) (BitVec.ofNat 32 g) k = ![base lo + 64 * k.val, 0] ∧ k0_off150 (BitVec.ofNat 32 lo) (BitVec.ofNat 32 g) k = ![base lo + 64 * k.val, 2304]
      ∧ (k0_mult13 (BitVec.ofNat 32 lo) (BitVec.ofNat 32 g) k).toNat = base lo + 64 * k.val ∧ base lo + 64 * k.val + 64 ≤ 224 := by
  have hk : k.val < nwin lo g := lt_of_lt_of_eq k.isLt (trips5 lo g h).2
  have b := wbase lo g h k.val hk
  exact ⟨congrArg (fun x => (![x, 0] : Fin 2 → ℕ)) b, congrArg (fun x => (![x, 2304] : Fin 2 → ℕ)) b, b, nwin_le lo g k.val h hk⟩

structure W20 (k : Fin (k0_t20_loop (BitVec.ofNat 32 lo) (BitVec.ofNat 32 g)).trips) : Prop where
  o159 : k0_off159 (BitVec.ofNat 32 lo) (BitVec.ofNat 32 g) k = ![base lo + 64 * k.val, 0]
  o160 : k0_off160 (BitVec.ofNat 32 lo) (BitVec.ofNat 32 g) k = ![base lo + 64 * k.val, 2816]
  o163 : k0_off163 (BitVec.ofNat 32 lo) (BitVec.ofNat 32 g) k = ![base lo + 64 * k.val, 0]
  o166 : k0_off166 (BitVec.ofNat 32 lo) (BitVec.ofNat 32 g) k = ![base lo + 64 * k.val, 0]
  m : (k0_mult15 (BitVec.ofNat 32 lo) (BitVec.ofNat 32 g) k).toNat = base lo + 64 * k.val
  le : base lo + 64 * k.val + 64 ≤ 224

theorem w20 (k : Fin (k0_t20_loop (BitVec.ofNat 32 lo) (BitVec.ofNat 32 g)).trips) : W20 lo g k := by
  have hk : k.val < nwin lo g := lt_of_lt_of_eq k.isLt (trips5 lo g h).2
  have b := wbase lo g h k.val hk
  exact ⟨congrArg (fun x => (![x, 0] : Fin 2 → ℕ)) b, congrArg (fun x => (![x, 2816] : Fin 2 → ℕ)) b, congrArg (fun x => (![x, 0] : Fin 2 → ℕ)) b,
    congrArg (fun x => (![x, 0] : Fin 2 → ℕ)) b, b, nwin_le lo g k.val h hk⟩

variable (n : ℕ) (h1 : 1 ≤ n) (hn : n ≤ 16)
include h1 hn

theorem chk28_ok : k0_chk28 (BitVec.ofNat 32 n) (BitVec.ofNat 32 lo) (BitVec.ofNat 32 g) := by
  have z : ∀ j : Fin (k0_t15_loop (BitVec.ofNat 32 lo) (BitVec.ofNat 32 g)).trips, False := nofin (trips6 lo g h).2
  refine ⟨(trips5 lo g h).1, ?_, ?_, ?_, ?_, (trips6 lo g h).1, fun j => (z j).elim, fun j => (z j).elim, fun j => (z j).elim, fun j => (z j).elim⟩
  · intro j; rw [(o129 lo g h j).2.2.1]; exact base_dvd lo j.val
  · intro j; rw [(o129 lo g h j).1]; exact inbq _ 0 1536 (o129 lo g h j).2.2.2 (by omega)
  · intro j; exact inb8 _ 0 1536 (by omega) (by omega) (wl n h1 hn).o130
  · intro j; rw [(o129 lo g h j).2.1]; exact inb2 _ 224 64 1408 1408 (o129 lo g h j).2.2.2 (by omega)

theorem chk30_ok : k0_chk30 (BitVec.ofNat 32 n) (BitVec.ofNat 32 lo) (BitVec.ofNat 32 g) := by
  have z : ∀ j : Fin (k0_t17_loop (BitVec.ofNat 32 lo) (BitVec.ofNat 32 g)).trips, False := nofin (trips6 lo g h).2
  refine ⟨(trips5 lo g h).1, ?_, ?_, ?_, ?_, (trips6 lo g h).1, fun j => (z j).elim, fun j => (z j).elim, fun j => (z j).elim, fun j => (z j).elim⟩
  · intro j; rw [(o139 lo g h j).2.2.1]; exact base_dvd lo j.val
  · intro j; rw [(o139 lo g h j).1]; exact inb2 _ 224 64 1408 1408 (o139 lo g h j).2.2.2 (by omega)
  · intro j; rw [(o139 lo g h j).2.1]; exact inbq _ 1536 768 (o139 lo g h j).2.2.2 (by omega)
  · intro j; exact inb8 _ 1536 768 (by omega) (by omega) (wl n h1 hn).o141

theorem chk32_ok : k0_chk32 (BitVec.ofNat 32 n) (BitVec.ofNat 32 lo) (BitVec.ofNat 32 g) := by
  have z : ∀ j : Fin (k0_t19_loop (BitVec.ofNat 32 lo) (BitVec.ofNat 32 g)).trips, False := nofin (trips6 lo g h).2
  refine ⟨(trips5 lo g h).1, ?_, ?_, ?_, ?_, (trips6 lo g h).1, fun j => (z j).elim, fun j => (z j).elim, fun j => (z j).elim, fun j => (z j).elim⟩
  · intro j; rw [(o149 lo g h j).2.2.1]; exact base_dvd lo j.val
  · intro j; rw [(o149 lo g h j).1]; exact inb2 _ 224 64 1408 1408 (o149 lo g h j).2.2.2 (by omega)
  · intro j; rw [(o149 lo g h j).2.1]; exact inbq _ 2304 512 (o149 lo g h j).2.2.2 (by omega)
  · intro j; exact inb8 _ 2304 512 (by omega) (by omega) (wl n h1 hn).o151

theorem chk34_ok : k0_chk34 (BitVec.ofNat 32 n) (BitVec.ofNat 32 lo) (BitVec.ofNat 32 g) := by
  have z : ∀ j : Fin (k0_t21_loop (BitVec.ofNat 32 lo) (BitVec.ofNat 32 g)).trips, False := nofin (trips6 lo g h).2
  refine ⟨(trips5 lo g h).1, ?_, ?_, ?_, ?_, ?_, ?_, ?_, ?_, (trips6 lo g h).1, fun j => (z j).elim, fun j => (z j).elim, fun j => (z j).elim, fun j => (z j).elim,
    fun j => (z j).elim, fun j => (z j).elim, fun j => (z j).elim, fun j => (z j).elim⟩
  · intro j; rw [(w20 lo g h j).m]; exact base_dvd lo j.val
  · intro j; rw [(w20 lo g h j).o159]; exact inb2 _ 224 64 1408 1408 (w20 lo g h j).le (by omega)
  · intro j; rw [(w20 lo g h j).o160]; exact inbq _ 2816 256 (w20 lo g h j).le (by omega)
  · intro j; exact inb8 _ 2816 256 (by omega) (by omega) (wl n h1 hn).o161
  · intro j; exact inb16 (n - 1) (by omega) _ (wl n h1 hn).o162
  · intro j; rw [(w20 lo g h j).o163]; exact inb2 _ 224 64 1 1 (w20 lo g h j).le (by omega)
  · intro j; rw [(w20 lo g h j).o166]; exact inb2 _ 224 64 1408 1408 (w20 lo g h j).le (by omega)
  · intro j hinb; exact pr64 _ (w20 lo g h j).le (base_dvd lo j.val) _ (w20 lo g h j).o166 hinb

end

theorem chk35_ok (e : ℕ) (he : e < 16) : k0_chk35 (BitVec.ofNat 32 e) := chk12_ok e he

end Cert.KernelIdeal.Hand
-- ==== Proof.Last.lean ====
/-
  The windows of the last expert: three passes that sum partial products, and a fourth that finishes.
-/
module

public import proofs.«01_k».proof.Proof.LastWords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

abbrev r9c (b o L : ℕ) (h : b + 64 ≤ 224) (ho : o + L ≤ 3072) : Rect S224x3072 := Rect.unit (s := S224x3072) ![b, o] (⟨2, ![64, L]⟩ : Shape).size (inbq b o L h ho)
abbrev r13 (b : ℕ) (h : b + 64 ≤ 224) : Rect S224x1408 := Rect.unit (s := S224x1408) ![b, 0] S64x1408.size (inb2 b 224 64 1408 1408 h (by omega))

/-- `L` rows of the weights of expert `e`, from row `o` on. -/
def wpart (W : S16x3072x1408.Idx → Elt F .fp8e4m3) (e o L : ℕ) (ho : o + L ≤ 3072) : Vec F (Sw L) .fp8e4m3 :=
  fun x => W (wix e ⟨o + (x 1).val, Nat.lt_of_lt_of_le (Nat.add_lt_add_left (show (x 1).val < L from (x 1).isLt) o) ho⟩ (x 2))

theorem rd12c (W : S16x3072x1408.Idx → Elt F .fp8e4m3) (e o L : ℕ) (ho : o + L ≤ 3072) {off : Fin 3 → ℕ} (h1 : off 1 = o) (h2 : off 2 = 0) (hb) :
    (a12.access (Rect.unit (s := S8x3072x1408) off (Sw L).size hb)).read (Elt F) (slotc W e) = wpart W e o L ho := by
  funext x
  show W (wix e _ _) = W (wix e _ _)
  congr 2
  · refine Fin.ext ?_; show off 1 + 1 * (x 1).val = o + (x 1).val; omega
  · refine Fin.ext ?_; show off 2 + 1 * (x 2).val = (x 2).val; omega

theorem rd9c (q : S224x3072.Idx → Elt F .fp8e4m3) (o L : ℕ) (ho : o + L ≤ 3072) {off : Fin 2 → ℕ} {b : ℕ} (h : off = ![b, o]) (hb) (hb') :
    (a9.access (Rect.unit (s := S224x3072) off (⟨2, ![64, L]⟩ : Shape).size hb)).read (Elt F) q = (a9.access (r9c b o L hb' ho)).read (Elt F) q := by subst h; rfl
theorem rd13_off (q : S224x1408.Idx → Elt F .f32) {off : Fin 2 → ℕ} {b : ℕ} (h : off = ![b, 0]) (hb) (hb') :
    (a13.access (Rect.unit (s := S224x1408) off S64x1408.size hb)).read (Elt F) q = (a13.access (r13 b hb')).read (Elt F) q := by subst h; rfl
theorem wr13_off (q : S224x1408.Idx → Elt F .f32) (w : S64x1408.Idx → Elt F .f32) {off : Fin 2 → ℕ} {b : ℕ} (h : off = ![b, 0]) (hb) (hb') :
    (a13.access (Rect.unit (s := S224x1408) off S64x1408.size hb)).write (Elt F) q w Finset.univ = (a13.access (r13 b hb')).write (Elt F) q w Finset.univ := by subst h; rfl

theorem sub1536 (s o : ℕ) (off : Fin 3 → ℕ) (h0 : off 0 = s) (h1 : off 1 = o) (h2 : off 2 = 0)
    (hb : ∀ a, off a + S1x1536x1408.size a ≤ S8x3072x1408.size a) :
    ((a12.access (Rect.unit (s := S8x3072x1408) off S1x1536x1408.size hb)).set : Finset S8x3072x1408.Idx) ⊆ rowsSet s o (o + 1536) := by
  have := set12 1536 s o off h0 h1 h2 hb
  intro i hi
  rw [← this]
  exact hi
theorem sub768 (s o : ℕ) (off : Fin 3 → ℕ) (h0 : off 0 = s) (h1 : off 1 = o) (h2 : off 2 = 0)
    (hb : ∀ a, off a + S1x768x1408.size a ≤ S8x3072x1408.size a) :
    ((a12.access (Rect.unit (s := S8x3072x1408) off S1x768x1408.size hb)).set : Finset S8x3072x1408.Idx) ⊆ rowsSet s o (o + 768) := by
  have := set12 768 s o off h0 h1 h2 hb
  intro i hi
  rw [← this]
  exact hi
theorem sub512 (s o : ℕ) (off : Fin 3 → ℕ) (h0 : off 0 = s) (h1 : off 1 = o) (h2 : off 2 = 0)
    (hb : ∀ a, off a + S1x512x1408.size a ≤ S8x3072x1408.size a) :
    ((a12.access (Rect.unit (s := S8x3072x1408) off S1x512x1408.size hb)).set : Finset S8x3072x1408.Idx) ⊆ rowsSet s o (o + 512) := by
  have := set12 512 s o off h0 h1 h2 hb
  intro i hi
  rw [← this]
  exact hi
theorem sub256 (s o : ℕ) (off : Fin 3 → ℕ) (h0 : off 0 = s) (h1 : off 1 = o) (h2 : off 2 = 0)
    (hb : ∀ a, off a + S1x256x1408.size a ≤ S8x3072x1408.size a) :
    ((a12.access (Rect.unit (s := S8x3072x1408) off S1x256x1408.size hb)).set : Finset S8x3072x1408.Idx) ⊆ rowsSet s o (o + 256) := by
  have := set12 256 s o off h0 h1 h2 hb
  intro i hi
  rw [← this]
  exact hi

/-- The sums after one window of the first pass. -/
def acc0 (q : S224x3072.Idx → Elt F .fp8e4m3) (W : S16x3072x1408.Idx → Elt F .fp8e4m3) (e lo g : ℕ) (h : lo + g ≤ 192)
    (j : Fin (k0_t5_loop (BitVec.ofNat 32 lo) (BitVec.ofNat 32 g)).trips) (f : S224x1408.Idx → Elt F .f32) : S224x1408.Idx → Elt F .f32 :=
  (a13.access (r13 _ (wb lo g h j))).write (Elt F) f
    (k0_pay61 ((a9.access (r9c _ 0 1536 (wb lo g h j) (by omega))).read (Elt F) q) (wpart W e 0 1536 (by omega))) Finset.univ
/-- The sums after one window of the second pass. -/
def acc1 (q : S224x3072.Idx → Elt F .fp8e4m3) (W : S16x3072x1408.Idx → Elt F .fp8e4m3) (e lo g : ℕ) (h : lo + g ≤ 192)
    (j : Fin (k0_t5_loop (BitVec.ofNat 32 lo) (BitVec.ofNat 32 g)).trips) (f : S224x1408.Idx → Elt F .f32) : S224x1408.Idx → Elt F .f32 :=
  (a13.access (r13 _ (wb lo g h j))).write (Elt F) f
    (k0_pay63 ((a13.access (r13 _ (wb lo g h j))).read (Elt F) f) ((a9.access (r9c _ 1536 768 (wb lo g h j) (by omega))).read (Elt F) q) (wpart W e 1536 768 (by omega))) Finset.univ
/-- The sums after one window of the third pass. -/
def acc2 (q : S224x3072.Idx → Elt F .fp8e4m3) (W : S16x3072x1408.Idx → Elt F .fp8e4m3) (e lo g : ℕ) (h : lo + g ≤ 192)
    (j : Fin (k0_t5_loop (BitVec.ofNat 32 lo) (BitVec.ofNat 32 g)).trips) (f : S224x1408.Idx → Elt F .f32) : S224x1408.Idx → Elt F .f32 :=
  (a13.access (r13 _ (wb lo g h j))).write (Elt F) f
    (k0_pay65 ((a13.access (r13 _ (wb lo g h j))).read (Elt F) f) ((a9.access (r9c _ 2304 512 (wb lo g h j) (by omega))).read (Elt F) q) (wpart W e 2304 512 (by omega))) Finset.univ
/-- The result buffer after one window of the fourth pass. -/
def finw (q : S224x3072.Idx → Elt F .fp8e4m3) (s : S224x1.Idx → Elt F .f32) (W : S16x3072x1408.Idx → Elt F .fp8e4m3) (WS : S16x1x1408.Idx → Elt F .f32)
    (e lo g : ℕ) (h : lo + g ≤ 192) (j : Fin (k0_t5_loop (BitVec.ofNat 32 lo) (BitVec.ofNat 32 g)).trips)
    (f13 : S224x1408.Idx → Elt F .f32) (f : S224x1408.Idx → Elt F .bf16) : S224x1408.Idx → Elt F .bf16 :=
  (a14.access (r14 _ (wb lo g h j))).write (Elt F) f
    (k0_pay1 (BitVec.ofNat 32 lo) (BitVec.ofNat 32 g) (Scalar.andi (BitVec.ofNat 32 lo) 4294967264#32) 0#32 1#32 j
      ((a13.access (r13 _ (wb lo g h j))).read (Elt F) f13) ((a9.access (r9c _ 2816 256 (wb lo g h j) (by omega))).read (Elt F) q) (wpart W e 2816 256 (by omega))
      (BitVec.ofNat 32 lo) ((a10.access (r10 _ (wb lo g h j))).read (Elt F) s)
      (wsrow WS e) (BitVec.ofNat 32 g) ((a14.access (r14 _ (wb lo g h j))).read (Elt F) f)) Finset.univ

/-- What is asked of a predicate on the sums, by pass and window, and of one on the result buffer. -/
structure Passes (q : S224x3072.Idx → Elt F .fp8e4m3) (s : S224x1.Idx → Elt F .f32) (W : S16x3072x1408.Idx → Elt F .fp8e4m3) (WS : S16x1x1408.Idx → Elt F .f32)
    (e lo g : ℕ) (h : lo + g ≤ 192) (A : ℕ → ℕ → (S224x1408.Idx → Elt F .f32) → Prop) (Y : ℕ → (S224x1408.Idx → Elt F .bf16) → Prop) : Prop where
  start : ∀ f, A 0 0 f
  s0 : ∀ j f, A 0 j.val f → A 0 (j.val + 1) (acc0 q W e lo g h j f)
  n0 : ∀ f, A 0 (nwin lo g) f → A 1 0 f
  s1 : ∀ j f, A 1 j.val f → A 1 (j.val + 1) (acc1 q W e lo g h j f)
  n1 : ∀ f, A 1 (nwin lo g) f → A 2 0 f
  s2 : ∀ j f, A 2 j.val f → A 2 (j.val + 1) (acc2 q W e lo g h j f)
  n2 : ∀ f, A 2 (nwin lo g) f → A 3 0 f
  fin : ∀ j f13 f, A 3 0 f13 → Y (hh lo g j.val) f → Y (hh lo g (j.val + 1)) (finw q s W WS e lo g h j f13 f)

section

variable (c : Dev nD)

/-- The buffer of sums, at contents the predicate accepts. -/
def Acc (P : (S224x1408.Idx → Elt F .f32) → Prop) : sProp 𝕄 :=
  iprop(∃ f : S224x1408.Idx → Elt F .f32, ⌜P f⌝ ∗ ptv (F := F) c cc0_scratch8 Finset.univ f)

variable (q : S224x3072.Idx → Elt F .fp8e4m3) (W : S16x3072x1408.Idx → Elt F .fp8e4m3)
  (A : ℕ → (S224x1408.Idx → Elt F .f32) → Prop)
  (n : ℕ) (h1 : 1 ≤ n) (hn : n ≤ 16) (hw3 : k0_chk3 (BitVec.ofNat 32 n)) (v19 v632 : BitVec 32) (hw26 : k0_chk26 v632) (v642 : BitVec 32)
  (e lo g : ℕ) (h : lo + g ≤ 192) (hw28 : k0_chk28 (BitVec.ofNat 32 n) (BitVec.ofNat 32 lo) (BitVec.ofNat 32 g)) (v656 v657 : BitVec 32)
  (hw30 : k0_chk30 (BitVec.ofNat 32 n) (BitVec.ofNat 32 lo) (BitVec.ofNat 32 g)) (hw32 : k0_chk32 (BitVec.ofNat 32 n) (BitVec.ofNat 32 lo) (BitVec.ofNat 32 g))
include h1 hn h

theorem t14_step (hA : ∀ j f, A j.val f → A (j.val + 1) (acc0 q W e lo g h j f))
    (j : Fin (k0_t14_loop (BitVec.ofNat 32 lo) (BitVec.ofNat 32 g)).trips) :
    iprop(ptv (F := F) c cc0_scratch4 Finset.univ q ∗ pt12 (F := F) c (rowsSet ((n - 1) % 8) 0 (0 + 1536)) (slotc W e) ∗ Acc c (A j.val))
      ⊢ wp frame (wpE (defs₀ (F := F)) Variants.none (c : Thread nD τ) none) Set.univ (k0_t14_body (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 v19 v632 hw26 v642 (BitVec.ofNat 32 lo) (BitVec.ofNat 32 g) hw28 v656 v657 j ⟨⟩)
        (fun _ => iprop(ptv (F := F) c cc0_scratch4 Finset.univ q ∗ pt12 (F := F) c (rowsSet ((n - 1) % 8) 0 (0 + 1536)) (slotc W e) ∗ Acc c (A (j.val + 1)))) := by
  have w := (wl n h1 hn).o130
  obtain ⟨w1, w2, -, hb⟩ := o129 lo g h j
  unfold k0_t14_body Acc
  iintro ⟨H9, H12, ⟨%f, %hf, H13⟩⟩
  iapply (lu9 c _) $$ H9
  iintro H9
  iapply (ld12 c (sub1536 ((n - 1) % 8) 0 _ w.1 w.2.1 w.2.2 _)) $$ H12
  iintro H12
  iapply (lu13 c _) $$ H13
  iintro H13
  iapply (su13 c _) $$ H13
  iintro H13
  iapply (ret c _)
  iframe
  iexists _
  isplitr
  swap
  · iexact H13
  · ipureintro
    have := hA j f hf
    rw [rd9c q 0 1536 (by omega) w1 _ hb, rd12c W e 0 1536 (by omega) w.2.1 w.2.2, wr13_off f _ w2 _ hb]
    exact this

theorem t16_step {x1 x2 : BitVec 32} (y28 : k0_chk28 (BitVec.ofNat 32 n) x1 x2) (hA : ∀ j f, A j.val f → A (j.val + 1) (acc1 q W e lo g h j f))
    (j : Fin (k0_t16_loop (BitVec.ofNat 32 lo) (BitVec.ofNat 32 g)).trips) :
    iprop(ptv (F := F) c cc0_scratch4 Finset.univ q ∗ pt12 (F := F) c (rowsSet ((n - 1) % 8) 1536 (1536 + 768)) (slotc W e) ∗ Acc c (A j.val))
      ⊢ wp frame (wpE (defs₀ (F := F)) Variants.none (c : Thread nD τ) none) Set.univ (k0_t16_body (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 v19 v632 hw26 v642 x1 x2 y28 v656 v657 (BitVec.ofNat 32 lo) (BitVec.ofNat 32 g) hw30 j ⟨⟩)
        (fun _ => iprop(ptv (F := F) c cc0_scratch4 Finset.univ q ∗ pt12 (F := F) c (rowsSet ((n - 1) % 8) 1536 (1536 + 768)) (slotc W e) ∗ Acc c (A (j.val + 1)))) := by
  have w := (wl n h1 hn).o141
  obtain ⟨w2, w1, -, hb⟩ := o139 lo g h j
  unfold k0_t16_body Acc
  iintro ⟨H9, H12, ⟨%f, %hf, H13⟩⟩
  iapply (lu13 c _) $$ H13
  iintro H13
  iapply (lu9 c _) $$ H9
  iintro H9
  iapply (ld12 c (sub768 ((n - 1) % 8) 1536 _ w.1 w.2.1 w.2.2 _)) $$ H12
  iintro H12
  iapply (lu13 c _) $$ H13
  iintro H13
  iapply (su13 c _) $$ H13
  iintro H13
  iapply (ret c _)
  iframe
  iexists _
  isplitr
  swap
  · iexact H13
  · ipureintro
    have := hA j f hf
    rw [rd9c q 1536 768 (by omega) w1 _ hb, rd12c W e 1536 768 (by omega) w.2.1 w.2.2, rd13_off f w2 _ hb, wr13_off f _ w2 _ hb]
    exact this

theorem t18_step (hA : ∀ j f, A j.val f → A (j.val + 1) (acc2 q W e lo g h j f))
    (j : Fin (k0_t18_loop (BitVec.ofNat 32 lo) (BitVec.ofNat 32 g)).trips) :
    iprop(ptv (F := F) c cc0_scratch4 Finset.univ q ∗ pt12 (F := F) c (rowsSet ((n - 1) % 8) 2304 (2304 + 512)) (slotc W e) ∗ Acc c (A j.val))
      ⊢ wp frame (wpE (defs₀ (F := F)) Variants.none (c : Thread nD τ) none) Set.univ (k0_t18_body (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 v19 v632 hw26 v642 (BitVec.ofNat 32 lo) (BitVec.ofNat 32 g) hw32 j ⟨⟩)
        (fun _ => iprop(ptv (F := F) c cc0_scratch4 Finset.univ q ∗ pt12 (F := F) c (rowsSet ((n - 1) % 8) 2304 (2304 + 512)) (slotc W e) ∗ Acc c (A (j.val + 1)))) := by
  have w := (wl n h1 hn).o151
  obtain ⟨w2, w1, -, hb⟩ := o149 lo g h j
  unfold k0_t18_body Acc
  iintro ⟨H9, H12, ⟨%f, %hf, H13⟩⟩
  iapply (lu13 c _) $$ H13
  iintro H13
  iapply (lu9 c _) $$ H9
  iintro H9
  iapply (ld12 c (sub512 ((n - 1) % 8) 2304 _ w.1 w.2.1 w.2.2 _)) $$ H12
  iintro H12
  iapply (lu13 c _) $$ H13
  iintro H13
  iapply (su13 c _) $$ H13
  iintro H13
  iapply (ret c _)
  iframe
  iexists _
  isplitr
  swap
  · iexact H13
  · ipureintro
    have := hA j f hf
    rw [rd9c q 2304 512 (by omega) w1 _ hb, rd12c W e 2304 512 (by omega) w.2.1 w.2.2, rd13_off f w2 _ hb, wr13_off f _ w2 _ hb]
    exact this

omit h in
theorem t20_step (fG fE fL : S16.Idx → BitVec 32) (s : S224x1.Idx → Elt F .f32) (WS : S16x1x1408.Idx → Elt F .f32)
    (A : (S224x1408.Idx → Elt F .f32) → Prop) (Y : ℕ → (S224x1408.Idx → Elt F .bf16) → Prop)
    (he : wd fE (n - 1) < 16) (h : wd fL (n - 1) + wd fG (wd fE (n - 1)) ≤ 192) (v630 : BitVec 32) (hw37 : k0_chk37 v630)
    (hw34 : k0_chk34 (BitVec.ofNat 32 n) (BitVec.ofNat 32 (wd fL (n - 1))) (BitVec.ofNat 32 (wd fG (wd fE (n - 1)))))
    (hY : ∀ (j : Fin (k0_t5_loop (BitVec.ofNat 32 (wd fL (n - 1))) (BitVec.ofNat 32 (wd fG (wd fE (n - 1))))).trips) f13 f, A f13 →
      Y (hh (wd fL (n - 1)) (wd fG (wd fE (n - 1))) j.val) f
        → Y (hh (wd fL (n - 1)) (wd fG (wd fE (n - 1))) (j.val + 1)) (finw q s W WS (wd fE (n - 1)) (wd fL (n - 1)) (wd fG (wd fE (n - 1))) h j f13 f))
    (p : ℕ) (hp : 32 * p ≤ base (wd fL (n - 1)))
    (j : Fin (k0_t20_loop (BitVec.ofNat 32 (wd fL (n - 1))) (BitVec.ofNat 32 (wd fG (wd fE (n - 1))))).trips) :
    iprop(Rds c fG fE fL q s WS ∗ pt12 (F := F) c (rowsSet ((n - 1) % 8) 2816 (2816 + 256)) (slotc W (wd fE (n - 1))) ∗ Acc c A
        ∗ Ybuf c p (Y (hh (wd fL (n - 1)) (wd fG (wd fE (n - 1))) j.val)))
      ⊢ wp frame (wpE (defs₀ (F := F)) Variants.none (c : Thread nD τ) none) Set.univ (k0_t20_body (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) v19 v630 hw37 v642 (BitVec.ofNat 32 (wd fL (n - 1))) (BitVec.ofNat 32 (wd fG (wd fE (n - 1)))) hw34
          (Scalar.andi (BitVec.ofNat 32 (wd fL (n - 1))) 4294967264#32) v657 j ⟨⟩)
        (fun _ => iprop(Rds c fG fE fL q s WS ∗ pt12 (F := F) c (rowsSet ((n - 1) % 8) 2816 (2816 + 256)) (slotc W (wd fE (n - 1))) ∗ Acc c A
          ∗ Ybuf c p (Y (hh (wd fL (n - 1)) (wd fG (wd fE (n - 1))) (j.val + 1))))) := by
  have w := wl n h1 hn
  have w' := w20 _ _ h j
  have hb := w'.le
  have ho : 32 * p ≤ k0_off166 (BitVec.ofNat 32 (wd fL (n - 1))) (BitVec.ofNat 32 (wd fG (wd fE (n - 1)))) j 0 := by
    rw [w'.o166]; show 32 * p ≤ base (wd fL (n - 1)) + 64 * j.val; omega
  unfold k0_t20_body
  iintro H
  iapply (part c (R := fun v => iprop(Rds c fG fE fL q s WS ∗ pt12 (F := F) c (rowsSet ((n - 1) % 8) 2816 (2816 + 256)) (slotc W (wd fE (n - 1))) ∗ Acc c A
    ∗ ∃ f, ⌜Y (hh (wd fL (n - 1)) (wd fG (wd fE (n - 1))) (j.val + 1)) ((a14.access (Rect.unit (s := S224x1408) (k0_off166 (BitVec.ofNat 32 (wd fL (n - 1))) (BitVec.ofNat 32 (wd fG (wd fE (n - 1)))) j) S64x1408.size (k0_off166_inb (BitVec.ofNat 32 n) _ _ hw34 j))).write (Elt F) f v Finset.univ)⌝
      ∗ ptv (F := F) c cc0_scratch9 (yrows p) f)) ?p7) $$ H
  case p7 =>
    rw [k0_part7_eq_skeleton]
    unfold k0_part7_skel Rds Ybuf Acc
    iintro ⟨⟨H5, H6, H7, H9, H10, H11⟩, H12, ⟨%f13, %hf13, H13⟩, ⟨%f, %hf, H14⟩⟩
    iapply (lu13 c _) $$ H13
    iintro H13
    iapply (lu9 c _) $$ H9
    iintro H9
    iapply (ld12 c (sub256 ((n - 1) % 8) 2816 _ w.o161.1 w.o161.2.1 w.o161.2.2 _)) $$ H12
    iintro H12
    iapply (rd6 c fE (n - 1) w.o162 (by omega)) $$ H6
    iintro H6
    iapply (asm c (chk35_ok _ he))
    iapply (rd7 c fL (n - 1) w.o162 (by omega)) $$ H7
    iintro H7
    iapply (lu10 c _) $$ H10
    iintro H10
    iapply (lu11 c _) $$ H11
    iintro H11
    iapply (rd5 c fG (wd fE (n - 1)) (toNat16 _ he) he) $$ H5
    iintro H5
    iapply (ld14 c (set14 p _ ho _)) $$ H14
    iintro H14
    iapply (ld14 c (set14 p _ ho _)) $$ H14
    iintro H14
    iapply (ret c _)
    iframe
    isplitl [H13]
    · iexists _; iframe; ipureintro; exact hf13
    iexists f
    iframe
    ipureintro
    have := hY j f13 f hf13 hf
    rw [rd9c q 2816 256 (by omega) w'.o160 _ hb, rd12c W _ 2816 256 (by omega) w.o161.2.1 w.o161.2.2, rd13_off f13 w'.o159 _ hb, rd10_off s w'.o163 _ hb, rd11_off WS _ he (off := k0_off164 (BitVec.ofNat 32 (wd fE (n - 1)))) (wnat _ _ he), rd14_off f w'.o166 _ hb, wr14_off f _ w'.o166 _ hb]
    exact this
  iintro %v ⟨HR, H12, H13, %f, %hf, H14⟩
  iapply (sto14 c (set14' p _ ho _)) $$ H14
  iintro H14
  iapply (ret c _)
  iframe
  unfold Ybuf
  iexists _
  isplitr
  swap
  · iexact H14
  · ipureintro; exact hf

end

end Cert.KernelIdeal.Hand
-- ==== Proof.LastParts.lean ====
/-
  The loop over the experts and the last expert's part, piece by piece.
-/
module

public import proofs.«01_k».proof.Proof.Last

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

section

variable (c : Dev nD) (fG fE fL : S16.Idx → BitVec 32) (q : S224x3072.Idx → Elt F .fp8e4m3) (s : S224x1.Idx → Elt F .f32)
    (W : S16x3072x1408.Idx → Elt F .fp8e4m3) (WS : S16x1x1408.Idx → Elt F .f32)
    (Y : ℕ → (S224x1408.Idx → Elt F .bf16) → Prop) (T : S192x1408.Idx → Elt F .bf16 → Prop) (n : ℕ)

/-- What is here before the loop over the experts. -/
def In24 (y : S224x1408.Idx → Elt F .bf16) : sProp 𝕄 :=
  iprop((pt5 (F := F) c fG ∗ pt6 (F := F) c fE ∗ pt7 (F := F) c fL) ∗ Ring c W (wd fG) (wd fE) (n - 1) (min n 8) (Finset.range 8) ∗ Lrem c W (n - 1) (min n 8)
    ∗ ptv (F := F) c cc0_scratch9 Finset.univ y ∗ ptv (F := F) c cc0_scratch4 Finset.univ q ∗ ptv (F := F) c cc0_scratch5 Finset.univ s ∗ WSfly c WS
    ∗ Obuf (F := F) c 0 ∗ SB c T 0 0)

/-- What is here before the last expert's windows. -/
def Out24 : sProp 𝕄 :=
  iprop(Rds c fG fE fL q s WS ∗ Ring c W (wd fG) (wd fE) (n - 1) n (Finset.Ico n (n + 7))
    ∗ (pt12 (F := F) c (rowsSet ((n - 1) % 8) 0 (0 + 1536)) (slotc W (wd fE (n - 1))) ∗ ptW (F := F) c (tH ((n - 1) % 8)) Finset.univ W ∗ semVal ((c : Thread nD τ), SemLoc.dma (hd ((n - 1) % 8))) 0)
    ∗ Lfly c W ((n - 1) % 8) (wd fE (n - 1)) ∗ Snd c T (Y (wd fL (n - 1))) (wd fL (n - 1) / 32)
    ∗ (ptv (F := F) c main_arg3 Finset.univ WS ∗ semVal ((c : Thread nD τ), SemLoc.dma (si 2)) 0))

theorem yrows_zero : yrows 0 = Finset.univ := by ext i; simp [mem_yrows]

theorem part24_ok (hl : Lst fG fE fL n) (hw3 : k0_chk3 (BitVec.ofNat 32 n)) (v19 : BitVec 32) (v621 : FVec F S32x1 .f32)
    (hY : ∀ i < n - 1, ∀ h (j : Fin (k0_t5_loop (BitVec.ofNat 32 (wd fL i)) (BitVec.ofNat 32 (wd fG (wd fE i)))).trips) f,
      Y (hh (wd fL i) (wd fG (wd fE i)) j.val) f
        → Y (hh (wd fL i) (wd fG (wd fE i)) (j.val + 1)) (winw q (q10_5 s v621) W WS (wd fE i) (wd fL i) (wd fG (wd fE i)) h j f))
    (hT : ∀ h t, 32 * (t + 1) ≤ h → ∀ f, Y h f → ∀ i ∈ otile t, T i (f (up i)))
    (y : S224x1408.Idx → Elt F .bf16) (hy : Y 0 y) (Wt : Waits sig Unit) :
    iprop(In24 c fG fE fL q s W WS T n y ∗ owes (c : Thread nD τ) 0 Wt)
      ⊢ wp frame (wpE (defs₀ (F := F)) Variants.none (c : Thread nD τ) none) Set.univ (k0_part24 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 v19 v621)
        (fun r => iprop(∃ hw37 hw26 x hw28 z, ⌜r = ⟨BitVec.ofNat 32 (wd fL (n - 1) / 32), hw37, BitVec.ofNat 32 (wd fE (n - 1)), hw26, x, BitVec.ofNat 32 (wd fL (n - 1)),
              BitVec.ofNat 32 (wd fG (wd fE (n - 1))), hw28, Scalar.andi (BitVec.ofNat 32 (wd fL (n - 1))) 4294967264#32, z⟩⌝
          ∗ Out24 c fG fE fL q (q10_5 s v621) W WS Y T n ∗ ∃ Wt', owes (c : Thread nD τ) 0 Wt')) := by
  have h1 := hl.one
  have hn := hl.le
  have w := wl n h1 hn
  have he := hl.lt (n - 1) (by omega)
  have hlg := hl.fit (n - 1) (by omega)
  have hmin : min (n - 1 + 8) n = n := by omega
  have hI : Finset.Ico (n - 1) (n - 1 + 8) = insert (n - 1) (Finset.Ico n (n + 7)) := by
    ext i; simp only [Finset.mem_insert, Finset.mem_Ico]; omega
  have hI0 : Finset.range 8 = Finset.Ico 0 (0 + 8) := by
    ext i; simp only [Finset.mem_range, Finset.mem_Ico]; omega
  have hL0 : Lrem c W (n - 1) (min n 8) = Lrem c W (n - 1) (min (0 + 8) n) := by rw [show min n 8 = min (0 + 8) n by omega]
  have hR0 : Ring c W (wd fG) (wd fE) (n - 1) (min n 8) (Finset.range 8) = Ring c W (wd fG) (wd fE) (n - 1) (min (0 + 8) n) (Finset.Ico 0 (0 + 8)) := by
    rw [hI0, show min n 8 = min (0 + 8) n by omega]
  have hend : ∀ acc, Inv4 c fG fE fL q (q10_5 s v621) W WS Y T n (n - 1) acc
      ⊢ iprop(⌜acc = BitVec.ofNat 32 (wd fL (n - 1) / 32)⌝ ∗ Rds c fG fE fL q (q10_5 s v621) WS
        ∗ (Piece c (hd ((n - 1) % 8)) ((n - 1) % 8) 0 1536 (wd fE (n - 1)) (tH ((n - 1) % 8)) W ∗ Lfly c W ((n - 1) % 8) (wd fE (n - 1)))
        ∗ Ring c W (wd fG) (wd fE) (n - 1) n (Finset.Ico n (n + 7)) ∗ Snd c T (Y (wd fL (n - 1))) (wd fL (n - 1) / 32) ∗ ∃ Wt, owes (c : Thread nD τ) 0 Wt) := by
    intro acc
    unfold Inv4
    rw [hmin, Ring_insert c W (by simp; omega) hI, Cell_job c W (show n - 1 < n by omega), Job_last c W rfl rfl, Lrem_gone c W (show n - 1 < n by omega)]
    iintro ⟨H1, H2, ⟨H3, H4⟩, -, H5, H6⟩
    iframe
  rw [k0_part24_eq_skeleton]
  unfold k0_part24_skel In24
  rw [hL0, hR0]
  iintro ⟨⟨⟨H5, H6, H7⟩, HR, HL, H14, H9, H10, Hf, HO, HB⟩, Ho⟩
  iapply (su10 c _) $$ H10
  iintro H10
  unfold WSfly
  iapply (wcopy_wait c (src := main_arg3) (dst := cc0_scratch6) (ss := si 2) (q := fullShare) (fs := WS) (fd := WS) (by decide +kernel) (N := a11.view.amount (.dma (si 2))) rfl) $$ [Hf Ho]
  · iframe
  iintro ⟨⟨H11, Ha3⟩, Hs2, Ho⟩
  iapply (forl c (fun k acc => Inv4 c fG fE fL q (q10_5 s v621) W WS Y T n k acc) (n - 1) (trips4 n h1 hn)
    (fun k acc => t4_trip c fG fE fL q (q10_5 s v621) W WS Y T n hl hw3 v19 v621 hY hT k acc)) $$ [H5 H6 H7 HR HL H14 H9 H10 H11 HO HB Ho]
  · unfold Inv4 Rds Snd Ybuf
    rw [hl.zero, show 0 / 32 = 0 from rfl, yrows_zero]
    unfold ptv q10_5
    iframe
    isplitr
    · ipureintro; rfl
    isplitl [H14]
    · iexists y; iframe; ipureintro; exact hy
    iexists _; iexact Ho
  iintro %acc H
  ihave H' := (hend acc) $$ H
  icases H' with ⟨%hacc, HR, ⟨HP, HLf⟩, Hring, HS, %Wt', Ho⟩
  subst hacc
  iapply (forl c (fun _ a => iprop(⌜a = BitVec.ofNat 32 (wd fL (n - 1) / 32)⌝)) 0 (trips9 n h1 hn) (fun j acc => (nofin (trips9 n h1 hn) j).elim)) $$ []
  · ipureintro; rfl
  iintro %acc %hacc
  subst hacc
  iapply (asm c (chk37_ok _ (by omega)))
  unfold Rds
  icases HR with ⟨H5, H6, H7, HR⟩
  iapply (rd6 c fE (n - 1) w.o123 (by omega)) $$ H6
  iintro H6
  iapply (asm c (chk26_ok _ he))
  iapply (copy_wait c 1536 (hd ((n - 1) % 8)) ((n - 1) % 8) 0 (wd fE (n - 1)) (tH ((n - 1) % 8)) W (sem_hd _ _ w.o124 _) rfl) $$ [HP Ho]
  · iframe
  iintro ⟨HP, HT1, HS1, Ho⟩
  iapply (rd7 c fL (n - 1) w.o127 (by omega)) $$ H7
  iintro H7
  iapply (rd6 c fE (n - 1) w.o127 (by omega)) $$ H6
  iintro H6
  iapply (asm c (inb16 (wd fE (n - 1)) he _ (toNat16 _ he)))
  iapply (rd5 c fG (wd fE (n - 1)) (toNat16 _ he) he) $$ H5
  iintro H5
  iapply (asm c (chk28_ok _ _ hlg n h1 hn))
  iapply (ret c _)
  iexists _; iexists _; iexists _; iexists _; iexists _
  isplitr
  · ipureintro; rfl
  unfold Out24 Rds ptv
  iframe
  iexists _; iexact Ho

variable {q s W WS Y}

/-- A pass's rows of the slot, here. -/
def Slot (W : S16x3072x1408.Idx → Elt F .fp8e4m3) (n e o L : ℕ) : sProp 𝕄 := pt12 (F := F) c (rowsSet ((n - 1) % 8) o (o + L)) (slotc W e)

theorem part25_ok {A : ℕ → ℕ → (S224x1408.Idx → Elt F .f32) → Prop} (hl : Lst fG fE fL n) {h : wd fL (n - 1) + wd fG (wd fE (n - 1)) ≤ 192}
    (hP : Passes q s W WS (wd fE (n - 1)) (wd fL (n - 1)) (wd fG (wd fE (n - 1))) h A Y)
    (hw3 : k0_chk3 (BitVec.ofNat 32 n)) (v19 : BitVec 32) (hw26) (v642) (hw28) (v656 v657) (Wt : Waits sig Unit) :
    iprop(Rds c fG fE fL q s WS ∗ Slot c W n (wd fE (n - 1)) 0 1536 ∗ (∃ f, ptv (F := F) c cc0_scratch8 Finset.univ f)
        ∗ Piece c (ls 0) ((n - 1) % 8) 1536 768 (wd fE (n - 1)) (tL 0) W ∗ owes (c : Thread nD τ) 0 Wt)
      ⊢ wp frame (wpE (defs₀ (F := F)) Variants.none (c : Thread nD τ) none) Set.univ (k0_part25 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 v19 (BitVec.ofNat 32 (wd fE (n - 1))) hw26 v642 (BitVec.ofNat 32 (wd fL (n - 1)))
              (BitVec.ofNat 32 (wd fG (wd fE (n - 1)))) hw28 v656 v657)
        (fun _ => iprop(Rds c fG fE fL q s WS ∗ Slot c W n (wd fE (n - 1)) 0 1536 ∗ Acc c (A 2 0)
          ∗ (Slot c W n (wd fE (n - 1)) 1536 768 ∗ ptW (F := F) c (tL 0) Finset.univ W ∗ semVal ((c : Thread nD τ), SemLoc.dma (ls 0)) 0)
          ∗ ∃ Wt', owes (c : Thread nD τ) 0 Wt')) := by
  have h1 := hl.one
  have hn := hl.le
  have w := wl n h1 hn
  have he := hl.lt (n - 1) (by omega)
  have t5 := (trips5 _ _ h).2
  have t6 := (trips6 _ _ h).2
  rw [k0_part25_eq_skeleton]
  unfold k0_part25_skel Rds Slot
  iintro ⟨⟨H5, H6, H7, H9, H10, H11⟩, H12, ⟨%f, H13⟩, HP, Ho⟩
  iapply (forl c (fun (j : ℕ) _ => iprop(ptv (F := F) c cc0_scratch4 Finset.univ q ∗ pt12 (F := F) c (rowsSet ((n - 1) % 8) 0 (0 + 1536)) (slotc W (wd fE (n - 1))) ∗ Acc c (A 0 j))) _ t5
    (fun j _ => t14_step c q W (A 0) n h1 hn hw3 v19 _ hw26 v642 _ _ _ h hw28 v656 v657 hP.s0 j)) $$ [H9 H12 H13]
  · unfold Acc; iframe; iexists f; iframe; ipureintro; exact hP.start f
  iintro %_ ⟨H9, H12, HA⟩
  iapply (forl c (fun _ _ => iprop(emp)) 0 t6 (fun j acc => (nofin t6 j).elim)) $$ []
  · iempintro
  iintro %_ _
  iapply (copy_wait c 768 (ls 0) ((n - 1) % 8) 1536 (wd fE (n - 1)) (tL 0) W sem_ls0 rfl) $$ [HP Ho]
  · iframe
  iintro ⟨HP, HT1, HS1, Ho⟩
  iapply (rd7 c fL (n - 1) w.o137 (by omega)) $$ H7
  iintro H7
  iapply (rd6 c fE (n - 1) w.o137 (by omega)) $$ H6
  iintro H6
  iapply (asm c (inb16 (wd fE (n - 1)) he _ (toNat16 _ he)))
  iapply (rd5 c fG (wd fE (n - 1)) (toNat16 _ he) he) $$ H5
  iintro H5
  iapply (asm c (chk30_ok _ _ h n h1 hn))
  unfold Acc
  icases HA with ⟨%f', %hf', H13⟩
  iapply (forl c (fun (j : ℕ) _ => iprop(ptv (F := F) c cc0_scratch4 Finset.univ q ∗ pt12 (F := F) c (rowsSet ((n - 1) % 8) 1536 (1536 + 768)) (slotc W (wd fE (n - 1))) ∗ Acc c (A 1 j))) _ t5
    (fun j _ => t16_step c q W (A 1) n h1 hn hw3 v19 _ hw26 v642 _ _ _ h v656 v657 _ hw28 hP.s1 j)) $$ [H9 HP H13]
  · unfold Acc; iframe; iexists f'; iframe; ipureintro; exact hP.n0 _ hf'
  iintro %_ ⟨H9, HP, HA⟩
  iapply (forl c (fun _ _ => iprop(emp)) 0 t6 (fun j acc => (nofin t6 j).elim)) $$ []
  · iempintro
  iintro %_ _
  iapply (ret c _)
  unfold Acc
  icases HA with ⟨%f'', %hf'', H13⟩
  iframe
  isplitl [H13]
  · iexists f''; iframe; ipureintro; exact hP.n1 _ hf''
  iexists _; iexact Ho

theorem part26_ok {A : ℕ → ℕ → (S224x1408.Idx → Elt F .f32) → Prop} (hl : Lst fG fE fL n) {h : wd fL (n - 1) + wd fG (wd fE (n - 1)) ≤ 192}
    (hP : Passes q s W WS (wd fE (n - 1)) (wd fL (n - 1)) (wd fG (wd fE (n - 1))) h A Y)
    (hw3 : k0_chk3 (BitVec.ofNat 32 n)) (v19 : BitVec 32) (hw26) (v642) (Wt : Waits sig Unit) :
    iprop(Rds c fG fE fL q s WS ∗ Acc c (A 2 0)
        ∗ Piece c (ls 1) ((n - 1) % 8) 2304 512 (wd fE (n - 1)) (tL 1) W ∗ Piece c (ls 2) ((n - 1) % 8) 2816 256 (wd fE (n - 1)) (tL 2) W ∗ owes (c : Thread nD τ) 0 Wt)
      ⊢ wp frame (wpE (defs₀ (F := F)) Variants.none (c : Thread nD τ) none) Set.univ (k0_part26 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) hw3 v19 (BitVec.ofNat 32 (wd fE (n - 1))) hw26 v642)
        (fun r => iprop(∃ hw34 z, ⌜r = ⟨BitVec.ofNat 32 (wd fL (n - 1)), BitVec.ofNat 32 (wd fG (wd fE (n - 1))), hw34, Scalar.andi (BitVec.ofNat 32 (wd fL (n - 1))) 4294967264#32, z⟩⌝
          ∗ Rds c fG fE fL q s WS ∗ Acc c (A 3 0)
          ∗ (Slot c W n (wd fE (n - 1)) 2304 512 ∗ ptW (F := F) c (tL 1) Finset.univ W ∗ semVal ((c : Thread nD τ), SemLoc.dma (ls 1)) 0)
          ∗ (Slot c W n (wd fE (n - 1)) 2816 256 ∗ ptW (F := F) c (tL 2) Finset.univ W ∗ semVal ((c : Thread nD τ), SemLoc.dma (ls 2)) 0)
          ∗ ∃ Wt', owes (c : Thread nD τ) 0 Wt')) := by
  have h1 := hl.one
  have hn := hl.le
  have w := wl n h1 hn
  have he := hl.lt (n - 1) (by omega)
  have t5 := (trips5 _ _ h).2
  have t6 := (trips6 _ _ h).2
  rw [k0_part26_eq_skeleton]
  unfold k0_part26_skel Rds Slot
  iintro ⟨⟨H5, H6, H7, H9, H10, H11⟩, HA, HP, HQ, Ho⟩
  iapply (copy_wait c 512 (ls 1) ((n - 1) % 8) 2304 (wd fE (n - 1)) (tL 1) W sem_ls1 rfl) $$ [HP Ho]
  · iframe
  iintro ⟨HP, HT1, HS1, Ho⟩
  iapply (rd7 c fL (n - 1) w.o147 (by omega)) $$ H7
  iintro H7
  iapply (rd6 c fE (n - 1) w.o147 (by omega)) $$ H6
  iintro H6
  iapply (asm c (inb16 (wd fE (n - 1)) he _ (toNat16 _ he)))
  iapply (rd5 c fG (wd fE (n - 1)) (toNat16 _ he) he) $$ H5
  iintro H5
  iapply (asm c (chk32_ok _ _ h n h1 hn))
  iapply (forl c (fun (j : ℕ) _ => iprop(ptv (F := F) c cc0_scratch4 Finset.univ q ∗ pt12 (F := F) c (rowsSet ((n - 1) % 8) 2304 (2304 + 512)) (slotc W (wd fE (n - 1))) ∗ Acc c (A 2 j))) _ t5
    (fun j _ => t18_step c q W (A 2) n h1 hn hw3 v19 _ hw26 v642 _ _ _ h _ hP.s2 j)) $$ [H9 HP HA]
  · iframe
  iintro %_ ⟨H9, HP, HA⟩
  iapply (forl c (fun _ _ => iprop(emp)) 0 t6 (fun j acc => (nofin t6 j).elim)) $$ []
  · iempintro
  iintro %_ _
  iapply (copy_wait c 256 (ls 2) ((n - 1) % 8) 2816 (wd fE (n - 1)) (tL 2) W sem_ls2 rfl) $$ [HQ Ho]
  · iframe
  iintro ⟨HQ, HT2, HS2, Ho⟩
  iapply (rd7 c fL (n - 1) w.o157 (by omega)) $$ H7
  iintro H7
  iapply (rd6 c fE (n - 1) w.o157 (by omega)) $$ H6
  iintro H6
  iapply (asm c (inb16 (wd fE (n - 1)) he _ (toNat16 _ he)))
  iapply (rd5 c fG (wd fE (n - 1)) (toNat16 _ he) he) $$ H5
  iintro H5
  iapply (asm c (chk34_ok _ _ h n h1 hn))
  iapply (ret c _)
  unfold Acc
  icases HA with ⟨%f'', %hf'', H13⟩
  iexists _; iexists _
  isplitr
  · ipureintro; rfl
  iframe
  isplitl [H13]
  · iexists f''; iframe; ipureintro; exact hP.n2 _ hf''
  iexists _; iexact Ho

theorem part27_ok {A : ℕ → ℕ → (S224x1408.Idx → Elt F .f32) → Prop} (hl : Lst fG fE fL n) {h : wd fL (n - 1) + wd fG (wd fE (n - 1)) ≤ 192}
    (hP : Passes q s W WS (wd fE (n - 1)) (wd fL (n - 1)) (wd fG (wd fE (n - 1))) h A Y)
    (hT : ∀ t < 6, ∀ f, Y (wd fL (n - 1) + wd fG (wd fE (n - 1))) f → ∀ i ∈ otile t, T i (f (up i)))
    (v19 : BitVec 32) (hw37) (v642 hw34 v723) (Wt : Waits sig Unit) :
    iprop(Rds c fG fE fL q s WS ∗ Slot c W n (wd fE (n - 1)) 2816 256 ∗ Acc c (A 3 0) ∗ Snd c T (Y (wd fL (n - 1))) (wd fL (n - 1) / 32) ∗ owes (c : Thread nD τ) 0 Wt)
      ⊢ wp frame (wpE (defs₀ (F := F)) Variants.none (c : Thread nD τ) none) Set.univ (k0_part27 (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14 (BitVec.ofNat 32 n) v19 (BitVec.ofNat 32 (wd fL (n - 1) / 32)) hw37 v642 (BitVec.ofNat 32 (wd fL (n - 1)))
              (BitVec.ofNat 32 (wd fG (wd fE (n - 1)))) hw34 (Scalar.andi (BitVec.ofNat 32 (wd fL (n - 1))) 4294967264#32) v723)
        (fun _ => iprop(Rds c fG fE fL q s WS ∗ Slot c W n (wd fE (n - 1)) 2816 256 ∗ Acc c (A 3 0)
          ∗ Ybuf c 6 (fun _ => True) ∗ SB c T 6 (4 * NS) ∗ ∃ Wt', owes (c : Thread nD τ) 0 Wt')) := by
  have h1 := hl.one
  have hn := hl.le
  have he := hl.lt (n - 1) (by omega)
  have t5 := (trips5 _ _ h).2
  have t6 := (trips6 _ _ h).2
  have hp6 : wd fL (n - 1) / 32 ≤ 6 := by omega
  have t22 := (trips22 _ hp6).2.1
  have t23 := (trips22 _ hp6).2.2.2
  have hsum : wd fL (n - 1) / 32 + (6 - wd fL (n - 1) / 32) = 6 := by omega
  have hz : SB c T 6 0 ⊢ SB c T 6 (0 * NS) := by rw [Nat.zero_mul]
  rw [k0_part27_eq_skeleton]
  unfold k0_part27_skel Slot Snd
  iintro ⟨HR, H12, HA, ⟨HY, HO, HB⟩, Ho⟩
  iapply (forl c (fun (j : ℕ) _ => iprop(Rds c fG fE fL q s WS ∗ pt12 (F := F) c (rowsSet ((n - 1) % 8) 2816 (2816 + 256)) (slotc W (wd fE (n - 1))) ∗ Acc c (A 3 0)
      ∗ Ybuf c (wd fL (n - 1) / 32) (Y (hh (wd fL (n - 1)) (wd fG (wd fE (n - 1))) j)))) _ t5
    (fun j _ => t20_step c q W n h1 hn v19 v642 v723 fG fE fL s WS (A 3 0) Y he h _ hw37 hw34 hP.fin _ (by unfold base; omega) j)) $$ [HR H12 HA HY]
  · rw [hh_zero]; iframe
  iintro %_ H
  rw [hh_nwin]
  icases H with ⟨HR, H12, HA, HY⟩
  iapply (forl c (fun _ _ => iprop(emp)) 0 t6 (fun j acc => (nofin t6 j).elim)) $$ []
  · iempintro
  iintro %_ _
  iapply (forl c (fun (k : ℕ) _ => Snd c T (Y (wd fL (n - 1) + wd fG (wd fE (n - 1)))) (wd fL (n - 1) / 32 + k)) _ t22
    (fun k _ => t22_trip c T _ (wd fL (n - 1) / 32) hp6 hT _ v19 hw37 v642 _ _ hw34 _ v723 k)) $$ [HY HO HB]
  · unfold Snd; iframe
  rw [hsum]
  unfold Snd
  iintro %_ ⟨HY, HO, HB⟩
  iapply (forl c (fun _ _ => iprop(emp)) 0 t23 (fun j acc => (nofin t23 j).elim)) $$ []
  · iempintro
  iintro %_ _
  ihave HB' := hz $$ HB
  iapply (send_wait c T 0 (by omega) (by decide +kernel) (NS_eq _ _)) $$ [HB' Ho]
  · iframe
  iintro ⟨HB, Ho⟩
  iapply (send_wait c T 1 (by omega) (by decide +kernel) (NS_eq _ _)) $$ [HB Ho]
  · iframe
  iintro ⟨HB, Ho⟩
  iapply (send_wait c T 2 (by omega) (by decide +kernel) (NS_eq _ _)) $$ [HB Ho]
  · iframe
  iintro ⟨HB, Ho⟩
  iapply (send_wait c T 3 (by omega) (by decide +kernel) (NS_eq _ _)) $$ [HB Ho]
  · iframe
  iintro ⟨HB, Ho⟩
  iapply (ret c _)
  unfold Ybuf
  icases HY with ⟨%f, -, HY⟩
  iframe
  isplitl [HY]
  · iexists f; iframe
  iexists _; iexact Ho

end

end Cert.KernelIdeal.Hand
-- ==== Proof.Body.lean ====
/-
  The whole kernel body: from the buffers as they stand at entry to the results delivered and every copy waited for.
-/
module

public import proofs.«01_k».proof.Proof.LastParts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

section

variable (X : S192x3072.Idx → Elt F .bf16)

/-- The codes and scales of the six tiles of rows, as the quantiser computes them. -/
def qc0 : Vec F S32x3072 .fp8e4m3 := k0_pay12 (k0_pay6 (x0 X)) (k0_pay7 (x0 X)) (k0_pay10 (k0_pay7 (x0 X)) k0_pay8 k0_pay9 23#32) 1#32
def qs0 : Vec F S32x1 .f32 := k0_pay13 (k0_pay7 (x0 X)) (k0_pay10 (k0_pay7 (x0 X)) k0_pay8 k0_pay9 23#32) 1#32
def qc1 : Vec F S32x3072 .fp8e4m3 := k0_pay22 (k0_pay21 (k0_pay14 (x1 X)) (k0_pay15 (k0_pay14 (x1 X))) (k0_pay16 (k0_pay14 (x1 X))) (k0_pay17 (k0_pay14 (x1 X))) (k0_pay18 (k0_pay14 (x1 X))))
def qs1 : Vec F S32x1 .f32 := k0_pay23 (k0_pay20 (k0_pay15 (k0_pay14 (x1 X))) (k0_pay16 (k0_pay14 (x1 X))) (k0_pay17 (k0_pay14 (x1 X))) (k0_pay18 (k0_pay14 (x1 X))))
def qc2 : Vec F S32x3072 .fp8e4m3 := k0_pay31 (k0_pay24 (x2 X)) (k0_pay30 (k0_pay25 (x2 X)) (k0_pay26 (x2 X)) k0_pay27)
def qs2 : Vec F S32x1 .f32 := k0_pay32 (k0_pay29 (k0_pay25 (x2 X)) (k0_pay26 (x2 X)) k0_pay27)
def qc3 : Vec F S32x3072 .fp8e4m3 := k0_pay39 (k0_pay33 (x3 X)) (k0_pay38 (k0_pay34 (x3 X)) (k0_pay35 (x3 X)) (k0_pay36 (x3 X)) (k0_pay37 (x3 X)))
def qs3 : Vec F S32x1 .f32 := k0_pay40 (k0_pay38 (k0_pay34 (x3 X)) (k0_pay35 (x3 X)) (k0_pay36 (x3 X)) (k0_pay37 (x3 X)))
def qc4 : Vec F S32x3072 .fp8e4m3 := k0_pay47 (k0_pay41 (x4 X)) (k0_pay45 (k0_pay42 (x4 X)) (k0_pay43 (x4 X)) (k0_pay44 (x4 X)))
def qs4 : Vec F S32x1 .f32 := k0_pay48 (k0_pay45 (k0_pay42 (x4 X)) (k0_pay43 (x4 X)) (k0_pay44 (x4 X)))
def qc5 : Vec F S32x3072 .fp8e4m3 := k0_pay55 (k0_pay49 (x5 X)) (k0_pay50 (x5 X)) (k0_pay51 (k0_pay50 (x5 X)) 0#32) (k0_pay52 (k0_pay50 (x5 X)) 0#32) k0_pay53
def qs5 : Vec F S32x1 .f32 := k0_pay56 (k0_pay50 (x5 X)) (k0_pay51 (k0_pay50 (x5 X)) 0#32) (k0_pay52 (k0_pay50 (x5 X)) 0#32) k0_pay53

/-- The buffers of codes and scales when all tiles are done. -/
def qfin (f9 : S224x3072.Idx → Elt F .fp8e4m3) : S224x3072.Idx → Elt F .fp8e4m3 :=
  q9_5 (q9_4 (q9_3 (q9_2 (q9_1 (q9_0 (q0 f9) (qc0 X)) (qc1 X)) (qc2 X)) (qc3 X)) (qc4 X)) (qc5 X)
def sfin (f10 : S224x1.Idx → Elt F .f32) : S224x1.Idx → Elt F .f32 :=
  q10_5 (q10_4 (q10_3 (q10_2 (q10_1 (q10_0 (s0 f10) (qs0 X)) (qs1 X)) (qs2 X)) (qs3 X)) (qs4 X)) (qs5 X)

end

theorem Listed.lst {G : S16.Idx → BitVec 32} {n : ℕ} {fE fL : S16.Idx → BitVec 32} (h : Listed G n fE fL) (hG : off (wd G) 16 ≤ 192) : Lst G fE fL n := by
  obtain ⟨row, h⟩ := h
  have fit : ∀ j < n, wd fL j + wd G (wd fE j) ≤ 192 := by
    intro j hj
    rw [h.start j hj]
    have h1 : off (wd G) (wd fE j) + wd G (wd fE j) = off (wd G) (wd fE j + 1) := rfl
    have h2 := off_le (wd G) (show wd fE j + 1 ≤ 16 from h.lt j hj)
    omega
  exact ⟨h.one, h.le, h.lt, h.pos, fit, (h.start 0 (by have := h.one; omega)).trans (by rw [h.first]; rfl), h.next⟩

section

variable (c : Dev nD)

theorem fup {P P' : sProp 𝕄} (h : P ⊢ |={Set.univ}=> P') {α : Type} {p : Prog (TpuEff nD τ sig (Elt F) Λ₀ .tc) α} {Q : α → sProp 𝕄} :
    P ⊢ iprop((P' -∗ wp frame (wpE (defs₀ (F := F)) Variants.none (c : Thread nD τ) none) Set.univ p Q) -∗ wp frame (wpE (defs₀ (F := F)) Variants.none (c : Thread nD τ) none) Set.univ p Q) := by
  have key : iprop(|={Set.univ}=> wp frame (wpE (defs₀ (F := F)) Variants.none (c : Thread nD τ) none) Set.univ p Q) ⊢ wp frame (wpE (defs₀ (F := F)) Variants.none (c : Thread nD τ) none) Set.univ p Q := le_of_eq (fupd_wp_eq _ _ _ _ _)
  iintro H Hk
  iapply key
  imod h $$ H with H
  imodintro
  iapply Hk
  iexact H

/-- Eight numbers in a row meet each of the eight slots once. -/
theorem slots_eq (Φ : ℕ → sProp 𝕄) (k : ℕ) : bigSep (Finset.Ico k (k + 8)) (fun j => Φ (j % 8)) = bigSep (Finset.range 8) Φ := by
  induction k with
  | zero =>
    rw [show Finset.Ico 0 (0 + 8) = Finset.range 8 by ext i; simp only [Finset.mem_range, Finset.mem_Ico]; omega]
    exact BI.bigSep_congr fun j hj => by rw [Nat.mod_eq_of_lt (Finset.mem_range.mp hj)]
  | succ k ih =>
    rw [← ih]
    have h1 : Finset.Ico k (k + 8) = insert k (Finset.Ico (k + 1) (k + 8)) := by ext i; simp only [Finset.mem_insert, Finset.mem_Ico]; omega
    have h2 : Finset.Ico (k + 1) (k + 1 + 8) = insert (k + 8) (Finset.Ico (k + 1) (k + 8)) := by ext i; simp only [Finset.mem_insert, Finset.mem_Ico]; omega
    rw [h1, h2, BI.bigSep_insert (by simp), BI.bigSep_insert (by simp), Nat.add_mod_right]

variable (X : S192x3072.Idx → Elt F .bf16) (G : S16.Idx → BitVec 32) (W : S16x3072x1408.Idx → Elt F .fp8e4m3) (WS : S16x1x1408.Idx → Elt F .f32)

/-- Every slot idle. -/
def Slots : sProp 𝕄 := bigSep (Finset.range 8) (fun s => iprop(Hfree c W s ∗ Rfree c W s))

/-- What the body needs at entry. -/
def Pre (f5 f6 f7 : S16.Idx → BitVec 32) (f8 : S192x3072.Idx → Elt F .bf16) (f9 : S224x3072.Idx → Elt F .fp8e4m3) (f10 : S224x1.Idx → Elt F .f32)
    (f11 : S16x1x1408.Idx → Elt F .f32) (f13 : S224x1408.Idx → Elt F .f32) (f14 : S224x1408.Idx → Elt F .bf16) : sProp 𝕄 :=
  iprop((ptv c main_arg1 Finset.univ G ∗ ptv c main_arg0 Finset.univ X ∗ ptv c main_arg3 Finset.univ WS)
    ∗ (ptv c cc0_scratch0 Finset.univ f5 ∗ pt6 (F := F) c f6 ∗ pt7 (F := F) c f7)
    ∗ (ptv c cc0_scratch3 Finset.univ f8 ∗ ptv c cc0_scratch6 Finset.univ f11)
    ∗ (semVal ((c : Thread nD τ), SemLoc.dma (si 0)) 0 ∗ semVal ((c : Thread nD τ), SemLoc.dma (si 1)) 0 ∗ semVal ((c : Thread nD τ), SemLoc.dma (si 2)) 0)
    ∗ Slots c W ∗ Lfree c W
    ∗ (ptv c cc0_scratch9 Finset.univ f14 ∗ ptv c cc0_scratch4 Finset.univ f9 ∗ ptv c cc0_scratch5 Finset.univ f10 ∗ ptv c cc0_scratch8 Finset.univ f13)
    ∗ Obuf (F := F) c 0 ∗ semVal ((c : Thread nD τ), SemLoc.dma (si 22)) 0)

/-- What the body leaves. -/
def Post (T : S192x1408.Idx → Elt F .bf16 → Prop) : sProp 𝕄 :=
  iprop((ptv c main_arg1 Finset.univ G ∗ ptv c main_arg0 Finset.univ X ∗ ptv c main_arg3 Finset.univ WS)
    ∗ (∃ f5 f6 f7, pt5 (F := F) c f5 ∗ pt6 (F := F) c f6 ∗ pt7 (F := F) c f7)
    ∗ (∃ f8 f11, ptv c cc0_scratch3 Finset.univ f8 ∗ ptv c cc0_scratch6 Finset.univ f11)
    ∗ (semVal ((c : Thread nD τ), SemLoc.dma (si 0)) 0 ∗ semVal ((c : Thread nD τ), SemLoc.dma (si 1)) 0 ∗ semVal ((c : Thread nD τ), SemLoc.dma (si 2)) 0)
    ∗ Slots c W ∗ Lfree c W
    ∗ (∃ f9 f10 f13, ptv c cc0_scratch4 Finset.univ f9 ∗ ptv c cc0_scratch5 Finset.univ f10 ∗ ptv c cc0_scratch8 Finset.univ f13)
    ∗ (Ybuf c 6 (fun _ => True) ∗ bigSep Finset.univ (fun t : Fin 6 => Deliv c T t.val)) ∗ semVal ((c : Thread nD τ), SemLoc.dma (si 22)) 0)

theorem rest_join (s : ℕ) (f : S8x3072x1408.Idx → Elt F .fp8e4m3) :
    iprop(pt12 (F := F) c (rowsSet s 1536 (1536 + 768)) f ∗ pt12 (F := F) c (rowsSet s 2304 (2304 + 512)) f ∗ pt12 (F := F) c (rowsSet s 2816 (2816 + 256)) f)
      ⊢ pt12 (F := F) c (rowsSet s 1536 3072) f := by
  have h1 : rowsSet s 1536 3072 = rowsSet s 1536 (1536 + 768) ∪ (rowsSet s 2304 (2304 + 512) ∪ rowsSet s 2816 (2816 + 256)) := by
    ext i; simp only [Finset.mem_union, mem_rowsSet]; omega
  have d1 : Disjoint (rowsSet s 1536 (1536 + 768)) (rowsSet s 2304 (2304 + 512) ∪ rowsSet s 2816 (2816 + 256)) := by
    rw [Finset.disjoint_left]; intro i; simp only [Finset.mem_union, mem_rowsSet]; omega
  have d2 : Disjoint (rowsSet s 2304 (2304 + 512)) (rowsSet s 2816 (2816 + 256)) := by
    rw [Finset.disjoint_left]; intro i; simp only [mem_rowsSet]; omega
  rw [h1]
  iintro ⟨H1, H2, H3⟩
  iapply (pointsTo_union d1).2
  isplitl [H1]
  · iexact H1
  iapply (pointsTo_union d2).2
  isplitl [H2]
  · iexact H2
  iexact H3

/-- The slots after the last expert's three passes. -/
theorem slots_back (n e : ℕ) (h1 : 1 ≤ n) (g E : ℕ → ℕ) :
    iprop(Ring c W g E (n - 1) n (Finset.Ico n (n + 7))
        ∗ ((Slot c W n e 0 1536 ∗ ptW (F := F) c (tH ((n - 1) % 8)) Finset.univ W ∗ semVal ((c : Thread nD τ), SemLoc.dma (hd ((n - 1) % 8))) 0)
          ∗ Slot c W n e 1536 768 ∗ Slot c W n e 2304 512 ∗ Slot c W n e 2816 256
          ∗ ptW (F := F) c (tR ((n - 1) % 8)) Finset.univ W ∗ semVal ((c : Thread nD τ), SemLoc.dma (rs ((n - 1) % 8))) 0))
      ⊢ Slots c W := by
  have hI : Finset.Ico (n - 1) (n - 1 + 8) = insert (n - 1) (Finset.Ico n (n + 7)) := by
    ext i; simp only [Finset.mem_insert, Finset.mem_Ico]; omega
  have hR : Ring c W g E (n - 1) n (Finset.Ico n (n + 7)) = bigSep (Finset.Ico n (n + 7)) (fun j => iprop(Hfree c W (j % 8) ∗ Rfree c W (j % 8))) := by
    unfold Ring
    exact BI.bigSep_congr fun j hj => Cell_free c W (Finset.mem_Ico.mp hj).1
  have ee : bigSep (insert (n - 1) (Finset.Ico n (n + 7))) (fun j => iprop(Hfree c W (j % 8) ∗ Rfree c W (j % 8)))
      = iprop((Hfree c W ((n - 1) % 8) ∗ Rfree c W ((n - 1) % 8)) ∗ bigSep (Finset.Ico n (n + 7)) (fun j => iprop(Hfree c W (j % 8) ∗ Rfree c W (j % 8)))) :=
    BI.bigSep_insert (by simp; omega)
  unfold Slots
  rw [← slots_eq (fun s => iprop(Hfree c W s ∗ Rfree c W s)) (n - 1), hI, ee, hR]
  unfold Slot
  iintro ⟨HR, ⟨H0, H1, H2⟩, H3, H4, H5, H6, H7⟩
  ihave HJ := (rest_join c ((n - 1) % 8) (slotc W e)) $$ [H3 H4 H5]
  · iframe
  isplitr [HR]
  · unfold Hfree Rfree
    isplitl [H0 H1 H2]
    · iexists _; isplitl [H0]
      · iexact H0
      iframe
    · iexists _; isplitl [HJ]
      · iexact HJ
      iframe
  · iexact HR

/-- The slots before the first copy, as the start of the body takes them. -/
theorem slots_start (g E : ℕ → ℕ) (last : ℕ) :
    Slots c W ⊢ iprop(Hfree c W 0 ∗ Rfree c W 0 ∗ Ring c W g E last 1 ((Finset.range 8).erase 0)) := by
  have hR : Ring c W g E last 1 ((Finset.range 8).erase 0) = bigSep ((Finset.range 8).erase 0) (fun j => iprop(Hfree c W j ∗ Rfree c W j)) := by
    unfold Ring
    refine BI.bigSep_congr fun j hj => ?_
    have h := Finset.mem_erase.mp hj
    have h2 := Finset.mem_range.mp h.2
    rw [Cell_free c W (by omega), Nat.mod_eq_of_lt h2]
  rw [hR]
  unfold Slots
  have ee : bigSep (Finset.range 8) (fun j => iprop(Hfree c W j ∗ Rfree c W j))
      = iprop((Hfree c W 0 ∗ Rfree c W 0) ∗ bigSep ((Finset.range 8).erase 0) (fun j => iprop(Hfree c W j ∗ Rfree c W j))) := by
    have h : Finset.range 8 = insert 0 ((Finset.range 8).erase 0) := by decide
    exact (congrArg (fun S => bigSep S (fun j => iprop(Hfree c W j ∗ Rfree c W j))) h).trans (BI.bigSep_insert (by decide))
  rw [ee]
  iintro ⟨⟨H1, H2⟩, H3⟩
  iframe

/-- The predicates that carry the values through the body. -/
structure Carries (X : S192x3072.Idx → Elt F .bf16) (G : S16.Idx → BitVec 32) (W : S16x3072x1408.Idx → Elt F .fp8e4m3) (WS : S16x1x1408.Idx → Elt F .f32)
    (q : S224x3072.Idx → Elt F .fp8e4m3) (s : S224x1.Idx → Elt F .f32)
    (Y : ℕ → (S224x1408.Idx → Elt F .bf16) → Prop) (T : S192x1408.Idx → Elt F .bf16 → Prop) : Prop where
  zero : ∀ f, Y 0 (y0 f)
  win : ∀ n fE fL, Lst G fE fL n → Listed G n fE fL → ∀ i < n - 1, ∀ h (j : Fin (k0_t5_loop (BitVec.ofNat 32 (wd fL i)) (BitVec.ofNat 32 (wd G (wd fE i)))).trips) f,
      Y (hh (wd fL i) (wd G (wd fE i)) j.val) f
        → Y (hh (wd fL i) (wd G (wd fE i)) (j.val + 1)) (winw q s W WS (wd fE i) (wd fL i) (wd G (wd fE i)) h j f)
  last : ∀ n fE fL, Lst G fE fL n → Listed G n fE fL → ∀ h, ∃ A, Passes q s W WS (wd fE (n - 1)) (wd fL (n - 1)) (wd G (wd fE (n - 1))) h A Y
  tile : ∀ h t, 32 * (t + 1) ≤ h → ∀ f, Y h f → ∀ i ∈ otile t, T i (f (up i))
  done : ∀ n fE fL, Lst G fE fL n → Listed G n fE fL → ∀ t < 6, ∀ f, Y (wd fL (n - 1) + wd G (wd fE (n - 1))) f → ∀ i ∈ otile t, T i (f (up i))

theorem body_ok (hG : off (wd G) 16 ≤ 192) (f5 f6 f7 : S16.Idx → BitVec 32) (f8 : S192x3072.Idx → Elt F .bf16) (f9 : S224x3072.Idx → Elt F .fp8e4m3) (f10 : S224x1.Idx → Elt F .f32)
    (f11 : S16x1x1408.Idx → Elt F .f32) (f13 : S224x1408.Idx → Elt F .f32) (f14 : S224x1408.Idx → Elt F .bf16)
    (Y : ℕ → (S224x1408.Idx → Elt F .bf16) → Prop) (T : S192x1408.Idx → Elt F .bf16 → Prop)
    (hC : Carries X G W WS (qfin X f9) (sfin X f10) Y T) (Wt : Waits sig Unit) :
    iprop(Pre c X G W WS f5 f6 f7 f8 f9 f10 f11 f13 f14 ∗ owes (c : Thread nD τ) 0 Wt)
      ⊢ wp frame (wpE (defs₀ (F := F)) Variants.none (c : Thread nD τ) none) Set.univ (cc0_grouped_fp8_matmul (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14) (fun _ => iprop(Post c X G W WS T ∗ ∃ Wt', owes (c : Thread nD τ) 0 Wt')) := by
  rw [cc0_grouped_fp8_matmul_eq_skeleton]
  unfold cc0_grouped_fp8_matmul_skel Pre
  iintro ⟨⟨HA, HS, HV, HM, HSl, HL, ⟨H14, H9, H10, H13⟩, HO, Hs22⟩, Ho⟩
  iapply (fup c (SB_alloc c T)) $$ Hs22
  iintro HB
  ihave HSl' := (slots_start c W (wd G) (wd G) 0) $$ HSl
  icases HSl' with ⟨HH0, HR0, Hring⟩
  iapply (part c (part9_ok c X G W WS hG f5 f6 f7 f8 f11 Wt)) $$ [HA HS HV HM HH0 Ho]
  · unfold In9; iframe
  iintro %r ⟨%n, %fE, %fL, %hw3, %hr, HOut, %Wt1, Ho⟩
  obtain ⟨hL, hr⟩ := hr
  subst hr
  have hl := hL.lst hG
  have hfree : Ring c W (wd G) (wd G) 0 1 ((Finset.range 8).erase 0) ⊢ Ring c W (wd G) (wd fE) (n - 1) 1 ((Finset.range 8).erase 0) := by
    unfold Ring
    refine le_of_eq (BI.bigSep_congr fun j hj => ?_)
    have h := Finset.mem_erase.mp hj
    rw [Cell_free c W (by omega), Cell_free c W (by omega)]
  ihave Hring' := hfree $$ Hring
  unfold Out9
  icases HOut with ⟨Ha1, Hs0, HX, HW, HT, HP⟩
  iapply (part c (part10_ok c X G W hG n fE fL hL hw3 _ f14 f9 f10 Wt1)) $$ [HP HR0 Hring' HL H14 H9 H10 HX HT Ho]
  · unfold Ring0; iframe
  iintro %r ⟨%hr, HT, Hring, HL, H14, H9, H10, ⟨H8, Ha0⟩, Hs1, %Wt2, Ho⟩
  subst hr
  iapply (part c (part11_ok c X _ _ _ _ _ _)) $$ [H8 H9 H10]
  · unfold Qst; iframe
  iintro %r ⟨%hr, HQ⟩
  subst hr
  iapply (part c (part12_ok c X _ _ _ _ _ _)) $$ HQ
  iintro %r ⟨%hr, HQ⟩
  subst hr
  iapply (part c (part13_ok c X _ _ _)) $$ HQ
  iintro %r ⟨%hr, HQ⟩
  subst hr
  iapply (part c (part14_ok c X _ _ _ _ _ _ _)) $$ HQ
  iintro %r ⟨%hr, HQ⟩
  subst hr
  iapply (part c (part15_ok c X _ _ _ _ _)) $$ HQ
  iintro %r ⟨%hr, HQ⟩
  subst hr
  iapply (part c (part16_ok c X _ _ _ _ _)) $$ HQ
  iintro %r ⟨%hr, HQ⟩
  subst hr
  iapply (part c (part17_ok c X _ _ _ _ _)) $$ HQ
  iintro %r ⟨%hr, HQ⟩
  subst hr
  iapply (part c (part18_ok c X _ _ _ _ _ _)) $$ HQ
  iintro %r ⟨%hr, HQ⟩
  subst hr
  iapply (part c (part19_ok c X _ _ _ _)) $$ HQ
  iintro %r ⟨%hr, HQ⟩
  subst hr
  iapply (part c (part20_ok c X _ _ _ _ _)) $$ HQ
  iintro %r ⟨%hr, HQ⟩
  subst hr
  iapply (part c (part21_ok c X _ _ _ _)) $$ HQ
  iintro %r ⟨%hr, HQ⟩
  subst hr
  iapply (part c (part22_ok c X _ _ _ _)) $$ HQ
  iintro %r ⟨%hr, HQ⟩
  subst hr
  iapply (part c (part23_ok c X _ _ _ _ _ _ _)) $$ HQ
  iintro %r ⟨%hr, HQ⟩
  subst hr
  unfold Qst
  icases HQ with ⟨H8, H9, H10⟩
  unfold Tabs
  iapply (part c (part24_ok c G fE fL (qfin X f9) (q10_4 (q10_3 (q10_2 (q10_1 (q10_0 (s0 f10) (qs0 X)) (qs1 X)) (qs2 X)) (qs3 X)) (qs4 X)) W WS Y T n hl hw3 _ (qs5 X)
    (hC.win n fE fL hl hL) hC.tile _ (hC.zero f14) Wt2)) $$ [HT Hring HL H14 H9 H10 HW HO HB Ho]
  · unfold In24
    unfold qfin
    iframe
    unfold qc0 qc1 qc2 qc3 qc4 qc5 qs0 qs1 qs2 qs3 qs4
    isplitl [H9]
    · iexact H9
    iexact H10
  iintro %r ⟨%hw37, %hw26, %x, %hw28, %z, %hr, HO24, %Wt3, Ho⟩
  subst hr
  obtain ⟨A, hP⟩ := hC.last n fE fL hl hL (hl.fit (n - 1) (by have := hl.one; omega))
  unfold Out24 Lfly
  icases HO24 with ⟨HR, Hring, ⟨Hh1, Hh2, Hh3⟩, ⟨HP0, HP1, HP2, HtR, HsR⟩, HSnd, ⟨Ha3, Hs2⟩⟩
  iapply (part c (part25_ok c G fE fL n hl hP hw3 _ hw26 x hw28 _ z Wt3)) $$ [HR Hh1 H13 HP0 Ho]
  · unfold Slot sfin
    iframe
    iexists f13
    iexact H13
  iintro %_ ⟨HR, Hh1, HAcc, ⟨Hl0, Ht0, Hm0⟩, %Wt4, Ho⟩
  iapply (part c (part26_ok c G fE fL n hl hP hw3 _ hw26 x Wt4)) $$ [HR HAcc HP1 HP2 Ho]
  · iframe
  iintro %r ⟨%hw34, %z2, %hr, HR, HAcc, ⟨Hl1, Ht1, Hm1⟩, ⟨Hl2, Ht2, Hm2⟩, %Wt5, Ho⟩
  subst hr
  iapply (part c (part27_ok c G fE fL T n hl hP (hC.done n fE fL hl hL) _ hw37 x hw34 z2 Wt5)) $$ [HR Hl2 HAcc HSnd Ho]
  · iframe
  iintro %_ ⟨HR, Hl2, HAcc, HY, HB, %Wt6, Ho⟩
  iapply (send_wait c T 4 (by omega) (by decide +kernel) (NS_eq _ _)) $$ [HB Ho]
  · iframe
  iintro ⟨HB, Ho⟩
  iapply (send_last c T (by decide +kernel) (NS_eq _ _)) $$ [HB Ho]
  · iframe
  iintro ⟨HD, Hs22, Ho⟩
  iapply (ret c _)
  ihave HSl := (slots_back c W n (wd fE (n - 1)) hl.one (wd G) (wd fE)) $$ [Hring Hh1 Hh2 Hh3 Hl0 Hl1 Hl2 HtR HsR]
  · iframe
  unfold Rds Acc
  icases HR with ⟨H5, H6, H7, H9, H10, H11⟩
  icases HAcc with ⟨%fa, -, H13⟩
  isplitr [Ho]
  · unfold Post Lfree
    iframe
    isplitl [H5 H6 H7]
    · iexists _; iexists _; iexists _
      isplitl [H5]
      · iexact H5
      isplitl [H6]
      · iexact H6
      iexact H7
    isplitl [H8 H11]
    · iexists _; iexists _
      isplitl [H8]
      · iexact H8
      iexact H11
    iexists _; iexists _; iexists _
    isplitl [H9]
    · iexact H9
    isplitl [H10]
    · iexact H10
    iexact H13
  iexists _; iexact Ho

end

end Cert.KernelIdeal.Hand
-- ==== Proof.Split.lean ====
/-
  The buffers as the launch owns them, whole, and as the body uses them: the ring's slots in halves, the weights' share dealt to
  the semaphores, and the results and their staging rows gathered from the pieces sent.
-/
module

public import proofs.«01_k».proof.Proof.Body
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

section

/-- Pieces of one buffer, each at contents right at every one of its elements, are the union at such contents. -/
theorem join_T {ℓ : Loc nD τ sig} {ι : Type} [DecidableEq ι] (K : ι → Finset (Idx ℓ)) (T : Idx ℓ → Buf (Elt F) ℓ → Prop)
    (hT : ∀ i f g, f i = g i → T i f → T i g) (f₀ : Buf (Elt F) ℓ) (S : Finset ι) (hd : ∀ t ∈ S, ∀ t' ∈ S, t ≠ t' → Disjoint (K t) (K t')) :
    (bigSep S fun t => iprop(∃ f : Buf (Elt F) ℓ, ⌜∀ i ∈ K t, T i f⌝ ∗ (ℓ ↦[K t]{fullShare} f) : sProp 𝕄))
      ⊢ iprop(∃ f : Buf (Elt F) ℓ, ⌜∀ i ∈ S.biUnion K, T i f⌝ ∗ (ℓ ↦[S.biUnion K]{fullShare} f)) := by
  induction S using Finset.induction_on with
  | empty =>
    rw [Finset.biUnion_empty]
    iintro -
    iexists f₀
    isplitr
    · ipureintro; intro i hi; exact absurd hi (Finset.notMem_empty i)
    · rw [pointsTo_empty]; iempintro
  | insert t S ht ih =>
    have ih' := ih fun a ha b hb => hd a (Finset.mem_insert_of_mem ha) b (Finset.mem_insert_of_mem hb)
    have dj : Disjoint (K t) (S.biUnion K) := by
      rw [Finset.disjoint_biUnion_right]
      intro b hb
      exact hd t (Finset.mem_insert_self t S) b (Finset.mem_insert_of_mem hb) (fun e => ht (e ▸ hb))
    have ee : (bigSep (insert t S) fun t => iprop(∃ f : Buf (Elt F) ℓ, ⌜∀ i ∈ K t, T i f⌝ ∗ (ℓ ↦[K t]{fullShare} f) : sProp 𝕄))
        = iprop((∃ f : Buf (Elt F) ℓ, ⌜∀ i ∈ K t, T i f⌝ ∗ (ℓ ↦[K t]{fullShare} f))
          ∗ bigSep S fun t => iprop(∃ f : Buf (Elt F) ℓ, ⌜∀ i ∈ K t, T i f⌝ ∗ (ℓ ↦[K t]{fullShare} f))) := BI.bigSep_insert ht
    rw [ee, Finset.biUnion_insert]
    iintro ⟨⟨%f, %hf, H1⟩, H2⟩
    ihave H2 := ih' $$ H2
    icases H2 with ⟨%g, %hg, H2⟩
    ihave H := (pointsTo_join (f := f) (g := g) dj) $$ [H1 H2]
    · iframe
    iexists ((S.biUnion K).piecewise g f)
    isplitr
    · ipureintro
      intro i hi
      by_cases hb : i ∈ S.biUnion K
      · exact hT i g _ (Finset.piecewise_eq_of_mem _ _ _ hb).symm (hg i hb)
      · exact hT i f _ (Finset.piecewise_eq_of_notMem _ _ _ hb).symm (hf i ((Finset.mem_union.mp hi).resolve_right hb))
    · iexact H

/-- Slot `s` of the ring. -/
def K8 (s : ℕ) : Finset S8x3072x1408.Idx := rowsSet s 0 3072

theorem K8_disj : ∀ t ∈ Finset.range 8, ∀ t' ∈ Finset.range 8, t ≠ t' → Disjoint (K8 t) (K8 t') := by
  intro t _ t' _ h
  rw [Finset.disjoint_left]; intro i
  simp only [K8, mem_rowsSet]
  omega

theorem K8_univ : (Finset.range 8).biUnion K8 = Finset.univ := by
  ext i
  simp only [Finset.mem_biUnion, Finset.mem_range, K8, mem_rowsSet, Finset.mem_univ, iff_true]
  have h0 : (i 0).val < 8 := (i 0).isLt
  have h1 : (i 1).val < 3072 := (i 1).isLt
  exact ⟨(i 0).val, by omega, by omega, by omega, by omega⟩

theorem K8_halves (s : ℕ) : K8 s = rowsSet s 0 1536 ∪ rowsSet s 1536 3072 := by
  ext i; simp only [K8, Finset.mem_union, mem_rowsSet]; omega

theorem halves_disj (s : ℕ) : Disjoint (rowsSet s 0 1536) (rowsSet s 1536 3072) := by
  rw [Finset.disjoint_left]; intro i; simp only [mem_rowsSet]; omega

theorem otile_disj : ∀ t ∈ (Finset.univ : Finset (Fin 6)), ∀ t' ∈ (Finset.univ : Finset (Fin 6)), t ≠ t' → Disjoint (otile t.val) (otile t'.val) := by
  intro t _ t' _ h
  have : t.val ≠ t'.val := fun e => h (Fin.ext e)
  rw [Finset.disjoint_left]; intro i
  simp only [mem_otile]
  omega

theorem otile_univ : (Finset.univ : Finset (Fin 6)).biUnion (fun t => otile t.val) = Finset.univ := by
  ext i
  simp only [Finset.mem_biUnion, mem_otile, Finset.mem_univ, iff_true, true_and]
  have h0 : (i 0).val < 192 := (i 0).isLt
  exact ⟨⟨(i 0).val / 32, by omega⟩, by dsimp only; omega, by dsimp only; omega⟩

theorem ytile_disj : ∀ t ∈ (Finset.univ : Finset (Fin 6)), ∀ t' ∈ (Finset.univ : Finset (Fin 6)), t ≠ t' → Disjoint (ytile t.val) (ytile t'.val) := by
  intro t _ t' _ h
  have : t.val ≠ t'.val := fun e => h (Fin.ext e)
  rw [Finset.disjoint_left]; intro i
  simp only [mem_ytile]
  omega

theorem ytile_univ : (Finset.univ : Finset (Fin 6)).biUnion (fun t => ytile t.val) ∪ yrows 6 = Finset.univ := by
  ext i
  simp only [Finset.mem_union, Finset.mem_biUnion, mem_ytile, mem_yrows, Finset.mem_univ, iff_true, true_and]
  have h0 : (i 0).val < 224 := (i 0).isLt
  by_cases h : (i 0).val < 192
  · exact Or.inl ⟨⟨(i 0).val / 32, by omega⟩, by dsimp only; omega, by dsimp only; omega⟩
  · exact Or.inr (by omega)

theorem ytile_yrows : Disjoint ((Finset.univ : Finset (Fin 6)).biUnion (fun t => ytile t.val)) (yrows 6) := by
  rw [Finset.disjoint_left]; intro i
  simp only [Finset.mem_biUnion, mem_ytile, mem_yrows, Finset.mem_univ, true_and]
  rintro ⟨t, h1, h2⟩ h3
  have := t.isLt
  omega

theorem orows_zero : orows 0 = Finset.univ := by
  ext i; simp only [mem_orows, Finset.mem_univ, iff_true]; omega

variable (c : Dev nD)

/-- The results and the staging rows gathered. -/
theorem gather (T : S192x1408.Idx → Elt F .bf16 → Prop) :
    iprop(Ybuf (F := F) c 6 (fun _ => True) ∗ bigSep Finset.univ (fun t : Fin 6 => Deliv (F := F) c T t.val))
      ⊢ iprop((∃ f, ⌜∀ i, T i (f i)⌝ ∗ ptv (F := F) c main_v0 Finset.univ f) ∗ ∃ f, ptv (F := F) c cc0_scratch9 Finset.univ f) := by
  have e : ∀ t : Fin 6, Deliv (F := F) c T t.val
      ⊢ iprop((∃ f : S192x1408.Idx → Elt F .bf16, ⌜∀ i ∈ otile t.val, T i (f i)⌝ ∗ ptv (F := F) c main_v0 (otile t.val) f)
          ∗ (∃ f : S224x1408.Idx → Elt F .bf16, ⌜∀ i ∈ ytile t.val, True⌝ ∗ ptv (F := F) c cc0_scratch9 (ytile t.val) f)) := by
    intro t
    unfold Deliv
    iintro ⟨%f4, %f, %h, H1, H2⟩
    isplitl [H1]
    · iexists f4; isplitr
      · ipureintro; exact h
      · iexact H1
    · iexists f; isplitr
      · ipureintro; exact fun _ _ => trivial
      · iexact H2
  have e2 : (bigSep Finset.univ (fun t : Fin 6 => Deliv (F := F) c T t.val))
      ⊢ iprop((bigSep Finset.univ fun t : Fin 6 => iprop(∃ f : S192x1408.Idx → Elt F .bf16, ⌜∀ i ∈ otile t.val, T i (f i)⌝ ∗ ptv (F := F) c main_v0 (otile t.val) f))
          ∗ (bigSep Finset.univ fun t : Fin 6 => iprop(∃ f : S224x1408.Idx → Elt F .bf16, ⌜∀ i ∈ ytile t.val, True⌝ ∗ ptv (F := F) c cc0_scratch9 (ytile t.val) f))) :=
    (BI.bigSep_mono fun t (_ : t ∈ (Finset.univ : Finset (Fin 6))) => e t).trans (Entails.of_eq (BI.bigSep_sep _ _ _))
  have e3 := fun (fy : S224x1408.Idx → Elt F .bf16) => join_T (ℓ := (c : Thread nD τ).loc main_v0) (fun t : Fin 6 => otile t.val) (fun i f => T i (f i))
    (fun i f g h ht => by show T i (g i); rw [← h]; exact ht) (fun i : S192x1408.Idx => fy (up i)) Finset.univ otile_disj
  have e4 := fun (fy : S224x1408.Idx → Elt F .bf16) => join_T (F := F) (ℓ := (c : Thread nD τ).loc cc0_scratch9) (fun t : Fin 6 => ytile t.val) (fun _ _ => True)
    (fun _ _ _ _ _ => trivial) fy Finset.univ ytile_disj
  rw [otile_univ] at e3
  iintro ⟨HY, HD⟩
  ihave HD := e2 $$ HD
  icases HD with ⟨HO, HT⟩
  unfold Ybuf
  icases HY with ⟨%fy, -, HY⟩
  ihave HO := (e3 fy) $$ HO
  ihave HT := (e4 fy) $$ HT
  icases HO with ⟨%fo, %ho, HO⟩
  icases HT with ⟨%ft, -, HT⟩
  ihave HJ := (pointsTo_join (f := ft) (g := fy) ytile_yrows) $$ [HT HY]
  · iframe
  rw [ytile_univ]
  isplitl [HO]
  · iexists fo; isplitr
    · ipureintro; exact fun i => ho i (Finset.mem_univ i)
    · iexact HO
  · iexists _; iexact HJ

variable (W : S16x3072x1408.Idx → Elt F .fp8e4m3)

/-- The weights' share dealt: a token for every semaphore that carries a copy of them, and what is left. -/
theorem deal_eq : (ptW (F := F) c fullShare Finset.univ W : sProp 𝕄)
    = iprop(ptW (F := F) c (Transfers.shareDrop fullShare 19) Finset.univ W ∗ ptW (F := F) c (tH 0) Finset.univ W ∗ ptW (F := F) c (tH 1) Finset.univ W ∗ ptW (F := F) c (tH 2) Finset.univ W ∗ ptW (F := F) c (tH 3) Finset.univ W ∗ ptW (F := F) c (tH 4) Finset.univ W ∗ ptW (F := F) c (tH 5) Finset.univ W ∗ ptW (F := F) c (tH 6) Finset.univ W ∗ ptW (F := F) c (tH 7) Finset.univ W ∗ ptW (F := F) c (tR 0) Finset.univ W ∗ ptW (F := F) c (tR 1) Finset.univ W ∗ ptW (F := F) c (tR 2) Finset.univ W ∗ ptW (F := F) c (tR 3) Finset.univ W ∗ ptW (F := F) c (tR 4) Finset.univ W ∗ ptW (F := F) c (tR 5) Finset.univ W ∗ ptW (F := F) c (tR 6) Finset.univ W ∗ ptW (F := F) c (tR 7) Finset.univ W ∗ ptW (F := F) c (tL 0) Finset.univ W ∗ ptW (F := F) c (tL 1) Finset.univ W ∗ ptW (F := F) c (tL 2) Finset.univ W) := by
  have h : (ptW (F := F) c fullShare Finset.univ W : sProp 𝕄)
      = iprop(ptW (F := F) c (Transfers.shareDrop fullShare 19) Finset.univ W
        ∗ bigSep Finset.univ (fun i : Fin 19 => ptW (F := F) c (Transfers.shareTok fullShare 19 i) Finset.univ W)) :=
    Entails.antisymm (Transfers.pointsTo_toks_split fullShare 19) (Transfers.pointsTo_toks_join fullShare 19)
  rw [h, bigSep_univ_eq_bigSepL [0, 1, 2, 3, 4, 5, 6, 7, 8, 9, 10, 11, 12, 13, 14, 15, 16, 17, 18] (by decide) (by decide)]
  rfl

/-- What slot `s` needs beside its memory. -/
def Keys (s : ℕ) : sProp 𝕄 :=
  iprop((ptW (F := F) c (tH s) Finset.univ W ∗ semVal ((c : Thread nD τ), SemLoc.dma (hd s)) 0)
    ∗ (ptW (F := F) c (tR s) Finset.univ W ∗ semVal ((c : Thread nD τ), SemLoc.dma (rs s)) 0))

theorem range8 (Φ : ℕ → sProp 𝕄) : bigSep (Finset.range 8) Φ = iprop(Φ 0 ∗ Φ 1 ∗ Φ 2 ∗ Φ 3 ∗ Φ 4 ∗ Φ 5 ∗ Φ 6 ∗ Φ 7) := by
  rw [bigSep_eq_bigSepL_of_eq [0, 1, 2, 3, 4, 5, 6, 7] (by decide) (by decide)]
  rfl

/-- The ring's slots from its memory. -/
theorem slots_in (f : S8x3072x1408.Idx → Elt F .fp8e4m3) :
    iprop(pt12 (F := F) c Finset.univ f ∗ bigSep (Finset.range 8) (Keys (F := F) c W)) ⊢ (Slots c W : sProp 𝕄) := by
  have h := pointsTo_biUnion (Val := Elt F) (Ix := Unit) (Name := ℕ) (U := Pipeline.UD sig nD τ) (Lvl := ℕ) (ℓ := (c : Thread nD τ).loc cc0_scratch7) (q := fullShare) (f := f) (Finset.range 8) K8 K8_disj
  rw [K8_univ] at h
  have e : ∀ s, iprop(pt12 (F := F) c (K8 s) f ∗ Keys (F := F) c W s) ⊢ iprop(Hfree c W s ∗ Rfree c W s) := by
    intro s
    have hu : pt12 (F := F) c (K8 s) f ⊢ iprop(pt12 (F := F) c (rowsSet s 0 1536) f ∗ pt12 (F := F) c (rowsSet s 1536 3072) f) := by
      rw [K8_halves]; exact (pointsTo_union (halves_disj s)).1
    unfold Hfree Rfree Keys
    iintro ⟨H, ⟨H1, H2⟩, H3, H4⟩
    ihave H := hu $$ H
    icases H with ⟨Ha, Hb⟩
    isplitl [Ha H1 H2]
    · iexists f; iframe
    · iexists f; iframe
  have e2 : iprop((bigSep (Finset.range 8) fun s => pt12 (F := F) c (K8 s) f) ∗ bigSep (Finset.range 8) (Keys (F := F) c W)) ⊢ (Slots c W : sProp 𝕄) :=
    (Entails.of_eq (BI.bigSep_sep _ _ _).symm).trans (BI.bigSep_mono fun s _ => e s)
  exact (show iprop(pt12 (F := F) c Finset.univ f ∗ bigSep (Finset.range 8) (Keys (F := F) c W)) ⊢ _ from by
    rw [show (pt12 (F := F) c Finset.univ f : sProp 𝕄) = _ from h]).trans e2

/-- The ring's memory from its slots. -/
theorem slots_out (f₀ : S8x3072x1408.Idx → Elt F .fp8e4m3) :
    (Slots c W : sProp 𝕄) ⊢ iprop((∃ f, pt12 (F := F) c Finset.univ f) ∗ bigSep (Finset.range 8) (Keys (F := F) c W)) := by
  have h := join_T (F := F) (ℓ := (c : Thread nD τ).loc cc0_scratch7) K8 (fun _ _ => True)
    (fun _ _ _ _ _ => trivial) f₀ (Finset.range 8) K8_disj
  rw [K8_univ] at h
  have e : ∀ s, iprop(Hfree c W s ∗ Rfree c W s)
      ⊢ iprop((∃ f : S8x3072x1408.Idx → Elt F .fp8e4m3, ⌜∀ i ∈ K8 s, True⌝ ∗ pt12 (F := F) c (K8 s) f) ∗ Keys (F := F) c W s) := by
    intro s
    have hu : ∀ f g, iprop(pt12 (F := F) c (rowsSet s 0 1536) f ∗ pt12 (F := F) c (rowsSet s 1536 3072) g)
        ⊢ iprop(∃ f, pt12 (F := F) c (K8 s) f) := by
      intro f g
      rw [K8_halves]
      iintro H
      iexists _
      iapply (pointsTo_join (f := f) (g := g) (halves_disj s)) $$ H
    unfold Hfree Rfree Keys
    iintro ⟨⟨%f, Ha, H1, H2⟩, ⟨%g, Hb, H3, H4⟩⟩
    ihave H := (hu f g) $$ [Ha Hb]
    · iframe
    icases H with ⟨%k, H⟩
    isplitl [H]
    · iexists k; isplitr
      · ipureintro; exact fun _ _ => trivial
      · iexact H
    · iframe
  have e2 : (Slots c W : sProp 𝕄) ⊢ iprop((bigSep (Finset.range 8) fun s => iprop(∃ f : S8x3072x1408.Idx → Elt F .fp8e4m3, ⌜∀ i ∈ K8 s, True⌝ ∗ pt12 (F := F) c (K8 s) f))
      ∗ bigSep (Finset.range 8) (Keys (F := F) c W)) :=
    (BI.bigSep_mono fun s _ => e s).trans (Entails.of_eq (BI.bigSep_sep _ _ _))
  iintro H
  ihave H := e2 $$ H
  icases H with ⟨H1, H2⟩
  ihave H1 := h $$ H1
  icases H1 with ⟨%f, -, H1⟩
  isplitl [H1]
  · iexists f; iexact H1
  · iexact H2

end

end Cert.KernelIdeal.Hand
-- ==== Proof.Launch.lean ====
/-
  The run of the whole program: the body's triple at the launch's resources, the four operands left as they were, the results
  right at every element, every semaphore back at zero.
-/
module

public import proofs.«01_k».proof.Proof.Split
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

variable (m : (ℓ : Loc nD τ sig) → Buf (Elt F) ℓ) (ρ : Dev nD → PrngReg)

/-- The body's semaphores, one for every copy that may be under way. -/
abbrev osem0 : Fin 23 → SemLoc sig := fun j => SemLoc.dma (j : DmaSem sig)

theorem ownSemFacts0 : Pipeline.OwnSemFacts cfg0.spec osem0 := by decide +kernel

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (si 0)) 0 ∗ semVal ((c : Thread nD τ), SemLoc.dma (si 1)) 0 ∗ semVal ((c : Thread nD τ), SemLoc.dma (si 2)) 0 ∗ semVal ((c : Thread nD τ), SemLoc.dma (hd 0)) 0 ∗ semVal ((c : Thread nD τ), SemLoc.dma (hd 1)) 0 ∗ semVal ((c : Thread nD τ), SemLoc.dma (hd 2)) 0 ∗ semVal ((c : Thread nD τ), SemLoc.dma (hd 3)) 0 ∗ semVal ((c : Thread nD τ), SemLoc.dma (hd 4)) 0 ∗ semVal ((c : Thread nD τ), SemLoc.dma (hd 5)) 0 ∗ semVal ((c : Thread nD τ), SemLoc.dma (hd 6)) 0 ∗ semVal ((c : Thread nD τ), SemLoc.dma (hd 7)) 0 ∗ semVal ((c : Thread nD τ), SemLoc.dma (rs 0)) 0 ∗ semVal ((c : Thread nD τ), SemLoc.dma (rs 1)) 0 ∗ semVal ((c : Thread nD τ), SemLoc.dma (rs 2)) 0 ∗ semVal ((c : Thread nD τ), SemLoc.dma (rs 3)) 0 ∗ semVal ((c : Thread nD τ), SemLoc.dma (rs 4)) 0 ∗ semVal ((c : Thread nD τ), SemLoc.dma (rs 5)) 0 ∗ semVal ((c : Thread nD τ), SemLoc.dma (rs 6)) 0 ∗ semVal ((c : Thread nD τ), SemLoc.dma (rs 7)) 0 ∗ semVal ((c : Thread nD τ), SemLoc.dma (ls 0)) 0 ∗ semVal ((c : Thread nD τ), SemLoc.dma (ls 1)) 0 ∗ semVal ((c : Thread nD τ), SemLoc.dma (ls 2)) 0 ∗ semVal ((c : Thread nD τ), SemLoc.dma (si 22)) 0) := by
  rw [Pipeline.ownSems0_eq_of_list c osem0 [0, 1, 2, 3, 4, 5, 6, 7, 8, 9, 10, 11, 12, 13, 14, 15, 16, 17, 18, 19, 20, 21, 22] (by decide) (by decide)]; rfl

/-- The operands. -/
def H0 : Finset (Ref sig .tc) := {main_arg0, main_arg1, main_arg2, main_arg3}
theorem H0_sub : H0 ⊆ Pipeline.restRefs sig cfg0.spec := by decide +kernel
/-- The result. -/
def R0 : Finset (Ref sig .tc) := {main_v0}
theorem R0_sub : R0 ⊆ Pipeline.restRefs sig cfg0.spec \ H0 := by decide +kernel

theorem args_eq (c : Dev nD) :
    (bigSep H0 (fun b => ((c : Thread nD τ).loc b) ↦{fullShare} V m c b) : sProp 𝕄)
      = iprop(ptv c main_arg0 Finset.univ (V m c main_arg0) ∗ ptv c main_arg1 Finset.univ (V m c main_arg1)
          ∗ ptv c main_arg2 Finset.univ (V m c main_arg2) ∗ ptv c main_arg3 Finset.univ (V m c main_arg3)) := by
  rw [BI.bigSep_eq_bigSepL_of_eq [main_arg0, main_arg1, main_arg2, main_arg3] (by decide) (by decide)]; rfl

/-- The result's buffer at contents every element of which is right. -/
def Res (T : S192x1408.Idx → Elt F .bf16 → Prop) (c : Dev nD) : sProp 𝕄 :=
  iprop(∃ f : S192x1408.Idx → Elt F .bf16, ⌜∀ i, T i (f i)⌝ ∗ ptv (F := F) c main_v0 Finset.univ f)

theorem wp_after {α : Type} (c : Dev nD) {p : Prog (TpuEff nD τ sig (Elt F) Λ₀ .tc) α} {Q Q' : α → sProp 𝕄} {R : sProp 𝕄} (h : ∀ a, iprop(Q a ∗ R) ⊢ Q' a) :
    iprop(wp frame (wpE (defs₀ (F := F)) Variants.none (c : Thread nD τ) none) Set.univ p Q ∗ R) ⊢ wp frame (wpE (defs₀ (F := F)) Variants.none (c : Thread nD τ) none) Set.univ p Q' :=
  (wp_frame_r _ _ _).trans (wp_mono _ _ _ h)

theorem post_ok (c : Dev nD) (T : S192x1408.Idx → Elt F .bf16 → Prop) (f12 : S8x3072x1408.Idx → Elt F .fp8e4m3) :
    iprop((Post c (V m c main_arg0) (V m c main_arg1) (V m c main_arg2) (V m c main_arg3) T ∗ ∃ Wt', owes (c : Thread nD τ) 0 Wt')
      ∗ ((∃ r, prngReg c r) ∗ ptW (F := F) c (Transfers.shareDrop fullShare 19) Finset.univ (V m c main_arg2)))
      ⊢ iprop((Pipeline.ΦD osem0 cfg0.spec H0 (V m) c ∗ Res T c) ∗ ∃ Wt', owes (c : Thread nD τ) 0 Wt') := by
  have hR : (Pipeline.scopedRest (Ix := Unit) (Name := ℕ) (U := Pipeline.UD sig nD τ) (Lvl := ℕ) (Val := Elt F) cfg0.spec c : sProp 𝕄) = _ := scopedRest0_eq c
  rw [Pipeline.ΦD_eq, ownSems00_eq, args_eq, hR]
  have hD := deal_eq (F := F) c (V m c main_arg2)
  have hD2 : _ ⊢ ptv c main_arg2 Finset.univ (V m c main_arg2) := Entails.of_eq hD.symm
  have hK : bigSep (Finset.range 8) (Keys (F := F) c (V m c main_arg2)) ⊢ iprop(((ptW (F := F) c (tH 0) Finset.univ (V m c main_arg2) ∗ semVal ((c : Thread nD τ), SemLoc.dma (hd 0)) 0) ∗ (ptW (F := F) c (tR 0) Finset.univ (V m c main_arg2) ∗ semVal ((c : Thread nD τ), SemLoc.dma (rs 0)) 0)) ∗ ((ptW (F := F) c (tH 1) Finset.univ (V m c main_arg2) ∗ semVal ((c : Thread nD τ), SemLoc.dma (hd 1)) 0) ∗ (ptW (F := F) c (tR 1) Finset.univ (V m c main_arg2) ∗ semVal ((c : Thread nD τ), SemLoc.dma (rs 1)) 0)) ∗ ((ptW (F := F) c (tH 2) Finset.univ (V m c main_arg2) ∗ semVal ((c : Thread nD τ), SemLoc.dma (hd 2)) 0) ∗ (ptW (F := F) c (tR 2) Finset.univ (V m c main_arg2) ∗ semVal ((c : Thread nD τ), SemLoc.dma (rs 2)) 0)) ∗ ((ptW (F := F) c (tH 3) Finset.univ (V m c main_arg2) ∗ semVal ((c : Thread nD τ), SemLoc.dma (hd 3)) 0) ∗ (ptW (F := F) c (tR 3) Finset.univ (V m c main_arg2) ∗ semVal ((c : Thread nD τ), SemLoc.dma (rs 3)) 0)) ∗ ((ptW (F := F) c (tH 4) Finset.univ (V m c main_arg2) ∗ semVal ((c : Thread nD τ), SemLoc.dma (hd 4)) 0) ∗ (ptW (F := F) c (tR 4) Finset.univ (V m c main_arg2) ∗ semVal ((c : Thread nD τ), SemLoc.dma (rs 4)) 0)) ∗ ((ptW (F := F) c (tH 5) Finset.univ (V m c main_arg2) ∗ semVal ((c : Thread nD τ), SemLoc.dma (hd 5)) 0) ∗ (ptW (F := F) c (tR 5) Finset.univ (V m c main_arg2) ∗ semVal ((c : Thread nD τ), SemLoc.dma (rs 5)) 0)) ∗ ((ptW (F := F) c (tH 6) Finset.univ (V m c main_arg2) ∗ semVal ((c : Thread nD τ), SemLoc.dma (hd 6)) 0) ∗ (ptW (F := F) c (tR 6) Finset.univ (V m c main_arg2) ∗ semVal ((c : Thread nD τ), SemLoc.dma (rs 6)) 0)) ∗ ((ptW (F := F) c (tH 7) Finset.univ (V m c main_arg2) ∗ semVal ((c : Thread nD τ), SemLoc.dma (hd 7)) 0) ∗ (ptW (F := F) c (tR 7) Finset.univ (V m c main_arg2) ∗ semVal ((c : Thread nD τ), SemLoc.dma (rs 7)) 0))) := Entails.of_eq (range8 (Keys (F := F) c (V m c main_arg2)))
  unfold Res Post Lfree
  iintro ⟨⟨⟨⟨A1, A0, A3⟩, ⟨%f5, %f6, %f7, X0, X1, X2⟩, ⟨%f8, %f11, X3, X6⟩, ⟨S0, S1, S2⟩, HS, ⟨⟨K16, S19⟩, ⟨K17, S20⟩, K18, S21⟩, ⟨%f9, %f10, %f13, X4, X5, X8⟩, HY, S22⟩, Hw⟩, Hg, D⟩
  ihave HS := (slots_out (F := F) c (V m c main_arg2) f12) $$ HS
  icases HS with ⟨⟨%f7', X7⟩, HK⟩
  ihave HK := hK $$ HK
  icases HK with ⟨⟨⟨K0, S3⟩, K8, S11⟩, ⟨⟨K1, S4⟩, K9, S12⟩, ⟨⟨K2, S5⟩, K10, S13⟩, ⟨⟨K3, S6⟩, K11, S14⟩, ⟨⟨K4, S7⟩, K12, S15⟩, ⟨⟨K5, S8⟩, K13, S16⟩, ⟨⟨K6, S9⟩, K14, S17⟩, ⟨⟨K7, S10⟩, K15, S18⟩⟩
  ihave A2 := hD2 $$ [D K0 K1 K2 K3 K4 K5 K6 K7 K8 K9 K10 K11 K12 K13 K14 K15 K16 K17 K18]
  · iframe
  ihave HY := (gather (F := F) c T) $$ HY
  icases HY with ⟨HO, ⟨%f14, X9⟩⟩
  isplitr [Hw]
  · isplitr [HO]
    · isplitl [X0 X1 X2 X3 X4 X5 X6 X7 X8 X9]
      · isplitl [X3]; · iexists _; iexact X3
        isplitl [X4]; · iexists _; iexact X4
        isplitl [X5]; · iexists _; iexact X5
        isplitl [X6]; · iexists _; iexact X6
        isplitl [X7]; · iexists _; iexact X7
        isplitl [X8]; · iexists _; iexact X8
        isplitl [X9]; · iexists _; iexact X9
        isplitl [X0]; · iexists _; iexact X0
        isplitl [X1]; · iexists _; iexact X1
        iexists _; iexact X2
      isplitl [Hg]; · iexact Hg
      isplitr [A0 A1 A2 A3]; · iframe
      iframe
    · iexact HO
  · iexact Hw

theorem core_ok (c : Dev nD) (hG : off (wd (V m c main_arg1)) 16 ≤ 192)
    (Y : ℕ → (S224x1408.Idx → Elt F .bf16) → Prop) (T : S192x1408.Idx → Elt F .bf16 → Prop)
    (hC : ∀ f9 f10, Carries (V m c main_arg0) (V m c main_arg1) (V m c main_arg2) (V m c main_arg3) (qfin (V m c main_arg0) f9) (sfin (V m c main_arg0) f10) Y T)
    (Wt) :
    iprop((Pipeline.ΦD osem0 cfg0.spec H0 (V m) c ∗ Res (F := F) (fun _ _ => True) c) ∗ owes (c : Thread nD τ) 0 Wt)
      ⊢ wp frame (wpE (defs₀ (F := F)) Variants.none (c : Thread nD τ) none) Set.univ (cc0_grouped_fp8_matmul (F := F) a0 (hw _) a1 (hw _) a2 (hw _) a3 (hw _) a4 (hw _) a5 (hw _) a6 (hw _) a7 (hw _) a8 (hw _) a9 (hw _) a10 (hw _) a11 (hw _) a12 (hw _) a13 (hw _) a14 (hw _) cc0_scratch10 cc0_scratch11 cc0_scratch12 cc0_scratch13 cc0_scratch14)
        (fun _ => iprop((Pipeline.ΦD osem0 cfg0.spec H0 (V m) c ∗ Res T c) ∗ ∃ Wt', owes (c : Thread nD τ) 0 Wt')) := by
  have hR : (Pipeline.scopedRest (Ix := Unit) (Name := ℕ) (U := Pipeline.UD sig nD τ) (Lvl := ℕ) (Val := Elt F) cfg0.spec c : sProp 𝕄) = _ := scopedRest0_eq c
  have hE := Pipeline.ΦD_eq (Val := Elt F) osem0 cfg0.spec H0 (V m) c
  rw [ownSems00_eq, args_eq, hR] at hE
  have hE1 := Entails.of_eq hE
  have hD := deal_eq (F := F) c (V m c main_arg2)
  have hD1 : ptv c main_arg2 Finset.univ (V m c main_arg2) ⊢ _ := Entails.of_eq hD
  have hD2 : _ ⊢ ptv c main_arg2 Finset.univ (V m c main_arg2) := Entails.of_eq hD.symm
  have hK : iprop(((ptW (F := F) c (tH 0) Finset.univ (V m c main_arg2) ∗ semVal ((c : Thread nD τ), SemLoc.dma (hd 0)) 0) ∗ (ptW (F := F) c (tR 0) Finset.univ (V m c main_arg2) ∗ semVal ((c : Thread nD τ), SemLoc.dma (rs 0)) 0)) ∗ ((ptW (F := F) c (tH 1) Finset.univ (V m c main_arg2) ∗ semVal ((c : Thread nD τ), SemLoc.dma (hd 1)) 0) ∗ (ptW (F := F) c (tR 1) Finset.univ (V m c main_arg2) ∗ semVal ((c : Thread nD τ), SemLoc.dma (rs 1)) 0)) ∗ ((ptW (F := F) c (tH 2) Finset.univ (V m c main_arg2) ∗ semVal ((c : Thread nD τ), SemLoc.dma (hd 2)) 0) ∗ (ptW (F := F) c (tR 2) Finset.univ (V m c main_arg2) ∗ semVal ((c : Thread nD τ), SemLoc.dma (rs 2)) 0)) ∗ ((ptW (F := F) c (tH 3) Finset.univ (V m c main_arg2) ∗ semVal ((c : Thread nD τ), SemLoc.dma (hd 3)) 0) ∗ (ptW (F := F) c (tR 3) Finset.univ (V m c main_arg2) ∗ semVal ((c : Thread nD τ), SemLoc.dma (rs 3)) 0)) ∗ ((ptW (F := F) c (tH 4) Finset.univ (V m c main_arg2) ∗ semVal ((c : Thread nD τ), SemLoc.dma (hd 4)) 0) ∗ (ptW (F := F) c (tR 4) Finset.univ (V m c main_arg2) ∗ semVal ((c : Thread nD τ), SemLoc.dma (rs 4)) 0)) ∗ ((ptW (F := F) c (tH 5) Finset.univ (V m c main_arg2) ∗ semVal ((c : Thread nD τ), SemLoc.dma (hd 5)) 0) ∗ (ptW (F := F) c (tR 5) Finset.univ (V m c main_arg2) ∗ semVal ((c : Thread nD τ), SemLoc.dma (rs 5)) 0)) ∗ ((ptW (F := F) c (tH 6) Finset.univ (V m c main_arg2) ∗ semVal ((c : Thread nD τ), SemLoc.dma (hd 6)) 0) ∗ (ptW (F := F) c (tR 6) Finset.univ (V m c main_arg2) ∗ semVal ((c : Thread nD τ), SemLoc.dma (rs 6)) 0)) ∗ ((ptW (F := F) c (tH 7) Finset.univ (V m c main_arg2) ∗ semVal ((c : Thread nD τ), SemLoc.dma (hd 7)) 0) ∗ (ptW (F := F) c (tR 7) Finset.univ (V m c main_arg2) ∗ semVal ((c : Thread nD τ), SemLoc.dma (rs 7)) 0))) ⊢ bigSep (Finset.range 8) (Keys (F := F) c (V m c main_arg2)) := Entails.of_eq (range8 (Keys (F := F) c (V m c main_arg2))).symm
  unfold Res
  iintro ⟨⟨HΦ, ⟨%f4, -, HO⟩⟩, Hw⟩
  ihave HΦ := hE1 $$ HΦ
  icases HΦ with ⟨⟨⟨%f8, X3⟩, ⟨%f9, X4⟩, ⟨%f10, X5⟩, ⟨%f11, X6⟩, ⟨%f12, X7⟩, ⟨%f13, X8⟩, ⟨%f14, X9⟩, ⟨%f5, X0⟩, ⟨%f6, X1⟩, ⟨%f7, X2⟩⟩, Hg, ⟨S0, S1, S2, S3, S4, S5, S6, S7, S8, S9, S10, S11, S12, S13, S14, S15, S16, S17, S18, S19, S20, S21, S22⟩, A0, A1, A2, A3⟩
  ihave A2 := hD1 $$ A2
  icases A2 with ⟨D, K0, K1, K2, K3, K4, K5, K6, K7, K8, K9, K10, K11, K12, K13, K14, K15, K16, K17, K18⟩
  ihave HS := (slots_in (F := F) c (V m c main_arg2) f12) $$ [X7 S3 S4 S5 S6 S7 S8 S9 S10 S11 S12 S13 S14 S15 S16 S17 S18 K0 K1 K2 K3 K4 K5 K6 K7 K8 K9 K10 K11 K12 K13 K14 K15]
  · isplitl [X7]; · iexact X7
    iapply hK
    iframe
  ihave HB := (body_ok (F := F) c (V m c main_arg0) (V m c main_arg1) (V m c main_arg2) (V m c main_arg3) hG f5 f6 f7 f8 f9 f10 f11 f13 f14 Y T (hC f9 f10) Wt) $$ [HS A0 A1 A3 X0 X1 X2 X3 X6 X9 X4 X5 X8 HO Hw S0 S1 S2 S22 S19 S20 S21 K16 K17 K18]
  · unfold Pre
    isplitr [Hw]
    · isplitl [A0 A1 A3]; · iframe
      isplitl [X0 X1 X2]; · iframe
      isplitl [X3 X6]; · iframe
      isplitl [S0 S1 S2]; · iframe
      isplitl [HS]; · iexact HS
      isplitl [S19 S20 S21 K16 K17 K18]
      · unfold Lfree; iframe
      isplitl [X4 X5 X8 X9]; · iframe
      isplitl [HO]
      · unfold Obuf; iexists f4; rw [orows_zero]; iexact HO
      · iexact S22
    · iexact Hw
  iapply (wp_after c (fun _ => post_ok m c T f12)) $$ [HB Hg D]
  isplitl [HB]; · iexact HB
  iframe

/-- How the invariant stands before and after the body: the result's buffer at anything, then at contents that are right. -/
def datsT (T : (c : Dev nD) → S192x1408.Idx → Elt F .bf16 → Prop) (_ : Fin 1) (c : Dev nD) : Dat τ (Elt F) Unit ℕ (Pipeline.UD sig nD τ) ℕ cfg0 c where
  A w := w.elim0
  after w t := w.elim0
  Φ t := iprop(Pipeline.ΦD osem0 cfg0.spec H0 (V m) c ∗ (if t.val = 0 then Res (fun _ _ => True) c else Res (T c) c))
  q _ := fullShare
  owed _ := 0

theorem body_at (T : (c : Dev nD) → S192x1408.Idx → Elt F .bf16 → Prop) (Y : (c : Dev nD) → ℕ → (S224x1408.Idx → Elt F .bf16) → Prop)
    (hG : ∀ c, off (wd (V m c main_arg1)) 16 ≤ 192)
    (hC : ∀ c f9 f10, Carries (V m c main_arg0) (V m c main_arg1) (V m c main_arg2) (V m c main_arg3) (qfin (V m c main_arg0) f9) (sfin (V m c main_arg0) f10) (Y c) (T c))
    (c : Dev nD) (t : Fin cfg0.N) :
    iprop((datsT m T 0 c).Φ t.castSucc ∗ (datsT m T 0 c).owesAt () t.castSucc)
      ⊢ wp frame (wpE (defs₀ (F := F)) Variants.none c none) Set.univ (bodyAt0 t) (fun _ => iprop((datsT m T 0 c).Φ t.succ ∗ (datsT m T 0 c).owesAt () t.succ)) := by
  obtain rfl := fin_N0 t
  have e0 : (datsT m T 0 c).Φ (t0_0 : Fin cfg0.N).castSucc = iprop(Pipeline.ΦD osem0 cfg0.spec H0 (V m) c ∗ Res (F := F) (fun _ _ => True) c) := by
    unfold datsT; dsimp only; rw [if_pos (show (t0_0 : Fin cfg0.N).castSucc.val = 0 from rfl)]
  have e1 : (datsT m T 0 c).Φ (t0_0 : Fin cfg0.N).succ = iprop(Pipeline.ΦD osem0 cfg0.spec H0 (V m) c ∗ Res (F := F) (T c) c) := by
    unfold datsT; dsimp only; rw [if_neg (by simp)]
  rw [e0, e1]
  have hp : (datsT m T 0 c).owesAt () (t0_0 : Fin cfg0.N).castSucc ⊢ iprop(∃ Wt', owes (c : Thread nD τ) 0 Wt') := by
    unfold Dat.owesAt Pipeline.owesWithin
    rw [show (datsT m T 0 c).owed (t0_0 : Fin cfg0.N).castSucc = 0 from rfl]
    iintro ⟨%Wt, -, HW⟩
    iexists Wt; iexact HW
  have hq : iprop((Pipeline.ΦD osem0 cfg0.spec H0 (V m) c ∗ Res (T c) c) ∗ ∃ Wt', owes (c : Thread nD τ) 0 Wt')
      ⊢ iprop((Pipeline.ΦD osem0 cfg0.spec H0 (V m) c ∗ Res (T c) c) ∗ (datsT m T 0 c).owesAt () (t0_0 : Fin cfg0.N).succ) := by
    unfold Dat.owesAt Pipeline.owesWithin
    rw [show (datsT m T 0 c).owed (t0_0 : Fin cfg0.N).succ = 0 from rfl]
    iintro ⟨H, ⟨%Wt, HW⟩⟩
    isplitl [H]; · iexact H
    iexists Wt; isplitr; · ipureintro; exact fun _ _ => Or.inl trivial
    iexact HW
  unfold bodyAt0
  iintro ⟨H, HW⟩
  ihave HW := hp $$ HW
  icases HW with ⟨%Wt, HW⟩
  ihave HB := (core_ok m c (hG c) (Y c) (T c) (hC c) Wt) $$ [H HW]
  · isplitl [H]; · iexact H
    iexact HW
  iapply (wp_mono _ _ _ (fun _ => hq)) $$ HB

theorem defs₀_row (t : Fin cfg0.N) :
    defs₀ (F := F) .tc cfg0.body (cfg0.bodyArgs t (cfg0.slots t)) = bodyAt0 t := by
  unfold defs₀; rw [Defs.onTc_tc]

section
variable (T : (c : Dev nD) → S192x1408.Idx → Elt F .bf16 → Prop) (Y : (c : Dev nD) → ℕ → (S224x1408.Idx → Elt F .bf16) → Prop)
    (hG : ∀ c, off (wd (V m c main_arg1)) 16 ≤ 192)
    (hC : ∀ c f9 f10, Carries (V m c main_arg0) (V m c main_arg1) (V m c main_arg2) (V m c main_arg3) (qfin (V m c main_arg0) f9) (sfin (V m c main_arg0) f10) (Y c) (T c))

include hG hC in
theorem body_obligation (c : Dev nD) : BodyObligation (datsT (F := F) m T 0 c) (defs₀ (F := F)) Variants.none () Set.univ := fun t => by
  have h0 : ∀ Φ : Fin cfg0.W → sProp 𝕄, bigSep Finset.univ Φ = iprop(emp) := fun Φ => by
    rw [show (Finset.univ : Finset (Fin cfg0.W)) = ∅ from rfl, BI.bigSep_empty]; rfl
  rw [h0, h0, defs₀_row]
  exact triple_restated (body_at m T Y hG hC c t) rfl (by iintro ⟨H1, H2, -⟩; iframe) fun _ => (by iintro ⟨H1, H2⟩; iframe)

theorem owned_res (c : Dev nD) : (Pipeline.owned R0 c : sProp 𝕄) = iprop(∃ f : S192x1408.Idx → Elt F .bf16, ptv (F := F) c main_v0 Finset.univ f) := by
  unfold Pipeline.owned; rw [BI.bigSep_eq_bigSepL_of_eq [main_v0] (by decide) (by decide)]; rfl

theorem routed_res (c : Dev nD) (G : (b : Ref sig .tc) → Buf (Elt F) ((c.tc : Thread nD τ).loc b)) :
    (Pipeline.routed R0 c G : sProp 𝕄) = ptv (F := F) c main_v0 Finset.univ (G main_v0) := by
  unfold Pipeline.routed; rw [BI.bigSep_eq_bigSepL_of_eq [main_v0] (by decide) (by decide)]; rfl

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem phi_zero (c : Dev nD) : iprop(Pipeline.ΦD osem0 cfg0.spec H0 (V m) c ∗ ∃ f : S192x1408.Idx → Elt F .bf16, ptv (F := F) c main_v0 Finset.univ f) ⊢ (datsT m T 0 c).Φ 0 := by
  have e : (datsT m T 0 c).Φ 0 = iprop(Pipeline.ΦD osem0 cfg0.spec H0 (V m) c ∗ Res (F := F) (fun _ _ => True) c) := by
    unfold datsT; dsimp only; rw [if_pos (show (0 : Fin (cfg0.N + 1)).val = 0 from rfl)]
  rw [e]
  unfold Res
  iintro ⟨H, ⟨%f, HO⟩⟩
  isplitl [H]; · iexact H
  iexists f; isplitr
  · ipureintro; exact fun _ => trivial
  · iexact HO

theorem phi_last (c : Dev nD) : (datsT m T 0 c).Φ (Fin.last cfg0.N) = iprop(Pipeline.ΦD osem0 cfg0.spec H0 (V m) c ∗ Res (T c) c) := by
  unfold datsT; dsimp only; rw [if_neg (show ¬ (Fin.last cfg0.N).val = 0 from by show ¬ cfg0.N = 0; rw [show cfg0.N = 1 from N_0]; omega)]

/-- The launch memory with the result's buffer at `G`. -/
def goal (G : (c : Dev nD) → S192x1408.Idx → Elt F .bf16) (c : Dev nD) (b : Ref sig .tc) : Buf (Elt F) ((c.tc : Thread nD τ).loc b) :=
  if h : b = main_v0 then h ▸ (G c : Buf (Elt F) ((c.tc : Thread nD τ).loc main_v0)) else V m c b

end

theorem in_R (T : (c : Dev nD) → S192x1408.Idx → Elt F .bf16 → Prop) (c : Dev nD) : Pipeline.ΦDR osem0 cfg0.spec H0 R0 (V m) c ⊢ (datsT m T 0 c).Φ 0 := by
  unfold Pipeline.ΦDR; rw [owned_res]; exact phi_zero m T c

theorem out_R (T : (c : Dev nD) → S192x1408.Idx → Elt F .bf16 → Prop) (c : Dev nD) : (datsT m T 0 c).Φ (Fin.last cfg0.N) ⊢ Pipeline.ΦDR osem0 cfg0.spec H0 R0 (V m) c := by
  rw [phi_last]; unfold Pipeline.ΦDR Res; rw [owned_res]
  iintro ⟨H, ⟨%f, -, HO⟩⟩
  isplitl [H]; · iexact H
  iexists f; iexact HO

theorem in_G (T : (c : Dev nD) → S192x1408.Idx → Elt F .bf16 → Prop) (c : Dev nD) : Pipeline.ΦDRG osem0 cfg0.spec H0 R0 (V m) (V m) c ⊢ (datsT m T 0 c).Φ 0 := by
  refine BIBase.Entails.trans ?_ (phi_zero m T c)
  unfold Pipeline.ΦDRG; rw [routed_res]
  iintro ⟨H, HO⟩
  isplitl [H]; · iexact H
  iexists _; iexact HO

theorem goal_v0 (G : (c : Dev nD) → S192x1408.Idx → Elt F .bf16) (c : Dev nD) : goal m G c main_v0 = G c := by
  unfold goal; rw [dif_pos rfl]

theorem out_G (G : (c : Dev nD) → S192x1408.Idx → Elt F .bf16) (c : Dev nD) :
    (datsT m (fun c i v => v = G c i) 0 c).Φ (Fin.last cfg0.N) ⊢ Pipeline.ΦDRG osem0 cfg0.spec H0 R0 (V m) (goal m G) c := by
  rw [phi_last]; unfold Pipeline.ΦDRG Res; rw [routed_res, goal_v0]
  iintro ⟨H, ⟨%f, %h, HO⟩⟩
  obtain rfl : f = G c := funext h
  isplitl [H]; · iexact H
  iexact HO

set_option backward.isDefEq.respectTransparency.types false in
/-- The run when nothing is said of the results' values. -/
theorem run_frame (hG : ∀ c, off (wd (V m c main_arg1)) 16 ≤ 192) (Y : (c : Dev nD) → ℕ → (S224x1408.Idx → Elt F .bf16) → Prop)
    (hC : ∀ c f9 f10, Carries (V m c main_arg0) (V m c main_arg1) (V m c main_arg2) (V m c main_arg3) (qfin (V m c main_arg0) f9) (sfin (V m c main_arg0) f10) (Y c) (fun _ _ => True)) :
    θ_run defs (onTc (τ := τ) (main (F := F))) (s₀ m ρ)
      (fun r => Pipeline.FramePostR cfgs (datsT m (fun _ _ _ => True)) 0 R0 (V m) r ∧ r.2.sem = fun _ => 0) :=
  Pipeline.θ_run_frame_dmaR (Q' := _) cfgs (datsT m fun _ _ _ => True) (0 : Fin 1) launch0 osem0 defs₀ Variants.none ownSemFacts0 H0 R0 H0_sub R0_sub m ρ main
    (hbody := fun c => (body_obligation m _ Y hG hC c).loose) (hshare := fun c w => w.elim0)
    (howed := fun _ _ => rfl) (V := V m) (hmain := hmainD m Variants.none) (hA := fun c w => w.elim0)
    (hin := fun c => in_R m _ c) (hout := fun c => out_R m _ c)

set_option backward.isDefEq.respectTransparency.types false in
/-- The run when the results are known. -/
theorem run_value (G : (c : Dev nD) → S192x1408.Idx → Elt F .bf16) (hG : ∀ c, off (wd (V m c main_arg1)) 16 ≤ 192)
    (Y : (c : Dev nD) → ℕ → (S224x1408.Idx → Elt F .bf16) → Prop)
    (hC : ∀ c f9 f10, Carries (V m c main_arg0) (V m c main_arg1) (V m c main_arg2) (V m c main_arg3) (qfin (V m c main_arg0) f9) (sfin (V m c main_arg0) f10) (Y c) (fun i v => v = G c i)) :
    θ_run defs (onTc (τ := τ) (main (F := F))) (s₀ m ρ)
      (fun r => Pipeline.FramePostRG cfgs (datsT m (fun c i v => v = G c i)) 0 R0 (V m) (goal m G) r ∧ r.2.sem = fun _ => 0) :=
  Pipeline.θ_run_frame_dmaRG (Q' := _) cfgs (datsT m (fun c i v => v = G c i)) (0 : Fin 1) launch0 osem0 defs₀ Variants.none ownSemFacts0 H0 R0 H0_sub R0_sub m ρ main
    (hbody := fun c => (body_obligation m _ Y hG hC c).loose) (hshare := fun c w => w.elim0)
    (howed := fun _ _ => rfl) (V := V m) (hmain := hmainD m Variants.none) (hA := fun c w => w.elim0) (G := goal m G)
    (hin := fun c => in_G m _ c) (hout := fun c => out_G m G c)

theorem args_of (dats : (p : Fin 1) → (c : Dev nD) → Dat τ (Elt F) Unit ℕ (Pipeline.UD sig nD τ) ℕ (cfgs p) c) (r : PUnit × MemSt nD τ sig (Elt F))
    (h : Pipeline.FramePostR cfgs dats 0 R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Finset.mem_sdiff.mpr ⟨Pipeline.mem_restRefs_of main_arg0 (by decide) (by decide), by decide⟩)),
      ((h c).2 main_arg1 (Finset.mem_sdiff.mpr ⟨Pipeline.mem_restRefs_of main_arg1 (by decide) (by decide), by decide⟩)),
      ((h c).2 main_arg2 (Finset.mem_sdiff.mpr ⟨Pipeline.mem_restRefs_of main_arg2 (by decide) (by decide), by decide⟩)),
      ((h c).2 main_arg3 (Finset.mem_sdiff.mpr ⟨Pipeline.mem_restRefs_of main_arg3 (by decide) (by decide), by decide⟩))⟩

theorem carries_any (X G W WS q s) : Carries (F := F) X G W WS q s (fun _ _ => True) (fun _ _ => True) where
  zero _ := trivial
  win := by intros; trivial
  last := fun _ _ _ _ _ _ => ⟨fun _ _ _ => True, by constructor <;> intros <;> trivial⟩
  tile := by intros; trivial
  done := by intros; trivial

/-- The frame: the operands come back as they were, and every semaphore at zero. -/
theorem frame_hand (hG : ∀ c, off (wd (V m c main_arg1)) 16 ≤ 192) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of m _ r h.1, h.2⟩)
    (run_frame m ρ hG (fun _ _ _ => True) fun c f9 f10 => carries_any _ _ _ _ _ _)

/-- The value: the result's buffer at `G`, the operands as they were. -/
theorem value_hand (G : (c : Dev nD) → S192x1408.Idx → Elt F .bf16) (hG : ∀ c, off (wd (V m c main_arg1)) 16 ≤ 192)
    (Y : (c : Dev nD) → ℕ → (S224x1408.Idx → Elt F .bf16) → Prop)
    (hC : ∀ c f9 f10, Carries (V m c main_arg0) (V m c main_arg1) (V m c main_arg2) (V m c main_arg3) (qfin (V m c main_arg0) f9) (sfin (V m c main_arg0) f10) (Y c) (fun i v => v = G c i)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ (∀ c : Dev nD, r.2.mem ((c.tc : Thread nD τ).loc main_v0) = G c) ∧ r.2.sem = fun _ => 0) :=
  (θ_run defs _ _).mono (fun r h => ⟨args_of m _ r h.1.toR, fun c => (h.1.written c (by decide)).trans (goal_v0 m G c), h.2⟩)
    (run_value m ρ G hG Y hC)

end Cert.KernelIdeal.Hand
-- ==== Proof.Fit.lean ====
/-
  What the precondition says of the group sizes: no size is negative, and all of them together fit the rows.
-/
module

public import proofs.«01_k».proof.Proof.Scan
public import Idealize.ShloMosaic.Lib.Routing.Ops
public import proofs.«01_k».proof.Proof.Gen.Pre_groups_fit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's user algebra beside the transfers' counters. -/
local notation "𝕄" => MT nD τ sig Unit (Elt F) ℕ (Pipeline.UD sig nD τ) ℕ

theorem off_sum (g : ℕ → ℕ) (n : ℕ) : ((List.range n).map g).sum = off g n := by
  induction n with
  | zero => rfl
  | succ n ih => rw [List.range_succ, List.map_append, List.sum_append, ih]; simp [off]

theorem off_bound (g : ℕ → ℕ) (b : ℕ) (h : ∀ i, g i ≤ b) (n : ℕ) : off g n ≤ n * b := by
  induction n with
  | zero => simp [off]
  | succ n ih => have := h n; rw [off, Nat.succ_mul]; omega

theorem sle_le {x : BitVec 32} (h0 : IntOp.cmpi .sge x 0#32 = 1#1) (h1 : IntOp.cmpi .sle x 192#32 = 1#1) : x.toNat ≤ 192 := by
  have a0 : (0#32).sle x = true := by
    by_contra hc; rw [Bool.not_eq_true] at hc
    simp [IntOp.cmpi, hc] at h0
  have a1 : x.sle 192#32 = true := by
    by_contra hc; rw [Bool.not_eq_true] at hc
    simp [IntOp.cmpi, hc] at h1
  simp [BitVec.sle, BitVec.toInt] at a0 a1
  split at a1 <;> omega

theorem fits (G : S16.Idx → BitVec 32) (h : S16.ReducesTo [0] Cert.Pre_groups_fit.S_) (hu : 0 < Cert.Pre_groups_fit.S_.numel)
    (h0 : ∀ i, IntOp.cmpi .sge (G i) 0#32 = 1#1) (h1 : ∀ i, IntOp.cmpi .sle (G i) 192#32 = 1#1)
    (h2 : IntOp.cmpi .sle (Host.reduce IntOp.addi G (constantI Cert.Pre_groups_fit.S_ 32 0#32) h hu (fun a => a.elim0)) 192#32 = 1#1) :
    off (wd G) 16 ≤ 192 := by
  have hb : ∀ i, wd G i ≤ 192 := by
    intro i; unfold wd; split
    · exact sle_le (h0 _) (h1 _)
    · omega
  have hs := Routing.reduce_sum (N := 16) G (wd G) (fun i => by
    unfold wd; rw [dif_pos i.isLt, BitVec.ofNat_toNat, BitVec.setWidth_eq]
    congr 1; funext a; have : a = 0 := Subsingleton.elim _ _; subst this; rfl) h hu
  rw [off_sum] at hs
  have hn := off_bound (wd G) 192 hb 16
  have e : Host.reduce IntOp.addi G (constantI Cert.Pre_groups_fit.S_ 32 0#32) h hu (fun a => a.elim0) = BitVec.ofNat 32 (off (wd G) 16) := by
    refine Eq.trans ?_ hs
    congr 1
  rw [e] at h2
  have hz : IntOp.cmpi .sge (BitVec.ofNat 32 (off (wd G) 16)) 0#32 = 1#1 := by
    have : (0#32).sle (BitVec.ofNat 32 (off (wd G) 16)) = true := by
      simp [BitVec.sle, BitVec.toInt]; split <;> omega
    simp [IntOp.cmpi, this]
  have := sle_le hz h2
  rw [BitVec.toNat_ofNat] at this
  omega

end Cert.KernelIdeal.Hand
-- ==== Proof.Frames.lean ====
/-
  The frames of the kernel as written and of its idealization, from one proof: the two programs are the same text over two
  readings of the floats, and the proof asks nothing of the reading.
-/
module

public import proofs.«01_k».proof.Defs
public import proofs.«01_k».proof.Proof.Launch
public import proofs.«01_k».proof.Proof.Fit
public import proofs.«01_k».proof.Proof.Gen.Kernel
public import proofs.«01_k».proof.Proof.Gen.KernelIdeal
public import proofs.«01_k».proof.Proof.Gen.Pre_groups_fit

@[expose] public section

set_option maxHeartbeats 0

namespace Cert.Proof

open Idealize.ShloMosaic Idealize.ShloMosaic.TcCoe

theorem fit_ideal (m : (ℓ : Loc Cert.KernelIdeal.nD Cert.KernelIdeal.τ Cert.KernelIdeal.sig) → Buf (Elt Ideal) ℓ)
    (h : Cert.Pre_KernelIdeal m) (c) : KernelIdeal.Hand.off (KernelIdeal.Hand.wd (KernelIdeal.Gen.V m c KernelIdeal.main_arg1)) 16 ≤ 192 :=
  KernelIdeal.Hand.fits _ Pre_groups_fit.Gen.reducesTo_S16_S_d0 Pre_groups_fit.Gen.h_S_
    (fun i => congrFun (h c).1 i) (fun i => congrFun (h c).2.1 i) (congrFun (h c).2.2 _)

theorem frame_ideal : Cert.quiescent_KernelIdeal := fun m g h => KernelIdeal.Hand.frame_hand m g (fit_ideal m h)

theorem fit_bits (m : (ℓ : Loc Cert.Kernel.nD Cert.Kernel.τ Cert.Kernel.sig) → Buf (Elt Bits) ℓ)
    (h : Cert.Pre_Kernel m) (c) : KernelIdeal.Hand.off (KernelIdeal.Hand.wd (KernelIdeal.Gen.V (F := Bits) m c KernelIdeal.main_arg1)) 16 ≤ 192 :=
  KernelIdeal.Hand.fits _ Pre_groups_fit.Gen.reducesTo_S16_S_d0 Pre_groups_fit.Gen.h_S_
    (fun i => congrFun (h c).1 i) (fun i => congrFun (h c).2.1 i) (congrFun (h c).2.2 _)

theorem same_main {F : FTy → Type} [FloatOps F] : (Cert.Kernel.main (F := F)) = (Cert.KernelIdeal.main (F := F)) := rfl
theorem same_defs {F : FTy → Type} [FloatOps F] : (Cert.Kernel.defs (F := F)) = (Cert.KernelIdeal.defs (F := F)) := rfl

theorem frame_bits : Cert.quiescent_Kernel := fun m g h => by
  rw [show (Cert.Kernel.main (F := Bits)) = _ from same_main, show (Cert.Kernel.defs (F := Bits)) = _ from same_defs]
  exact KernelIdeal.Hand.frame_hand (F := Bits) m g (fit_bits m h)

end Cert.Proof
-- ==== Proof.Expo.lean ====
/-
  Powers of two as words: the float whose exponent field is `n` and whose other bits are zero, the
  search for the exponent field of a value, and the scale exponent the quantiser takes from it.
-/
module

public import Idealize.ShloMosaic.PureOps.Ideal.Laws
public import Mathlib.Tactic.Linarith
public import Mathlib.Tactic.NormNum

@[expose] public section

noncomputable section

namespace Cert.Expo

open Idealize.ShloMosaic
open scoped BigOperators

/-- The float of exponent field `n` with every other bit zero. -/
def T (n : ℕ) : EReal := Ideal.ofBits .f32 (BitVec.ofNat 32 n <<< 23)

theorem field_of (n : Fin 256) : ((BitVec.ofNat 32 n.val <<< 23).extractLsb' 23 8).toNat = n.val
    ∧ ((BitVec.ofNat 32 n.val <<< 23).extractLsb' 0 23).toNat = 0 ∧ ((BitVec.ofNat 32 n.val <<< 23).extractLsb' 31 1) = 0#1 := by
  revert n; decide +kernel

/-- A power of two. -/
def P (z : ℤ) : ℝ := (2 : ℝ) ^ z

theorem P_pos (z : ℤ) : 0 < P z := zpow_pos (by norm_num) z
theorem P_lt {a b : ℤ} : P a < P b ↔ a < b := zpow_lt_zpow_iff_right₀ (by norm_num)
theorem P_le {a b : ℤ} : P a ≤ P b ↔ a ≤ b := zpow_le_zpow_iff_right₀ (by norm_num)

theorem ieee_pow (b : BitVec 32) (n : ℕ) (h1 : 1 ≤ n) (h2 : n ≤ 254) (he : (b.extractLsb' 23 8).toNat = n) (hf : (b.extractLsb' 0 23).toNat = 0)
    (hs : b.extractLsb' 31 1 = 0#1) : Ideal.ieee 8 23 b = ((P ((n : ℤ) - 127) : ℝ) : EReal) := by
  have hs' : b.extractLsb' (8 + 23) 1 = 0#1 := hs
  unfold Ideal.ieee
  rw [he, hf, hs']
  have e1 : ¬ n = 2 ^ 8 - 1 := by have : (2 : ℕ) ^ 8 - 1 = 255 := by norm_num
                                  omega
  have e2 : ¬ n = 0 := by omega
  have e3 : ((0#1 : BitVec 1) == 1#1) = false := rfl
  simp only [e1, e2, e3, if_false, Bool.false_eq_true, one_mul, Nat.add_zero]
  refine congrArg _ ?_
  unfold P
  have e4 : (((2 ^ 23 : ℕ)) : ℝ) = (2 : ℝ) ^ (23 : ℤ) := by norm_num
  rw [e4, ← zpow_add₀ (by norm_num)]
  refine congrArg _ ?_
  norm_num

theorem ieee_top (b : BitVec 32) (he : (b.extractLsb' 23 8).toNat = 255) (hf : (b.extractLsb' 0 23).toNat = 0)
    (hs : b.extractLsb' 31 1 = 0#1) : Ideal.ieee 8 23 b = ⊤ := by
  have hs' : b.extractLsb' (8 + 23) 1 = 0#1 := hs
  unfold Ideal.ieee
  rw [he, hf, hs']
  simp

theorem T_pow (n : ℕ) (h1 : 1 ≤ n) (h2 : n ≤ 254) : T n = ((P ((n : ℤ) - 127) : ℝ) : EReal) := by
  obtain ⟨a, b, c⟩ := field_of ⟨n, by omega⟩
  exact ieee_pow _ n h1 h2 a b c

theorem T_top : T 255 = ⊤ := by
  obtain ⟨a, b, c⟩ := field_of ⟨255, by omega⟩
  exact ieee_top _ a b c

theorem exp2_int (z : ℤ) : Ideal.exp2 (((z : ℝ) : ℝ) : EReal) = ((P z : ℝ) : EReal) := by
  rw [Ideal.exp2_coe]
  congr 1
  exact Real.rpow_intCast 2 z

/-! ## The search for the exponent field -/

/-- One bit of the search: the candidate is kept when the value reaches it. -/
def fstep (v : EReal) (c b : BitVec 32) : BitVec 32 :=
  if Ideal.cmp .oge v (Ideal.ofBits .f32 (IntOp.shli .vector (c + b) 23#32)) = 1 then c + b else c
/-- The exponent field found. -/
def fld (v : EReal) : BitVec 32 :=
  fstep v (fstep v (fstep v (fstep v (fstep v (fstep v (fstep v (fstep v 0#32 128#32) 64#32) 32#32) 16#32) 8#32) 4#32) 2#32) 1#32

/-- The field is at least `n` and below `n + w`. -/
def Inv (v : EReal) (n w : ℕ) : Prop := n + w ≤ 256 ∧ (n = 0 ∨ T n ≤ v) ∧ (n + w = 256 ∨ v < T (n + w))

theorem cmp_oge (x y : EReal) : Ideal.cmp .oge x y = 1 ↔ y ≤ x := by
  unfold Ideal.cmp; by_cases h : y ≤ x <;> simp [h]
theorem cmp_olt (x y : EReal) : Ideal.cmp .olt x y = 1 ↔ x < y := by
  unfold Ideal.cmp; by_cases h : x < y <;> simp [h]

theorem shl_T (n b : ℕ) : Ideal.ofBits .f32 (IntOp.shli .vector (BitVec.ofNat 32 n + BitVec.ofNat 32 b) 23#32) = T (n + b) := by
  unfold T
  rw [BitVec.ofNat_add]
  rfl

theorem fstep_inv (v : EReal) (n b : ℕ) (hb : 1 ≤ b) (h : Inv v n (2 * b)) :
    ∃ n', fstep v (BitVec.ofNat 32 n) (BitVec.ofNat 32 b) = BitVec.ofNat 32 n' ∧ Inv v n' b := by
  obtain ⟨h1, h2, h3⟩ := h
  unfold fstep
  rw [shl_T]
  by_cases hc : T (n + b) ≤ v
  · rw [if_pos ((cmp_oge _ _).2 hc)]
    exact ⟨n + b, (BitVec.ofNat_add n b).symm, by omega, Or.inr hc, by rw [show n + b + b = n + 2 * b by omega]; exact h3⟩
  · rw [if_neg (fun e => hc ((cmp_oge _ _).1 e))]
    exact ⟨n, rfl, by omega, h2, Or.inr (not_le.1 hc)⟩

theorem fld_inv (v : EReal) : ∃ n, fld v = BitVec.ofNat 32 n ∧ Inv v n 1 := by
  obtain ⟨n1, e1, i1⟩ := fstep_inv v 0 128 (by omega) ⟨by omega, Or.inl rfl, Or.inl rfl⟩
  obtain ⟨n2, e2, i2⟩ := fstep_inv v n1 64 (by omega) i1
  obtain ⟨n3, e3, i3⟩ := fstep_inv v n2 32 (by omega) i2
  obtain ⟨n4, e4, i4⟩ := fstep_inv v n3 16 (by omega) i3
  obtain ⟨n5, e5, i5⟩ := fstep_inv v n4 8 (by omega) i4
  obtain ⟨n6, e6, i6⟩ := fstep_inv v n5 4 (by omega) i5
  obtain ⟨n7, e7, i7⟩ := fstep_inv v n6 2 (by omega) i6
  obtain ⟨n8, e8, i8⟩ := fstep_inv v n7 1 (by omega) i7
  refine ⟨n8, ?_, i8⟩
  unfold fld
  rw [show (0#32) = BitVec.ofNat 32 0 from rfl, e1, e2, e3, e4, e5, e6, e7, e8]

/-- The scale exponent the kernel takes from the field. -/
def kexp (w : BitVec 32) : BitVec 32 := if IntOp.andi (IntOp.cmpi .sgt w 0#32) (IntOp.cmpi .slt w 255#32) = 1 then w - 126#32 else 0#32
/-- The scale, and its inverse. -/
def kscale (v : EReal) : EReal := Ideal.ofBits .f32 (IntOp.shli .vector (127#32 + kexp (fld v)) 23#32)
def kinv (v : EReal) : EReal := Ideal.ofBits .f32 (IntOp.shli .vector (127#32 - kexp (fld v)) 23#32)

theorem kexp_pos (n : Fin 254) : IntOp.shli .vector (127#32 + kexp (BitVec.ofNat 32 n.val)) 23#32
      = BitVec.ofNat 32 (if 0 < n.val then n.val + 1 else 127) <<< 23
    ∧ IntOp.shli .vector (127#32 - kexp (BitVec.ofNat 32 n.val)) 23#32 = BitVec.ofNat 32 (if 0 < n.val then 253 - n.val else 127) <<< 23 := by
  revert n; decide +kernel
theorem kexp_top : kexp (BitVec.ofNat 32 255) = 0#32 := by decide +kernel

/-- The scale exponent, as an integer, by the field. -/
def ez (n : ℕ) : ℤ := if 0 < n ∧ n < 255 then (n : ℤ) - 126 else 0

theorem kscale_eq (v : EReal) (n : ℕ) (hn : fld v = BitVec.ofNat 32 n) (h : n ≤ 252 ∨ n = 255) :
    kscale v = ((P (ez n) : ℝ) : EReal) ∧ kinv v = ((P (-ez n) : ℝ) : EReal) := by
  unfold kscale kinv
  rw [hn]
  rcases h with h | h
  · obtain ⟨a, b⟩ := kexp_pos ⟨n, by omega⟩
    simp only at a b
    rw [a, b]
    by_cases hz : 0 < n
    · rw [if_pos hz, if_pos hz]
      refine ⟨(T_pow (n + 1) (by omega) (by omega)).trans ?_, (T_pow (253 - n) (by omega) (by omega)).trans ?_⟩
      · rw [show ((n + 1 : ℕ) : ℤ) - 127 = ez n by unfold ez; rw [if_pos ⟨hz, by omega⟩]; omega]
      · rw [show ((253 - n : ℕ) : ℤ) - 127 = -ez n by unfold ez; rw [if_pos ⟨hz, by omega⟩]; omega]
    · rw [if_neg hz, if_neg hz]
      have e0 : ez n = 0 := by unfold ez; rw [if_neg (fun h => hz h.1)]
      rw [e0]
      exact ⟨T_pow 127 (by omega) (by omega), T_pow 127 (by omega) (by omega)⟩
  · subst h
    rw [kexp_top]
    have e0 : ez 255 = 0 := rfl
    rw [e0]
    exact ⟨T_pow 127 (by omega) (by omega), T_pow 127 (by omega) (by omega)⟩

/-! ## The same exponent by a count of powers of two -/

theorem c126 : Ideal.ofBits .f32 0x42FC0000#32 = ((126 : ℝ) : EReal) := by
  refine (show _ = Ideal.ieee 8 23 0x42FC0000#32 from rfl).trans ?_
  unfold Ideal.ieee
  have a : (BitVec.extractLsb' 23 8 0x42FC0000#32).toNat = 133 := by decide
  have b : (BitVec.extractLsb' 0 23 0x42FC0000#32).toNat = 8126464 - 0 := by decide
  have c : (BitVec.extractLsb' (8 + 23) 1 0x42FC0000#32) = 0#1 := by decide
  rw [a, b, c]
  norm_num
theorem c1 : Ideal.ofBits .f32 0x3F800000#32 = 1 := by
  have := T_pow 127 (by omega) (by omega)
  exact this.trans (by unfold P; norm_num)
theorem c128 : Ideal.ofBits .f32 0x43000000#32 = ((128 : ℝ) : EReal) := by
  have := T_pow 134 (by omega) (by omega)
  exact this.trans (by unfold P; norm_num)

theorem cneg126 : Ideal.ofBits .f32 0xC2FC0000#32 = ((-126 : ℝ) : EReal) := by
  refine (show _ = Ideal.ieee 8 23 0xC2FC0000#32 from rfl).trans ?_
  unfold Ideal.ieee
  have a : (BitVec.extractLsb' 23 8 0xC2FC0000#32).toNat = 133 := by decide
  have b : (BitVec.extractLsb' 0 23 0xC2FC0000#32).toNat = 8126464 - 0 := by decide
  have c : (BitVec.extractLsb' (8 + 23) 1 0xC2FC0000#32) = 1#1 := by decide
  rw [a, b, c]
  norm_num

theorem andi_one (a b : BitVec 1) : IntOp.andi a b = 1 ↔ a = 1 ∧ b = 1 := by revert a b; decide

/-- The number of exponents `k - 126` below 128 whose power of two the value reaches. -/
def cnt (v : EReal) : EReal :=
  ∑ k : Fin 256, (if IntOp.andi (Ideal.cmp .olt (((k.val : ℝ) : EReal) - Ideal.ofBits .f32 0x42FC0000#32) (Ideal.ofBits .f32 0x43000000#32))
      (Ideal.cmp .oge v (Ideal.exp2 (((k.val : ℝ) : EReal) - Ideal.ofBits .f32 0x42FC0000#32))) = 1
    then Ideal.ofBits .f32 0x3F800000#32 else Ideal.ofBits .f32 0x00000000#32)
/-- The scale exponent the reference takes. -/
def rexp (v : EReal) : EReal :=
  if IntOp.andi (Ideal.cmp .oge v (Ideal.exp2 (Ideal.ofBits .f32 0xC2FC0000#32))) (Ideal.cmp .olt v (Ideal.exp2 (Ideal.ofBits .f32 0x43000000#32))) = 1
  then cnt v - Ideal.ofBits .f32 0x42FC0000#32 else Ideal.ofBits .f32 0x00000000#32

theorem cnt_eq (v : EReal) (n : ℕ) (h1 : 1 ≤ n) (h2 : n ≤ 252) (hl : ((P ((n : ℤ) - 127) : ℝ) : EReal) ≤ v) (hu : v < ((P ((n : ℤ) - 126) : ℝ) : EReal)) :
    cnt v = ((n : ℝ) : EReal) := by
  have key : ∀ k : Fin 256, (IntOp.andi (Ideal.cmp .olt (((k.val : ℝ) : EReal) - Ideal.ofBits .f32 0x42FC0000#32) (Ideal.ofBits .f32 0x43000000#32))
      (Ideal.cmp .oge v (Ideal.exp2 (((k.val : ℝ) : EReal) - Ideal.ofBits .f32 0x42FC0000#32))) = 1) ↔ k.val < n := by
    intro k
    rw [andi_one, cmp_olt, cmp_oge, c126, c128, ← EReal.coe_sub]
    have e : ((k.val : ℝ) - 126) = (((k.val : ℤ) - 126 : ℤ) : ℝ) := by push_cast; ring
    rw [e, exp2_int, EReal.coe_lt_coe_iff]
    constructor
    · rintro ⟨_, hb⟩
      have := EReal.coe_lt_coe_iff.1 (lt_of_le_of_lt hb hu)
      have := P_lt.1 this
      omega
    · intro hk
      refine ⟨?_, le_trans (EReal.coe_le_coe_iff.2 (P_le.2 (by omega))) hl⟩
      have : ((k.val : ℤ) - 126 : ℤ) < 128 := by omega
      exact_mod_cast this
  unfold cnt
  simp only [key, c1, Ideal.ofBits_zero_f32]
  rw [Finset.sum_boole]
  have : (Finset.univ.filter fun k : Fin 256 => k.val < n).card = n := by
    rw [Fin.card_filter_val_lt]
    omega
  rw [this]
  exact (EReal.coe_natCast).symm

theorem rexp_eq (v : EReal) (n : ℕ) (hi : Inv v n 1) (hv : v = ⊤ ∨ v < ((P 126 : ℝ) : EReal)) :
    rexp v = ((((ez n : ℤ) : ℝ)) : EReal) ∧ (n ≤ 252 ∨ n = 255) := by
  obtain ⟨h1, h2, h3⟩ := hi
  have elo : Ideal.exp2 (Ideal.ofBits .f32 0xC2FC0000#32) = ((P (-126) : ℝ) : EReal) := by
    rw [cneg126, ← exp2_int]; norm_num
  have ehi : Ideal.exp2 (Ideal.ofBits .f32 0x43000000#32) = ((P 128 : ℝ) : EReal) := by
    rw [c128, ← exp2_int]; norm_num
  unfold rexp
  rw [elo, ehi]
  by_cases hz : n = 0
  · subst hz
    have : v < T 1 := h3.resolve_left (by omega)
    rw [T_pow 1 (by omega) (by omega)] at this
    rw [if_neg, Ideal.ofBits_zero_f32]
    · exact ⟨by unfold ez; simp, Or.inl (by omega)⟩
    · intro h
      rw [andi_one, cmp_oge] at h
      exact absurd (lt_of_le_of_lt h.1 this) (by norm_num)
  · by_cases ht : n = 255
    · subst ht
      have : T 255 ≤ v := h2.resolve_left (by omega)
      rw [T_top, top_le_iff] at this
      subst this
      rw [if_neg, Ideal.ofBits_zero_f32]
      · exact ⟨by unfold ez; simp, Or.inr rfl⟩
      · intro h
        rw [andi_one, cmp_olt] at h
        exact absurd h.2 (by simp)
    · have hl : T n ≤ v := h2.resolve_left hz
      have hu : v < T (n + 1) := h3.resolve_left (by omega)
      have hv' : v < ((P 126 : ℝ) : EReal) := by
        refine hv.resolve_left ?_
        rintro rfl
        exact absurd hu (by simp)
      rw [T_pow n (by omega) (by omega)] at hl
      have := P_lt.1 (EReal.coe_lt_coe_iff.1 (lt_of_le_of_lt hl hv'))
      rw [T_pow (n + 1) (by omega) (by omega), show ((n + 1 : ℕ) : ℤ) - 127 = (n : ℤ) - 126 by omega] at hu
      refine ⟨?_, Or.inl (by omega)⟩
      rw [if_pos, cnt_eq v n (by omega) (by omega) hl hu, c126, ← EReal.coe_sub]
      · unfold ez
        rw [if_pos (by omega)]
        push_cast
        rfl
      · rw [andi_one, cmp_oge, cmp_olt]
        exact ⟨le_trans (EReal.coe_le_coe_iff.2 (P_le.2 (by omega))) hl, lt_trans hv' (EReal.coe_lt_coe_iff.2 (P_lt.2 (by omega)))⟩

/-- The kernel's scale and inverse scale are the reference's powers of two. -/
theorem scale_eq (v : EReal) (hv : v = ⊤ ∨ v < ((P 126 : ℝ) : EReal)) :
    kscale v = Ideal.exp2 (rexp v) ∧ kinv v = Ideal.exp2 (Ideal.ofBits .f32 0x00000000#32 - rexp v) := by
  obtain ⟨n, hn, hi⟩ := fld_inv v
  obtain ⟨hr, hb⟩ := rexp_eq v n hi hv
  obtain ⟨a, b⟩ := kscale_eq v n hn hb
  rw [a, b, hr, Ideal.ofBits_zero_f32, zero_sub, exp2_int, ← EReal.coe_neg, ← Int.cast_neg, exp2_int]
  exact ⟨rfl, rfl⟩

end Cert.Expo
-- ==== Proof.RowMath.lean ====
/-
  A row's greatest magnitude, its scale and its codes, as functions of the row's entries.
-/
module

public import proofs.«01_k».proof.Proof.Expo
public import Idealize.ShloMosaic.Lib.ValueLayout
public import Idealize.ShloMosaic.Lib.ValueLayoutCasts
public import Idealize.ShloMosaic.Lib.MatmulPlain

@[expose] public section

noncomputable section

namespace Cert.Expo

open Idealize.ShloMosaic Idealize.ShloMosaic.ValueIdx
open scoped BigOperators

/-- The greatest magnitude of a row. -/
def amaxr (x : Fin 3072 → EReal) : EReal := Finset.univ.fold max (Ideal.ofBits .f32 0xFF800000#32) (fun k => max (x k) (-(x k)))
/-- That magnitude over the greatest code. -/
def vrow (x : Fin 3072 → EReal) : EReal := amaxr x * Ideal.ofBits .f32 0x3B124925#32
/-- An entry's code for an inverse scale. -/
def code (x inv : EReal) : EReal := min (Ideal.ofBits .f32 0x43E00000#32) (max (Ideal.ofBits .f32 0xC3E00000#32) (x * inv))

theorem max_row {M : ℕ} (Y : FVec Ideal ⟨2, ![M, 3072]⟩ .f32) (h : Shape.Reduces ⟨2, ![M, 3072]⟩ [1] ⟨1, ![M]⟩)
    (hc : (⟨1, ![M]⟩ : Shape).ShapeCasts ⟨2, ![M, 1]⟩) (hφ) (ha) (i : Fin M) (z : Fin 1) :
    shapeCast ⟨2, ![M, 1]⟩ (multiReduction .maximumf [1] ⟨1, ![M]⟩ (absf Y) 0xFF800000#32 h hφ ha) hc (ix2 i z) = amaxr (fun k => Y (ix2 i k)) := by
  rw [shapeCast_a_a1_apply, Ideal.multiReduction_maximumf_single]
  unfold amaxr
  refine Finset.fold_congr ?_
  intro k _
  have : h.lift (ix1 i) k = ix2 i k := by
    funext a
    match a with
    | ⟨0, _⟩ => rfl
    | ⟨1, _⟩ => rfl
  simp only [Function.comp]
  rw [this]
  rfl

theorem add_row {M : ℕ} (Y : FVec Ideal ⟨2, ![M, 256]⟩ .f32) (h : Shape.Reduces ⟨2, ![M, 256]⟩ [1] ⟨1, ![M]⟩)
    (hc : (⟨1, ![M]⟩ : Shape).ShapeCasts ⟨2, ![M, 1]⟩) (hφ) (ha) (i : Fin M) (z : Fin 1) :
    shapeCast ⟨2, ![M, 1]⟩ (multiReduction .add [1] ⟨1, ![M]⟩ Y 0x00000000#32 h hφ ha) hc (ix2 i z) = ∑ k : Fin 256, Y (ix2 i k) := by
  rw [shapeCast_a_a1_apply, Ideal.multiReduction_add_single]
  refine Finset.sum_congr rfl ?_
  intro k _
  have : h.lift (ix1 i) k = ix2 i k := by
    funext a
    match a with
    | ⟨0, _⟩ => rfl
    | ⟨1, _⟩ => rfl
  rw [this]
  rfl

theorem col_bc {α : Type} {a b : ℕ} (v : (⟨2, ![a, 1]⟩ : Shape).Idx → α) (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A greatest magnitude that is infinite or a bf16 value leaves a value whose scale is a power of two. -/
theorem vrow_ok (x : Fin 3072 → EReal) (B : ℝ) (hB : B ≤ (2 : ℝ) ^ 128) (hx : ∀ k, max (x k) (-(x k)) ≤ ((B : ℝ) : EReal) ∨ max (x k) (-(x k)) = ⊤) :
    vrow x = ⊤ ∨ vrow x < ((P 126 : ℝ) : EReal) := by
  have hc : ∃ c : ℝ, Ideal.ofBits .f32 0x3B124925#32 = ((c : ℝ) : EReal) ∧ 0 < c ∧ c < (2 : ℝ) ^ (-3 : ℤ) := by
    refine ⟨(2 ^ 23 + 1198373) * (2 : ℝ) ^ (-32 : ℤ), (show _ = Ideal.ieee 8 23 0x3B124925#32 from rfl).trans ?_, by norm_num, by norm_num⟩
    unfold Ideal.ieee
    have a : (BitVec.extractLsb' 23 8 0x3B124925#32).toNat = 118 := by decide
    have b : (BitVec.extractLsb' 0 23 0x3B124925#32).toNat = 1198373 - 0 := by decide
    have c : (BitVec.extractLsb' (8 + 23) 1 0x3B124925#32) = 0#1 := by decide
    rw [a, b, c]
    norm_num
  obtain ⟨c, ec, c0, c1⟩ := hc
  have ha : amaxr x = ⊤ ∨ amaxr x ≤ ((B : ℝ) : EReal) := by
    unfold amaxr
    by_cases ht : ∃ k, max (x k) (-(x k)) = ⊤
    · left
      obtain ⟨k, hk⟩ := ht
      rw [← top_le_iff, Finset.le_fold_max]
      exact Or.inr ⟨k, Finset.mem_univ _, hk.ge⟩
    · right
      rw [Finset.fold_max_le]
      refine ⟨?_, fun k _ => (hx k).resolve_right (fun e => ht ⟨k, e⟩)⟩
      have : Ideal.ofBits .f32 0xFF800000#32 = ⊥ := by
        refine (show _ = Ideal.ieee 8 23 0xFF800000#32 from rfl).trans ?_
        unfold Ideal.ieee
        simp
      rw [this]; exact bot_le
  unfold vrow
  rw [ec]
  rcases ha with ha | ha
  · left; rw [ha]; exact EReal.top_mul_coe_of_pos c0
  · right
    induction h : amaxr x using EReal.rec with
    | bot => rw [EReal.bot_mul_coe_of_pos c0]; exact EReal.bot_lt_coe _
    | top => rw [h] at ha; exact absurd ha (by simp)
    | coe r =>
      rw [h] at ha
      rw [← EReal.coe_mul, EReal.coe_lt_coe_iff]
      have hr : r ≤ B := EReal.coe_le_coe_iff.1 ha
      have : P 126 = (2 : ℝ) ^ 126 := by unfold P; norm_num
      rw [this]
      calc r * c ≤ (2 : ℝ) ^ 128 * c := mul_le_mul_of_nonneg_right (hr.trans hB) c0.le
        _ < (2 : ℝ) ^ 128 * (2 : ℝ) ^ (-3 : ℤ) := mul_lt_mul_of_pos_left c1 (by norm_num)
        _ ≤ (2 : ℝ) ^ 126 := by norm_num

end Cert.Expo
-- ==== Proof.Tile.lean ====
/-
  The quantiser of a tile of 32 rows, read at an index: each row's codes and scale are the row's own.
-/
module

public import proofs.«01_k».proof.Proof.Body
public import proofs.«01_k».proof.Proof.RowMath

@[expose] public section

set_option maxRecDepth 16384

noncomputable section

namespace Cert.KernelIdeal.Hand

open Cert.KernelIdeal Cert.KernelIdeal.Gen Cert.Expo
open Idealize.ShloMosaic
open Idealize.ShloMosaic.ValueIdx (ix1 ix2 ix3)
open scoped BigOperators

/-- One bit of the search, on a column. -/
def vstep (v : FVec Ideal S32x1 .f32) (c : IVec S32x1 32) (b : BitVec 32) : IVec S32x1 32 :=
  select (cmpf .oge v (bitcastToFloat .f32 (shli (addi c (broadcast S32x1 b)) (broadcast S32x1 23#32)))) (addi c (broadcast S32x1 b)) c
theorem vstep_at (v : FVec Ideal S32x1 .f32) (c : IVec S32x1 32) (b : BitVec 32) (i : S32x1.Idx) : vstep v c b i = fstep (v i) (c i) b := rfl
/-- The exponent from the field, on a column. -/
def vexp (c : IVec S32x1 32) : IVec S32x1 32 :=
  select (andi (cmpi .sgt c (broadcast S32x1 0#32)) (cmpi .slt c (broadcast S32x1 255#32))) (subi c (broadcast S32x1 126#32)) (broadcast S32x1 0#32)
theorem vexp_at (c : IVec S32x1 32) (i : S32x1.Idx) : vexp c i = kexp (c i) := rfl

theorem pay11_eq (v : FVec Ideal S32x1 .f32) (c : IVec S32x1 32) : k0_pay11 v c 1#32 = vexp (vstep v c 1#32) := by
  unfold k0_pay11 vexp vstep
  rfl
theorem pay10_eq (v : FVec Ideal S32x1 .f32) : k0_pay10 v k0_pay8 k0_pay9 23#32
    = vstep v (vstep v (vstep v (vstep v (vstep v (vstep v (vstep v (broadcast S32x1 0#32) 128#32) 64#32) 32#32) 16#32) 8#32) 4#32) 2#32 := by
  unfold k0_pay10 k0_pay9 k0_pay8
  rfl

theorem tile_fld (v : FVec Ideal S32x1 .f32) (i : S32x1.Idx) :
    k0_pay11 v (k0_pay10 v k0_pay8 k0_pay9 23#32) 1#32 i = kexp (fld (v i)) := by
  rw [pay11_eq, pay10_eq, vexp_at]
  simp only [vstep_at]
  rfl

section
variable (Y : Vec Ideal S32x3072 .bf16)

theorem tile_v (i : Fin 32) (z : Fin 1) : (k0_pay7 (F := Ideal) Y (ix2 i z) : EReal) = vrow (fun k => Y (ix2 i k)) := by
  have e := max_row (M := 32) (extf (F := Ideal) .f32 Y bitsLt_bf16_f32) reduces_S32x3072_S32 shapeCasts_S32_S32x1 (.inl rfl) rfl i z
  unfold k0_pay7 k0_pay6 vrow
  exact congrArg (fun a : EReal => a * Ideal.ofBits .f32 0x3B124925#32) e

/-- The codes of a tile. -/
abbrev tq : Vec Ideal S32x3072 .fp8e4m3 := k0_pay12 (k0_pay6 Y) (k0_pay7 Y) (k0_pay10 (k0_pay7 Y) k0_pay8 k0_pay9 23#32) 1#32
/-- The scales of a tile. -/
abbrev ts : Vec Ideal S32x1 .f32 := k0_pay13 (k0_pay7 Y) (k0_pay10 (k0_pay7 Y) k0_pay8 k0_pay9 23#32) 1#32

theorem cast_id {s : Shape} {α : Type} (v : s.Idx → α) (h : s.ShapeCasts s) : shapeCast s v h = v :=
  funext fun j => shapeCast_apply v h j j rfl

/-- The scales and inverse scales from exponents, on a column. -/
def vsc (e : IVec S32x1 32) : FVec Ideal S32x1 .f32 := bitcastToFloat .f32 (shli (addi (broadcast S32x1 127#32) e) (broadcast S32x1 23#32))
def vinv (e : IVec S32x1 32) : FVec Ideal S32x1 .f32 := bitcastToFloat .f32 (shli (subi (broadcast S32x1 127#32) e) (broadcast S32x1 23#32))
theorem vsc_at (e : IVec S32x1 32) (i : S32x1.Idx) : vsc e i = Ideal.ofBits .f32 (IntOp.shli .vector (127#32 + e i) 23#32) := rfl
theorem vinv_at (e : IVec S32x1 32) (i : S32x1.Idx) : vinv e i = Ideal.ofBits .f32 (IntOp.shli .vector (127#32 - e i) 23#32) := rfl

theorem ts_at (i : Fin 32) (z : Fin 1) : (ts Y (ix2 i z) : EReal) = kscale (vrow (fun k => Y (ix2 i k))) := by
  have h : ts Y = vsc (k0_pay11 (k0_pay7 Y) (k0_pay10 (k0_pay7 Y) k0_pay8 k0_pay9 23#32) 1#32) := by
    unfold ts k0_pay13
    exact (cast_id _ _).trans rfl
  rw [h, vsc_at, tile_fld, tile_v]
  rfl

theorem tq_at (i : Fin 32) (k : Fin 3072) : (tq Y (ix2 i k) : EReal) = code (Y (ix2 i k)) (kinv (vrow (fun k => Y (ix2 i k)))) := by
  have h : tq Y (ix2 i k) = code (Y (ix2 i k)) (broadcastTo S32x3072 (vinv (k0_pay11 (k0_pay7 Y) (k0_pay10 (k0_pay7 Y) k0_pay8 k0_pay9 23#32) 1#32)) broadcasts_S32x1_S32x3072 (ix2 i k)) := by
    unfold tq k0_pay12 k0_pay6
    exact (congrFun (cast_id _ _) _).trans rfl
  rw [h, col_bc, vinv_at, tile_fld, tile_v]
  rfl

end

end Cert.KernelIdeal.Hand
-- ==== Proof.Tiles.lean ====
/-
  The six tiles of rows run the same quantiser: each tile's codes and scales are the ones already read at an index.
-/
module

public import proofs.«01_k».proof.Proof.Tile

@[expose] public section

set_option maxRecDepth 16384

noncomputable section

namespace Cert.KernelIdeal.Hand

open Cert.KernelIdeal Cert.KernelIdeal.Gen Cert.Expo
open Idealize.ShloMosaic
open Idealize.ShloMosaic.ValueIdx (ix1 ix2 ix3)
open scoped BigOperators

/-- The exponent of a column, from its eight steps. -/
def vall (v : FVec Ideal S32x1 .f32) : IVec S32x1 32 :=
  vexp (vstep v (vstep v (vstep v (vstep v (vstep v (vstep v (vstep v (vstep v (broadcast S32x1 0#32) 128#32) 64#32) 32#32) 16#32) 8#32) 4#32) 2#32) 1#32)
/-- Codes of a block from a column of inverse scales. -/
def vcode (x : FVec Ideal S32x3072 .f32) (inv : FVec Ideal S32x1 .f32) : FVec Ideal S32x3072 .fp8e4m3 :=
  truncf .fp8e4m3 (minimumf (broadcast S32x3072 (Scalar.ofBits (F := Ideal) .f32 0x43E00000#32)) (maximumf (broadcast S32x3072 (Scalar.ofBits (F := Ideal) .f32 0xC3E00000#32))
    (mulf x (broadcastTo S32x3072 inv broadcasts_S32x1_S32x3072)))) bitsLt_fp8e4m3_f32

section
variable (v : FVec Ideal S32x1 .f32) (c : IVec S32x1 32) (x : FVec Ideal S32x3072 .f32) (Y : Vec Ideal S32x3072 .bf16)

theorem vall_at (i : S32x1.Idx) : vall v i = kexp (fld (v i)) := by
  unfold vall
  rw [vexp_at]
  simp only [vstep_at]
  rfl

theorem vts (i : Fin 32) (z : Fin 1) : (vsc (vall (k0_pay7 (F := Ideal) Y)) (ix2 i z) : EReal) = kscale (vrow (fun k => Y (ix2 i k))) := by
  rw [vsc_at, vall_at, tile_v]
  rfl
theorem vtq (i : Fin 32) (k : Fin 3072) : (vcode (k0_pay6 Y) (vinv (vall (k0_pay7 (F := Ideal) Y))) (ix2 i k) : EReal) = code (Y (ix2 i k)) (kinv (vrow (fun k => Y (ix2 i k)))) := by
  have h : vcode (k0_pay6 Y) (vinv (vall (k0_pay7 (F := Ideal) Y))) (ix2 i k) = code (Y (ix2 i k)) (broadcastTo S32x3072 (vinv (vall (k0_pay7 (F := Ideal) Y))) broadcasts_S32x1_S32x3072 (ix2 i k)) := by
    unfold vcode k0_pay6
    rfl
  rw [h, col_bc, vinv_at, vall_at, tile_v]
  rfl

theorem p10_all : k0_pay11 v (k0_pay10 v k0_pay8 k0_pay9 23#32) 1#32 = vall v := by
  rw [pay11_eq, pay10_eq]
  rfl
theorem p12_eq (h : k0_pay11 v c 1#32 = vall v) : k0_pay12 x v c 1#32 = vcode x (vinv (vall v)) := by
  unfold k0_pay12
  rw [← h]
  exact (cast_id _ _).trans rfl
theorem p13_eq (h : k0_pay11 v c 1#32 = vall v) : k0_pay13 v c 1#32 = vsc (vall v) := by
  unfold k0_pay13
  rw [← h]
  exact (cast_id _ _).trans rfl

theorem p16_eq : k0_pay16 x = vstep (k0_pay15 x) (vstep (k0_pay15 x) (vstep (k0_pay15 x) (vstep (k0_pay15 x) (vstep (k0_pay15 x) (broadcast S32x1 0#32) 128#32) 64#32) 32#32) 16#32) 8#32 := by
  unfold k0_pay16
  generalize k0_pay15 x = v
  unfold vstep
  rfl
theorem p19_eq : k0_pay19 v c (addi c (broadcast S32x1 4#32)) (shli (addi c (broadcast S32x1 4#32)) (broadcast S32x1 23#32)) = vexp (vstep v (vstep v (vstep v c 4#32) 2#32) 1#32) := by
  unfold k0_pay19 vexp vstep
  rfl
theorem p19_all : k0_pay19 (k0_pay15 x) (k0_pay16 x) (k0_pay17 x) (k0_pay18 x) = vall (k0_pay15 x) := by
  have h := p19_eq (k0_pay15 x) (k0_pay16 x)
  unfold k0_pay18 k0_pay17
  refine h.trans ?_
  rw [p16_eq]
  rfl
theorem p22_eq : k0_pay22 (k0_pay21 x (k0_pay15 x) (k0_pay16 x) (k0_pay17 x) (k0_pay18 x)) = vcode x (vinv (vall (k0_pay15 x))) := by
  unfold k0_pay22
  refine (cast_id _ _).trans ?_
  unfold k0_pay21
  rw [← p19_all]
  rfl
theorem p23_eq : k0_pay23 (k0_pay20 (k0_pay15 x) (k0_pay16 x) (k0_pay17 x) (k0_pay18 x)) = vsc (vall (k0_pay15 x)) := by
  unfold k0_pay23
  refine (cast_id _ _).trans ?_
  unfold k0_pay20
  rw [← p19_all]
  rfl

theorem p26_eq : k0_pay26 Y = vstep (k0_pay25 Y) (vstep (k0_pay25 Y) (vstep (k0_pay25 Y) (vstep (k0_pay25 Y) (broadcast S32x1 0#32) 128#32) 64#32) 32#32) 16#32 := by
  unfold k0_pay26
  generalize k0_pay25 Y = v
  unfold vstep
  rfl
theorem p28_eq : k0_pay28 v c k0_pay27 = vexp (vstep v (vstep v (vstep v (vstep v c 8#32) 4#32) 2#32) 1#32) := by
  unfold k0_pay28 k0_pay27 vexp vstep
  rfl
theorem p28_all : k0_pay28 (k0_pay25 Y) (k0_pay26 Y) k0_pay27 = vall (k0_pay25 Y) := by
  rw [p28_eq, p26_eq]
  rfl
theorem p31_eq : k0_pay31 x (k0_pay30 (k0_pay25 Y) (k0_pay26 Y) k0_pay27) = vcode x (vinv (vall (k0_pay25 Y))) := by
  unfold k0_pay31
  refine (cast_id _ _).trans ?_
  unfold k0_pay30
  rw [← p28_all]
  rfl
theorem p32_eq : k0_pay32 (k0_pay29 (k0_pay25 Y) (k0_pay26 Y) k0_pay27) = vsc (vall (k0_pay25 Y)) := by
  unfold k0_pay32
  refine (cast_id _ _).trans ?_
  unfold k0_pay29
  rw [← p28_all]
  rfl

theorem p35_eq : k0_pay35 Y = vstep (k0_pay34 Y) (vstep (k0_pay34 Y) (broadcast S32x1 0#32) 128#32) 64#32 := by
  unfold k0_pay35
  generalize k0_pay34 Y = v
  unfold vstep
  rfl
theorem p38_eq : k0_pay38 v c (addi c (broadcast S32x1 32#32)) (bitcastToFloat .f32 (shli (addi c (broadcast S32x1 32#32)) (broadcast S32x1 23#32)))
    = vexp (vstep v (vstep v (vstep v (vstep v (vstep v (vstep v c 32#32) 16#32) 8#32) 4#32) 2#32) 1#32) := by
  unfold k0_pay38 vexp vstep
  rfl
theorem p38_all : k0_pay38 (k0_pay34 Y) (k0_pay35 Y) (k0_pay36 Y) (k0_pay37 Y) = vall (k0_pay34 Y) := by
  have h := p38_eq (k0_pay34 Y) (k0_pay35 Y)
  unfold k0_pay37 k0_pay36
  refine h.trans ?_
  rw [p35_eq]
  rfl
theorem p39_eq : k0_pay39 x c = vcode x (vinv c) := by
  unfold k0_pay39
  exact (cast_id _ _).trans rfl
theorem p40_eq : k0_pay40 (F := Ideal) c = vsc c := by
  unfold k0_pay40
  exact (cast_id _ _).trans rfl

theorem p43_eq : k0_pay43 Y = vstep (k0_pay42 Y) (broadcast S32x1 0#32) 128#32 := by
  unfold k0_pay43
  generalize k0_pay42 Y = v
  unfold vstep
  rfl
theorem p45_eq : k0_pay45 v c (addi c (broadcast S32x1 64#32)) = vstep v (vstep v (vstep v (vstep v (vstep v (vstep v (vstep v c 64#32) 32#32) 16#32) 8#32) 4#32) 2#32) 1#32 := by
  unfold k0_pay45 vstep
  rfl
theorem p46_eq : k0_pay46 c = vexp c := by
  unfold k0_pay46 vexp
  rfl
theorem p46_all : k0_pay46 (k0_pay45 (k0_pay42 Y) (k0_pay43 Y) (k0_pay44 Y)) = vall (k0_pay42 Y) := by
  have h := p45_eq (k0_pay42 Y) (k0_pay43 Y)
  unfold k0_pay44
  rw [p46_eq]
  refine (congrArg vexp h).trans ?_
  rw [p43_eq]
  rfl
theorem p47_eq : k0_pay47 x c = vcode x (vinv (k0_pay46 c)) := by
  unfold k0_pay47
  exact (cast_id _ _).trans rfl
theorem p48_eq : k0_pay48 (F := Ideal) c = vsc (k0_pay46 c) := by
  unfold k0_pay48
  exact (cast_id _ _).trans rfl

theorem p51_eq : k0_pay51 v 0#32 = vstep v (vstep v (vstep v (vstep v (vstep v (vstep v (broadcast S32x1 0#32) 128#32) 64#32) 32#32) 16#32) 8#32) 4#32 := by
  unfold k0_pay51 vstep
  rfl
theorem p54_eq : k0_pay54 v c (addi c (broadcast S32x1 2#32)) k0_pay53 = vexp (vstep v (vstep v c 2#32) 1#32) := by
  unfold k0_pay54 k0_pay53 vexp vstep
  rfl
theorem p54_all : k0_pay54 v (k0_pay51 v 0#32) (k0_pay52 v 0#32) k0_pay53 = vall v := by
  have h := p54_eq v (k0_pay51 v 0#32)
  unfold k0_pay52
  refine h.trans ?_
  rw [p51_eq]
  rfl
theorem p55_eq : k0_pay55 x v (k0_pay51 v 0#32) (k0_pay52 v 0#32) k0_pay53 = vcode x (vinv (vall v)) := by
  unfold k0_pay55
  rw [← p54_all]
  exact (cast_id _ _).trans rfl
theorem p56_eq : k0_pay56 v (k0_pay51 v 0#32) (k0_pay52 v 0#32) k0_pay53 = vsc (vall v) := by
  unfold k0_pay56
  rw [← p54_all]
  exact (cast_id _ _).trans rfl

theorem v15 : k0_pay15 (k0_pay14 Y) = k0_pay7 Y := by unfold k0_pay15 k0_pay14 k0_pay7 k0_pay6; rfl
theorem v25 : k0_pay25 Y = k0_pay7 Y := by unfold k0_pay25 k0_pay24 k0_pay7 k0_pay6; rfl
theorem v34 : k0_pay34 Y = k0_pay7 Y := by unfold k0_pay34 k0_pay33 k0_pay7 k0_pay6; rfl
theorem v42 : k0_pay42 Y = k0_pay7 Y := by unfold k0_pay42 k0_pay41 k0_pay7 k0_pay6; rfl
theorem v50 : k0_pay50 Y = k0_pay7 Y := by unfold k0_pay50 k0_pay49 k0_pay7 k0_pay6; rfl

end

section
variable (X : S192x3072.Idx → Elt Ideal .bf16)
/-- A tile's codes and scales. -/
abbrev nq (Y : Vec Ideal S32x3072 .bf16) : FVec Ideal S32x3072 .fp8e4m3 := vcode (k0_pay6 Y) (vinv (vall (k0_pay7 (F := Ideal) Y)))
abbrev ns (Y : Vec Ideal S32x3072 .bf16) : FVec Ideal S32x1 .f32 := vsc (vall (k0_pay7 (F := Ideal) Y))

theorem qc0_eq : qc0 X = nq (x0 X) := p12_eq _ _ _ (p10_all _)
theorem qs0_eq : qs0 X = ns (x0 X) := p13_eq _ _ (p10_all _)
theorem qc1_eq : qc1 X = nq (x1 X) := by
  unfold qc1; rw [p22_eq, v15]; rfl
theorem qs1_eq : qs1 X = ns (x1 X) := by
  unfold qs1; rw [p23_eq, v15]
theorem qc2_eq : qc2 X = nq (x2 X) := by
  unfold qc2; rw [p31_eq, v25]; rfl
theorem qs2_eq : qs2 X = ns (x2 X) := by
  unfold qs2; rw [p32_eq, v25]
theorem qc3_eq : qc3 X = nq (x3 X) := by
  unfold qc3; rw [p39_eq, p38_all, v34]; rfl
theorem qs3_eq : qs3 X = ns (x3 X) := by
  unfold qs3; rw [p40_eq, p38_all, v34]
theorem qc4_eq : qc4 X = nq (x4 X) := by
  unfold qc4; rw [p47_eq, p46_all, v42]; rfl
theorem qs4_eq : qs4 X = ns (x4 X) := by
  unfold qs4; rw [p48_eq, p46_all, v42]
theorem qc5_eq : qc5 X = nq (x5 X) := by
  unfold qc5; rw [p55_eq, v50]; rfl
theorem qs5_eq : qs5 X = ns (x5 X) := by
  unfold qs5; rw [p56_eq, v50]
end

end Cert.KernelIdeal.Hand
-- ==== Proof.QVal.lean ====
/-
  The buffers read at an index: what a block of rows stored into one leaves, what a block of rows read from one gives,
  and the codes and scales every row of activations gets.
-/
module

public import proofs.«01_k».proof.Proof.Tiles

@[expose] public section

set_option maxRecDepth 16384

noncomputable section

namespace Cert.KernelIdeal.Hand

open Cert.KernelIdeal Cert.KernelIdeal.Gen Cert.Expo
open Idealize.ShloMosaic
open Idealize.ShloMosaic.ValueIdx (ix1 ix2 ix3)
open scoped BigOperators

theorem wr9 (f : S224x3072.Idx → Elt Ideal .fp8e4m3) (w : S32x3072.Idx → Elt Ideal .fp8e4m3) (o : ℕ) (hb) (i : Fin 224) (k : Fin 3072) :
    ((a9.access (Rect.unit (s := S224x3072) ![o, 0] S32x3072.size hb)).write (Elt Ideal) f w Finset.univ) (ix2 i k)
      = if h : o ≤ i.val ∧ i.val < o + 32 then w (ix2 ⟨i.val - o, by omega⟩ k) else f (ix2 i k) := by
  by_cases h : o ≤ i.val ∧ i.val < o + 32
  · rw [dif_pos h]
    have e : (a9.access (Rect.unit (s := S224x3072) ![o, 0] S32x3072.size hb)).emb (ix2 ⟨i.val - o, by omega⟩ k) = ix2 i k := by
      funext a
      refine Fin.ext ?_
      match a with
      | ⟨0, _⟩ => show o + 1 * (i.val - o) = i.val; omega
      | ⟨1, _⟩ => show 0 + 1 * k.val = k.val; omega
    rw [← e]
    exact (View.write_emb_of_mem _ _ (Finset.mem_univ _)).trans rfl
  · rw [dif_neg h]
    refine View.write_of_not_mem _ _ _ ?_
    intro hm
    obtain ⟨x, -, hx⟩ := Finset.mem_map.mp hm
    have h0 : o + 1 * (x 0).val = i.val := congrArg Fin.val (congrFun hx 0)
    have : (x 0).val < 32 := (x 0).isLt
    omega

theorem wr10 (f : S224x1.Idx → Elt Ideal .f32) (w : S32x1.Idx → Elt Ideal .f32) (o : ℕ) (hb) (i : Fin 224) (k : Fin 1) :
    ((a10.access (Rect.unit (s := S224x1) ![o, 0] S32x1.size hb)).write (Elt Ideal) f w Finset.univ) (ix2 i k)
      = if h : o ≤ i.val ∧ i.val < o + 32 then w (ix2 ⟨i.val - o, by omega⟩ k) else f (ix2 i k) := by
  by_cases h : o ≤ i.val ∧ i.val < o + 32
  · rw [dif_pos h]
    have e : (a10.access (Rect.unit (s := S224x1) ![o, 0] S32x1.size hb)).emb (ix2 ⟨i.val - o, by omega⟩ k) = ix2 i k := by
      funext a
      refine Fin.ext ?_
      match a with
      | ⟨0, _⟩ => show o + 1 * (i.val - o) = i.val; omega
      | ⟨1, _⟩ => show 0 + 1 * k.val = k.val; omega
    rw [← e]
    exact (View.write_emb_of_mem _ _ (Finset.mem_univ _)).trans rfl
  · rw [dif_neg h]
    refine View.write_of_not_mem _ _ _ ?_
    intro hm
    obtain ⟨x, -, hx⟩ := Finset.mem_map.mp hm
    have h0 : o + 1 * (x 0).val = i.val := congrArg Fin.val (congrFun hx 0)
    have : (x 0).val < 32 := (x 0).isLt
    omega

theorem wr13 (f : S224x1408.Idx → Elt Ideal .f32) (w : S64x1408.Idx → Elt Ideal .f32) (o : ℕ) (hb) (i : Fin 224) (k : Fin 1408) :
    ((a13.access (Rect.unit (s := S224x1408) ![o, 0] S64x1408.size hb)).write (Elt Ideal) f w Finset.univ) (ix2 i k)
      = if h : o ≤ i.val ∧ i.val < o + 64 then w (ix2 ⟨i.val - o, by omega⟩ k) else f (ix2 i k) := by
  by_cases h : o ≤ i.val ∧ i.val < o + 64
  · rw [dif_pos h]
    have e : (a13.access (Rect.unit (s := S224x1408) ![o, 0] S64x1408.size hb)).emb (ix2 ⟨i.val - o, by omega⟩ k) = ix2 i k := by
      funext a
      refine Fin.ext ?_
      match a with
      | ⟨0, _⟩ => show o + 1 * (i.val - o) = i.val; omega
      | ⟨1, _⟩ => show 0 + 1 * k.val = k.val; omega
    rw [← e]
    exact (View.write_emb_of_mem _ _ (Finset.mem_univ _)).trans rfl
  · rw [dif_neg h]
    refine View.write_of_not_mem _ _ _ ?_
    intro hm
    obtain ⟨x, -, hx⟩ := Finset.mem_map.mp hm
    have h0 : o + 1 * (x 0).val = i.val := congrArg Fin.val (congrFun hx 0)
    have : (x 0).val < 64 := (x 0).isLt
    omega

theorem wr14 (f : S224x1408.Idx → Elt Ideal .bf16) (w : S64x1408.Idx → Elt Ideal .bf16) (o : ℕ) (hb) (i : Fin 224) (k : Fin 1408) :
    ((a14.access (Rect.unit (s := S224x1408) ![o, 0] S64x1408.size hb)).write (Elt Ideal) f w Finset.univ) (ix2 i k)
      = if h : o ≤ i.val ∧ i.val < o + 64 then w (ix2 ⟨i.val - o, by omega⟩ k) else f (ix2 i k) := by
  by_cases h : o ≤ i.val ∧ i.val < o + 64
  · rw [dif_pos h]
    have e : (a14.access (Rect.unit (s := S224x1408) ![o, 0] S64x1408.size hb)).emb (ix2 ⟨i.val - o, by omega⟩ k) = ix2 i k := by
      funext a
      refine Fin.ext ?_
      match a with
      | ⟨0, _⟩ => show o + 1 * (i.val - o) = i.val; omega
      | ⟨1, _⟩ => show 0 + 1 * k.val = k.val; omega
    rw [← e]
    exact (View.write_emb_of_mem _ _ (Finset.mem_univ _)).trans rfl
  · rw [dif_neg h]
    refine View.write_of_not_mem _ _ _ ?_
    intro hm
    obtain ⟨x, -, hx⟩ := Finset.mem_map.mp hm
    have h0 : o + 1 * (x 0).val = i.val := congrArg Fin.val (congrFun hx 0)
    have : (x 0).val < 64 := (x 0).isLt
    omega

theorem wr14a (f : S224x1408.Idx → Elt Ideal .bf16) (w : S224x1408.Idx → Elt Ideal .bf16) (o : ℕ) (hb) (i : Fin 224) (k : Fin 1408) :
    ((a14.access (Rect.unit (s := S224x1408) ![o, 0] S224x1408.size hb)).write (Elt Ideal) f w Finset.univ) (ix2 i k)
      = if h : o ≤ i.val ∧ i.val < o + 224 then w (ix2 ⟨i.val - o, by omega⟩ k) else f (ix2 i k) := by
  by_cases h : o ≤ i.val ∧ i.val < o + 224
  · rw [dif_pos h]
    have e : (a14.access (Rect.unit (s := S224x1408) ![o, 0] S224x1408.size hb)).emb (ix2 ⟨i.val - o, by omega⟩ k) = ix2 i k := by
      funext a
      refine Fin.ext ?_
      match a with
      | ⟨0, _⟩ => show o + 1 * (i.val - o) = i.val; omega
      | ⟨1, _⟩ => show 0 + 1 * k.val = k.val; omega
    rw [← e]
    exact (View.write_emb_of_mem _ _ (Finset.mem_univ _)).trans rfl
  · rw [dif_neg h]
    refine View.write_of_not_mem _ _ _ ?_
    intro hm
    obtain ⟨x, -, hx⟩ := Finset.mem_map.mp hm
    have h0 : o + 1 * (x 0).val = i.val := congrArg Fin.val (congrFun hx 0)
    have : (x 0).val < 224 := (x 0).isLt
    omega

theorem rd9_at (f : S224x3072.Idx → Elt Ideal .fp8e4m3) (b : ℕ) (h : b + 64 ≤ 224) (i : Fin 64) (k : Fin 3072) :
    ((a9.access (r9 b h)).read (Elt Ideal) f) (ix2 i k) = f (ix2 ⟨b + i.val, by omega⟩ k) := by
  show f _ = f _
  congr 1
  funext a
  refine Fin.ext ?_
  match a with
  | ⟨0, _⟩ => show b + 1 * i.val = b + i.val; omega
  | ⟨1, _⟩ => show 0 + 1 * k.val = k.val; omega

theorem rd10_at (f : S224x1.Idx → Elt Ideal .f32) (b : ℕ) (h : b + 64 ≤ 224) (i : Fin 64) (k : Fin 1) :
    ((a10.access (r10 b h)).read (Elt Ideal) f) (ix2 i k) = f (ix2 ⟨b + i.val, by omega⟩ k) := by
  show f _ = f _
  congr 1
  funext a
  refine Fin.ext ?_
  match a with
  | ⟨0, _⟩ => show b + 1 * i.val = b + i.val; omega
  | ⟨1, _⟩ => show 0 + 1 * k.val = k.val; omega

theorem rd13_at (f : S224x1408.Idx → Elt Ideal .f32) (b : ℕ) (h : b + 64 ≤ 224) (i : Fin 64) (k : Fin 1408) :
    ((a13.access (r13 b h)).read (Elt Ideal) f) (ix2 i k) = f (ix2 ⟨b + i.val, by omega⟩ k) := by
  show f _ = f _
  congr 1
  funext a
  refine Fin.ext ?_
  match a with
  | ⟨0, _⟩ => show b + 1 * i.val = b + i.val; omega
  | ⟨1, _⟩ => show 0 + 1 * k.val = k.val; omega

theorem rd14_at (f : S224x1408.Idx → Elt Ideal .bf16) (b : ℕ) (h : b + 64 ≤ 224) (i : Fin 64) (k : Fin 1408) :
    ((a14.access (r14 b h)).read (Elt Ideal) f) (ix2 i k) = f (ix2 ⟨b + i.val, by omega⟩ k) := by
  show f _ = f _
  congr 1
  funext a
  refine Fin.ext ?_
  match a with
  | ⟨0, _⟩ => show b + 1 * i.val = b + i.val; omega
  | ⟨1, _⟩ => show 0 + 1 * k.val = k.val; omega

theorem rd9c_at (f : S224x3072.Idx → Elt Ideal .fp8e4m3) (b o L : ℕ) (h : b + 64 ≤ 224) (ho : o + L ≤ 3072) (i : Fin 64) (k : Fin L) :
    ((a9.access (r9c b o L h ho)).read (Elt Ideal) f) (ix2 i k) = f (ix2 ⟨b + i.val, by omega⟩ ⟨o + k.val, by omega⟩) := by
  show f _ = f _
  congr 1
  funext a
  refine Fin.ext ?_
  match a with
  | ⟨0, _⟩ => show b + 1 * i.val = b + i.val; omega
  | ⟨1, _⟩ => show o + 1 * k.val = o + k.val; omega

section
variable (X : S192x3072.Idx → Elt Ideal .bf16)
theorem x0_at (i : Fin 32) (k : Fin 3072) (r : Fin 192) (hr : r.val = 0 + i.val) : x0 X (ix2 i k) = X (ix2 r k) := by
  show X _ = X _
  congr 1
  funext a
  refine Fin.ext ?_
  match a with
  | ⟨0, _⟩ => show 0 + 1 * i.val = r.val; omega
  | ⟨1, _⟩ => show 0 + 1 * k.val = k.val; omega
theorem x1_at (i : Fin 32) (k : Fin 3072) (r : Fin 192) (hr : r.val = 32 + i.val) : x1 X (ix2 i k) = X (ix2 r k) := by
  show X _ = X _
  congr 1
  funext a
  refine Fin.ext ?_
  match a with
  | ⟨0, _⟩ => show 32 + 1 * i.val = r.val; omega
  | ⟨1, _⟩ => show 0 + 1 * k.val = k.val; omega
theorem x2_at (i : Fin 32) (k : Fin 3072) (r : Fin 192) (hr : r.val = 64 + i.val) : x2 X (ix2 i k) = X (ix2 r k) := by
  show X _ = X _
  congr 1
  funext a
  refine Fin.ext ?_
  match a with
  | ⟨0, _⟩ => show 64 + 1 * i.val = r.val; omega
  | ⟨1, _⟩ => show 0 + 1 * k.val = k.val; omega
theorem x3_at (i : Fin 32) (k : Fin 3072) (r : Fin 192) (hr : r.val = 96 + i.val) : x3 X (ix2 i k) = X (ix2 r k) := by
  show X _ = X _
  congr 1
  funext a
  refine Fin.ext ?_
  match a with
  | ⟨0, _⟩ => show 96 + 1 * i.val = r.val; omega
  | ⟨1, _⟩ => show 0 + 1 * k.val = k.val; omega
theorem x4_at (i : Fin 32) (k : Fin 3072) (r : Fin 192) (hr : r.val = 128 + i.val) : x4 X (ix2 i k) = X (ix2 r k) := by
  show X _ = X _
  congr 1
  funext a
  refine Fin.ext ?_
  match a with
  | ⟨0, _⟩ => show 128 + 1 * i.val = r.val; omega
  | ⟨1, _⟩ => show 0 + 1 * k.val = k.val; omega
theorem x5_at (i : Fin 32) (k : Fin 3072) (r : Fin 192) (hr : r.val = 160 + i.val) : x5 X (ix2 i k) = X (ix2 r k) := by
  show X _ = X _
  congr 1
  funext a
  refine Fin.ext ?_
  match a with
  | ⟨0, _⟩ => show 160 + 1 * i.val = r.val; omega
  | ⟨1, _⟩ => show 0 + 1 * k.val = k.val; omega

/-- A row of activations. -/
def xrow (r : Fin 192) : Fin 3072 → EReal := fun k => X (ix2 r k)
/-- A row's codes and scale. -/
def qv (r : Fin 192) (k : Fin 3072) : EReal := code (xrow X r k) (kinv (vrow (xrow X r)))
def sv (r : Fin 192) : EReal := kscale (vrow (xrow X r))

theorem nq0_at (i : Fin 32) (k : Fin 3072) (r : Fin 192) (hr : r.val = 0 + i.val) : (qc0 X (ix2 i k) : EReal) = qv X r k := by
  have h : (fun k => (x0 X (ix2 i k) : EReal)) = xrow X r := funext fun k => x0_at X i k r hr
  rw [qc0_eq]
  refine (vtq (x0 X) i k).trans ?_
  rw [h, x0_at X i k r hr]
  rfl
theorem ns0_at (i : Fin 32) (z : Fin 1) (r : Fin 192) (hr : r.val = 0 + i.val) : (qs0 X (ix2 i z) : EReal) = sv X r := by
  have h : (fun k => (x0 X (ix2 i k) : EReal)) = xrow X r := funext fun k => x0_at X i k r hr
  rw [qs0_eq]
  refine (vts (x0 X) i z).trans ?_
  rw [h]
  rfl
theorem nq1_at (i : Fin 32) (k : Fin 3072) (r : Fin 192) (hr : r.val = 32 + i.val) : (qc1 X (ix2 i k) : EReal) = qv X r k := by
  have h : (fun k => (x1 X (ix2 i k) : EReal)) = xrow X r := funext fun k => x1_at X i k r hr
  rw [qc1_eq]
  refine (vtq (x1 X) i k).trans ?_
  rw [h, x1_at X i k r hr]
  rfl
theorem ns1_at (i : Fin 32) (z : Fin 1) (r : Fin 192) (hr : r.val = 32 + i.val) : (qs1 X (ix2 i z) : EReal) = sv X r := by
  have h : (fun k => (x1 X (ix2 i k) : EReal)) = xrow X r := funext fun k => x1_at X i k r hr
  rw [qs1_eq]
  refine (vts (x1 X) i z).trans ?_
  rw [h]
  rfl
theorem nq2_at (i : Fin 32) (k : Fin 3072) (r : Fin 192) (hr : r.val = 64 + i.val) : (qc2 X (ix2 i k) : EReal) = qv X r k := by
  have h : (fun k => (x2 X (ix2 i k) : EReal)) = xrow X r := funext fun k => x2_at X i k r hr
  rw [qc2_eq]
  refine (vtq (x2 X) i k).trans ?_
  rw [h, x2_at X i k r hr]
  rfl
theorem ns2_at (i : Fin 32) (z : Fin 1) (r : Fin 192) (hr : r.val = 64 + i.val) : (qs2 X (ix2 i z) : EReal) = sv X r := by
  have h : (fun k => (x2 X (ix2 i k) : EReal)) = xrow X r := funext fun k => x2_at X i k r hr
  rw [qs2_eq]
  refine (vts (x2 X) i z).trans ?_
  rw [h]
  rfl
theorem nq3_at (i : Fin 32) (k : Fin 3072) (r : Fin 192) (hr : r.val = 96 + i.val) : (qc3 X (ix2 i k) : EReal) = qv X r k := by
  have h : (fun k => (x3 X (ix2 i k) : EReal)) = xrow X r := funext fun k => x3_at X i k r hr
  rw [qc3_eq]
  refine (vtq (x3 X) i k).trans ?_
  rw [h, x3_at X i k r hr]
  rfl
theorem ns3_at (i : Fin 32) (z : Fin 1) (r : Fin 192) (hr : r.val = 96 + i.val) : (qs3 X (ix2 i z) : EReal) = sv X r := by
  have h : (fun k => (x3 X (ix2 i k) : EReal)) = xrow X r := funext fun k => x3_at X i k r hr
  rw [qs3_eq]
  refine (vts (x3 X) i z).trans ?_
  rw [h]
  rfl
theorem nq4_at (i : Fin 32) (k : Fin 3072) (r : Fin 192) (hr : r.val = 128 + i.val) : (qc4 X (ix2 i k) : EReal) = qv X r k := by
  have h : (fun k => (x4 X (ix2 i k) : EReal)) = xrow X r := funext fun k => x4_at X i k r hr
  rw [qc4_eq]
  refine (vtq (x4 X) i k).trans ?_
  rw [h, x4_at X i k r hr]
  rfl
theorem ns4_at (i : Fin 32) (z : Fin 1) (r : Fin 192) (hr : r.val = 128 + i.val) : (qs4 X (ix2 i z) : EReal) = sv X r := by
  have h : (fun k => (x4 X (ix2 i k) : EReal)) = xrow X r := funext fun k => x4_at X i k r hr
  rw [qs4_eq]
  refine (vts (x4 X) i z).trans ?_
  rw [h]
  rfl
theorem nq5_at (i : Fin 32) (k : Fin 3072) (r : Fin 192) (hr : r.val = 160 + i.val) : (qc5 X (ix2 i k) : EReal) = qv X r k := by
  have h : (fun k => (x5 X (ix2 i k) : EReal)) = xrow X r := funext fun k => x5_at X i k r hr
  rw [qc5_eq]
  refine (vtq (x5 X) i k).trans ?_
  rw [h, x5_at X i k r hr]
  rfl
theorem ns5_at (i : Fin 32) (z : Fin 1) (r : Fin 192) (hr : r.val = 160 + i.val) : (qs5 X (ix2 i z) : EReal) = sv X r := by
  have h : (fun k => (x5 X (ix2 i k) : EReal)) = xrow X r := funext fun k => x5_at X i k r hr
  rw [qs5_eq]
  refine (vts (x5 X) i z).trans ?_
  rw [h]
  rfl

theorem qfin_at (f : S224x3072.Idx → Elt Ideal .fp8e4m3) (i : Fin 224) (k : Fin 3072) (r : Fin 192) (hr : r.val = i.val) : (qfin X f (ix2 i k) : EReal) = qv X r k := by
  unfold qfin q9_0 q9_1 q9_2 q9_3 q9_4 q9_5
  have hl := r.isLt
  rw [wr9]
  by_cases h5 : 160 ≤ i.val ∧ i.val < 160 + 32
  · rw [dif_pos h5]; exact nq5_at X _ _ _ (by show r.val = 160 + (i.val - 160); omega)
  rw [dif_neg h5]
  rw [wr9]
  by_cases h4 : 128 ≤ i.val ∧ i.val < 128 + 32
  · rw [dif_pos h4]; exact nq4_at X _ _ _ (by show r.val = 128 + (i.val - 128); omega)
  rw [dif_neg h4]
  rw [wr9]
  by_cases h3 : 96 ≤ i.val ∧ i.val < 96 + 32
  · rw [dif_pos h3]; exact nq3_at X _ _ _ (by show r.val = 96 + (i.val - 96); omega)
  rw [dif_neg h3]
  rw [wr9]
  by_cases h2 : 64 ≤ i.val ∧ i.val < 64 + 32
  · rw [dif_pos h2]; exact nq2_at X _ _ _ (by show r.val = 64 + (i.val - 64); omega)
  rw [dif_neg h2]
  rw [wr9]
  by_cases h1 : 32 ≤ i.val ∧ i.val < 32 + 32
  · rw [dif_pos h1]; exact nq1_at X _ _ _ (by show r.val = 32 + (i.val - 32); omega)
  rw [dif_neg h1]
  rw [wr9]
  by_cases h0 : 0 ≤ i.val ∧ i.val < 0 + 32
  · rw [dif_pos h0]; exact nq0_at X _ _ _ (by show r.val = 0 + (i.val - 0); omega)
  rw [dif_neg h0]
  exfalso
  omega

theorem sfin_at (f : S224x1.Idx → Elt Ideal .f32) (i : Fin 224) (z : Fin 1) (r : Fin 192) (hr : r.val = i.val) : (sfin X f (ix2 i z) : EReal) = sv X r := by
  unfold sfin q10_0 q10_1 q10_2 q10_3 q10_4 q10_5
  have hl := r.isLt
  rw [wr10]
  by_cases h5 : 160 ≤ i.val ∧ i.val < 160 + 32
  · rw [dif_pos h5]; exact ns5_at X _ _ _ (by show r.val = 160 + (i.val - 160); omega)
  rw [dif_neg h5]
  rw [wr10]
  by_cases h4 : 128 ≤ i.val ∧ i.val < 128 + 32
  · rw [dif_pos h4]; exact ns4_at X _ _ _ (by show r.val = 128 + (i.val - 128); omega)
  rw [dif_neg h4]
  rw [wr10]
  by_cases h3 : 96 ≤ i.val ∧ i.val < 96 + 32
  · rw [dif_pos h3]; exact ns3_at X _ _ _ (by show r.val = 96 + (i.val - 96); omega)
  rw [dif_neg h3]
  rw [wr10]
  by_cases h2 : 64 ≤ i.val ∧ i.val < 64 + 32
  · rw [dif_pos h2]; exact ns2_at X _ _ _ (by show r.val = 64 + (i.val - 64); omega)
  rw [dif_neg h2]
  rw [wr10]
  by_cases h1 : 32 ≤ i.val ∧ i.val < 32 + 32
  · rw [dif_pos h1]; exact ns1_at X _ _ _ (by show r.val = 32 + (i.val - 32); omega)
  rw [dif_neg h1]
  rw [wr10]
  by_cases h0 : 0 ≤ i.val ∧ i.val < 0 + 32
  · rw [dif_pos h0]; exact ns0_at X _ _ _ (by show r.val = 0 + (i.val - 0); omega)
  rw [dif_neg h0]
  exfalso
  omega
end

end Cert.KernelIdeal.Hand
-- ==== Proof.WinVal.lean ====
/-
  The stores of a window read at an index: products of codes and weights, scaled, on the rows of the expert.
-/
module

public import proofs.«01_k».proof.Proof.QVal
public import Idealize.ShloMosaic.Lib.IdealHost

@[expose] public section

set_option maxRecDepth 16384

noncomputable section

namespace Cert.KernelIdeal.Hand

open Cert.KernelIdeal Cert.KernelIdeal.Gen Cert.Expo
open Idealize.ShloMosaic
open Idealize.ShloMosaic.ValueIdx (ix1 ix2 ix3)
open scoped BigOperators

/-- A row's number is one of an expert's, as the kernel's words compare. -/
theorem mask_eq (w : BitVec 32) (b i lo g : ℕ) (hw : w.toNat = b) (hb : b ≤ 224) (hi : i < 64) (h : lo + g ≤ 192) :
    IntOp.andi (IntOp.cmpi .sge (w + BitVec.ofNat 32 i) (BitVec.ofNat 32 lo)) (IntOp.cmpi .slt (w + BitVec.ofNat 32 i) (BitVec.ofNat 32 lo + BitVec.ofNat 32 g)) = 1
      ↔ lo ≤ b + i ∧ b + i < lo + g := by
  have e : w + BitVec.ofNat 32 i = BitVec.ofNat 32 (b + i) := by
    apply BitVec.eq_of_toNat_eq
    simp only [BitVec.toNat_add, BitVec.toNat_ofNat]
    omega
  have e2 : BitVec.ofNat 32 lo + BitVec.ofNat 32 g = BitVec.ofNat 32 (lo + g) := (BitVec.ofNat_add ..).symm
  have t : ∀ n : ℕ, n < 1000 → (BitVec.ofNat 32 n).toInt = n := by
    intro n hn
    rw [BitVec.toInt_eq_toNat_of_lt (by rw [BitVec.toNat_ofNat]; omega), BitVec.toNat_ofNat]
    omega
  rw [e, e2, andi_one, show (1 : BitVec 1) = 1#1 from rfl, IntOp.cmpi_sge, IntOp.cmpi_slt, t _ (by omega), t _ (by omega), t _ (by omega)]
  omega

/-- The rows of a window that are an expert's. -/
def mvec (w l s : BitVec 32) : IVec S64x1 1 :=
  andi (cmpi .sge (addi (broadcast S64x1 w) (iota .tc S64x1 32 [0] iota_S64x1_d0_w32)) (broadcast S64x1 l))
    (cmpi .slt (addi (broadcast S64x1 w) (iota .tc S64x1 32 [0] iota_S64x1_d0_w32)) (broadcast S64x1 s))

theorem mvec_at (w : BitVec 32) (b lo g : ℕ) (hw : w.toNat = b) (hb : b ≤ 224) (h : lo + g ≤ 192) (i : Fin 64) :
    mvec w (BitVec.ofNat 32 lo) (Scalar.addi (BitVec.ofNat 32 lo) (BitVec.ofNat 32 g)) (ix2 i (0 : Fin 1)) = 1 ↔ lo ≤ b + i.val ∧ b + i.val < lo + g := by
  rw [← mask_eq w b i.val lo g hw hb i.isLt h]
  have e : iota .tc S64x1 32 [0] iota_S64x1_d0_w32 (ix2 i (0 : Fin 1)) = BitVec.ofNat 32 i.val := by
    show BitVec.ofNat 32 (0 * 64 + i.val) = _
    rw [Nat.zero_mul, Nat.zero_add]
  rw [← e]
  rfl

/-- A window's rows: sums scaled by row and by column where the mask holds, the old rows elsewhere. -/
def fvec (A : FVec Ideal S64x1408 .f32) (Sc : FVec Ideal S64x1 .f32) (Ws : FVec Ideal S1x1x1408 .f32) (m : IVec S64x1 1) (Yo : FVec Ideal S64x1408 .bf16) : FVec Ideal S64x1408 .bf16 :=
  truncf .bf16 (select (broadcastTo S64x1408 m broadcasts_S64x1_S64x1408)
    (mulf (mulf A (broadcastTo S64x1408 Sc broadcasts_S64x1_S64x1408)) (broadcastTo S64x1408 (shapeCast S1x1408 Ws shapeCasts_S1x1x1408_S1x1408) broadcasts_S1x1408_S64x1408))
    (extf .f32 Yo bitsLt_bf16_f32)) bitsLt_bf16_f32

theorem fvec_at (A : FVec Ideal S64x1408 .f32) (Sc : FVec Ideal S64x1 .f32) (Ws : FVec Ideal S1x1x1408 .f32) (m : IVec S64x1 1) (Yo : FVec Ideal S64x1408 .bf16) (i : Fin 64) (c : Fin 1408) :
    (fvec A Sc Ws m Yo (ix2 i c) : EReal) = if m (ix2 i (0 : Fin 1)) = 1 then ((A (ix2 i c) : EReal) * Sc (ix2 i (0 : Fin 1))) * Ws (ix3 (0 : Fin 1) (0 : Fin 1) c) else Yo (ix2 i c) := by
  have a := col_bc m broadcasts_S64x1_S64x1408 i c
  have b := col_bc Sc broadcasts_S64x1_S64x1408 i c
  have d := (ValueIdx.broadcastTo_1b_ab_apply (shapeCast S1x1408 Ws shapeCasts_S1x1x1408_S1x1408) broadcasts_S1x1408_S64x1408 i c).trans (ValueIdx.shapeCast_1ab_ab_apply Ws shapeCasts_S1x1x1408_S1x1408 (0 : Fin 1) c)
  rw [← a, ← b, ← d]
  rfl

section
variable (v1 v2 : Elt Ideal .i32) (l g a z o : BitVec 32) (Sc : Vec Ideal S64x1 .f32) (Ws : Vec Ideal S1x1x1408 .f32) (Yo : Vec Ideal S64x1408 .bf16) (A : Vec Ideal S64x1408 .f32)

theorem p57_eq (j) (Q : FVec Ideal S64x3072 .fp8e4m3) (Wm : FVec Ideal S1x3072x1408 .fp8e4m3) :
    k0_pay57 l g a z j Q Wm l Sc Ws g Yo
      = fvec (matmul dot_S64x3072_S3072x1408_S64x1408_1_0_0_1_n_n none Q (shapeCast S3072x1408 Wm shapeCasts_S1x3072x1408_S3072x1408) (constant S64x1408 .f32 0x00000000#32)) Sc Ws
          (mvec (Scalar.addi a (Scalar.muli (Scf.iv z 1#32 j) 64#32)) l (Scalar.addi l g)) Yo := by
  unfold k0_pay57 fvec
  refine (cast_id _ _).trans ?_
  have e := cast_id (mvec (Scalar.addi a (Scalar.muli (Scf.iv z 1#32 j) 64#32)) l (Scalar.addi l g)) shapeCasts_S64x1_S64x1
  conv_rhs => rw [← e]
  rfl

theorem p1_eq (j) (Q : FVec Ideal S64x256 .fp8e4m3) (Wm : FVec Ideal S1x256x1408 .fp8e4m3) :
    k0_pay1 l g a z o j A Q Wm l Sc Ws g Yo
      = fvec (addf A (matmul dot_S64x256_S256x1408_S64x1408_1_0_0_1_n_n none Q (shapeCast S256x1408 Wm shapeCasts_S1x256x1408_S256x1408) (constant S64x1408 .f32 0x00000000#32))) Sc Ws
          (mvec (Scalar.addi a (Scalar.muli (Scf.iv z o j) 64#32)) l (Scalar.addi l g)) Yo := by
  unfold k0_pay1 fvec
  refine (cast_id _ _).trans ?_
  have e := cast_id (mvec (Scalar.addi a (Scalar.muli (Scf.iv z o j) 64#32)) l (Scalar.addi l g)) shapeCasts_S64x1_S64x1
  conv_rhs => rw [← e]
  rfl

theorem mm3072 (Q : FVec Ideal S64x3072 .fp8e4m3) (Wm : FVec Ideal S1x3072x1408 .fp8e4m3) (i : Fin 64) (c : Fin 1408) :
    (matmul dot_S64x3072_S3072x1408_S64x1408_1_0_0_1_n_n none Q (shapeCast S3072x1408 Wm shapeCasts_S1x3072x1408_S3072x1408) (constant S64x1408 .f32 0x00000000#32) (ix2 i c) : EReal)
      = ∑ k : Fin 3072, (Q (ix2 i k) : EReal) * Wm (ix3 (0 : Fin 1) k c) := by
  refine (Ideal.matmul_plain_apply none Q (shapeCast S3072x1408 Wm shapeCasts_S1x3072x1408_S3072x1408) (constant S64x1408 .f32 0x00000000#32) i c).trans ?_
  have z : (constant (F := Ideal) S64x1408 .f32 0x00000000#32 (ix2 i c) : EReal) = 0 := Ideal.ofBits_zero_f32
  rw [z, zero_add]
  refine Finset.sum_congr rfl fun k _ => ?_
  rw [ValueIdx.shapeCast_1ab_ab_apply]

theorem mm1536 (Q : FVec Ideal S64x1536 .fp8e4m3) (Wm : FVec Ideal S1x1536x1408 .fp8e4m3) (i : Fin 64) (c : Fin 1408) :
    (matmul dot_S64x1536_S1536x1408_S64x1408_1_0_0_1_n_n none Q (shapeCast S1536x1408 Wm shapeCasts_S1x1536x1408_S1536x1408) (constant S64x1408 .f32 0x00000000#32) (ix2 i c) : EReal)
      = ∑ k : Fin 1536, (Q (ix2 i k) : EReal) * Wm (ix3 (0 : Fin 1) k c) := by
  refine (Ideal.matmul_plain_apply none Q (shapeCast S1536x1408 Wm shapeCasts_S1x1536x1408_S1536x1408) (constant S64x1408 .f32 0x00000000#32) i c).trans ?_
  have z : (constant (F := Ideal) S64x1408 .f32 0x00000000#32 (ix2 i c) : EReal) = 0 := Ideal.ofBits_zero_f32
  rw [z, zero_add]
  refine Finset.sum_congr rfl fun k _ => ?_
  rw [ValueIdx.shapeCast_1ab_ab_apply]

theorem mm768 (Q : FVec Ideal S64x768 .fp8e4m3) (Wm : FVec Ideal S1x768x1408 .fp8e4m3) (i : Fin 64) (c : Fin 1408) :
    (matmul dot_S64x768_S768x1408_S64x1408_1_0_0_1_n_n none Q (shapeCast S768x1408 Wm shapeCasts_S1x768x1408_S768x1408) (constant S64x1408 .f32 0x00000000#32) (ix2 i c) : EReal)
      = ∑ k : Fin 768, (Q (ix2 i k) : EReal) * Wm (ix3 (0 : Fin 1) k c) := by
  refine (Ideal.matmul_plain_apply none Q (shapeCast S768x1408 Wm shapeCasts_S1x768x1408_S768x1408) (constant S64x1408 .f32 0x00000000#32) i c).trans ?_
  have z : (constant (F := Ideal) S64x1408 .f32 0x00000000#32 (ix2 i c) : EReal) = 0 := Ideal.ofBits_zero_f32
  rw [z, zero_add]
  refine Finset.sum_congr rfl fun k _ => ?_
  rw [ValueIdx.shapeCast_1ab_ab_apply]

theorem mm512 (Q : FVec Ideal S64x512 .fp8e4m3) (Wm : FVec Ideal S1x512x1408 .fp8e4m3) (i : Fin 64) (c : Fin 1408) :
    (matmul dot_S64x512_S512x1408_S64x1408_1_0_0_1_n_n none Q (shapeCast S512x1408 Wm shapeCasts_S1x512x1408_S512x1408) (constant S64x1408 .f32 0x00000000#32) (ix2 i c) : EReal)
      = ∑ k : Fin 512, (Q (ix2 i k) : EReal) * Wm (ix3 (0 : Fin 1) k c) := by
  refine (Ideal.matmul_plain_apply none Q (shapeCast S512x1408 Wm shapeCasts_S1x512x1408_S512x1408) (constant S64x1408 .f32 0x00000000#32) i c).trans ?_
  have z : (constant (F := Ideal) S64x1408 .f32 0x00000000#32 (ix2 i c) : EReal) = 0 := Ideal.ofBits_zero_f32
  rw [z, zero_add]
  refine Finset.sum_congr rfl fun k _ => ?_
  rw [ValueIdx.shapeCast_1ab_ab_apply]

theorem mm256 (Q : FVec Ideal S64x256 .fp8e4m3) (Wm : FVec Ideal S1x256x1408 .fp8e4m3) (i : Fin 64) (c : Fin 1408) :
    (matmul dot_S64x256_S256x1408_S64x1408_1_0_0_1_n_n none Q (shapeCast S256x1408 Wm shapeCasts_S1x256x1408_S256x1408) (constant S64x1408 .f32 0x00000000#32) (ix2 i c) : EReal)
      = ∑ k : Fin 256, (Q (ix2 i k) : EReal) * Wm (ix3 (0 : Fin 1) k c) := by
  refine (Ideal.matmul_plain_apply none Q (shapeCast S256x1408 Wm shapeCasts_S1x256x1408_S256x1408) (constant S64x1408 .f32 0x00000000#32) i c).trans ?_
  have z : (constant (F := Ideal) S64x1408 .f32 0x00000000#32 (ix2 i c) : EReal) = 0 := Ideal.ofBits_zero_f32
  rw [z, zero_add]
  refine Finset.sum_congr rfl fun k _ => ?_
  rw [ValueIdx.shapeCast_1ab_ab_apply]

theorem p61_at (Q : FVec Ideal S64x1536 .fp8e4m3) (Wm : FVec Ideal S1x1536x1408 .fp8e4m3) (i : Fin 64) (c : Fin 1408) :
    (k0_pay61 (F := Ideal) Q Wm (ix2 i c) : EReal) = ∑ k : Fin 1536, (Q (ix2 i k) : EReal) * Wm (ix3 (0 : Fin 1) k c) := by
  unfold k0_pay61
  exact (congrFun (cast_id _ _) _).trans (mm1536 Q Wm i c)
theorem p63_at (Q : FVec Ideal S64x768 .fp8e4m3) (Wm : FVec Ideal S1x768x1408 .fp8e4m3) (i : Fin 64) (c : Fin 1408) :
    (k0_pay63 (F := Ideal) A Q Wm (ix2 i c) : EReal) = A (ix2 i c) + ∑ k : Fin 768, (Q (ix2 i k) : EReal) * Wm (ix3 (0 : Fin 1) k c) := by
  unfold k0_pay63
  exact (congrFun (cast_id _ _) _).trans (congrArg (fun x : EReal => (A (ix2 i c) : EReal) + x) (mm768 Q Wm i c))
theorem p65_at (Q : FVec Ideal S64x512 .fp8e4m3) (Wm : FVec Ideal S1x512x1408 .fp8e4m3) (i : Fin 64) (c : Fin 1408) :
    (k0_pay65 (F := Ideal) A Q Wm (ix2 i c) : EReal) = A (ix2 i c) + ∑ k : Fin 512, (Q (ix2 i k) : EReal) * Wm (ix3 (0 : Fin 1) k c) := by
  unfold k0_pay65
  exact (congrFun (cast_id _ _) _).trans (congrArg (fun x : EReal => (A (ix2 i c) : EReal) + x) (mm512 Q Wm i c))
end

end Cert.KernelIdeal.Hand
-- ==== Proof.Carry.lean ====
/-
  The value of the result, and that every step of the kernel carries it.
-/
module

public import proofs.«01_k».proof.Proof.WinVal

@[expose] public section

set_option maxRecDepth 16384

noncomputable section

namespace Cert.KernelIdeal.Hand

open Cert.KernelIdeal Cert.KernelIdeal.Gen Cert.Expo
open Idealize.ShloMosaic
open Idealize.ShloMosaic.ValueIdx (ix1 ix2 ix3)
open scoped BigOperators

section

variable (X : S192x3072.Idx → Elt Ideal .bf16) (G : S16.Idx → BitVec 32) (W : S16x3072x1408.Idx → Elt Ideal .fp8e4m3) (WS : S16x1x1408.Idx → Elt Ideal .f32)

/-- A row's code times an expert's weight. -/
def prd (r : Fin 192) (e : ℕ) (c : Fin 1408) (k : ℕ) : EReal := if h : k < 3072 then qv X r ⟨k, h⟩ * (W (wix e ⟨k, h⟩ c) : EReal) else 0
/-- The first `n` products summed. -/
def psum (r : Fin 192) (e : ℕ) (c : Fin 1408) (n : ℕ) : EReal := ∑ k ∈ Finset.range n, prd X W r e c k
/-- The column scale of an expert. -/
def wsv (e : ℕ) (c : Fin 1408) : EReal := wsrow WS e (ix3 (0 : Fin 1) (0 : Fin 1) c)
/-- A row's result by an expert. -/
def rowv (r : Fin 192) (e : ℕ) (c : Fin 1408) : EReal := psum X W r e c 3072 * sv X r * wsv WS e c
/-- A row's result by the first `n` experts: the expert whose group has the row, zero without one. -/
def valr (r : Fin 192) (c : Fin 1408) : ℕ → EReal
  | 0 => 0
  | n + 1 => if off (wd G) n ≤ r.val ∧ r.val < off (wd G) (n + 1) then rowv X W WS r n c else valr r c n
/-- The same at a row of the padded buffer. -/
def Vn (r : ℕ) (c : Fin 1408) : EReal := if h : r < 192 then valr X G W WS ⟨r, h⟩ c 16 else 0
/-- The first `h` rows done. -/
def Yp (h : ℕ) (f : S224x1408.Idx → Elt Ideal .bf16) : Prop := ∀ (r : Fin 224) (c : Fin 1408), (f (ix2 r c) : EReal) = if r.val < h then Vn X G W WS r.val c else 0

theorem psum_add (r : Fin 192) (e : ℕ) (c : Fin 1408) (n L : ℕ) : psum X W r e c (n + L) = psum X W r e c n + ∑ k ∈ Finset.range L, prd X W r e c (n + k) := Finset.sum_range_add _ _ _

theorem valr_in (r : Fin 192) (c : Fin 1408) (e n : ℕ) (he : e < n) (h1 : off (wd G) e ≤ r.val) (h2 : r.val < off (wd G) (e + 1)) :
    valr X G W WS r c n = rowv X W WS r e c := by
  induction n with
  | zero => omega
  | succ n ih =>
    unfold valr
    rcases Nat.lt_or_ge e n with h | h
    · have := off_le (wd G) (show e + 1 ≤ n from h)
      rw [if_neg (by omega), ih h]
    · have : e = n := by omega
      subst this
      rw [if_pos ⟨h1, h2⟩]

theorem valr_out (r : Fin 192) (c : Fin 1408) (n : ℕ) (h : off (wd G) n ≤ r.val) : valr X G W WS r c n = 0 := by
  induction n with
  | zero => rfl
  | succ n ih =>
    unfold valr
    have := off_le (wd G) (show n ≤ n + 1 by omega)
    rw [if_neg (by omega), ih (by omega)]

theorem Vn_in (r : ℕ) (hr : r < 192) (c : Fin 1408) (e : ℕ) (he : e < 16) (h1 : off (wd G) e ≤ r) (h2 : r < off (wd G) (e + 1)) :
    Vn X G W WS r c = rowv X W WS ⟨r, hr⟩ e c := by
  unfold Vn
  rw [dif_pos hr]
  exact valr_in X G W WS _ c e 16 he h1 h2

theorem Vn_out (r : ℕ) (c : Fin 1408) (h : off (wd G) 16 ≤ r) : Vn X G W WS r c = 0 := by
  unfold Vn
  split
  · exact valr_out X G W WS _ c 16 h
  · rfl

theorem zero_ok (f : S224x1408.Idx → Elt Ideal .bf16) : Yp X G W WS 0 (y0 f) := by
  intro r c
  unfold y0
  rw [wr14a, dif_pos ⟨by omega, by omega⟩, if_neg (by omega)]
  unfold k0_pay3
  exact (congrFun (cast_id _ _) _).trans Ideal.ofBits_zero_bf16

theorem tile_ok (h t : ℕ) (ht : 32 * (t + 1) ≤ h) (f : S224x1408.Idx → Elt Ideal .bf16) (hf : Yp X G W WS h f) (i : S192x1408.Idx) (hi : i ∈ otile t) :
    f (up i) = Vn X G W WS (i 0).val (i 1) := by
  have hi' := mem_otile.mp hi
  have hl : (i 0).val < 192 := (i 0).isLt
  have e : up i = ix2 (⟨(i 0).val, by omega⟩ : Fin 224) (i 1) := by
    funext a
    match a with
    | ⟨0, _⟩ => rfl
    | ⟨1, _⟩ => rfl
  rw [e]
  exact (hf _ _).trans (if_pos (show (i 0).val < h by omega))

theorem done_ok (h t : ℕ) (hh : h = off (wd G) 16) (f : S224x1408.Idx → Elt Ideal .bf16) (hf : Yp X G W WS h f) (i : S192x1408.Idx) :
    f (up i) = Vn X G W WS (i 0).val (i 1) := by
  have hl : (i 0).val < 192 := (i 0).isLt
  have e : up i = ix2 (⟨(i 0).val, by omega⟩ : Fin 224) (i 1) := by
    funext a
    match a with
    | ⟨0, _⟩ => rfl
    | ⟨1, _⟩ => rfl
  rw [e]
  refine (hf _ _).trans ?_
  split
  · rfl
  · rename_i hn
    exact (Vn_out X G W WS _ _ (by rw [← hh]; exact Nat.le_of_not_lt hn)).symm

/-- The sum over a block of columns, as the codes and weights are read. -/
theorem blk (r : Fin 192) (e : ℕ) (c : Fin 1408) (o L : ℕ) (ho : o + L ≤ 3072) (q w : Fin L → EReal)
    (hq : ∀ k : Fin L, q k = qv X r ⟨o + k.val, by omega⟩) (hw : ∀ k : Fin L, w k = W (wix e ⟨o + k.val, by omega⟩ c)) :
    ∑ k : Fin L, q k * w k = ∑ k ∈ Finset.range L, prd X W r e c (o + k) := by
  rw [Finset.sum_range]
  refine Finset.sum_congr rfl fun k _ => ?_
  unfold prd
  rw [dif_pos (by omega), hq, hw]

variable (f9 : S224x3072.Idx → Elt Ideal .fp8e4m3) (f10 : S224x1.Idx → Elt Ideal .f32)

section
variable (e lo g : ℕ) (h : lo + g ≤ 192) (he : e < 16) (h1 : lo = off (wd G) e) (h2 : g = wd G e)
include h he h1 h2

/-- A window's finished rows. -/
theorem fin_ok (j : ℕ) (hj : j < nwin lo g) (f f' : S224x1408.Idx → Elt Ideal .bf16) (hf : Yp X G W WS (hh lo g j) f)
    (A : FVec Ideal S64x1408 .f32) (w : BitVec 32) (hw : w.toNat = base lo + 64 * j) (hb : base lo + 64 * j + 64 ≤ 224)
    (hf' : f' = (a14.access (r14 _ hb)).write (Elt Ideal) f (fvec A ((a10.access (r10 _ hb)).read (Elt Ideal) (sfin X f10)) (wsrow WS e)
      (mvec w (BitVec.ofNat 32 lo) (Scalar.addi (BitVec.ofNat 32 lo) (BitVec.ofNat 32 g))) ((a14.access (r14 _ hb)).read (Elt Ideal) f)) Finset.univ)
    (hA : ∀ (i : Fin 64) (c : Fin 1408) (r : Fin 192), r.val = base lo + 64 * j + i.val → (A (ix2 i c) : EReal) = psum X W r e c 3072) :
    Yp X G W WS (hh lo g (j + 1)) f' := by
  intro r c
  rw [hf', wr14]
  have hog : off (wd G) (e + 1) = lo + g := by rw [h1, h2]; rfl
  have old : ¬ (base lo + 64 * j ≤ r.val ∧ r.val < base lo + 64 * j + 64 ∧ lo ≤ r.val ∧ r.val < lo + g) →
      (f (ix2 r c) : EReal) = if r.val < hh lo g (j + 1) then Vn X G W WS r.val c else 0 := by
    intro hn
    rw [hf r c]
    have hb := Nat.div_mul_le_self lo 32
    have : (r.val < hh lo g j) ↔ (r.val < hh lo g (j + 1)) := by
      unfold hh base at *
      omega
    simp only [this]
  by_cases hr : base lo + 64 * j ≤ r.val ∧ r.val < base lo + 64 * j + 64
  · rw [dif_pos hr, fvec_at]
    have hm := mvec_at w (base lo + 64 * j) lo g hw (by omega) h ⟨r.val - (base lo + 64 * j), by omega⟩
    have hi : base lo + 64 * j + (r.val - (base lo + 64 * j)) = r.val := by omega
    by_cases hg : lo ≤ r.val ∧ r.val < lo + g
    · rw [if_pos (hm.mpr (by show lo ≤ base lo + 64 * j + (r.val - (base lo + 64 * j)) ∧ _; rw [hi]; exact hg))]
      have hr2 : r.val < 192 := by omega
      rw [if_pos (by unfold hh; omega), Vn_in X G W WS r.val hr2 c e he (by omega) (by omega),
        hA _ c ⟨r.val, hr2⟩ hi.symm, rd10_at, sfin_at X f10 _ _ ⟨r.val, hr2⟩ hi.symm]
      rfl
    · rw [if_neg (fun hx => hg (by have := hm.mp hx; rw [hi] at this; exact this)), rd14_at]
      have er : (⟨base lo + 64 * j + (r.val - (base lo + 64 * j)), by omega⟩ : Fin 224) = r := Fin.ext hi
      rw [er]
      exact old (by omega)
  · rw [dif_neg hr]
    exact old (by omega)

theorem win_ok (j : Fin (k0_t5_loop (BitVec.ofNat 32 lo) (BitVec.ofNat 32 g)).trips) (f : S224x1408.Idx → Elt Ideal .bf16) (hf : Yp X G W WS (hh lo g j.val) f) :
    Yp X G W WS (hh lo g (j.val + 1)) (winw (qfin X f9) (sfin X f10) W WS e lo g h j f) := by
  have hj : j.val < nwin lo g := lt_of_lt_of_eq j.isLt (trips5 lo g h).2
  have hj4 : j.val < 4 := by have := nwin_le lo g j.val h hj; omega
  refine fin_ok X G W WS f10 e lo g h he h1 h2 j.val hj f _ hf
    (matmul (φ₁ := .fp8e4m3) (φ₂ := .fp8e4m3) dot_S64x3072_S3072x1408_S64x1408_1_0_0_1_n_n none ((a9.access (r9 _ (wb lo g h j))).read (Elt Ideal) (qfin X f9)) (shapeCast S3072x1408 (wmat W e) shapeCasts_S1x3072x1408_S3072x1408) (constant S64x1408 .f32 0x00000000#32))
    _ (base_word lo j.val (by omega) hj4) (wb lo g h j) ?_ ?_
  · unfold winw
    rw [p57_eq]
  · intro i c r hr
    rw [mm3072]
    unfold psum
    rw [blk X W r e c 0 3072 (by omega) _ _ (fun k => ?_) (fun k => ?_)]
    · simp only [Nat.zero_add]
    · refine (rd9_at _ _ _ i k).trans ((qfin_at X f9 _ k r hr).trans ?_)
      congr 1
      exact Fin.ext (Nat.zero_add _).symm
    · show (W (wix e k c) : EReal) = _
      congr 2
      exact Fin.ext (Nat.zero_add _).symm

/-- What the buffer of sums holds after pass `s` has done `j` windows. -/
def Kb : ℕ → ℕ
  | 0 => 0
  | 1 => 1536
  | 2 => 2304
  | 3 => 2816
  | _ => 3072
def Ap (e lo g s j : ℕ) (f : S224x1408.Idx → Elt Ideal .f32) : Prop :=
  ∀ (r : Fin 224) (c : Fin 1408) (hr : r.val < 192), base lo ≤ r.val → r.val < base lo + 64 * nwin lo g →
    (r.val < base lo + 64 * j → (f (ix2 r c) : EReal) = psum X W ⟨r.val, hr⟩ e c (Kb (s + 1)))
    ∧ (base lo + 64 * j ≤ r.val → 0 < s → (f (ix2 r c) : EReal) = psum X W ⟨r.val, hr⟩ e c (Kb s))

omit h he h1 h2 in
theorem ap_next (s : ℕ) (f : S224x1408.Idx → Elt Ideal .f32) (hf : Ap X W e lo g s (nwin lo g) f) : Ap X W e lo g (s + 1) 0 f :=
  fun r c hr h1 h2 => ⟨fun h3 => absurd h3 (by omega), fun _ _ => (hf r c hr h1 h2).1 h2⟩

omit h he h1 h2 in
/-- One window of a pass. -/
theorem ap_step (s j : ℕ) (hj : j < nwin lo g) (hb : base lo + 64 * j + 64 ≤ 224) (f : S224x1408.Idx → Elt Ideal .f32) (hf : Ap X W e lo g s j f) (p : FVec Ideal S64x1408 .f32)
    (hp : ∀ (i : Fin 64) (c : Fin 1408) (r : Fin 192) (hr : r.val = base lo + 64 * j + i.val),
      (0 < s → (f (ix2 (⟨base lo + 64 * j + i.val, lt_of_lt_of_le (Nat.add_lt_add_left i.isLt _) hb⟩ : Fin 224) c) : EReal) = psum X W r e c (Kb s)) → (p (ix2 i c) : EReal) = psum X W r e c (Kb (s + 1))) :
    Ap X W e lo g s (j + 1) ((a13.access (r13 _ hb)).write (Elt Ideal) f p Finset.univ) := by
  intro r c hr hr1 hr2
  rw [wr13]
  by_cases hin : base lo + 64 * j ≤ r.val ∧ r.val < base lo + 64 * j + 64
  · rw [dif_pos hin]
    have hi : base lo + 64 * j + (r.val - (base lo + 64 * j)) = r.val := by omega
    refine ⟨fun _ => hp _ c ⟨r.val, hr⟩ hi.symm fun hs => ?_, fun h3 => absurd h3 (by omega)⟩
    have er : (⟨base lo + 64 * j + (r.val - (base lo + 64 * j)), by omega⟩ : Fin 224) = r := Fin.ext hi
    rw [er]
    exact (hf r c hr hr1 hr2).2 hin.1 hs
  · rw [dif_neg hin]
    exact ⟨fun h3 => (hf r c hr hr1 hr2).1 (by omega), fun h3 hs => (hf r c hr hr1 hr2).2 (by omega) hs⟩

omit h he h1 h2 in
/-- The sum over a window's block of columns. -/
theorem blkw (o L : ℕ) (ho : o + L ≤ 3072) (b : ℕ) (hb : b + 64 ≤ 224) (i : Fin 64) (c : Fin 1408) (r : Fin 192) (hr : r.val = b + i.val) :
    ∑ k : Fin L, (((a9.access (r9c b o L hb ho)).read (Elt Ideal) (qfin X f9)) (ix2 i k) : EReal) * (wpart W e o L ho (ix3 (0 : Fin 1) k c) : EReal)
      = ∑ k ∈ Finset.range L, prd X W r e c (o + k) :=
  blk X W r e c o L ho _ _ (fun k => (rd9c_at _ b o L hb ho i k).trans (qfin_at X f9 _ _ r hr)) (fun k => rfl)

theorem passes_ok : Passes (qfin X f9) (sfin X f10) W WS e lo g h (Ap X W e lo g) (Yp X G W WS) := by
  have hjn : ∀ j : Fin (k0_t5_loop (BitVec.ofNat 32 lo) (BitVec.ofNat 32 g)).trips, j.val < nwin lo g := fun j => lt_of_lt_of_eq j.isLt (trips5 lo g h).2
  refine ⟨?_, ?_, fun f hf => ap_next X W e lo g 0 f hf, ?_, fun f hf => ap_next X W e lo g 1 f hf, ?_, fun f hf => ap_next X W e lo g 2 f hf, ?_⟩
  · exact fun f r c hr h1 h2 => ⟨fun h3 => absurd h3 (by omega), fun _ hs => absurd hs (by omega)⟩
  · intro j f hf
    unfold acc0
    refine ap_step X W e lo g 0 j.val (hjn j) (wb lo g h j) f hf _ fun i c r hr _ => ?_
    rw [p61_at, blkw X W f9 e 0 1536 (by omega) _ (wb lo g h j) i c r hr]
    show _ = psum X W r e c (0 + 1536)
    rw [psum_add]
    unfold psum
    rw [Finset.range_zero, Finset.sum_empty, zero_add]
  · intro j f hf
    unfold acc1
    refine ap_step X W e lo g 1 j.val (hjn j) (wb lo g h j) f hf _ fun i c r hr hold => ?_
    rw [p63_at, blkw X W f9 e 1536 768 (by omega) _ (wb lo g h j) i c r hr, rd13_at, hold (by omega)]
    exact (psum_add X W r e c 1536 768).symm
  · intro j f hf
    unfold acc2
    refine ap_step X W e lo g 2 j.val (hjn j) (wb lo g h j) f hf _ fun i c r hr hold => ?_
    rw [p65_at, blkw X W f9 e 2304 512 (by omega) _ (wb lo g h j) i c r hr, rd13_at, hold (by omega)]
    exact (psum_add X W r e c 2304 512).symm
  · intro j f13 f h13 hf
    have hj := hjn j
    have hj4 : j.val < 4 := by have := nwin_le lo g j.val h hj; omega
    refine fin_ok X G W WS f10 e lo g h he h1 h2 j.val hj f _ hf
      (addf ((a13.access (r13 _ (wb lo g h j))).read (Elt Ideal) f13) (matmul (φ₁ := .fp8e4m3) (φ₂ := .fp8e4m3) dot_S64x256_S256x1408_S64x1408_1_0_0_1_n_n none ((a9.access (r9c _ 2816 256 (wb lo g h j) (by omega))).read (Elt Ideal) (qfin X f9))
        (shapeCast S256x1408 (wpart W e 2816 256 (by omega)) shapeCasts_S1x256x1408_S256x1408) (constant S64x1408 .f32 0x00000000#32)))
      _ (base_word lo j.val (by omega) hj4) (wb lo g h j) ?_ ?_
    · unfold finw
      rw [p1_eq]
    · intro i c r hr
      show (((a13.access (r13 _ (wb lo g h j))).read (Elt Ideal) f13) (ix2 i c) : EReal) + _ = _
      rw [mm256, blkw X W f9 e 2816 256 (by omega) _ (wb lo g h j) i c r hr, rd13_at]
      have hold := (h13 (⟨base lo + 64 * j.val + i.val, by omega⟩ : Fin 224) c (by show base lo + 64 * j.val + i.val < 192; omega) (by show base lo ≤ base lo + 64 * j.val + i.val; omega)
        (by show base lo + 64 * j.val + i.val < _; omega)).2 (by show base lo + 64 * 0 ≤ base lo + 64 * j.val + i.val; omega) (by omega)
      have er : (⟨base lo + 64 * j.val + i.val, by omega⟩ : Fin 192) = r := Fin.ext hr.symm
      rw [hold, er]
      exact (psum_add X W r e c 2816 256).symm
end

theorem carries (hG : off (wd G) 16 ≤ 192) (T : S192x1408.Idx → Elt Ideal .bf16 → Prop) (hT : ∀ i, T i (Vn X G W WS (i 0).val (i 1))) :
    Carries X G W WS (qfin X f9) (sfin X f10) (Yp X G W WS) T where
  zero := zero_ok X G W WS
  win := by
    intro n fE fL hl ⟨row, hs⟩ i hi h j f hf
    exact win_ok X G W WS f9 f10 _ _ _ h (hl.lt i (by omega)) (hs.start i (by omega)) rfl j f hf
  last := by
    intro n fE fL hl ⟨row, hs⟩ h
    have := hl.one
    exact ⟨_, passes_ok X G W WS f9 f10 _ _ _ h (hl.lt (n - 1) (by omega)) (hs.start (n - 1) (by omega)) rfl⟩
  tile := by
    intro h t ht f hf i hi
    rw [tile_ok X G W WS h t ht f hf i hi]
    exact hT i
  done := by
    intro n fE fL hl ⟨row, hs⟩ t ht f hf i hi
    rw [done_ok X G W WS _ t (hs.last.symm.trans hs.rowEq) f hf i]
    exact hT i
end

end Cert.KernelIdeal.Hand
-- ==== Proof.RefVal.lean ====
/-
  The reference's block of results read at an index: the value of the result.
-/
module

public import proofs.«01_k».proof.Proof.Carry
public import proofs.«01_k».proof.Proof.Gen.ReferenceIdeal.Frame
public import Idealize.ShloMosaic.Lib.Pipeline.Value

@[expose] public section

set_option maxRecDepth 16384

noncomputable section

namespace Cert.ReferenceIdeal.Hand

open Cert.ReferenceIdeal Cert.ReferenceIdeal.Gen Cert.Expo
open Idealize.ShloMosaic
open Idealize.ShloMosaic.ValueIdx (ix1 ix2 ix3)
open Cert.KernelIdeal.Hand (xrow qv sv prd psum wsv rowv valr wix wsrow wd off cast_id)
open scoped BigOperators

/-! ## The exponent of a row -/

/-- The greatest magnitudes of the rows over the greatest code. -/
def rv (x : Vec Ideal S192x3072 .bf16) : FVec Ideal S192x1 .f32 :=
  mulf (shapeCast S192x1 (multiReduction .maximumf [1] S192 (absf (k0_pay1 x)) 0xFF800000#32 reduces_S192x3072_S192 (.inl rfl) rfl) shapeCasts_S192_S192x1)
    (broadcast S192x1 (Scalar.ofBits .f32 0x3B124925#32))

theorem rv_at (x : Vec Ideal S192x3072 .bf16) (i : Fin 192) : (rv x (ix2 i (0 : Fin 1)) : EReal) = vrow (xrow x i) := by
  have h := max_row (k0_pay1 x) reduces_S192x3072_S192 shapeCasts_S192_S192x1 (.inl rfl) rfl i (0 : Fin 1)
  unfold vrow
  rw [show amaxr (xrow x i) = amaxr (fun k => k0_pay1 x (ix2 i k)) from rfl, ← h]
  rfl

/-- The candidates of the exponents. -/
def kv : FVec Ideal S192x256 .f32 :=
  subf (sitofp .f32 (iota .tc S192x256 32 [1] iota_S192x256_d1_w32)) (broadcast S192x256 (Scalar.ofBits .f32 0x42FC0000#32))

theorem kv_at (i : Fin 192) (k : Fin 256) : (kv (ix2 i k) : EReal) = ((k.val : ℝ) : EReal) - Ideal.ofBits .f32 0x42FC0000#32 := by
  have e : (BitVec.ofNat 32 (0 * 256 + k.val)).toInt = (k.val : ℤ) := by
    rw [Nat.zero_mul, Nat.zero_add, BitVec.toInt_eq_toNat_of_lt (by rw [BitVec.toNat_ofNat]; omega), BitVec.toNat_ofNat]
    have := k.isLt
    omega
  have h : (kv (ix2 i k) : EReal) = (((BitVec.ofNat 32 (0 * 256 + k.val)).toInt : ℝ) : EReal) - Ideal.ofBits .f32 0x42FC0000#32 := rfl
  rw [h, e]
  norm_cast

/-- The candidates reached. -/
def cm (v : FVec Ideal S192x1 .f32) : FVec Ideal S192x256 .f32 :=
  select (andi (cmpf .olt kv (broadcast S192x256 (Scalar.ofBits .f32 0x43000000#32))) (cmpf .oge (broadcastTo S192x256 v broadcasts_S192x1_S192x256) (exp2 kv)))
    (broadcast S192x256 (Scalar.ofBits .f32 0x3F800000#32)) (broadcast S192x256 (Scalar.ofBits .f32 0x00000000#32))

theorem cm_at (v : FVec Ideal S192x1 .f32) (i : Fin 192) (k : Fin 256) :
    (cm v (ix2 i k) : EReal) = if IntOp.andi (Ideal.cmp .olt (((k.val : ℝ) : EReal) - Ideal.ofBits .f32 0x42FC0000#32) (Ideal.ofBits .f32 0x43000000#32))
      (Ideal.cmp .oge (v (ix2 i (0 : Fin 1))) (Ideal.exp2 (((k.val : ℝ) : EReal) - Ideal.ofBits .f32 0x42FC0000#32))) = 1 then Ideal.ofBits .f32 0x3F800000#32 else Ideal.ofBits .f32 0x00000000#32 := by
  have a := kv_at i k
  have b := col_bc v broadcasts_S192x1_S192x256 i k
  rw [← a, ← b]
  rfl

theorem cnt_at (v : FVec Ideal S192x1 .f32) (i : Fin 192) :
    (shapeCast S192x1 (multiReduction .add [1] S192 (cm v) 0x00000000#32 reduces_S192x256_S192 (.inl rfl) rfl) shapeCasts_S192_S192x1 (ix2 i (0 : Fin 1)) : EReal)
      = cnt (v (ix2 i (0 : Fin 1))) := by
  refine (add_row (cm v) reduces_S192x256_S192 shapeCasts_S192_S192x1 (.inl rfl) rfl i (0 : Fin 1)).trans ?_
  unfold cnt
  exact Finset.sum_congr rfl fun k _ => cm_at v i k

/-- The exponents from the rows' values. -/
def ev (v : FVec Ideal S192x1 .f32) : FVec Ideal S192x1 .f32 :=
  select (andi (cmpf .oge v (exp2 (broadcast S192x1 (Scalar.ofBits .f32 0xC2FC0000#32)))) (cmpf .olt v (exp2 (broadcast S192x1 (Scalar.ofBits .f32 0x43000000#32)))))
    (subf (shapeCast S192x1 (multiReduction .add [1] S192 (cm v) 0x00000000#32 reduces_S192x256_S192 (.inl rfl) rfl) shapeCasts_S192_S192x1) (broadcast S192x1 (Scalar.ofBits .f32 0x42FC0000#32)))
    (broadcast S192x1 (Scalar.ofBits .f32 0x00000000#32))

theorem ev_at (v : FVec Ideal S192x1 .f32) (i : Fin 192) : (ev v (ix2 i (0 : Fin 1)) : EReal) = rexp (v (ix2 i (0 : Fin 1))) := by
  unfold rexp
  rw [← cnt_at v i]
  rfl

theorem pay2_eq (x : Vec Ideal S192x3072 .bf16) : k0_pay2 x = ev (rv x) := rfl

theorem pay2_at (x : Vec Ideal S192x3072 .bf16) (i : Fin 192) : (k0_pay2 x (ix2 i (0 : Fin 1)) : EReal) = rexp (vrow (xrow x i)) := by
  rw [pay2_eq, ev_at, rv_at]

section
variable (x : Vec Ideal S192x3072 .bf16) (hx : ∀ r, vrow (xrow x r) = ⊤ ∨ vrow (xrow x r) < ((P 126 : ℝ) : EReal))
include hx

theorem pay3_at (i : Fin 192) : (k0_pay3 x (ix2 i (0 : Fin 1)) : EReal) = sv x i := by
  unfold sv
  rw [(scale_eq _ (hx i)).1, ← pay2_at]
  rfl

theorem pay4_at (i : Fin 192) (k : Fin 3072) : (k0_pay4 x (ix2 i k) : EReal) = qv x i k := by
  unfold qv
  rw [(scale_eq _ (hx i)).2, ← pay2_at]
  have b := col_bc (exp2 (subf (broadcast S192x1 (Scalar.ofBits (F := Ideal) .f32 0x00000000#32)) (k0_pay2 x))) broadcasts_S192x1_S192x3072 i k
  unfold code
  rw [show Ideal.exp2 (Ideal.ofBits .f32 0x00000000#32 - k0_pay2 x (ix2 i (0 : Fin 1))) = (exp2 (subf (broadcast S192x1 (Scalar.ofBits (F := Ideal) .f32 0x00000000#32)) (k0_pay2 x))) (ix2 i (0 : Fin 1)) from rfl, ← b]
  rfl

end

/-! ## One expert -/

/-- An expert's results on the rows its column of the table marks, the old ones elsewhere. -/
def est (Sc : FVec Ideal S192x1 .f32) (Q : FVec Ideal S192x3072 .fp8e4m3) (Y : FVec Ideal S192x1408 .f32) (Wm : Vec Ideal S1x3072x1408 .fp8e4m3) (M : Vec Ideal S192x1 .i32) (Ws : Vec Ideal S1x1x1408 .f32) : FVec Ideal S192x1408 .f32 :=
  select (broadcastTo S192x1408 (shapeCast S192x1 (cmpi .eq (shapeCast S192x1 M shapeCasts_S192x1_S192x1 : IVec S192x1 32) (broadcast S192x1 1#32)) shapeCasts_S192x1_S192x1) broadcasts_S192x1_S192x1408)
    (mulf (mulf (matmul (φ₁ := .fp8e4m3) (φ₂ := .fp8e4m3) dot_S192x3072_S3072x1408_S192x1408_1_0_0_1_n_n none Q (shapeCast S3072x1408 Wm shapeCasts_S1x3072x1408_S3072x1408) (constant S192x1408 .f32 0x00000000#32))
      (broadcastTo S192x1408 Sc broadcasts_S192x1_S192x1408)) (broadcastTo S192x1408 (shapeCast S1x1408 Ws shapeCasts_S1x1x1408_S1x1408) broadcasts_S1x1408_S192x1408)) Y

theorem est_at (Sc : FVec Ideal S192x1 .f32) (Q : FVec Ideal S192x3072 .fp8e4m3) (Y : FVec Ideal S192x1408 .f32) (Wm : Vec Ideal S1x3072x1408 .fp8e4m3) (M : Vec Ideal S192x1 .i32) (Ws : Vec Ideal S1x1x1408 .f32) (i : Fin 192) (c : Fin 1408) :
    (est Sc Q Y Wm M Ws (ix2 i c) : EReal) = if IntOp.cmpi .eq (M (ix2 i (0 : Fin 1))) 1#32 = 1 then
      ((∑ k : Fin 3072, (Q (ix2 i k) : EReal) * Wm (ix3 (0 : Fin 1) k c)) * Sc (ix2 i (0 : Fin 1))) * Ws (ix3 (0 : Fin 1) (0 : Fin 1) c) else Y (ix2 i c) := by
  unfold est
  rw [cast_id, cast_id]
  have a := col_bc (cmpi .eq M (broadcast S192x1 1#32)) broadcasts_S192x1_S192x1408 i c
  have b := col_bc Sc broadcasts_S192x1_S192x1408 i c
  have d := (ValueIdx.broadcastTo_1b_ab_apply (shapeCast S1x1408 Ws shapeCasts_S1x1x1408_S1x1408) broadcasts_S1x1408_S192x1408 i c).trans (ValueIdx.shapeCast_1ab_ab_apply Ws shapeCasts_S1x1x1408_S1x1408 (0 : Fin 1) c)
  have e : (matmul (φ₁ := .fp8e4m3) (φ₂ := .fp8e4m3) dot_S192x3072_S3072x1408_S192x1408_1_0_0_1_n_n none Q (shapeCast S3072x1408 Wm shapeCasts_S1x3072x1408_S3072x1408) (constant S192x1408 .f32 0x00000000#32) (ix2 i c) : EReal)
      = ∑ k : Fin 3072, (Q (ix2 i k) : EReal) * Wm (ix3 (0 : Fin 1) k c) := by
    refine (Ideal.matmul_plain_apply none Q (shapeCast S3072x1408 Wm shapeCasts_S1x3072x1408_S3072x1408) (constant S192x1408 .f32 0x00000000#32) i c).trans ?_
    have z : (constant (F := Ideal) S192x1408 .f32 0x00000000#32 (ix2 i c) : EReal) = 0 := Ideal.ofBits_zero_f32
    rw [z, zero_add]
    refine Finset.sum_congr rfl fun k _ => ?_
    rw [ValueIdx.shapeCast_1ab_ab_apply]
  rw [← b, ← d, ← e]
  rw [show IntOp.cmpi .eq (M (ix2 i (0 : Fin 1))) 1#32 = (cmpi .eq M (broadcast S192x1 1#32)) (ix2 i (0 : Fin 1)) from rfl, ← a]
  rfl

section
variable (X : Vec Ideal S192x3072 .bf16) (G : S16.Idx → BitVec 32) (Mb : Vec Ideal S192x16 .i32) (W : Vec Ideal S16x3072x1408 .fp8e4m3) (WS : Vec Ideal S16x1x1408 .f32)
  (hM : ∀ (r : Fin 192) (g : Fin 16), Mb (ix2 r g) = 1#32 ↔ off (wd G) g.val ≤ r.val ∧ r.val < off (wd G) (g.val + 1))
  (Sc : FVec Ideal S192x1 .f32) (Q : FVec Ideal S192x3072 .fp8e4m3) (hS : ∀ r : Fin 192, (Sc (ix2 r (0 : Fin 1)) : EReal) = sv X r) (hQ : ∀ (r : Fin 192) (k : Fin 3072), (Q (ix2 r k) : EReal) = qv X r k)
include hM hS hQ

theorem est_val (n : ℕ) (hn : n < 16) (Y : FVec Ideal S192x1408 .f32) (h1 h2 h3) (hY : ∀ (r : Fin 192) (c : Fin 1408), (Y (ix2 r c) : EReal) = valr X G W WS r c n) (r : Fin 192) (c : Fin 1408) :
    (est Sc Q Y (View.ld W (Rect.unit (s := S16x3072x1408) ![n, 0, 0] S1x3072x1408.size h1)) (View.ld Mb (Rect.unit (s := S192x16) ![0, n] S192x1.size h2)) (View.ld WS (Rect.unit (s := S16x1x1408) ![n, 0, 0] S1x1x1408.size h3)) (ix2 r c) : EReal)
      = valr X G W WS r c (n + 1) := by
  rw [est_at]
  have em : View.ld Mb (Rect.unit (s := S192x16) ![0, n] S192x1.size h2) (ix2 r (0 : Fin 1)) = Mb (ix2 r ⟨n, hn⟩) := by
    show Mb _ = Mb _
    congr 1
    funext a
    refine Fin.ext ?_
    match a with
    | ⟨0, _⟩ => show 0 + 1 * r.val = r.val; omega
    | ⟨1, _⟩ => show n + 1 * 0 = n; omega
  have ew : ∀ k : Fin 3072, View.ld W (Rect.unit (s := S16x3072x1408) ![n, 0, 0] S1x3072x1408.size h1) (ix3 (0 : Fin 1) k c) = W (wix n k c) := by
    intro k
    show W _ = W _
    congr 1
    funext a
    refine Fin.ext ?_
    match a with
    | ⟨0, _⟩ => show n + 1 * 0 = n % 16; omega
    | ⟨1, _⟩ => show 0 + 1 * k.val = k.val; omega
    | ⟨2, _⟩ => show 0 + 1 * c.val = c.val; omega
  have es : (View.ld WS (Rect.unit (s := S16x1x1408) ![n, 0, 0] S1x1x1408.size h3) (ix3 (0 : Fin 1) (0 : Fin 1) c) : EReal) = wsv WS n c := by
    unfold wsv wsrow
    show WS _ = WS _
    congr 1
    funext a
    refine Fin.ext ?_
    match a with
    | ⟨0, _⟩ => show n + 1 * 0 = n % 16; omega
    | ⟨1, _⟩ => rfl
    | ⟨2, _⟩ => show 0 + 1 * c.val = c.val; omega
  rw [em, es, hS, hY]
  have hp : ∑ k : Fin 3072, (Q (ix2 r k) : EReal) * View.ld W (Rect.unit (s := S16x3072x1408) ![n, 0, 0] S1x3072x1408.size h1) (ix3 (0 : Fin 1) k c) = psum X W r n c 3072 := by
    unfold psum
    rw [Finset.sum_range]
    refine Finset.sum_congr rfl fun k _ => ?_
    unfold prd
    rw [dif_pos k.isLt, hQ, ew]
  rw [hp]
  have hc : IntOp.cmpi .eq (Mb (ix2 r ⟨n, hn⟩)) 1#32 = 1 ↔ off (wd G) n ≤ r.val ∧ r.val < off (wd G) (n + 1) := by
    rw [← hM r ⟨n, hn⟩]
    generalize Mb (ix2 r ⟨n, hn⟩) = b
    show BitVec.ofBool (b == 1#32) = 1#1 ↔ _
    by_cases h : b = 1#32
    · subst h; simp
    · have hb : (b == 1#32) = false := by simpa using h
      rw [hb]
      simp [h]
  have hv : valr X G W WS r c (n + 1) = if off (wd G) n ≤ r.val ∧ r.val < off (wd G) (n + 1) then rowv X W WS r n c else valr X G W WS r c n := rfl
  rw [hv]
  unfold rowv
  exact if_congr hc rfl rfl

end

end Cert.ReferenceIdeal.Hand
-- ==== Proof.Member.lean ====
/-
  The reference's table of which rows are which expert's, read at an index.
-/
module

public import proofs.«01_k».proof.Proof.Carry
public import proofs.«01_k».proof.Proof.Gen.ReferenceIdeal.Frame
public import Idealize.ShloMosaic.Lib.Pipeline.Value
public import Idealize.ShloMosaic.Lib.StableHlo.RunRead

@[expose] public section

set_option maxRecDepth 16384

noncomputable section

namespace Cert.ReferenceIdeal.Hand

open Cert.ReferenceIdeal Cert.ReferenceIdeal.Gen
open Idealize.ShloMosaic Idealize.ShloMosaic.TcCoe
open Idealize.ShloMosaic.ValueIdx (ix1 ix2 ix3)
open Cert.KernelIdeal.Hand (wd off off_le ix)
open scoped BigOperators

/-- The rows before each expert's. -/
def lov (G : IVec S16 32) : IVec S16 32 :=
  Host.reduce IntOp.addi
    (select (cmpi .slt (broadcastInDim S16x16 ![0, 1] bcast_S1x16_S16x16_0_1 (broadcastInDim S1x16 ![1] bcast_S16_S1x16_1 (iotaInDim S16 32 0)))
        (broadcastInDim S16x16 ![0, 1] bcast_S16x1_S16x16_0_1 (broadcastInDim S16x1 ![0] bcast_S16_S16x1_0 (iotaInDim S16 32 0))))
      (broadcastInDim S16x16 ![0, 1] bcast_S1x16_S16x16_0_1 (broadcastInDim S1x16 ![1] bcast_S16_S1x16_1 G))
      (broadcastInDim S16x16 ![] bcast_S_S16x16 (constantI S_ 32 0#32)))
    (constantI S_ 32 0#32) reducesTo_S16x16_S16_d1 h_S_

/-- The numbers of the rows, one in each row of the table. -/
def rowsv : IVec S192x16 32 := broadcastInDim S192x16 ![0, 1] bcast_S192x1_S192x16_0_1 (broadcastInDim S192x1 ![0] bcast_S192_S192x1_0 (iotaInDim S192 32 0))
/-- A word for each expert, one in each column of the table. -/
def colsv (v : IVec S16 32) : IVec S192x16 32 := broadcastInDim S192x16 ![0, 1] bcast_S1x16_S192x16_0_1 (broadcastInDim S1x16 ![1] bcast_S16_S1x16_1 v)

/-- The table. -/
def memv (G : IVec S16 32) : IVec S192x16 32 :=
  extui 32 (andi (cmpi .sge rowsv (colsv (lov G))) (cmpi .slt rowsv (colsv (addi (lov G) G)))) natLt_1_32

theorem V_v21 (m : (ℓ : Loc nD τ sig) → Buf (Elt Ideal) ℓ) (c : Dev nD) : V m c main_v21 = memv (m ((c : Thread nD τ).loc main_arg1)) := by
  show StableHlo.after (List.flatten [hostOps0, hostOps0_1, hostOps0_2]) (fun b => m (c, b)) (Proc.devRef .tc main_v21) = _
  simp only [hostOps0, hostOps0_1, hostOps0_2, List.flatten_cons, List.flatten_nil, List.append_nil, List.cons_append, List.nil_append, StableHlo.after_cons, StableHlo.after_nil]
  rfl

theorem bc_col (v : IVec S16 32) (i : Fin 192) (g : Fin 16) : colsv v (ix2 i g) = v (ix1 g) := by
  unfold colsv
  refine (broadcastInDim_apply _ _ _ (ix2 i g) (ix2 (0 : Fin 1) g) fun a => ?_).trans (broadcastInDim_apply _ _ _ _ (ix1 g) fun a => ?_)
  · match a with
    | ⟨0, _⟩ => rfl
    | ⟨1, _⟩ => rfl
  · match a with
    | ⟨0, _⟩ => rfl

theorem bc_row (i : Fin 192) (g : Fin 16) : rowsv (ix2 i g) = BitVec.ofNat 32 i.val := by
  unfold rowsv
  refine (broadcastInDim_apply _ _ _ (ix2 i g) (ix2 i (0 : Fin 1)) fun a => ?_).trans ((broadcastInDim_apply _ _ _ _ (ix1 i) fun a => ?_).trans rfl)
  · match a with
    | ⟨0, _⟩ => rfl
    | ⟨1, _⟩ => rfl
  · match a with
    | ⟨0, _⟩ => rfl

theorem off_if (g : ℕ → ℕ) (e N : ℕ) : ∑ k ∈ Finset.range N, (if k < e then g k else 0) = off g (min e N) := by
  induction N with
  | zero => rw [Nat.min_zero]; rfl
  | succ N ih =>
    rw [Finset.sum_range_succ, ih]
    by_cases h : N < e
    · rw [if_pos h, Nat.min_eq_right (by omega), Nat.min_eq_right (by omega)]; rfl
    · rw [if_neg h, Nat.min_eq_left (by omega), Nat.min_eq_left (by omega), Nat.add_zero]

theorem fold_words {ι : Type} [DecidableEq ι] (s : Finset ι) (x : ι → BitVec 32) (f : ι → ℕ) (h : ∀ k, x k = BitVec.ofNat 32 (f k)) :
    s.fold IntOp.addi 0#32 x = BitVec.ofNat 32 (∑ k ∈ s, f k) := by
  induction s using Finset.induction with
  | empty => rfl
  | insert a s ha ih =>
    rw [Finset.fold_insert ha, Finset.sum_insert ha, ih, h]
    exact (BitVec.ofNat_add ..).symm

theorem reduces_rows : S16x16.Reduces [1] S16 := by decide

theorem lt_words (a b : Fin 16) : IntOp.cmpi .slt (BitVec.ofNat 32 a.val) (BitVec.ofNat 32 b.val) = 1 ↔ a.val < b.val := by
  have t : ∀ n : Fin 16, (BitVec.ofNat 32 n.val).toInt = n.val := by
    intro n
    have := n.isLt
    rw [BitVec.toInt_eq_toNat_of_lt (by rw [BitVec.toNat_ofNat]; omega), BitVec.toNat_ofNat]
    omega
  rw [show (1 : BitVec 1) = 1#1 from rfl, IntOp.cmpi_slt, t, t]
  omega

theorem lov_at (G : IVec S16 32) (e : Fin 16) : lov G (ix1 e) = BitVec.ofNat 32 (off (wd G) e.val) := by
  unfold lov
  rw [Host.reduce_eq_fold_single IntOp.addi _ _ reducesTo_S16x16_S16_d1 reduces_rows h_S_ (ix1 e)]
  refine (fold_words (ι := Fin 16) Finset.univ _ (fun k => if k.val < e.val then wd G k.val else 0) fun k => ?_).trans ?_
  · have hl : reduces_rows.lift (ix1 e) k = ix2 e k := by
      funext a
      match a with
      | ⟨0, _⟩ => rfl
      | ⟨1, _⟩ => rfl
    show (if IntOp.cmpi .slt _ _ = 1 then _ else _) = _
    rw [hl]
    have e1 : broadcastInDim S16x16 ![0, 1] bcast_S1x16_S16x16_0_1 (broadcastInDim S1x16 ![1] bcast_S16_S1x16_1 (iotaInDim S16 32 0)) (ix2 e k) = BitVec.ofNat 32 k.val := rfl
    have e2 : broadcastInDim S16x16 ![0, 1] bcast_S16x1_S16x16_0_1 (broadcastInDim S16x1 ![0] bcast_S16_S16x1_0 (iotaInDim S16 32 0)) (ix2 e k) = BitVec.ofNat 32 e.val := rfl
    have e3 : broadcastInDim S16x16 ![0, 1] bcast_S1x16_S16x16_0_1 (broadcastInDim S1x16 ![1] bcast_S16_S1x16_1 G) (ix2 e k) = BitVec.ofNat 32 (wd G k.val) := by
      unfold wd
      rw [dif_pos k.isLt, BitVec.ofNat_toNat, BitVec.setWidth_eq]
      refine congrArg G ?_
      funext a
      match a with
      | ⟨0, _⟩ => rfl
    rw [e1, e2, e3]
    by_cases h : k.val < e.val
    · rw [if_pos ((lt_words k e).2 h), if_pos h]
    · rw [if_neg (fun hc => h ((lt_words k e).1 hc)), if_neg h]
      rfl
  · have h := off_if (wd G) e.val 16
    rw [Finset.sum_range, Nat.min_eq_left (by omega)] at h
    rw [h]

theorem memv_at (G : IVec S16 32) (hG : off (wd G) 16 ≤ 192) (r : Fin 192) (g : Fin 16) :
    memv G (ix2 r g) = 1#32 ↔ off (wd G) g.val ≤ r.val ∧ r.val < off (wd G) (g.val + 1) := by
  have hs : G (ix1 g) = BitVec.ofNat 32 (wd G g.val) := by
    unfold wd
    rw [dif_pos g.isLt, BitVec.ofNat_toNat, BitVec.setWidth_eq]
    refine congrArg G ?_
    funext a
    match a with
    | ⟨0, _⟩ => rfl
  have hle := off_le (wd G) (show g.val + 1 ≤ 16 from g.isLt)
  have ho : off (wd G) (g.val + 1) = off (wd G) g.val + wd G g.val := rfl
  have hr := r.isLt
  have t : ∀ n : ℕ, n < 1000 → (BitVec.ofNat 32 n).toInt = n := by
    intro n hn
    rw [BitVec.toInt_eq_toNat_of_lt (by rw [BitVec.toNat_ofNat]; omega), BitVec.toNat_ofNat]
    omega
  have e : memv G (ix2 r g) = (IntOp.andi (IntOp.cmpi .sge (BitVec.ofNat 32 r.val) (BitVec.ofNat 32 (off (wd G) g.val))) (IntOp.cmpi .slt (BitVec.ofNat 32 r.val) (BitVec.ofNat 32 (off (wd G) (g.val + 1))))).setWidth 32 := by
    rw [ho, BitVec.ofNat_add, ← hs, ← lov_at, ← bc_row r g]
    rw [show lov G (ix1 g) + G (ix1 g) = addi (lov G) G (ix1 g) from rfl, ← bc_col (lov G) r g, ← bc_col (addi (lov G) G) r g]
    rfl
  rw [e]
  have hb : ∀ b : BitVec 1, b.setWidth 32 = 1#32 ↔ b = 1 := by decide
  rw [hb, Cert.Expo.andi_one, show (1 : BitVec 1) = 1#1 from rfl, IntOp.cmpi_sge, IntOp.cmpi_slt, t _ (by omega), t _ (by omega), t _ (by omega)]
  omega

end Cert.ReferenceIdeal.Hand
-- ==== Proof.RefRun.lean ====
/-
  The reference's run: the array it leaves holds the value of the result.
-/
module

public import proofs.«01_k».proof.Proof.RefVal
public import proofs.«01_k».proof.Proof.Member

@[expose] public section

set_option maxRecDepth 16384

noncomputable section

namespace Cert.ReferenceIdeal.Hand

open Cert.ReferenceIdeal Cert.ReferenceIdeal.Gen Cert.Expo
open Idealize.ShloMosaic Idealize.ShloMosaic.TcCoe Idealize.SL.Sem
open Idealize.ShloMosaic.Pipeline (Dat)
open Idealize.ShloMosaic.ValueIdx (ix1 ix2 ix3)
open Cert.KernelIdeal.Hand (xrow qv sv valr Vn wd off)
open scoped BigOperators

theorem hz : (![0, 0] : Fin 2 → Nat) = fun _ => 0 := funext fun a => by fin_cases a <;> rfl

section
variable (Sc : FVec Ideal S192x1 .f32) (Q : FVec Ideal S192x3072 .fp8e4m3) (Y : FVec Ideal S192x1408 .f32)
  (w w2 w3 : Vec Ideal S1x3072x1408 .fp8e4m3) (m m2 m3 : Vec Ideal S192x1 .i32) (s s2 s3 : Vec Ideal S1x1x1408 .f32)

theorem p5_eq : k0_pay5 Sc Q w m s w2 m2 s2 = est Sc Q (est Sc Q (broadcast S192x1408 (Scalar.ofBits .f32 0x00000000#32)) w m s) w2 m2 s2 := by
  unfold k0_pay5 est; rfl
theorem p7_eq : k0_pay7 Sc Q Y (k0_pay6 w) (constant S192x1408 .f32 0x00000000#32) m s w2 m2 s2 = est Sc Q (est Sc Q Y w m s) w2 m2 s2 := by
  unfold k0_pay7 k0_pay6 est; rfl
theorem p10_eq : k0_pay10 Sc Q Y (k0_pay8 Q w) (k0_pay9 m) s w2 m2 s2 = est Sc Q (est Sc Q Y w m s) w2 m2 s2 := by
  unfold k0_pay10 k0_pay8 k0_pay9 est; rfl
theorem p14_eq : k0_pay14 Sc Q Y (k0_pay11 m) (k0_pay12 Sc Q w) (k0_pay13 s) w2 m2 s2 w3 m3 s3 = est Sc Q (est Sc Q (est Sc Q Y w m s) w2 m2 s2) w3 m3 s3 := by
  unfold k0_pay14 k0_pay11 k0_pay12 k0_pay13 est; rfl
theorem p15_eq : k0_pay15 Sc Q Y w m s w2 m2 s2 = est Sc Q (est Sc Q Y w m s) w2 m2 s2 := by
  unfold k0_pay15 est; rfl
theorem p18_eq : k0_pay18 Sc Q Y (k0_pay16 Q w) (k0_pay17 m) 1#32 s w2 m2 s2 = est Sc Q (est Sc Q Y w m s) w2 m2 s2 := by
  unfold k0_pay18 k0_pay16 k0_pay17 est; rfl
theorem p21_eq : k0_pay21 Sc Q Y (k0_pay19 m) (k0_pay20 Sc Q w) s w2 m2 s2 w3 m3 s3 = truncf .bf16 (est Sc Q (est Sc Q (est Sc Q Y w m s) w2 m2 s2) w3 m3 s3) bitsLt_bf16_f32 := by
  unfold k0_pay21 k0_pay19 k0_pay20 est; rfl
end

section
variable (X : Vec Ideal S192x3072 .bf16) (G : S16.Idx → BitVec 32) (Mb : Vec Ideal S192x16 .i32) (W : Vec Ideal S16x3072x1408 .fp8e4m3) (WS : Vec Ideal S16x1x1408 .f32)

theorem out_at (hM : ∀ (r : Fin 192) (g : Fin 16), Mb (ix2 r g) = 1#32 ↔ off (wd G) g.val ≤ r.val ∧ r.val < off (wd G) (g.val + 1))
    (hx : ∀ r, vrow (xrow X r) = ⊤ ∨ vrow (xrow X r) < ((P 126 : ℝ) : EReal)) (r : Fin 192) (c : Fin 1408) :
    (out0_4 X Mb W WS (ix2 r c) : EReal) = valr X G W WS r c 16 := by
  have hS := pay3_at X hx
  have hQ := pay4_at X hx
  unfold_out out0_4
  rw [View.canon_unit_zero hz, View.ld_unit_zero hz]
  generalize k0_pay3 X = Sc at hS ⊢
  generalize k0_pay4 X = Q at hQ ⊢
  rw [p5_eq, p7_eq, p10_eq, p14_eq, p15_eq, p18_eq, p21_eq]
  have st := est_val X G Mb W WS hM Sc Q hS hQ
  refine Eq.trans (show _ = (est Sc Q _ _ _ _ (ix2 r c) : EReal) from rfl) ?_
  refine st 15 (by decide) _ _ _ _ (fun r c => ?_) r c
  refine st 14 (by decide) _ _ _ _ (fun r c => ?_) r c
  refine st 13 (by decide) _ _ _ _ (fun r c => ?_) r c
  refine st 12 (by decide) _ _ _ _ (fun r c => ?_) r c
  refine st 11 (by decide) _ _ _ _ (fun r c => ?_) r c
  refine st 10 (by decide) _ _ _ _ (fun r c => ?_) r c
  refine st 9 (by decide) _ _ _ _ (fun r c => ?_) r c
  refine st 8 (by decide) _ _ _ _ (fun r c => ?_) r c
  refine st 7 (by decide) _ _ _ _ (fun r c => ?_) r c
  refine st 6 (by decide) _ _ _ _ (fun r c => ?_) r c
  refine st 5 (by decide) _ _ _ _ (fun r c => ?_) r c
  refine st 4 (by decide) _ _ _ _ (fun r c => ?_) r c
  refine st 3 (by decide) _ _ _ _ (fun r c => ?_) r c
  refine st 2 (by decide) _ _ _ _ (fun r c => ?_) r c
  refine st 1 (by decide) _ _ _ _ (fun r c => ?_) r c
  refine st 0 (by decide) _ _ _ _ (fun r c => ?_) r c
  exact Ideal.ofBits_zero_f32

end

/-! ## From the block to the array -/

section
variable (m : (ℓ : Loc nD τ sig) → Buf (Elt Ideal) ℓ) (ρ : Dev nD → PrngReg)

theorem iblk_0 (c : Dev nD) (t : Fin cfg0.N) : iblk m c 0 t = V m c main_arg0 := by
  rcases fin_N0 t with rfl
  funext i
  refine congrArg (V m c main_arg0) (funext fun a => Fin.ext ?_)
  match a with
  | ⟨0, _⟩ => show 0 * 192 + 1 * (i 0).val = (i 0).val; omega
  | ⟨1, _⟩ => show 0 * 3072 + 1 * (i 1).val = (i 1).val; omega
theorem iblk_1 (c : Dev nD) (t : Fin cfg0.N) : iblk m c 1 t = V m c main_v21 := by
  rcases fin_N0 t with rfl
  funext i
  refine congrArg (V m c main_v21) (funext fun a => Fin.ext ?_)
  match a with
  | ⟨0, _⟩ => show 0 * 192 + 1 * (i 0).val = (i 0).val; omega
  | ⟨1, _⟩ => show 0 * 16 + 1 * (i 1).val = (i 1).val; omega
theorem iblk_2 (c : Dev nD) (t : Fin cfg0.N) : iblk m c 2 t = V m c main_arg2 := by
  rcases fin_N0 t with rfl
  funext i
  refine congrArg (V m c main_arg2) (funext fun a => Fin.ext ?_)
  match a with
  | ⟨0, _⟩ => show 0 * 16 + 1 * (i 0).val = (i 0).val; omega
  | ⟨1, _⟩ => show 0 * 3072 + 1 * (i 1).val = (i 1).val; omega
  | ⟨2, _⟩ => show 0 * 1408 + 1 * (i 2).val = (i 2).val; omega
theorem iblk_3 (c : Dev nD) (t : Fin cfg0.N) : iblk m c 3 t = V m c main_arg3 := by
  rcases fin_N0 t with rfl
  funext i
  refine congrArg (V m c main_arg3) (funext fun a => Fin.ext ?_)
  match a with
  | ⟨0, _⟩ => show 0 * 16 + 1 * (i 0).val = (i 0).val; omega
  | ⟨1, _⟩ => show 0 * 1 + 1 * (i 1).val = (i 1).val; omega
  | ⟨2, _⟩ => show 0 * 1408 + 1 * (i 2).val = (i 2).val; omega

/-- The result as a function of the four arrays. -/
def res (X : Vec Ideal S192x3072 .bf16) (G : S16.Idx → BitVec 32) (W : Vec Ideal S16x3072x1408 .fp8e4m3) (WS : Vec Ideal S16x1x1408 .f32) : S192x1408.Idx → Elt Ideal .bf16 :=
  fun i => Vn X G W WS (i 0).val (i 1)

variable (c : Dev nD)
  (hG : off (wd (m ((c : Thread nD τ).loc main_arg1) : S16.Idx → BitVec 32)) 16 ≤ 192)
  (hx : ∀ r, vrow (xrow (m ((c : Thread nD τ).loc main_arg0) : S192x3072.Idx → Elt Ideal .bf16) r) = ⊤ ∨ vrow (xrow (m ((c : Thread nD τ).loc main_arg0) : S192x3072.Idx → Elt Ideal .bf16) r) < ((P 126 : ℝ) : EReal))

/-- What is written back. -/
abbrev resm : Buf (Elt Ideal) ((c : Thread nD τ).loc main_v22) :=
  res (m ((c : Thread nD τ).loc main_arg0)) (m ((c : Thread nD τ).loc main_arg1)) (m ((c : Thread nD τ).loc main_arg2)) (m ((c : Thread nD τ).loc main_arg3))

include hG hx in
theorem flushed_eq (t : Fin cfg0.N) : (dats m 0 c).flushed 4 t = (win0_4.blk t).view.read (Elt Ideal) (resm m c) := by
  show (cfg0.win 4).cut (grid0.coords t) ((dats m 0 c).after 4 t) = _
  rw [after0_4, iblk_0, iblk_1, iblk_2, iblk_3, V_main_arg0, V_main_arg2, V_main_arg3, V_v21]
  rcases fin_N0 t with rfl
  have e : (win0_4.blk t0_0).view.read (Elt Ideal) (resm m c) = resm m c := by
    funext i
    refine congrArg (resm m c) (funext fun a => Fin.ext ?_)
    match a with
    | ⟨0, _⟩ => show 0 * 192 + 1 * (i 0).val = (i 0).val; omega
    | ⟨1, _⟩ => show 0 * 1408 + 1 * (i 1).val = (i 1).val; omega
  refine Eq.trans ?_ e.symm
  funext i
  have hi : i = ix2 (i 0) (i 1) := ValueIdx.eq_ix2 i
  have h := out_at (m ((c : Thread nD τ).loc main_arg0)) (m ((c : Thread nD τ).loc main_arg1)) (memv (m ((c : Thread nD τ).loc main_arg1))) (m ((c : Thread nD τ).loc main_arg2)) (m ((c : Thread nD τ).loc main_arg3))
    (memv_at _ hG) hx (i 0) (i 1)
  refine Eq.trans ?_ (h.trans ?_)
  · exact congrArg (out0_4 (m ((c : Thread nD τ).loc main_arg0)) (memv (m ((c : Thread nD τ).loc main_arg1))) (m ((c : Thread nD τ).loc main_arg2)) (m ((c : Thread nD τ).loc main_arg3))) hi
  · show _ = Vn _ _ _ _ (i 0).val (i 1)
    unfold Vn
    rw [dif_pos (show (i 0).val < 192 from (i 0).isLt)]
    rfl

theorem cover (i : S192x1408.Idx) : ∃ t : Fin cfg0.N, (cfg0.win 4).flush t = true ∧ i ∈ ((cfg0.win 4).blk t).view.set := by
  refine ⟨t0_0, flush0_4 _, ?_⟩
  show i ∈ ((View.whole main_v22).slice (win0_4.rect t0_0)).set
  rw [View.set_slice_whole, Rect.mem_set_unit]
  intro a
  match a with
  | ⟨0, _⟩ =>
    show 0 * 192 ≤ (i 0).val ∧ (i 0).val < 0 * 192 + 192
    have : (i 0).val < 192 := (i 0).isLt
    omega
  | ⟨1, _⟩ =>
    show 0 * 1408 ≤ (i 1).val ∧ (i 1).val < 0 * 1408 + 1408
    have : (i 1).val < 1408 := (i 1).isLt
    omega

include hG hx in
theorem final : (dats m 0 c).arrAt 4 cfg0.N = resm m c :=
  (dats m 0 c).arrAt_eq_of_cover 4 (resm m c) (fun t _ => flushed_eq m c hG hx t) cover

end

/-- The reference's run leaves the result, the four arrays as they were. -/
theorem run (m : (ℓ : Loc nD τ sig) → Buf (Elt Ideal) ℓ) (ρ : Dev nD → PrngReg)
    (hG : ∀ c : Dev nD, off (wd (m ((c : Thread nD τ).loc main_arg1) : S16.Idx → BitVec 32)) 16 ≤ 192)
    (hx : ∀ (c : Dev nD) (r), vrow (xrow (m ((c : Thread nD τ).loc main_arg0) : S192x3072.Idx → Elt Ideal .bf16) r) = ⊤ ∨ vrow (xrow (m ((c : Thread nD τ).loc main_arg0) : S192x3072.Idx → Elt Ideal .bf16) r) < ((P 126 : ℝ) : EReal)) :
    θ_run defs (onTc (τ := τ) (main (F := Ideal))) ⟨m, fun _ => 0, ρ⟩ fun r => ∀ c : Dev nD,
      r.2.mem ((c : Thread nD τ).loc main_v22) = resm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c (hG c) (hx c)),
      (((h c).1 0).trans ((dats m 0 c).arrAt_in 0 rfl _)).trans (V_main_arg0 m c),
      ((h c).2 main_arg1 (Pipeline.mem_restRefs_of main_arg1 (by decide) (by decide))).trans (V_main_arg1 m c),
      (((h c).1 2).trans ((dats m 0 c).arrAt_in 2 rfl _)).trans (V_main_arg2 m c),
      (((h c).1 3).trans ((dats m 0 c).arrAt_in 3 rfl _)).trans (V_main_arg3 m c)⟩)
    (run_main m ρ)

end Cert.ReferenceIdeal.Hand
-- ==== Proof.Value.lean ====
/-
  The kernel's result is the reference's, over the reals.
-/
module

public import proofs.«01_k».proof.Proof.Frames
public import proofs.«01_k».proof.Proof.RefRun
public import proofs.«01_k».proof.Proof.Gen.Pre_groups_fit_and_x_is_bf16

@[expose] public section

set_option maxHeartbeats 0
set_option maxRecDepth 16384

namespace Cert.Proof

open Idealize.ShloMosaic Idealize.ShloMosaic.TcCoe Idealize.SL.Sem
open Idealize.ShloMosaic.ValueIdx (ix1 ix2 ix3)

theorem fit_value (m : (ℓ : Loc Cert.KernelIdeal.nD Cert.KernelIdeal.τ Cert.KernelIdeal.sig) → Buf (Elt Ideal) ℓ)
    (h : Cert.Pre_KernelIdeal_groups_fit_and_x_is_bf16 m) (c) : KernelIdeal.Hand.off (KernelIdeal.Hand.wd (KernelIdeal.Gen.V m c KernelIdeal.main_arg1)) 16 ≤ 192 :=
  KernelIdeal.Hand.fits _ Pre_groups_fit.Gen.reducesTo_S16_S_d0 Pre_groups_fit.Gen.h_S_
    (fun i => congrFun (h c).1 i) (fun i => congrFun (h c).2.1 i) (congrFun (h c).2.2.1 _)

theorem frame_ideal_value : Cert.quiescent_KernelIdeal_pre_groups_fit_and_x_is_bf16 := fun m g h => KernelIdeal.Hand.frame_hand m g (fit_value m h)

/-- The greatest bf16 value. -/
theorem bf16_max : ∃ B : ℝ, Ideal.ofBits .f32 0x7F7F0000#32 = ((B : ℝ) : EReal) ∧ B ≤ (2 : ℝ) ^ 128 := by
  refine ⟨(2 ^ 23 + 8323072) * (2 : ℝ) ^ (104 : ℤ), (show _ = Ideal.ieee 8 23 0x7F7F0000#32 from rfl).trans ?_, by norm_num⟩
  unfold Ideal.ieee
  have a : (BitVec.extractLsb' 23 8 0x7F7F0000#32).toNat = 254 := by decide
  have b : (BitVec.extractLsb' 0 23 0x7F7F0000#32).toNat = 8323072 - 0 := by decide
  have c : (BitVec.extractLsb' (8 + 23) 1 0x7F7F0000#32) = 0#1 := by decide
  rw [a, b, c]
  norm_num

theorem top_bits : Ideal.ofBits .f32 0x7F800000#32 = ⊤ := by
  refine (show _ = Ideal.ieee 8 23 0x7F800000#32 from rfl).trans ?_
  unfold Ideal.ieee
  simp

theorem bounded (a : EReal) (h : IntOp.ori (Ideal.cmp .ole a (Ideal.ofBits .f32 0x7F7F0000#32)) (Ideal.cmp .oeq a (Ideal.ofBits .f32 0x7F800000#32)) = 1#1) :
    a ≤ Ideal.ofBits .f32 0x7F7F0000#32 ∨ a = ⊤ := by
  have ho : ∀ x y : BitVec 1, IntOp.ori x y = 1#1 → x = 1 ∨ y = 1 := by decide
  rw [← top_bits]
  rcases ho _ _ h with h | h
  · left
    unfold Ideal.cmp at h
    by_contra hc
    simp [hc] at h
  · right
    unfold Ideal.cmp at h
    by_contra hc
    simp [hc] at h

theorem rows_ok (m : (ℓ : Loc Cert.KernelIdeal.nD Cert.KernelIdeal.τ Cert.KernelIdeal.sig) → Buf (Elt Ideal) ℓ)
    (h : Cert.Pre_KernelIdeal_groups_fit_and_x_is_bf16 m) (c) (r : Fin 192) :
    Cert.Expo.vrow (KernelIdeal.Hand.xrow (KernelIdeal.Gen.V m c KernelIdeal.main_arg0) r) = ⊤
      ∨ Cert.Expo.vrow (KernelIdeal.Hand.xrow (KernelIdeal.Gen.V m c KernelIdeal.main_arg0) r) < ((Cert.Expo.P 126 : ℝ) : EReal) := by
  obtain ⟨B, eB, hB⟩ := bf16_max
  refine Cert.Expo.vrow_ok _ B hB fun k => ?_
  rw [← eB]
  exact bounded _ (congrFun (h c).2.2.2 (ix2 r k))

theorem same_result : Cert.algebraic_KernelIdeal_ReferenceIdeal_pre_groups_fit_and_x_is_bf16 := fun m g m' g' h ha => by
  refine ⟨fun c => Cert.ReferenceIdeal.Hand.res (KernelIdeal.Gen.V m c KernelIdeal.main_arg0) (KernelIdeal.Gen.V m c KernelIdeal.main_arg1) (KernelIdeal.Gen.V m c KernelIdeal.main_arg2) (KernelIdeal.Gen.V m c KernelIdeal.main_arg3), ?_, ?_⟩
  · refine (θ_run _ _ _).mono (fun r hr c => ⟨hr.2.1 c, hr.1 c⟩) (KernelIdeal.Hand.value_hand m g _ (fit_value m h)
      (fun c => KernelIdeal.Hand.Yp (KernelIdeal.Gen.V m c KernelIdeal.main_arg0) (KernelIdeal.Gen.V m c KernelIdeal.main_arg1) (KernelIdeal.Gen.V m c KernelIdeal.main_arg2) (KernelIdeal.Gen.V m c KernelIdeal.main_arg3)) (fun c f9 f10 => ?_))
    exact KernelIdeal.Hand.carries _ _ _ _ f9 f10 (fit_value m h c) _ (fun i => rfl)
  · refine (θ_run _ _ _).mono (fun r hr c => ⟨(hr c).1.trans ?_, (hr c).2⟩) (Cert.ReferenceIdeal.Hand.run m' g' (fun c => ?_) (fun c r => ?_))
    · rw [(ha c).2.1]
      exact fit_value m h c
    · rw [(ha c).1]
      exact rows_ok m h c r
    · unfold Cert.ReferenceIdeal.Hand.resm
      rw [(ha c).1, (ha c).2.1, (ha c).2.2.1, (ha c).2.2.2]

end Cert.Proof
-- ==== Proof.lean ====
/-
  The claims together, each from the module that proves it.
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_groups_fit
public import proofs.«01_k».proof.Proof.Gen.Pre_groups_fit_and_x_is_bf16

@[expose] public section

namespace Cert.Proof

theorem claim : Cert.Claim := ⟨Cert.Kernel.Gen.facts, Cert.KernelIdeal.Gen.facts, Cert.ReferenceIdeal.Gen.facts, Cert.Pre_groups_fit.Gen.facts, Cert.Pre_groups_fit_and_x_is_bf16.Gen.facts,
  frame_bits, frame_ideal, frame_ideal_value, fun m ρ _ => Cert.ReferenceIdeal.Gen.frame m ρ, fun m ρ _ => Cert.ReferenceIdeal.Gen.frame m ρ, trivial, same_result⟩

end Cert.Proof
